-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_MlaFwd (m : (ℓ : Loc Cert.MlaFwd.nD Cert.MlaFwd.τ Cert.MlaFwd.sig) → Buf (Elt Bits) ℓ) : Prop :=
  True

def Pre_MlaFwdIdeal (m : (ℓ : Loc Cert.MlaFwdIdeal.nD Cert.MlaFwdIdeal.τ Cert.MlaFwdIdeal.sig) → Buf (Elt Ideal) ℓ) : Prop :=
  True

def Pre_MlaFwdIdeal_finite_fwd [hPre_finite_fwd : Cert.Pre_finite_fwd.Facts] (m : (ℓ : Loc Cert.MlaFwdIdeal.nD Cert.MlaFwdIdeal.τ Cert.MlaFwdIdeal.sig) → Buf (Elt Ideal) ℓ) : Prop :=
  ∀ c : Dev Cert.MlaFwdIdeal.nD,
    (Cert.Pre_finite_fwd.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2))).1 = (fun _ => 1#1)
    ∧ (Cert.Pre_finite_fwd.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2))).2.1 = (fun _ => 1#1)
    ∧ (Cert.Pre_finite_fwd.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2))).2.2 = (fun _ => 1#1)

def Pre_MlaFwdRefIdeal (m : (ℓ : Loc Cert.MlaFwdRefIdeal.nD Cert.MlaFwdRefIdeal.τ Cert.MlaFwdRefIdeal.sig) → Buf (Elt Ideal) ℓ) : Prop :=
  True

def Pre_MlaFwdRefIdeal_finite_fwd [hPre_finite_fwd : Cert.Pre_finite_fwd.Facts] (m : (ℓ : Loc Cert.MlaFwdRefIdeal.nD Cert.MlaFwdRefIdeal.τ Cert.MlaFwdRefIdeal.sig) → Buf (Elt Ideal) ℓ) : Prop :=
  ∀ c : Dev Cert.MlaFwdRefIdeal.nD,
    (Cert.Pre_finite_fwd.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2))).1 = (fun _ => 1#1)
    ∧ (Cert.Pre_finite_fwd.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2))).2.1 = (fun _ => 1#1)
    ∧ (Cert.Pre_finite_fwd.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2))).2.2 = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DMixed (m : (ℓ : Loc Cert.DMixed.nD Cert.DMixed.τ Cert.DMixed.sig) → Buf (Elt Bits) ℓ) : Prop :=
  True

def Pre_DMixedIdeal (m : (ℓ : Loc Cert.DMixedIdeal.nD Cert.DMixedIdeal.τ Cert.DMixedIdeal.sig) → Buf (Elt Ideal) ℓ) : Prop :=
  True

def Pre_DMixedRefIdeal (m : (ℓ : Loc Cert.DMixedRefIdeal.nD Cert.DMixedRefIdeal.τ Cert.DMixedRefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_ProjF (m : (ℓ : Loc Cert.ProjF.nD Cert.ProjF.τ Cert.ProjF.sig) → Buf (Elt Bits) ℓ) : Prop :=
  True

def Pre_ProjFIdeal (m : (ℓ : Loc Cert.ProjFIdeal.nD Cert.ProjFIdeal.τ Cert.ProjFIdeal.sig) → Buf (Elt Ideal) ℓ) : Prop :=
  True

def Pre_ProjFRefIdeal (m : (ℓ : Loc Cert.ProjFRefIdeal.nD Cert.ProjFRefIdeal.τ Cert.ProjFRefIdeal.sig) → Buf (Elt Ideal) ℓ) : Prop :=
  True

def Pre_DwQ (m : (ℓ : Loc Cert.DwQ.nD Cert.DwQ.τ Cert.DwQ.sig) → Buf (Elt Bits) ℓ) : Prop :=
  True

def Pre_DwQIdeal (m : (ℓ : Loc Cert.DwQIdeal.nD Cert.DwQIdeal.τ Cert.DwQIdeal.sig) → Buf (Elt Ideal) ℓ) : Prop :=
  True

def Pre_DwQRefIdeal (m : (ℓ : Loc Cert.DwQRefIdeal.nD Cert.DwQRefIdeal.τ Cert.DwQRefIdeal.sig) → Buf (Elt Ideal) ℓ) : Prop :=
  True

def Pre_DwK (m : (ℓ : Loc Cert.DwK.nD Cert.DwK.τ Cert.DwK.sig) → Buf (Elt Bits) ℓ) : Prop :=
  True

def Pre_DwKIdeal (m : (ℓ : Loc Cert.DwKIdeal.nD Cert.DwKIdeal.τ Cert.DwKIdeal.sig) → Buf (Elt Ideal) ℓ) : Prop :=
  True

def Pre_DwKRefIdeal (m : (ℓ : Loc Cert.DwKRefIdeal.nD Cert.DwKRefIdeal.τ Cert.DwKRefIdeal.sig) → Buf (Elt Ideal) ℓ) : Prop :=
  True

def Pre_DwV (m : (ℓ : Loc Cert.DwV.nD Cert.DwV.τ Cert.DwV.sig) → Buf (Elt Bits) ℓ) : Prop :=
  True

def Pre_DwVIdeal (m : (ℓ : Loc Cert.DwVIdeal.nD Cert.DwVIdeal.τ Cert.DwVIdeal.sig) → Buf (Elt Ideal) ℓ) : Prop :=
  True

def Pre_DwVRefIdeal (m : (ℓ : Loc Cert.DwVRefIdeal.nD Cert.DwVRefIdeal.τ Cert.DwVRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_MlaPrep (m : (ℓ : Loc Cert.MlaPrep.nD Cert.MlaPrep.τ Cert.MlaPrep.sig) → Buf (Elt Bits) ℓ) : Prop :=
  True

def Pre_MlaPrepIdeal (m : (ℓ : Loc Cert.MlaPrepIdeal.nD Cert.MlaPrepIdeal.τ Cert.MlaPrepIdeal.sig) → Buf (Elt Ideal) ℓ) : Prop :=
  True

def Pre_MlaPrepRefIdeal (m : (ℓ : Loc Cert.MlaPrepRefIdeal.nD Cert.MlaPrepRefIdeal.τ Cert.MlaPrepRefIdeal.sig) → Buf (Elt Ideal) ℓ) : Prop :=
  True

def Pre_OutPost (m : (ℓ : Loc Cert.OutPost.nD Cert.OutPost.τ Cert.OutPost.sig) → Buf (Elt Bits) ℓ) : Prop :=
  True

def Pre_OutPostIdeal (m : (ℓ : Loc Cert.OutPostIdeal.nD Cert.OutPostIdeal.τ Cert.OutPostIdeal.sig) → Buf (Elt Ideal) ℓ) : Prop :=
  True

def Pre_OutPostRefIdeal (m : (ℓ : Loc Cert.OutPostRefIdeal.nD Cert.OutPostRefIdeal.τ Cert.OutPostRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamQ (m : (ℓ : Loc Cert.AdamQ.nD Cert.AdamQ.τ Cert.AdamQ.sig) → Buf (Elt Bits) ℓ) : Prop :=
  True

def Pre_AdamQIdeal (m : (ℓ : Loc Cert.AdamQIdeal.nD Cert.AdamQIdeal.τ Cert.AdamQIdeal.sig) → Buf (Elt Ideal) ℓ) : Prop :=
  True

def Pre_AdamQRefIdeal (m : (ℓ : Loc Cert.AdamQRefIdeal.nD Cert.AdamQRefIdeal.τ Cert.AdamQRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_MlaFwd [hMlaFwd : Cert.MlaFwd.Facts] : Prop :=
  ∀ (m : (ℓ : Loc Cert.MlaFwd.nD Cert.MlaFwd.τ Cert.MlaFwd.sig) → Buf (Elt Bits) ℓ) (g : Dev Cert.MlaFwd.nD → PrngReg), Pre_MlaFwd m →
    θ_run (Cert.MlaFwd.defs (F := Bits)) (onTc (τ := Cert.MlaFwd.τ) (Cert.MlaFwd.main (F := Bits))) ⟨m, fun _ => 0, g⟩ (fun r => (∀ c : Dev Cert.MlaFwd.nD,
      r.2.mem ((c.tc : Thread Cert.MlaFwd.nD Cert.MlaFwd.τ).loc Cert.MlaFwd.main_arg0) = m ((c.tc : Thread Cert.MlaFwd.nD Cert.MlaFwd.τ).loc Cert.MlaFwd.main_arg0)
      ∧ r.2.mem ((c.tc : Thread Cert.MlaFwd.nD Cert.MlaFwd.τ).loc Cert.MlaFwd.main_arg1) = m ((c.tc : Thread Cert.MlaFwd.nD Cert.MlaFwd.τ).loc Cert.MlaFwd.main_arg1)
      ∧ r.2.mem ((c.tc : Thread Cert.MlaFwd.nD Cert.MlaFwd.τ).loc Cert.MlaFwd.main_arg2) = m ((c.tc : Thread Cert.MlaFwd.nD Cert.MlaFwd.τ).loc Cert.MlaFwd.main_arg2))
      ∧ r.2.sem = fun _ => 0)

def quiescent_MlaFwdIdeal [hMlaFwdIdeal : Cert.MlaFwdIdeal.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ r.2.sem = fun _ => 0)

def quiescent_MlaFwdIdeal_pre_finite_fwd [hMlaFwdIdeal : Cert.MlaFwdIdeal.Facts] [hPre_finite_fwd : Cert.Pre_finite_fwd.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal_finite_fwd m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ r.2.sem = fun _ => 0)

def quiescent_MlaFwdRefIdeal [hMlaFwdRefIdeal : Cert.MlaFwdRefIdeal.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2))
      ∧ r.2.sem = fun _ => 0)

def quiescent_MlaFwdRefIdeal_pre_finite_fwd [hMlaFwdRefIdeal : Cert.MlaFwdRefIdeal.Facts] [hPre_finite_fwd : Cert.Pre_finite_fwd.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal_finite_fwd m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DMixed [hDMixed : Cert.DMixed.Facts] : Prop :=
  ∀ (m : (ℓ : Loc Cert.DMixed.nD Cert.DMixed.τ Cert.DMixed.sig) → Buf (Elt Bits) ℓ) (g : Dev Cert.DMixed.nD → PrngReg), Pre_DMixed m →
    θ_run (Cert.DMixed.defs (F := Bits)) (onTc (τ := Cert.DMixed.τ) (Cert.DMixed.main (F := Bits))) ⟨m, fun _ => 0, g⟩ (fun r => (∀ c : Dev Cert.DMixed.nD,
      r.2.mem ((c.tc : Thread Cert.DMixed.nD Cert.DMixed.τ).loc Cert.DMixed.main_arg0) = m ((c.tc : Thread Cert.DMixed.nD Cert.DMixed.τ).loc Cert.DMixed.main_arg0)
      ∧ r.2.mem ((c.tc : Thread Cert.DMixed.nD Cert.DMixed.τ).loc Cert.DMixed.main_arg1) = m ((c.tc : Thread Cert.DMixed.nD Cert.DMixed.τ).loc Cert.DMixed.main_arg1))
      ∧ r.2.sem = fun _ => 0)

def quiescent_DMixedIdeal [hDMixedIdeal : Cert.DMixedIdeal.Facts] : Prop :=
  ∀ (m : (ℓ : Loc Cert.DMixedIdeal.nD Cert.DMixedIdeal.τ Cert.DMixedIdeal.sig) → Buf (Elt Ideal) ℓ) (g : Dev Cert.DMixedIdeal.nD → PrngReg), Pre_DMixedIdeal m →
    θ_run (Cert.DMixedIdeal.defs (F := Ideal)) (onTc (τ := Cert.DMixedIdeal.τ) (Cert.DMixedIdeal.main (F := Ideal))) ⟨m, fun _ => 0, g⟩ (fun r => (∀ c : Dev Cert.DMixedIdeal.nD,
      r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
      ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ r.2.sem = fun _ => 0)

def quiescent_DMixedRefIdeal [hDMixedRefIdeal : Cert.DMixedRefIdeal.Facts] : Prop :=
  ∀ (m : (ℓ : Loc Cert.DMixedRefIdeal.nD Cert.DMixedRefIdeal.τ Cert.DMixedRefIdeal.sig) → Buf (Elt Ideal) ℓ) (g : Dev Cert.DMixedRefIdeal.nD → PrngReg), Pre_DMixedRefIdeal m →
    θ_run (Cert.DMixedRefIdeal.defs (F := Ideal)) (onTc (τ := Cert.DMixedRefIdeal.τ) (Cert.DMixedRefIdeal.main (F := Ideal))) ⟨m, fun _ => 0, g⟩ (fun r => (∀ c : Dev Cert.DMixedRefIdeal.nD,
      r.2.mem ((c.tc : Thread Cert.DMixedRefIdeal.nD Cert.DMixedRefIdeal.τ).loc Cert.DMixedRefIdeal.main_arg0) = m ((c.tc : Thread Cert.DMixedRefIdeal.nD Cert.DMixedRefIdeal.τ).loc Cert.DMixedRefIdeal.main_arg0)
      ∧ r.2.mem ((c.tc : Thread Cert.DMixedRefIdeal.nD Cert.DMixedRefIdeal.τ).loc Cert.DMixedRefIdeal.main_arg1) = m ((c.tc : Thread Cert.DMixedRefIdeal.nD Cert.DMixedRefIdeal.τ).loc Cert.DMixedRefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_ProjF [hProjF : Cert.ProjF.Facts] : Prop :=
  ∀ (m : (ℓ : Loc Cert.ProjF.nD Cert.ProjF.τ Cert.ProjF.sig) → Buf (Elt Bits) ℓ) (g : Dev Cert.ProjF.nD → PrngReg), Pre_ProjF m →
    θ_run (Cert.ProjF.defs (F := Bits)) (onTc (τ := Cert.ProjF.τ) (Cert.ProjF.main (F := Bits))) ⟨m, fun _ => 0, g⟩ (fun r => (∀ c : Dev Cert.ProjF.nD,
      r.2.mem ((c.tc : Thread Cert.ProjF.nD Cert.ProjF.τ).loc Cert.ProjF.main_arg0) = m ((c.tc : Thread Cert.ProjF.nD Cert.ProjF.τ).loc Cert.ProjF.main_arg0)
      ∧ r.2.mem ((c.tc : Thread Cert.ProjF.nD Cert.ProjF.τ).loc Cert.ProjF.main_arg1) = m ((c.tc : Thread Cert.ProjF.nD Cert.ProjF.τ).loc Cert.ProjF.main_arg1))
      ∧ r.2.sem = fun _ => 0)

def quiescent_ProjFIdeal [hProjFIdeal : Cert.ProjFIdeal.Facts] : Prop :=
  ∀ (m : (ℓ : Loc Cert.ProjFIdeal.nD Cert.ProjFIdeal.τ Cert.ProjFIdeal.sig) → Buf (Elt Ideal) ℓ) (g : Dev Cert.ProjFIdeal.nD → PrngReg), Pre_ProjFIdeal m →
    θ_run (Cert.ProjFIdeal.defs (F := Ideal)) (onTc (τ := Cert.ProjFIdeal.τ) (Cert.ProjFIdeal.main (F := Ideal))) ⟨m, fun _ => 0, g⟩ (fun r => (∀ c : Dev Cert.ProjFIdeal.nD,
      r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
      ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ r.2.sem = fun _ => 0)

def quiescent_ProjFRefIdeal [hProjFRefIdeal : Cert.ProjFRefIdeal.Facts] : Prop :=
  ∀ (m : (ℓ : Loc Cert.ProjFRefIdeal.nD Cert.ProjFRefIdeal.τ Cert.ProjFRefIdeal.sig) → Buf (Elt Ideal) ℓ) (g : Dev Cert.ProjFRefIdeal.nD → PrngReg), Pre_ProjFRefIdeal m →
    θ_run (Cert.ProjFRefIdeal.defs (F := Ideal)) (onTc (τ := Cert.ProjFRefIdeal.τ) (Cert.ProjFRefIdeal.main (F := Ideal))) ⟨m, fun _ => 0, g⟩ (fun r => (∀ c : Dev Cert.ProjFRefIdeal.nD,
      r.2.mem ((c.tc : Thread Cert.ProjFRefIdeal.nD Cert.ProjFRefIdeal.τ).loc Cert.ProjFRefIdeal.main_arg0) = m ((c.tc : Thread Cert.ProjFRefIdeal.nD Cert.ProjFRefIdeal.τ).loc Cert.ProjFRefIdeal.main_arg0)
      ∧ r.2.mem ((c.tc : Thread Cert.ProjFRefIdeal.nD Cert.ProjFRefIdeal.τ).loc Cert.ProjFRefIdeal.main_arg1) = m ((c.tc : Thread Cert.ProjFRefIdeal.nD Cert.ProjFRefIdeal.τ).loc Cert.ProjFRefIdeal.main_arg1))
      ∧ r.2.sem = fun _ => 0)

def quiescent_DwQ [hDwQ : Cert.DwQ.Facts] : Prop :=
  ∀ (m : (ℓ : Loc Cert.DwQ.nD Cert.DwQ.τ Cert.DwQ.sig) → Buf (Elt Bits) ℓ) (g : Dev Cert.DwQ.nD → PrngReg), Pre_DwQ m →
    θ_run (Cert.DwQ.defs (F := Bits)) (onTc (τ := Cert.DwQ.τ) (Cert.DwQ.main (F := Bits))) ⟨m, fun _ => 0, g⟩ (fun r => (∀ c : Dev Cert.DwQ.nD,
      r.2.mem ((c.tc : Thread Cert.DwQ.nD Cert.DwQ.τ).loc Cert.DwQ.main_arg0) = m ((c.tc : Thread Cert.DwQ.nD Cert.DwQ.τ).loc Cert.DwQ.main_arg0)
      ∧ r.2.mem ((c.tc : Thread Cert.DwQ.nD Cert.DwQ.τ).loc Cert.DwQ.main_arg1) = m ((c.tc : Thread Cert.DwQ.nD Cert.DwQ.τ).loc Cert.DwQ.main_arg1))
      ∧ r.2.sem = fun _ => 0)

def quiescent_DwQIdeal [hDwQIdeal : Cert.DwQIdeal.Facts] : Prop :=
  ∀ (m : (ℓ : Loc Cert.DwQIdeal.nD Cert.DwQIdeal.τ Cert.DwQIdeal.sig) → Buf (Elt Ideal) ℓ) (g : Dev Cert.DwQIdeal.nD → PrngReg), Pre_DwQIdeal m →
    θ_run (Cert.DwQIdeal.defs (F := Ideal)) (onTc (τ := Cert.DwQIdeal.τ) (Cert.DwQIdeal.main (F := Ideal))) ⟨m, fun _ => 0, g⟩ (fun r => (∀ c : Dev Cert.DwQIdeal.nD,
      r.2.mem ((c.tc : Thread Cert.DwQIdeal.nD Cert.DwQIdeal.τ).loc Cert.DwQIdeal.main_arg0) = m ((c.tc : Thread Cert.DwQIdeal.nD Cert.DwQIdeal.τ).loc Cert.DwQIdeal.main_arg0)
      ∧ r.2.mem ((c.tc : Thread Cert.DwQIdeal.nD Cert.DwQIdeal.τ).loc Cert.DwQIdeal.main_arg1) = m ((c.tc : Thread Cert.DwQIdeal.nD Cert.DwQIdeal.τ).loc Cert.DwQIdeal.main_arg1))
      ∧ r.2.sem = fun _ => 0)

def quiescent_DwQRefIdeal [hDwQRefIdeal : Cert.DwQRefIdeal.Facts] : Prop :=
  ∀ (m : (ℓ : Loc Cert.DwQRefIdeal.nD Cert.DwQRefIdeal.τ Cert.DwQRefIdeal.sig) → Buf (Elt Ideal) ℓ) (g : Dev Cert.DwQRefIdeal.nD → PrngReg), Pre_DwQRefIdeal m →
    θ_run (Cert.DwQRefIdeal.defs (F := Ideal)) (onTc (τ := Cert.DwQRefIdeal.τ) (Cert.DwQRefIdeal.main (F := Ideal))) ⟨m, fun _ => 0, g⟩ (fun r => (∀ c : Dev Cert.DwQRefIdeal.nD,
      r.2.mem ((c.tc : Thread Cert.DwQRefIdeal.nD Cert.DwQRefIdeal.τ).loc Cert.DwQRefIdeal.main_arg0) = m ((c.tc : Thread Cert.DwQRefIdeal.nD Cert.DwQRefIdeal.τ).loc Cert.DwQRefIdeal.main_arg0)
      ∧ r.2.mem ((c.tc : Thread Cert.DwQRefIdeal.nD Cert.DwQRefIdeal.τ).loc Cert.DwQRefIdeal.main_arg1) = m ((c.tc : Thread Cert.DwQRefIdeal.nD Cert.DwQRefIdeal.τ).loc Cert.DwQRefIdeal.main_arg1))
      ∧ r.2.sem = fun _ => 0)

def quiescent_DwK [hDwK : Cert.DwK.Facts] : Prop :=
  ∀ (m : (ℓ : Loc Cert.DwK.nD Cert.DwK.τ Cert.DwK.sig) → Buf (Elt Bits) ℓ) (g : Dev Cert.DwK.nD → PrngReg), Pre_DwK m →
    θ_run (Cert.DwK.defs (F := Bits)) (onTc (τ := Cert.DwK.τ) (Cert.DwK.main (F := Bits))) ⟨m, fun _ => 0, g⟩ (fun r => (∀ c : Dev Cert.DwK.nD,
      r.2.mem ((c.tc : Thread Cert.DwK.nD Cert.DwK.τ).loc Cert.DwK.main_arg0) = m ((c.tc : Thread Cert.DwK.nD Cert.DwK.τ).loc Cert.DwK.main_arg0)
      ∧ r.2.mem ((c.tc : Thread Cert.DwK.nD Cert.DwK.τ).loc Cert.DwK.main_arg1) = m ((c.tc : Thread Cert.DwK.nD Cert.DwK.τ).loc Cert.DwK.main_arg1))
      ∧ r.2.sem = fun _ => 0)

def quiescent_DwKIdeal [hDwKIdeal : Cert.DwKIdeal.Facts] : Prop :=
  ∀ (m : (ℓ : Loc Cert.DwKIdeal.nD Cert.DwKIdeal.τ Cert.DwKIdeal.sig) → Buf (Elt Ideal) ℓ) (g : Dev Cert.DwKIdeal.nD → PrngReg), Pre_DwKIdeal m →
    θ_run (Cert.DwKIdeal.defs (F := Ideal)) (onTc (τ := Cert.DwKIdeal.τ) (Cert.DwKIdeal.main (F := Ideal))) ⟨m, fun _ => 0, g⟩ (fun r => (∀ c : Dev Cert.DwKIdeal.nD,
      r.2.mem ((c.tc : Thread Cert.DwKIdeal.nD Cert.DwKIdeal.τ).loc Cert.DwKIdeal.main_arg0) = m ((c.tc : Thread Cert.DwKIdeal.nD Cert.DwKIdeal.τ).loc Cert.DwKIdeal.main_arg0)
      ∧ r.2.mem ((c.tc : Thread Cert.DwKIdeal.nD Cert.DwKIdeal.τ).loc Cert.DwKIdeal.main_arg1) = m ((c.tc : Thread Cert.DwKIdeal.nD Cert.DwKIdeal.τ).loc Cert.DwKIdeal.main_arg1))
      ∧ r.2.sem = fun _ => 0)

def quiescent_DwKRefIdeal [hDwKRefIdeal : Cert.DwKRefIdeal.Facts] : Prop :=
  ∀ (m : (ℓ : Loc Cert.DwKRefIdeal.nD Cert.DwKRefIdeal.τ Cert.DwKRefIdeal.sig) → Buf (Elt Ideal) ℓ) (g : Dev Cert.DwKRefIdeal.nD → PrngReg), Pre_DwKRefIdeal m →
    θ_run (Cert.DwKRefIdeal.defs (F := Ideal)) (onTc (τ := Cert.DwKRefIdeal.τ) (Cert.DwKRefIdeal.main (F := Ideal))) ⟨m, fun _ => 0, g⟩ (fun r => (∀ c : Dev Cert.DwKRefIdeal.nD,
      r.2.mem ((c.tc : Thread Cert.DwKRefIdeal.nD Cert.DwKRefIdeal.τ).loc Cert.DwKRefIdeal.main_arg0) = m ((c.tc : Thread Cert.DwKRefIdeal.nD Cert.DwKRefIdeal.τ).loc Cert.DwKRefIdeal.main_arg0)
      ∧ r.2.mem ((c.tc : Thread Cert.DwKRefIdeal.nD Cert.DwKRefIdeal.τ).loc Cert.DwKRefIdeal.main_arg1) = m ((c.tc : Thread Cert.DwKRefIdeal.nD Cert.DwKRefIdeal.τ).loc Cert.DwKRefIdeal.main_arg1))
      ∧ r.2.sem = fun _ => 0)

def quiescent_DwV [hDwV : Cert.DwV.Facts] : Prop :=
  ∀ (m : (ℓ : Loc Cert.DwV.nD Cert.DwV.τ Cert.DwV.sig) → Buf (Elt Bits) ℓ) (g : Dev Cert.DwV.nD → PrngReg), Pre_DwV m →
    θ_run (Cert.DwV.defs (F := Bits)) (onTc (τ := Cert.DwV.τ) (Cert.DwV.main (F := Bits))) ⟨m, fun _ => 0, g⟩ (fun r => (∀ c : Dev Cert.DwV.nD,
      r.2.mem ((c.tc : Thread Cert.DwV.nD Cert.DwV.τ).loc Cert.DwV.main_arg0) = m ((c.tc : Thread Cert.DwV.nD Cert.DwV.τ).loc Cert.DwV.main_arg0)
      ∧ r.2.mem ((c.tc : Thread Cert.DwV.nD Cert.DwV.τ).loc Cert.DwV.main_arg1) = m ((c.tc : Thread Cert.DwV.nD Cert.DwV.τ).loc Cert.DwV.main_arg1))
      ∧ r.2.sem = fun _ => 0)

def quiescent_DwVIdeal [hDwVIdeal : Cert.DwVIdeal.Facts] : Prop :=
  ∀ (m : (ℓ : Loc Cert.DwVIdeal.nD Cert.DwVIdeal.τ Cert.DwVIdeal.sig) → Buf (Elt Ideal) ℓ) (g : Dev Cert.DwVIdeal.nD → PrngReg), Pre_DwVIdeal m →
    θ_run (Cert.DwVIdeal.defs (F := Ideal)) (onTc (τ := Cert.DwVIdeal.τ) (Cert.DwVIdeal.main (F := Ideal))) ⟨m, fun _ => 0, g⟩ (fun r => (∀ c : Dev Cert.DwVIdeal.nD,
      r.2.mem ((c.tc : Thread Cert.DwVIdeal.nD Cert.DwVIdeal.τ).loc Cert.DwVIdeal.main_arg0) = m ((c.tc : Thread Cert.DwVIdeal.nD Cert.DwVIdeal.τ).loc Cert.DwVIdeal.main_arg0)
      ∧ r.2.mem ((c.tc : Thread Cert.DwVIdeal.nD Cert.DwVIdeal.τ).loc Cert.DwVIdeal.main_arg1) = m ((c.tc : Thread Cert.DwVIdeal.nD Cert.DwVIdeal.τ).loc Cert.DwVIdeal.main_arg1))
      ∧ r.2.sem = fun _ => 0)

def quiescent_DwVRefIdeal [hDwVRefIdeal : Cert.DwVRefIdeal.Facts] : Prop :=
  ∀ (m : (ℓ : Loc Cert.DwVRefIdeal.nD Cert.DwVRefIdeal.τ Cert.DwVRefIdeal.sig) → Buf (Elt Ideal) ℓ) (g : Dev Cert.DwVRefIdeal.nD → PrngReg), Pre_DwVRefIdeal m →
    θ_run (Cert.DwVRefIdeal.defs (F := Ideal)) (onTc (τ := Cert.DwVRefIdeal.τ) (Cert.DwVRefIdeal.main (F := Ideal))) ⟨m, fun _ => 0, g⟩ (fun r => (∀ c : Dev Cert.DwVRefIdeal.nD,
      r.2.mem ((c.tc : Thread Cert.DwVRefIdeal.nD Cert.DwVRefIdeal.τ).loc Cert.DwVRefIdeal.main_arg0) = m ((c.tc : Thread Cert.DwVRefIdeal.nD Cert.DwVRefIdeal.τ).loc Cert.DwVRefIdeal.main_arg0)
      ∧ r.2.mem ((c.tc : Thread Cert.DwVRefIdeal.nD Cert.DwVRefIdeal.τ).loc Cert.DwVRefIdeal.main_arg1) = m ((c.tc : Thread Cert.DwVRefIdeal.nD Cert.DwVRefIdeal.τ).loc Cert.DwVRefIdeal.main_arg1))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1))
      ∧ r.2.sem = fun _ => 0)

def quiescent_MlaPrep [hMlaPrep : Cert.MlaPrep.Facts] : Prop :=
  ∀ (m : (ℓ : Loc Cert.MlaPrep.nD Cert.MlaPrep.τ Cert.MlaPrep.sig) → Buf (Elt Bits) ℓ) (g : Dev Cert.MlaPrep.nD → PrngReg), Pre_MlaPrep m →
    θ_run (Cert.MlaPrep.defs (F := Bits)) (onTc (τ := Cert.MlaPrep.τ) (Cert.MlaPrep.main (F := Bits))) ⟨m, fun _ => 0, g⟩ (fun r => (∀ c : Dev Cert.MlaPrep.nD,
      r.2.mem ((c.tc : Thread Cert.MlaPrep.nD Cert.MlaPrep.τ).loc Cert.MlaPrep.main_arg0) = m ((c.tc : Thread Cert.MlaPrep.nD Cert.MlaPrep.τ).loc Cert.MlaPrep.main_arg0)
      ∧ r.2.mem ((c.tc : Thread Cert.MlaPrep.nD Cert.MlaPrep.τ).loc Cert.MlaPrep.main_arg1) = m ((c.tc : Thread Cert.MlaPrep.nD Cert.MlaPrep.τ).loc Cert.MlaPrep.main_arg1)
      ∧ r.2.mem ((c.tc : Thread Cert.MlaPrep.nD Cert.MlaPrep.τ).loc Cert.MlaPrep.main_arg2) = m ((c.tc : Thread Cert.MlaPrep.nD Cert.MlaPrep.τ).loc Cert.MlaPrep.main_arg2)
      ∧ r.2.mem ((c.tc : Thread Cert.MlaPrep.nD Cert.MlaPrep.τ).loc Cert.MlaPrep.main_arg3) = m ((c.tc : Thread Cert.MlaPrep.nD Cert.MlaPrep.τ).loc Cert.MlaPrep.main_arg3)
      ∧ r.2.mem ((c.tc : Thread Cert.MlaPrep.nD Cert.MlaPrep.τ).loc Cert.MlaPrep.main_arg4) = m ((c.tc : Thread Cert.MlaPrep.nD Cert.MlaPrep.τ).loc Cert.MlaPrep.main_arg4)
      ∧ r.2.mem ((c.tc : Thread Cert.MlaPrep.nD Cert.MlaPrep.τ).loc Cert.MlaPrep.main_arg5) = m ((c.tc : Thread Cert.MlaPrep.nD Cert.MlaPrep.τ).loc Cert.MlaPrep.main_arg5)
      ∧ r.2.mem ((c.tc : Thread Cert.MlaPrep.nD Cert.MlaPrep.τ).loc Cert.MlaPrep.main_arg6) = m ((c.tc : Thread Cert.MlaPrep.nD Cert.MlaPrep.τ).loc Cert.MlaPrep.main_arg6)
      ∧ r.2.mem ((c.tc : Thread Cert.MlaPrep.nD Cert.MlaPrep.τ).loc Cert.MlaPrep.main_arg7) = m ((c.tc : Thread Cert.MlaPrep.nD Cert.MlaPrep.τ).loc Cert.MlaPrep.main_arg7))
      ∧ r.2.sem = fun _ => 0)

def quiescent_MlaPrepIdeal [hMlaPrepIdeal : Cert.MlaPrepIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
      ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
      ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6)
      ∧ r.2.mem ((c.tc : Thread Cert.MlaPrepIdeal.nD Cert.MlaPrepIdeal.τ).loc Cert.MlaPrepIdeal.main_arg7) = m ((c.tc : Thread Cert.MlaPrepIdeal.nD Cert.MlaPrepIdeal.τ).loc Cert.MlaPrepIdeal.main_arg7))
      ∧ r.2.sem = fun _ => 0)

def quiescent_MlaPrepRefIdeal [hMlaPrepRefIdeal : Cert.MlaPrepRefIdeal.Facts] : Prop :=
  ∀ (m : (ℓ : Loc Cert.MlaPrepRefIdeal.nD Cert.MlaPrepRefIdeal.τ Cert.MlaPrepRefIdeal.sig) → Buf (Elt Ideal) ℓ) (g : Dev Cert.MlaPrepRefIdeal.nD → PrngReg), Pre_MlaPrepRefIdeal m →
    θ_run (Cert.MlaPrepRefIdeal.defs (F := Ideal)) (onTc (τ := Cert.MlaPrepRefIdeal.τ) (Cert.MlaPrepRefIdeal.main (F := Ideal))) ⟨m, fun _ => 0, g⟩ (fun r => (∀ c : Dev Cert.MlaPrepRefIdeal.nD,
      r.2.mem ((c.tc : Thread Cert.MlaPrepRefIdeal.nD Cert.MlaPrepRefIdeal.τ).loc Cert.MlaPrepRefIdeal.main_arg0) = m ((c.tc : Thread Cert.MlaPrepRefIdeal.nD Cert.MlaPrepRefIdeal.τ).loc Cert.MlaPrepRefIdeal.main_arg0)
      ∧ r.2.mem ((c.tc : Thread Cert.MlaPrepRefIdeal.nD Cert.MlaPrepRefIdeal.τ).loc Cert.MlaPrepRefIdeal.main_arg1) = m ((c.tc : Thread Cert.MlaPrepRefIdeal.nD Cert.MlaPrepRefIdeal.τ).loc Cert.MlaPrepRefIdeal.main_arg1)
      ∧ r.2.mem ((c.tc : Thread Cert.MlaPrepRefIdeal.nD Cert.MlaPrepRefIdeal.τ).loc Cert.MlaPrepRefIdeal.main_arg2) = m ((c.tc : Thread Cert.MlaPrepRefIdeal.nD Cert.MlaPrepRefIdeal.τ).loc Cert.MlaPrepRefIdeal.main_arg2)
      ∧ r.2.mem ((c.tc : Thread Cert.MlaPrepRefIdeal.nD Cert.MlaPrepRefIdeal.τ).loc Cert.MlaPrepRefIdeal.main_arg3) = m ((c.tc : Thread Cert.MlaPrepRefIdeal.nD Cert.MlaPrepRefIdeal.τ).loc Cert.MlaPrepRefIdeal.main_arg3)
      ∧ r.2.mem ((c.tc : Thread Cert.MlaPrepRefIdeal.nD Cert.MlaPrepRefIdeal.τ).loc Cert.MlaPrepRefIdeal.main_arg4) = m ((c.tc : Thread Cert.MlaPrepRefIdeal.nD Cert.MlaPrepRefIdeal.τ).loc Cert.MlaPrepRefIdeal.main_arg4)
      ∧ r.2.mem ((c.tc : Thread Cert.MlaPrepRefIdeal.nD Cert.MlaPrepRefIdeal.τ).loc Cert.MlaPrepRefIdeal.main_arg5) = m ((c.tc : Thread Cert.MlaPrepRefIdeal.nD Cert.MlaPrepRefIdeal.τ).loc Cert.MlaPrepRefIdeal.main_arg5)
      ∧ r.2.mem ((c.tc : Thread Cert.MlaPrepRefIdeal.nD Cert.MlaPrepRefIdeal.τ).loc Cert.MlaPrepRefIdeal.main_arg6) = m ((c.tc : Thread Cert.MlaPrepRefIdeal.nD Cert.MlaPrepRefIdeal.τ).loc Cert.MlaPrepRefIdeal.main_arg6)
      ∧ r.2.mem ((c.tc : Thread Cert.MlaPrepRefIdeal.nD Cert.MlaPrepRefIdeal.τ).loc Cert.MlaPrepRefIdeal.main_arg7) = m ((c.tc : Thread Cert.MlaPrepRefIdeal.nD Cert.MlaPrepRefIdeal.τ).loc Cert.MlaPrepRefIdeal.main_arg7))
      ∧ r.2.sem = fun _ => 0)

def quiescent_OutPost [hOutPost : Cert.OutPost.Facts] : Prop :=
  ∀ (m : (ℓ : Loc Cert.OutPost.nD Cert.OutPost.τ Cert.OutPost.sig) → Buf (Elt Bits) ℓ) (g : Dev Cert.OutPost.nD → PrngReg), Pre_OutPost m →
    θ_run (Cert.OutPost.defs (F := Bits)) (onTc (τ := Cert.OutPost.τ) (Cert.OutPost.main (F := Bits))) ⟨m, fun _ => 0, g⟩ (fun r => (∀ c : Dev Cert.OutPost.nD,
      r.2.mem ((c.tc : Thread Cert.OutPost.nD Cert.OutPost.τ).loc Cert.OutPost.main_arg0) = m ((c.tc : Thread Cert.OutPost.nD Cert.OutPost.τ).loc Cert.OutPost.main_arg0)
      ∧ r.2.mem ((c.tc : Thread Cert.OutPost.nD Cert.OutPost.τ).loc Cert.OutPost.main_arg1) = m ((c.tc : Thread Cert.OutPost.nD Cert.OutPost.τ).loc Cert.OutPost.main_arg1)
      ∧ r.2.mem ((c.tc : Thread Cert.OutPost.nD Cert.OutPost.τ).loc Cert.OutPost.main_arg2) = m ((c.tc : Thread Cert.OutPost.nD Cert.OutPost.τ).loc Cert.OutPost.main_arg2)
      ∧ r.2.mem ((c.tc : Thread Cert.OutPost.nD Cert.OutPost.τ).loc Cert.OutPost.main_arg3) = m ((c.tc : Thread Cert.OutPost.nD Cert.OutPost.τ).loc Cert.OutPost.main_arg3)
      ∧ r.2.mem ((c.tc : Thread Cert.OutPost.nD Cert.OutPost.τ).loc Cert.OutPost.main_arg4) = m ((c.tc : Thread Cert.OutPost.nD Cert.OutPost.τ).loc Cert.OutPost.main_arg4)
      ∧ r.2.mem ((c.tc : Thread Cert.OutPost.nD Cert.OutPost.τ).loc Cert.OutPost.main_arg5) = m ((c.tc : Thread Cert.OutPost.nD Cert.OutPost.τ).loc Cert.OutPost.main_arg5)
      ∧ r.2.mem ((c.tc : Thread Cert.OutPost.nD Cert.OutPost.τ).loc Cert.OutPost.main_arg6) = m ((c.tc : Thread Cert.OutPost.nD Cert.OutPost.τ).loc Cert.OutPost.main_arg6))
      ∧ r.2.sem = fun _ => 0)

def quiescent_OutPostIdeal [hOutPostIdeal : Cert.OutPostIdeal.Facts] : Prop :=
  ∀ (m : (ℓ : Loc Cert.OutPostIdeal.nD Cert.OutPostIdeal.τ Cert.OutPostIdeal.sig) → Buf (Elt Ideal) ℓ) (g : Dev Cert.OutPostIdeal.nD → PrngReg), Pre_OutPostIdeal m →
    θ_run (Cert.OutPostIdeal.defs (F := Ideal)) (onTc (τ := Cert.OutPostIdeal.τ) (Cert.OutPostIdeal.main (F := Ideal))) ⟨m, fun _ => 0, g⟩ (fun r => (∀ c : Dev Cert.OutPostIdeal.nD,
      r.2.mem ((c.tc : Thread Cert.OutPostIdeal.nD Cert.OutPostIdeal.τ).loc Cert.OutPostIdeal.main_arg0) = m ((c.tc : Thread Cert.OutPostIdeal.nD Cert.OutPostIdeal.τ).loc Cert.OutPostIdeal.main_arg0)
      ∧ r.2.mem ((c.tc : Thread Cert.OutPostIdeal.nD Cert.OutPostIdeal.τ).loc Cert.OutPostIdeal.main_arg1) = m ((c.tc : Thread Cert.OutPostIdeal.nD Cert.OutPostIdeal.τ).loc Cert.OutPostIdeal.main_arg1)
      ∧ r.2.mem ((c.tc : Thread Cert.OutPostIdeal.nD Cert.OutPostIdeal.τ).loc Cert.OutPostIdeal.main_arg2) = m ((c.tc : Thread Cert.OutPostIdeal.nD Cert.OutPostIdeal.τ).loc Cert.OutPostIdeal.main_arg2)
      ∧ r.2.mem ((c.tc : Thread Cert.OutPostIdeal.nD Cert.OutPostIdeal.τ).loc Cert.OutPostIdeal.main_arg3) = m ((c.tc : Thread Cert.OutPostIdeal.nD Cert.OutPostIdeal.τ).loc Cert.OutPostIdeal.main_arg3)
      ∧ r.2.mem ((c.tc : Thread Cert.OutPostIdeal.nD Cert.OutPostIdeal.τ).loc Cert.OutPostIdeal.main_arg4) = m ((c.tc : Thread Cert.OutPostIdeal.nD Cert.OutPostIdeal.τ).loc Cert.OutPostIdeal.main_arg4)
      ∧ r.2.mem ((c.tc : Thread Cert.OutPostIdeal.nD Cert.OutPostIdeal.τ).loc Cert.OutPostIdeal.main_arg5) = m ((c.tc : Thread Cert.OutPostIdeal.nD Cert.OutPostIdeal.τ).loc Cert.OutPostIdeal.main_arg5)
      ∧ r.2.mem ((c.tc : Thread Cert.OutPostIdeal.nD Cert.OutPostIdeal.τ).loc Cert.OutPostIdeal.main_arg6) = m ((c.tc : Thread Cert.OutPostIdeal.nD Cert.OutPostIdeal.τ).loc Cert.OutPostIdeal.main_arg6))
      ∧ r.2.sem = fun _ => 0)

def quiescent_OutPostRefIdeal [hOutPostRefIdeal : Cert.OutPostRefIdeal.Facts] : Prop :=
  ∀ (m : (ℓ : Loc Cert.OutPostRefIdeal.nD Cert.OutPostRefIdeal.τ Cert.OutPostRefIdeal.sig) → Buf (Elt Ideal) ℓ) (g : Dev Cert.OutPostRefIdeal.nD → PrngReg), Pre_OutPostRefIdeal m →
    θ_run (Cert.OutPostRefIdeal.defs (F := Ideal)) (onTc (τ := Cert.OutPostRefIdeal.τ) (Cert.OutPostRefIdeal.main (F := Ideal))) ⟨m, fun _ => 0, g⟩ (fun r => (∀ c : Dev Cert.OutPostRefIdeal.nD,
      r.2.mem ((c.tc : Thread Cert.OutPostRefIdeal.nD Cert.OutPostRefIdeal.τ).loc Cert.OutPostRefIdeal.main_arg0) = m ((c.tc : Thread Cert.OutPostRefIdeal.nD Cert.OutPostRefIdeal.τ).loc Cert.OutPostRefIdeal.main_arg0)
      ∧ r.2.mem ((c.tc : Thread Cert.OutPostRefIdeal.nD Cert.OutPostRefIdeal.τ).loc Cert.OutPostRefIdeal.main_arg1) = m ((c.tc : Thread Cert.OutPostRefIdeal.nD Cert.OutPostRefIdeal.τ).loc Cert.OutPostRefIdeal.main_arg1)
      ∧ r.2.mem ((c.tc : Thread Cert.OutPostRefIdeal.nD Cert.OutPostRefIdeal.τ).loc Cert.OutPostRefIdeal.main_arg2) = m ((c.tc : Thread Cert.OutPostRefIdeal.nD Cert.OutPostRefIdeal.τ).loc Cert.OutPostRefIdeal.main_arg2)
      ∧ r.2.mem ((c.tc : Thread Cert.OutPostRefIdeal.nD Cert.OutPostRefIdeal.τ).loc Cert.OutPostRefIdeal.main_arg3) = m ((c.tc : Thread Cert.OutPostRefIdeal.nD Cert.OutPostRefIdeal.τ).loc Cert.OutPostRefIdeal.main_arg3)
      ∧ r.2.mem ((c.tc : Thread Cert.OutPostRefIdeal.nD Cert.OutPostRefIdeal.τ).loc Cert.OutPostRefIdeal.main_arg4) = m ((c.tc : Thread Cert.OutPostRefIdeal.nD Cert.OutPostRefIdeal.τ).loc Cert.OutPostRefIdeal.main_arg4)
      ∧ r.2.mem ((c.tc : Thread Cert.OutPostRefIdeal.nD Cert.OutPostRefIdeal.τ).loc Cert.OutPostRefIdeal.main_arg5) = m ((c.tc : Thread Cert.OutPostRefIdeal.nD Cert.OutPostRefIdeal.τ).loc Cert.OutPostRefIdeal.main_arg5)
      ∧ r.2.mem ((c.tc : Thread Cert.OutPostRefIdeal.nD Cert.OutPostRefIdeal.τ).loc Cert.OutPostRefIdeal.main_arg6) = m ((c.tc : Thread Cert.OutPostRefIdeal.nD Cert.OutPostRefIdeal.τ).loc Cert.OutPostRefIdeal.main_arg6))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamQ [hAdamQ : Cert.AdamQ.Facts] : Prop :=
  ∀ (m : (ℓ : Loc Cert.AdamQ.nD Cert.AdamQ.τ Cert.AdamQ.sig) → Buf (Elt Bits) ℓ) (g : Dev Cert.AdamQ.nD → PrngReg), Pre_AdamQ m →
    θ_run (Cert.AdamQ.defs (F := Bits)) (onTc (τ := Cert.AdamQ.τ) (Cert.AdamQ.main (F := Bits))) ⟨m, fun _ => 0, g⟩ (fun r => (∀ c : Dev Cert.AdamQ.nD,
      r.2.mem ((c.tc : Thread Cert.AdamQ.nD Cert.AdamQ.τ).loc Cert.AdamQ.main_arg0) = m ((c.tc : Thread Cert.AdamQ.nD Cert.AdamQ.τ).loc Cert.AdamQ.main_arg0)
      ∧ r.2.mem ((c.tc : Thread Cert.AdamQ.nD Cert.AdamQ.τ).loc Cert.AdamQ.main_arg1) = m ((c.tc : Thread Cert.AdamQ.nD Cert.AdamQ.τ).loc Cert.AdamQ.main_arg1)
      ∧ r.2.mem ((c.tc : Thread Cert.AdamQ.nD Cert.AdamQ.τ).loc Cert.AdamQ.main_arg2) = m ((c.tc : Thread Cert.AdamQ.nD Cert.AdamQ.τ).loc Cert.AdamQ.main_arg2)
      ∧ r.2.mem ((c.tc : Thread Cert.AdamQ.nD Cert.AdamQ.τ).loc Cert.AdamQ.main_arg3) = m ((c.tc : Thread Cert.AdamQ.nD Cert.AdamQ.τ).loc Cert.AdamQ.main_arg3))
      ∧ r.2.sem = fun _ => 0)

def quiescent_AdamQIdeal [hAdamQIdeal : Cert.AdamQIdeal.Facts] : Prop :=
  ∀ (m : (ℓ : Loc Cert.AdamQIdeal.nD Cert.AdamQIdeal.τ Cert.AdamQIdeal.sig) → Buf (Elt Ideal) ℓ) (g : Dev Cert.AdamQIdeal.nD → PrngReg), Pre_AdamQIdeal m →
    θ_run (Cert.AdamQIdeal.defs (F := Ideal)) (onTc (τ := Cert.AdamQIdeal.τ) (Cert.AdamQIdeal.main (F := Ideal))) ⟨m, fun _ => 0, g⟩ (fun r => (∀ c : Dev Cert.AdamQIdeal.nD,
      r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
      ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
      ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
      ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ r.2.sem = fun _ => 0)

def quiescent_AdamQRefIdeal [hAdamQRefIdeal : Cert.AdamQRefIdeal.Facts] : Prop :=
  ∀ (m : (ℓ : Loc Cert.AdamQRefIdeal.nD Cert.AdamQRefIdeal.τ Cert.AdamQRefIdeal.sig) → Buf (Elt Ideal) ℓ) (g : Dev Cert.AdamQRefIdeal.nD → PrngReg), Pre_AdamQRefIdeal m →
    θ_run (Cert.AdamQRefIdeal.defs (F := Ideal)) (onTc (τ := Cert.AdamQRefIdeal.τ) (Cert.AdamQRefIdeal.main (F := Ideal))) ⟨m, fun _ => 0, g⟩ (fun r => (∀ c : Dev Cert.AdamQRefIdeal.nD,
      r.2.mem ((c.tc : Thread Cert.AdamQRefIdeal.nD Cert.AdamQRefIdeal.τ).loc Cert.AdamQRefIdeal.main_arg0) = m ((c.tc : Thread Cert.AdamQRefIdeal.nD Cert.AdamQRefIdeal.τ).loc Cert.AdamQRefIdeal.main_arg0)
      ∧ r.2.mem ((c.tc : Thread Cert.AdamQRefIdeal.nD Cert.AdamQRefIdeal.τ).loc Cert.AdamQRefIdeal.main_arg1) = m ((c.tc : Thread Cert.AdamQRefIdeal.nD Cert.AdamQRefIdeal.τ).loc Cert.AdamQRefIdeal.main_arg1)
      ∧ r.2.mem ((c.tc : Thread Cert.AdamQRefIdeal.nD Cert.AdamQRefIdeal.τ).loc Cert.AdamQRefIdeal.main_arg2) = m ((c.tc : Thread Cert.AdamQRefIdeal.nD Cert.AdamQRefIdeal.τ).loc Cert.AdamQRefIdeal.main_arg2)
      ∧ r.2.mem ((c.tc : Thread Cert.AdamQRefIdeal.nD Cert.AdamQRefIdeal.τ).loc Cert.AdamQRefIdeal.main_arg3) = m ((c.tc : Thread Cert.AdamQRefIdeal.nD Cert.AdamQRefIdeal.τ).loc Cert.AdamQRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)) (v3 : (c : Dev Cert.KernelIdeal.nD) → Buf (Elt Ideal) ((c.tc : Thread Cert.KernelIdeal.nD Cert.KernelIdeal.τ).loc Cert.KernelIdeal.main_v38_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_v38_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_MlaFwd_MlaFwdIdeal : Prop :=
  IdealRules.named_const.Statement Cert.MlaFwdIdeal.κ "mask" .f32 0xF149F2CA#32 ⊥

def algebraic_MlaFwdIdeal_MlaFwdRefIdeal_pre_finite_fwd [hMlaFwdIdeal : Cert.MlaFwdIdeal.Facts] [hMlaFwdRefIdeal : Cert.MlaFwdRefIdeal.Facts] [hPre_finite_fwd : Cert.Pre_finite_fwd.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg)
    (m' : (ℓ : Loc Cert.MlaFwdRefIdeal.nD Cert.MlaFwdRefIdeal.τ Cert.MlaFwdRefIdeal.sig) → Buf (Elt Ideal) ℓ) (g' : Dev Cert.MlaFwdRefIdeal.nD → PrngReg), Pre_MlaFwdIdeal_finite_fwd m →
    (∀ c : Dev Cert.MlaFwdIdeal.nD,
      m' ((c.tc : Thread Cert.MlaFwdRefIdeal.nD Cert.MlaFwdRefIdeal.τ).loc Cert.MlaFwdRefIdeal.main_arg0) = m ((c.tc : Thread Cert.MlaFwdIdeal.nD Cert.MlaFwdIdeal.τ).loc Cert.MlaFwdIdeal.main_arg0)
      ∧ m' ((c.tc : Thread Cert.MlaFwdRefIdeal.nD Cert.MlaFwdRefIdeal.τ).loc Cert.MlaFwdRefIdeal.main_arg1) = m ((c.tc : Thread Cert.MlaFwdIdeal.nD Cert.MlaFwdIdeal.τ).loc Cert.MlaFwdIdeal.main_arg1)
      ∧ m' ((c.tc : Thread Cert.MlaFwdRefIdeal.nD Cert.MlaFwdRefIdeal.τ).loc Cert.MlaFwdRefIdeal.main_arg2) = m ((c.tc : Thread Cert.MlaFwdIdeal.nD Cert.MlaFwdIdeal.τ).loc Cert.MlaFwdIdeal.main_arg2)) →
    ∃ (v0 : (c : Dev Cert.MlaFwdIdeal.nD) → Buf (Elt Ideal) ((c.tc : Thread Cert.MlaFwdIdeal.nD Cert.MlaFwdIdeal.τ).loc Cert.MlaFwdIdeal.main_v8_0)) (v1 : (c : Dev Cert.MlaFwdIdeal.nD) → Buf (Elt Ideal) ((c.tc : Thread Cert.MlaFwdIdeal.nD Cert.MlaFwdIdeal.τ).loc Cert.MlaFwdIdeal.main_v8_1)),
      θ_run (Cert.MlaFwdIdeal.defs (F := Ideal)) (onTc (τ := Cert.MlaFwdIdeal.τ) (Cert.MlaFwdIdeal.main (F := Ideal))) ⟨m, fun _ => 0, g⟩ (fun r => ∀ c : Dev Cert.MlaFwdIdeal.nD,
          r.2.mem ((c.tc : Thread Cert.MlaFwdIdeal.nD Cert.MlaFwdIdeal.τ).loc Cert.MlaFwdIdeal.main_v8_0) = v0 c
          ∧ r.2.mem ((c.tc : Thread Cert.MlaFwdIdeal.nD Cert.MlaFwdIdeal.τ).loc Cert.MlaFwdIdeal.main_v8_1) = v1 c
          ∧ r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
          ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
          ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ θ_run (Cert.MlaFwdRefIdeal.defs (F := Ideal)) (onTc (τ := Cert.MlaFwdRefIdeal.τ) (Cert.MlaFwdRefIdeal.main (F := Ideal))) ⟨m', fun _ => 0, g'⟩ (fun r => ∀ c : Dev Cert.MlaFwdRefIdeal.nD,
          r.2.mem ((c.tc : Thread Cert.MlaFwdRefIdeal.nD Cert.MlaFwdRefIdeal.τ).loc Cert.MlaFwdRefIdeal.main_v28) = v0 c
          ∧ r.2.mem ((c.tc : Thread Cert.MlaFwdRefIdeal.nD Cert.MlaFwdRefIdeal.τ).loc Cert.MlaFwdRefIdeal.main_v31) = v1 c
          ∧ r.2.mem ((c.tc : Thread Cert.MlaFwdRefIdeal.nD Cert.MlaFwdRefIdeal.τ).loc Cert.MlaFwdRefIdeal.main_arg0) = m' ((c.tc : Thread Cert.MlaFwdRefIdeal.nD Cert.MlaFwdRefIdeal.τ).loc Cert.MlaFwdRefIdeal.main_arg0)
          ∧ r.2.mem ((c.tc : Thread Cert.MlaFwdRefIdeal.nD Cert.MlaFwdRefIdeal.τ).loc Cert.MlaFwdRefIdeal.main_arg1) = m' ((c.tc : Thread Cert.MlaFwdRefIdeal.nD Cert.MlaFwdRefIdeal.τ).loc Cert.MlaFwdRefIdeal.main_arg1)
          ∧ r.2.mem ((c.tc : Thread Cert.MlaFwdRefIdeal.nD Cert.MlaFwdRefIdeal.τ).loc Cert.MlaFwdRefIdeal.main_arg2) = m' ((c.tc : Thread Cert.MlaFwdRefIdeal.nD Cert.MlaFwdRefIdeal.τ).loc Cert.MlaFwdRefIdeal.main_arg2))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v9)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v9) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v14) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DMixed_DMixedIdeal : Prop :=
  True

def algebraic_DMixedIdeal_DMixedRefIdeal [hDMixedIdeal : Cert.DMixedIdeal.Facts] [hDMixedRefIdeal : Cert.DMixedRefIdeal.Facts] : Prop :=
  ∀ (m : (ℓ : Loc Cert.DMixedIdeal.nD Cert.DMixedIdeal.τ Cert.DMixedIdeal.sig) → Buf (Elt Ideal) ℓ) (g : Dev Cert.DMixedIdeal.nD → PrngReg)
    (m' : (ℓ : Loc Cert.DMixedRefIdeal.nD Cert.DMixedRefIdeal.τ Cert.DMixedRefIdeal.sig) → Buf (Elt Ideal) ℓ) (g' : Dev Cert.DMixedRefIdeal.nD → PrngReg), Pre_DMixedIdeal m →
    (∀ c : Dev Cert.DMixedIdeal.nD,
      m' ((c.tc : Thread Cert.DMixedRefIdeal.nD Cert.DMixedRefIdeal.τ).loc Cert.DMixedRefIdeal.main_arg0) = m ((c.tc : Thread Cert.DMixedIdeal.nD Cert.DMixedIdeal.τ).loc Cert.DMixedIdeal.main_arg0)
      ∧ m' ((c.tc : Thread Cert.DMixedRefIdeal.nD Cert.DMixedRefIdeal.τ).loc Cert.DMixedRefIdeal.main_arg1) = m ((c.tc : Thread Cert.DMixedIdeal.nD Cert.DMixedIdeal.τ).loc Cert.DMixedIdeal.main_arg1)) →
    ∃ (v0 : (c : Dev Cert.DMixedIdeal.nD) → Buf (Elt Ideal) ((c.tc : Thread Cert.DMixedIdeal.nD Cert.DMixedIdeal.τ).loc Cert.DMixedIdeal.main_v0)),
      θ_run (Cert.DMixedIdeal.defs (F := Ideal)) (onTc (τ := Cert.DMixedIdeal.τ) (Cert.DMixedIdeal.main (F := Ideal))) ⟨m, fun _ => 0, g⟩ (fun r => ∀ c : Dev Cert.DMixedIdeal.nD,
          r.2.mem ((c.tc : Thread Cert.DMixedIdeal.nD Cert.DMixedIdeal.τ).loc Cert.DMixedIdeal.main_v0) = v0 c
          ∧ r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
          ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ θ_run (Cert.DMixedRefIdeal.defs (F := Ideal)) (onTc (τ := Cert.DMixedRefIdeal.τ) (Cert.DMixedRefIdeal.main (F := Ideal))) ⟨m', fun _ => 0, g'⟩ (fun r => ∀ c : Dev Cert.DMixedRefIdeal.nD,
          r.2.mem ((c.tc : Thread Cert.DMixedRefIdeal.nD Cert.DMixedRefIdeal.τ).loc Cert.DMixedRefIdeal.main_v4) = v0 c
          ∧ r.2.mem ((c.tc : Thread Cert.DMixedRefIdeal.nD Cert.DMixedRefIdeal.τ).loc Cert.DMixedRefIdeal.main_arg0) = m' ((c.tc : Thread Cert.DMixedRefIdeal.nD Cert.DMixedRefIdeal.τ).loc Cert.DMixedRefIdeal.main_arg0)
          ∧ r.2.mem ((c.tc : Thread Cert.DMixedRefIdeal.nD Cert.DMixedRefIdeal.τ).loc Cert.DMixedRefIdeal.main_arg1) = m' ((c.tc : Thread Cert.DMixedRefIdeal.nD Cert.DMixedRefIdeal.τ).loc Cert.DMixedRefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v0)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v4) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_ProjF_ProjFIdeal : Prop :=
  True

def algebraic_ProjFIdeal_ProjFRefIdeal [hProjFIdeal : Cert.ProjFIdeal.Facts] [hProjFRefIdeal : Cert.ProjFRefIdeal.Facts] : Prop :=
  ∀ (m : (ℓ : Loc Cert.ProjFIdeal.nD Cert.ProjFIdeal.τ Cert.ProjFIdeal.sig) → Buf (Elt Ideal) ℓ) (g : Dev Cert.ProjFIdeal.nD → PrngReg)
    (m' : (ℓ : Loc Cert.ProjFRefIdeal.nD Cert.ProjFRefIdeal.τ Cert.ProjFRefIdeal.sig) → Buf (Elt Ideal) ℓ) (g' : Dev Cert.ProjFRefIdeal.nD → PrngReg), Pre_ProjFIdeal m →
    (∀ c : Dev Cert.ProjFIdeal.nD,
      m' ((c.tc : Thread Cert.ProjFRefIdeal.nD Cert.ProjFRefIdeal.τ).loc Cert.ProjFRefIdeal.main_arg0) = m ((c.tc : Thread Cert.ProjFIdeal.nD Cert.ProjFIdeal.τ).loc Cert.ProjFIdeal.main_arg0)
      ∧ m' ((c.tc : Thread Cert.ProjFRefIdeal.nD Cert.ProjFRefIdeal.τ).loc Cert.ProjFRefIdeal.main_arg1) = m ((c.tc : Thread Cert.ProjFIdeal.nD Cert.ProjFIdeal.τ).loc Cert.ProjFIdeal.main_arg1)) →
    ∃ (v0 : (c : Dev Cert.ProjFIdeal.nD) → Buf (Elt Ideal) ((c.tc : Thread Cert.ProjFIdeal.nD Cert.ProjFIdeal.τ).loc Cert.ProjFIdeal.main_v0)),
      θ_run (Cert.ProjFIdeal.defs (F := Ideal)) (onTc (τ := Cert.ProjFIdeal.τ) (Cert.ProjFIdeal.main (F := Ideal))) ⟨m, fun _ => 0, g⟩ (fun r => ∀ c : Dev Cert.ProjFIdeal.nD,
          r.2.mem ((c.tc : Thread Cert.ProjFIdeal.nD Cert.ProjFIdeal.τ).loc Cert.ProjFIdeal.main_v0) = v0 c
          ∧ r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
          ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ θ_run (Cert.ProjFRefIdeal.defs (F := Ideal)) (onTc (τ := Cert.ProjFRefIdeal.τ) (Cert.ProjFRefIdeal.main (F := Ideal))) ⟨m', fun _ => 0, g'⟩ (fun r => ∀ c : Dev Cert.ProjFRefIdeal.nD,
          r.2.mem ((c.tc : Thread Cert.ProjFRefIdeal.nD Cert.ProjFRefIdeal.τ).loc Cert.ProjFRefIdeal.main_v3) = v0 c
          ∧ r.2.mem ((c.tc : Thread Cert.ProjFRefIdeal.nD Cert.ProjFRefIdeal.τ).loc Cert.ProjFRefIdeal.main_arg0) = m' ((c.tc : Thread Cert.ProjFRefIdeal.nD Cert.ProjFRefIdeal.τ).loc Cert.ProjFRefIdeal.main_arg0)
          ∧ r.2.mem ((c.tc : Thread Cert.ProjFRefIdeal.nD Cert.ProjFRefIdeal.τ).loc Cert.ProjFRefIdeal.main_arg1) = m' ((c.tc : Thread Cert.ProjFRefIdeal.nD Cert.ProjFRefIdeal.τ).loc Cert.ProjFRefIdeal.main_arg1))

def preserves_DwQ_DwQIdeal : Prop :=
  True

def algebraic_DwQIdeal_DwQRefIdeal [hDwQIdeal : Cert.DwQIdeal.Facts] [hDwQRefIdeal : Cert.DwQRefIdeal.Facts] : Prop :=
  ∀ (m : (ℓ : Loc Cert.DwQIdeal.nD Cert.DwQIdeal.τ Cert.DwQIdeal.sig) → Buf (Elt Ideal) ℓ) (g : Dev Cert.DwQIdeal.nD → PrngReg)
    (m' : (ℓ : Loc Cert.DwQRefIdeal.nD Cert.DwQRefIdeal.τ Cert.DwQRefIdeal.sig) → Buf (Elt Ideal) ℓ) (g' : Dev Cert.DwQRefIdeal.nD → PrngReg), Pre_DwQIdeal m →
    (∀ c : Dev Cert.DwQIdeal.nD,
      m' ((c.tc : Thread Cert.DwQRefIdeal.nD Cert.DwQRefIdeal.τ).loc Cert.DwQRefIdeal.main_arg0) = m ((c.tc : Thread Cert.DwQIdeal.nD Cert.DwQIdeal.τ).loc Cert.DwQIdeal.main_arg0)
      ∧ m' ((c.tc : Thread Cert.DwQRefIdeal.nD Cert.DwQRefIdeal.τ).loc Cert.DwQRefIdeal.main_arg1) = m ((c.tc : Thread Cert.DwQIdeal.nD Cert.DwQIdeal.τ).loc Cert.DwQIdeal.main_arg1)) →
    ∃ (v0 : (c : Dev Cert.DwQIdeal.nD) → Buf (Elt Ideal) ((c.tc : Thread Cert.DwQIdeal.nD Cert.DwQIdeal.τ).loc Cert.DwQIdeal.main_v0)),
      θ_run (Cert.DwQIdeal.defs (F := Ideal)) (onTc (τ := Cert.DwQIdeal.τ) (Cert.DwQIdeal.main (F := Ideal))) ⟨m, fun _ => 0, g⟩ (fun r => ∀ c : Dev Cert.DwQIdeal.nD,
          r.2.mem ((c.tc : Thread Cert.DwQIdeal.nD Cert.DwQIdeal.τ).loc Cert.DwQIdeal.main_v0) = v0 c
          ∧ r.2.mem ((c.tc : Thread Cert.DwQIdeal.nD Cert.DwQIdeal.τ).loc Cert.DwQIdeal.main_arg0) = m ((c.tc : Thread Cert.DwQIdeal.nD Cert.DwQIdeal.τ).loc Cert.DwQIdeal.main_arg0)
          ∧ r.2.mem ((c.tc : Thread Cert.DwQIdeal.nD Cert.DwQIdeal.τ).loc Cert.DwQIdeal.main_arg1) = m ((c.tc : Thread Cert.DwQIdeal.nD Cert.DwQIdeal.τ).loc Cert.DwQIdeal.main_arg1))
      ∧ θ_run (Cert.DwQRefIdeal.defs (F := Ideal)) (onTc (τ := Cert.DwQRefIdeal.τ) (Cert.DwQRefIdeal.main (F := Ideal))) ⟨m', fun _ => 0, g'⟩ (fun r => ∀ c : Dev Cert.DwQRefIdeal.nD,
          r.2.mem ((c.tc : Thread Cert.DwQRefIdeal.nD Cert.DwQRefIdeal.τ).loc Cert.DwQRefIdeal.main_v5) = v0 c
          ∧ r.2.mem ((c.tc : Thread Cert.DwQRefIdeal.nD Cert.DwQRefIdeal.τ).loc Cert.DwQRefIdeal.main_arg0) = m' ((c.tc : Thread Cert.DwQRefIdeal.nD Cert.DwQRefIdeal.τ).loc Cert.DwQRefIdeal.main_arg0)
          ∧ r.2.mem ((c.tc : Thread Cert.DwQRefIdeal.nD Cert.DwQRefIdeal.τ).loc Cert.DwQRefIdeal.main_arg1) = m' ((c.tc : Thread Cert.DwQRefIdeal.nD Cert.DwQRefIdeal.τ).loc Cert.DwQRefIdeal.main_arg1))

def preserves_DwK_DwKIdeal : Prop :=
  True

def algebraic_DwKIdeal_DwKRefIdeal [hDwKIdeal : Cert.DwKIdeal.Facts] [hDwKRefIdeal : Cert.DwKRefIdeal.Facts] : Prop :=
  ∀ (m : (ℓ : Loc Cert.DwKIdeal.nD Cert.DwKIdeal.τ Cert.DwKIdeal.sig) → Buf (Elt Ideal) ℓ) (g : Dev Cert.DwKIdeal.nD → PrngReg)
    (m' : (ℓ : Loc Cert.DwKRefIdeal.nD Cert.DwKRefIdeal.τ Cert.DwKRefIdeal.sig) → Buf (Elt Ideal) ℓ) (g' : Dev Cert.DwKRefIdeal.nD → PrngReg), Pre_DwKIdeal m →
    (∀ c : Dev Cert.DwKIdeal.nD,
      m' ((c.tc : Thread Cert.DwKRefIdeal.nD Cert.DwKRefIdeal.τ).loc Cert.DwKRefIdeal.main_arg0) = m ((c.tc : Thread Cert.DwKIdeal.nD Cert.DwKIdeal.τ).loc Cert.DwKIdeal.main_arg0)
      ∧ m' ((c.tc : Thread Cert.DwKRefIdeal.nD Cert.DwKRefIdeal.τ).loc Cert.DwKRefIdeal.main_arg1) = m ((c.tc : Thread Cert.DwKIdeal.nD Cert.DwKIdeal.τ).loc Cert.DwKIdeal.main_arg1)) →
    ∃ (v0 : (c : Dev Cert.DwKIdeal.nD) → Buf (Elt Ideal) ((c.tc : Thread Cert.DwKIdeal.nD Cert.DwKIdeal.τ).loc Cert.DwKIdeal.main_v0)),
      θ_run (Cert.DwKIdeal.defs (F := Ideal)) (onTc (τ := Cert.DwKIdeal.τ) (Cert.DwKIdeal.main (F := Ideal))) ⟨m, fun _ => 0, g⟩ (fun r => ∀ c : Dev Cert.DwKIdeal.nD,
          r.2.mem ((c.tc : Thread Cert.DwKIdeal.nD Cert.DwKIdeal.τ).loc Cert.DwKIdeal.main_v0) = v0 c
          ∧ r.2.mem ((c.tc : Thread Cert.DwKIdeal.nD Cert.DwKIdeal.τ).loc Cert.DwKIdeal.main_arg0) = m ((c.tc : Thread Cert.DwKIdeal.nD Cert.DwKIdeal.τ).loc Cert.DwKIdeal.main_arg0)
          ∧ r.2.mem ((c.tc : Thread Cert.DwKIdeal.nD Cert.DwKIdeal.τ).loc Cert.DwKIdeal.main_arg1) = m ((c.tc : Thread Cert.DwKIdeal.nD Cert.DwKIdeal.τ).loc Cert.DwKIdeal.main_arg1))
      ∧ θ_run (Cert.DwKRefIdeal.defs (F := Ideal)) (onTc (τ := Cert.DwKRefIdeal.τ) (Cert.DwKRefIdeal.main (F := Ideal))) ⟨m', fun _ => 0, g'⟩ (fun r => ∀ c : Dev Cert.DwKRefIdeal.nD,
          r.2.mem ((c.tc : Thread Cert.DwKRefIdeal.nD Cert.DwKRefIdeal.τ).loc Cert.DwKRefIdeal.main_v5) = v0 c
          ∧ r.2.mem ((c.tc : Thread Cert.DwKRefIdeal.nD Cert.DwKRefIdeal.τ).loc Cert.DwKRefIdeal.main_arg0) = m' ((c.tc : Thread Cert.DwKRefIdeal.nD Cert.DwKRefIdeal.τ).loc Cert.DwKRefIdeal.main_arg0)
          ∧ r.2.mem ((c.tc : Thread Cert.DwKRefIdeal.nD Cert.DwKRefIdeal.τ).loc Cert.DwKRefIdeal.main_arg1) = m' ((c.tc : Thread Cert.DwKRefIdeal.nD Cert.DwKRefIdeal.τ).loc Cert.DwKRefIdeal.main_arg1))

def preserves_DwV_DwVIdeal : Prop :=
  True

def algebraic_DwVIdeal_DwVRefIdeal [hDwVIdeal : Cert.DwVIdeal.Facts] [hDwVRefIdeal : Cert.DwVRefIdeal.Facts] : Prop :=
  ∀ (m : (ℓ : Loc Cert.DwVIdeal.nD Cert.DwVIdeal.τ Cert.DwVIdeal.sig) → Buf (Elt Ideal) ℓ) (g : Dev Cert.DwVIdeal.nD → PrngReg)
    (m' : (ℓ : Loc Cert.DwVRefIdeal.nD Cert.DwVRefIdeal.τ Cert.DwVRefIdeal.sig) → Buf (Elt Ideal) ℓ) (g' : Dev Cert.DwVRefIdeal.nD → PrngReg), Pre_DwVIdeal m →
    (∀ c : Dev Cert.DwVIdeal.nD,
      m' ((c.tc : Thread Cert.DwVRefIdeal.nD Cert.DwVRefIdeal.τ).loc Cert.DwVRefIdeal.main_arg0) = m ((c.tc : Thread Cert.DwVIdeal.nD Cert.DwVIdeal.τ).loc Cert.DwVIdeal.main_arg0)
      ∧ m' ((c.tc : Thread Cert.DwVRefIdeal.nD Cert.DwVRefIdeal.τ).loc Cert.DwVRefIdeal.main_arg1) = m ((c.tc : Thread Cert.DwVIdeal.nD Cert.DwVIdeal.τ).loc Cert.DwVIdeal.main_arg1)) →
    ∃ (v0 : (c : Dev Cert.DwVIdeal.nD) → Buf (Elt Ideal) ((c.tc : Thread Cert.DwVIdeal.nD Cert.DwVIdeal.τ).loc Cert.DwVIdeal.main_v0)),
      θ_run (Cert.DwVIdeal.defs (F := Ideal)) (onTc (τ := Cert.DwVIdeal.τ) (Cert.DwVIdeal.main (F := Ideal))) ⟨m, fun _ => 0, g⟩ (fun r => ∀ c : Dev Cert.DwVIdeal.nD,
          r.2.mem ((c.tc : Thread Cert.DwVIdeal.nD Cert.DwVIdeal.τ).loc Cert.DwVIdeal.main_v0) = v0 c
          ∧ r.2.mem ((c.tc : Thread Cert.DwVIdeal.nD Cert.DwVIdeal.τ).loc Cert.DwVIdeal.main_arg0) = m ((c.tc : Thread Cert.DwVIdeal.nD Cert.DwVIdeal.τ).loc Cert.DwVIdeal.main_arg0)
          ∧ r.2.mem ((c.tc : Thread Cert.DwVIdeal.nD Cert.DwVIdeal.τ).loc Cert.DwVIdeal.main_arg1) = m ((c.tc : Thread Cert.DwVIdeal.nD Cert.DwVIdeal.τ).loc Cert.DwVIdeal.main_arg1))
      ∧ θ_run (Cert.DwVRefIdeal.defs (F := Ideal)) (onTc (τ := Cert.DwVRefIdeal.τ) (Cert.DwVRefIdeal.main (F := Ideal))) ⟨m', fun _ => 0, g'⟩ (fun r => ∀ c : Dev Cert.DwVRefIdeal.nD,
          r.2.mem ((c.tc : Thread Cert.DwVRefIdeal.nD Cert.DwVRefIdeal.τ).loc Cert.DwVRefIdeal.main_v5) = v0 c
          ∧ r.2.mem ((c.tc : Thread Cert.DwVRefIdeal.nD Cert.DwVRefIdeal.τ).loc Cert.DwVRefIdeal.main_arg0) = m' ((c.tc : Thread Cert.DwVRefIdeal.nD Cert.DwVRefIdeal.τ).loc Cert.DwVRefIdeal.main_arg0)
          ∧ r.2.mem ((c.tc : Thread Cert.DwVRefIdeal.nD Cert.DwVRefIdeal.τ).loc Cert.DwVRefIdeal.main_arg1) = m' ((c.tc : Thread Cert.DwVRefIdeal.nD Cert.DwVRefIdeal.τ).loc Cert.DwVRefIdeal.main_arg1))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)) →
    ∃ (v0 : (c : Dev Cert.PrenormIdeal.nD) → Buf (Elt Ideal) ((c.tc : Thread Cert.PrenormIdeal.nD Cert.PrenormIdeal.τ).loc Cert.PrenormIdeal.main_v0)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v0) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v12) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1))

def preserves_MlaPrep_MlaPrepIdeal : Prop :=
  True

def algebraic_MlaPrepIdeal_MlaPrepRefIdeal [hMlaPrepIdeal : Cert.MlaPrepIdeal.Facts] [hMlaPrepRefIdeal : Cert.MlaPrepRefIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg)
    (m' : (ℓ : Loc Cert.MlaPrepRefIdeal.nD Cert.MlaPrepRefIdeal.τ Cert.MlaPrepRefIdeal.sig) → Buf (Elt Ideal) ℓ) (g' : Dev Cert.MlaPrepRefIdeal.nD → PrngReg), Pre_MlaPrepIdeal m →
    (∀ c : Dev Cert.MlaPrepIdeal.nD,
      m' ((c.tc : Thread Cert.MlaPrepRefIdeal.nD Cert.MlaPrepRefIdeal.τ).loc Cert.MlaPrepRefIdeal.main_arg0) = m ((c.tc : Thread Cert.MlaPrepIdeal.nD Cert.MlaPrepIdeal.τ).loc Cert.MlaPrepIdeal.main_arg0)
      ∧ m' ((c.tc : Thread Cert.MlaPrepRefIdeal.nD Cert.MlaPrepRefIdeal.τ).loc Cert.MlaPrepRefIdeal.main_arg1) = m ((c.tc : Thread Cert.MlaPrepIdeal.nD Cert.MlaPrepIdeal.τ).loc Cert.MlaPrepIdeal.main_arg1)
      ∧ m' ((c.tc : Thread Cert.MlaPrepRefIdeal.nD Cert.MlaPrepRefIdeal.τ).loc Cert.MlaPrepRefIdeal.main_arg2) = m ((c.tc : Thread Cert.MlaPrepIdeal.nD Cert.MlaPrepIdeal.τ).loc Cert.MlaPrepIdeal.main_arg2)
      ∧ m' ((c.tc : Thread Cert.MlaPrepRefIdeal.nD Cert.MlaPrepRefIdeal.τ).loc Cert.MlaPrepRefIdeal.main_arg3) = m ((c.tc : Thread Cert.MlaPrepIdeal.nD Cert.MlaPrepIdeal.τ).loc Cert.MlaPrepIdeal.main_arg3)
      ∧ m' ((c.tc : Thread Cert.MlaPrepRefIdeal.nD Cert.MlaPrepRefIdeal.τ).loc Cert.MlaPrepRefIdeal.main_arg4) = m ((c.tc : Thread Cert.MlaPrepIdeal.nD Cert.MlaPrepIdeal.τ).loc Cert.MlaPrepIdeal.main_arg4)
      ∧ m' ((c.tc : Thread Cert.MlaPrepRefIdeal.nD Cert.MlaPrepRefIdeal.τ).loc Cert.MlaPrepRefIdeal.main_arg5) = m ((c.tc : Thread Cert.MlaPrepIdeal.nD Cert.MlaPrepIdeal.τ).loc Cert.MlaPrepIdeal.main_arg5)
      ∧ m' ((c.tc : Thread Cert.MlaPrepRefIdeal.nD Cert.MlaPrepRefIdeal.τ).loc Cert.MlaPrepRefIdeal.main_arg6) = m ((c.tc : Thread Cert.MlaPrepIdeal.nD Cert.MlaPrepIdeal.τ).loc Cert.MlaPrepIdeal.main_arg6)
      ∧ m' ((c.tc : Thread Cert.MlaPrepRefIdeal.nD Cert.MlaPrepRefIdeal.τ).loc Cert.MlaPrepRefIdeal.main_arg7) = m ((c.tc : Thread Cert.MlaPrepIdeal.nD Cert.MlaPrepIdeal.τ).loc Cert.MlaPrepIdeal.main_arg7)) →
    ∃ (v0 : (c : Dev Cert.MlaPrepIdeal.nD) → Buf (Elt Ideal) ((c.tc : Thread Cert.MlaPrepIdeal.nD Cert.MlaPrepIdeal.τ).loc Cert.MlaPrepIdeal.main_v5_0)) (v1 : (c : Dev Cert.MlaPrepIdeal.nD) → Buf (Elt Ideal) ((c.tc : Thread Cert.MlaPrepIdeal.nD Cert.MlaPrepIdeal.τ).loc Cert.MlaPrepIdeal.main_v5_1)) (v2 : (c : Dev Cert.MlaPrepIdeal.nD) → Buf (Elt Ideal) ((c.tc : Thread Cert.MlaPrepIdeal.nD Cert.MlaPrepIdeal.τ).loc Cert.MlaPrepIdeal.main_v5_2)) (v3 : (c : Dev Cert.MlaPrepIdeal.nD) → Buf (Elt Ideal) ((c.tc : Thread Cert.MlaPrepIdeal.nD Cert.MlaPrepIdeal.τ).loc Cert.MlaPrepIdeal.main_v5_3)) (v4 : (c : Dev Cert.MlaPrepIdeal.nD) → Buf (Elt Ideal) ((c.tc : Thread Cert.MlaPrepIdeal.nD Cert.MlaPrepIdeal.τ).loc Cert.MlaPrepIdeal.main_v5_4)),
      θ_run (Cert.MlaPrepIdeal.defs (F := Ideal)) (onTc (τ := Cert.MlaPrepIdeal.τ) (Cert.MlaPrepIdeal.main (F := Ideal))) ⟨m, fun _ => 0, g⟩ (fun r => ∀ c : Dev Cert.MlaPrepIdeal.nD,
          r.2.mem ((c.tc : Thread Cert.MlaPrepIdeal.nD Cert.MlaPrepIdeal.τ).loc Cert.MlaPrepIdeal.main_v5_0) = v0 c
          ∧ r.2.mem ((c.tc : Thread Cert.MlaPrepIdeal.nD Cert.MlaPrepIdeal.τ).loc Cert.MlaPrepIdeal.main_v5_1) = v1 c
          ∧ r.2.mem ((c.tc : Thread Cert.MlaPrepIdeal.nD Cert.MlaPrepIdeal.τ).loc Cert.MlaPrepIdeal.main_v5_2) = v2 c
          ∧ r.2.mem ((c.tc : Thread Cert.MlaPrepIdeal.nD Cert.MlaPrepIdeal.τ).loc Cert.MlaPrepIdeal.main_v5_3) = v3 c
          ∧ r.2.mem ((c.tc : Thread Cert.MlaPrepIdeal.nD Cert.MlaPrepIdeal.τ).loc Cert.MlaPrepIdeal.main_v5_4) = v4 c
          ∧ r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
          ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
          ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
          ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
          ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
          ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
          ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6)
          ∧ r.2.mem ((c.tc : Thread Cert.MlaPrepIdeal.nD Cert.MlaPrepIdeal.τ).loc Cert.MlaPrepIdeal.main_arg7) = m ((c.tc : Thread Cert.MlaPrepIdeal.nD Cert.MlaPrepIdeal.τ).loc Cert.MlaPrepIdeal.main_arg7))
      ∧ θ_run (Cert.MlaPrepRefIdeal.defs (F := Ideal)) (onTc (τ := Cert.MlaPrepRefIdeal.τ) (Cert.MlaPrepRefIdeal.main (F := Ideal))) ⟨m', fun _ => 0, g'⟩ (fun r => ∀ c : Dev Cert.MlaPrepRefIdeal.nD,
          r.2.mem ((c.tc : Thread Cert.MlaPrepRefIdeal.nD Cert.MlaPrepRefIdeal.τ).loc Cert.MlaPrepRefIdeal.main_v68) = v0 c
          ∧ r.2.mem ((c.tc : Thread Cert.MlaPrepRefIdeal.nD Cert.MlaPrepRefIdeal.τ).loc Cert.MlaPrepRefIdeal.main_v69) = v1 c
          ∧ r.2.mem ((c.tc : Thread Cert.MlaPrepRefIdeal.nD Cert.MlaPrepRefIdeal.τ).loc Cert.MlaPrepRefIdeal.main_v70) = v2 c
          ∧ r.2.mem ((c.tc : Thread Cert.MlaPrepRefIdeal.nD Cert.MlaPrepRefIdeal.τ).loc Cert.MlaPrepRefIdeal.main_v71) = v3 c
          ∧ r.2.mem ((c.tc : Thread Cert.MlaPrepRefIdeal.nD Cert.MlaPrepRefIdeal.τ).loc Cert.MlaPrepRefIdeal.main_v72) = v4 c
          ∧ r.2.mem ((c.tc : Thread Cert.MlaPrepRefIdeal.nD Cert.MlaPrepRefIdeal.τ).loc Cert.MlaPrepRefIdeal.main_arg0) = m' ((c.tc : Thread Cert.MlaPrepRefIdeal.nD Cert.MlaPrepRefIdeal.τ).loc Cert.MlaPrepRefIdeal.main_arg0)
          ∧ r.2.mem ((c.tc : Thread Cert.MlaPrepRefIdeal.nD Cert.MlaPrepRefIdeal.τ).loc Cert.MlaPrepRefIdeal.main_arg1) = m' ((c.tc : Thread Cert.MlaPrepRefIdeal.nD Cert.MlaPrepRefIdeal.τ).loc Cert.MlaPrepRefIdeal.main_arg1)
          ∧ r.2.mem ((c.tc : Thread Cert.MlaPrepRefIdeal.nD Cert.MlaPrepRefIdeal.τ).loc Cert.MlaPrepRefIdeal.main_arg2) = m' ((c.tc : Thread Cert.MlaPrepRefIdeal.nD Cert.MlaPrepRefIdeal.τ).loc Cert.MlaPrepRefIdeal.main_arg2)
          ∧ r.2.mem ((c.tc : Thread Cert.MlaPrepRefIdeal.nD Cert.MlaPrepRefIdeal.τ).loc Cert.MlaPrepRefIdeal.main_arg3) = m' ((c.tc : Thread Cert.MlaPrepRefIdeal.nD Cert.MlaPrepRefIdeal.τ).loc Cert.MlaPrepRefIdeal.main_arg3)
          ∧ r.2.mem ((c.tc : Thread Cert.MlaPrepRefIdeal.nD Cert.MlaPrepRefIdeal.τ).loc Cert.MlaPrepRefIdeal.main_arg4) = m' ((c.tc : Thread Cert.MlaPrepRefIdeal.nD Cert.MlaPrepRefIdeal.τ).loc Cert.MlaPrepRefIdeal.main_arg4)
          ∧ r.2.mem ((c.tc : Thread Cert.MlaPrepRefIdeal.nD Cert.MlaPrepRefIdeal.τ).loc Cert.MlaPrepRefIdeal.main_arg5) = m' ((c.tc : Thread Cert.MlaPrepRefIdeal.nD Cert.MlaPrepRefIdeal.τ).loc Cert.MlaPrepRefIdeal.main_arg5)
          ∧ r.2.mem ((c.tc : Thread Cert.MlaPrepRefIdeal.nD Cert.MlaPrepRefIdeal.τ).loc Cert.MlaPrepRefIdeal.main_arg6) = m' ((c.tc : Thread Cert.MlaPrepRefIdeal.nD Cert.MlaPrepRefIdeal.τ).loc Cert.MlaPrepRefIdeal.main_arg6)
          ∧ r.2.mem ((c.tc : Thread Cert.MlaPrepRefIdeal.nD Cert.MlaPrepRefIdeal.τ).loc Cert.MlaPrepRefIdeal.main_arg7) = m' ((c.tc : Thread Cert.MlaPrepRefIdeal.nD Cert.MlaPrepRefIdeal.τ).loc Cert.MlaPrepRefIdeal.main_arg7))

def preserves_OutPost_OutPostIdeal : Prop :=
  True

def algebraic_OutPostIdeal_OutPostRefIdeal [hOutPostIdeal : Cert.OutPostIdeal.Facts] [hOutPostRefIdeal : Cert.OutPostRefIdeal.Facts] : Prop :=
  ∀ (m : (ℓ : Loc Cert.OutPostIdeal.nD Cert.OutPostIdeal.τ Cert.OutPostIdeal.sig) → Buf (Elt Ideal) ℓ) (g : Dev Cert.OutPostIdeal.nD → PrngReg)
    (m' : (ℓ : Loc Cert.OutPostRefIdeal.nD Cert.OutPostRefIdeal.τ Cert.OutPostRefIdeal.sig) → Buf (Elt Ideal) ℓ) (g' : Dev Cert.OutPostRefIdeal.nD → PrngReg), Pre_OutPostIdeal m →
    (∀ c : Dev Cert.OutPostIdeal.nD,
      m' ((c.tc : Thread Cert.OutPostRefIdeal.nD Cert.OutPostRefIdeal.τ).loc Cert.OutPostRefIdeal.main_arg0) = m ((c.tc : Thread Cert.OutPostIdeal.nD Cert.OutPostIdeal.τ).loc Cert.OutPostIdeal.main_arg0)
      ∧ m' ((c.tc : Thread Cert.OutPostRefIdeal.nD Cert.OutPostRefIdeal.τ).loc Cert.OutPostRefIdeal.main_arg1) = m ((c.tc : Thread Cert.OutPostIdeal.nD Cert.OutPostIdeal.τ).loc Cert.OutPostIdeal.main_arg1)
      ∧ m' ((c.tc : Thread Cert.OutPostRefIdeal.nD Cert.OutPostRefIdeal.τ).loc Cert.OutPostRefIdeal.main_arg2) = m ((c.tc : Thread Cert.OutPostIdeal.nD Cert.OutPostIdeal.τ).loc Cert.OutPostIdeal.main_arg2)
      ∧ m' ((c.tc : Thread Cert.OutPostRefIdeal.nD Cert.OutPostRefIdeal.τ).loc Cert.OutPostRefIdeal.main_arg3) = m ((c.tc : Thread Cert.OutPostIdeal.nD Cert.OutPostIdeal.τ).loc Cert.OutPostIdeal.main_arg3)
      ∧ m' ((c.tc : Thread Cert.OutPostRefIdeal.nD Cert.OutPostRefIdeal.τ).loc Cert.OutPostRefIdeal.main_arg4) = m ((c.tc : Thread Cert.OutPostIdeal.nD Cert.OutPostIdeal.τ).loc Cert.OutPostIdeal.main_arg4)
      ∧ m' ((c.tc : Thread Cert.OutPostRefIdeal.nD Cert.OutPostRefIdeal.τ).loc Cert.OutPostRefIdeal.main_arg5) = m ((c.tc : Thread Cert.OutPostIdeal.nD Cert.OutPostIdeal.τ).loc Cert.OutPostIdeal.main_arg5)
      ∧ m' ((c.tc : Thread Cert.OutPostRefIdeal.nD Cert.OutPostRefIdeal.τ).loc Cert.OutPostRefIdeal.main_arg6) = m ((c.tc : Thread Cert.OutPostIdeal.nD Cert.OutPostIdeal.τ).loc Cert.OutPostIdeal.main_arg6)) →
    ∃ (v0 : (c : Dev Cert.OutPostIdeal.nD) → Buf (Elt Ideal) ((c.tc : Thread Cert.OutPostIdeal.nD Cert.OutPostIdeal.τ).loc Cert.OutPostIdeal.main_v0_0)) (v1 : (c : Dev Cert.OutPostIdeal.nD) → Buf (Elt Ideal) ((c.tc : Thread Cert.OutPostIdeal.nD Cert.OutPostIdeal.τ).loc Cert.OutPostIdeal.main_v0_2)) (v2 : (c : Dev Cert.OutPostIdeal.nD) → Buf (Elt Ideal) ((c.tc : Thread Cert.OutPostIdeal.nD Cert.OutPostIdeal.τ).loc Cert.OutPostIdeal.main_v0_3)) (v3 : (c : Dev Cert.OutPostIdeal.nD) → Buf (Elt Ideal) ((c.tc : Thread Cert.OutPostIdeal.nD Cert.OutPostIdeal.τ).loc Cert.OutPostIdeal.main_v0_4)),
      θ_run (Cert.OutPostIdeal.defs (F := Ideal)) (onTc (τ := Cert.OutPostIdeal.τ) (Cert.OutPostIdeal.main (F := Ideal))) ⟨m, fun _ => 0, g⟩ (fun r => ∀ c : Dev Cert.OutPostIdeal.nD,
          r.2.mem ((c.tc : Thread Cert.OutPostIdeal.nD Cert.OutPostIdeal.τ).loc Cert.OutPostIdeal.main_v0_0) = v0 c
          ∧ r.2.mem ((c.tc : Thread Cert.OutPostIdeal.nD Cert.OutPostIdeal.τ).loc Cert.OutPostIdeal.main_v0_2) = v1 c
          ∧ r.2.mem ((c.tc : Thread Cert.OutPostIdeal.nD Cert.OutPostIdeal.τ).loc Cert.OutPostIdeal.main_v0_3) = v2 c
          ∧ r.2.mem ((c.tc : Thread Cert.OutPostIdeal.nD Cert.OutPostIdeal.τ).loc Cert.OutPostIdeal.main_v0_4) = v3 c
          ∧ r.2.mem ((c.tc : Thread Cert.OutPostIdeal.nD Cert.OutPostIdeal.τ).loc Cert.OutPostIdeal.main_arg0) = m ((c.tc : Thread Cert.OutPostIdeal.nD Cert.OutPostIdeal.τ).loc Cert.OutPostIdeal.main_arg0)
          ∧ r.2.mem ((c.tc : Thread Cert.OutPostIdeal.nD Cert.OutPostIdeal.τ).loc Cert.OutPostIdeal.main_arg1) = m ((c.tc : Thread Cert.OutPostIdeal.nD Cert.OutPostIdeal.τ).loc Cert.OutPostIdeal.main_arg1)
          ∧ r.2.mem ((c.tc : Thread Cert.OutPostIdeal.nD Cert.OutPostIdeal.τ).loc Cert.OutPostIdeal.main_arg2) = m ((c.tc : Thread Cert.OutPostIdeal.nD Cert.OutPostIdeal.τ).loc Cert.OutPostIdeal.main_arg2)
          ∧ r.2.mem ((c.tc : Thread Cert.OutPostIdeal.nD Cert.OutPostIdeal.τ).loc Cert.OutPostIdeal.main_arg3) = m ((c.tc : Thread Cert.OutPostIdeal.nD Cert.OutPostIdeal.τ).loc Cert.OutPostIdeal.main_arg3)
          ∧ r.2.mem ((c.tc : Thread Cert.OutPostIdeal.nD Cert.OutPostIdeal.τ).loc Cert.OutPostIdeal.main_arg4) = m ((c.tc : Thread Cert.OutPostIdeal.nD Cert.OutPostIdeal.τ).loc Cert.OutPostIdeal.main_arg4)
          ∧ r.2.mem ((c.tc : Thread Cert.OutPostIdeal.nD Cert.OutPostIdeal.τ).loc Cert.OutPostIdeal.main_arg5) = m ((c.tc : Thread Cert.OutPostIdeal.nD Cert.OutPostIdeal.τ).loc Cert.OutPostIdeal.main_arg5)
          ∧ r.2.mem ((c.tc : Thread Cert.OutPostIdeal.nD Cert.OutPostIdeal.τ).loc Cert.OutPostIdeal.main_arg6) = m ((c.tc : Thread Cert.OutPostIdeal.nD Cert.OutPostIdeal.τ).loc Cert.OutPostIdeal.main_arg6))
      ∧ θ_run (Cert.OutPostRefIdeal.defs (F := Ideal)) (onTc (τ := Cert.OutPostRefIdeal.τ) (Cert.OutPostRefIdeal.main (F := Ideal))) ⟨m', fun _ => 0, g'⟩ (fun r => ∀ c : Dev Cert.OutPostRefIdeal.nD,
          r.2.mem ((c.tc : Thread Cert.OutPostRefIdeal.nD Cert.OutPostRefIdeal.τ).loc Cert.OutPostRefIdeal.main_v25) = v0 c
          ∧ r.2.mem ((c.tc : Thread Cert.OutPostRefIdeal.nD Cert.OutPostRefIdeal.τ).loc Cert.OutPostRefIdeal.main_v24) = v1 c
          ∧ r.2.mem ((c.tc : Thread Cert.OutPostRefIdeal.nD Cert.OutPostRefIdeal.τ).loc Cert.OutPostRefIdeal.main_v28) = v2 c
          ∧ r.2.mem ((c.tc : Thread Cert.OutPostRefIdeal.nD Cert.OutPostRefIdeal.τ).loc Cert.OutPostRefIdeal.main_v31) = v3 c
          ∧ r.2.mem ((c.tc : Thread Cert.OutPostRefIdeal.nD Cert.OutPostRefIdeal.τ).loc Cert.OutPostRefIdeal.main_arg0) = m' ((c.tc : Thread Cert.OutPostRefIdeal.nD Cert.OutPostRefIdeal.τ).loc Cert.OutPostRefIdeal.main_arg0)
          ∧ r.2.mem ((c.tc : Thread Cert.OutPostRefIdeal.nD Cert.OutPostRefIdeal.τ).loc Cert.OutPostRefIdeal.main_arg1) = m' ((c.tc : Thread Cert.OutPostRefIdeal.nD Cert.OutPostRefIdeal.τ).loc Cert.OutPostRefIdeal.main_arg1)
          ∧ r.2.mem ((c.tc : Thread Cert.OutPostRefIdeal.nD Cert.OutPostRefIdeal.τ).loc Cert.OutPostRefIdeal.main_arg2) = m' ((c.tc : Thread Cert.OutPostRefIdeal.nD Cert.OutPostRefIdeal.τ).loc Cert.OutPostRefIdeal.main_arg2)
          ∧ r.2.mem ((c.tc : Thread Cert.OutPostRefIdeal.nD Cert.OutPostRefIdeal.τ).loc Cert.OutPostRefIdeal.main_arg3) = m' ((c.tc : Thread Cert.OutPostRefIdeal.nD Cert.OutPostRefIdeal.τ).loc Cert.OutPostRefIdeal.main_arg3)
          ∧ r.2.mem ((c.tc : Thread Cert.OutPostRefIdeal.nD Cert.OutPostRefIdeal.τ).loc Cert.OutPostRefIdeal.main_arg4) = m' ((c.tc : Thread Cert.OutPostRefIdeal.nD Cert.OutPostRefIdeal.τ).loc Cert.OutPostRefIdeal.main_arg4)
          ∧ r.2.mem ((c.tc : Thread Cert.OutPostRefIdeal.nD Cert.OutPostRefIdeal.τ).loc Cert.OutPostRefIdeal.main_arg5) = m' ((c.tc : Thread Cert.OutPostRefIdeal.nD Cert.OutPostRefIdeal.τ).loc Cert.OutPostRefIdeal.main_arg5)
          ∧ r.2.mem ((c.tc : Thread Cert.OutPostRefIdeal.nD Cert.OutPostRefIdeal.τ).loc Cert.OutPostRefIdeal.main_arg6) = m' ((c.tc : Thread Cert.OutPostRefIdeal.nD Cert.OutPostRefIdeal.τ).loc Cert.OutPostRefIdeal.main_arg6))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_1)) (v1 : (c : Dev Cert.AdamOutIdeal.nD) → Buf (Elt Ideal) ((c.tc : Thread Cert.AdamOutIdeal.nD Cert.AdamOutIdeal.τ).loc Cert.AdamOutIdeal.main_v0_2)) (v2 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_1) = v0 c
          ∧ r.2.mem ((c.tc : Thread Cert.AdamOutIdeal.nD Cert.AdamOutIdeal.τ).loc Cert.AdamOutIdeal.main_v0_2) = v1 c
          ∧ r.2.mem ((c.tc : Thread Cert.AdamOutIdeal.nD Cert.AdamOutIdeal.τ).loc Cert.AdamOutIdeal.main_v0_3) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_1)) (v1 : (c : Dev Cert.AdamInIdeal.nD) → Buf (Elt Ideal) ((c.tc : Thread Cert.AdamInIdeal.nD Cert.AdamInIdeal.τ).loc Cert.AdamInIdeal.main_v0_2)) (v2 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_1) = v0 c
          ∧ r.2.mem ((c.tc : Thread Cert.AdamInIdeal.nD Cert.AdamInIdeal.τ).loc Cert.AdamInIdeal.main_v0_2) = v1 c
          ∧ r.2.mem ((c.tc : Thread Cert.AdamInIdeal.nD Cert.AdamInIdeal.τ).loc Cert.AdamInIdeal.main_v0_3) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamQ_AdamQIdeal : Prop :=
  True

def algebraic_AdamQIdeal_AdamQRefIdeal [hAdamQIdeal : Cert.AdamQIdeal.Facts] [hAdamQRefIdeal : Cert.AdamQRefIdeal.Facts] : Prop :=
  ∀ (m : (ℓ : Loc Cert.AdamQIdeal.nD Cert.AdamQIdeal.τ Cert.AdamQIdeal.sig) → Buf (Elt Ideal) ℓ) (g : Dev Cert.AdamQIdeal.nD → PrngReg)
    (m' : (ℓ : Loc Cert.AdamQRefIdeal.nD Cert.AdamQRefIdeal.τ Cert.AdamQRefIdeal.sig) → Buf (Elt Ideal) ℓ) (g' : Dev Cert.AdamQRefIdeal.nD → PrngReg), Pre_AdamQIdeal m →
    (∀ c : Dev Cert.AdamQIdeal.nD,
      m' ((c.tc : Thread Cert.AdamQRefIdeal.nD Cert.AdamQRefIdeal.τ).loc Cert.AdamQRefIdeal.main_arg0) = m ((c.tc : Thread Cert.AdamQIdeal.nD Cert.AdamQIdeal.τ).loc Cert.AdamQIdeal.main_arg0)
      ∧ m' ((c.tc : Thread Cert.AdamQRefIdeal.nD Cert.AdamQRefIdeal.τ).loc Cert.AdamQRefIdeal.main_arg1) = m ((c.tc : Thread Cert.AdamQIdeal.nD Cert.AdamQIdeal.τ).loc Cert.AdamQIdeal.main_arg1)
      ∧ m' ((c.tc : Thread Cert.AdamQRefIdeal.nD Cert.AdamQRefIdeal.τ).loc Cert.AdamQRefIdeal.main_arg2) = m ((c.tc : Thread Cert.AdamQIdeal.nD Cert.AdamQIdeal.τ).loc Cert.AdamQIdeal.main_arg2)
      ∧ m' ((c.tc : Thread Cert.AdamQRefIdeal.nD Cert.AdamQRefIdeal.τ).loc Cert.AdamQRefIdeal.main_arg3) = m ((c.tc : Thread Cert.AdamQIdeal.nD Cert.AdamQIdeal.τ).loc Cert.AdamQIdeal.main_arg3)) →
    ∃ (v0 : (c : Dev Cert.AdamQIdeal.nD) → Buf (Elt Ideal) ((c.tc : Thread Cert.AdamQIdeal.nD Cert.AdamQIdeal.τ).loc Cert.AdamQIdeal.main_v0_1)) (v1 : (c : Dev Cert.AdamQIdeal.nD) → Buf (Elt Ideal) ((c.tc : Thread Cert.AdamQIdeal.nD Cert.AdamQIdeal.τ).loc Cert.AdamQIdeal.main_v0_2)) (v2 : (c : Dev Cert.AdamQIdeal.nD) → Buf (Elt Ideal) ((c.tc : Thread Cert.AdamQIdeal.nD Cert.AdamQIdeal.τ).loc Cert.AdamQIdeal.main_v0_3)),
      θ_run (Cert.AdamQIdeal.defs (F := Ideal)) (onTc (τ := Cert.AdamQIdeal.τ) (Cert.AdamQIdeal.main (F := Ideal))) ⟨m, fun _ => 0, g⟩ (fun r => ∀ c : Dev Cert.AdamQIdeal.nD,
          r.2.mem ((c.tc : Thread Cert.AdamQIdeal.nD Cert.AdamQIdeal.τ).loc Cert.AdamQIdeal.main_v0_1) = v0 c
          ∧ r.2.mem ((c.tc : Thread Cert.AdamQIdeal.nD Cert.AdamQIdeal.τ).loc Cert.AdamQIdeal.main_v0_2) = v1 c
          ∧ r.2.mem ((c.tc : Thread Cert.AdamQIdeal.nD Cert.AdamQIdeal.τ).loc Cert.AdamQIdeal.main_v0_3) = v2 c
          ∧ r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
          ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
          ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
          ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ θ_run (Cert.AdamQRefIdeal.defs (F := Ideal)) (onTc (τ := Cert.AdamQRefIdeal.τ) (Cert.AdamQRefIdeal.main (F := Ideal))) ⟨m', fun _ => 0, g'⟩ (fun r => ∀ c : Dev Cert.AdamQRefIdeal.nD,
          r.2.mem ((c.tc : Thread Cert.AdamQRefIdeal.nD Cert.AdamQRefIdeal.τ).loc Cert.AdamQRefIdeal.main_v23) = v0 c
          ∧ r.2.mem ((c.tc : Thread Cert.AdamQRefIdeal.nD Cert.AdamQRefIdeal.τ).loc Cert.AdamQRefIdeal.main_v4) = v1 c
          ∧ r.2.mem ((c.tc : Thread Cert.AdamQRefIdeal.nD Cert.AdamQRefIdeal.τ).loc Cert.AdamQRefIdeal.main_v10) = v2 c
          ∧ r.2.mem ((c.tc : Thread Cert.AdamQRefIdeal.nD Cert.AdamQRefIdeal.τ).loc Cert.AdamQRefIdeal.main_arg0) = m' ((c.tc : Thread Cert.AdamQRefIdeal.nD Cert.AdamQRefIdeal.τ).loc Cert.AdamQRefIdeal.main_arg0)
          ∧ r.2.mem ((c.tc : Thread Cert.AdamQRefIdeal.nD Cert.AdamQRefIdeal.τ).loc Cert.AdamQRefIdeal.main_arg1) = m' ((c.tc : Thread Cert.AdamQRefIdeal.nD Cert.AdamQRefIdeal.τ).loc Cert.AdamQRefIdeal.main_arg1)
          ∧ r.2.mem ((c.tc : Thread Cert.AdamQRefIdeal.nD Cert.AdamQRefIdeal.τ).loc Cert.AdamQRefIdeal.main_arg2) = m' ((c.tc : Thread Cert.AdamQRefIdeal.nD Cert.AdamQRefIdeal.τ).loc Cert.AdamQRefIdeal.main_arg2)
          ∧ r.2.mem ((c.tc : Thread Cert.AdamQRefIdeal.nD Cert.AdamQRefIdeal.τ).loc Cert.AdamQRefIdeal.main_arg3) = m' ((c.tc : Thread Cert.AdamQRefIdeal.nD Cert.AdamQRefIdeal.τ).loc Cert.AdamQRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_1)) (v1 : (c : Dev Cert.AdamKvIdeal.nD) → Buf (Elt Ideal) ((c.tc : Thread Cert.AdamKvIdeal.nD Cert.AdamKvIdeal.τ).loc Cert.AdamKvIdeal.main_v0_2)) (v2 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_1) = v0 c
          ∧ r.2.mem ((c.tc : Thread Cert.AdamKvIdeal.nD Cert.AdamKvIdeal.τ).loc Cert.AdamKvIdeal.main_v0_2) = v1 c
          ∧ r.2.mem ((c.tc : Thread Cert.AdamKvIdeal.nD Cert.AdamKvIdeal.τ).loc Cert.AdamKvIdeal.main_v0_3) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def Claim : Prop :=
  ∃ (hKernel : Cert.Kernel.Facts) (hKernelIdeal : Cert.KernelIdeal.Facts) (hReferenceIdeal : Cert.ReferenceIdeal.Facts) (hMlaFwd : Cert.MlaFwd.Facts) (hMlaFwdIdeal : Cert.MlaFwdIdeal.Facts) (hMlaFwdRefIdeal : Cert.MlaFwdRefIdeal.Facts) (hDwIn : Cert.DwIn.Facts) (hDwInIdeal : Cert.DwInIdeal.Facts) (hDwInRefIdeal : Cert.DwInRefIdeal.Facts) (hDwOut : Cert.DwOut.Facts) (hDwOutIdeal : Cert.DwOutIdeal.Facts) (hDwOutRefIdeal : Cert.DwOutRefIdeal.Facts) (hDMixed : Cert.DMixed.Facts) (hDMixedIdeal : Cert.DMixedIdeal.Facts) (hDMixedRefIdeal : Cert.DMixedRefIdeal.Facts) (hProjB : Cert.ProjB.Facts) (hProjBIdeal : Cert.ProjBIdeal.Facts) (hProjBRefIdeal : Cert.ProjBRefIdeal.Facts) (hProjF : Cert.ProjF.Facts) (hProjFIdeal : Cert.ProjFIdeal.Facts) (hProjFRefIdeal : Cert.ProjFRefIdeal.Facts) (hDwQ : Cert.DwQ.Facts) (hDwQIdeal : Cert.DwQIdeal.Facts) (hDwQRefIdeal : Cert.DwQRefIdeal.Facts) (hDwK : Cert.DwK.Facts) (hDwKIdeal : Cert.DwKIdeal.Facts) (hDwKRefIdeal : Cert.DwKRefIdeal.Facts) (hDwV : Cert.DwV.Facts) (hDwVIdeal : Cert.DwVIdeal.Facts) (hDwVRefIdeal : Cert.DwVRefIdeal.Facts) (hPrenorm : Cert.Prenorm.Facts) (hPrenormIdeal : Cert.PrenormIdeal.Facts) (hPrenormRefIdeal : Cert.PrenormRefIdeal.Facts) (hMlaPrep : Cert.MlaPrep.Facts) (hMlaPrepIdeal : Cert.MlaPrepIdeal.Facts) (hMlaPrepRefIdeal : Cert.MlaPrepRefIdeal.Facts) (hOutPost : Cert.OutPost.Facts) (hOutPostIdeal : Cert.OutPostIdeal.Facts) (hOutPostRefIdeal : Cert.OutPostRefIdeal.Facts) (hAdamOut : Cert.AdamOut.Facts) (hAdamOutIdeal : Cert.AdamOutIdeal.Facts) (hAdamOutRefIdeal : Cert.AdamOutRefIdeal.Facts) (hAdamIn : Cert.AdamIn.Facts) (hAdamInIdeal : Cert.AdamInIdeal.Facts) (hAdamInRefIdeal : Cert.AdamInRefIdeal.Facts) (hAdamQ : Cert.AdamQ.Facts) (hAdamQIdeal : Cert.AdamQIdeal.Facts) (hAdamQRefIdeal : Cert.AdamQRefIdeal.Facts) (hAdamKv : Cert.AdamKv.Facts) (hAdamKvIdeal : Cert.AdamKvIdeal.Facts) (hAdamKvRefIdeal : Cert.AdamKvRefIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MlaFwd (hMlaFwd := hMlaFwd)
    ∧ quiescent_MlaFwdIdeal (hMlaFwdIdeal := hMlaFwdIdeal)
    ∧ quiescent_MlaFwdIdeal_pre_finite_fwd (hMlaFwdIdeal := hMlaFwdIdeal) (hPre_finite_fwd := hPre_finite_fwd)
    ∧ quiescent_MlaFwdRefIdeal (hMlaFwdRefIdeal := hMlaFwdRefIdeal)
    ∧ quiescent_MlaFwdRefIdeal_pre_finite_fwd (hMlaFwdRefIdeal := hMlaFwdRefIdeal) (hPre_finite_fwd := hPre_finite_fwd)
    ∧ quiescent_DwIn (hDwIn := hDwIn)
    ∧ quiescent_DwInIdeal (hDwInIdeal := hDwInIdeal)
    ∧ quiescent_DwInRefIdeal (hDwInRefIdeal := hDwInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DMixed (hDMixed := hDMixed)
    ∧ quiescent_DMixedIdeal (hDMixedIdeal := hDMixedIdeal)
    ∧ quiescent_DMixedRefIdeal (hDMixedRefIdeal := hDMixedRefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_ProjF (hProjF := hProjF)
    ∧ quiescent_ProjFIdeal (hProjFIdeal := hProjFIdeal)
    ∧ quiescent_ProjFRefIdeal (hProjFRefIdeal := hProjFRefIdeal)
    ∧ quiescent_DwQ (hDwQ := hDwQ)
    ∧ quiescent_DwQIdeal (hDwQIdeal := hDwQIdeal)
    ∧ quiescent_DwQRefIdeal (hDwQRefIdeal := hDwQRefIdeal)
    ∧ quiescent_DwK (hDwK := hDwK)
    ∧ quiescent_DwKIdeal (hDwKIdeal := hDwKIdeal)
    ∧ quiescent_DwKRefIdeal (hDwKRefIdeal := hDwKRefIdeal)
    ∧ quiescent_DwV (hDwV := hDwV)
    ∧ quiescent_DwVIdeal (hDwVIdeal := hDwVIdeal)
    ∧ quiescent_DwVRefIdeal (hDwVRefIdeal := hDwVRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_MlaPrep (hMlaPrep := hMlaPrep)
    ∧ quiescent_MlaPrepIdeal (hMlaPrepIdeal := hMlaPrepIdeal)
    ∧ quiescent_MlaPrepRefIdeal (hMlaPrepRefIdeal := hMlaPrepRefIdeal)
    ∧ quiescent_OutPost (hOutPost := hOutPost)
    ∧ quiescent_OutPostIdeal (hOutPostIdeal := hOutPostIdeal)
    ∧ quiescent_OutPostRefIdeal (hOutPostRefIdeal := hOutPostRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamQ (hAdamQ := hAdamQ)
    ∧ quiescent_AdamQIdeal (hAdamQIdeal := hAdamQIdeal)
    ∧ quiescent_AdamQRefIdeal (hAdamQRefIdeal := hAdamQRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MlaFwd_MlaFwdIdeal
    ∧ algebraic_MlaFwdIdeal_MlaFwdRefIdeal_pre_finite_fwd (hMlaFwdIdeal := hMlaFwdIdeal) (hMlaFwdRefIdeal := hMlaFwdRefIdeal) (hPre_finite_fwd := hPre_finite_fwd)
    ∧ preserves_DwIn_DwInIdeal
    ∧ algebraic_DwInIdeal_DwInRefIdeal (hDwInIdeal := hDwInIdeal) (hDwInRefIdeal := hDwInRefIdeal)
    ∧ preserves_DwOut_DwOutIdeal
    ∧ algebraic_DwOutIdeal_DwOutRefIdeal (hDwOutIdeal := hDwOutIdeal) (hDwOutRefIdeal := hDwOutRefIdeal)
    ∧ preserves_DMixed_DMixedIdeal
    ∧ algebraic_DMixedIdeal_DMixedRefIdeal (hDMixedIdeal := hDMixedIdeal) (hDMixedRefIdeal := hDMixedRefIdeal)
    ∧ preserves_ProjB_ProjBIdeal
    ∧ algebraic_ProjBIdeal_ProjBRefIdeal (hProjBIdeal := hProjBIdeal) (hProjBRefIdeal := hProjBRefIdeal)
    ∧ preserves_ProjF_ProjFIdeal
    ∧ algebraic_ProjFIdeal_ProjFRefIdeal (hProjFIdeal := hProjFIdeal) (hProjFRefIdeal := hProjFRefIdeal)
    ∧ preserves_DwQ_DwQIdeal
    ∧ algebraic_DwQIdeal_DwQRefIdeal (hDwQIdeal := hDwQIdeal) (hDwQRefIdeal := hDwQRefIdeal)
    ∧ preserves_DwK_DwKIdeal
    ∧ algebraic_DwKIdeal_DwKRefIdeal (hDwKIdeal := hDwKIdeal) (hDwKRefIdeal := hDwKRefIdeal)
    ∧ preserves_DwV_DwVIdeal
    ∧ algebraic_DwVIdeal_DwVRefIdeal (hDwVIdeal := hDwVIdeal) (hDwVRefIdeal := hDwVRefIdeal)
    ∧ preserves_Prenorm_PrenormIdeal
    ∧ algebraic_PrenormIdeal_PrenormRefIdeal (hPrenormIdeal := hPrenormIdeal) (hPrenormRefIdeal := hPrenormRefIdeal)
    ∧ preserves_MlaPrep_MlaPrepIdeal
    ∧ algebraic_MlaPrepIdeal_MlaPrepRefIdeal (hMlaPrepIdeal := hMlaPrepIdeal) (hMlaPrepRefIdeal := hMlaPrepRefIdeal)
    ∧ preserves_OutPost_OutPostIdeal
    ∧ algebraic_OutPostIdeal_OutPostRefIdeal (hOutPostIdeal := hOutPostIdeal) (hOutPostRefIdeal := hOutPostRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamIn_AdamInIdeal
    ∧ algebraic_AdamInIdeal_AdamInRefIdeal (hAdamInIdeal := hAdamInIdeal) (hAdamInRefIdeal := hAdamInRefIdeal)
    ∧ preserves_AdamQ_AdamQIdeal
    ∧ algebraic_AdamQIdeal_AdamQRefIdeal (hAdamQIdeal := hAdamQIdeal) (hAdamQRefIdeal := hAdamQRefIdeal)
    ∧ preserves_AdamKv_AdamKvIdeal
    ∧ algebraic_AdamKvIdeal_AdamKvRefIdeal (hAdamKvIdeal := hAdamKvIdeal) (hAdamKvRefIdeal := hAdamKvRefIdeal)
-- ==== Pre_finite.lean ====
abbrev S8x8192x192 : Shape := ⟨3, ![8, 8192, 192]⟩
abbrev S8x8192x128 : Shape := ⟨3, ![8, 8192, 128]⟩
abbrev S8192x3072 : Shape := ⟨2, ![8192, 3072]⟩
abbrev S8192x2048 : Shape := ⟨2, ![8192, 2048]⟩
abbrev S_ : Shape := ⟨0, ![]⟩

class Facts : Prop where
  bcast_S_S8x8192x192 : S_.BroadcastsInDim S8x8192x192 (![] : Fin 0 → Fin S8x8192x192.rank)
  bcast_S_S8x8192x128 : S_.BroadcastsInDim S8x8192x128 (![] : Fin 0 → Fin S8x8192x128.rank)
  bcast_S_S8192x3072 : S_.BroadcastsInDim S8192x3072 (![] : Fin 0 → Fin S8192x3072.rank)
  bcast_S_S8192x2048 : S_.BroadcastsInDim S8192x2048 (![] : Fin 0 → Fin S8192x2048.rank)

variable [Facts]

def fn {F : FTy → Type} [FloatOps F] (main_arg0 : FVec F S8x8192x192 .bf16) (main_arg1 : FVec F S8x8192x192 .bf16) (main_arg2 : FVec F S8x8192x128 .bf16) (main_arg3 : FVec F S8192x3072 .f32) (main_arg4 : FVec F S8192x2048 .f32) : IVec S8x8192x192 1 × IVec S8x8192x192 1 × IVec S8x8192x128 1 × IVec S8192x3072 1 × IVec S8192x2048 1 :=
  let main_v0 : FVec F S8x8192x192 .bf16 := Host.absf main_arg0
  let main_cst : FVec F S_ .bf16 := constant S_ .bf16 0x7F80#16
  let main_v1 : FVec F S8x8192x192 .bf16 := broadcastInDim S8x8192x192 ![] bcast_S_S8x8192x192 main_cst
  let main_v2 : IVec S8x8192x192 1 := cmpf .olt main_v0 main_v1
  let main_v3 : FVec F S8x8192x192 .bf16 := Host.absf main_arg1
  let main_cst_0 : FVec F S_ .bf16 := constant S_ .bf16 0x7F80#16
  let main_v4 : FVec F S8x8192x192 .bf16 := broadcastInDim S8x8192x192 ![] bcast_S_S8x8192x192 main_cst_0
  let main_v5 : IVec S8x8192x192 1 := cmpf .olt main_v3 main_v4
  let main_v6 : FVec F S8x8192x128 .bf16 := Host.absf main_arg2
  let main_cst_1 : FVec F S_ .bf16 := constant S_ .bf16 0x7F80#16
  let main_v7 : FVec F S8x8192x128 .bf16 := broadcastInDim S8x8192x128 ![] bcast_S_S8x8192x128 main_cst_1
  let main_v8 : IVec S8x8192x128 1 := cmpf .olt main_v6 main_v7
  let main_v9 : FVec F S8192x3072 .f32 := Host.absf main_arg3
  let main_cst_2 : FVec F S_ .f32 := constant S_ .f32 0x7F800000#32
  let main_v10 : FVec F S8192x3072 .f32 := broadcastInDim S8192x3072 ![] bcast_S_S8192x3072 main_cst_2
  let main_v11 : IVec S8192x3072 1 := cmpf .olt main_v9 main_v10
  let main_v12 : FVec F S8192x2048 .f32 := Host.absf main_arg4
  let main_cst_3 : FVec F S_ .f32 := constant S_ .f32 0x7F800000#32
  let main_v13 : FVec F S8192x2048 .f32 := broadcastInDim S8192x2048 ![] bcast_S_S8192x2048 main_cst_3
  let main_v14 : IVec S8192x2048 1 := cmpf .olt main_v12 main_v13
  (main_v2, main_v5, main_v8, main_v11, main_v14)
-- ==== Pre_finite_fwd.lean ====
abbrev S8x8192x192 : Shape := ⟨3, ![8, 8192, 192]⟩
abbrev S8x8192x128 : Shape := ⟨3, ![8, 8192, 128]⟩
abbrev S_ : Shape := ⟨0, ![]⟩

class Facts : Prop where
  bcast_S_S8x8192x192 : S_.BroadcastsInDim S8x8192x192 (![] : Fin 0 → Fin S8x8192x192.rank)
  bcast_S_S8x8192x128 : S_.BroadcastsInDim S8x8192x128 (![] : Fin 0 → Fin S8x8192x128.rank)

variable [Facts]

def fn {F : FTy → Type} [FloatOps F] (main_arg0 : FVec F S8x8192x192 .bf16) (main_arg1 : FVec F S8x8192x192 .bf16) (main_arg2 : FVec F S8x8192x128 .bf16) : IVec S8x8192x192 1 × IVec S8x8192x192 1 × IVec S8x8192x128 1 :=
  let main_v0 : FVec F S8x8192x192 .bf16 := Host.absf main_arg0
  let main_cst : FVec F S_ .bf16 := constant S_ .bf16 0x7F80#16
  let main_v1 : FVec F S8x8192x192 .bf16 := broadcastInDim S8x8192x192 ![] bcast_S_S8x8192x192 main_cst
  let main_v2 : IVec S8x8192x192 1 := cmpf .olt main_v0 main_v1
  let main_v3 : FVec F S8x8192x192 .bf16 := Host.absf main_arg1
  let main_cst_0 : FVec F S_ .bf16 := constant S_ .bf16 0x7F80#16
  let main_v4 : FVec F S8x8192x192 .bf16 := broadcastInDim S8x8192x192 ![] bcast_S_S8x8192x192 main_cst_0
  let main_v5 : IVec S8x8192x192 1 := cmpf .olt main_v3 main_v4
  let main_v6 : FVec F S8x8192x128 .bf16 := Host.absf main_arg2
  let main_cst_1 : FVec F S_ .bf16 := constant S_ .bf16 0x7F80#16
  let main_v7 : FVec F S8x8192x128 .bf16 := broadcastInDim S8x8192x128 ![] bcast_S_S8x8192x128 main_cst_1
  let main_v8 : IVec S8x8192x128 1 := cmpf .olt main_v6 main_v7
  (main_v2, main_v5, main_v8)
-- ==== Kernel.lean ====
abbrev S8x8192x192 : Shape := ⟨3, ![8, 8192, 192]⟩
abbrev S8x8192x128 : Shape := ⟨3, ![8, 8192, 128]⟩
abbrev S8192x3072 : Shape := ⟨2, ![8192, 3072]⟩
abbrev S8192x2048 : Shape := ⟨2, ![8192, 2048]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8x8x8192 : Shape := ⟨3, ![8, 8, 8192]⟩
abbrev S64x8192 : Shape := ⟨2, ![64, 8192]⟩
abbrev S8x8192x256 : Shape := ⟨3, ![8, 8192, 256]⟩
abbrev S8192x8x256 : Shape := ⟨3, ![8192, 8, 256]⟩
abbrev S8192x8x128 : Shape := ⟨3, ![8192, 8, 128]⟩
abbrev S8192x1024 : Shape := ⟨2, ![8192, 1024]⟩
abbrev S1024x256 : Shape := ⟨2, ![1024, 256]⟩
abbrev S8192x256 : Shape := ⟨2, ![8192, 256]⟩
abbrev S8192x128 : Shape := ⟨2, ![8192, 128]⟩
abbrev S1024x128 : Shape := ⟨2, ![1024, 128]⟩
abbrev S8x1024 : Shape := ⟨2, ![8, 1024]⟩
abbrev S256x1024 : Shape := ⟨2, ![256, 1024]⟩
abbrev S128x1024 : Shape := ⟨2, ![128, 1024]⟩
abbrev S1024 : Shape := ⟨1, ![1024]⟩
abbrev S1x1024 : Shape := ⟨2, ![1, 1024]⟩
abbrev S256x768 : Shape := ⟨2, ![256, 768]⟩
abbrev S256x512 : Shape := ⟨2, ![256, 512]⟩
abbrev S256x256 : Shape := ⟨2, ![256, 256]⟩
abbrev S256x128 : Shape := ⟨2, ![256, 128]⟩
abbrev S768x256 : Shape := ⟨2, ![768, 256]⟩
abbrev S1x768 : Shape := ⟨2, ![1, 768]⟩
abbrev S768x128 : Shape := ⟨2, ![768, 128]⟩
abbrev S512x256 : Shape := ⟨2, ![512, 256]⟩
abbrev S1x512 : Shape := ⟨2, ![1, 512]⟩
abbrev S512x128 : Shape := ⟨2, ![512, 128]⟩
abbrev S1x256 : Shape := ⟨2, ![1, 256]⟩

abbrev nBuf : Space → Nat
  | .hbm => 75
  | .vmem => 24
  | .smem => 0
  | _ => 0

abbrev bufTy : (tb : Table) → Fin (tcTables nBuf tb) → BufTy
  | .hbm, ⟨0, _⟩ => ⟨S8x8192x192, .bf16⟩
  | .hbm, ⟨1, _⟩ => ⟨S8x8192x192, .bf16⟩
  | .hbm, ⟨2, _⟩ => ⟨S8x8192x128, .bf16⟩
  | .hbm, ⟨3, _⟩ => ⟨S8192x3072, .f32⟩
  | .hbm, ⟨4, _⟩ => ⟨S8192x2048, .f32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8192, .i32⟩
  | .hbm, ⟨10, _⟩ => ⟨S_, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S1x8192, .i32⟩
  | .hbm, ⟨29, _⟩ => ⟨S8192x1, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S_, .f32⟩
  | .hbm, ⟨34, _⟩ => ⟨S_, .f32⟩
  | .hbm, ⟨35, _⟩ => ⟨S8x8192x8192, .i1⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S8x8192x8192, .f32⟩
  | .hbm, ⟨42, _⟩ => ⟨S8x8192x8192, .f32⟩
  | .hbm, ⟨43, _⟩ => ⟨S8x8192x8192, .f32⟩
  | .hbm, ⟨44, _⟩ => ⟨S_, .f32⟩
  | .hbm, ⟨45, _⟩ => ⟨S8x8192, .f32⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x8192x8192, .bf16⟩
  | .hbm, ⟨50, _⟩ => ⟨S8x8192x128, .f32⟩
  | .hbm, ⟨51, _⟩ => ⟨S8x8192x1, .f32⟩
  | .hbm, ⟨52, _⟩ => ⟨S8x8192x1, .f32⟩
  | .hbm, ⟨53, _⟩ => ⟨S8x8192, .f32⟩
  | .hbm, ⟨54, _⟩ => ⟨S8x1x8192, .f32⟩
  | .hbm, ⟨55, _⟩ => ⟨S8x8x8192, .f32⟩
  | .hbm, ⟨56, _⟩ => ⟨S64x8192, .f32⟩
  | .hbm, ⟨57, _⟩ => ⟨S_, .i32⟩
  | .hbm, ⟨58, _⟩ => ⟨S_, .bf16⟩
  | .hbm, ⟨59, _⟩ => ⟨S8x8192x256, .bf16⟩
  | .hbm, ⟨60, _⟩ => ⟨S8192x8x256, .bf16⟩
  | .hbm, ⟨61, _⟩ => ⟨S8192x2048, .bf16⟩
  | .hbm, ⟨62, _⟩ => ⟨S_, .i32⟩
  | .hbm, ⟨63, _⟩ => ⟨S_, .bf16⟩
  | .hbm, ⟨64, _⟩ => ⟨S8x8192x256, .bf16⟩
  | .hbm, ⟨65, _⟩ => ⟨S8192x8x256, .bf16⟩
  | .hbm, ⟨66, _⟩ => ⟨S8192x2048, .bf16⟩
  | .hbm, ⟨67, _⟩ => ⟨S8192x8x128, .bf16⟩
  | .hbm, ⟨68, _⟩ => ⟨S8192x1024, .bf16⟩
  | .hbm, ⟨69, _⟩ => ⟨S8192x8x128, .f32⟩
  | .hbm, ⟨70, _⟩ => ⟨S8192x1024, .f32⟩
  | .hbm, ⟨71, _⟩ => ⟨S8192x2048, .f32⟩
  | .hbm, ⟨72, _⟩ => ⟨S8192x2048, .f32⟩
  | .hbm, ⟨73, _⟩ => ⟨S8192x1024, .bf16⟩
  | .hbm, ⟨74, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S8x1024, .f32⟩
  | .local _ .vmem, ⟨13, _⟩ => ⟨S8x1024, .f32⟩
  | .local _ .vmem, ⟨14, _⟩ => ⟨S1024x256, .f32⟩
  | .local _ .vmem, ⟨15, _⟩ => ⟨S1024x256, .f32⟩
  | .local _ .vmem, ⟨16, _⟩ => ⟨S8192x256, .f32⟩
  | .local _ .vmem, ⟨17, _⟩ => ⟨S8192x256, .f32⟩
  | .local _ .vmem, ⟨18, _⟩ => ⟨S8192x128, .bf16⟩
  | .local _ .vmem, ⟨19, _⟩ => ⟨S8192x128, .bf16⟩
  | .local _ .vmem, ⟨20, _⟩ => ⟨S1024x128, .bf16⟩
  | .local _ .vmem, ⟨21, _⟩ => ⟨S1024x128, .bf16⟩
  | .local _ .vmem, ⟨22, _⟩ => ⟨S8192x128, .f32⟩
  | .local _ .vmem, ⟨23, _⟩ => ⟨S256x1024, .f32⟩
  | _, _ => ⟨S8x8192x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_3 : Ref sig .tc := ⟨.hbm, 57, rfl⟩
abbrev main_call2_v0 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_4 : Ref sig .tc := ⟨.hbm, 62, rfl⟩
abbrev main_call3_v0 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38_0 : Ref sig .tc := ⟨.hbm, 71, rfl⟩
abbrev main_v38_1 : Ref sig .tc := ⟨.hbm, 72, rfl⟩
abbrev main_v38_2 : Ref sig .tc := ⟨.hbm, 73, rfl⟩
abbrev main_v38_3 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_84 : BitVec 32 := 0#32
  let arg1 : BitVec 32 := BitVec.ofNat 32 (i 1).val
  let c4_i32 : BitVec 32 := 4#32
  let v253 : BitVec 32 := Scalar.muli arg1 c4_i32
  let c0_i32_77 : BitVec 32 := 0#32
  let v255 : BitVec 1 := Scalar.cmpi .sgt v253 c0_i32_77
  let v256 : BitVec 32 := Scalar.extui v255
  let c0_i32_78 : BitVec 32 := 0#32
  let v257 : BitVec 1 := Scalar.cmpi .slt v253 c0_i32_78
  let v258 : BitVec 32 := Scalar.extui v257
  let v259 : BitVec 32 := Scalar.subi v256 v258
  let c4_i32_76 : BitVec 32 := 4#32
  let c0_i32_79 : BitVec 32 := 0#32
  let v260 : BitVec 1 := Scalar.cmpi .sgt c4_i32_76 c0_i32_79
  let v261 : BitVec 32 := Scalar.extui v260
  let c0_i32_80 : BitVec 32 := 0#32
  let v262 : BitVec 1 := Scalar.cmpi .slt c4_i32_76 c0_i32_80
  let v263 : BitVec 32 := Scalar.extui v262
  let v264 : BitVec 32 := Scalar.subi v261 v263
  let v265 : BitVec 1 := Scalar.cmpi .ne v259 v264
  let v266 : BitVec 32 := Scalar.remsi v253 c4_i32_76
  let c0_i32_81 : BitVec 32 := 0#32
  let v267 : BitVec 1 := Scalar.cmpi .ne v266 c0_i32_81
  let v268 : BitVec 1 := Scalar.andi v265 v267
  let v254 : BitVec 32 := Scalar.divsi v253 c4_i32_76
  let c1_i32_82 : BitVec 32 := 1#32
  let v269 : BitVec 32 := Scalar.subi v254 c1_i32_82
  let v270 : BitVec 32 := Scalar.select v268 v269 v254
  let v271 : BitVec 32 := Scalar.subi v270 c0_i32_84
  let c1_i32_85 : BitVec 32 := 1#32
  let v273 : BitVec 32 := Scalar.divsi v271 c1_i32_85
  let v274 : BitVec 32 := Scalar.muli v273 c1_i32_85
  let v275 : BitVec 32 := Scalar.addi c0_i32_84 v274
  let c1_i32_86 : BitVec 32 := 1#32
  ⟨c0_i32_84, v275, c1_i32_86⟩
def k0_mult1 (i : grid0.Coords) (k0_t1 : Fin (k0_t1_loop i).trips) : BitVec 32 :=
  let c0_i32_84 : BitVec 32 := 0#32
  let c1_i32_86 : BitVec 32 := 1#32
  let arg15 : BitVec 32 := Scf.iv c0_i32_84 c1_i32_86 k0_t1
  let c4_i32_172 : BitVec 32 := 4#32
  let v488 : BitVec 32 := Scalar.muli arg15 c4_i32_172
  let c0_i32_173 : BitVec 32 := 0#32
  let v489 : BitVec 32 := Scalar.addi v488 c0_i32_173
  let c256_i32_174 : BitVec 32 := 256#32
  let v490 : BitVec 32 := Scalar.muli v489 c256_i32_174
  v490
def k0_off1 (i : grid0.Coords) (k0_t1 : Fin (k0_t1_loop i).trips) (c0_i32_173 : BitVec 32) : Fin 2 → Nat :=
  let c0_i32_84 : BitVec 32 := 0#32
  let c1_i32_86 : BitVec 32 := 1#32
  let arg15 : BitVec 32 := Scf.iv c0_i32_84 c1_i32_86 k0_t1
  let c4_i32_172 : BitVec 32 := 4#32
  let v488 : BitVec 32 := Scalar.muli arg15 c4_i32_172
  let v489 : BitVec 32 := Scalar.addi v488 c0_i32_173
  let c256_i32_174 : BitVec 32 := 256#32
  let v490 : BitVec 32 := Scalar.muli v489 c256_i32_174
  let v491 : BitVec 32 := v490
  let v492 : Index := Scalar.indexCast v491
  let c0_175 : Index := 0#32
  ![v492.toNat, 0]
def k0_off2 (i : grid0.Coords) (k0_t1 : Fin (k0_t1_loop i).trips) (c0_i32_173 : BitVec 32) : Fin 2 → Nat :=
  let c0_i32_84 : BitVec 32 := 0#32
  let c1_i32_86 : BitVec 32 := 1#32
  let arg15 : BitVec 32 := Scf.iv c0_i32_84 c1_i32_86 k0_t1
  let c4_i32_172 : BitVec 32 := 4#32
  let v488 : BitVec 32 := Scalar.muli arg15 c4_i32_172
  let v489 : BitVec 32 := Scalar.addi v488 c0_i32_173
  let c256_i32_174 : BitVec 32 := 256#32
  let v490 : BitVec 32 := Scalar.muli v489 c256_i32_174
  let v491 : BitVec 32 := v490
  let v501 : Index := Scalar.indexCast v491
  let c0_178 : Index := 0#32
  ![v501.toNat, 0]
def k0_mult2 (i : grid0.Coords) (k0_t1 : Fin (k0_t1_loop i).trips) : BitVec 32 :=
  let c0_i32_84 : BitVec 32 := 0#32
  let c1_i32_86 : BitVec 32 := 1#32
  let arg15 : BitVec 32 := Scf.iv c0_i32_84 c1_i32_86 k0_t1
  let c4_i32_192 : BitVec 32 := 4#32
  let v533 : BitVec 32 := Scalar.muli arg15 c4_i32_192
  let c1_i32_193 : BitVec 32 := 1#32
  let v534 : BitVec 32 := Scalar.addi v533 c1_i32_193
  let c256_i32_194 : BitVec 32 := 256#32
  let v535 : BitVec 32 := Scalar.muli v534 c256_i32_194
  v535
def k0_mult3 (i : grid0.Coords) (k0_t1 : Fin (k0_t1_loop i).trips) : BitVec 32 :=
  let c0_i32_84 : BitVec 32 := 0#32
  let c1_i32_86 : BitVec 32 := 1#32
  let arg15 : BitVec 32 := Scf.iv c0_i32_84 c1_i32_86 k0_t1
  let c4_i32_212 : BitVec 32 := 4#32
  let v578 : BitVec 32 := Scalar.muli arg15 c4_i32_212
  let c2_i32_213 : BitVec 32 := 2#32
  let v579 : BitVec 32 := Scalar.addi v578 c2_i32_213
  let c256_i32_214 : BitVec 32 := 256#32
  let v580 : BitVec 32 := Scalar.muli v579 c256_i32_214
  v580
def k0_mult4 (i : grid0.Coords) (k0_t1 : Fin (k0_t1_loop i).trips) : BitVec 32 :=
  let c0_i32_84 : BitVec 32 := 0#32
  let c1_i32_86 : BitVec 32 := 1#32
  let arg15 : BitVec 32 := Scf.iv c0_i32_84 c1_i32_86 k0_t1
  let c4_i32_232 : BitVec 32 := 4#32
  let v623 : BitVec 32 := Scalar.muli arg15 c4_i32_232
  let c3_i32_233 : BitVec 32 := 3#32
  let v624 : BitVec 32 := Scalar.addi v623 c3_i32_233
  let c256_i32_234 : BitVec 32 := 256#32
  let v625 : BitVec 32 := Scalar.muli v624 c256_i32_234
  v625
@[reducible] def k0_t2_loop (i : grid0.Coords) : Scf.Loop 32 :=
  let c0_i32_84 : BitVec 32 := 0#32
  let arg1 : BitVec 32 := BitVec.ofNat 32 (i 1).val
  let c4_i32 : BitVec 32 := 4#32
  let v253 : BitVec 32 := Scalar.muli arg1 c4_i32
  let c0_i32_77 : BitVec 32 := 0#32
  let v255 : BitVec 1 := Scalar.cmpi .sgt v253 c0_i32_77
  let v256 : BitVec 32 := Scalar.extui v255
  let c0_i32_78 : BitVec 32 := 0#32
  let v257 : BitVec 1 := Scalar.cmpi .slt v253 c0_i32_78
  let v258 : BitVec 32 := Scalar.extui v257
  let v259 : BitVec 32 := Scalar.subi v256 v258
  let c4_i32_76 : BitVec 32 := 4#32
  let c0_i32_79 : BitVec 32 := 0#32
  let v260 : BitVec 1 := Scalar.cmpi .sgt c4_i32_76 c0_i32_79
  let v261 : BitVec 32 := Scalar.extui v260
  let c0_i32_80 : BitVec 32 := 0#32
  let v262 : BitVec 1 := Scalar.cmpi .slt c4_i32_76 c0_i32_80
  let v263 : BitVec 32 := Scalar.extui v262
  let v264 : BitVec 32 := Scalar.subi v261 v263
  let v265 : BitVec 1 := Scalar.cmpi .ne v259 v264
  let v266 : BitVec 32 := Scalar.remsi v253 c4_i32_76
  let c0_i32_81 : BitVec 32 := 0#32
  let v267 : BitVec 1 := Scalar.cmpi .ne v266 c0_i32_81
  let v268 : BitVec 1 := Scalar.andi v265 v267
  let v254 : BitVec 32 := Scalar.divsi v253 c4_i32_76
  let c1_i32_82 : BitVec 32 := 1#32
  let v269 : BitVec 32 := Scalar.subi v254 c1_i32_82
  let v270 : BitVec 32 := Scalar.select v268 v269 v254
  let v271 : BitVec 32 := Scalar.subi v270 c0_i32_84
  let c1_i32_85 : BitVec 32 := 1#32
  let v273 : BitVec 32 := Scalar.divsi v271 c1_i32_85
  let v274 : BitVec 32 := Scalar.muli v273 c1_i32_85
  let v275 : BitVec 32 := Scalar.addi c0_i32_84 v274
  let v272 : BitVec 32 := Scalar.addi c0_i32_84 v271
  let c1_i32_87 : BitVec 32 := 1#32
  ⟨v275, v272, c1_i32_87⟩
def k0_mult5 (i : grid0.Coords) (k0_t2 : Fin (k0_t2_loop i).trips) : BitVec 32 :=
  let c0_i32_84 : BitVec 32 := 0#32
  let arg1 : BitVec 32 := BitVec.ofNat 32 (i 1).val
  let c4_i32 : BitVec 32 := 4#32
  let v253 : BitVec 32 := Scalar.muli arg1 c4_i32
  let c0_i32_77 : BitVec 32 := 0#32
  let v255 : BitVec 1 := Scalar.cmpi .sgt v253 c0_i32_77
  let v256 : BitVec 32 := Scalar.extui v255
  let c0_i32_78 : BitVec 32 := 0#32
  let v257 : BitVec 1 := Scalar.cmpi .slt v253 c0_i32_78
  let v258 : BitVec 32 := Scalar.extui v257
  let v259 : BitVec 32 := Scalar.subi v256 v258
  let c4_i32_76 : BitVec 32 := 4#32
  let c0_i32_79 : BitVec 32 := 0#32
  let v260 : BitVec 1 := Scalar.cmpi .sgt c4_i32_76 c0_i32_79
  let v261 : BitVec 32 := Scalar.extui v260
  let c0_i32_80 : BitVec 32 := 0#32
  let v262 : BitVec 1 := Scalar.cmpi .slt c4_i32_76 c0_i32_80
  let v263 : BitVec 32 := Scalar.extui v262
  let v264 : BitVec 32 := Scalar.subi v261 v263
  let v265 : BitVec 1 := Scalar.cmpi .ne v259 v264
  let v266 : BitVec 32 := Scalar.remsi v253 c4_i32_76
  let c0_i32_81 : BitVec 32 := 0#32
  let v267 : BitVec 1 := Scalar.cmpi .ne v266 c0_i32_81
  let v268 : BitVec 1 := Scalar.andi v265 v267
  let v254 : BitVec 32 := Scalar.divsi v253 c4_i32_76
  let c1_i32_82 : BitVec 32 := 1#32
  let v269 : BitVec 32 := Scalar.subi v254 c1_i32_82
  let v270 : BitVec 32 := Scalar.select v268 v269 v254
  let v271 : BitVec 32 := Scalar.subi v270 c0_i32_84
  let c1_i32_85 : BitVec 32 := 1#32
  let v273 : BitVec 32 := Scalar.divsi v271 c1_i32_85
  let v274 : BitVec 32 := Scalar.muli v273 c1_i32_85
  let v275 : BitVec 32 := Scalar.addi c0_i32_84 v274
  let c1_i32_87 : BitVec 32 := 1#32
  let arg15 : BitVec 32 := Scf.iv v275 c1_i32_87 k0_t2
  let c4_i32_172 : BitVec 32 := 4#32
  let v488 : BitVec 32 := Scalar.muli arg15 c4_i32_172
  let c0_i32_173 : BitVec 32 := 0#32
  let v489 : BitVec 32 := Scalar.addi v488 c0_i32_173
  let c256_i32_174 : BitVec 32 := 256#32
  let v490 : BitVec 32 := Scalar.muli v489 c256_i32_174
  v490
def k0_off3 (i : grid0.Coords) (k0_t2 : Fin (k0_t2_loop i).trips) (c0_i32_173 : BitVec 32) : Fin 2 → Nat :=
  let c0_i32_84 : BitVec 32 := 0#32
  let arg1 : BitVec 32 := BitVec.ofNat 32 (i 1).val
  let c4_i32 : BitVec 32 := 4#32
  let v253 : BitVec 32 := Scalar.muli arg1 c4_i32
  let c0_i32_77 : BitVec 32 := 0#32
  let v255 : BitVec 1 := Scalar.cmpi .sgt v253 c0_i32_77
  let v256 : BitVec 32 := Scalar.extui v255
  let c0_i32_78 : BitVec 32 := 0#32
  let v257 : BitVec 1 := Scalar.cmpi .slt v253 c0_i32_78
  let v258 : BitVec 32 := Scalar.extui v257
  let v259 : BitVec 32 := Scalar.subi v256 v258
  let c4_i32_76 : BitVec 32 := 4#32
  let c0_i32_79 : BitVec 32 := 0#32
  let v260 : BitVec 1 := Scalar.cmpi .sgt c4_i32_76 c0_i32_79
  let v261 : BitVec 32 := Scalar.extui v260
  let c0_i32_80 : BitVec 32 := 0#32
  let v262 : BitVec 1 := Scalar.cmpi .slt c4_i32_76 c0_i32_80
  let v263 : BitVec 32 := Scalar.extui v262
  let v264 : BitVec 32 := Scalar.subi v261 v263
  let v265 : BitVec 1 := Scalar.cmpi .ne v259 v264
  let v266 : BitVec 32 := Scalar.remsi v253 c4_i32_76
  let c0_i32_81 : BitVec 32 := 0#32
  let v267 : BitVec 1 := Scalar.cmpi .ne v266 c0_i32_81
  let v268 : BitVec 1 := Scalar.andi v265 v267
  let v254 : BitVec 32 := Scalar.divsi v253 c4_i32_76
  let c1_i32_82 : BitVec 32 := 1#32
  let v269 : BitVec 32 := Scalar.subi v254 c1_i32_82
  let v270 : BitVec 32 := Scalar.select v268 v269 v254
  let v271 : BitVec 32 := Scalar.subi v270 c0_i32_84
  let c1_i32_85 : BitVec 32 := 1#32
  let v273 : BitVec 32 := Scalar.divsi v271 c1_i32_85
  let v274 : BitVec 32 := Scalar.muli v273 c1_i32_85
  let v275 : BitVec 32 := Scalar.addi c0_i32_84 v274
  let c1_i32_87 : BitVec 32 := 1#32
  let arg15 : BitVec 32 := Scf.iv v275 c1_i32_87 k0_t2
  let c4_i32_172 : BitVec 32 := 4#32
  let v488 : BitVec 32 := Scalar.muli arg15 c4_i32_172
  let v489 : BitVec 32 := Scalar.addi v488 c0_i32_173
  let c256_i32_174 : BitVec 32 := 256#32
  let v490 : BitVec 32 := Scalar.muli v489 c256_i32_174
  let v491 : BitVec 32 := v490
  let v492 : Index := Scalar.indexCast v491
  let c0_175 : Index := 0#32
  ![v492.toNat, 0]
def k0_off4 (i : grid0.Coords) (k0_t2 : Fin (k0_t2_loop i).trips) (c0_i32_173 : BitVec 32) : Fin 2 → Nat :=
  let c0_i32_84 : BitVec 32 := 0#32
  let arg1 : BitVec 32 := BitVec.ofNat 32 (i 1).val
  let c4_i32 : BitVec 32 := 4#32
  let v253 : BitVec 32 := Scalar.muli arg1 c4_i32
  let c0_i32_77 : BitVec 32 := 0#32
  let v255 : BitVec 1 := Scalar.cmpi .sgt v253 c0_i32_77
  let v256 : BitVec 32 := Scalar.extui v255
  let c0_i32_78 : BitVec 32 := 0#32
  let v257 : BitVec 1 := Scalar.cmpi .slt v253 c0_i32_78
  let v258 : BitVec 32 := Scalar.extui v257
  let v259 : BitVec 32 := Scalar.subi v256 v258
  let c4_i32_76 : BitVec 32 := 4#32
  let c0_i32_79 : BitVec 32 := 0#32
  let v260 : BitVec 1 := Scalar.cmpi .sgt c4_i32_76 c0_i32_79
  let v261 : BitVec 32 := Scalar.extui v260
  let c0_i32_80 : BitVec 32 := 0#32
  let v262 : BitVec 1 := Scalar.cmpi .slt c4_i32_76 c0_i32_80
  let v263 : BitVec 32 := Scalar.extui v262
  let v264 : BitVec 32 := Scalar.subi v261 v263
  let v265 : BitVec 1 := Scalar.cmpi .ne v259 v264
  let v266 : BitVec 32 := Scalar.remsi v253 c4_i32_76
  let c0_i32_81 : BitVec 32 := 0#32
  let v267 : BitVec 1 := Scalar.cmpi .ne v266 c0_i32_81
  let v268 : BitVec 1 := Scalar.andi v265 v267
  let v254 : BitVec 32 := Scalar.divsi v253 c4_i32_76
  let c1_i32_82 : BitVec 32 := 1#32
  let v269 : BitVec 32 := Scalar.subi v254 c1_i32_82
  let v270 : BitVec 32 := Scalar.select v268 v269 v254
  let v271 : BitVec 32 := Scalar.subi v270 c0_i32_84
  let c1_i32_85 : BitVec 32 := 1#32
  let v273 : BitVec 32 := Scalar.divsi v271 c1_i32_85
  let v274 : BitVec 32 := Scalar.muli v273 c1_i32_85
  let v275 : BitVec 32 := Scalar.addi c0_i32_84 v274
  let c1_i32_87 : BitVec 32 := 1#32
  let arg15 : BitVec 32 := Scf.iv v275 c1_i32_87 k0_t2
  let c4_i32_172 : BitVec 32 := 4#32
  let v488 : BitVec 32 := Scalar.muli arg15 c4_i32_172
  let v489 : BitVec 32 := Scalar.addi v488 c0_i32_173
  let c256_i32_174 : BitVec 32 := 256#32
  let v490 : BitVec 32 := Scalar.muli v489 c256_i32_174
  let v491 : BitVec 32 := v490
  let v501 : Index := Scalar.indexCast v491
  let c0_178 : Index := 0#32
  ![v501.toNat, 0]
def k0_mult6 (i : grid0.Coords) (k0_t2 : Fin (k0_t2_loop i).trips) : BitVec 32 :=
  let c0_i32_84 : BitVec 32 := 0#32
  let arg1 : BitVec 32 := BitVec.ofNat 32 (i 1).val
  let c4_i32 : BitVec 32 := 4#32
  let v253 : BitVec 32 := Scalar.muli arg1 c4_i32
  let c0_i32_77 : BitVec 32 := 0#32
  let v255 : BitVec 1 := Scalar.cmpi .sgt v253 c0_i32_77
  let v256 : BitVec 32 := Scalar.extui v255
  let c0_i32_78 : BitVec 32 := 0#32
  let v257 : BitVec 1 := Scalar.cmpi .slt v253 c0_i32_78
  let v258 : BitVec 32 := Scalar.extui v257
  let v259 : BitVec 32 := Scalar.subi v256 v258
  let c4_i32_76 : BitVec 32 := 4#32
  let c0_i32_79 : BitVec 32 := 0#32
  let v260 : BitVec 1 := Scalar.cmpi .sgt c4_i32_76 c0_i32_79
  let v261 : BitVec 32 := Scalar.extui v260
  let c0_i32_80 : BitVec 32 := 0#32
  let v262 : BitVec 1 := Scalar.cmpi .slt c4_i32_76 c0_i32_80
  let v263 : BitVec 32 := Scalar.extui v262
  let v264 : BitVec 32 := Scalar.subi v261 v263
  let v265 : BitVec 1 := Scalar.cmpi .ne v259 v264
  let v266 : BitVec 32 := Scalar.remsi v253 c4_i32_76
  let c0_i32_81 : BitVec 32 := 0#32
  let v267 : BitVec 1 := Scalar.cmpi .ne v266 c0_i32_81
  let v268 : BitVec 1 := Scalar.andi v265 v267
  let v254 : BitVec 32 := Scalar.divsi v253 c4_i32_76
  let c1_i32_82 : BitVec 32 := 1#32
  let v269 : BitVec 32 := Scalar.subi v254 c1_i32_82
  let v270 : BitVec 32 := Scalar.select v268 v269 v254
  let v271 : BitVec 32 := Scalar.subi v270 c0_i32_84
  let c1_i32_85 : BitVec 32 := 1#32
  let v273 : BitVec 32 := Scalar.divsi v271 c1_i32_85
  let v274 : BitVec 32 := Scalar.muli v273 c1_i32_85
  let v275 : BitVec 32 := Scalar.addi c0_i32_84 v274
  let c1_i32_87 : BitVec 32 := 1#32
  let arg15 : BitVec 32 := Scf.iv v275 c1_i32_87 k0_t2
  let c4_i32_192 : BitVec 32 := 4#32
  let v533 : BitVec 32 := Scalar.muli arg15 c4_i32_192
  let c1_i32_193 : BitVec 32 := 1#32
  let v534 : BitVec 32 := Scalar.addi v533 c1_i32_193
  let c256_i32_194 : BitVec 32 := 256#32
  let v535 : BitVec 32 := Scalar.muli v534 c256_i32_194
  v535
def k0_mult7 (i : grid0.Coords) (k0_t2 : Fin (k0_t2_loop i).trips) : BitVec 32 :=
  let c0_i32_84 : BitVec 32 := 0#32
  let arg1 : BitVec 32 := BitVec.ofNat 32 (i 1).val
  let c4_i32 : BitVec 32 := 4#32
  let v253 : BitVec 32 := Scalar.muli arg1 c4_i32
  let c0_i32_77 : BitVec 32 := 0#32
  let v255 : BitVec 1 := Scalar.cmpi .sgt v253 c0_i32_77
  let v256 : BitVec 32 := Scalar.extui v255
  let c0_i32_78 : BitVec 32 := 0#32
  let v257 : BitVec 1 := Scalar.cmpi .slt v253 c0_i32_78
  let v258 : BitVec 32 := Scalar.extui v257
  let v259 : BitVec 32 := Scalar.subi v256 v258
  let c4_i32_76 : BitVec 32 := 4#32
  let c0_i32_79 : BitVec 32 := 0#32
  let v260 : BitVec 1 := Scalar.cmpi .sgt c4_i32_76 c0_i32_79
  let v261 : BitVec 32 := Scalar.extui v260
  let c0_i32_80 : BitVec 32 := 0#32
  let v262 : BitVec 1 := Scalar.cmpi .slt c4_i32_76 c0_i32_80
  let v263 : BitVec 32 := Scalar.extui v262
  let v264 : BitVec 32 := Scalar.subi v261 v263
  let v265 : BitVec 1 := Scalar.cmpi .ne v259 v264
  let v266 : BitVec 32 := Scalar.remsi v253 c4_i32_76
  let c0_i32_81 : BitVec 32 := 0#32
  let v267 : BitVec 1 := Scalar.cmpi .ne v266 c0_i32_81
  let v268 : BitVec 1 := Scalar.andi v265 v267
  let v254 : BitVec 32 := Scalar.divsi v253 c4_i32_76
  let c1_i32_82 : BitVec 32 := 1#32
  let v269 : BitVec 32 := Scalar.subi v254 c1_i32_82
  let v270 : BitVec 32 := Scalar.select v268 v269 v254
  let v271 : BitVec 32 := Scalar.subi v270 c0_i32_84
  let c1_i32_85 : BitVec 32 := 1#32
  let v273 : BitVec 32 := Scalar.divsi v271 c1_i32_85
  let v274 : BitVec 32 := Scalar.muli v273 c1_i32_85
  let v275 : BitVec 32 := Scalar.addi c0_i32_84 v274
  let c1_i32_87 : BitVec 32 := 1#32
  let arg15 : BitVec 32 := Scf.iv v275 c1_i32_87 k0_t2
  let c4_i32_212 : BitVec 32 := 4#32
  let v578 : BitVec 32 := Scalar.muli arg15 c4_i32_212
  let c2_i32_213 : BitVec 32 := 2#32
  let v579 : BitVec 32 := Scalar.addi v578 c2_i32_213
  let c256_i32_214 : BitVec 32 := 256#32
  let v580 : BitVec 32 := Scalar.muli v579 c256_i32_214
  v580
def k0_mult8 (i : grid0.Coords) (k0_t2 : Fin (k0_t2_loop i).trips) : BitVec 32 :=
  let c0_i32_84 : BitVec 32 := 0#32
  let arg1 : BitVec 32 := BitVec.ofNat 32 (i 1).val
  let c4_i32 : BitVec 32 := 4#32
  let v253 : BitVec 32 := Scalar.muli arg1 c4_i32
  let c0_i32_77 : BitVec 32 := 0#32
  let v255 : BitVec 1 := Scalar.cmpi .sgt v253 c0_i32_77
  let v256 : BitVec 32 := Scalar.extui v255
  let c0_i32_78 : BitVec 32 := 0#32
  let v257 : BitVec 1 := Scalar.cmpi .slt v253 c0_i32_78
  let v258 : BitVec 32 := Scalar.extui v257
  let v259 : BitVec 32 := Scalar.subi v256 v258
  let c4_i32_76 : BitVec 32 := 4#32
  let c0_i32_79 : BitVec 32 := 0#32
  let v260 : BitVec 1 := Scalar.cmpi .sgt c4_i32_76 c0_i32_79
  let v261 : BitVec 32 := Scalar.extui v260
  let c0_i32_80 : BitVec 32 := 0#32
  let v262 : BitVec 1 := Scalar.cmpi .slt c4_i32_76 c0_i32_80
  let v263 : BitVec 32 := Scalar.extui v262
  let v264 : BitVec 32 := Scalar.subi v261 v263
  let v265 : BitVec 1 := Scalar.cmpi .ne v259 v264
  let v266 : BitVec 32 := Scalar.remsi v253 c4_i32_76
  let c0_i32_81 : BitVec 32 := 0#32
  let v267 : BitVec 1 := Scalar.cmpi .ne v266 c0_i32_81
  let v268 : BitVec 1 := Scalar.andi v265 v267
  let v254 : BitVec 32 := Scalar.divsi v253 c4_i32_76
  let c1_i32_82 : BitVec 32 := 1#32
  let v269 : BitVec 32 := Scalar.subi v254 c1_i32_82
  let v270 : BitVec 32 := Scalar.select v268 v269 v254
  let v271 : BitVec 32 := Scalar.subi v270 c0_i32_84
  let c1_i32_85 : BitVec 32 := 1#32
  let v273 : BitVec 32 := Scalar.divsi v271 c1_i32_85
  let v274 : BitVec 32 := Scalar.muli v273 c1_i32_85
  let v275 : BitVec 32 := Scalar.addi c0_i32_84 v274
  let c1_i32_87 : BitVec 32 := 1#32
  let arg15 : BitVec 32 := Scf.iv v275 c1_i32_87 k0_t2
  let c4_i32_232 : BitVec 32 := 4#32
  let v623 : BitVec 32 := Scalar.muli arg15 c4_i32_232
  let c3_i32_233 : BitVec 32 := 3#32
  let v624 : BitVec 32 := Scalar.addi v623 c3_i32_233
  let c256_i32_234 : BitVec 32 := 256#32
  let v625 : BitVec 32 := Scalar.muli v624 c256_i32_234
  v625
def k0_mult9 (i : grid0.Coords) : BitVec 32 :=
  let arg1 : BitVec 32 := BitVec.ofNat 32 (i 1).val
  let c4_i32_88 : BitVec 32 := 4#32
  let v276 : BitVec 32 := Scalar.muli arg1 c4_i32_88
  let c0_i32_89 : BitVec 32 := 0#32
  let v277 : BitVec 32 := Scalar.addi v276 c0_i32_89
  let c256_i32_90 : BitVec 32 := 256#32
  let v278 : BitVec 32 := Scalar.muli v277 c256_i32_90
  v278
def k0_off5 (i : grid0.Coords) (c0_i32_89 : BitVec 32) : Fin 2 → Nat :=
  let arg1 : BitVec 32 := BitVec.ofNat 32 (i 1).val
  let c4_i32_88 : BitVec 32 := 4#32
  let v276 : BitVec 32 := Scalar.muli arg1 c4_i32_88
  let v277 : BitVec 32 := Scalar.addi v276 c0_i32_89
  let c256_i32_90 : BitVec 32 := 256#32
  let v278 : BitVec 32 := Scalar.muli v277 c256_i32_90
  let v279 : BitVec 32 := v278
  let v280 : Index := Scalar.indexCast v279
  let c0_91 : Index := 0#32
  ![v280.toNat, 0]
def k0_off6 (i : grid0.Coords) (c0_i32_89 : BitVec 32) : Fin 2 → Nat :=
  let arg1 : BitVec 32 := BitVec.ofNat 32 (i 1).val
  let c4_i32_88 : BitVec 32 := 4#32
  let v276 : BitVec 32 := Scalar.muli arg1 c4_i32_88
  let v277 : BitVec 32 := Scalar.addi v276 c0_i32_89
  let c256_i32_90 : BitVec 32 := 256#32
  let v278 : BitVec 32 := Scalar.muli v277 c256_i32_90
  let v279 : BitVec 32 := v278
  let v291 : Index := Scalar.indexCast v279
  let c0_95 : Index := 0#32
  ![v291.toNat, 0]
def k0_mult10 (i : grid0.Coords) : BitVec 32 :=
  let arg1 : BitVec 32 := BitVec.ofNat 32 (i 1).val
  let c4_i32_109 : BitVec 32 := 4#32
  let v323 : BitVec 32 := Scalar.muli arg1 c4_i32_109
  let c1_i32_110 : BitVec 32 := 1#32
  let v324 : BitVec 32 := Scalar.addi v323 c1_i32_110
  let c256_i32_111 : BitVec 32 := 256#32
  let v325 : BitVec 32 := Scalar.muli v324 c256_i32_111
  v325
def k0_mult11 (i : grid0.Coords) : BitVec 32 :=
  let arg1 : BitVec 32 := BitVec.ofNat 32 (i 1).val
  let c4_i32_129 : BitVec 32 := 4#32
  let v376 : BitVec 32 := Scalar.muli arg1 c4_i32_129
  let c2_i32 : BitVec 32 := 2#32
  let v377 : BitVec 32 := Scalar.addi v376 c2_i32
  let c256_i32_130 : BitVec 32 := 256#32
  let v378 : BitVec 32 := Scalar.muli v377 c256_i32_130
  v378
def k0_mult12 (i : grid0.Coords) : BitVec 32 :=
  let arg1 : BitVec 32 := BitVec.ofNat 32 (i 1).val
  let c4_i32_148 : BitVec 32 := 4#32
  let v429 : BitVec 32 := Scalar.muli arg1 c4_i32_148
  let c3_i32 : BitVec 32 := 3#32
  let v430 : BitVec 32 := Scalar.addi v429 c3_i32
  let c256_i32_149 : BitVec 32 := 256#32
  let v431 : BitVec 32 := Scalar.muli v430 c256_i32_149
  v431
def k0_cond2 (i : grid0.Coords) : BitVec 1 :=
  let arg1 : BitVec 32 := BitVec.ofNat 32 (i 1).val
  let c7_i32 : BitVec 32 := 7#32
  let v485 : BitVec 1 := Scalar.cmpi .eq arg1 c7_i32
  let v486 : BitVec 32 := Scalar.extui v485
  let c0_i32_171 : BitVec 32 := 0#32
  let v487 : BitVec 1 := Scalar.cmpi .ne v486 c0_i32_171
  v487

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x8192x192 : Shape := ⟨3, ![8, 8192, 192]⟩
abbrev S8x8192x128 : Shape := ⟨3, ![8, 8192, 128]⟩
abbrev S8192x3072 : Shape := ⟨2, ![8192, 3072]⟩
abbrev S8192x2048 : Shape := ⟨2, ![8192, 2048]⟩
abbrev S8192x1024 : Shape := ⟨2, ![8192, 1024]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8192x8x128 : Shape := ⟨3, ![8192, 8, 128]⟩
abbrev S8x128x8192 : Shape := ⟨3, ![8, 128, 8192]⟩
abbrev S8x8192x256 : Shape := ⟨3, ![8, 8192, 256]⟩
abbrev S8192x8x256 : Shape := ⟨3, ![8192, 8, 256]⟩

abbrev nBuf : Space → Nat
  | .hbm => 147
  | .vmem => 0
  | .smem => 0
  | _ => 0

abbrev hbmTy0_0 (i : Nat) : BufTy := match i % 128 with
  | 0 => ⟨S8x8192x192, .bf16⟩
  | 1 => ⟨S8x8192x192, .bf16⟩
  | 2 => ⟨S8x8192x128, .bf16⟩
  | 3 => ⟨S8192x3072, .f32⟩
  | 4 => ⟨S8192x2048, .f32⟩
  | 5 => ⟨S8x8192x192, .f32⟩
  | 6 => ⟨S8x8192x192, .f32⟩
  | 7 => ⟨S8x8192x128, .f32⟩
  | 8 => ⟨S8192x1024, .f32⟩
  | 9 => ⟨S8192x1024, .f32⟩
  | 10 => ⟨S8x8192x8192, .f32⟩
  | 11 => ⟨S_, .f32⟩
  | 12 => ⟨S8x8192x8192, .f32⟩
  | 13 => ⟨S8x8192x8192, .f32⟩
  | 14 => ⟨S8192, .i32⟩
  | 15 => ⟨S_, .i32⟩
  | 16 => ⟨S_, .i32⟩
  | 17 => ⟨S8192, .i32⟩
  | 18 => ⟨S8192, .i32⟩
  | 19 => ⟨S8192, .i32⟩
  | 20 => ⟨S_, .i32⟩
  | 21 => ⟨S8192, .i32⟩
  | 22 => ⟨S8192, .i1⟩
  | 23 => ⟨S8192, .i32⟩
  | 24 => ⟨S8192, .i32⟩
  | 25 => ⟨S_, .i32⟩
  | 26 => ⟨S8192, .i32⟩
  | 27 => ⟨S8192, .i1⟩
  | 28 => ⟨S8192, .i1⟩
  | 29 => ⟨S_, .i32⟩
  | 30 => ⟨S8192, .i32⟩
  | 31 => ⟨S8192, .i32⟩
  | 32 => ⟨S8192, .i32⟩
  | 33 => ⟨S1x8192, .i32⟩
  | 34 => ⟨S8192x1, .i32⟩
  | 35 => ⟨S8192x8192, .i32⟩
  | 36 => ⟨S8192x8192, .i32⟩
  | 37 => ⟨S8192x8192, .i1⟩
  | 38 => ⟨S_, .f32⟩
  | 39 => ⟨S_, .f32⟩
  | 40 => ⟨S8x8192x8192, .i1⟩
  | 41 => ⟨S8x8192x8192, .f32⟩
  | 42 => ⟨S8x8192x8192, .f32⟩
  | 43 => ⟨S_, .f32⟩
  | 44 => ⟨S8x8192x8192, .f32⟩
  | 45 => ⟨S_, .f32⟩
  | 46 => ⟨S8x8192, .f32⟩
  | 47 => ⟨S8x8192x1, .f32⟩
  | 48 => ⟨S8x8192x8192, .f32⟩
  | 49 => ⟨S8x8192x8192, .i1⟩
  | 50 => ⟨S8x8192x8192, .f32⟩
  | 51 => ⟨S_, .f32⟩
  | 52 => ⟨S8x8192, .f32⟩
  | 53 => ⟨S_, .f32⟩
  | 54 => ⟨S8x8192, .f32⟩
  | 55 => ⟨S8x8192, .f32⟩
  | 56 => ⟨S_, .f32⟩
  | 57 => ⟨S8x8192, .f32⟩
  | 58 => ⟨S8x8192, .i1⟩
  | 59 => ⟨S_, .f32⟩
  | 60 => ⟨S8x8192, .f32⟩
  | 61 => ⟨S8x8192, .i1⟩
  | 62 => ⟨S_, .f32⟩
  | 63 => ⟨S8x8192, .f32⟩
  | 64 => ⟨S_, .f32⟩
  | 65 => ⟨S8x8192, .f32⟩
  | 66 => ⟨S_, .f32⟩
  | 67 => ⟨S8x8192, .f32⟩
  | 68 => ⟨S8x8192, .f32⟩
  | 69 => ⟨S8x8192, .f32⟩
  | 70 => ⟨S8x8192x1, .f32⟩
  | 71 => ⟨S8x8192x8192, .f32⟩
  | 72 => ⟨S8x8192x8192, .f32⟩
  | 73 => ⟨S8x8192x8192, .f32⟩
  | 74 => ⟨S_, .f32⟩
  | 75 => ⟨S8x8192, .f32⟩
  | 76 => ⟨S8x8192x1, .f32⟩
  | 77 => ⟨S8x8192x8192, .f32⟩
  | 78 => ⟨S8x8192x8192, .f32⟩
  | 79 => ⟨S8x8192x1, .f32⟩
  | 80 => ⟨S_, .f32⟩
  | 81 => ⟨S8x8192x1, .f32⟩
  | 82 => ⟨S8x8192x1, .f32⟩
  | 83 => ⟨S8x8192x128, .f32⟩
  | 84 => ⟨S8192x8x128, .f32⟩
  | 85 => ⟨S8192x1024, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S_, .f32⟩
  | 92 => ⟨S8192x1024, .f32⟩
  | 93 => ⟨S8192x1024, .f32⟩
  | 94 => ⟨S_, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x8x128, .f32⟩
  | 107 => ⟨S8x8192x128, .f32⟩
  | 108 => ⟨S8x128x8192, .f32⟩
  | 109 => ⟨S8x8192x128, .f32⟩
  | 110 => ⟨S8x8192x8192, .f32⟩
  | 111 => ⟨S8x8192x8192, .f32⟩
  | 112 => ⟨S8x8192x8192, .f32⟩
  | 113 => ⟨S8x8192x8192, .f32⟩
  | 114 => ⟨S_, .f32⟩
  | 115 => ⟨S8x8192, .f32⟩
  | 116 => ⟨S8x8192x1, .f32⟩
  | 117 => ⟨S8x8192x1, .f32⟩
  | 118 => ⟨S8x8192x8192, .f32⟩
  | 119 => ⟨S8x8192x8192, .f32⟩
  | 120 => ⟨S_, .f32⟩
  | 121 => ⟨S8x8192, .f32⟩
  | 122 => ⟨S8x8192x8192, .f32⟩
  | 123 => ⟨S8x8192x8192, .f32⟩
  | 124 => ⟨S8x8192x8192, .f32⟩
  | 125 => ⟨S_, .f32⟩
  | 126 => ⟨S8x8192x8192, .f32⟩
  | 127 => ⟨S8x8192x8192, .f32⟩
  | _ => ⟨S8x8192x192, .bf16⟩

abbrev hbmTy0_1 (i : Nat) : BufTy := match i % 128 with
  | 0 => ⟨S_, .f32⟩
  | 1 => ⟨S8x8192x8192, .f32⟩
  | 2 => ⟨S8x8192x8192, .f32⟩
  | 3 => ⟨S8x8192x192, .f32⟩
  | 4 => ⟨S8x8192x192, .f32⟩
  | 5 => ⟨S_, .i32⟩
  | 6 => ⟨S_, .f32⟩
  | 7 => ⟨S8x8192x256, .f32⟩
  | 8 => ⟨S8192x8x256, .f32⟩
  | 9 => ⟨S8192x2048, .f32⟩
  | 10 => ⟨S_, .i32⟩
  | 11 => ⟨S_, .f32⟩
  | 12 => ⟨S8x8192x256, .f32⟩
  | 13 => ⟨S8192x8x256, .f32⟩
  | 14 => ⟨S8192x2048, .f32⟩
  | 15 => ⟨S8192x8x128, .f32⟩
  | 16 => ⟨S8192x1024, .f32⟩
  | 17 => ⟨S8192x1024, .bf16⟩
  | 18 => ⟨S8192x1024, .bf16⟩
  | _ => ⟨S8x8192x192, .bf16⟩

abbrev hbmTy (i : Nat) : BufTy := match i / 128 with
  | 0 => hbmTy0_0 i
  | 1 => hbmTy0_1 i
  | _ => ⟨S8x8192x192, .bf16⟩

abbrev bufTy : (tb : Table) → Fin (tcTables nBuf tb) → BufTy
  | .hbm, ⟨i, _⟩ => hbmTy i
  | _, _ => ⟨S8x8192x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_call1_v0 : Ref sig .tc := ⟨.hbm, 39, rfl⟩
abbrev main_v15_1 : Ref sig .tc := ⟨.hbm, 40, rfl⟩
abbrev main_call1_v2 : Ref sig .tc := ⟨.hbm, 41, rfl⟩
abbrev main_v15_0 : Ref sig .tc := ⟨.hbm, 42, rfl⟩
abbrev main_call1_cst : Ref sig .tc := ⟨.hbm, 43, rfl⟩
abbrev main_v15_2 : Ref sig .tc := ⟨.hbm, 44, rfl⟩
abbrev main_cst_1 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_2 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_v23 : Ref sig .tc := ⟨.hbm, 55, rfl⟩
abbrev main_cst_4 : Ref sig .tc := ⟨.hbm, 56, rfl⟩
abbrev main_v24 : Ref sig .tc := ⟨.hbm, 57, rfl⟩
abbrev main_v25 : Ref sig .tc := ⟨.hbm, 58, rfl⟩
abbrev main_cst_5 : Ref sig .tc := ⟨.hbm, 59, rfl⟩
abbrev main_v26 : Ref sig .tc := ⟨.hbm, 60, rfl⟩
abbrev main_v27 : Ref sig .tc := ⟨.hbm, 61, rfl⟩
abbrev main_cst_6 : Ref sig .tc := ⟨.hbm, 62, rfl⟩
abbrev main_v28 : Ref sig .tc := ⟨.hbm, 63, rfl⟩
abbrev main_cst_7 : Ref sig .tc := ⟨.hbm, 64, rfl⟩
abbrev main_v29 : Ref sig .tc := ⟨.hbm, 65, rfl⟩
abbrev main_cst_8 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_9 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_10 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_call2_v0 : Ref sig .tc := ⟨.hbm, 86, rfl⟩
abbrev main_call2_v1 : Ref sig .tc := ⟨.hbm, 87, rfl⟩
abbrev main_call2_cst : Ref sig .tc := ⟨.hbm, 88, rfl⟩
abbrev main_call2_v2 : Ref sig .tc := ⟨.hbm, 89, rfl⟩
abbrev main_call2_v3 : Ref sig .tc := ⟨.hbm, 90, rfl⟩
abbrev main_call2_cst_0 : Ref sig .tc := ⟨.hbm, 91, rfl⟩
abbrev main_call2_v4 : Ref sig .tc := ⟨.hbm, 92, rfl⟩
abbrev main_v47_2 : Ref sig .tc := ⟨.hbm, 93, rfl⟩
abbrev main_call2_cst_1 : Ref sig .tc := ⟨.hbm, 94, rfl⟩
abbrev main_call2_v6 : Ref sig .tc := ⟨.hbm, 95, rfl⟩
abbrev main_call2_v7 : Ref sig .tc := ⟨.hbm, 96, rfl⟩
abbrev main_v47_1 : Ref sig .tc := ⟨.hbm, 97, rfl⟩
abbrev main_v47_0 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_cst_11 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_cst_12 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_call4_cst : Ref sig .tc := ⟨.hbm, 125, rfl⟩
abbrev main_call4_v0 : Ref sig .tc := ⟨.hbm, 126, rfl⟩
abbrev main_v69 : Ref sig .tc := ⟨.hbm, 127, rfl⟩
abbrev main_cst_13 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_c_14 : Ref sig .tc := ⟨.hbm, 133, rfl⟩
abbrev main_call5_v0 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_c_15 : Ref sig .tc := ⟨.hbm, 138, rfl⟩
abbrev main_call6_v0 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩

abbrev nD : Nat := 1
abbrev τ : Topo := Topo.v7x

variable {F : FTy → Type} [FloatOps F]
-- ==== MlaFwd.lean ====
abbrev S8x8192x192 : Shape := ⟨3, ![8, 8192, 192]⟩
abbrev S8x8192x128 : Shape := ⟨3, ![8, 8192, 128]⟩
abbrev S_ : Shape := ⟨0, ![]⟩
abbrev S8x8192x256 : Shape := ⟨3, ![8, 8192, 256]⟩
abbrev S8192x8x256 : Shape := ⟨3, ![8192, 8, 256]⟩
abbrev S8192x2048 : Shape := ⟨2, ![8192, 2048]⟩
abbrev S8192x8x128 : Shape := ⟨3, ![8192, 8, 128]⟩
abbrev S8192x1024 : Shape := ⟨2, ![8192, 1024]⟩
abbrev S64x8192 : Shape := ⟨2, ![64, 8192]⟩
abbrev S1024x256 : Shape := ⟨2, ![1024, 256]⟩
abbrev S8192x256 : Shape := ⟨2, ![8192, 256]⟩
abbrev S8192x128 : Shape := ⟨2, ![8192, 128]⟩
abbrev S1024x128 : Shape := ⟨2, ![1024, 128]⟩
abbrev S8x1024 : Shape := ⟨2, ![8, 1024]⟩
abbrev S128x1024 : Shape := ⟨2, ![128, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 17
  | .vmem => 13
  | .smem => 0
  | _ => 0

abbrev bufTy : (tb : Table) → Fin (tcTables nBuf tb) → BufTy
  | .hbm, ⟨0, _⟩ => ⟨S8x8192x192, .bf16⟩
  | .hbm, ⟨1, _⟩ => ⟨S8x8192x192, .bf16⟩
  | .hbm, ⟨2, _⟩ => ⟨S8x8192x128, .bf16⟩
  | .hbm, ⟨3, _⟩ => ⟨S_, .i32⟩
  | .hbm, ⟨4, _⟩ => ⟨S_, .bf16⟩
  | .hbm, ⟨5, _⟩ => ⟨S8x8192x256, .bf16⟩
  | .hbm, ⟨6, _⟩ => ⟨S8192x8x256, .bf16⟩
  | .hbm, ⟨7, _⟩ => ⟨S8192x2048, .bf16⟩
  | .hbm, ⟨8, _⟩ => ⟨S_, .i32⟩
  | .hbm, ⟨9, _⟩ => ⟨S_, .bf16⟩
  | .hbm, ⟨10, _⟩ => ⟨S8x8192x256, .bf16⟩
  | .hbm, ⟨11, _⟩ => ⟨S8192x8x256, .bf16⟩
  | .hbm, ⟨12, _⟩ => ⟨S8192x2048, .bf16⟩
  | .hbm, ⟨13, _⟩ => ⟨S8192x8x128, .bf16⟩
  | .hbm, ⟨14, _⟩ => ⟨S8192x1024, .bf16⟩
  | .hbm, ⟨15, _⟩ => ⟨S8192x1024, .f32⟩
  | .hbm, ⟨16, _⟩ => ⟨S64x8192, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .f32⟩
  | .local _ .vmem, ⟨7, _⟩ => ⟨S1024x128, .f32⟩
  | .local _ .vmem, ⟨8, _⟩ => ⟨S8x1024, .f32⟩
  | .local _ .vmem, ⟨9, _⟩ => ⟨S8x1024, .f32⟩
  | .local _ .vmem, ⟨10, _⟩ => ⟨S128x1024, .f32⟩
  | .local _ .vmem, ⟨11, _⟩ => ⟨S1x1024, .f32⟩
  | .local _ .vmem, ⟨12, _⟩ => ⟨S1x1024, .f32⟩
  | _, _ => ⟨S8x8192x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1_i32_22 : BitVec 32 := 1#32
  let v69 : BitVec 32 := Scalar.muli arg1 c1_i32_22
  let c0_i32_23 : BitVec 32 := 0#32
  let v70 : BitVec 32 := Scalar.addi v69 c0_i32_23
  let c1024_i32 : BitVec 32 := 1024#32
  let v71 : BitVec 32 := Scalar.muli v70 c1024_i32
  v71
def k0_off1 (i : grid0.Coords) : Fin 2 → Nat :=
  let arg1 : BitVec 32 := BitVec.ofNat 32 (i 1).val
  let c1_i32_22 : BitVec 32 := 1#32
  let v69 : BitVec 32 := Scalar.muli arg1 c1_i32_22
  let c0_i32_23 : BitVec 32 := 0#32
  let v70 : BitVec 32 := Scalar.addi v69 c0_i32_23
  let c1024_i32 : BitVec 32 := 1024#32
  let v71 : BitVec 32 := Scalar.muli v70 c1024_i32
  let v72 : BitVec 32 := v71
  let v73 : Index := Scalar.indexCast v72
  let c0_24 : Index := 0#32
  ![v73.toNat, 0]
def k0_off2 (i : grid0.Coords) : Fin 2 → Nat :=
  let arg1 : BitVec 32 := BitVec.ofNat 32 (i 1).val
  let c1_i32_22 : BitVec 32 := 1#32
  let v69 : BitVec 32 := Scalar.muli arg1 c1_i32_22
  let c0_i32_23 : BitVec 32 := 0#32
  let v70 : BitVec 32 := Scalar.addi v69 c0_i32_23
  let c1024_i32 : BitVec 32 := 1024#32
  let v71 : BitVec 32 := Scalar.muli v70 c1024_i32
  let v72 : BitVec 32 := v71
  let v101 : Index := Scalar.indexCast v72
  let c0_38 : Index := 0#32
  ![v101.toNat, 0]
@[reducible] def k0_t1_loop (i : grid0.Coords) : Scf.Loop 32 :=
  let c0_i32_53 : BitVec 32 := 0#32
  let arg1 : BitVec 32 := BitVec.ofNat 32 (i 1).val
  let c1_i32_44 : BitVec 32 := 1#32
  let v113 : BitVec 32 := Scalar.muli arg1 c1_i32_44
  let c0_i32_46 : BitVec 32 := 0#32
  let v115 : BitVec 1 := Scalar.cmpi .sgt v113 c0_i32_46
  let v116 : BitVec 32 := Scalar.extui v115
  let c0_i32_47 : BitVec 32 := 0#32
  let v117 : BitVec 1 := Scalar.cmpi .slt v113 c0_i32_47
  let v118 : BitVec 32 := Scalar.extui v117
  let v119 : BitVec 32 := Scalar.subi v116 v118
  let c1_i32_45 : BitVec 32 := 1#32
  let c0_i32_48 : BitVec 32 := 0#32
  let v120 : BitVec 1 := Scalar.cmpi .sgt c1_i32_45 c0_i32_48
  let v121 : BitVec 32 := Scalar.extui v120
  let c0_i32_49 : BitVec 32 := 0#32
  let v122 : BitVec 1 := Scalar.cmpi .slt c1_i32_45 c0_i32_49
  let v123 : BitVec 32 := Scalar.extui v122
  let v124 : BitVec 32 := Scalar.subi v121 v123
  let v125 : BitVec 1 := Scalar.cmpi .ne v119 v124
  let v126 : BitVec 32 := Scalar.remsi v113 c1_i32_45
  let c0_i32_50 : BitVec 32 := 0#32
  let v127 : BitVec 1 := Scalar.cmpi .ne v126 c0_i32_50
  let v128 : BitVec 1 := Scalar.andi v125 v127
  let v114 : BitVec 32 := Scalar.divsi v113 c1_i32_45
  let c1_i32_51 : BitVec 32 := 1#32
  let v129 : BitVec 32 := Scalar.subi v114 c1_i32_51
  let v130 : BitVec 32 := Scalar.select v128 v129 v114
  let v131 : BitVec 32 := Scalar.subi v130 c0_i32_53
  let c1_i32_54 : BitVec 32 := 1#32
  let v133 : BitVec 32 := Scalar.divsi v131 c1_i32_54
  let v134 : BitVec 32 := Scalar.muli v133 c1_i32_54
  let v135 : BitVec 32 := Scalar.addi c0_i32_53 v134
  let c1_i32_55 : BitVec 32 := 1#32
  ⟨c0_i32_53, v135, c1_i32_55⟩
def k0_mult2 (i : grid0.Coords) (k0_t1 : Fin (k0_t1_loop i).trips) : BitVec 32 :=
  let c0_i32_53 : BitVec 32 := 0#32
  let c1_i32_55 : BitVec 32 := 1#32
  let arg10 : BitVec 32 := Scf.iv c0_i32_53 c1_i32_55 k0_t1
  let c1_i32_69 : BitVec 32 := 1#32
  let v149 : BitVec 32 := Scalar.muli arg10 c1_i32_69
  let c0_i32_70 : BitVec 32 := 0#32
  let v150 : BitVec 32 := Scalar.addi v149 c0_i32_70
  let c1024_i32_71 : BitVec 32 := 1024#32
  let v151 : BitVec 32 := Scalar.muli v150 c1024_i32_71
  v151
def k0_off3 (i : grid0.Coords) (k0_t1 : Fin (k0_t1_loop i).trips) : Fin 2 → Nat :=
  let c0_i32_53 : BitVec 32 := 0#32
  let c1_i32_55 : BitVec 32 := 1#32
  let arg10 : BitVec 32 := Scf.iv c0_i32_53 c1_i32_55 k0_t1
  let c1_i32_69 : BitVec 32 := 1#32
  let v149 : BitVec 32 := Scalar.muli arg10 c1_i32_69
  let c0_i32_70 : BitVec 32 := 0#32
  let v150 : BitVec 32 := Scalar.addi v149 c0_i32_70
  let c1024_i32_71 : BitVec 32 := 1024#32
  let v151 : BitVec 32 := Scalar.muli v150 c1024_i32_71
  let v152 : BitVec 32 := v151
  let v153 : Index := Scalar.indexCast v152
  let c0_72 : Index := 0#32
  ![v153.toNat, 0]
def k0_off4 (i : grid0.Coords) (k0_t1 : Fin (k0_t1_loop i).trips) : Fin 2 → Nat :=
  let c0_i32_53 : BitVec 32 := 0#32
  let c1_i32_55 : BitVec 32 := 1#32
  let arg10 : BitVec 32 := Scf.iv c0_i32_53 c1_i32_55 k0_t1
  let c1_i32_69 : BitVec 32 := 1#32
  let v149 : BitVec 32 := Scalar.muli arg10 c1_i32_69
  let c0_i32_70 : BitVec 32 := 0#32
  let v150 : BitVec 32 := Scalar.addi v149 c0_i32_70
  let c1024_i32_71 : BitVec 32 := 1024#32
  let v151 : BitVec 32 := Scalar.muli v150 c1024_i32_71
  let v152 : BitVec 32 := v151
  let v179 : Index := Scalar.indexCast v152
  let c0_85 : Index := 0#32
  ![v179.toNat, 0]
@[reducible] def k0_t2_loop (i : grid0.Coords) : Scf.Loop 32 :=
  let c0_i32_53 : BitVec 32 := 0#32
  let arg1 : BitVec 32 := BitVec.ofNat 32 (i 1).val
  let c1_i32_44 : BitVec 32 := 1#32
  let v113 : BitVec 32 := Scalar.muli arg1 c1_i32_44
  let c0_i32_46 : BitVec 32 := 0#32
  let v115 : BitVec 1 := Scalar.cmpi .sgt v113 c0_i32_46
  let v116 : BitVec 32 := Scalar.extui v115
  let c0_i32_47 : BitVec 32 := 0#32
  let v117 : BitVec 1 := Scalar.cmpi .slt v113 c0_i32_47
  let v118 : BitVec 32 := Scalar.extui v117
  let v119 : BitVec 32 := Scalar.subi v116 v118
  let c1_i32_45 : BitVec 32 := 1#32
  let c0_i32_48 : BitVec 32 := 0#32
  let v120 : BitVec 1 := Scalar.cmpi .sgt c1_i32_45 c0_i32_48
  let v121 : BitVec 32 := Scalar.extui v120
  let c0_i32_49 : BitVec 32 := 0#32
  let v122 : BitVec 1 := Scalar.cmpi .slt c1_i32_45 c0_i32_49
  let v123 : BitVec 32 := Scalar.extui v122
  let v124 : BitVec 32 := Scalar.subi v121 v123
  let v125 : BitVec 1 := Scalar.cmpi .ne v119 v124
  let v126 : BitVec 32 := Scalar.remsi v113 c1_i32_45
  let c0_i32_50 : BitVec 32 := 0#32
  let v127 : BitVec 1 := Scalar.cmpi .ne v126 c0_i32_50
  let v128 : BitVec 1 := Scalar.andi v125 v127
  let v114 : BitVec 32 := Scalar.divsi v113 c1_i32_45
  let c1_i32_51 : BitVec 32 := 1#32
  let v129 : BitVec 32 := Scalar.subi v114 c1_i32_51
  let v130 : BitVec 32 := Scalar.select v128 v129 v114
  let v131 : BitVec 32 := Scalar.subi v130 c0_i32_53
  let c1_i32_54 : BitVec 32 := 1#32
  let v133 : BitVec 32 := Scalar.divsi v131 c1_i32_54
  let v134 : BitVec 32 := Scalar.muli v133 c1_i32_54
  let v135 : BitVec 32 := Scalar.addi c0_i32_53 v134
  let v132 : BitVec 32 := Scalar.addi c0_i32_53 v131
  let c1_i32_56 : BitVec 32 := 1#32
  ⟨v135, v132, c1_i32_56⟩
def k0_mult3 (i : grid0.Coords) (k0_t2 : Fin (k0_t2_loop i).trips) : BitVec 32 :=
  let c0_i32_53 : BitVec 32 := 0#32
  let arg1 : BitVec 32 := BitVec.ofNat 32 (i 1).val
  let c1_i32_44 : BitVec 32 := 1#32
  let v113 : BitVec 32 := Scalar.muli arg1 c1_i32_44
  let c0_i32_46 : BitVec 32 := 0#32
  let v115 : BitVec 1 := Scalar.cmpi .sgt v113 c0_i32_46
  let v116 : BitVec 32 := Scalar.extui v115
  let c0_i32_47 : BitVec 32 := 0#32
  let v117 : BitVec 1 := Scalar.cmpi .slt v113 c0_i32_47
  let v118 : BitVec 32 := Scalar.extui v117
  let v119 : BitVec 32 := Scalar.subi v116 v118
  let c1_i32_45 : BitVec 32 := 1#32
  let c0_i32_48 : BitVec 32 := 0#32
  let v120 : BitVec 1 := Scalar.cmpi .sgt c1_i32_45 c0_i32_48
  let v121 : BitVec 32 := Scalar.extui v120
  let c0_i32_49 : BitVec 32 := 0#32
  let v122 : BitVec 1 := Scalar.cmpi .slt c1_i32_45 c0_i32_49
  let v123 : BitVec 32 := Scalar.extui v122
  let v124 : BitVec 32 := Scalar.subi v121 v123
  let v125 : BitVec 1 := Scalar.cmpi .ne v119 v124
  let v126 : BitVec 32 := Scalar.remsi v113 c1_i32_45
  let c0_i32_50 : BitVec 32 := 0#32
  let v127 : BitVec 1 := Scalar.cmpi .ne v126 c0_i32_50
  let v128 : BitVec 1 := Scalar.andi v125 v127
  let v114 : BitVec 32 := Scalar.divsi v113 c1_i32_45
  let c1_i32_51 : BitVec 32 := 1#32
  let v129 : BitVec 32 := Scalar.subi v114 c1_i32_51
  let v130 : BitVec 32 := Scalar.select v128 v129 v114
  let v131 : BitVec 32 := Scalar.subi v130 c0_i32_53
  let c1_i32_54 : BitVec 32 := 1#32
  let v133 : BitVec 32 := Scalar.divsi v131 c1_i32_54
  let v134 : BitVec 32 := Scalar.muli v133 c1_i32_54
  let v135 : BitVec 32 := Scalar.addi c0_i32_53 v134
  let c1_i32_56 : BitVec 32 := 1#32
  let arg10 : BitVec 32 := Scf.iv v135 c1_i32_56 k0_t2
  let c1_i32_69 : BitVec 32 := 1#32
  let v149 : BitVec 32 := Scalar.muli arg10 c1_i32_69
  let c0_i32_70 : BitVec 32 := 0#32
  let v150 : BitVec 32 := Scalar.addi v149 c0_i32_70
  let c1024_i32_71 : BitVec 32 := 1024#32
  let v151 : BitVec 32 := Scalar.muli v150 c1024_i32_71
  v151
def k0_off5 (i : grid0.Coords) (k0_t2 : Fin (k0_t2_loop i).trips) : Fin 2 → Nat :=
  let c0_i32_53 : BitVec 32 := 0#32
  let arg1 : BitVec 32 := BitVec.ofNat 32 (i 1).val
  let c1_i32_44 : BitVec 32 := 1#32
  let v113 : BitVec 32 := Scalar.muli arg1 c1_i32_44
  let c0_i32_46 : BitVec 32 := 0#32
  let v115 : BitVec 1 := Scalar.cmpi .sgt v113 c0_i32_46
  let v116 : BitVec 32 := Scalar.extui v115
  let c0_i32_47 : BitVec 32 := 0#32
  let v117 : BitVec 1 := Scalar.cmpi .slt v113 c0_i32_47
  let v118 : BitVec 32 := Scalar.extui v117
  let v119 : BitVec 32 := Scalar.subi v116 v118
  let c1_i32_45 : BitVec 32 := 1#32
  let c0_i32_48 : BitVec 32 := 0#32
  let v120 : BitVec 1 := Scalar.cmpi .sgt c1_i32_45 c0_i32_48
  let v121 : BitVec 32 := Scalar.extui v120
  let c0_i32_49 : BitVec 32 := 0#32
  let v122 : BitVec 1 := Scalar.cmpi .slt c1_i32_45 c0_i32_49
  let v123 : BitVec 32 := Scalar.extui v122
  let v124 : BitVec 32 := Scalar.subi v121 v123
  let v125 : BitVec 1 := Scalar.cmpi .ne v119 v124
  let v126 : BitVec 32 := Scalar.remsi v113 c1_i32_45
  let c0_i32_50 : BitVec 32 := 0#32
  let v127 : BitVec 1 := Scalar.cmpi .ne v126 c0_i32_50
  let v128 : BitVec 1 := Scalar.andi v125 v127
  let v114 : BitVec 32 := Scalar.divsi v113 c1_i32_45
  let c1_i32_51 : BitVec 32 := 1#32
  let v129 : BitVec 32 := Scalar.subi v114 c1_i32_51
  let v130 : BitVec 32 := Scalar.select v128 v129 v114
  let v131 : BitVec 32 := Scalar.subi v130 c0_i32_53
  let c1_i32_54 : BitVec 32 := 1#32
  let v133 : BitVec 32 := Scalar.divsi v131 c1_i32_54
  let v134 : BitVec 32 := Scalar.muli v133 c1_i32_54
  let v135 : BitVec 32 := Scalar.addi c0_i32_53 v134
  let c1_i32_56 : BitVec 32 := 1#32
  let arg10 : BitVec 32 := Scf.iv v135 c1_i32_56 k0_t2
  let c1_i32_69 : BitVec 32 := 1#32
  let v149 : BitVec 32 := Scalar.muli arg10 c1_i32_69
  let c0_i32_70 : BitVec 32 := 0#32
  let v150 : BitVec 32 := Scalar.addi v149 c0_i32_70
  let c1024_i32_71 : BitVec 32 := 1024#32
  let v151 : BitVec 32 := Scalar.muli v150 c1024_i32_71
  let v152 : BitVec 32 := v151
  let v153 : Index := Scalar.indexCast v152
  let c0_72 : Index := 0#32
  ![v153.toNat, 0]
def k0_off6 (i : grid0.Coords) (k0_t2 : Fin (k0_t2_loop i).trips) : Fin 2 → Nat :=
  let c0_i32_53 : BitVec 32 := 0#32
  let arg1 : BitVec 32 := BitVec.ofNat 32 (i 1).val
  let c1_i32_44 : BitVec 32 := 1#32
  let v113 : BitVec 32 := Scalar.muli arg1 c1_i32_44
  let c0_i32_46 : BitVec 32 := 0#32
  let v115 : BitVec 1 := Scalar.cmpi .sgt v113 c0_i32_46
  let v116 : BitVec 32 := Scalar.extui v115
  let c0_i32_47 : BitVec 32 := 0#32
  let v117 : BitVec 1 := Scalar.cmpi .slt v113 c0_i32_47
  let v118 : BitVec 32 := Scalar.extui v117
  let v119 : BitVec 32 := Scalar.subi v116 v118
  let c1_i32_45 : BitVec 32 := 1#32
  let c0_i32_48 : BitVec 32 := 0#32
  let v120 : BitVec 1 := Scalar.cmpi .sgt c1_i32_45 c0_i32_48
  let v121 : BitVec 32 := Scalar.extui v120
  let c0_i32_49 : BitVec 32 := 0#32
  let v122 : BitVec 1 := Scalar.cmpi .slt c1_i32_45 c0_i32_49
  let v123 : BitVec 32 := Scalar.extui v122
  let v124 : BitVec 32 := Scalar.subi v121 v123
  let v125 : BitVec 1 := Scalar.cmpi .ne v119 v124
  let v126 : BitVec 32 := Scalar.remsi v113 c1_i32_45
  let c0_i32_50 : BitVec 32 := 0#32
  let v127 : BitVec 1 := Scalar.cmpi .ne v126 c0_i32_50
  let v128 : BitVec 1 := Scalar.andi v125 v127
  let v114 : BitVec 32 := Scalar.divsi v113 c1_i32_45
  let c1_i32_51 : BitVec 32 := 1#32
  let v129 : BitVec 32 := Scalar.subi v114 c1_i32_51
  let v130 : BitVec 32 := Scalar.select v128 v129 v114
  let v131 : BitVec 32 := Scalar.subi v130 c0_i32_53
  let c1_i32_54 : BitVec 32 := 1#32
  let v133 : BitVec 32 := Scalar.divsi v131 c1_i32_54
  let v134 : BitVec 32 := Scalar.muli v133 c1_i32_54
  let v135 : BitVec 32 := Scalar.addi c0_i32_53 v134
  let c1_i32_56 : BitVec 32 := 1#32
  let arg10 : BitVec 32 := Scf.iv v135 c1_i32_56 k0_t2
  let c1_i32_69 : BitVec 32 := 1#32
  let v149 : BitVec 32 := Scalar.muli arg10 c1_i32_69
  let c0_i32_70 : BitVec 32 := 0#32
  let v150 : BitVec 32 := Scalar.addi v149 c0_i32_70
  let c1024_i32_71 : BitVec 32 := 1024#32
  let v151 : BitVec 32 := Scalar.muli v150 c1024_i32_71
  let v152 : BitVec 32 := v151
  let v179 : Index := Scalar.indexCast v152
  let c0_85 : Index := 0#32
  ![v179.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlaFwdIdeal.lean ====
variable {F : FTy → Type} [FloatOps F] [Named F]
def κ : String → Option EReal := fun
  | "mask" => some ⊥
  | _ => none
-- ==== MlaFwdRefIdeal.lean ====
abbrev S8x8192x192 : Shape := ⟨3, ![8, 8192, 192]⟩
abbrev S8x8192x128 : Shape := ⟨3, ![8, 8192, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8192x8x128 : Shape := ⟨3, ![8192, 8, 128]⟩
abbrev S8192x1024 : Shape := ⟨2, ![8192, 1024]⟩
abbrev S8x1x8192 : Shape := ⟨3, ![8, 1, 8192]⟩
abbrev S8x8x8192 : Shape := ⟨3, ![8, 8, 8192]⟩
abbrev S64x8192 : Shape := ⟨2, ![64, 8192]⟩

abbrev nBuf : Space → Nat
  | .hbm => 59
  | .vmem => 0
  | .smem => 0
  | _ => 0

abbrev bufTy : (tb : Table) → Fin (tcTables nBuf tb) → BufTy
  | .hbm, ⟨0, _⟩ => ⟨S8x8192x192, .bf16⟩
  | .hbm, ⟨1, _⟩ => ⟨S8x8192x192, .bf16⟩
  | .hbm, ⟨2, _⟩ => ⟨S8x8192x128, .bf16⟩
  | .hbm, ⟨3, _⟩ => ⟨S8x8192x192, .f32⟩
  | .hbm, ⟨4, _⟩ => ⟨S8x8192x192, .f32⟩
  | .hbm, ⟨5, _⟩ => ⟨S8x8192x128, .f32⟩
  | .hbm, ⟨6, _⟩ => ⟨S8x8192x8192, .f32⟩
  | .hbm, ⟨7, _⟩ => ⟨S_, .f32⟩
  | .hbm, ⟨8, _⟩ => ⟨S8x8192x8192, .f32⟩
  | .hbm, ⟨9, _⟩ => ⟨S8x8192x8192, .f32⟩
  | .hbm, ⟨10, _⟩ => ⟨S8192, .i32⟩
  | .hbm, ⟨11, _⟩ => ⟨S_, .i32⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S8192, .i1⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S1x8192, .i32⟩
  | .hbm, ⟨30, _⟩ => ⟨S8192x1, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S8x8192x8192, .i1⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S8x8192, .f32⟩
  | .hbm, ⟨41, _⟩ => ⟨S8x8192x1, .f32⟩
  | .hbm, ⟨42, _⟩ => ⟨S8x8192x8192, .f32⟩
  | .hbm, ⟨43, _⟩ => ⟨S8x8192x8192, .f32⟩
  | .hbm, ⟨44, _⟩ => ⟨S8x8192x8192, .f32⟩
  | .hbm, ⟨45, _⟩ => ⟨S_, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x128, .f32⟩
  | .hbm, ⟨51, _⟩ => ⟨S8x8192x1, .f32⟩
  | .hbm, ⟨52, _⟩ => ⟨S8x8192x1, .f32⟩
  | .hbm, ⟨53, _⟩ => ⟨S8x8192, .f32⟩
  | .hbm, ⟨54, _⟩ => ⟨S8192x8x128, .f32⟩
  | .hbm, ⟨55, _⟩ => ⟨S8192x1024, .f32⟩
  | .hbm, ⟨56, _⟩ => ⟨S8x1x8192, .f32⟩
  | .hbm, ⟨57, _⟩ => ⟨S8x8x8192, .f32⟩
  | .hbm, ⟨58, _⟩ => ⟨S64x8192, .f32⟩
  | _, _ => ⟨S8x8192x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩

abbrev nD : Nat := 1
abbrev τ : Topo := Topo.v7x

variable {F : FTy → Type} [FloatOps F]
-- ==== DwIn.lean ====
abbrev S8192x2048 : Shape := ⟨2, ![8192, 2048]⟩
abbrev S8192x5952 : Shape := ⟨2, ![8192, 5952]⟩
abbrev S8192x1488 : Shape := ⟨2, ![8192, 1488]⟩
abbrev S1x8192x1488 : Shape := ⟨3, ![1, 8192, 1488]⟩
abbrev S4x8192x1488 : Shape := ⟨3, ![4, 8192, 1488]⟩
abbrev S4x2048x1488 : Shape := ⟨3, ![4, 2048, 1488]⟩
abbrev S2048x1024 : Shape := ⟨2, ![2048, 1024]⟩
abbrev S1x2048x1488 : Shape := ⟨3, ![1, 2048, 1488]⟩
abbrev S1x1024x1488 : Shape := ⟨3, ![1, 1024, 1488]⟩
abbrev S1024x1488 : Shape := ⟨2, ![1024, 1488]⟩
abbrev S2048x1488 : Shape := ⟨2, ![2048, 1488]⟩

abbrev nBuf : Space → Nat
  | .hbm => 12
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5952, .bf16⟩
  | .hbm, ⟨2, _⟩ => ⟨S8192x1488, .bf16⟩
  | .hbm, ⟨3, _⟩ => ⟨S8192x1488, .bf16⟩
  | .hbm, ⟨4, _⟩ => ⟨S8192x1488, .bf16⟩
  | .hbm, ⟨5, _⟩ => ⟨S8192x1488, .bf16⟩
  | .hbm, ⟨6, _⟩ => ⟨S1x8192x1488, .bf16⟩
  | .hbm, ⟨7, _⟩ => ⟨S1x8192x1488, .bf16⟩
  | .hbm, ⟨8, _⟩ => ⟨S1x8192x1488, .bf16⟩
  | .hbm, ⟨9, _⟩ => ⟨S1x8192x1488, .bf16⟩
  | .hbm, ⟨10, _⟩ => ⟨S4x8192x1488, .bf16⟩
  | .hbm, ⟨11, _⟩ => ⟨S4x2048x1488, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1488, .bf16⟩
  | .local _ .vmem, ⟨3, _⟩ => ⟨S1x2048x1488, .bf16⟩
  | .local _ .vmem, ⟨4, _⟩ => ⟨S1x1024x1488, .f32⟩
  | .local _ .vmem, ⟨5, _⟩ => ⟨S1x1024x1488, .f32⟩
  | .local _ .vmem, ⟨6, _⟩ => ⟨S1024x1488, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1488 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1488 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x2048 : Shape := ⟨2, ![8192, 2048]⟩
abbrev S8192x5952 : Shape := ⟨2, ![8192, 5952]⟩
abbrev S_ : Shape := ⟨0, ![]⟩
abbrev S2048x5952 : Shape := ⟨2, ![2048, 5952]⟩
abbrev S5952x2048 : Shape := ⟨2, ![5952, 2048]⟩
abbrev S2048x1488 : Shape := ⟨2, ![2048, 1488]⟩
abbrev S1x2048x1488 : Shape := ⟨3, ![1, 2048, 1488]⟩
abbrev S4x2048x1488 : Shape := ⟨3, ![4, 2048, 1488]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5952, .bf16⟩
  | .hbm, ⟨2, _⟩ => ⟨S8192x2048, .f32⟩
  | .hbm, ⟨3, _⟩ => ⟨S8192x5952, .f32⟩
  | .hbm, ⟨4, _⟩ => ⟨S_, .f32⟩
  | .hbm, ⟨5, _⟩ => ⟨S2048x5952, .f32⟩
  | .hbm, ⟨6, _⟩ => ⟨S8192x5952, .f32⟩
  | .hbm, ⟨7, _⟩ => ⟨S5952x2048, .f32⟩
  | .hbm, ⟨8, _⟩ => ⟨S2048x5952, .f32⟩
  | .hbm, ⟨9, _⟩ => ⟨S2048x1488, .f32⟩
  | .hbm, ⟨10, _⟩ => ⟨S2048x1488, .f32⟩
  | .hbm, ⟨11, _⟩ => ⟨S2048x1488, .f32⟩
  | .hbm, ⟨12, _⟩ => ⟨S2048x1488, .f32⟩
  | .hbm, ⟨13, _⟩ => ⟨S1x2048x1488, .f32⟩
  | .hbm, ⟨14, _⟩ => ⟨S1x2048x1488, .f32⟩
  | .hbm, ⟨15, _⟩ => ⟨S1x2048x1488, .f32⟩
  | .hbm, ⟨16, _⟩ => ⟨S1x2048x1488, .f32⟩
  | .hbm, ⟨17, _⟩ => ⟨S4x2048x1488, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== DwOut.lean ====
abbrev S8192x2048 : Shape := ⟨2, ![8192, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DMixed.lean ====
abbrev S8192x2048 : Shape := ⟨2, ![8192, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixedRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjB.lean ====
abbrev S8192x2048 : Shape := ⟨2, ![8192, 2048]⟩
abbrev S2048x6144 : Shape := ⟨2, ![2048, 6144]⟩
abbrev S8192x3072 : Shape := ⟨2, ![8192, 3072]⟩
abbrev S512x2048 : Shape := ⟨2, ![512, 2048]⟩
abbrev S2048x1024 : Shape := ⟨2, ![2048, 1024]⟩
abbrev S512x1024 : Shape := ⟨2, ![512, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x3072, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBRefIdeal.lean ====
abbrev S8192x2048 : Shape := ⟨2, ![8192, 2048]⟩
abbrev S2048x6144 : Shape := ⟨2, ![2048, 6144]⟩
abbrev S2048x3072 : Shape := ⟨2, ![2048, 3072]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x2048, .f32⟩
  | .hbm, ⟨3, _⟩ => ⟨S2048x3072, .bf16⟩
  | .hbm, ⟨4, _⟩ => ⟨S2048x3072, .f32⟩
  | .hbm, ⟨5, _⟩ => ⟨S8192x3072, .f32⟩
  | .hbm, ⟨6, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjF.lean ====
abbrev S8192x2048 : Shape := ⟨2, ![8192, 2048]⟩
abbrev S2048x6144 : Shape := ⟨2, ![2048, 6144]⟩
abbrev S8192x3072 : Shape := ⟨2, ![8192, 3072]⟩
abbrev S512x2048 : Shape := ⟨2, ![512, 2048]⟩
abbrev S2048x1024 : Shape := ⟨2, ![2048, 1024]⟩
abbrev S512x1024 : Shape := ⟨2, ![512, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x3072, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg0 c3_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFRefIdeal.lean ====
abbrev S8192x2048 : Shape := ⟨2, ![8192, 2048]⟩
abbrev S2048x6144 : Shape := ⟨2, ![2048, 6144]⟩
abbrev S2048x3072 : Shape := ⟨2, ![2048, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x2048, .f32⟩
  | .hbm, ⟨3, _⟩ => ⟨S2048x3072, .bf16⟩
  | .hbm, ⟨4, _⟩ => ⟨S2048x3072, .f32⟩
  | .hbm, ⟨5, _⟩ => ⟨S8192x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwQ.lean ====
abbrev S8192x512 : Shape := ⟨2, ![8192, 512]⟩
abbrev S8192x2048 : Shape := ⟨2, ![8192, 2048]⟩
abbrev S512x2048 : Shape := ⟨2, ![512, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S512x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQRefIdeal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S8192x512, .f32⟩
  | .hbm, ⟨3, _⟩ => ⟨S8192x2048, .f32⟩
  | .hbm, ⟨4, _⟩ => ⟨S_, .f32⟩
  | .hbm, ⟨5, _⟩ => ⟨S512x2048, .f32⟩
  | .hbm, ⟨6, _⟩ => ⟨S8192x2048, .f32⟩
  | .hbm, ⟨7, _⟩ => ⟨S2048x512, .f32⟩
  | .hbm, ⟨8, _⟩ => ⟨S512x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwK.lean ====
abbrev S8192x256 : Shape := ⟨2, ![8192, 256]⟩
abbrev S8192x1024 : Shape := ⟨2, ![8192, 1024]⟩
abbrev S256x1024 : Shape := ⟨2, ![256, 1024]⟩
abbrev S4096x256 : Shape := ⟨2, ![4096, 256]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwKRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S8192x256, .f32⟩
  | .hbm, ⟨3, _⟩ => ⟨S8192x1024, .f32⟩
  | .hbm, ⟨4, _⟩ => ⟨S_, .f32⟩
  | .hbm, ⟨5, _⟩ => ⟨S256x1024, .f32⟩
  | .hbm, ⟨6, _⟩ => ⟨S8192x1024, .f32⟩
  | .hbm, ⟨7, _⟩ => ⟨S1024x256, .f32⟩
  | .hbm, ⟨8, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwV.lean ====
abbrev S8192x256 : Shape := ⟨2, ![8192, 256]⟩
abbrev S8192x1024 : Shape := ⟨2, ![8192, 1024]⟩
abbrev S256x1024 : Shape := ⟨2, ![256, 1024]⟩
abbrev S4096x256 : Shape := ⟨2, ![4096, 256]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwVRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S8192x256, .f32⟩
  | .hbm, ⟨3, _⟩ => ⟨S8192x1024, .f32⟩
  | .hbm, ⟨4, _⟩ => ⟨S_, .f32⟩
  | .hbm, ⟨5, _⟩ => ⟨S256x1024, .f32⟩
  | .hbm, ⟨6, _⟩ => ⟨S8192x1024, .f32⟩
  | .hbm, ⟨7, _⟩ => ⟨S1024x256, .f32⟩
  | .hbm, ⟨8, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Prenorm.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrenormRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MlaPrep.lean ====
abbrev S8192x3072 : Shape := ⟨2, ![8192, 3072]⟩
abbrev S1x512 : Shape := ⟨2, ![1, 512]⟩
abbrev S1x256 : Shape := ⟨2, ![1, 256]⟩
abbrev S512x2048 : Shape := ⟨2, ![512, 2048]⟩
abbrev S256x1024 : Shape := ⟨2, ![256, 1024]⟩
abbrev S8192x32 : Shape := ⟨2, ![8192, 32]⟩
abbrev S_ : Shape := ⟨0, ![]⟩
abbrev S8192x128 : Shape := ⟨2, ![8192, 128]⟩
abbrev S8192x512 : Shape := ⟨2, ![8192, 512]⟩
abbrev S8192x256 : Shape := ⟨2, ![8192, 256]⟩
abbrev S8192x2048 : Shape := ⟨2, ![8192, 2048]⟩
abbrev S8192x1024 : Shape := ⟨2, ![8192, 1024]⟩
abbrev S512x512 : Shape := ⟨2, ![512, 512]⟩
abbrev S512x256 : Shape := ⟨2, ![512, 256]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 27
  | .smem => 0
  | _ => 0

abbrev bufTy : (tb : Table) → Fin (tcTables nBuf tb) → BufTy
  | .hbm, ⟨0, _⟩ => ⟨S8192x3072, .f32⟩
  | .hbm, ⟨1, _⟩ => ⟨S1x512, .f32⟩
  | .hbm, ⟨2, _⟩ => ⟨S1x256, .f32⟩
  | .hbm, ⟨3, _⟩ => ⟨S512x2048, .bf16⟩
  | .hbm, ⟨4, _⟩ => ⟨S256x1024, .bf16⟩
  | .hbm, ⟨5, _⟩ => ⟨S256x1024, .bf16⟩
  | .hbm, ⟨6, _⟩ => ⟨S8192x32, .f32⟩
  | .hbm, ⟨7, _⟩ => ⟨S8192x32, .f32⟩
  | .hbm, ⟨8, _⟩ => ⟨S_, .f32⟩
  | .hbm, ⟨9, _⟩ => ⟨S8192x32, .f32⟩
  | .hbm, ⟨10, _⟩ => ⟨S8192x128, .f32⟩
  | .hbm, ⟨11, _⟩ => ⟨S8192x128, .f32⟩
  | .hbm, ⟨12, _⟩ => ⟨S8192x32, .f32⟩
  | .hbm, ⟨13, _⟩ => ⟨S8192x128, .f32⟩
  | .hbm, ⟨14, _⟩ => ⟨S8192x512, .bf16⟩
  | .hbm, ⟨15, _⟩ => ⟨S8192x256, .bf16⟩
  | .hbm, ⟨16, _⟩ => ⟨S8192x2048, .bf16⟩
  | .hbm, ⟨17, _⟩ => ⟨S8192x2048, .bf16⟩
  | .hbm, ⟨18, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S1x512, .f32⟩
  | .local _ .vmem, ⟨7, _⟩ => ⟨S1x256, .f32⟩
  | .local _ .vmem, ⟨8, _⟩ => ⟨S512x2048, .bf16⟩
  | .local _ .vmem, ⟨9, _⟩ => ⟨S256x1024, .bf16⟩
  | .local _ .vmem, ⟨10, _⟩ => ⟨S256x1024, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x512, .bf16⟩
  | .local _ .vmem, ⟨18, _⟩ => ⟨S512x512, .bf16⟩
  | .local _ .vmem, ⟨19, _⟩ => ⟨S512x256, .bf16⟩
  | .local _ .vmem, ⟨20, _⟩ => ⟨S512x256, .bf16⟩
  | .local _ .vmem, ⟨21, _⟩ => ⟨S512x2048, .bf16⟩
  | .local _ .vmem, ⟨22, _⟩ => ⟨S512x2048, .bf16⟩
  | .local _ .vmem, ⟨23, _⟩ => ⟨S512x2048, .bf16⟩
  | .local _ .vmem, ⟨24, _⟩ => ⟨S512x2048, .bf16⟩
  | .local _ .vmem, ⟨25, _⟩ => ⟨S512x1024, .bf16⟩
  | .local _ .vmem, ⟨26, _⟩ => ⟨S512x1024, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MlaPrepRefIdeal.lean ====
abbrev S8192x3072 : Shape := ⟨2, ![8192, 3072]⟩
abbrev S1x512 : Shape := ⟨2, ![1, 512]⟩
abbrev S1x256 : Shape := ⟨2, ![1, 256]⟩
abbrev S512x2048 : Shape := ⟨2, ![512, 2048]⟩
abbrev S256x1024 : Shape := ⟨2, ![256, 1024]⟩
abbrev S8192x32 : Shape := ⟨2, ![8192, 32]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x256 : Shape := ⟨2, ![8192, 256]⟩
abbrev S8192x2048 : Shape := ⟨2, ![8192, 2048]⟩
abbrev S8192x8x256 : Shape := ⟨3, ![8192, 8, 256]⟩
abbrev S8192x8x64 : Shape := ⟨3, ![8192, 8, 64]⟩
abbrev S8192x1x32 : Shape := ⟨3, ![8192, 1, 32]⟩
abbrev S8192x8x32 : Shape := ⟨3, ![8192, 8, 32]⟩
abbrev S8192x1024 : Shape := ⟨2, ![8192, 1024]⟩
abbrev S8192x8x128 : Shape := ⟨3, ![8192, 8, 128]⟩
abbrev S8192x64 : Shape := ⟨2, ![8192, 64]⟩
abbrev S8192x1x64 : Shape := ⟨3, ![8192, 1, 64]⟩

abbrev nBuf : Space → Nat
  | .hbm => 88
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S1x512, .f32⟩
  | .hbm, ⟨2, _⟩ => ⟨S1x256, .f32⟩
  | .hbm, ⟨3, _⟩ => ⟨S512x2048, .bf16⟩
  | .hbm, ⟨4, _⟩ => ⟨S256x1024, .bf16⟩
  | .hbm, ⟨5, _⟩ => ⟨S256x1024, .bf16⟩
  | .hbm, ⟨6, _⟩ => ⟨S8192x32, .f32⟩
  | .hbm, ⟨7, _⟩ => ⟨S8192x32, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x256, .f32⟩
  | .hbm, ⟨25, _⟩ => ⟨S8192x256, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S512x2048, .f32⟩
  | .hbm, ⟨41, _⟩ => ⟨S8192x2048, .f32⟩
  | .hbm, ⟨42, _⟩ => ⟨S8192x8x256, .f32⟩
  | .hbm, ⟨43, _⟩ => ⟨S8192x8x64, .f32⟩
  | .hbm, ⟨44, _⟩ => ⟨S8192x1x32, .f32⟩
  | .hbm, ⟨45, _⟩ => ⟨S8192x1x32, .f32⟩
  | .hbm, ⟨46, _⟩ => ⟨S8192x8x32, .f32⟩
  | .hbm, ⟨47, _⟩ => ⟨S8192x8x32, .f32⟩
  | .hbm, ⟨48, _⟩ => ⟨S8192x8x32, .f32⟩
  | .hbm, ⟨49, _⟩ => ⟨S8192x8x32, .f32⟩
  | .hbm, ⟨50, _⟩ => ⟨S8192x8x32, .f32⟩
  | .hbm, ⟨51, _⟩ => ⟨S8192x8x32, .f32⟩
  | .hbm, ⟨52, _⟩ => ⟨S8192x8x32, .f32⟩
  | .hbm, ⟨53, _⟩ => ⟨S8192x8x32, .f32⟩
  | .hbm, ⟨54, _⟩ => ⟨S8192x8x32, .f32⟩
  | .hbm, ⟨55, _⟩ => ⟨S8192x8x32, .f32⟩
  | .hbm, ⟨56, _⟩ => ⟨S8192x8x32, .f32⟩
  | .hbm, ⟨57, _⟩ => ⟨S8192x8x32, .f32⟩
  | .hbm, ⟨58, _⟩ => ⟨S8192x8x64, .f32⟩
  | .hbm, ⟨59, _⟩ => ⟨S256x1024, .f32⟩
  | .hbm, ⟨60, _⟩ => ⟨S8192x1024, .f32⟩
  | .hbm, ⟨61, _⟩ => ⟨S8192x8x128, .f32⟩
  | .hbm, ⟨62, _⟩ => ⟨S8192x64, .f32⟩
  | .hbm, ⟨63, _⟩ => ⟨S8192x32, .f32⟩
  | .hbm, ⟨64, _⟩ => ⟨S8192x32, .f32⟩
  | .hbm, ⟨65, _⟩ => ⟨S8192x32, .f32⟩
  | .hbm, ⟨66, _⟩ => ⟨S8192x32, .f32⟩
  | .hbm, ⟨67, _⟩ => ⟨S8192x32, .f32⟩
  | .hbm, ⟨68, _⟩ => ⟨S8192x32, .f32⟩
  | .hbm, ⟨69, _⟩ => ⟨S8192x32, .f32⟩
  | .hbm, ⟨70, _⟩ => ⟨S8192x32, .f32⟩
  | .hbm, ⟨71, _⟩ => ⟨S8192x64, .f32⟩
  | .hbm, ⟨72, _⟩ => ⟨S8192x1x64, .f32⟩
  | .hbm, ⟨73, _⟩ => ⟨S8192x8x64, .f32⟩
  | .hbm, ⟨74, _⟩ => ⟨S256x1024, .f32⟩
  | .hbm, ⟨75, _⟩ => ⟨S8192x1024, .f32⟩
  | .hbm, ⟨76, _⟩ => ⟨S_, .f32⟩
  | .hbm, ⟨77, _⟩ => ⟨S8192x8x64, .f32⟩
  | .hbm, ⟨78, _⟩ => ⟨S8192x8x128, .f32⟩
  | .hbm, ⟨79, _⟩ => ⟨S8192x8x256, .f32⟩
  | .hbm, ⟨80, _⟩ => ⟨S8192x2048, .f32⟩
  | .hbm, ⟨81, _⟩ => ⟨S8192x8x256, .f32⟩
  | .hbm, ⟨82, _⟩ => ⟨S8192x2048, .f32⟩
  | .hbm, ⟨83, _⟩ => ⟨S8192x512, .bf16⟩
  | .hbm, ⟨84, _⟩ => ⟨S8192x256, .bf16⟩
  | .hbm, ⟨85, _⟩ => ⟨S8192x2048, .bf16⟩
  | .hbm, ⟨86, _⟩ => ⟨S8192x2048, .bf16⟩
  | .hbm, ⟨87, _⟩ => ⟨S8192x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_5 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩

abbrev nD : Nat := 1
abbrev τ : Topo := Topo.v7x

variable {F : FTy → Type} [FloatOps F]
-- ==== OutPost.lean ====
abbrev S8192x1024 : Shape := ⟨2, ![8192, 1024]⟩
abbrev S8192x3072 : Shape := ⟨2, ![8192, 3072]⟩
abbrev S2048x2048 : Shape := ⟨2, ![2048, 2048]⟩
abbrev S8192x2048 : Shape := ⟨2, ![8192, 2048]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 12
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x3072, .f32⟩
  | .hbm, ⟨3, _⟩ => ⟨S2048x2048, .bf16⟩
  | .hbm, ⟨4, _⟩ => ⟨S8192x2048, .f32⟩
  | .hbm, ⟨5, _⟩ => ⟨S8192x2048, .f32⟩
  | .hbm, ⟨6, _⟩ => ⟨S1x2048, .f32⟩
  | .hbm, ⟨7, _⟩ => ⟨S8192x2048, .bf16⟩
  | .hbm, ⟨8, _⟩ => ⟨S8192x2048, .bf16⟩
  | .hbm, ⟨9, _⟩ => ⟨S8192x2048, .f32⟩
  | .hbm, ⟨10, _⟩ => ⟨S1x2048, .f32⟩
  | .hbm, ⟨11, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S2048x2048, .bf16⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S1x2048, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .f32⟩
  | .local _ .vmem, ⟨19, _⟩ => ⟨S256x2048, .f32⟩
  | .local _ .vmem, ⟨20, _⟩ => ⟨S1x2048, .f32⟩
  | .local _ .vmem, ⟨21, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== OutPostRefIdeal.lean ====
abbrev S8192x1024 : Shape := ⟨2, ![8192, 1024]⟩
abbrev S8192x3072 : Shape := ⟨2, ![8192, 3072]⟩
abbrev S2048x2048 : Shape := ⟨2, ![2048, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x3072, .f32⟩
  | .hbm, ⟨3, _⟩ => ⟨S2048x2048, .bf16⟩
  | .hbm, ⟨4, _⟩ => ⟨S8192x2048, .f32⟩
  | .hbm, ⟨5, _⟩ => ⟨S8192x2048, .f32⟩
  | .hbm, ⟨6, _⟩ => ⟨S1x2048, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x2048, .f32⟩
  | .hbm, ⟨30, _⟩ => ⟨S2048x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .bf16⟩
  | .hbm, ⟨53, _⟩ => ⟨S8192x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S8192x2048, .f32⟩
  | .hbm, ⟨58, _⟩ => ⟨S_, .f32⟩
  | .hbm, ⟨59, _⟩ => ⟨S2048, .f32⟩
  | .hbm, ⟨60, _⟩ => ⟨S1x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_cst_0 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_4 : Ref sig .tc := ⟨.hbm, 58, rfl⟩
abbrev main_v30 : Ref sig .tc := ⟨.hbm, 59, rfl⟩
abbrev main_v31 : Ref sig .tc := ⟨.hbm, 60, rfl⟩

abbrev nD : Nat := 1
abbrev τ : Topo := Topo.v7x

variable {F : FTy → Type} [FloatOps F]
-- ==== AdamOut.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2048x1488 : Shape := ⟨2, ![2048, 1488]⟩
abbrev S128x1488 : Shape := ⟨2, ![128, 1488]⟩

abbrev nBuf : Space → Nat
  | .hbm => 8
  | .vmem => 16
  | .smem => 0
  | _ => 0

abbrev bufTy : (tb : Table) → Fin (tcTables nBuf tb) → BufTy
  | .hbm, ⟨0, _⟩ => ⟨S2048x1488, .f32⟩
  | .hbm, ⟨1, _⟩ => ⟨S2048x1488, .f32⟩
  | .hbm, ⟨2, _⟩ => ⟨S2048x1488, .f32⟩
  | .hbm, ⟨3, _⟩ => ⟨S2048x1488, .f32⟩
  | .hbm, ⟨4, _⟩ => ⟨S2048x1488, .f32⟩
  | .hbm, ⟨5, _⟩ => ⟨S2048x1488, .f32⟩
  | .hbm, ⟨6, _⟩ => ⟨S2048x1488, .f32⟩
  | .hbm, ⟨7, _⟩ => ⟨S2048x1488, .f32⟩
  | .local _ .vmem, ⟨0, _⟩ => ⟨S128x1488, .f32⟩
  | .local _ .vmem, ⟨1, _⟩ => ⟨S128x1488, .f32⟩
  | .local _ .vmem, ⟨2, _⟩ => ⟨S128x1488, .f32⟩
  | .local _ .vmem, ⟨3, _⟩ => ⟨S128x1488, .f32⟩
  | .local _ .vmem, ⟨4, _⟩ => ⟨S128x1488, .f32⟩
  | .local _ .vmem, ⟨5, _⟩ => ⟨S128x1488, .f32⟩
  | .local _ .vmem, ⟨6, _⟩ => ⟨S128x1488, .f32⟩
  | .local _ .vmem, ⟨7, _⟩ => ⟨S128x1488, .f32⟩
  | .local _ .vmem, ⟨8, _⟩ => ⟨S128x1488, .f32⟩
  | .local _ .vmem, ⟨9, _⟩ => ⟨S128x1488, .f32⟩
  | .local _ .vmem, ⟨10, _⟩ => ⟨S128x1488, .f32⟩
  | .local _ .vmem, ⟨11, _⟩ => ⟨S128x1488, .f32⟩
  | .local _ .vmem, ⟨12, _⟩ => ⟨S128x1488, .f32⟩
  | .local _ .vmem, ⟨13, _⟩ => ⟨S128x1488, .f32⟩
  | .local _ .vmem, ⟨14, _⟩ => ⟨S128x1488, .f32⟩
  | .local _ .vmem, ⟨15, _⟩ => ⟨S128x1488, .f32⟩
  | _, _ => ⟨S2048x1488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1488 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1488 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1488 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1488 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1488 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1488 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1488 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1488 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2048x1488 : Shape := ⟨2, ![2048, 1488]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1488, .f32⟩
  | .hbm, ⟨1, _⟩ => ⟨S2048x1488, .f32⟩
  | .hbm, ⟨2, _⟩ => ⟨S2048x1488, .f32⟩
  | .hbm, ⟨3, _⟩ => ⟨S2048x1488, .f32⟩
  | .hbm, ⟨4, _⟩ => ⟨S_, .f32⟩
  | .hbm, ⟨5, _⟩ => ⟨S2048x1488, .f32⟩
  | .hbm, ⟨6, _⟩ => ⟨S2048x1488, .f32⟩
  | .hbm, ⟨7, _⟩ => ⟨S_, .f32⟩
  | .hbm, ⟨8, _⟩ => ⟨S2048x1488, .f32⟩
  | .hbm, ⟨9, _⟩ => ⟨S2048x1488, .f32⟩
  | .hbm, ⟨10, _⟩ => ⟨S2048x1488, .f32⟩
  | .hbm, ⟨11, _⟩ => ⟨S_, .f32⟩
  | .hbm, ⟨12, _⟩ => ⟨S2048x1488, .f32⟩
  | .hbm, ⟨13, _⟩ => ⟨S2048x1488, .f32⟩
  | .hbm, ⟨14, _⟩ => ⟨S2048x1488, .f32⟩
  | .hbm, ⟨15, _⟩ => ⟨S_, .f32⟩
  | .hbm, ⟨16, _⟩ => ⟨S2048x1488, .f32⟩
  | .hbm, ⟨17, _⟩ => ⟨S2048x1488, .f32⟩
  | .hbm, ⟨18, _⟩ => ⟨S2048x1488, .f32⟩
  | .hbm, ⟨19, _⟩ => ⟨S_, .f32⟩
  | .hbm, ⟨20, _⟩ => ⟨S2048x1488, .f32⟩
  | .hbm, ⟨21, _⟩ => ⟨S2048x1488, .f32⟩
  | .hbm, ⟨22, _⟩ => ⟨S_, .f32⟩
  | .hbm, ⟨23, _⟩ => ⟨S2048x1488, .f32⟩
  | .hbm, ⟨24, _⟩ => ⟨S2048x1488, .f32⟩
  | .hbm, ⟨25, _⟩ => ⟨S2048x1488, .f32⟩
  | .hbm, ⟨26, _⟩ => ⟨S_, .f32⟩
  | .hbm, ⟨27, _⟩ => ⟨S2048x1488, .f32⟩
  | .hbm, ⟨28, _⟩ => ⟨S2048x1488, .f32⟩
  | .hbm, ⟨29, _⟩ => ⟨S2048x1488, .f32⟩
  | .hbm, ⟨30, _⟩ => ⟨S_, .f32⟩
  | .hbm, ⟨31, _⟩ => ⟨S2048x1488, .f32⟩
  | .hbm, ⟨32, _⟩ => ⟨S2048x1488, .f32⟩
  | .hbm, ⟨33, _⟩ => ⟨S2048x1488, .f32⟩
  | .hbm, ⟨34, _⟩ => ⟨S_, .f32⟩
  | .hbm, ⟨35, _⟩ => ⟨S2048x1488, .f32⟩
  | .hbm, ⟨36, _⟩ => ⟨S2048x1488, .f32⟩
  | _, _ => ⟨S2048x1488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQ.lean ====
abbrev S512x384 : Shape := ⟨2, ![512, 384]⟩
abbrev S128x384 : Shape := ⟨2, ![128, 384]⟩

abbrev nBuf : Space → Nat
  | .hbm => 8
  | .vmem => 16
  | .smem => 0
  | _ => 0

abbrev bufTy : (tb : Table) → Fin (tcTables nBuf tb) → BufTy
  | .hbm, ⟨0, _⟩ => ⟨S512x384, .f32⟩
  | .hbm, ⟨1, _⟩ => ⟨S512x384, .f32⟩
  | .hbm, ⟨2, _⟩ => ⟨S512x384, .f32⟩
  | .hbm, ⟨3, _⟩ => ⟨S512x384, .f32⟩
  | .hbm, ⟨4, _⟩ => ⟨S512x384, .f32⟩
  | .hbm, ⟨5, _⟩ => ⟨S512x384, .f32⟩
  | .hbm, ⟨6, _⟩ => ⟨S512x384, .f32⟩
  | .hbm, ⟨7, _⟩ => ⟨S512x384, .f32⟩
  | .local _ .vmem, ⟨0, _⟩ => ⟨S128x384, .f32⟩
  | .local _ .vmem, ⟨1, _⟩ => ⟨S128x384, .f32⟩
  | .local _ .vmem, ⟨2, _⟩ => ⟨S128x384, .f32⟩
  | .local _ .vmem, ⟨3, _⟩ => ⟨S128x384, .f32⟩
  | .local _ .vmem, ⟨4, _⟩ => ⟨S128x384, .f32⟩
  | .local _ .vmem, ⟨5, _⟩ => ⟨S128x384, .f32⟩
  | .local _ .vmem, ⟨6, _⟩ => ⟨S128x384, .f32⟩
  | .local _ .vmem, ⟨7, _⟩ => ⟨S128x384, .f32⟩
  | .local _ .vmem, ⟨8, _⟩ => ⟨S128x384, .f32⟩
  | .local _ .vmem, ⟨9, _⟩ => ⟨S128x384, .f32⟩
  | .local _ .vmem, ⟨10, _⟩ => ⟨S128x384, .f32⟩
  | .local _ .vmem, ⟨11, _⟩ => ⟨S128x384, .f32⟩
  | .local _ .vmem, ⟨12, _⟩ => ⟨S128x384, .f32⟩
  | .local _ .vmem, ⟨13, _⟩ => ⟨S128x384, .f32⟩
  | .local _ .vmem, ⟨14, _⟩ => ⟨S128x384, .f32⟩
  | .local _ .vmem, ⟨15, _⟩ => ⟨S128x384, .f32⟩
  | _, _ => ⟨S512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamQRefIdeal.lean ====
abbrev S512x384 : Shape := ⟨2, ![512, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x384, .f32⟩
  | .hbm, ⟨1, _⟩ => ⟨S512x384, .f32⟩
  | .hbm, ⟨2, _⟩ => ⟨S512x384, .f32⟩
  | .hbm, ⟨3, _⟩ => ⟨S512x384, .f32⟩
  | .hbm, ⟨4, _⟩ => ⟨S_, .f32⟩
  | .hbm, ⟨5, _⟩ => ⟨S512x384, .f32⟩
  | .hbm, ⟨6, _⟩ => ⟨S512x384, .f32⟩
  | .hbm, ⟨7, _⟩ => ⟨S_, .f32⟩
  | .hbm, ⟨8, _⟩ => ⟨S512x384, .f32⟩
  | .hbm, ⟨9, _⟩ => ⟨S512x384, .f32⟩
  | .hbm, ⟨10, _⟩ => ⟨S512x384, .f32⟩
  | .hbm, ⟨11, _⟩ => ⟨S_, .f32⟩
  | .hbm, ⟨12, _⟩ => ⟨S512x384, .f32⟩
  | .hbm, ⟨13, _⟩ => ⟨S512x384, .f32⟩
  | .hbm, ⟨14, _⟩ => ⟨S512x384, .f32⟩
  | .hbm, ⟨15, _⟩ => ⟨S_, .f32⟩
  | .hbm, ⟨16, _⟩ => ⟨S512x384, .f32⟩
  | .hbm, ⟨17, _⟩ => ⟨S512x384, .f32⟩
  | .hbm, ⟨18, _⟩ => ⟨S512x384, .f32⟩
  | .hbm, ⟨19, _⟩ => ⟨S_, .f32⟩
  | .hbm, ⟨20, _⟩ => ⟨S512x384, .f32⟩
  | .hbm, ⟨21, _⟩ => ⟨S512x384, .f32⟩
  | .hbm, ⟨22, _⟩ => ⟨S_, .f32⟩
  | .hbm, ⟨23, _⟩ => ⟨S512x384, .f32⟩
  | .hbm, ⟨24, _⟩ => ⟨S512x384, .f32⟩
  | .hbm, ⟨25, _⟩ => ⟨S512x384, .f32⟩
  | .hbm, ⟨26, _⟩ => ⟨S_, .f32⟩
  | .hbm, ⟨27, _⟩ => ⟨S512x384, .f32⟩
  | .hbm, ⟨28, _⟩ => ⟨S512x384, .f32⟩
  | .hbm, ⟨29, _⟩ => ⟨S512x384, .f32⟩
  | .hbm, ⟨30, _⟩ => ⟨S_, .f32⟩
  | .hbm, ⟨31, _⟩ => ⟨S512x384, .f32⟩
  | .hbm, ⟨32, _⟩ => ⟨S512x384, .f32⟩
  | .hbm, ⟨33, _⟩ => ⟨S512x384, .f32⟩
  | .hbm, ⟨34, _⟩ => ⟨S_, .f32⟩
  | .hbm, ⟨35, _⟩ => ⟨S512x384, .f32⟩
  | .hbm, ⟨36, _⟩ => ⟨S512x384, .f32⟩
  | _, _ => ⟨S512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S256x512 : Shape := ⟨2, ![256, 512]⟩
abbrev S128x512 : Shape := ⟨2, ![128, 512]⟩

abbrev nBuf : Space → Nat
  | .hbm => 8
  | .vmem => 16
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamKvRefIdeal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Attn.lean ====
/- Softmax attention of one head over chunks, and its gradients, on real numbers. -/
module

public import Idealize.ShloMosaic.PureOps.Ideal
public import Mathlib.Algebra.BigOperators.Field

@[expose] public section

namespace Cert.Attn

open Finset

variable (q k : Fin 8192 → Fin 192 → ℝ) (v : Fin 8192 → Fin 128 → ℝ) (g : Fin 8192 → Fin 128 → ℝ) (c : ℝ) (M : Fin 8192 → ℝ)

/-- A finite sum of reals among the extended reals. -/
theorem coe_sum {ι : Type} [Fintype ι] (f : ι → ℝ) : ∑ i, ((f i : ℝ) : EReal) = ((∑ i, f i : ℝ) : EReal) := by
  classical
  refine Finset.induction_on (motive := fun s => ∑ i ∈ s, ((f i : ℝ) : EReal) = ((∑ i ∈ s, f i : ℝ) : EReal)) univ (by simp) ?_
  intro i s hi ih
  rw [sum_insert hi, sum_insert hi, ih, EReal.coe_add]

/-- The query at `a` reads the key at `r`: its chunk of 64 is not a later one. -/
def vis (r a : Fin 8192) : Prop := r.val / 64 ≤ a.val / 64

instance (r a : Fin 8192) : Decidable (vis r a) := Nat.decLe _ _

/-- The scaled score. -/
noncomputable def score (a r : Fin 8192) : ℝ := (∑ x, q a x * k r x) * c
/-- The exponential of the score less a row constant. -/
noncomputable def ex (a r : Fin 8192) : ℝ := if vis r a then Real.exp (score q k c a r - M a) else 0
/-- The row sum of the exponentials. -/
noncomputable def den (a : Fin 8192) : ℝ := ∑ r, ex q k c M a r
/-- The softmax weight. -/
noncomputable def pr (a r : Fin 8192) : ℝ := ex q k c M a r / den q k c M a
/-- The attention's output. -/
noncomputable def out (a : Fin 8192) (x : Fin 128) : ℝ := ∑ r, pr q k c M a r * v r x
/-- The derivative by a weight. -/
noncomputable def dpr (a r : Fin 8192) : ℝ := ∑ x, g a x * v r x
/-- The derivative by a score before scaling. -/
noncomputable def dsc (a r : Fin 8192) : ℝ :=
  if vis r a then pr q k c M a r * (dpr v g a r - ∑ x, g a x * out q k v c M a x) * c else 0
/-- The logistic function. -/
noncomputable def sig (t : ℝ) : ℝ := (1 + Real.exp (-t))⁻¹

theorem ex_nonneg (a r : Fin 8192) : 0 ≤ ex q k c M a r := by
  unfold ex
  split
  · exact (Real.exp_pos _).le
  · exact le_refl _

theorem den_pos (a : Fin 8192) : 0 < den q k c M a := by
  unfold den
  refine lt_of_lt_of_le ?_ (single_le_sum (fun r _ => ex_nonneg q k c M a r) (mem_univ a))
  unfold ex
  rw [if_pos (show vis a a from le_refl _)]
  exact Real.exp_pos _

/-- The weight from the logarithm of the row sum. -/
theorem pr_log (a r : Fin 8192) (h : vis r a) :
    Real.exp (score q k c a r - (M a + Real.log (den q k c M a))) = pr q k c M a r := by
  unfold pr ex
  rw [if_pos h, sub_add_eq_sub_sub, Real.exp_sub, Real.exp_log (den_pos q k c M a)]

/-- The output against its derivative is the weights against theirs. -/
theorem out_dot (a : Fin 8192) : ∑ x, g a x * out q k v c M a x = ∑ r, pr q k c M a r * dpr v g a r := by
  unfold out dpr
  simp only [mul_sum]
  rw [sum_comm]
  refine sum_congr rfl fun r _ => sum_congr rfl fun x _ => ?_
  ring

/-- The derivative by a score through the quotient's two parts. -/
theorem dsc_quot (a r : Fin 8192) :
    (if vis r a then (dpr v g a r * (1 / den q k c M a) + -∑ t, dpr v g a t * (1 / (den q k c M a * den q k c M a)) * ex q k c M a t) * ex q k c M a r else 0) * c
      = dsc q k v g c M a r := by
  unfold dsc
  split
  · rw [out_dot]
    have hd := (den_pos q k c M a).ne'
    have e : ∑ t, dpr v g a t * (1 / (den q k c M a * den q k c M a)) * ex q k c M a t
        = (1 / den q k c M a) * ∑ t, pr q k c M a t * dpr v g a t := by
      rw [mul_sum]
      refine sum_congr rfl fun t _ => ?_
      unfold pr
      field_simp
    rw [e]
    unfold pr
    field_simp
    ring
  · rw [zero_mul]

/-- The derivative of the gate's activation in its two spellings. -/
theorem silu_deriv (t : ℝ) : sig t + t * (sig t * (1 - sig t)) = sig t * (1 + t * (1 - sig t)) := by ring

end Cert.Attn

end
-- ==== Proof.Tile.lean ====
/- The values of the backward kernel's arithmetic, one tile of 256 keys against a block of 1024 queries, in exact arithmetic.

   For a key `k`, a query `q` with log-sum-exp `l`: the attention weight `weight k q l = exp (k·q * scale - l)`, and the derivative of
   the loss by the score `slope … = weight * (v·g - delta) * scale`, where `g` is the gradient of the attention's output and `delta`
   its product with that output. Each lemma reads one of the kernel's expressions at an index. -/
module

public import proofs.«01_k».proof.Proof.Gen.KernelIdeal.Skeleton
public import Idealize.ShloMosaic.Lib.Pipeline.ValueKit
public import Idealize.ShloMosaic.Lib.Pointwise

@[expose] public section

set_option maxRecDepth 16384

namespace Cert.Tile

open Idealize.ShloMosaic Idealize.ShloMosaic.TcCoe Idealize.SL.Sem
open Cert.KernelIdeal Cert.KernelIdeal.Gen

/-- The kernel's softmax scale, the rounded constant of its text. -/
noncomputable def sc : EReal := Ideal.ofBits FTy.f32 1033096506#32

/-- The attention weight of key row `k` for query row `q` whose log-sum-exp is `l`. -/
noncomputable def weight (k q : Fin 256 → EReal) (l : EReal) : EReal := Ideal.exp ((∑ x, k x * q x) * sc - l)

/-- The derivative of the loss by the unscaled score. -/
noncomputable def slope (k q : Fin 256 → EReal) (l : EReal) (v g : Fin 128 → EReal) (dl : EReal) : EReal :=
  weight k q l * ((∑ x, v x * g x) - dl) * sc

/-- Row `r` of a matrix. -/
abbrev row {R C : ℕ} (a : FVec Ideal (⟨2, ![R, C]⟩ : Shape) .bf16) (r : Fin R) : Fin C → EReal := fun x => a (ix2 r x)

/-- A tile of keys, as loaded. -/
theorem pay5 (k : FVec Ideal S256x256 .bf16) (r : Fin 256) (d : Fin 256) :
    k0_pay5 k (ix2 r d) = k (ix2 r d) := by
  pointwise [k0_pay5]

/-- A tile of keys, as loaded. -/
theorem pay11 (k : FVec Ideal S256x256 .bf16) (r : Fin 256) (d : Fin 256) :
    k0_pay11 k (ix2 r d) = k (ix2 r d) := by
  pointwise [k0_pay11]

/-- A tile of keys, as loaded. -/
theorem pay19 (k : FVec Ideal S256x256 .bf16) (r : Fin 256) (d : Fin 256) :
    k0_pay19 k (ix2 r d) = k (ix2 r d) := by
  pointwise [k0_pay19]

/-- A tile of keys, as loaded. -/
theorem pay26 (k : FVec Ideal S256x256 .bf16) (r : Fin 256) (d : Fin 256) :
    k0_pay26 k (ix2 r d) = k (ix2 r d) := by
  pointwise [k0_pay26]

/-- The slopes of a tile. -/
theorem pay7 (q : FVec Ideal S1024x256 .bf16) (dl : FVec Ideal S1x1024 .f32) (g : FVec Ideal S1024x128 .bf16) (l : FVec Ideal S1x1024 .f32) (k : FVec Ideal S256x256 .bf16) (v : FVec Ideal S256x128 .bf16) (r : Fin 256) (j : Fin 1024) :
    k0_pay7 q dl g l k v (ix2 r j) = slope (row k r) (row q j) (l (ix2 0 j)) (row v r) (row g j) (dl (ix2 0 j)) := by
  pointwise [k0_pay7, k0_pay6, k0_pay5]
  rfl

/-- The slopes of a tile. -/
theorem pay13 (q : FVec Ideal S1024x256 .bf16) (dl : FVec Ideal S1x1024 .f32) (g : FVec Ideal S1024x128 .bf16) (l : FVec Ideal S1x1024 .f32) (k : FVec Ideal S256x256 .bf16) (v : FVec Ideal S256x128 .bf16) (r : Fin 256) (j : Fin 1024) :
    k0_pay13 q dl g l k v (ix2 r j) = slope (row k r) (row q j) (l (ix2 0 j)) (row v r) (row g j) (dl (ix2 0 j)) := by
  pointwise [k0_pay13, k0_pay12, k0_pay11]
  rfl

/-- The slopes of a tile. -/
theorem pay21 (q : FVec Ideal S1024x256 .bf16) (dl : FVec Ideal S1x1024 .f32) (g : FVec Ideal S1024x128 .bf16) (l : FVec Ideal S1x1024 .f32) (k : FVec Ideal S256x256 .bf16) (v : FVec Ideal S256x128 .bf16) (r : Fin 256) (j : Fin 1024) :
    k0_pay21 q dl g l k v (ix2 r j) = slope (row k r) (row q j) (l (ix2 0 j)) (row v r) (row g j) (dl (ix2 0 j)) := by
  pointwise [k0_pay21, k0_pay20, k0_pay19]
  rfl

/-- The slopes of a tile. -/
theorem pay28 (q : FVec Ideal S1024x256 .bf16) (dl : FVec Ideal S1x1024 .f32) (g : FVec Ideal S1024x128 .bf16) (l : FVec Ideal S1x1024 .f32) (k : FVec Ideal S256x256 .bf16) (v : FVec Ideal S256x128 .bf16) (r : Fin 256) (j : Fin 1024) :
    k0_pay28 q dl g l k v (ix2 r j) = slope (row k r) (row q j) (l (ix2 0 j)) (row v r) (row g j) (dl (ix2 0 j)) := by
  pointwise [k0_pay28, k0_pay27, k0_pay26]
  rfl

/-- The weights of a tile. -/
theorem pay27 (q : FVec Ideal S1024x256 .bf16) (l : FVec Ideal S1x1024 .f32) (k : FVec Ideal S256x256 .bf16) (r : Fin 256) (j : Fin 1024) :
    k0_pay27 q l k (ix2 r j) = weight (row k r) (row q j) (l (ix2 0 j)) := by
  pointwise [k0_pay27, k0_pay26]
  rfl

/-- The gradient of the values, a tile added. -/
theorem pay8 (q : FVec Ideal S1024x256 .bf16) (g : FVec Ideal S1024x128 .bf16) (l : FVec Ideal S1x1024 .f32) (k : FVec Ideal S256x256 .bf16) (a : FVec Ideal S256x128 .f32) (r : Fin 256) (d : Fin 128) :
    k0_pay8 q g l k a (ix2 r d) = a (ix2 r d) + ∑ x, weight (row k r) (row q x) (l (ix2 0 x)) * g (ix2 x d) := by
  pointwise [k0_pay8, k0_pay6, k0_pay5]
  rfl

/-- The gradient of the values, a tile added. -/
theorem pay14 (q : FVec Ideal S1024x256 .bf16) (g : FVec Ideal S1024x128 .bf16) (l : FVec Ideal S1x1024 .f32) (k : FVec Ideal S256x256 .bf16) (a : FVec Ideal S256x128 .f32) (r : Fin 256) (d : Fin 128) :
    k0_pay14 q g l k a (ix2 r d) = a (ix2 r d) + ∑ x, weight (row k r) (row q x) (l (ix2 0 x)) * g (ix2 x d) := by
  pointwise [k0_pay14, k0_pay12, k0_pay11]
  rfl

/-- The gradient of the values, a tile added. -/
theorem pay23 (q : FVec Ideal S1024x256 .bf16) (g : FVec Ideal S1024x128 .bf16) (l : FVec Ideal S1x1024 .f32) (k : FVec Ideal S256x256 .bf16) (a : FVec Ideal S256x128 .f32) (r : Fin 256) (d : Fin 128) :
    k0_pay23 (k0_pay22 q g l k a) (ix2 r d) = a (ix2 r d) + ∑ x, weight (row k r) (row q x) (l (ix2 0 x)) * g (ix2 x d) := by
  pointwise [k0_pay23, k0_pay22, k0_pay20, k0_pay19]
  rfl

/-- The gradient of the values, a tile added. -/
theorem pay88 (g : FVec Ideal S1024x128 .bf16) (p : FVec Ideal S256x1024 .f32) (a : FVec Ideal S256x128 .f32) (r : Fin 256) (d : Fin 128) :
    k0_pay88 g p a (ix2 r d) = a (ix2 r d) + ∑ x, p (ix2 r x) * g (ix2 x d) := by
  pointwise [k0_pay88]

/-- The gradient of the keys, a tile added. -/
theorem pay9 (q : FVec Ideal S1024x256 .bf16) (dl : FVec Ideal S1x1024 .f32) (g : FVec Ideal S1024x128 .bf16) (l : FVec Ideal S1x1024 .f32) (k : FVec Ideal S256x256 .bf16) (v : FVec Ideal S256x128 .bf16) (a : FVec Ideal S256x256 .f32) (r : Fin 256) (d : Fin 256) :
    k0_pay9 q dl g l k v a (ix2 r d) = a (ix2 r d) + ∑ x, slope (row k r) (row q x) (l (ix2 0 x)) (row v r) (row g x) (dl (ix2 0 x)) * q (ix2 x d) := by
  pointwise [k0_pay9, k0_pay7, k0_pay6, k0_pay5]
  rfl

/-- The gradient of the keys, a tile added. -/
theorem pay17 (q : FVec Ideal S1024x256 .bf16) (dl : FVec Ideal S1x1024 .f32) (g : FVec Ideal S1024x128 .bf16) (l : FVec Ideal S1x1024 .f32) (k : FVec Ideal S256x256 .bf16) (v : FVec Ideal S256x128 .bf16) (a : FVec Ideal S256x256 .f32) (r : Fin 256) (d : Fin 256) :
    k0_pay17 (k0_pay15 a) (k0_pay16 q dl g l k v) (ix2 r d) = a (ix2 r d) + ∑ x, slope (row k r) (row q x) (l (ix2 0 x)) (row v r) (row g x) (dl (ix2 0 x)) * q (ix2 x d) := by
  pointwise [k0_pay17, k0_pay15, k0_pay16, k0_pay13, k0_pay12, k0_pay11]
  rfl

/-- The gradient of the keys, a tile added. -/
theorem pay24 (q : FVec Ideal S1024x256 .bf16) (ds : FVec Ideal S256x1024 .bf16) (a : FVec Ideal S256x256 .f32) (r : Fin 256) (d : Fin 256) :
    k0_pay24 q ds a (ix2 r d) = a (ix2 r d) + ∑ x, ds (ix2 r x) * q (ix2 x d) := by
  pointwise [k0_pay24]

/-- The gradient of the keys, a tile added. -/
theorem pay89 (q : FVec Ideal S1024x256 .bf16) (ds : FVec Ideal S256x1024 .bf16) (a : FVec Ideal S256x256 .f32) (r : Fin 256) (d : Fin 256) :
    k0_pay89 q ds a (ix2 r d) = a (ix2 r d) + ∑ x, ds (ix2 r x) * q (ix2 x d) := by
  pointwise [k0_pay89]

/-- The transposed gradient of the queries, a tile added. -/
theorem pay10 (k : FVec Ideal S256x256 .bf16) (ds : FVec Ideal S256x1024 .bf16) (a : FVec Ideal S256x1024 .f32) (d : Fin 256) (j : Fin 1024) :
    k0_pay10 k ds a (ix2 d j) = a (ix2 d j) + ∑ x, k (ix2 x d) * ds (ix2 x j) := by
  pointwise [k0_pay10]

/-- The transposed gradient of the queries, a tile added. -/
theorem pay18 (k : FVec Ideal S256x256 .bf16) (ds : FVec Ideal S256x1024 .bf16) (a : FVec Ideal S256x1024 .f32) (d : Fin 256) (j : Fin 1024) :
    k0_pay18 k ds a (ix2 d j) = a (ix2 d j) + ∑ x, k (ix2 x d) * ds (ix2 x j) := by
  pointwise [k0_pay18]

/-- The transposed gradient of the queries, a tile added. -/
theorem pay25 (k : FVec Ideal S256x256 .bf16) (ds : FVec Ideal S256x1024 .bf16) (a : FVec Ideal S256x1024 .f32) (d : Fin 256) (j : Fin 1024) :
    k0_pay25 k ds a (ix2 d j) = a (ix2 d j) + ∑ x, k (ix2 x d) * ds (ix2 x j) := by
  pointwise [k0_pay25]

/-- The transposed gradient of the queries, a tile added. -/
theorem pay90 (k : FVec Ideal S256x256 .bf16) (ds : FVec Ideal S256x1024 .bf16) (a : FVec Ideal S256x1024 .f32) (d : Fin 256) (j : Fin 1024) :
    k0_pay90 k ds a (ix2 d j) = a (ix2 d j) + ∑ x, k (ix2 x d) * ds (ix2 x j) := by
  pointwise [k0_pay90]

end Cert.Tile

end
-- ==== Proof.Diag.lean ====
/- The kernel's arithmetic on the diagonal: 256 keys against the queries of the same block from the tile's first key on, where a
   query sees the keys of its own chunk of 64 and of the chunks before. -/
module

public import proofs.«01_k».proof.Proof.Tile

@[expose] public section

set_option maxRecDepth 16384

namespace Cert.Tile

open Idealize.ShloMosaic Idealize.ShloMosaic.TcCoe Idealize.SL.Sem
open Cert.KernelIdeal Cert.KernelIdeal.Gen

/-- The kernel's quotient by the chunk length 64, rounded down. -/
def chunk (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi ArithUnit.vector x 64#32) 0#32))
    (IntOp.subi (IntOp.divsi ArithUnit.vector x 64#32) 1#32)
    (IntOp.divsi ArithUnit.vector x 64#32)

theorem chunk_eq (n b : ℕ) (h : n + b < 1024) : chunk (IntOp.addi (BitVec.ofNat 32 n) (BitVec.ofNat 32 b)) = BitVec.ofNat 32 ((b + n) / 64) := by
  have all : ∀ m : Fin 1024, chunk (BitVec.ofNat 32 m.val) = BitVec.ofNat 32 (m.val / 64) := by decide +kernel
  have e : IntOp.addi (BitVec.ofNat 32 n) (BitVec.ofNat 32 b) = BitVec.ofNat 32 (b + n) := by
    rw [Nat.add_comm b n]; exact (BitVec.ofNat_add n b).symm
  rw [e]
  exact all ⟨b + n, by omega⟩

theorem chunk_le (m n : ℕ) (hm : m < 1024) (hn : n < 1024) :
    IntOp.cmpi .sle (BitVec.ofNat 32 (m / 64)) (BitVec.ofNat 32 (n / 64)) = if m / 64 ≤ n / 64 then 1#1 else 0#1 := by
  have all : ∀ a b : Fin 16, IntOp.cmpi .sle (BitVec.ofNat 32 a.val) (BitVec.ofNat 32 b.val) = if a.val ≤ b.val then 1#1 else 0#1 := by decide +kernel
  exact all ⟨m / 64, by omega⟩ ⟨n / 64, by omega⟩

/-- A choice by a mask bit. -/
theorem select_ite {α : Type} (p : Prop) [Decidable p] (x y : α) : Scalar.select (if p then 1#1 else 0#1) x y = if p then x else y := by
  by_cases h : p <;> simp [h, Scalar.select]

theorem select_mul (p : Prop) [Decidable p] (x y : EReal) :
    Scalar.select (if p then 1#1 else 0#1) (x * y) (0 : EReal) = (if p then x else 0) * y := by
  rw [select_ite]; by_cases h : p <;> simp [h]

theorem select_mul' (p : Prop) [Decidable p] (x y : EReal) :
    Scalar.select (if p then 1#1 else 0#1) (x * y) (0 : EReal) = x * (if p then y else 0) := by
  rw [select_ite]; by_cases h : p <;> simp [h]

/-- The mask of diagonal tile 0. -/
theorem mask0 (r : Fin 256) (j : Fin 1024) :
    (k0_pay68 (k0_pay66 k0_pay63 (64#32) k0_pay65) (k0_pay67 k0_pay64)) (ix2 r j) = if (0 + r.val) / 64 ≤ (0 + j.val) / 64 then 1#1 else 0#1 := by
  have e : (k0_pay68 (k0_pay66 k0_pay63 (64#32) k0_pay65) (k0_pay67 k0_pay64)) (ix2 r j) = IntOp.cmpi .sle (chunk (IntOp.addi (BitVec.ofNat 32 r.val) 0#32)) (chunk (IntOp.addi (BitVec.ofNat 32 j.val) 0#32)) := by
    pointwise [k0_pay68, k0_pay67, k0_pay66, k0_pay65, k0_pay64, k0_pay63]
    rfl
  rw [e, chunk_eq _ 0 (by omega), chunk_eq _ 0 (by omega)]
  exact chunk_le _ _ (by omega) (by omega)

/-- The mask of diagonal tile 1. -/
theorem mask1 (r : Fin 256) (j : Fin 768) :
    (k0_pay74 k0_pay69 k0_pay70 (64#32) k0_pay71 k0_pay72 k0_pay73) (ix2 r j) = if (256 + r.val) / 64 ≤ (256 + j.val) / 64 then 1#1 else 0#1 := by
  have e : (k0_pay74 k0_pay69 k0_pay70 (64#32) k0_pay71 k0_pay72 k0_pay73) (ix2 r j) = IntOp.cmpi .sle (chunk (IntOp.addi (BitVec.ofNat 32 r.val) 256#32)) (chunk (IntOp.addi (BitVec.ofNat 32 j.val) 256#32)) := by
    pointwise [k0_pay74, k0_pay73, k0_pay72, k0_pay71, k0_pay70, k0_pay69]
    rfl
  rw [e, chunk_eq _ 256 (by omega), chunk_eq _ 256 (by omega)]
  exact chunk_le _ _ (by omega) (by omega)

/-- The mask of diagonal tile 2. -/
theorem mask2 (r : Fin 256) (j : Fin 512) :
    (k0_pay80 k0_pay75 k0_pay76 (64#32) k0_pay77 k0_pay78 k0_pay79) (ix2 r j) = if (512 + r.val) / 64 ≤ (512 + j.val) / 64 then 1#1 else 0#1 := by
  have e : (k0_pay80 k0_pay75 k0_pay76 (64#32) k0_pay77 k0_pay78 k0_pay79) (ix2 r j) = IntOp.cmpi .sle (chunk (IntOp.addi (BitVec.ofNat 32 r.val) 512#32)) (chunk (IntOp.addi (BitVec.ofNat 32 j.val) 512#32)) := by
    pointwise [k0_pay80, k0_pay79, k0_pay78, k0_pay77, k0_pay76, k0_pay75]
    rfl
  rw [e, chunk_eq _ 512 (by omega), chunk_eq _ 512 (by omega)]
  exact chunk_le _ _ (by omega) (by omega)

/-- The mask of diagonal tile 3. -/
theorem mask3 (r : Fin 256) (j : Fin 256) :
    (k0_pay86 k0_pay82 k0_pay83 k0_pay84 k0_pay85) (ix2 r j) = if (768 + r.val) / 64 ≤ (768 + j.val) / 64 then 1#1 else 0#1 := by
  have e : (k0_pay86 k0_pay82 k0_pay83 k0_pay84 k0_pay85) (ix2 r j) = IntOp.cmpi .sle (chunk (IntOp.addi (BitVec.ofNat 32 r.val) 768#32)) (chunk (IntOp.addi (BitVec.ofNat 32 j.val) 768#32)) := by
    pointwise [k0_pay86, k0_pay85, k0_pay84, k0_pay83, k0_pay82, k0_pay81]
    rfl
  rw [e, chunk_eq _ 768 (by omega), chunk_eq _ 768 (by omega)]
  exact chunk_le _ _ (by omega) (by omega)

/-- The gradient of the values, diagonal tile 0 added. -/
theorem pay98 (q : FVec Ideal S1024x256 .bf16) (g : FVec Ideal S1024x128 .bf16) (l : FVec Ideal S1x1024 .f32) (m : IVec S256x1024 1) (k : FVec Ideal S256x256 .bf16) (a : FVec Ideal S256x128 .f32) (r : Fin 256) (d : Fin 128) :
    k0_pay98 g a (k0_pay97 q l m k) (constant S256x128 FTy.f32 0#32) (ix2 r d) = a (ix2 r d) + ∑ x : Fin 1024, Scalar.select (m (ix2 r x)) (weight (row k r) (row q x) (l (ix2 0 x)) * g (ix2 x d)) (0 : EReal) := by
  pointwise [k0_pay98, k0_pay97, k0_pay95, k0_pay94]
  rfl

/-- The gradient of the keys, diagonal tile 0 added. -/
theorem pay99 (q : FVec Ideal S1024x256 .bf16) (dl : FVec Ideal S1x1024 .f32) (g : FVec Ideal S1024x128 .bf16) (l : FVec Ideal S1x1024 .f32) (m : IVec S256x1024 1) (k : FVec Ideal S256x256 .bf16) (v : FVec Ideal S256x128 .bf16) (a : FVec Ideal S256x256 .f32) (r : Fin 256) (d : Fin 256) :
    k0_pay99 q (k0_pay96 q dl g l m k v) a (ix2 r d) = a (ix2 r d) + ∑ x : Fin 1024, Scalar.select (m (ix2 r x)) (slope (row k r) (row q x) (l (ix2 0 x)) (row v r) (row g x) (dl (ix2 0 x)) * q (ix2 x d)) (0 : EReal) := by
  pointwise [k0_pay99, k0_pay96, k0_pay95, k0_pay94]
  rfl

/-- The transposed gradient of the queries, diagonal tile 0 added. -/
theorem pay100 (q : FVec Ideal S1024x256 .bf16) (dl : FVec Ideal S1x1024 .f32) (g : FVec Ideal S1024x128 .bf16) (l : FVec Ideal S1x1024 .f32) (m : IVec S256x1024 1) (k : FVec Ideal S256x256 .bf16) (v : FVec Ideal S256x128 .bf16) (a : FVec Ideal S256x1024 .f32) (d : Fin 256) (j : Fin 1024) :
    k0_pay100 (k0_pay94 k) (k0_pay96 q dl g l m k v) a (ix2 d j) = a (ix2 d j) + ∑ x : Fin 256, Scalar.select (m (ix2 x j)) (k (ix2 x d) * slope (row k x) (row q j) (l (ix2 0 j)) (row v x) (row g j) (dl (ix2 0 j))) (0 : EReal) := by
  pointwise [k0_pay100, k0_pay96, k0_pay95, k0_pay94]
  rfl

/-- The gradient of the values, diagonal tile 1 added. -/
theorem pay106 (q : FVec Ideal S1024x256 .bf16) (g : FVec Ideal S1024x128 .bf16) (l : FVec Ideal S1x1024 .f32) (m : IVec S256x768 1) (k : FVec Ideal S256x256 .bf16) (a : FVec Ideal S256x128 .f32) (r : Fin 256) (d : Fin 128) :
    k0_pay106 g (k0_pay102 q l m k) a (ix2 r d) = a (ix2 r d) + ∑ x : Fin 768, Scalar.select (m (ix2 r x)) (weight (row k r) (row q (⟨256 + x.val, by omega⟩ : Fin 1024)) (l (ix2 0 (⟨256 + x.val, by omega⟩ : Fin 1024))) * g (ix2 (⟨256 + x.val, by omega⟩ : Fin 1024) d)) (0 : EReal) := by
  pointwise [k0_pay106, k0_pay102, k0_pay101]
  rfl

/-- The gradient of the keys, diagonal tile 1 added. -/
theorem pay107 (q : FVec Ideal S1024x256 .bf16) (dl : FVec Ideal S1x1024 .f32) (g : FVec Ideal S1024x128 .bf16) (l : FVec Ideal S1x1024 .f32) (m : IVec S256x768 1) (k : FVec Ideal S256x256 .bf16) (v : FVec Ideal S256x128 .bf16) (a : FVec Ideal S256x256 .f32) (r : Fin 256) (d : Fin 256) :
    k0_pay107 q dl (k0_pay102 q l m k) (k0_pay103 v) (k0_pay104 g) a (ix2 r d) = a (ix2 r d) + ∑ x : Fin 768, Scalar.select (m (ix2 r x)) (slope (row k r) (row q (⟨256 + x.val, by omega⟩ : Fin 1024)) (l (ix2 0 (⟨256 + x.val, by omega⟩ : Fin 1024))) (row v r) (row g (⟨256 + x.val, by omega⟩ : Fin 1024)) (dl (ix2 0 (⟨256 + x.val, by omega⟩ : Fin 1024))) * q (ix2 (⟨256 + x.val, by omega⟩ : Fin 1024) d)) (0 : EReal) := by
  pointwise [k0_pay107, k0_pay105, k0_pay104, k0_pay103, k0_pay102, k0_pay101]
  rfl

/-- The transposed gradient of the queries, diagonal tile 1 added. -/
theorem pay108 (q : FVec Ideal S1024x256 .bf16) (dl : FVec Ideal S1x1024 .f32) (g : FVec Ideal S1024x128 .bf16) (l : FVec Ideal S1x1024 .f32) (m : IVec S256x768 1) (k : FVec Ideal S256x256 .bf16) (v : FVec Ideal S256x128 .bf16) (a : FVec Ideal S256x768 .f32) (d : Fin 256) (j : Fin 768) :
    k0_pay108 dl (k0_pay101 k) (k0_pay102 q l m k) (k0_pay103 v) (k0_pay104 g) a (ix2 d j) = a (ix2 d j) + ∑ x : Fin 256, Scalar.select (m (ix2 x j)) (k (ix2 x d) * slope (row k x) (row q (⟨256 + j.val, by omega⟩ : Fin 1024)) (l (ix2 0 (⟨256 + j.val, by omega⟩ : Fin 1024))) (row v x) (row g (⟨256 + j.val, by omega⟩ : Fin 1024)) (dl (ix2 0 (⟨256 + j.val, by omega⟩ : Fin 1024)))) (0 : EReal) := by
  pointwise [k0_pay108, k0_pay105, k0_pay104, k0_pay103, k0_pay102, k0_pay101]
  rfl

/-- The gradient of the values, diagonal tile 2 added. -/
theorem pay113 (q : FVec Ideal S1024x256 .bf16) (g : FVec Ideal S1024x128 .bf16) (l : FVec Ideal S1x1024 .f32) (m : IVec S256x512 1) (k : FVec Ideal S256x256 .bf16) (a : FVec Ideal S256x128 .f32) (r : Fin 256) (d : Fin 128) :
    k0_pay113 g l m (k0_pay109 k) (k0_pay110 q) a (ix2 r d) = a (ix2 r d) + ∑ x : Fin 512, Scalar.select (m (ix2 r x)) (weight (row k r) (row q (⟨512 + x.val, by omega⟩ : Fin 1024)) (l (ix2 0 (⟨512 + x.val, by omega⟩ : Fin 1024))) * g (ix2 (⟨512 + x.val, by omega⟩ : Fin 1024) d)) (0 : EReal) := by
  pointwise [k0_pay113, k0_pay111, k0_pay110, k0_pay109]
  rfl

/-- The gradient of the keys, diagonal tile 2 added. -/
theorem pay114 (q : FVec Ideal S1024x256 .bf16) (dl : FVec Ideal S1x1024 .f32) (g : FVec Ideal S1024x128 .bf16) (l : FVec Ideal S1x1024 .f32) (m : IVec S256x512 1) (k : FVec Ideal S256x256 .bf16) (v : FVec Ideal S256x128 .bf16) (a : FVec Ideal S256x256 .f32) (r : Fin 256) (d : Fin 256) :
    k0_pay114 q dl g l m (k0_pay109 k) (k0_pay110 q) v a (ix2 r d) = a (ix2 r d) + ∑ x : Fin 512, Scalar.select (m (ix2 r x)) (slope (row k r) (row q (⟨512 + x.val, by omega⟩ : Fin 1024)) (l (ix2 0 (⟨512 + x.val, by omega⟩ : Fin 1024))) (row v r) (row g (⟨512 + x.val, by omega⟩ : Fin 1024)) (dl (ix2 0 (⟨512 + x.val, by omega⟩ : Fin 1024))) * q (ix2 (⟨512 + x.val, by omega⟩ : Fin 1024) d)) (0 : EReal) := by
  pointwise [k0_pay114, k0_pay112, k0_pay111, k0_pay110, k0_pay109]
  rfl

/-- The transposed gradient of the queries, diagonal tile 2 added. -/
theorem pay116 (q : FVec Ideal S1024x256 .bf16) (dl : FVec Ideal S1x1024 .f32) (g : FVec Ideal S1024x128 .bf16) (l : FVec Ideal S1x1024 .f32) (m : IVec S256x512 1) (k : FVec Ideal S256x256 .bf16) (v : FVec Ideal S256x128 .bf16) (a : FVec Ideal S256x512 .f32) (d : Fin 256) (j : Fin 512) :
    k0_pay116 (k0_pay115 dl g l m (k0_pay109 k) (k0_pay110 q) v a) (ix2 d j) = a (ix2 d j) + ∑ x : Fin 256, Scalar.select (m (ix2 x j)) (k (ix2 x d) * slope (row k x) (row q (⟨512 + j.val, by omega⟩ : Fin 1024)) (l (ix2 0 (⟨512 + j.val, by omega⟩ : Fin 1024))) (row v x) (row g (⟨512 + j.val, by omega⟩ : Fin 1024)) (dl (ix2 0 (⟨512 + j.val, by omega⟩ : Fin 1024)))) (0 : EReal) := by
  pointwise [k0_pay116, k0_pay115, k0_pay112, k0_pay111, k0_pay110, k0_pay109]
  rfl

/-- The gradient of the values, diagonal tile 3 added. -/
theorem pay120 (q : FVec Ideal S1024x256 .bf16) (g : FVec Ideal S1024x128 .bf16) (l : FVec Ideal S1x1024 .f32) (m : IVec S256x256 1) (k : FVec Ideal S256x256 .bf16) (a : FVec Ideal S256x128 .f32) (r : Fin 256) (d : Fin 128) :
    k0_pay120 q g l m k a (ix2 r d) = a (ix2 r d) + ∑ x : Fin 256, Scalar.select (m (ix2 r x)) (weight (row k r) (row q (⟨768 + x.val, by omega⟩ : Fin 1024)) (l (ix2 0 (⟨768 + x.val, by omega⟩ : Fin 1024))) * g (ix2 (⟨768 + x.val, by omega⟩ : Fin 1024) d)) (0 : EReal) := by
  pointwise [k0_pay120, k0_pay118, k0_pay117]
  rfl

/-- The gradient of the keys, diagonal tile 3 added. -/
theorem pay1 (q : FVec Ideal S1024x256 .bf16) (dl : FVec Ideal S1x1024 .f32) (g : FVec Ideal S1024x128 .bf16) (l : FVec Ideal S1x1024 .f32) (m : IVec S256x256 1) (k : FVec Ideal S256x256 .bf16) (v : FVec Ideal S256x128 .bf16) (a : FVec Ideal S256x256 .f32) (r : Fin 256) (d : Fin 256) :
    k0_pay1 q (k0_pay119 q dl g l m k v) a (ix2 r d) = a (ix2 r d) + ∑ x : Fin 256, Scalar.select (m (ix2 r x)) (slope (row k r) (row q (⟨768 + x.val, by omega⟩ : Fin 1024)) (l (ix2 0 (⟨768 + x.val, by omega⟩ : Fin 1024))) (row v r) (row g (⟨768 + x.val, by omega⟩ : Fin 1024)) (dl (ix2 0 (⟨768 + x.val, by omega⟩ : Fin 1024))) * q (ix2 (⟨768 + x.val, by omega⟩ : Fin 1024) d)) (0 : EReal) := by
  pointwise [k0_pay1, k0_pay119, k0_pay118, k0_pay117]
  rfl

/-- The transposed gradient of the queries, diagonal tile 3 added. -/
theorem pay2 (q : FVec Ideal S1024x256 .bf16) (dl : FVec Ideal S1x1024 .f32) (g : FVec Ideal S1024x128 .bf16) (l : FVec Ideal S1x1024 .f32) (m : IVec S256x256 1) (k : FVec Ideal S256x256 .bf16) (v : FVec Ideal S256x128 .bf16) (a : FVec Ideal S256x256 .f32) (d : Fin 256) (j : Fin 256) :
    k0_pay2 (k0_pay117 k) (k0_pay119 q dl g l m k v) a (ix2 d j) = a (ix2 d j) + ∑ x : Fin 256, Scalar.select (m (ix2 x j)) (k (ix2 x d) * slope (row k x) (row q (⟨768 + j.val, by omega⟩ : Fin 1024)) (l (ix2 0 (⟨768 + j.val, by omega⟩ : Fin 1024))) (row v x) (row g (⟨768 + j.val, by omega⟩ : Fin 1024)) (dl (ix2 0 (⟨768 + j.val, by omega⟩ : Fin 1024)))) (0 : EReal) := by
  pointwise [k0_pay2, k0_pay119, k0_pay118, k0_pay117]
  rfl

/-- The transposed gradient of the queries, turned. -/
theorem pay3 (a : FVec Ideal S256x1024 .f32) (j : Fin 1024) (d : Fin 256) :
    k0_pay3 a (ix2 j d) = a (ix2 d j) := by
  pointwise [k0_pay3]
  skip

/-- The values' gradient, rounded. -/
theorem pay4 (a : FVec Ideal S8192x128 .f32) (j : Fin 8192) (d : Fin 128) :
    k0_pay4 (F := Ideal) a (ix2 j d) = a (ix2 j d) := by
  pointwise [k0_pay4]
  skip

/-- The keys' gradient starts at zero. -/
theorem pay53  (j : Fin 8192) (d : Fin 256) :
    k0_pay53 (F := Ideal) (ix2 j d) = 0 := by
  pointwise [k0_pay53]
  skip

/-- The values' gradient starts at zero. -/
theorem pay54  (j : Fin 8192) (d : Fin 128) :
    k0_pay54 (F := Ideal) (ix2 j d) = 0 := by
  pointwise [k0_pay54]
  skip

/-- The transposed gradient of the queries starts at zero. -/
theorem pay87  (d : Fin 256) (j : Fin 1024) :
    k0_pay87 (F := Ideal) (ix2 d j) = 0 := by
  pointwise [k0_pay87]
  skip

/-- The queries, as loaded. -/
theorem pay55 (q : FVec Ideal S1024x256 .bf16) (j : Fin 1024) (d : Fin 256) :
    k0_pay55 q (ix2 j d) = q (ix2 j d) := by
  pointwise [k0_pay55]
  skip

/-- The log-sum-exp, as loaded. -/
theorem pay62 (l : FVec Ideal S1x1024 .f32) (j : Fin 1024) :
    k0_pay62 l (ix2 0 j) = l (ix2 0 j) := by
  pointwise [k0_pay62]
  skip

/-- The product of an output row with its gradient. -/
theorem pay60 (z c o : FVec Ideal S1024x128 .f32) (j : Fin 1024) :
    k0_pay60 z c o (ix2 0 j) = ∑ x, c (ix2 j x) * (z (ix2 j x) * Ideal.logistic (z (ix2 j x))) * o (ix2 j x) := by
  pointwise [k0_pay60, k0_pay59, k0_pay57, k0_pay56]
  skip

/-- The gradient of the attention's output: the gate taken off. -/
theorem pay61 (z c : FVec Ideal S1024x128 .f32) (j : Fin 1024) (d : Fin 128) :
    k0_pay61 (F := Ideal) z c (ix2 j d) = c (ix2 j d) * (z (ix2 j d) * Ideal.logistic (z (ix2 j d))) := by
  pointwise [k0_pay61, k0_pay59, k0_pay56]
  skip

/-- The gradient of the gate. -/
theorem pay58 (z c o : FVec Ideal S1024x128 .f32) (j : Fin 1024) (d : Fin 128) :
    k0_pay58 (F := Ideal) z c o (ix2 j d) = c (ix2 j d) * o (ix2 j d) * (Ideal.logistic (z (ix2 j d)) * (1 + z (ix2 j d) * (1 - Ideal.logistic (z (ix2 j d))))) := by
  pointwise [k0_pay58, k0_pay57, k0_pay56]
  skip

end Cert.Tile

end
-- ==== Proof.Rows.lean ====
/- Two-dimensional buffers read and written by whole rows, and sums over a growing number of rows.

   The backward kernel walks the keys in tiles of 256 rows. Each tile adds a term to the rows it covers of two accumulators and
   a product to a third; these lemmas say what the accumulators hold after the tiles that cover the rows below `o`. -/
module

public import Idealize.ShloMosaic.Lib.Pipeline.ValueKit
public import Idealize.ShloMosaic.Lib.Pointwise
public import Idealize.ShloMosaic.Lib.WritesUnit

@[expose] public section

namespace Cert.Rows

open Idealize.ShloMosaic Idealize.ShloMosaic.TcCoe Idealize.SL.Sem

variable {sig : RefSig} {κ : Kind} {sp : Space} {e : EltTy} {Val : EltTy → Type} {R C : ℕ}

/-- A load of `T` rows from row `o` reads, at row `r`, the buffer's row `o + r`. -/
theorem load_rows (v : View sig κ sp (⟨2, ![R, C]⟩ : Shape) e) (G : v.ty.Contents Val) {o T : ℕ} {off : Fin 2 → ℕ}
    (inb : ∀ a : Fin 2, off a + (![T, C] : Fin 2 → ℕ) a ≤ (![R, C] : Fin 2 → ℕ) a) (hoff : off = ![o, 0]) (r : Fin T) (t : Fin C)
    (h : o + r.val < R) :
    v.readAt Val (Rect.unit (s := ⟨2, ![R, C]⟩) off ![T, C] inb).toLoadRect G (ix2 r t) = v.read Val G (ix2 ⟨o + r.val, h⟩ t) := by
  subst hoff
  rw [View.readAt_apply]
  congr 1
  funext a
  apply Fin.ext
  rw [LoadRect.idx_apply]
  match a with
  | ⟨0, _⟩ => show o + 1 * r.val = o + r.val; omega
  | ⟨1, _⟩ => show 0 + 1 * t.val = t.val; omega

/-- A load of columns `[o, o + T)` of every row. -/
theorem load_cols (v : View sig κ sp (⟨2, ![R, C]⟩ : Shape) e) (G : v.ty.Contents Val) {o T : ℕ}
    (inb : ∀ a : Fin 2, (![0, o] : Fin 2 → ℕ) a + (![R, T] : Fin 2 → ℕ) a ≤ (![R, C] : Fin 2 → ℕ) a) (r : Fin R) (t : Fin T)
    (h : o + t.val < C) :
    v.readAt Val (Rect.unit (s := ⟨2, ![R, C]⟩) ![0, o] ![R, T] inb).toLoadRect G (ix2 r t) = v.read Val G (ix2 r ⟨o + t.val, h⟩) := by
  rw [View.readAt_apply]
  congr 1
  funext a
  apply Fin.ext
  rw [LoadRect.idx_apply]
  match a with
  | ⟨0, _⟩ => show 0 + 1 * r.val = r.val; omega
  | ⟨1, _⟩ => show o + 1 * t.val = o + t.val; omega

/-- A whole-buffer store read back. -/
theorem read_store_whole {e : EltTy} (v : View sig κ sp (⟨2, ![R, C]⟩ : Shape) e) (f : v.ty.Contents Val) (L : List (View.Piece Val (⟨2, ![R, C]⟩ : Shape) e))
    (inb : ∀ a : Fin 2, (![0, 0] : Fin 2 → ℕ) a + (![R, C] : Fin 2 → ℕ) a ≤ (![R, C] : Fin 2 → ℕ) a)
    (w : (Rect.unit (s := ⟨2, ![R, C]⟩) ![0, 0] ![R, C] inb).shape.Idx → Val e) (r : Fin R) (d : Fin C) :
    v.read Val (v.writes Val f ((⟨Rect.unit (s := ⟨2, ![R, C]⟩) ![0, 0] ![R, C] inb, w⟩ : View.Piece Val _ _) :: L)) (ix2 r d) = w (ix2 r d) :=
  View.read_writes_cons_unit_of_mem v f inb w L (ix2 r d) (ix2 r d) rfl
    (Fin.forall_fin_two.mpr ⟨by show r.val = 0 + r.val; omega, by show d.val = 0 + d.val; omega⟩)

/-- A whole-buffer load of what was stored last over the whole buffer. -/
theorem cov_whole {e : EltTy} [∀ e, Nonempty (Val e)] (v : View sig κ sp (⟨2, ![R, C]⟩ : Shape) e) (L : List (View.Piece Val (⟨2, ![R, C]⟩ : Shape) e))
    (inb : ∀ a : Fin 2, (![0, 0] : Fin 2 → ℕ) a + (![R, C] : Fin 2 → ℕ) a ≤ (![R, C] : Fin 2 → ℕ) a)
    (w : (Rect.unit (s := ⟨2, ![R, C]⟩) ![0, 0] ![R, C] inb).shape.Idx → Val e) (r : Fin R) (d : Fin C) :
    v.readCov ((⟨Rect.unit (s := ⟨2, ![R, C]⟩) ![0, 0] ![R, C] inb, w⟩ : View.Piece Val _ _) :: L)
      (Rect.unit (s := ⟨2, ![R, C]⟩) ![0, 0] ![R, C] inb).toLoadRect (ix2 r d) = w (ix2 r d) := by
  rw [View.readCov_cons_toLoadRect]

/-- A load of the whole buffer. -/
theorem load_whole {e : EltTy} (v : View sig κ sp (⟨2, ![R, C]⟩ : Shape) e) (G : v.ty.Contents Val)
    (inb : ∀ a : Fin 2, (![0, 0] : Fin 2 → ℕ) a + (![R, C] : Fin 2 → ℕ) a ≤ (![R, C] : Fin 2 → ℕ) a) (r : Fin R) (d : Fin C) :
    v.readAt Val (Rect.unit (s := ⟨2, ![R, C]⟩) ![0, 0] ![R, C] inb).toLoadRect G (ix2 r d) = v.read Val G (ix2 r d) := by
  rw [load_cols v G inb r d (by omega)]
  congr 2
  exact Fin.ext (Nat.zero_add _)

/-- ONE TILE OF AN ACCUMULATOR: the earlier stores have added `T` to the rows below `o`; a store of the `W` rows from `o`,
each row its old contents plus `T`, leaves `T` added to the rows below `o + W`. -/
theorem acc_rows (v : View sig κ sp (⟨2, ![R, C]⟩ : Shape) .f32) (f : v.ty.Contents (Elt Ideal))
    (L : List (View.Piece (Elt Ideal) (⟨2, ![R, C]⟩ : Shape) .f32)) (f0 T : Fin R → Fin C → EReal) {o W o1 : ℕ} {off : Fin 2 → ℕ}
    (inb : ∀ a : Fin 2, off a + (![W, C] : Fin 2 → ℕ) a ≤ (![R, C] : Fin 2 → ℕ) a)
    (w : (Rect.unit (s := ⟨2, ![R, C]⟩) off ![W, C] inb).shape.Idx → Elt Ideal .f32) (hoff : off = ![o, 0]) (ho : o + W = o1)
    (h : ∀ r d, v.read (Elt Ideal) (v.writes (Elt Ideal) f L) (ix2 r d) = f0 r d + if r.val < o then T r d else 0)
    (hw : ∀ (x : Fin W) (d : Fin C) (hx : o + x.val < R), w (ix2 x d) = f0 ⟨o + x.val, hx⟩ d + T ⟨o + x.val, hx⟩ d) (r : Fin R) (d : Fin C) :
    v.read (Elt Ideal) (v.writes (Elt Ideal) f ((⟨Rect.unit (s := ⟨2, ![R, C]⟩) off ![W, C] inb, w⟩ : View.Piece (Elt Ideal) _ _) :: L)) (ix2 r d)
      = f0 r d + if r.val < o1 then T r d else 0 := by
  subst ho
  by_cases hr : o ≤ r.val ∧ r.val < o + W
  · rw [View.read_writes_cons_rows_of_mem v f inb w L (ix2 r d) (ix2 ⟨r.val - o, by omega⟩ d) hoff
      (by show r.val = o + (r.val - o); omega) rfl]
    have e1 := hw ⟨r.val - o, by omega⟩ d (by show o + (r.val - o) < R; have := r.isLt; omega)
    rw [if_pos hr.2]
    refine e1.trans ?_
    have hr' : (⟨o + (r.val - o), by have := r.isLt; omega⟩ : Fin R) = r := Fin.ext (by show o + (r.val - o) = r.val; omega)
    show f0 ⟨o + (r.val - o), _⟩ d + T ⟨o + (r.val - o), _⟩ d = _
    rw [hr']
  · rw [View.read_writes_cons_rows_of_not_mem v f inb w L (ix2 r d) (W := W) hoff rfl (by show r.val < o ∨ o + W ≤ r.val; omega), h]
    congr 1
    by_cases h1 : r.val < o
    · rw [if_pos h1, if_pos (by omega)]
    · rw [if_neg h1, if_neg (by omega)]

/-- The sum of `g` over the rows below `n`. -/
noncomputable def upto {R : ℕ} (n : ℕ) (g : Fin R → EReal) : EReal := ∑ r : Fin R, if r.val < n then g r else 0

theorem upto_zero {R : ℕ} (g : Fin R → EReal) : upto 0 g = 0 := by
  unfold upto; exact Finset.sum_eq_zero fun r _ => if_neg (Nat.not_lt_zero _)

theorem upto_all {R n : ℕ} (h : R ≤ n) (g : Fin R → EReal) : upto n g = ∑ r, g r := by
  unfold upto; exact Finset.sum_congr rfl fun r _ => if_pos (lt_of_lt_of_le r.isLt h)

/-- A sum over a tile of `W` rows from `o`, as a sum over all rows. -/
theorem sum_tile {R W : ℕ} (o : ℕ) (h : o + W ≤ R) (g : Fin R → EReal) :
    ∑ x : Fin W, g ⟨o + x.val, by omega⟩ = ∑ r : Fin R, if o ≤ r.val ∧ r.val < o + W then g r else 0 := by
  rw [← Finset.sum_filter]
  refine Finset.sum_bij (fun x _ => ⟨o + x.val, by omega⟩) ?_ ?_ ?_ ?_
  · intro x _; simp only [Finset.mem_filter, Finset.mem_univ, true_and]; exact ⟨Nat.le_add_right _ _, by have := x.isLt; omega⟩
  · intro x _ y _ hxy; have := congrArg Fin.val hxy; exact Fin.ext (by simpa using this)
  · intro r hr
    simp only [Finset.mem_filter, Finset.mem_univ, true_and] at hr
    exact ⟨⟨r.val - o, by omega⟩, Finset.mem_univ _, Fin.ext (by show o + (r.val - o) = r.val; omega)⟩
  · intro x _; rfl

/-- The rows below `o`, and a tile of `W` rows from `o`. -/
theorem upto_add {R W : ℕ} (o : ℕ) (h : o + W ≤ R) (g : Fin R → EReal) :
    upto o g + ∑ x : Fin W, g ⟨o + x.val, by omega⟩ = upto (o + W) g := by
  rw [sum_tile o h, upto, upto, ← Finset.sum_add_distrib]
  refine Finset.sum_congr rfl fun r _ => ?_
  by_cases h1 : r.val < o
  · rw [if_pos h1, if_neg (by omega), if_pos (by omega), add_zero]
  · by_cases h2 : r.val < o + W
    · rw [if_neg h1, if_pos ⟨by omega, h2⟩, if_pos h2, zero_add]
    · rw [if_neg h1, if_neg (by omega), if_neg h2, zero_add]

/-- A sum whose terms below `o` are zero is the sum over the rest. -/
theorem sum_from {R W : ℕ} (o : ℕ) (h : o + W = R) (g : Fin R → EReal) (hz : ∀ r : Fin R, r.val < o → g r = 0) :
    ∑ x : Fin W, g ⟨o + x.val, by omega⟩ = ∑ r, g r := by
  rw [sum_tile o (by omega)]
  refine Finset.sum_congr rfl fun r _ => ?_
  by_cases h1 : o ≤ r.val
  · rw [if_pos ⟨h1, by have := r.isLt; omega⟩]
  · rw [if_neg (by omega), hz r (by omega)]

/-- ONE TILE OF AN ACCUMULATED PRODUCT, columns from `o` on: a store over those columns of their old contents plus a term. -/
theorem acc_cols (v : View sig κ sp (⟨2, ![R, C]⟩ : Shape) .f32) (f : v.ty.Contents (Elt Ideal))
    (L : List (View.Piece (Elt Ideal) (⟨2, ![R, C]⟩ : Shape) .f32)) (A B : Fin R → Fin C → EReal) {o W : ℕ} (hW : o + W = C)
    (inb : ∀ a : Fin 2, (![0, o] : Fin 2 → ℕ) a + (![R, W] : Fin 2 → ℕ) a ≤ (![R, C] : Fin 2 → ℕ) a)
    (w : (Rect.unit (s := ⟨2, ![R, C]⟩) ![0, o] ![R, W] inb).shape.Idx → Elt Ideal .f32)
    (h : ∀ r d, v.read (Elt Ideal) (v.writes (Elt Ideal) f L) (ix2 r d) = A r d)
    (hw : ∀ (r : Fin R) (x : Fin W), w (ix2 r x) = B r ⟨o + x.val, by omega⟩)
    (hB : ∀ (r : Fin R) (d : Fin C), d.val < o → B r d = A r d) (r : Fin R) (d : Fin C) :
    v.read (Elt Ideal) (v.writes (Elt Ideal) f ((⟨Rect.unit (s := ⟨2, ![R, C]⟩) ![0, o] ![R, W] inb, w⟩ : View.Piece (Elt Ideal) _ _) :: L)) (ix2 r d)
      = B r d := by
  by_cases hd : o ≤ d.val
  · rw [View.read_writes_cons_unit_of_mem v f inb w L (ix2 r d) (ix2 r ⟨d.val - o, by have := d.isLt; omega⟩) rfl
      (Fin.forall_fin_two.mpr ⟨by show r.val = 0 + r.val; omega, by show d.val = o + (d.val - o); omega⟩)]
    refine (hw r _).trans ?_
    congr 1
    exact Fin.ext (by show o + (d.val - o) = d.val; omega)
  · rw [View.read_writes_cons_unit_of_not_mem v f inb w L (ix2 r d) rfl (1 : Fin 2) (.inl (by show d.val < o; omega)), h]
    exact (hB r d (by omega)).symm

end Cert.Rows

end
-- ==== Proof.Trip.lean ====
/- One trip of the loop over the keys below the diagonal, and the whole loop.

   A trip takes four tiles of 256 keys. Rows of the two accumulators below the trip's last key receive their terms, and the third
   accumulates the product of the keys with their slopes. -/
module

public import proofs.«01_k».proof.Proof.Gen.KernelIdeal.Loops
public import proofs.«01_k».proof.Proof.Rows
public import proofs.«01_k».proof.Proof.Tile

@[expose] public section

set_option maxRecDepth 16384

namespace Cert.Trip

open Idealize.ShloMosaic Idealize.ShloMosaic.TcCoe Idealize.SL.Sem
open Cert.KernelIdeal Cert.KernelIdeal.Gen Cert.Rows Cert.Tile

/-- The loop of query block `i` makes `i` trips. -/
theorem trips_eq (i : grid0.Coords) : (k0_t1_loop i).trips = (i 1).val := by
  have h : ∀ a : Fin 8, ∀ i : grid0.Coords, (i 1).val = a.val → (k0_t1_loop i).trips = a.val := by
    intro a i hi
    unfold k0_t1_loop
    rw [hi]
    clear hi
    revert a; decide +kernel
  exact h ⟨(i 1).val, (i 1).isLt⟩ i rfl

/-- The tail loop makes none. -/
theorem trips2_eq (i : grid0.Coords) : (k0_t2_loop i).trips = 0 := by
  have h : ∀ a : Fin 8, ∀ i : grid0.Coords, (i 1).val = a.val → (k0_t2_loop i).trips = 0 := by
    intro a i hi
    unfold k0_t2_loop
    rw [hi]
    clear hi
    revert a; decide +kernel
  exact h ⟨(i 1).val, (i 1).isLt⟩ i rfl

theorem trip_lt (i : grid0.Coords) (k : Fin (k0_t1_loop i).trips) : k.val < (i 1).val := by
  have := trips_eq i; have := k.isLt; omega

/-- Tile `j` of trip `k` starts at row `1024 k + 256 j`. -/
theorem off1_eq (i : grid0.Coords) (k : Fin (k0_t1_loop i).trips) (j : ℕ) (hj : j < 4) :
    k0_off1 i k (BitVec.ofNat 32 j) = ![1024 * k.val + 256 * j, 0] := by
  have hk := trip_lt i k
  have h8 : (i 1).val < 8 := (i 1).isLt
  unfold k0_off1
  have e : (Scalar.indexCast (Scalar.muli (Scalar.addi (Scalar.muli (Scf.iv (0#32) (1#32) k.val) 4#32) (BitVec.ofNat 32 j)) 256#32)).toNat
      = 1024 * k.val + 256 * j := by
    have all : ∀ a : Fin 8, ∀ j : Fin 4, (Scalar.indexCast (Scalar.muli (Scalar.addi (Scalar.muli (Scf.iv (0#32) (1#32) a.val) 4#32)
        (BitVec.ofNat 32 j.val)) 256#32)).toNat = 1024 * a.val + 256 * j.val := by decide +kernel
    exact all ⟨k.val, by omega⟩ ⟨j, hj⟩
  exact congrArg (fun n => ![n, 0]) e

theorem off2_eq (i : grid0.Coords) (k : Fin (k0_t1_loop i).trips) (j : ℕ) (hj : j < 4) :
    k0_off2 i k (BitVec.ofNat 32 j) = ![1024 * k.val + 256 * j, 0] := off1_eq i k j hj

theorem inb1 (i : grid0.Coords) (k : Fin (k0_t1_loop i).trips) (j : ℕ) (hj : j < 4) :
    ∀ a : Fin 2, k0_off1 i k (BitVec.ofNat 32 j) a + (![256, 256] : Fin 2 → ℕ) a ≤ S8192x256.size a := by
  rw [off1_eq i k j hj]
  have := trip_lt i k
  have : (i 1).val < 8 := (i 1).isLt
  exact Fin.forall_fin_two.mpr ⟨by show 1024 * k.val + 256 * j + 256 ≤ 8192; omega, by show 0 + 256 ≤ 256; omega⟩

theorem inb2 (i : grid0.Coords) (k : Fin (k0_t1_loop i).trips) (j : ℕ) (hj : j < 4) :
    ∀ a : Fin 2, k0_off2 i k (BitVec.ofNat 32 j) a + (![256, 128] : Fin 2 → ℕ) a ≤ S8192x128.size a := by
  rw [off2_eq i k j hj]
  have := trip_lt i k
  have : (i 1).val < 8 := (i 1).isLt
  exact Fin.forall_fin_two.mpr ⟨by show 1024 * k.val + 256 * j + 256 ≤ 8192; omega, by show 0 + 128 ≤ 128; omega⟩

/-- A row of a loaded tile is a row of the buffer. -/
theorem row_load {R C T : ℕ} {κ : Kind} {sp : Space} (v : View sig κ sp (⟨2, ![R, C]⟩ : Shape) .bf16) (G : v.ty.Contents (Elt Ideal)) {o : ℕ} {off : Fin 2 → ℕ}
    (inb : ∀ a : Fin 2, off a + (![T, C] : Fin 2 → ℕ) a ≤ (![R, C] : Fin 2 → ℕ) a) (hoff : off = ![o, 0]) (r : Fin T) (h : o + r.val < R) :
    row (v.readAt (Elt Ideal) (Rect.unit (s := ⟨2, ![R, C]⟩) off ![T, C] inb).toLoadRect G) r = row (R := R) (C := C) (v.read (Elt Ideal) G) ⟨o + r.val, h⟩ :=
  funext fun t => load_rows v G inb hoff r t h

section
variable (𝒱 : Variants) (c : Dev nD) (bd : Option 𝒱.V) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8x1024 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .bf16) (harg11 : arg11.IsWhole) (arg12 : Memref sig .tc .vmem S1024x128 .bf16) (harg12 : arg12.IsWhole) (arg13 : Memref sig .tc .vmem S8192x128 .f32) (harg13 : arg13.IsWhole) (arg14 : Memref sig .tc .vmem S256x1024 .f32) (harg14 : arg14.IsWhole) (arg1 : BitVec 32) (v4 : FVec Ideal S1024x256 .bf16) (v25 : FVec Ideal S1x1024 .f32) (v26 : FVec Ideal S1024x128 .bf16) (v28 : FVec Ideal S1x1024 .f32) (v83 : IVec S256x1024 1) (v253 : BitVec 32) (c4_i32_76 : BitVec 32) (v254 : BitVec 32) (v259 : BitVec 32) (v264 : BitVec 32) (X_arg3 : BufTy.Contents (Elt Ideal) arg3.view.ty) (X_arg4 : BufTy.Contents (Elt Ideal) arg4.view.ty)
  (k : Fin (k0_t1_loop i).trips) (f10 : BufTy.Contents (Elt Ideal) arg10.view.ty) (f13 : BufTy.Contents (Elt Ideal) arg13.view.ty) (f14 : BufTy.Contents (Elt Ideal) arg14.view.ty)

/-- What trip `k` stores into the keys' gradient. -/
theorem trip10_pieces : (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 X_arg3 X_arg4 k f10 f13 f14).1
    = [⟨Rect.unit (s := S8192x256) (k0_off1 i k 3#32) ![256, 256] (inb1 i k 3 (by omega)), k0_pay89 v4 (k0_pay28 (F := Ideal) v4 v25 v26 v28 (arg3.view.readAt (Elt Ideal) (Rect.unit (s := S8192x256) (k0_off1 i k 3#32) ![256, 256] (inb1 i k 3 (by omega))).toLoadRect X_arg3) (arg4.view.readAt (Elt Ideal) (Rect.unit (s := S8192x128) (k0_off2 i k 3#32) ![256, 128] (inb2 i k 3 (by omega))).toLoadRect X_arg4)) (arg10.view.readAt (Elt Ideal) (Rect.unit (s := S8192x256) (k0_off1 i k 3#32) ![256, 256] (inb1 i k 3 (by omega))).toLoadRect f10)⟩,
          ⟨Rect.unit (s := S8192x256) (k0_off1 i k 2#32) ![256, 256] (inb1 i k 2 (by omega)), k0_pay24 v4 (k0_pay21 (F := Ideal) v4 v25 v26 v28 (arg3.view.readAt (Elt Ideal) (Rect.unit (s := S8192x256) (k0_off1 i k 2#32) ![256, 256] (inb1 i k 2 (by omega))).toLoadRect X_arg3) (arg4.view.readAt (Elt Ideal) (Rect.unit (s := S8192x128) (k0_off2 i k 2#32) ![256, 128] (inb2 i k 2 (by omega))).toLoadRect X_arg4)) (arg10.view.readAt (Elt Ideal) (Rect.unit (s := S8192x256) (k0_off1 i k 2#32) ![256, 256] (inb1 i k 2 (by omega))).toLoadRect f10)⟩,
          ⟨Rect.unit (s := S8192x256) (k0_off1 i k 1#32) ![256, 256] (inb1 i k 1 (by omega)), k0_pay17 (k0_pay15 (arg10.view.readAt (Elt Ideal) (Rect.unit (s := S8192x256) (k0_off1 i k 1#32) ![256, 256] (inb1 i k 1 (by omega))).toLoadRect f10)) (k0_pay16 v4 v25 v26 v28 (arg3.view.readAt (Elt Ideal) (Rect.unit (s := S8192x256) (k0_off1 i k 1#32) ![256, 256] (inb1 i k 1 (by omega))).toLoadRect X_arg3) (arg4.view.readAt (Elt Ideal) (Rect.unit (s := S8192x128) (k0_off2 i k 1#32) ![256, 128] (inb2 i k 1 (by omega))).toLoadRect X_arg4))⟩,
          ⟨Rect.unit (s := S8192x256) (k0_off1 i k 0#32) ![256, 256] (inb1 i k 0 (by omega)), k0_pay9 v4 v25 v26 v28 (arg3.view.readAt (Elt Ideal) (Rect.unit (s := S8192x256) (k0_off1 i k 0#32) ![256, 256] (inb1 i k 0 (by omega))).toLoadRect X_arg3) (arg4.view.readAt (Elt Ideal) (Rect.unit (s := S8192x128) (k0_off2 i k 0#32) ![256, 128] (inb2 i k 0 (by omega))).toLoadRect X_arg4) (arg10.view.readAt (Elt Ideal) (Rect.unit (s := S8192x256) (k0_off1 i k 0#32) ![256, 256] (inb1 i k 0 (by omega))).toLoadRect f10)⟩] := by
  unfold tripL_k0_t1 trip_k0_t1
  rfl

/-- What trip `k` stores into the values' gradient. -/
theorem trip13_pieces : (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 X_arg3 X_arg4 k f10 f13 f14).2.1
    = [⟨Rect.unit (s := S8192x128) (k0_off2 i k 3#32) ![256, 128] (inb2 i k 3 (by omega)), k0_pay88 v26 (k0_pay27 v4 v28 (arg3.view.readAt (Elt Ideal) (Rect.unit (s := S8192x256) (k0_off1 i k 3#32) ![256, 256] (inb1 i k 3 (by omega))).toLoadRect X_arg3)) (arg13.view.readAt (Elt Ideal) (Rect.unit (s := S8192x128) (k0_off2 i k 3#32) ![256, 128] (inb2 i k 3 (by omega))).toLoadRect f13)⟩,
          ⟨Rect.unit (s := S8192x128) (k0_off2 i k 2#32) ![256, 128] (inb2 i k 2 (by omega)), k0_pay23 (k0_pay22 v4 v26 v28 (arg3.view.readAt (Elt Ideal) (Rect.unit (s := S8192x256) (k0_off1 i k 2#32) ![256, 256] (inb1 i k 2 (by omega))).toLoadRect X_arg3) (arg13.view.readAt (Elt Ideal) (Rect.unit (s := S8192x128) (k0_off2 i k 2#32) ![256, 128] (inb2 i k 2 (by omega))).toLoadRect f13))⟩,
          ⟨Rect.unit (s := S8192x128) (k0_off2 i k 1#32) ![256, 128] (inb2 i k 1 (by omega)), k0_pay14 v4 v26 v28 (arg3.view.readAt (Elt Ideal) (Rect.unit (s := S8192x256) (k0_off1 i k 1#32) ![256, 256] (inb1 i k 1 (by omega))).toLoadRect X_arg3) (arg13.view.readAt (Elt Ideal) (Rect.unit (s := S8192x128) (k0_off2 i k 1#32) ![256, 128] (inb2 i k 1 (by omega))).toLoadRect f13)⟩,
          ⟨Rect.unit (s := S8192x128) (k0_off2 i k 0#32) ![256, 128] (inb2 i k 0 (by omega)), k0_pay8 v4 v26 v28 (arg3.view.readAt (Elt Ideal) (Rect.unit (s := S8192x256) (k0_off1 i k 0#32) ![256, 256] (inb1 i k 0 (by omega))).toLoadRect X_arg3) (arg13.view.readAt (Elt Ideal) (Rect.unit (s := S8192x128) (k0_off2 i k 0#32) ![256, 128] (inb2 i k 0 (by omega))).toLoadRect f13)⟩] := by
  unfold tripL_k0_t1 trip_k0_t1
  rfl

/-- What trip `k` stores into the transposed gradient of the queries. -/
theorem trip14_pieces : ∃ L0 L1 L2 : List (View.Piece (Elt Ideal) S256x1024 .f32), (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 X_arg3 X_arg4 k f10 f13 f14).2.2
    = ⟨Rect.unit (s := S256x1024) ![0, 0] ![256, 1024] inb_S256x1024_S256x1024_0_0, k0_pay90 (k0_pay26 (F := Ideal) (arg3.view.readAt (Elt Ideal) (Rect.unit (s := S8192x256) (k0_off1 i k 3#32) ![256, 256] (inb1 i k 3 (by omega))).toLoadRect X_arg3)) (k0_pay28 (F := Ideal) v4 v25 v26 v28 (arg3.view.readAt (Elt Ideal) (Rect.unit (s := S8192x256) (k0_off1 i k 3#32) ![256, 256] (inb1 i k 3 (by omega))).toLoadRect X_arg3) (arg4.view.readAt (Elt Ideal) (Rect.unit (s := S8192x128) (k0_off2 i k 3#32) ![256, 128] (inb2 i k 3 (by omega))).toLoadRect X_arg4)) (arg14.view.readCov L2 (Rect.unit (s := S256x1024) ![0, 0] ![256, 1024] inb_S256x1024_S256x1024_0_0).toLoadRect)⟩ :: L2
    ∧ L2 = ⟨Rect.unit (s := S256x1024) ![0, 0] ![256, 1024] inb_S256x1024_S256x1024_0_0, k0_pay25 (k0_pay19 (F := Ideal) (arg3.view.readAt (Elt Ideal) (Rect.unit (s := S8192x256) (k0_off1 i k 2#32) ![256, 256] (inb1 i k 2 (by omega))).toLoadRect X_arg3)) (k0_pay21 (F := Ideal) v4 v25 v26 v28 (arg3.view.readAt (Elt Ideal) (Rect.unit (s := S8192x256) (k0_off1 i k 2#32) ![256, 256] (inb1 i k 2 (by omega))).toLoadRect X_arg3) (arg4.view.readAt (Elt Ideal) (Rect.unit (s := S8192x128) (k0_off2 i k 2#32) ![256, 128] (inb2 i k 2 (by omega))).toLoadRect X_arg4)) (arg14.view.readCov L1 (Rect.unit (s := S256x1024) ![0, 0] ![256, 1024] inb_S256x1024_S256x1024_0_0).toLoadRect)⟩ :: L1
    ∧ L1 = ⟨Rect.unit (s := S256x1024) ![0, 0] ![256, 1024] inb_S256x1024_S256x1024_0_0, k0_pay18 (k0_pay11 (F := Ideal) (arg3.view.readAt (Elt Ideal) (Rect.unit (s := S8192x256) (k0_off1 i k 1#32) ![256, 256] (inb1 i k 1 (by omega))).toLoadRect X_arg3)) (k0_pay13 (F := Ideal) v4 v25 v26 v28 (arg3.view.readAt (Elt Ideal) (Rect.unit (s := S8192x256) (k0_off1 i k 1#32) ![256, 256] (inb1 i k 1 (by omega))).toLoadRect X_arg3) (arg4.view.readAt (Elt Ideal) (Rect.unit (s := S8192x128) (k0_off2 i k 1#32) ![256, 128] (inb2 i k 1 (by omega))).toLoadRect X_arg4)) (arg14.view.readCov L0 (Rect.unit (s := S256x1024) ![0, 0] ![256, 1024] inb_S256x1024_S256x1024_0_0).toLoadRect)⟩ :: L0
    ∧ L0 = [⟨Rect.unit (s := S256x1024) ![0, 0] ![256, 1024] inb_S256x1024_S256x1024_0_0, k0_pay10 (k0_pay5 (F := Ideal) (arg3.view.readAt (Elt Ideal) (Rect.unit (s := S8192x256) (k0_off1 i k 0#32) ![256, 256] (inb1 i k 0 (by omega))).toLoadRect X_arg3)) (k0_pay7 (F := Ideal) v4 v25 v26 v28 (arg3.view.readAt (Elt Ideal) (Rect.unit (s := S8192x256) (k0_off1 i k 0#32) ![256, 256] (inb1 i k 0 (by omega))).toLoadRect X_arg3) (arg4.view.readAt (Elt Ideal) (Rect.unit (s := S8192x128) (k0_off2 i k 0#32) ![256, 128] (inb2 i k 0 (by omega))).toLoadRect X_arg4)) (arg14.view.readAt (Elt Ideal) (Rect.unit (s := S256x1024) ![0, 0] ![256, 1024] inb_S256x1024_S256x1024_0_0).toLoadRect f14)⟩] := by
  unfold tripL_k0_t1 trip_k0_t1
  exact ⟨_, _, _, rfl, rfl, rfl, rfl⟩

set_option maxHeartbeats 2000000 in
/-- The gradient of the keys after trip `k`: the rows below `1024 (k+1)` have their terms. -/
theorem trip10 (S : Fin 8192 → Fin 1024 → EReal) (hS : ∀ (r : Fin 8192) (j : Fin 1024), r.val < 1024 * (i 1).val → slope (row (R := 8192) (C := 256) (arg3.view.read (Elt Ideal) X_arg3) r) (row v4 j) (v28 (ix2 0 j)) (row (R := 8192) (C := 128) (arg4.view.read (Elt Ideal) X_arg4) r) (row v26 j) (v25 (ix2 0 j)) = S r j) (f0 : Fin 8192 → Fin 256 → EReal)
    (h : ∀ r d, arg10.view.read (Elt Ideal) f10 (ix2 r d) = f0 r d + if r.val < 1024 * k.val then ∑ j, S r j * v4 (ix2 j d) else 0) (r : Fin 8192) (d : Fin 256) :
    arg10.view.read (Elt Ideal) (arg10.view.writes (Elt Ideal) f10 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 X_arg3 X_arg4 k f10 f13 f14).1) (ix2 r d)
      = f0 r d + if r.val < 1024 * (k.val + 1) then ∑ j, S r j * v4 (ix2 j d) else 0 := by
  have hk := trip_lt i k
  have h8 : (i 1).val < 8 := (i 1).isLt
  have hK : ∀ (j : ℕ) (hj : j < 4) (x : Fin 256), row (arg3.view.readAt (Elt Ideal) (Rect.unit (s := S8192x256) (k0_off1 i k (BitVec.ofNat 32 j)) ![256, 256] (inb1 i k j hj)).toLoadRect X_arg3) x
      = row (R := 8192) (C := 256) (arg3.view.read (Elt Ideal) X_arg3) ⟨1024 * k.val + 256 * j + x.val, by omega⟩ :=
    fun j hj x => row_load arg3.view X_arg3 _ (off1_eq i k j hj) x (by omega)
  have hV : ∀ (j : ℕ) (hj : j < 4) (x : Fin 256), row (arg4.view.readAt (Elt Ideal) (Rect.unit (s := S8192x128) (k0_off2 i k (BitVec.ofNat 32 j)) ![256, 128] (inb2 i k j hj)).toLoadRect X_arg4) x
      = row (R := 8192) (C := 128) (arg4.view.read (Elt Ideal) X_arg4) ⟨1024 * k.val + 256 * j + x.val, by omega⟩ :=
    fun j hj x => row_load arg4.view X_arg4 _ (off2_eq i k j hj) x (by omega)
  have hA : ∀ (j : ℕ) (hj : j < 4) (x : Fin 256) (d : Fin 256), arg10.view.readAt (Elt Ideal) (Rect.unit (s := S8192x256) (k0_off1 i k (BitVec.ofNat 32 j)) ![256, 256] (inb1 i k j hj)).toLoadRect f10 (ix2 x d)
      = f0 ⟨1024 * k.val + 256 * j + x.val, by omega⟩ d := by
    intro j hj x d
    rw [load_rows arg10.view f10 _ (off1_eq i k j hj) x d (by omega), h, if_neg (by show ¬ (1024 * k.val + 256 * j + x.val < _); omega), add_zero]
  have hD : ∀ (j : ℕ) (hj : j < 4) (x : Fin 256) (y : Fin 1024), slope (row (arg3.view.readAt (Elt Ideal) (Rect.unit (s := S8192x256) (k0_off1 i k (BitVec.ofNat 32 j)) ![256, 256] (inb1 i k j hj)).toLoadRect X_arg3) x)
      (row v4 y) (v28 (ix2 0 y)) (row (arg4.view.readAt (Elt Ideal) (Rect.unit (s := S8192x128) (k0_off2 i k (BitVec.ofNat 32 j)) ![256, 128] (inb2 i k j hj)).toLoadRect X_arg4) x) (row v26 y) (v25 (ix2 0 y))
      = S ⟨1024 * k.val + 256 * j + x.val, by omega⟩ y := by
    intro j hj x y
    rw [hK j hj x, hV j hj x]
    exact hS _ y (by show 1024 * k.val + 256 * j + x.val < _; omega)
  rw [trip10_pieces]
  have h0 : ∀ r d, arg10.view.read (Elt Ideal) (arg10.view.writes (Elt Ideal) f10 []) (ix2 r d) = f0 r d + if r.val < 1024 * k.val + 256 * 0 then ∑ j, S r j * v4 (ix2 j d) else 0 := h
  refine acc_rows (W := 256) (o := 1024 * k.val + 256 * 3) arg10.view f10 _ f0 (fun r d => ∑ j, S r j * v4 (ix2 j d)) _ _ (off1_eq i k 3 (by omega)) (by omega)
    (acc_rows (W := 256) (o := 1024 * k.val + 256 * 2) (o1 := 1024 * k.val + 256 * 3) arg10.view f10 _ f0 (fun r d => ∑ j, S r j * v4 (ix2 j d)) _ _ (off1_eq i k 2 (by omega)) (by omega)
      (acc_rows (W := 256) (o := 1024 * k.val + 256 * 1) (o1 := 1024 * k.val + 256 * 2) arg10.view f10 _ f0 (fun r d => ∑ j, S r j * v4 (ix2 j d)) _ _ (off1_eq i k 1 (by omega)) (by omega)
        (acc_rows (W := 256) (o := 1024 * k.val + 256 * 0) (o1 := 1024 * k.val + 256 * 1) arg10.view f10 [] f0 (fun r d => ∑ j, S r j * v4 (ix2 j d)) _ _ (off1_eq i k 0 (by omega)) (by omega) h0 ?_) ?_) ?_) ?_ r d
  · intro x d hx
    refine (pay9 _ _ _ _ _ _ _ x d).trans ?_
    rw [hA 0 (by omega) x d]
    exact congrArg _ (Finset.sum_congr rfl fun y _ => congrArg (· * _) (hD 0 (by omega) x y))
  · intro x d hx
    refine (pay17 _ _ _ _ _ _ _ x d).trans ?_
    rw [hA 1 (by omega) x d]
    exact congrArg _ (Finset.sum_congr rfl fun y _ => congrArg (· * _) (hD 1 (by omega) x y))
  · intro x d hx
    refine (pay24 _ _ _ x d).trans ?_
    rw [hA 2 (by omega) x d]
    exact congrArg _ (Finset.sum_congr rfl fun y _ => congrArg (· * _) ((pay21 _ _ _ _ _ _ x y).trans <| hD 2 (by omega) x y))
  · intro x d hx
    refine (pay89 _ _ _ x d).trans ?_
    rw [hA 3 (by omega) x d]
    exact congrArg _ (Finset.sum_congr rfl fun y _ => congrArg (· * _) ((pay28 _ _ _ _ _ _ x y).trans <| hD 3 (by omega) x y))

set_option maxHeartbeats 2000000 in
/-- The gradient of the values after trip `k`: the rows below `1024 (k+1)` have their terms. -/
theorem trip13 (P : Fin 8192 → Fin 1024 → EReal) (hP : ∀ (r : Fin 8192) (j : Fin 1024), r.val < 1024 * (i 1).val → weight (row (R := 8192) (C := 256) (arg3.view.read (Elt Ideal) X_arg3) r) (row v4 j) (v28 (ix2 0 j)) = P r j) (f0 : Fin 8192 → Fin 128 → EReal)
    (h : ∀ r d, arg13.view.read (Elt Ideal) f13 (ix2 r d) = f0 r d + if r.val < 1024 * k.val then ∑ j, P r j * v26 (ix2 j d) else 0) (r : Fin 8192) (d : Fin 128) :
    arg13.view.read (Elt Ideal) (arg13.view.writes (Elt Ideal) f13 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 X_arg3 X_arg4 k f10 f13 f14).2.1) (ix2 r d)
      = f0 r d + if r.val < 1024 * (k.val + 1) then ∑ j, P r j * v26 (ix2 j d) else 0 := by
  have hk := trip_lt i k
  have h8 : (i 1).val < 8 := (i 1).isLt
  have hK : ∀ (j : ℕ) (hj : j < 4) (x : Fin 256), row (arg3.view.readAt (Elt Ideal) (Rect.unit (s := S8192x256) (k0_off1 i k (BitVec.ofNat 32 j)) ![256, 256] (inb1 i k j hj)).toLoadRect X_arg3) x
      = row (R := 8192) (C := 256) (arg3.view.read (Elt Ideal) X_arg3) ⟨1024 * k.val + 256 * j + x.val, by omega⟩ :=
    fun j hj x => row_load arg3.view X_arg3 _ (off1_eq i k j hj) x (by omega)
  have hA : ∀ (j : ℕ) (hj : j < 4) (x : Fin 256) (d : Fin 128), arg13.view.readAt (Elt Ideal) (Rect.unit (s := S8192x128) (k0_off2 i k (BitVec.ofNat 32 j)) ![256, 128] (inb2 i k j hj)).toLoadRect f13 (ix2 x d)
      = f0 ⟨1024 * k.val + 256 * j + x.val, by omega⟩ d := by
    intro j hj x d
    rw [load_rows arg13.view f13 _ (off2_eq i k j hj) x d (by omega), h, if_neg (by show ¬ (1024 * k.val + 256 * j + x.val < _); omega), add_zero]
  have hD : ∀ (j : ℕ) (hj : j < 4) (x : Fin 256) (y : Fin 1024), weight (row (arg3.view.readAt (Elt Ideal) (Rect.unit (s := S8192x256) (k0_off1 i k (BitVec.ofNat 32 j)) ![256, 256] (inb1 i k j hj)).toLoadRect X_arg3) x)
      (row v4 y) (v28 (ix2 0 y)) = P ⟨1024 * k.val + 256 * j + x.val, by omega⟩ y := by
    intro j hj x y
    rw [hK j hj x]
    exact hP _ y (by show 1024 * k.val + 256 * j + x.val < _; omega)
  rw [trip13_pieces]
  have h0 : ∀ r d, arg13.view.read (Elt Ideal) (arg13.view.writes (Elt Ideal) f13 []) (ix2 r d) = f0 r d + if r.val < 1024 * k.val + 256 * 0 then ∑ j, P r j * v26 (ix2 j d) else 0 := h
  refine acc_rows (W := 256) (o := 1024 * k.val + 256 * 3) arg13.view f13 _ f0 (fun r d => ∑ j, P r j * v26 (ix2 j d)) _ _ (off2_eq i k 3 (by omega)) (by omega)
    (acc_rows (W := 256) (o := 1024 * k.val + 256 * 2) (o1 := 1024 * k.val + 256 * 3) arg13.view f13 _ f0 (fun r d => ∑ j, P r j * v26 (ix2 j d)) _ _ (off2_eq i k 2 (by omega)) (by omega)
      (acc_rows (W := 256) (o := 1024 * k.val + 256 * 1) (o1 := 1024 * k.val + 256 * 2) arg13.view f13 _ f0 (fun r d => ∑ j, P r j * v26 (ix2 j d)) _ _ (off2_eq i k 1 (by omega)) (by omega)
        (acc_rows (W := 256) (o := 1024 * k.val + 256 * 0) (o1 := 1024 * k.val + 256 * 1) arg13.view f13 [] f0 (fun r d => ∑ j, P r j * v26 (ix2 j d)) _ _ (off2_eq i k 0 (by omega)) (by omega) h0 ?_) ?_) ?_) ?_ r d
  · intro x d hx
    refine (pay8 _ _ _ _ _ x d).trans ?_
    rw [hA 0 (by omega) x d]
    exact congrArg _ (Finset.sum_congr rfl fun y _ => congrArg (· * _) (hD 0 (by omega) x y))
  · intro x d hx
    refine (pay14 _ _ _ _ _ x d).trans ?_
    rw [hA 1 (by omega) x d]
    exact congrArg _ (Finset.sum_congr rfl fun y _ => congrArg (· * _) (hD 1 (by omega) x y))
  · intro x d hx
    refine (pay23 _ _ _ _ _ x d).trans ?_
    rw [hA 2 (by omega) x d]
    exact congrArg _ (Finset.sum_congr rfl fun y _ => congrArg (· * _) (hD 2 (by omega) x y))
  · intro x d hx
    refine (pay88 _ _ _ x d).trans ?_
    rw [hA 3 (by omega) x d]
    exact congrArg _ (Finset.sum_congr rfl fun y _ => congrArg (· * _) ((pay27 _ _ _ x y).trans <| hD 3 (by omega) x y))

/-- The transposed gradient of the queries after trip `k`: the sum over the keys below `1024 (k+1)`. -/
theorem trip14 (S : Fin 8192 → Fin 1024 → EReal) (hS : ∀ (r : Fin 8192) (j : Fin 1024), r.val < 1024 * (i 1).val → slope (row (R := 8192) (C := 256) (arg3.view.read (Elt Ideal) X_arg3) r) (row v4 j) (v28 (ix2 0 j)) (row (R := 8192) (C := 128) (arg4.view.read (Elt Ideal) X_arg4) r) (row v26 j) (v25 (ix2 0 j)) = S r j)
    (h : ∀ d j, arg14.view.read (Elt Ideal) f14 (ix2 d j) = upto (1024 * k.val) fun r : Fin 8192 => row (R := 8192) (C := 256) (arg3.view.read (Elt Ideal) X_arg3) r d * S r j)
    (d : Fin 256) (j : Fin 1024) :
    arg14.view.read (Elt Ideal) (arg14.view.writes (Elt Ideal) f14 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 X_arg3 X_arg4 k f10 f13 f14).2.2) (ix2 d j)
      = upto (1024 * (k.val + 1)) fun r : Fin 8192 => row (R := 8192) (C := 256) (arg3.view.read (Elt Ideal) X_arg3) r d * S r j := by
  have hk := trip_lt i k
  have h8 : (i 1).val < 8 := (i 1).isLt
  have hK : ∀ (j : ℕ) (hj : j < 4) (x : Fin 256), row (arg3.view.readAt (Elt Ideal) (Rect.unit (s := S8192x256) (k0_off1 i k (BitVec.ofNat 32 j)) ![256, 256] (inb1 i k j hj)).toLoadRect X_arg3) x
      = row (R := 8192) (C := 256) (arg3.view.read (Elt Ideal) X_arg3) ⟨1024 * k.val + 256 * j + x.val, by omega⟩ :=
    fun j hj x => row_load arg3.view X_arg3 _ (off1_eq i k j hj) x (by omega)
  have hV : ∀ (j : ℕ) (hj : j < 4) (x : Fin 256), row (arg4.view.readAt (Elt Ideal) (Rect.unit (s := S8192x128) (k0_off2 i k (BitVec.ofNat 32 j)) ![256, 128] (inb2 i k j hj)).toLoadRect X_arg4) x
      = row (R := 8192) (C := 128) (arg4.view.read (Elt Ideal) X_arg4) ⟨1024 * k.val + 256 * j + x.val, by omega⟩ :=
    fun j hj x => row_load arg4.view X_arg4 _ (off2_eq i k j hj) x (by omega)
  have hD : ∀ (j : ℕ) (hj : j < 4) (x : Fin 256) (y : Fin 1024), slope (row (arg3.view.readAt (Elt Ideal) (Rect.unit (s := S8192x256) (k0_off1 i k (BitVec.ofNat 32 j)) ![256, 256] (inb1 i k j hj)).toLoadRect X_arg3) x)
      (row v4 y) (v28 (ix2 0 y)) (row (arg4.view.readAt (Elt Ideal) (Rect.unit (s := S8192x128) (k0_off2 i k (BitVec.ofNat 32 j)) ![256, 128] (inb2 i k j hj)).toLoadRect X_arg4) x) (row v26 y) (v25 (ix2 0 y))
      = S ⟨1024 * k.val + 256 * j + x.val, by omega⟩ y := by
    intro j hj x y
    rw [hK j hj x, hV j hj x]
    exact hS _ y (by show 1024 * k.val + 256 * j + x.val < _; omega)
  obtain ⟨L0, L1, L2, e, e2, e1, e0⟩ := trip14_pieces 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 X_arg3 X_arg4 k f10 f13 f14
  rw [e]
  refine (read_store_whole arg14.view f14 L2 inb_S256x1024_S256x1024_0_0 _ d j).trans ?_
  have step : ∀ (n : ℕ) (hn : n < 4), (upto (1024 * k.val + 256 * n) fun r : Fin 8192 => row (R := 8192) (C := 256) (arg3.view.read (Elt Ideal) X_arg3) r d * S r j)
      + ∑ x : Fin 256, row (arg3.view.readAt (Elt Ideal) (Rect.unit (s := S8192x256) (k0_off1 i k (BitVec.ofNat 32 n)) ![256, 256] (inb1 i k n hn)).toLoadRect X_arg3) x d
          * slope (row (arg3.view.readAt (Elt Ideal) (Rect.unit (s := S8192x256) (k0_off1 i k (BitVec.ofNat 32 n)) ![256, 256] (inb1 i k n hn)).toLoadRect X_arg3) x)
      (row v4 j) (v28 (ix2 0 j)) (row (arg4.view.readAt (Elt Ideal) (Rect.unit (s := S8192x128) (k0_off2 i k (BitVec.ofNat 32 n)) ![256, 128] (inb2 i k n hn)).toLoadRect X_arg4) x) (row v26 j) (v25 (ix2 0 j))
      = upto (1024 * k.val + 256 * (n + 1)) fun r : Fin 8192 => row (R := 8192) (C := 256) (arg3.view.read (Elt Ideal) X_arg3) r d * S r j := by
    intro n hn
    have e := upto_add (W := 256) (1024 * k.val + 256 * n) (by omega) fun r : Fin 8192 => row (R := 8192) (C := 256) (arg3.view.read (Elt Ideal) X_arg3) r d * S r j
    rw [show 1024 * k.val + 256 * (n + 1) = 1024 * k.val + 256 * n + 256 by omega, ← e]
    exact congrArg _ (Finset.sum_congr rfl fun x _ => by rw [hD n hn x j, hK n hn x])
  refine (pay90 _ _ _ d j).trans ?_
  rw [e2, cov_whole]
  refine (congrArg (· + _) (pay25 _ _ _ d j)).trans ?_
  rw [e1, cov_whole]
  refine (congrArg (· + _ + _) (pay18 _ _ _ d j)).trans ?_
  rw [e0, cov_whole]
  refine (congrArg (· + _ + _ + _) (pay10 _ _ _ d j)).trans ?_
  rw [load_whole, h]
  simp only [pay5, pay7, pay11, pay13, pay19, pay21, pay26, pay28]
  refine Eq.trans ?_ (congrArg (fun n => upto n fun r : Fin 8192 => row (R := 8192) (C := 256) (arg3.view.read (Elt Ideal) X_arg3) r d * S r j)
    (show 1024 * k.val + 256 * (3 + 1) = 1024 * (k.val + 1) by omega))
  rw [← step 3 (by omega), ← step 2 (by omega), ← step 1 (by omega), ← step 0 (by omega)]
  rfl

end

section
variable (𝒱 : Variants) (c : Dev nD) (bd : Option 𝒱.V) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8x1024 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .bf16) (harg11 : arg11.IsWhole) (arg12 : Memref sig .tc .vmem S1024x128 .bf16) (harg12 : arg12.IsWhole) (arg13 : Memref sig .tc .vmem S8192x128 .f32) (harg13 : arg13.IsWhole) (arg14 : Memref sig .tc .vmem S256x1024 .f32) (harg14 : arg14.IsWhole) (arg1 : BitVec 32) (v4 : FVec Ideal S1024x256 .bf16) (v25 : FVec Ideal S1x1024 .f32) (v26 : FVec Ideal S1024x128 .bf16) (v28 : FVec Ideal S1x1024 .f32) (v83 : IVec S256x1024 1) (v253 : BitVec 32) (c4_i32_76 : BitVec 32) (v254 : BitVec 32) (v259 : BitVec 32) (v264 : BitVec 32) (X_arg3 : BufTy.Contents (Elt Ideal) arg3.view.ty) (X_arg4 : BufTy.Contents (Elt Ideal) arg4.view.ty)
  (f10 : BufTy.Contents (Elt Ideal) arg10.view.ty) (f13 : BufTy.Contents (Elt Ideal) arg13.view.ty) (f14 : BufTy.Contents (Elt Ideal) arg14.view.ty)

/-- The keys' gradient after `n` trips. -/
theorem loop10 (S : Fin 8192 → Fin 1024 → EReal) (hS : ∀ (r : Fin 8192) (j : Fin 1024), r.val < 1024 * (i 1).val → slope (row (R := 8192) (C := 256) (arg3.view.read (Elt Ideal) X_arg3) r) (row v4 j) (v28 (ix2 0 j)) (row (R := 8192) (C := 128) (arg4.view.read (Elt Ideal) X_arg4) r) (row v26 j) (v25 (ix2 0 j)) = S r j) (f0 : Fin 8192 → Fin 256 → EReal)
    (h : ∀ r d, arg10.view.read (Elt Ideal) f10 (ix2 r d) = f0 r d) (n : ℕ) (hn : n ≤ (i 1).val) (r : Fin 8192) (d : Fin 256) :
    arg10.view.read (Elt Ideal) (arg10.view.writes (Elt Ideal) f10 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 X_arg3 X_arg4 f10 f13 f14 n).1) (ix2 r d)
      = f0 r d + if r.val < 1024 * n then ∑ j, S r j * v4 (ix2 j d) else 0 := by
  induction n generalizing r d with
  | zero => rw [pb_k0_t1.eq_1, if_neg (by omega), add_zero]; exact h r d
  | succ n ih =>
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 X_arg3 X_arg4 f10 f13 f14 ⟨n, by rw [trips_eq]; omega⟩, View.writes_append]
    exact trip10 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 X_arg3 X_arg4 ⟨n, by rw [trips_eq]; omega⟩ _ _ _ S hS f0 (fun r d => ih (by omega) r d) r d

/-- The values' gradient after `n` trips. -/
theorem loop13 (P : Fin 8192 → Fin 1024 → EReal) (hP : ∀ (r : Fin 8192) (j : Fin 1024), r.val < 1024 * (i 1).val → weight (row (R := 8192) (C := 256) (arg3.view.read (Elt Ideal) X_arg3) r) (row v4 j) (v28 (ix2 0 j)) = P r j) (f0 : Fin 8192 → Fin 128 → EReal)
    (h : ∀ r d, arg13.view.read (Elt Ideal) f13 (ix2 r d) = f0 r d) (n : ℕ) (hn : n ≤ (i 1).val) (r : Fin 8192) (d : Fin 128) :
    arg13.view.read (Elt Ideal) (arg13.view.writes (Elt Ideal) f13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 X_arg3 X_arg4 f10 f13 f14 n).2.1) (ix2 r d)
      = f0 r d + if r.val < 1024 * n then ∑ j, P r j * v26 (ix2 j d) else 0 := by
  induction n generalizing r d with
  | zero => rw [pb_k0_t1.eq_1, if_neg (by omega), add_zero]; exact h r d
  | succ n ih =>
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 X_arg3 X_arg4 f10 f13 f14 ⟨n, by rw [trips_eq]; omega⟩, View.writes_append]
    exact trip13 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 X_arg3 X_arg4 ⟨n, by rw [trips_eq]; omega⟩ _ _ _ P hP f0 (fun r d => ih (by omega) r d) r d

/-- The transposed gradient of the queries after `n` trips. -/
theorem loop14 (S : Fin 8192 → Fin 1024 → EReal) (hS : ∀ (r : Fin 8192) (j : Fin 1024), r.val < 1024 * (i 1).val → slope (row (R := 8192) (C := 256) (arg3.view.read (Elt Ideal) X_arg3) r) (row v4 j) (v28 (ix2 0 j)) (row (R := 8192) (C := 128) (arg4.view.read (Elt Ideal) X_arg4) r) (row v26 j) (v25 (ix2 0 j)) = S r j)
    (h : ∀ d j, arg14.view.read (Elt Ideal) f14 (ix2 d j) = 0) (n : ℕ) (hn : n ≤ (i 1).val) (d : Fin 256) (j : Fin 1024) :
    arg14.view.read (Elt Ideal) (arg14.view.writes (Elt Ideal) f14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 X_arg3 X_arg4 f10 f13 f14 n).2.2) (ix2 d j)
      = upto (1024 * n) fun r : Fin 8192 => row (R := 8192) (C := 256) (arg3.view.read (Elt Ideal) X_arg3) r d * S r j := by
  induction n generalizing d j with
  | zero => rw [pb_k0_t1.eq_1, Nat.mul_zero, upto_zero]; exact h d j
  | succ n ih =>
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 X_arg3 X_arg4 f10 f13 f14 ⟨n, by rw [trips_eq]; omega⟩, View.writes_append]
    exact trip14 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 X_arg3 X_arg4 ⟨n, by rw [trips_eq]; omega⟩ _ _ _ S hS (fun d j => ih (by omega) d j) d j

end

end Cert.Trip

end
-- ==== Proof.Point.lean ====
/- The backward kernel at one grid point: the loop below the diagonal, then four tiles on the diagonal.

   `seen i r j` says that query `j` of block `i` sees key `r`. The lemmas give the three accumulators at the end of the point as sums
   over all keys, with the keys a query does not see counting zero. -/
module

public import proofs.«01_k».proof.Proof.Diag
public import proofs.«01_k».proof.Proof.Trip

@[expose] public section

set_option maxRecDepth 16384

namespace Cert.Point

open Idealize.ShloMosaic Idealize.ShloMosaic.TcCoe Idealize.SL.Sem
open Cert.KernelIdeal Cert.KernelIdeal.Gen Cert.Rows Cert.Tile Cert.Trip

/-- Query `j` of block `i` sees key `r`: the key's chunk of 64 is not after the query's. -/
abbrev seen (i r j : ℕ) : Prop := r / 64 ≤ (1024 * i + j) / 64

/-- The attention weights of block `i`. -/
noncomputable def W (i : ℕ) (K : FVec Ideal S8192x256 .bf16) (q : FVec Ideal S1024x256 .bf16) (l : FVec Ideal S1x1024 .f32) (r : Fin 8192) (j : Fin 1024) : EReal :=
  if seen i r.val j.val then weight (row (R := 8192) (C := 256) K r) (row (R := 1024) (C := 256) q j) (l (ix2 0 j)) else 0

/-- The derivatives by the unscaled scores of block `i`. -/
noncomputable def S (i : ℕ) (K : FVec Ideal S8192x256 .bf16) (V : FVec Ideal S8192x128 .bf16) (q : FVec Ideal S1024x256 .bf16)
    (dl : FVec Ideal S1x1024 .f32) (g : FVec Ideal S1024x128 .bf16) (l : FVec Ideal S1x1024 .f32) (r : Fin 8192) (j : Fin 1024) : EReal :=
  if seen i r.val j.val then slope (row (R := 8192) (C := 256) K r) (row (R := 1024) (C := 256) q j) (l (ix2 0 j))
    (row (R := 8192) (C := 128) V r) (row (R := 1024) (C := 128) g j) (dl (ix2 0 j)) else 0

/-- Diagonal tile `b` starts at row `1024 i + 256 b`. -/
theorem off5_eq (i : grid0.Coords) (b : ℕ) (hb : b < 4) : k0_off5 i (BitVec.ofNat 32 b) = ![1024 * (i 1).val + 256 * b, 0] := by
  have h8 : (i 1).val < 8 := (i 1).isLt
  unfold k0_off5
  have e : (Scalar.indexCast (Scalar.muli (Scalar.addi (Scalar.muli (BitVec.ofNat 32 (i 1).val) 4#32) (BitVec.ofNat 32 b)) 256#32)).toNat
      = 1024 * (i 1).val + 256 * b := by
    have all : ∀ a : Fin 8, ∀ j : Fin 4, (Scalar.indexCast (Scalar.muli (Scalar.addi (Scalar.muli (BitVec.ofNat 32 a.val) 4#32)
        (BitVec.ofNat 32 j.val)) 256#32)).toNat = 1024 * a.val + 256 * j.val := by decide +kernel
    exact all ⟨(i 1).val, h8⟩ ⟨b, hb⟩
  exact congrArg (fun n => ![n, 0]) e

theorem off6_eq (i : grid0.Coords) (b : ℕ) (hb : b < 4) : k0_off6 i (BitVec.ofNat 32 b) = ![1024 * (i 1).val + 256 * b, 0] := off5_eq i b hb

theorem inb5 (i : grid0.Coords) (b : ℕ) (hb : b < 4) : ∀ a : Fin 2, k0_off5 i (BitVec.ofNat 32 b) a + (![256, 256] : Fin 2 → ℕ) a ≤ S8192x256.size a := by
  rw [off5_eq i b hb]
  have : (i 1).val < 8 := (i 1).isLt
  exact Fin.forall_fin_two.mpr ⟨by show 1024 * (i 1).val + 256 * b + 256 ≤ 8192; omega, by show 0 + 256 ≤ 256; omega⟩

theorem inb6 (i : grid0.Coords) (b : ℕ) (hb : b < 4) : ∀ a : Fin 2, k0_off6 i (BitVec.ofNat 32 b) a + (![256, 128] : Fin 2 → ℕ) a ≤ S8192x128.size a := by
  rw [off6_eq i b hb]
  have : (i 1).val < 8 := (i 1).isLt
  exact Fin.forall_fin_two.mpr ⟨by show 1024 * (i 1).val + 256 * b + 256 ≤ 8192; omega, by show 0 + 128 ≤ 128; omega⟩

theorem S_lt (i : ℕ) (K : FVec Ideal S8192x256 .bf16) (V : FVec Ideal S8192x128 .bf16) (q : FVec Ideal S1024x256 .bf16) (dl : FVec Ideal S1x1024 .f32) (g : FVec Ideal S1024x128 .bf16) (l : FVec Ideal S1x1024 .f32) (r : Fin 8192) (j : Fin 1024) (h : r.val < 1024 * i) :
    slope (row (R := 8192) (C := 256) K r) (row q j) (l (ix2 0 j)) (row (R := 8192) (C := 128) V r) (row g j) (dl (ix2 0 j)) = S i K V q dl g l r j :=
  (if_pos (by unfold seen; omega)).symm

theorem W_lt (i : ℕ) (K : FVec Ideal S8192x256 .bf16) (q : FVec Ideal S1024x256 .bf16) (l : FVec Ideal S1x1024 .f32) (r : Fin 8192) (j : Fin 1024) (h : r.val < 1024 * i) :
    weight (row (R := 8192) (C := 256) K r) (row q j) (l (ix2 0 j)) = W i K q l r j :=
  (if_pos (by unfold seen; omega)).symm

theorem S_zero (i : ℕ) (K : FVec Ideal S8192x256 .bf16) (V : FVec Ideal S8192x128 .bf16) (q : FVec Ideal S1024x256 .bf16) (dl : FVec Ideal S1x1024 .f32) (g : FVec Ideal S1024x128 .bf16) (l : FVec Ideal S1x1024 .f32) (r : Fin 8192) (j : Fin 1024) (h : ¬ seen i r.val j.val) :
    S i K V q dl g l r j = 0 := if_neg h

theorem W_zero (i : ℕ) (K : FVec Ideal S8192x256 .bf16) (q : FVec Ideal S1024x256 .bf16) (l : FVec Ideal S1x1024 .f32) (r : Fin 8192) (j : Fin 1024) (h : ¬ seen i r.val j.val) :
    W i K q l r j = 0 := if_neg h

section
variable (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8x1024 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .bf16) (harg11 : arg11.IsWhole) (arg12 : Memref sig .tc .vmem S1024x128 .bf16) (harg12 : arg12.IsWhole) (arg13 : Memref sig .tc .vmem S8192x128 .f32) (harg13 : arg13.IsWhole) (arg14 : Memref sig .tc .vmem S256x1024 .f32) (harg14 : arg14.IsWhole)
  (q : FVec Ideal S1024x256 .bf16) (dl : FVec Ideal S1x1024 .f32) (g : FVec Ideal S1024x128 .bf16) (l : FVec Ideal S1x1024 .f32)
  (X3 : BufTy.Contents (Elt Ideal) arg3.view.ty) (X4 : BufTy.Contents (Elt Ideal) arg4.view.ty)

/-- The four diagonal tiles of the keys' gradient. -/
theorem diag10 (F10 : BufTy.Contents (Elt Ideal) arg10.view.ty) (L0 L1 L2 L3 L4 : List (View.Piece (Elt Ideal) S8192x256 .f32))
    (e0 : L1 = ⟨(Rect.unit (s := S8192x256) (k0_off5 i 0#32) ![256, 256] (inb5 i 0 (by omega))), k0_pay99 q (k0_pay96 q dl g l (k0_pay68 (k0_pay66 k0_pay63 (64#32) k0_pay65) (k0_pay67 k0_pay64)) (arg3.view.readAt (Elt Ideal) (Rect.unit (s := S8192x256) (k0_off5 i 0#32) ![256, 256] (inb5 i 0 (by omega))).toLoadRect X3) (arg4.view.readAt (Elt Ideal) (Rect.unit (s := S8192x128) (k0_off6 i 0#32) ![256, 128] (inb6 i 0 (by omega))).toLoadRect X4)) (arg10.view.readAt (Elt Ideal) (Rect.unit (s := S8192x256) (k0_off5 i 0#32) ![256, 256] (inb5 i 0 (by omega))).toLoadRect (arg10.view.writes (Elt Ideal) F10 L0))⟩ :: L0)
    (e1 : L2 = ⟨(Rect.unit (s := S8192x256) (k0_off5 i 1#32) ![256, 256] (inb5 i 1 (by omega))), k0_pay107 q dl (k0_pay102 q l (k0_pay74 k0_pay69 k0_pay70 (64#32) k0_pay71 k0_pay72 k0_pay73) (arg3.view.readAt (Elt Ideal) (Rect.unit (s := S8192x256) (k0_off5 i 1#32) ![256, 256] (inb5 i 1 (by omega))).toLoadRect X3)) (k0_pay103 (arg4.view.readAt (Elt Ideal) (Rect.unit (s := S8192x128) (k0_off6 i 1#32) ![256, 128] (inb6 i 1 (by omega))).toLoadRect X4)) (k0_pay104 g) (arg10.view.readAt (Elt Ideal) (Rect.unit (s := S8192x256) (k0_off5 i 1#32) ![256, 256] (inb5 i 1 (by omega))).toLoadRect (arg10.view.writes (Elt Ideal) F10 L1))⟩ :: L1)
    (e2 : L3 = ⟨(Rect.unit (s := S8192x256) (k0_off5 i 2#32) ![256, 256] (inb5 i 2 (by omega))), k0_pay114 q dl g l (k0_pay80 k0_pay75 k0_pay76 (64#32) k0_pay77 k0_pay78 k0_pay79) (k0_pay109 (arg3.view.readAt (Elt Ideal) (Rect.unit (s := S8192x256) (k0_off5 i 2#32) ![256, 256] (inb5 i 2 (by omega))).toLoadRect X3)) (k0_pay110 q) (arg4.view.readAt (Elt Ideal) (Rect.unit (s := S8192x128) (k0_off6 i 2#32) ![256, 128] (inb6 i 2 (by omega))).toLoadRect X4) (arg10.view.readAt (Elt Ideal) (Rect.unit (s := S8192x256) (k0_off5 i 2#32) ![256, 256] (inb5 i 2 (by omega))).toLoadRect (arg10.view.writes (Elt Ideal) F10 L2))⟩ :: L2)
    (e3 : L4 = ⟨(Rect.unit (s := S8192x256) (k0_off5 i 3#32) ![256, 256] (inb5 i 3 (by omega))), k0_pay1 q (k0_pay119 q dl g l (k0_pay86 k0_pay82 k0_pay83 k0_pay84 k0_pay85) (arg3.view.readAt (Elt Ideal) (Rect.unit (s := S8192x256) (k0_off5 i 3#32) ![256, 256] (inb5 i 3 (by omega))).toLoadRect X3) (arg4.view.readAt (Elt Ideal) (Rect.unit (s := S8192x128) (k0_off6 i 3#32) ![256, 128] (inb6 i 3 (by omega))).toLoadRect X4)) (arg10.view.readAt (Elt Ideal) (Rect.unit (s := S8192x256) (k0_off5 i 3#32) ![256, 256] (inb5 i 3 (by omega))).toLoadRect (arg10.view.writes (Elt Ideal) F10 L3))⟩ :: L3)
    (f0 : Fin 8192 → Fin 256 → EReal)
    (h0 : ∀ r d, arg10.view.read (Elt Ideal) (arg10.view.writes (Elt Ideal) F10 L0) (ix2 r d) = f0 r d + if r.val < 1024 * (i 1).val + 256 * 0 then ∑ j, S (i 1).val (arg3.view.read (Elt Ideal) X3) (arg4.view.read (Elt Ideal) X4) q dl g l r j * q (ix2 j d) else 0)
    (r : Fin 8192) (d : Fin 256) :
    arg10.view.read (Elt Ideal) (arg10.view.writes (Elt Ideal) F10 L4) (ix2 r d) = f0 r d + ∑ j, S (i 1).val (arg3.view.read (Elt Ideal) X3) (arg4.view.read (Elt Ideal) X4) q dl g l r j * q (ix2 j d) := by
  have h8 : (i 1).val < 8 := (i 1).isLt
  have h1 : ∀ r d, arg10.view.read (Elt Ideal) (arg10.view.writes (Elt Ideal) F10 L1) (ix2 r d) = f0 r d + if r.val < 1024 * (i 1).val + 256 * 1 then ∑ j, S (i 1).val (arg3.view.read (Elt Ideal) X3) (arg4.view.read (Elt Ideal) X4) q dl g l r j * q (ix2 j d) else 0 := by
    rw [e0]
    refine acc_rows (W := 256) (o := 1024 * (i 1).val + 256 * 0) (o1 := 1024 * (i 1).val + 256 * 1) arg10.view F10 L0 f0 (fun r d => ∑ j, S (i 1).val (arg3.view.read (Elt Ideal) X3) (arg4.view.read (Elt Ideal) X4) q dl g l r j * q (ix2 j d)) _ _ (off5_eq i 0 (by omega)) (by omega) h0 ?_
    · intro x d hx
      refine (pay99 _ _ _ _ _ _ _ _ x d).trans ?_
      rw [load_rows arg10.view _ _ (off5_eq i 0 (by omega)) x d hx, h0, if_neg (by show ¬ (1024 * (i 1).val + 256 * 0 + x.val < _); omega), add_zero]
      refine congrArg _ ?_
      refine Finset.sum_congr rfl fun y _ => ?_
      rw [mask0, select_mul]
      refine congrArg (· * _) ?_
      unfold S
      rw [row_load arg3.view X3 _ (off5_eq i 0 (by omega)) x hx, row_load arg4.view X4 _ (off6_eq i 0 (by omega)) x hx]
      exact if_congr (by unfold seen; show _ ↔ (1024 * (i 1).val + 256 * 0 + x.val) / 64 ≤ _; omega) rfl rfl
  have h2 : ∀ r d, arg10.view.read (Elt Ideal) (arg10.view.writes (Elt Ideal) F10 L2) (ix2 r d) = f0 r d + if r.val < 1024 * (i 1).val + 256 * 2 then ∑ j, S (i 1).val (arg3.view.read (Elt Ideal) X3) (arg4.view.read (Elt Ideal) X4) q dl g l r j * q (ix2 j d) else 0 := by
    rw [e1]
    refine acc_rows (W := 256) (o := 1024 * (i 1).val + 256 * 1) (o1 := 1024 * (i 1).val + 256 * 2) arg10.view F10 L1 f0 (fun r d => ∑ j, S (i 1).val (arg3.view.read (Elt Ideal) X3) (arg4.view.read (Elt Ideal) X4) q dl g l r j * q (ix2 j d)) _ _ (off5_eq i 1 (by omega)) (by omega) h1 ?_
    · intro x d hx
      refine (pay107 _ _ _ _ _ _ _ _ x d).trans ?_
      rw [load_rows arg10.view _ _ (off5_eq i 1 (by omega)) x d hx, h1, if_neg (by show ¬ (1024 * (i 1).val + 256 * 1 + x.val < _); omega), add_zero]
      refine congrArg _ ?_
      refine Eq.trans (Finset.sum_congr rfl fun y _ => ?_) (sum_from 256 (by omega) (fun j => S (i 1).val (arg3.view.read (Elt Ideal) X3) (arg4.view.read (Elt Ideal) X4) q dl g l ⟨1024 * (i 1).val + 256 * 1 + x.val, hx⟩ j * q (ix2 j d))
        fun j hj => by rw [S_zero _ _ _ _ _ _ _ _ _ (by unfold seen; show ¬ ((1024 * (i 1).val + 256 * 1 + x.val) / 64 ≤ _); omega), zero_mul])
      rw [mask1, select_mul]
      refine congrArg (· * _) ?_
      unfold S
      rw [row_load arg3.view X3 _ (off5_eq i 1 (by omega)) x hx, row_load arg4.view X4 _ (off6_eq i 1 (by omega)) x hx]
      exact if_congr (by unfold seen; show _ ↔ (1024 * (i 1).val + 256 * 1 + x.val) / 64 ≤ _; simp only [Fin.val_mk]; omega) rfl rfl
  have h3 : ∀ r d, arg10.view.read (Elt Ideal) (arg10.view.writes (Elt Ideal) F10 L3) (ix2 r d) = f0 r d + if r.val < 1024 * (i 1).val + 256 * 3 then ∑ j, S (i 1).val (arg3.view.read (Elt Ideal) X3) (arg4.view.read (Elt Ideal) X4) q dl g l r j * q (ix2 j d) else 0 := by
    rw [e2]
    refine acc_rows (W := 256) (o := 1024 * (i 1).val + 256 * 2) (o1 := 1024 * (i 1).val + 256 * 3) arg10.view F10 L2 f0 (fun r d => ∑ j, S (i 1).val (arg3.view.read (Elt Ideal) X3) (arg4.view.read (Elt Ideal) X4) q dl g l r j * q (ix2 j d)) _ _ (off5_eq i 2 (by omega)) (by omega) h2 ?_
    · intro x d hx
      refine (pay114 _ _ _ _ _ _ _ _ x d).trans ?_
      rw [load_rows arg10.view _ _ (off5_eq i 2 (by omega)) x d hx, h2, if_neg (by show ¬ (1024 * (i 1).val + 256 * 2 + x.val < _); omega), add_zero]
      refine congrArg _ ?_
      refine Eq.trans (Finset.sum_congr rfl fun y _ => ?_) (sum_from 512 (by omega) (fun j => S (i 1).val (arg3.view.read (Elt Ideal) X3) (arg4.view.read (Elt Ideal) X4) q dl g l ⟨1024 * (i 1).val + 256 * 2 + x.val, hx⟩ j * q (ix2 j d))
        fun j hj => by rw [S_zero _ _ _ _ _ _ _ _ _ (by unfold seen; show ¬ ((1024 * (i 1).val + 256 * 2 + x.val) / 64 ≤ _); omega), zero_mul])
      rw [mask2, select_mul]
      refine congrArg (· * _) ?_
      unfold S
      rw [row_load arg3.view X3 _ (off5_eq i 2 (by omega)) x hx, row_load arg4.view X4 _ (off6_eq i 2 (by omega)) x hx]
      exact if_congr (by unfold seen; show _ ↔ (1024 * (i 1).val + 256 * 2 + x.val) / 64 ≤ _; simp only [Fin.val_mk]; omega) rfl rfl
  have h4 : ∀ r d, arg10.view.read (Elt Ideal) (arg10.view.writes (Elt Ideal) F10 L4) (ix2 r d) = f0 r d + if r.val < 1024 * (i 1).val + 256 * 4 then ∑ j, S (i 1).val (arg3.view.read (Elt Ideal) X3) (arg4.view.read (Elt Ideal) X4) q dl g l r j * q (ix2 j d) else 0 := by
    rw [e3]
    refine acc_rows (W := 256) (o := 1024 * (i 1).val + 256 * 3) (o1 := 1024 * (i 1).val + 256 * 4) arg10.view F10 L3 f0 (fun r d => ∑ j, S (i 1).val (arg3.view.read (Elt Ideal) X3) (arg4.view.read (Elt Ideal) X4) q dl g l r j * q (ix2 j d)) _ _ (off5_eq i 3 (by omega)) (by omega) h3 ?_
    · intro x d hx
      refine (pay1 _ _ _ _ _ _ _ _ x d).trans ?_
      rw [load_rows arg10.view _ _ (off5_eq i 3 (by omega)) x d hx, h3, if_neg (by show ¬ (1024 * (i 1).val + 256 * 3 + x.val < _); omega), add_zero]
      refine congrArg _ ?_
      refine Eq.trans (Finset.sum_congr rfl fun y _ => ?_) (sum_from 768 (by omega) (fun j => S (i 1).val (arg3.view.read (Elt Ideal) X3) (arg4.view.read (Elt Ideal) X4) q dl g l ⟨1024 * (i 1).val + 256 * 3 + x.val, hx⟩ j * q (ix2 j d))
        fun j hj => by rw [S_zero _ _ _ _ _ _ _ _ _ (by unfold seen; show ¬ ((1024 * (i 1).val + 256 * 3 + x.val) / 64 ≤ _); omega), zero_mul])
      rw [mask3, select_mul]
      refine congrArg (· * _) ?_
      unfold S
      rw [row_load arg3.view X3 _ (off5_eq i 3 (by omega)) x hx, row_load arg4.view X4 _ (off6_eq i 3 (by omega)) x hx]
      exact if_congr (by unfold seen; show _ ↔ (1024 * (i 1).val + 256 * 3 + x.val) / 64 ≤ _; simp only [Fin.val_mk]; omega) rfl rfl
  rw [h4]
  by_cases hr : r.val < 1024 * (i 1).val + 256 * 4
  · rw [if_pos hr]
  · rw [if_neg hr]
    refine congrArg _ (Finset.sum_eq_zero fun j _ => ?_).symm
    rw [S_zero _ _ _ _ _ _ _ _ _ (by unfold seen; omega), zero_mul]

/-- The four diagonal tiles of the values' gradient. -/
theorem diag13 (F13 : BufTy.Contents (Elt Ideal) arg13.view.ty) (L0 L1 L2 L3 L4 : List (View.Piece (Elt Ideal) S8192x128 .f32))
    (e0 : L1 = ⟨(Rect.unit (s := S8192x128) (k0_off6 i 0#32) ![256, 128] (inb6 i 0 (by omega))), k0_pay98 g (arg13.view.readAt (Elt Ideal) (Rect.unit (s := S8192x128) (k0_off6 i 0#32) ![256, 128] (inb6 i 0 (by omega))).toLoadRect (arg13.view.writes (Elt Ideal) F13 L0)) (k0_pay97 q l (k0_pay68 (k0_pay66 k0_pay63 (64#32) k0_pay65) (k0_pay67 k0_pay64)) (arg3.view.readAt (Elt Ideal) (Rect.unit (s := S8192x256) (k0_off5 i 0#32) ![256, 256] (inb5 i 0 (by omega))).toLoadRect X3)) (constant S256x128 FTy.f32 0#32)⟩ :: L0)
    (e1 : L2 = ⟨(Rect.unit (s := S8192x128) (k0_off6 i 1#32) ![256, 128] (inb6 i 1 (by omega))), k0_pay106 g (k0_pay102 q l (k0_pay74 k0_pay69 k0_pay70 (64#32) k0_pay71 k0_pay72 k0_pay73) (arg3.view.readAt (Elt Ideal) (Rect.unit (s := S8192x256) (k0_off5 i 1#32) ![256, 256] (inb5 i 1 (by omega))).toLoadRect X3)) (arg13.view.readAt (Elt Ideal) (Rect.unit (s := S8192x128) (k0_off6 i 1#32) ![256, 128] (inb6 i 1 (by omega))).toLoadRect (arg13.view.writes (Elt Ideal) F13 L1))⟩ :: L1)
    (e2 : L3 = ⟨(Rect.unit (s := S8192x128) (k0_off6 i 2#32) ![256, 128] (inb6 i 2 (by omega))), k0_pay113 g l (k0_pay80 k0_pay75 k0_pay76 (64#32) k0_pay77 k0_pay78 k0_pay79) (k0_pay109 (arg3.view.readAt (Elt Ideal) (Rect.unit (s := S8192x256) (k0_off5 i 2#32) ![256, 256] (inb5 i 2 (by omega))).toLoadRect X3)) (k0_pay110 q) (arg13.view.readAt (Elt Ideal) (Rect.unit (s := S8192x128) (k0_off6 i 2#32) ![256, 128] (inb6 i 2 (by omega))).toLoadRect (arg13.view.writes (Elt Ideal) F13 L2))⟩ :: L2)
    (e3 : L4 = ⟨(Rect.unit (s := S8192x128) (k0_off6 i 3#32) ![256, 128] (inb6 i 3 (by omega))), k0_pay120 q g l (k0_pay86 k0_pay82 k0_pay83 k0_pay84 k0_pay85) (arg3.view.readAt (Elt Ideal) (Rect.unit (s := S8192x256) (k0_off5 i 3#32) ![256, 256] (inb5 i 3 (by omega))).toLoadRect X3) (arg13.view.readAt (Elt Ideal) (Rect.unit (s := S8192x128) (k0_off6 i 3#32) ![256, 128] (inb6 i 3 (by omega))).toLoadRect (arg13.view.writes (Elt Ideal) F13 L3))⟩ :: L3)
    (f0 : Fin 8192 → Fin 128 → EReal)
    (h0 : ∀ r d, arg13.view.read (Elt Ideal) (arg13.view.writes (Elt Ideal) F13 L0) (ix2 r d) = f0 r d + if r.val < 1024 * (i 1).val + 256 * 0 then ∑ j, W (i 1).val (arg3.view.read (Elt Ideal) X3) q l r j * g (ix2 j d) else 0)
    (r : Fin 8192) (d : Fin 128) :
    arg13.view.read (Elt Ideal) (arg13.view.writes (Elt Ideal) F13 L4) (ix2 r d) = f0 r d + ∑ j, W (i 1).val (arg3.view.read (Elt Ideal) X3) q l r j * g (ix2 j d) := by
  have h8 : (i 1).val < 8 := (i 1).isLt
  have h1 : ∀ r d, arg13.view.read (Elt Ideal) (arg13.view.writes (Elt Ideal) F13 L1) (ix2 r d) = f0 r d + if r.val < 1024 * (i 1).val + 256 * 1 then ∑ j, W (i 1).val (arg3.view.read (Elt Ideal) X3) q l r j * g (ix2 j d) else 0 := by
    rw [e0]
    refine acc_rows (W := 256) (o := 1024 * (i 1).val + 256 * 0) (o1 := 1024 * (i 1).val + 256 * 1) arg13.view F13 L0 f0 (fun r d => ∑ j, W (i 1).val (arg3.view.read (Elt Ideal) X3) q l r j * g (ix2 j d)) _ _ (off6_eq i 0 (by omega)) (by omega) h0 ?_
    · intro x d hx
      refine (pay98 _ _ _ _ _ _ x d).trans ?_
      rw [load_rows arg13.view _ _ (off6_eq i 0 (by omega)) x d hx, h0, if_neg (by show ¬ (1024 * (i 1).val + 256 * 0 + x.val < _); omega), add_zero]
      refine congrArg _ ?_
      refine Finset.sum_congr rfl fun y _ => ?_
      rw [mask0, select_mul]
      refine congrArg (· * _) ?_
      unfold W
      rw [row_load arg3.view X3 _ (off5_eq i 0 (by omega)) x hx]
      exact if_congr (by unfold seen; show _ ↔ (1024 * (i 1).val + 256 * 0 + x.val) / 64 ≤ _; omega) rfl rfl
  have h2 : ∀ r d, arg13.view.read (Elt Ideal) (arg13.view.writes (Elt Ideal) F13 L2) (ix2 r d) = f0 r d + if r.val < 1024 * (i 1).val + 256 * 2 then ∑ j, W (i 1).val (arg3.view.read (Elt Ideal) X3) q l r j * g (ix2 j d) else 0 := by
    rw [e1]
    refine acc_rows (W := 256) (o := 1024 * (i 1).val + 256 * 1) (o1 := 1024 * (i 1).val + 256 * 2) arg13.view F13 L1 f0 (fun r d => ∑ j, W (i 1).val (arg3.view.read (Elt Ideal) X3) q l r j * g (ix2 j d)) _ _ (off6_eq i 1 (by omega)) (by omega) h1 ?_
    · intro x d hx
      refine (pay106 _ _ _ _ _ _ x d).trans ?_
      rw [load_rows arg13.view _ _ (off6_eq i 1 (by omega)) x d hx, h1, if_neg (by show ¬ (1024 * (i 1).val + 256 * 1 + x.val < _); omega), add_zero]
      refine congrArg _ ?_
      refine Eq.trans (Finset.sum_congr rfl fun y _ => ?_) (sum_from 256 (by omega) (fun j => W (i 1).val (arg3.view.read (Elt Ideal) X3) q l ⟨1024 * (i 1).val + 256 * 1 + x.val, hx⟩ j * g (ix2 j d))
        fun j hj => by rw [W_zero _ _ _ _ _ _ (by unfold seen; show ¬ ((1024 * (i 1).val + 256 * 1 + x.val) / 64 ≤ _); omega), zero_mul])
      rw [mask1, select_mul]
      refine congrArg (· * _) ?_
      unfold W
      rw [row_load arg3.view X3 _ (off5_eq i 1 (by omega)) x hx]
      exact if_congr (by unfold seen; show _ ↔ (1024 * (i 1).val + 256 * 1 + x.val) / 64 ≤ _; simp only [Fin.val_mk]; omega) rfl rfl
  have h3 : ∀ r d, arg13.view.read (Elt Ideal) (arg13.view.writes (Elt Ideal) F13 L3) (ix2 r d) = f0 r d + if r.val < 1024 * (i 1).val + 256 * 3 then ∑ j, W (i 1).val (arg3.view.read (Elt Ideal) X3) q l r j * g (ix2 j d) else 0 := by
    rw [e2]
    refine acc_rows (W := 256) (o := 1024 * (i 1).val + 256 * 2) (o1 := 1024 * (i 1).val + 256 * 3) arg13.view F13 L2 f0 (fun r d => ∑ j, W (i 1).val (arg3.view.read (Elt Ideal) X3) q l r j * g (ix2 j d)) _ _ (off6_eq i 2 (by omega)) (by omega) h2 ?_
    · intro x d hx
      refine (pay113 _ _ _ _ _ _ x d).trans ?_
      rw [load_rows arg13.view _ _ (off6_eq i 2 (by omega)) x d hx, h2, if_neg (by show ¬ (1024 * (i 1).val + 256 * 2 + x.val < _); omega), add_zero]
      refine congrArg _ ?_
      refine Eq.trans (Finset.sum_congr rfl fun y _ => ?_) (sum_from 512 (by omega) (fun j => W (i 1).val (arg3.view.read (Elt Ideal) X3) q l ⟨1024 * (i 1).val + 256 * 2 + x.val, hx⟩ j * g (ix2 j d))
        fun j hj => by rw [W_zero _ _ _ _ _ _ (by unfold seen; show ¬ ((1024 * (i 1).val + 256 * 2 + x.val) / 64 ≤ _); omega), zero_mul])
      rw [mask2, select_mul]
      refine congrArg (· * _) ?_
      unfold W
      rw [row_load arg3.view X3 _ (off5_eq i 2 (by omega)) x hx]
      exact if_congr (by unfold seen; show _ ↔ (1024 * (i 1).val + 256 * 2 + x.val) / 64 ≤ _; simp only [Fin.val_mk]; omega) rfl rfl
  have h4 : ∀ r d, arg13.view.read (Elt Ideal) (arg13.view.writes (Elt Ideal) F13 L4) (ix2 r d) = f0 r d + if r.val < 1024 * (i 1).val + 256 * 4 then ∑ j, W (i 1).val (arg3.view.read (Elt Ideal) X3) q l r j * g (ix2 j d) else 0 := by
    rw [e3]
    refine acc_rows (W := 256) (o := 1024 * (i 1).val + 256 * 3) (o1 := 1024 * (i 1).val + 256 * 4) arg13.view F13 L3 f0 (fun r d => ∑ j, W (i 1).val (arg3.view.read (Elt Ideal) X3) q l r j * g (ix2 j d)) _ _ (off6_eq i 3 (by omega)) (by omega) h3 ?_
    · intro x d hx
      refine (pay120 _ _ _ _ _ _ x d).trans ?_
      rw [load_rows arg13.view _ _ (off6_eq i 3 (by omega)) x d hx, h3, if_neg (by show ¬ (1024 * (i 1).val + 256 * 3 + x.val < _); omega), add_zero]
      refine congrArg _ ?_
      refine Eq.trans (Finset.sum_congr rfl fun y _ => ?_) (sum_from 768 (by omega) (fun j => W (i 1).val (arg3.view.read (Elt Ideal) X3) q l ⟨1024 * (i 1).val + 256 * 3 + x.val, hx⟩ j * g (ix2 j d))
        fun j hj => by rw [W_zero _ _ _ _ _ _ (by unfold seen; show ¬ ((1024 * (i 1).val + 256 * 3 + x.val) / 64 ≤ _); omega), zero_mul])
      rw [mask3, select_mul]
      refine congrArg (· * _) ?_
      unfold W
      rw [row_load arg3.view X3 _ (off5_eq i 3 (by omega)) x hx]
      exact if_congr (by unfold seen; show _ ↔ (1024 * (i 1).val + 256 * 3 + x.val) / 64 ≤ _; simp only [Fin.val_mk]; omega) rfl rfl
  rw [h4]
  by_cases hr : r.val < 1024 * (i 1).val + 256 * 4
  · rw [if_pos hr]
  · rw [if_neg hr]
    refine congrArg _ (Finset.sum_eq_zero fun j _ => ?_).symm
    rw [W_zero _ _ _ _ _ _ (by unfold seen; omega), zero_mul]

/-- The four diagonal tiles of the transposed gradient of the queries. -/
theorem diag14 (L0 L1 L2 L3 L4 : List (View.Piece (Elt Ideal) S256x1024 .f32))
    (e0 : L1 = ⟨(Rect.unit (s := S256x1024) ![0, 0] ![256, 1024] inb_S256x1024_S256x1024_0_0), k0_pay100 (k0_pay94 (arg3.view.readAt (Elt Ideal) (Rect.unit (s := S8192x256) (k0_off5 i 0#32) ![256, 256] (inb5 i 0 (by omega))).toLoadRect X3)) (k0_pay96 q dl g l (k0_pay68 (k0_pay66 k0_pay63 (64#32) k0_pay65) (k0_pay67 k0_pay64)) (arg3.view.readAt (Elt Ideal) (Rect.unit (s := S8192x256) (k0_off5 i 0#32) ![256, 256] (inb5 i 0 (by omega))).toLoadRect X3) (arg4.view.readAt (Elt Ideal) (Rect.unit (s := S8192x128) (k0_off6 i 0#32) ![256, 128] (inb6 i 0 (by omega))).toLoadRect X4)) (arg14.view.readCov L0 (Rect.unit (s := S256x1024) ![0, 0] ![256, 1024] inb_S256x1024_S256x1024_0_0).toLoadRect)⟩ :: L0)
    (e1 : L2 = ⟨(Rect.unit (s := S256x1024) ![0, 256] ![256, 768] inb_S256x1024_S256x768_0_256), k0_pay108 dl (k0_pay101 (arg3.view.readAt (Elt Ideal) (Rect.unit (s := S8192x256) (k0_off5 i 1#32) ![256, 256] (inb5 i 1 (by omega))).toLoadRect X3)) (k0_pay102 q l (k0_pay74 k0_pay69 k0_pay70 (64#32) k0_pay71 k0_pay72 k0_pay73) (arg3.view.readAt (Elt Ideal) (Rect.unit (s := S8192x256) (k0_off5 i 1#32) ![256, 256] (inb5 i 1 (by omega))).toLoadRect X3)) (k0_pay103 (arg4.view.readAt (Elt Ideal) (Rect.unit (s := S8192x128) (k0_off6 i 1#32) ![256, 128] (inb6 i 1 (by omega))).toLoadRect X4)) (k0_pay104 g) (arg14.view.readCov L1 (Rect.unit (s := S256x1024) ![0, 256] ![256, 768] inb_S256x1024_S256x768_0_256).toLoadRect)⟩ :: L1)
    (e2 : L3 = ⟨(Rect.unit (s := S256x1024) ![0, 512] ![256, 512] inb_S256x1024_S256x512_0_512), k0_pay116 (k0_pay115 dl g l (k0_pay80 k0_pay75 k0_pay76 (64#32) k0_pay77 k0_pay78 k0_pay79) (k0_pay109 (arg3.view.readAt (Elt Ideal) (Rect.unit (s := S8192x256) (k0_off5 i 2#32) ![256, 256] (inb5 i 2 (by omega))).toLoadRect X3)) (k0_pay110 q) (arg4.view.readAt (Elt Ideal) (Rect.unit (s := S8192x128) (k0_off6 i 2#32) ![256, 128] (inb6 i 2 (by omega))).toLoadRect X4) (arg14.view.readCov L2 (Rect.unit (s := S256x1024) ![0, 512] ![256, 512] inb_S256x1024_S256x512_0_512).toLoadRect))⟩ :: L2)
    (e3 : L4 = ⟨(Rect.unit (s := S256x1024) ![0, 768] ![256, 256] inb_S256x1024_S256x256_0_768), k0_pay2 (k0_pay117 (arg3.view.readAt (Elt Ideal) (Rect.unit (s := S8192x256) (k0_off5 i 3#32) ![256, 256] (inb5 i 3 (by omega))).toLoadRect X3)) (k0_pay119 q dl g l (k0_pay86 k0_pay82 k0_pay83 k0_pay84 k0_pay85) (arg3.view.readAt (Elt Ideal) (Rect.unit (s := S8192x256) (k0_off5 i 3#32) ![256, 256] (inb5 i 3 (by omega))).toLoadRect X3) (arg4.view.readAt (Elt Ideal) (Rect.unit (s := S8192x128) (k0_off6 i 3#32) ![256, 128] (inb6 i 3 (by omega))).toLoadRect X4)) (arg14.view.readCov L3 (Rect.unit (s := S256x1024) ![0, 768] ![256, 256] inb_S256x1024_S256x256_0_768).toLoadRect)⟩ :: L3)
    (h0 : ∀ d j, arg14.view.read (Elt Ideal) (arg14.view.writes (Elt Ideal) arg14.view.junk L0) (ix2 d j) = upto (1024 * (i 1).val + 256 * 0) fun r : Fin 8192 => row (R := 8192) (C := 256) (arg3.view.read (Elt Ideal) X3) r d * S (i 1).val (arg3.view.read (Elt Ideal) X3) (arg4.view.read (Elt Ideal) X4) q dl g l r j)
    (d : Fin 256) (j : Fin 1024) :
    arg14.view.readCov L4 (Rect.unit (s := S256x1024) ![0, 0] ![256, 1024] inb_S256x1024_S256x1024_0_0).toLoadRect (ix2 d j) = ∑ r : Fin 8192, row (R := 8192) (C := 256) (arg3.view.read (Elt Ideal) X3) r d * S (i 1).val (arg3.view.read (Elt Ideal) X3) (arg4.view.read (Elt Ideal) X4) q dl g l r j := by
  have h8 : (i 1).val < 8 := (i 1).isLt
  have hcov : ∀ (L : List (View.Piece (Elt Ideal) S256x1024 .f32)) (B : LoadRect S256x1024), arg14.view.readCov L B = arg14.view.readAt (Elt Ideal) B (arg14.view.writes (Elt Ideal) arg14.view.junk L) := fun _ _ => rfl
  have new : ∀ (b : ℕ) (hb : b < 4) (d : Fin 256) (j : Fin 1024), (upto (1024 * (i 1).val + 256 * b) fun r : Fin 8192 => row (R := 8192) (C := 256) (arg3.view.read (Elt Ideal) X3) r d * S (i 1).val (arg3.view.read (Elt Ideal) X3) (arg4.view.read (Elt Ideal) X4) q dl g l r j) + ∑ x : Fin 256, row (R := 8192) (C := 256) (arg3.view.read (Elt Ideal) X3) ⟨1024 * (i 1).val + 256 * b + x.val, by omega⟩ d * S (i 1).val (arg3.view.read (Elt Ideal) X3) (arg4.view.read (Elt Ideal) X4) q dl g l ⟨1024 * (i 1).val + 256 * b + x.val, by omega⟩ j
      = upto (1024 * (i 1).val + 256 * (b + 1)) fun r : Fin 8192 => row (R := 8192) (C := 256) (arg3.view.read (Elt Ideal) X3) r d * S (i 1).val (arg3.view.read (Elt Ideal) X3) (arg4.view.read (Elt Ideal) X4) q dl g l r j := by
    intro b hb d j
    rw [show 1024 * (i 1).val + 256 * (b + 1) = 1024 * (i 1).val + 256 * b + 256 by omega]
    exact upto_add (W := 256) (1024 * (i 1).val + 256 * b) (by omega) fun r : Fin 8192 => row (R := 8192) (C := 256) (arg3.view.read (Elt Ideal) X3) r d * S (i 1).val (arg3.view.read (Elt Ideal) X3) (arg4.view.read (Elt Ideal) X4) q dl g l r j
  have h1 : ∀ d j, arg14.view.read (Elt Ideal) (arg14.view.writes (Elt Ideal) arg14.view.junk L1) (ix2 d j) = upto (1024 * (i 1).val + 256 * 1) fun r : Fin 8192 => row (R := 8192) (C := 256) (arg3.view.read (Elt Ideal) X3) r d * S (i 1).val (arg3.view.read (Elt Ideal) X3) (arg4.view.read (Elt Ideal) X4) q dl g l r j := by
    rw [e0]
    refine acc_cols (o := 0) arg14.view arg14.view.junk L0 (fun d j => upto (1024 * (i 1).val + 256 * 0) fun r : Fin 8192 => row (R := 8192) (C := 256) (arg3.view.read (Elt Ideal) X3) r d * S (i 1).val (arg3.view.read (Elt Ideal) X3) (arg4.view.read (Elt Ideal) X4) q dl g l r j) (fun d j => upto (1024 * (i 1).val + 256 * 1) fun r : Fin 8192 => row (R := 8192) (C := 256) (arg3.view.read (Elt Ideal) X3) r d * S (i 1).val (arg3.view.read (Elt Ideal) X3) (arg4.view.read (Elt Ideal) X4) q dl g l r j) (by omega) _ _ h0 ?_ ?_
    · intro d j
      refine Eq.trans ?_ (congrArg (fun j : Fin 1024 => upto (1024 * (i 1).val + 256 * 1) fun r : Fin 8192 => row (R := 8192) (C := 256) (arg3.view.read (Elt Ideal) X3) r d * S (i 1).val (arg3.view.read (Elt Ideal) X3) (arg4.view.read (Elt Ideal) X4) q dl g l r j) (Fin.ext (Nat.zero_add j.val)).symm)
      refine (pay100 _ _ _ _ _ _ _ _ d j).trans ?_
      rw [hcov, load_whole, h0, ← new 0 (by omega)]
      refine congr (congrArg _ rfl) (Finset.sum_congr rfl fun x _ => ?_)
      rw [mask0, select_mul']
      refine congr (congrArg _ (congrFun (row_load arg3.view X3 _ (off5_eq i 0 (by omega)) x (by omega)) d)) ?_
      unfold S
      rw [row_load arg3.view X3 _ (off5_eq i 0 (by omega)) x (by omega), row_load arg4.view X4 _ (off6_eq i 0 (by omega)) x (by omega)]
      refine if_congr (by unfold seen; show _ ↔ (1024 * (i 1).val + 256 * 0 + x.val) / 64 ≤ (1024 * (i 1).val + j.val) / 64; omega) ?_ rfl
      rfl
    · intro d j hj
      rw [← new 0 (by omega)]
      refine (congrArg _ (Finset.sum_eq_zero fun x _ => ?_)).trans (add_zero _)
      rw [S_zero _ _ _ _ _ _ _ _ _ (by unfold seen; show ¬ ((1024 * (i 1).val + 256 * 0 + x.val) / 64 ≤ _); omega), mul_zero]
  have h2 : ∀ d j, arg14.view.read (Elt Ideal) (arg14.view.writes (Elt Ideal) arg14.view.junk L2) (ix2 d j) = upto (1024 * (i 1).val + 256 * 2) fun r : Fin 8192 => row (R := 8192) (C := 256) (arg3.view.read (Elt Ideal) X3) r d * S (i 1).val (arg3.view.read (Elt Ideal) X3) (arg4.view.read (Elt Ideal) X4) q dl g l r j := by
    rw [e1]
    refine acc_cols (o := 256) arg14.view arg14.view.junk L1 (fun d j => upto (1024 * (i 1).val + 256 * 1) fun r : Fin 8192 => row (R := 8192) (C := 256) (arg3.view.read (Elt Ideal) X3) r d * S (i 1).val (arg3.view.read (Elt Ideal) X3) (arg4.view.read (Elt Ideal) X4) q dl g l r j) (fun d j => upto (1024 * (i 1).val + 256 * 2) fun r : Fin 8192 => row (R := 8192) (C := 256) (arg3.view.read (Elt Ideal) X3) r d * S (i 1).val (arg3.view.read (Elt Ideal) X3) (arg4.view.read (Elt Ideal) X4) q dl g l r j) (by omega) _ _ h1 ?_ ?_
    · intro d j

      refine (pay108 _ _ _ _ _ _ _ _ d j).trans ?_
      rw [hcov, load_cols arg14.view _ _ d j (by omega), h1, ← new 1 (by omega)]
      refine congr (congrArg _ rfl) (Finset.sum_congr rfl fun x _ => ?_)
      rw [mask1, select_mul']
      refine congr (congrArg _ (congrFun (row_load arg3.view X3 _ (off5_eq i 1 (by omega)) x (by omega)) d)) ?_
      unfold S
      rw [row_load arg3.view X3 _ (off5_eq i 1 (by omega)) x (by omega), row_load arg4.view X4 _ (off6_eq i 1 (by omega)) x (by omega)]
      refine if_congr (by unfold seen; show _ ↔ (1024 * (i 1).val + 256 * 1 + x.val) / 64 ≤ (1024 * (i 1).val + (256 + j.val)) / 64; omega) ?_ rfl
      rfl
    · intro d j hj
      rw [← new 1 (by omega)]
      refine (congrArg _ (Finset.sum_eq_zero fun x _ => ?_)).trans (add_zero _)
      rw [S_zero _ _ _ _ _ _ _ _ _ (by unfold seen; show ¬ ((1024 * (i 1).val + 256 * 1 + x.val) / 64 ≤ _); omega), mul_zero]
  have h3 : ∀ d j, arg14.view.read (Elt Ideal) (arg14.view.writes (Elt Ideal) arg14.view.junk L3) (ix2 d j) = upto (1024 * (i 1).val + 256 * 3) fun r : Fin 8192 => row (R := 8192) (C := 256) (arg3.view.read (Elt Ideal) X3) r d * S (i 1).val (arg3.view.read (Elt Ideal) X3) (arg4.view.read (Elt Ideal) X4) q dl g l r j := by
    rw [e2]
    refine acc_cols (o := 512) arg14.view arg14.view.junk L2 (fun d j => upto (1024 * (i 1).val + 256 * 2) fun r : Fin 8192 => row (R := 8192) (C := 256) (arg3.view.read (Elt Ideal) X3) r d * S (i 1).val (arg3.view.read (Elt Ideal) X3) (arg4.view.read (Elt Ideal) X4) q dl g l r j) (fun d j => upto (1024 * (i 1).val + 256 * 3) fun r : Fin 8192 => row (R := 8192) (C := 256) (arg3.view.read (Elt Ideal) X3) r d * S (i 1).val (arg3.view.read (Elt Ideal) X3) (arg4.view.read (Elt Ideal) X4) q dl g l r j) (by omega) _ _ h2 ?_ ?_
    · intro d j

      refine (pay116 _ _ _ _ _ _ _ _ d j).trans ?_
      rw [hcov, load_cols arg14.view _ _ d j (by omega), h2, ← new 2 (by omega)]
      refine congr (congrArg _ rfl) (Finset.sum_congr rfl fun x _ => ?_)
      rw [mask2, select_mul']
      refine congr (congrArg _ (congrFun (row_load arg3.view X3 _ (off5_eq i 2 (by omega)) x (by omega)) d)) ?_
      unfold S
      rw [row_load arg3.view X3 _ (off5_eq i 2 (by omega)) x (by omega), row_load arg4.view X4 _ (off6_eq i 2 (by omega)) x (by omega)]
      refine if_congr (by unfold seen; show _ ↔ (1024 * (i 1).val + 256 * 2 + x.val) / 64 ≤ (1024 * (i 1).val + (512 + j.val)) / 64; omega) ?_ rfl
      rfl
    · intro d j hj
      rw [← new 2 (by omega)]
      refine (congrArg _ (Finset.sum_eq_zero fun x _ => ?_)).trans (add_zero _)
      rw [S_zero _ _ _ _ _ _ _ _ _ (by unfold seen; show ¬ ((1024 * (i 1).val + 256 * 2 + x.val) / 64 ≤ _); omega), mul_zero]
  have h4 : ∀ d j, arg14.view.read (Elt Ideal) (arg14.view.writes (Elt Ideal) arg14.view.junk L4) (ix2 d j) = upto (1024 * (i 1).val + 256 * 4) fun r : Fin 8192 => row (R := 8192) (C := 256) (arg3.view.read (Elt Ideal) X3) r d * S (i 1).val (arg3.view.read (Elt Ideal) X3) (arg4.view.read (Elt Ideal) X4) q dl g l r j := by
    rw [e3]
    refine acc_cols (o := 768) arg14.view arg14.view.junk L3 (fun d j => upto (1024 * (i 1).val + 256 * 3) fun r : Fin 8192 => row (R := 8192) (C := 256) (arg3.view.read (Elt Ideal) X3) r d * S (i 1).val (arg3.view.read (Elt Ideal) X3) (arg4.view.read (Elt Ideal) X4) q dl g l r j) (fun d j => upto (1024 * (i 1).val + 256 * 4) fun r : Fin 8192 => row (R := 8192) (C := 256) (arg3.view.read (Elt Ideal) X3) r d * S (i 1).val (arg3.view.read (Elt Ideal) X3) (arg4.view.read (Elt Ideal) X4) q dl g l r j) (by omega) _ _ h3 ?_ ?_
    · intro d j

      refine (pay2 _ _ _ _ _ _ _ _ d j).trans ?_
      rw [hcov, load_cols arg14.view _ _ d j (by omega), h3, ← new 3 (by omega)]
      refine congr (congrArg _ rfl) (Finset.sum_congr rfl fun x _ => ?_)
      rw [mask3, select_mul']
      refine congr (congrArg _ (congrFun (row_load arg3.view X3 _ (off5_eq i 3 (by omega)) x (by omega)) d)) ?_
      unfold S
      rw [row_load arg3.view X3 _ (off5_eq i 3 (by omega)) x (by omega), row_load arg4.view X4 _ (off6_eq i 3 (by omega)) x (by omega)]
      refine if_congr (by unfold seen; show _ ↔ (1024 * (i 1).val + 256 * 3 + x.val) / 64 ≤ (1024 * (i 1).val + (768 + j.val)) / 64; omega) ?_ rfl
      rfl
    · intro d j hj
      rw [← new 3 (by omega)]
      refine (congrArg _ (Finset.sum_eq_zero fun x _ => ?_)).trans (add_zero _)
      rw [S_zero _ _ _ _ _ _ _ _ _ (by unfold seen; show ¬ ((1024 * (i 1).val + 256 * 3 + x.val) / 64 ≤ _); omega), mul_zero]
  rw [hcov, load_whole, h4]
  unfold upto
  refine Finset.sum_congr rfl fun r _ => ?_
  by_cases hr : r.val < 1024 * (i 1).val + 256 * 4
  · rw [if_pos hr]
  · rw [if_neg hr, S_zero _ _ _ _ _ _ _ _ _ (by unfold seen; omega), mul_zero]

end

end Cert.Point

end
-- ==== Proof.Cases.lean ====
/- The pieces a grid point stores, in one form for its three cases (the first query block of a head, a middle one, the last). -/
module

public import proofs.«01_k».proof.Proof.Gen.KernelIdeal.Frame.RunA
public import proofs.«01_k».proof.Proof.Gen.KernelIdeal.Frame.RunB
public import proofs.«01_k».proof.Proof.Gen.KernelIdeal.Frame.RunC
public import proofs.«01_k».proof.Proof.Point

@[expose] public section

set_option maxRecDepth 16384

namespace Cert.Point

open Idealize.ShloMosaic Idealize.ShloMosaic.TcCoe Idealize.SL.Sem
open Cert.KernelIdeal Cert.KernelIdeal.Gen Cert.Rows Cert.Tile Cert.Trip

section
variable (𝒱 : Variants) (c : Dev nD) (bd : Option 𝒱.V) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8x1024 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .bf16) (harg11 : arg11.IsWhole) (arg12 : Memref sig .tc .vmem S1024x128 .bf16) (harg12 : arg12.IsWhole) (arg13 : Memref sig .tc .vmem S8192x128 .f32) (harg13 : arg13.IsWhole) (arg14 : Memref sig .tc .vmem S256x1024 .f32) (harg14 : arg14.IsWhole) (arg1 : BitVec 32) (v4 : FVec Ideal S1024x256 .bf16) (v25 : FVec Ideal S1x1024 .f32) (v26 : FVec Ideal S1024x128 .bf16) (v28 : FVec Ideal S1x1024 .f32) (v83 : IVec S256x1024 1) (v253 : BitVec 32) (c4_i32_76 : BitVec 32) (v254 : BitVec 32) (v259 : BitVec 32) (v264 : BitVec 32) (v275 : BitVec 32) (X_arg3 : BufTy.Contents (Elt Ideal) arg3.view.ty) (X_arg4 : BufTy.Contents (Elt Ideal) arg4.view.ty)
  (f10 : BufTy.Contents (Elt Ideal) arg10.view.ty) (f13 : BufTy.Contents (Elt Ideal) arg13.view.ty) (f14 : BufTy.Contents (Elt Ideal) arg14.view.ty)

/-- The tail loop stores nothing. -/
theorem tail_nil : pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 v275 X_arg3 X_arg4 f10 f13 f14 (Scf.trips (k0_t2_loop i).lb (k0_t2_loop i).ub (k0_t2_loop i).st) = ([], [], []) := by
  rw [show Scf.trips (k0_t2_loop i).lb (k0_t2_loop i).ub (k0_t2_loop i).st = 0 from trips2_eq i]; rfl

theorem tail10 (L : List (View.Piece (Elt Ideal) S8192x256 .f32)) : (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 v275 X_arg3 X_arg4 f10 f13 f14 (Scf.trips (k0_t2_loop i).lb (k0_t2_loop i).ub (k0_t2_loop i).st)).1 ++ L = L := by rw [tail_nil]; rfl
theorem tail13 (L : List (View.Piece (Elt Ideal) S8192x128 .f32)) : (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 v275 X_arg3 X_arg4 f10 f13 f14 (Scf.trips (k0_t2_loop i).lb (k0_t2_loop i).ub (k0_t2_loop i).st)).2.1 ++ L = L := by rw [tail_nil]; rfl
theorem tail14 (L : List (View.Piece (Elt Ideal) S256x1024 .f32)) : (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v4 v25 v26 v28 v83 v253 c4_i32_76 v254 v259 v264 v275 X_arg3 X_arg4 f10 f13 f14 (Scf.trips (k0_t2_loop i).lb (k0_t2_loop i).ub (k0_t2_loop i).st)).2.2 ++ L = L := by rw [tail_nil]; rfl

end

/-- What a point stores: on top of the loop's stores, four tiles into each accumulator. `F` are the contents before the point, `G`
those the loop starts from. -/
def Pieces (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8x1024 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .bf16) (harg11 : arg11.IsWhole) (arg12 : Memref sig .tc .vmem S1024x128 .bf16) (harg12 : arg12.IsWhole) (arg13 : Memref sig .tc .vmem S8192x128 .f32) (harg13 : arg13.IsWhole) (arg14 : Memref sig .tc .vmem S256x1024 .f32) (harg14 : arg14.IsWhole)
    (q : FVec Ideal S1024x256 .bf16) (dl : FVec Ideal S1x1024 .f32) (g : FVec Ideal S1024x128 .bf16) (l : FVec Ideal S1x1024 .f32)
    (X3 : BufTy.Contents (Elt Ideal) arg3.view.ty) (X4 : BufTy.Contents (Elt Ideal) arg4.view.ty)
    (F10 G10 : BufTy.Contents (Elt Ideal) arg10.view.ty) (F13 G13 : BufTy.Contents (Elt Ideal) arg13.view.ty)
    (L8 : List (View.Piece (Elt Ideal) S8192x256 .f32)) (L13 : List (View.Piece (Elt Ideal) S8192x128 .f32)) (w7 : FVec Ideal S256x1024 .f32) : Prop :=
  ∃ (m0 : IVec S256x1024 1) (w1 w2 w3 w4 w5 : BitVec 32) (G14 : BufTy.Contents (Elt Ideal) arg14.view.ty),
    (∃ L0 L1 L2 L3 : List (View.Piece (Elt Ideal) S8192x256 .f32),
      L8 = ⟨(Rect.unit (s := S8192x256) (k0_off5 i 3#32) ![256, 256] (inb5 i 3 (by omega))), k0_pay1 q (k0_pay119 q dl g l (k0_pay86 k0_pay82 k0_pay83 k0_pay84 k0_pay85) (arg3.view.readAt (Elt Ideal) (Rect.unit (s := S8192x256) (k0_off5 i 3#32) ![256, 256] (inb5 i 3 (by omega))).toLoadRect X3) (arg4.view.readAt (Elt Ideal) (Rect.unit (s := S8192x128) (k0_off6 i 3#32) ![256, 128] (inb6 i 3 (by omega))).toLoadRect X4)) (arg10.view.readAt (Elt Ideal) (Rect.unit (s := S8192x256) (k0_off5 i 3#32) ![256, 256] (inb5 i 3 (by omega))).toLoadRect (arg10.view.writes (Elt Ideal) F10 L3))⟩ :: L3
      ∧ L3 = ⟨(Rect.unit (s := S8192x256) (k0_off5 i 2#32) ![256, 256] (inb5 i 2 (by omega))), k0_pay114 q dl g l (k0_pay80 k0_pay75 k0_pay76 (64#32) k0_pay77 k0_pay78 k0_pay79) (k0_pay109 (arg3.view.readAt (Elt Ideal) (Rect.unit (s := S8192x256) (k0_off5 i 2#32) ![256, 256] (inb5 i 2 (by omega))).toLoadRect X3)) (k0_pay110 q) (arg4.view.readAt (Elt Ideal) (Rect.unit (s := S8192x128) (k0_off6 i 2#32) ![256, 128] (inb6 i 2 (by omega))).toLoadRect X4) (arg10.view.readAt (Elt Ideal) (Rect.unit (s := S8192x256) (k0_off5 i 2#32) ![256, 256] (inb5 i 2 (by omega))).toLoadRect (arg10.view.writes (Elt Ideal) F10 L2))⟩ :: L2
      ∧ L2 = ⟨(Rect.unit (s := S8192x256) (k0_off5 i 1#32) ![256, 256] (inb5 i 1 (by omega))), k0_pay107 q dl (k0_pay102 q l (k0_pay74 k0_pay69 k0_pay70 (64#32) k0_pay71 k0_pay72 k0_pay73) (arg3.view.readAt (Elt Ideal) (Rect.unit (s := S8192x256) (k0_off5 i 1#32) ![256, 256] (inb5 i 1 (by omega))).toLoadRect X3)) (k0_pay103 (arg4.view.readAt (Elt Ideal) (Rect.unit (s := S8192x128) (k0_off6 i 1#32) ![256, 128] (inb6 i 1 (by omega))).toLoadRect X4)) (k0_pay104 g) (arg10.view.readAt (Elt Ideal) (Rect.unit (s := S8192x256) (k0_off5 i 1#32) ![256, 256] (inb5 i 1 (by omega))).toLoadRect (arg10.view.writes (Elt Ideal) F10 L1))⟩ :: L1
      ∧ L1 = ⟨(Rect.unit (s := S8192x256) (k0_off5 i 0#32) ![256, 256] (inb5 i 0 (by omega))), k0_pay99 q (k0_pay96 q dl g l (k0_pay68 (k0_pay66 k0_pay63 (64#32) k0_pay65) (k0_pay67 k0_pay64)) (arg3.view.readAt (Elt Ideal) (Rect.unit (s := S8192x256) (k0_off5 i 0#32) ![256, 256] (inb5 i 0 (by omega))).toLoadRect X3) (arg4.view.readAt (Elt Ideal) (Rect.unit (s := S8192x128) (k0_off6 i 0#32) ![256, 128] (inb6 i 0 (by omega))).toLoadRect X4)) (arg10.view.readAt (Elt Ideal) (Rect.unit (s := S8192x256) (k0_off5 i 0#32) ![256, 256] (inb5 i 0 (by omega))).toLoadRect (arg10.view.writes (Elt Ideal) F10 L0))⟩ :: L0
      ∧ arg10.view.writes (Elt Ideal) F10 L0 = arg10.view.writes (Elt Ideal) G10 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) q dl g l m0 w1 w2 w3 w4 w5 X3 X4 G10 G13 G14 (Scf.trips (k0_t1_loop i).lb (k0_t1_loop i).ub (k0_t1_loop i).st)).1)
    ∧ (∃ L0 L1 L2 L3 : List (View.Piece (Elt Ideal) S8192x128 .f32),
      L13 = ⟨(Rect.unit (s := S8192x128) (k0_off6 i 3#32) ![256, 128] (inb6 i 3 (by omega))), k0_pay120 q g l (k0_pay86 k0_pay82 k0_pay83 k0_pay84 k0_pay85) (arg3.view.readAt (Elt Ideal) (Rect.unit (s := S8192x256) (k0_off5 i 3#32) ![256, 256] (inb5 i 3 (by omega))).toLoadRect X3) (arg13.view.readAt (Elt Ideal) (Rect.unit (s := S8192x128) (k0_off6 i 3#32) ![256, 128] (inb6 i 3 (by omega))).toLoadRect (arg13.view.writes (Elt Ideal) F13 L3))⟩ :: L3
      ∧ L3 = ⟨(Rect.unit (s := S8192x128) (k0_off6 i 2#32) ![256, 128] (inb6 i 2 (by omega))), k0_pay113 g l (k0_pay80 k0_pay75 k0_pay76 (64#32) k0_pay77 k0_pay78 k0_pay79) (k0_pay109 (arg3.view.readAt (Elt Ideal) (Rect.unit (s := S8192x256) (k0_off5 i 2#32) ![256, 256] (inb5 i 2 (by omega))).toLoadRect X3)) (k0_pay110 q) (arg13.view.readAt (Elt Ideal) (Rect.unit (s := S8192x128) (k0_off6 i 2#32) ![256, 128] (inb6 i 2 (by omega))).toLoadRect (arg13.view.writes (Elt Ideal) F13 L2))⟩ :: L2
      ∧ L2 = ⟨(Rect.unit (s := S8192x128) (k0_off6 i 1#32) ![256, 128] (inb6 i 1 (by omega))), k0_pay106 g (k0_pay102 q l (k0_pay74 k0_pay69 k0_pay70 (64#32) k0_pay71 k0_pay72 k0_pay73) (arg3.view.readAt (Elt Ideal) (Rect.unit (s := S8192x256) (k0_off5 i 1#32) ![256, 256] (inb5 i 1 (by omega))).toLoadRect X3)) (arg13.view.readAt (Elt Ideal) (Rect.unit (s := S8192x128) (k0_off6 i 1#32) ![256, 128] (inb6 i 1 (by omega))).toLoadRect (arg13.view.writes (Elt Ideal) F13 L1))⟩ :: L1
      ∧ L1 = ⟨(Rect.unit (s := S8192x128) (k0_off6 i 0#32) ![256, 128] (inb6 i 0 (by omega))), k0_pay98 g (arg13.view.readAt (Elt Ideal) (Rect.unit (s := S8192x128) (k0_off6 i 0#32) ![256, 128] (inb6 i 0 (by omega))).toLoadRect (arg13.view.writes (Elt Ideal) F13 L0)) (k0_pay97 q l (k0_pay68 (k0_pay66 k0_pay63 (64#32) k0_pay65) (k0_pay67 k0_pay64)) (arg3.view.readAt (Elt Ideal) (Rect.unit (s := S8192x256) (k0_off5 i 0#32) ![256, 256] (inb5 i 0 (by omega))).toLoadRect X3)) (constant S256x128 FTy.f32 0#32)⟩ :: L0
      ∧ arg13.view.writes (Elt Ideal) F13 L0 = arg13.view.writes (Elt Ideal) G13 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) q dl g l m0 w1 w2 w3 w4 w5 X3 X4 G10 G13 G14 (Scf.trips (k0_t1_loop i).lb (k0_t1_loop i).ub (k0_t1_loop i).st)).2.1)
    ∧ (∃ L0 L1 L2 L3 L4 : List (View.Piece (Elt Ideal) S256x1024 .f32),
      w7 = arg14.view.readCov L4 (Rect.unit (s := S256x1024) ![0, 0] ![256, 1024] inb_S256x1024_S256x1024_0_0).toLoadRect
      ∧ L4 = ⟨(Rect.unit (s := S256x1024) ![0, 768] ![256, 256] inb_S256x1024_S256x256_0_768), k0_pay2 (k0_pay117 (arg3.view.readAt (Elt Ideal) (Rect.unit (s := S8192x256) (k0_off5 i 3#32) ![256, 256] (inb5 i 3 (by omega))).toLoadRect X3)) (k0_pay119 q dl g l (k0_pay86 k0_pay82 k0_pay83 k0_pay84 k0_pay85) (arg3.view.readAt (Elt Ideal) (Rect.unit (s := S8192x256) (k0_off5 i 3#32) ![256, 256] (inb5 i 3 (by omega))).toLoadRect X3) (arg4.view.readAt (Elt Ideal) (Rect.unit (s := S8192x128) (k0_off6 i 3#32) ![256, 128] (inb6 i 3 (by omega))).toLoadRect X4)) (arg14.view.readCov L3 (Rect.unit (s := S256x1024) ![0, 768] ![256, 256] inb_S256x1024_S256x256_0_768).toLoadRect)⟩ :: L3
      ∧ L3 = ⟨(Rect.unit (s := S256x1024) ![0, 512] ![256, 512] inb_S256x1024_S256x512_0_512), k0_pay116 (k0_pay115 dl g l (k0_pay80 k0_pay75 k0_pay76 (64#32) k0_pay77 k0_pay78 k0_pay79) (k0_pay109 (arg3.view.readAt (Elt Ideal) (Rect.unit (s := S8192x256) (k0_off5 i 2#32) ![256, 256] (inb5 i 2 (by omega))).toLoadRect X3)) (k0_pay110 q) (arg4.view.readAt (Elt Ideal) (Rect.unit (s := S8192x128) (k0_off6 i 2#32) ![256, 128] (inb6 i 2 (by omega))).toLoadRect X4) (arg14.view.readCov L2 (Rect.unit (s := S256x1024) ![0, 512] ![256, 512] inb_S256x1024_S256x512_0_512).toLoadRect))⟩ :: L2
      ∧ L2 = ⟨(Rect.unit (s := S256x1024) ![0, 256] ![256, 768] inb_S256x1024_S256x768_0_256), k0_pay108 dl (k0_pay101 (arg3.view.readAt (Elt Ideal) (Rect.unit (s := S8192x256) (k0_off5 i 1#32) ![256, 256] (inb5 i 1 (by omega))).toLoadRect X3)) (k0_pay102 q l (k0_pay74 k0_pay69 k0_pay70 (64#32) k0_pay71 k0_pay72 k0_pay73) (arg3.view.readAt (Elt Ideal) (Rect.unit (s := S8192x256) (k0_off5 i 1#32) ![256, 256] (inb5 i 1 (by omega))).toLoadRect X3)) (k0_pay103 (arg4.view.readAt (Elt Ideal) (Rect.unit (s := S8192x128) (k0_off6 i 1#32) ![256, 128] (inb6 i 1 (by omega))).toLoadRect X4)) (k0_pay104 g) (arg14.view.readCov L1 (Rect.unit (s := S256x1024) ![0, 256] ![256, 768] inb_S256x1024_S256x768_0_256).toLoadRect)⟩ :: L1
      ∧ L1 = ⟨(Rect.unit (s := S256x1024) ![0, 0] ![256, 1024] inb_S256x1024_S256x1024_0_0), k0_pay100 (k0_pay94 (arg3.view.readAt (Elt Ideal) (Rect.unit (s := S8192x256) (k0_off5 i 0#32) ![256, 256] (inb5 i 0 (by omega))).toLoadRect X3)) (k0_pay96 q dl g l (k0_pay68 (k0_pay66 k0_pay63 (64#32) k0_pay65) (k0_pay67 k0_pay64)) (arg3.view.readAt (Elt Ideal) (Rect.unit (s := S8192x256) (k0_off5 i 0#32) ![256, 256] (inb5 i 0 (by omega))).toLoadRect X3) (arg4.view.readAt (Elt Ideal) (Rect.unit (s := S8192x128) (k0_off6 i 0#32) ![256, 128] (inb6 i 0 (by omega))).toLoadRect X4)) (arg14.view.readCov L0 (Rect.unit (s := S256x1024) ![0, 0] ![256, 1024] inb_S256x1024_S256x1024_0_0).toLoadRect)⟩ :: L0
      ∧ arg14.view.writes (Elt Ideal) arg14.view.junk L0 = arg14.view.writes (Elt Ideal) G14 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) q dl g l m0 w1 w2 w3 w4 w5 X3 X4 G10 G13 G14 (Scf.trips (k0_t1_loop i).lb (k0_t1_loop i).ub (k0_t1_loop i).st)).2.2
      ∧ ∀ d j, arg14.view.read (Elt Ideal) G14 (ix2 d j) = 0)

section
variable (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8x1024 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .bf16) (harg11 : arg11.IsWhole) (arg12 : Memref sig .tc .vmem S1024x128 .bf16) (harg12 : arg12.IsWhole) (arg13 : Memref sig .tc .vmem S8192x128 .f32) (harg13 : arg13.IsWhole) (arg14 : Memref sig .tc .vmem S256x1024 .f32) (harg14 : arg14.IsWhole)
    (q : FVec Ideal S1024x256 .bf16) (dl : FVec Ideal S1x1024 .f32) (g : FVec Ideal S1024x128 .bf16) (l : FVec Ideal S1x1024 .f32)
    (X3 : BufTy.Contents (Elt Ideal) arg3.view.ty) (X4 : BufTy.Contents (Elt Ideal) arg4.view.ty)
    (F10 G10 : BufTy.Contents (Elt Ideal) arg10.view.ty) (F13 G13 : BufTy.Contents (Elt Ideal) arg13.view.ty)
    (L8 : List (View.Piece (Elt Ideal) S8192x256 .f32)) (L13 : List (View.Piece (Elt Ideal) S8192x128 .f32)) (w7 : FVec Ideal S256x1024 .f32)
  (h : Pieces c i arg2 harg2 arg3 harg3 arg4 harg4 arg5 harg5 arg6 harg6 arg7 harg7 arg8 harg8 arg9 harg9 arg10 harg10 arg11 harg11 arg12 harg12 arg13 harg13 arg14 harg14 q dl g l X3 X4 F10 G10 F13 G13 L8 L13 w7)

include h

/-- The keys' gradient at the end of the point. -/
theorem Pieces.keys (f0 : Fin 8192 → Fin 256 → EReal) (hf : ∀ r d, arg10.view.read (Elt Ideal) G10 (ix2 r d) = f0 r d) (r : Fin 8192) (d : Fin 256) :
    arg10.view.read (Elt Ideal) (arg10.view.writes (Elt Ideal) F10 L8) (ix2 r d) = f0 r d + ∑ j, S (i 1).val (arg3.view.read (Elt Ideal) X3) (arg4.view.read (Elt Ideal) X4) q dl g l r j * q (ix2 j d) := by
  obtain ⟨m0, w1, w2, w3, w4, w5, G14, ⟨L0, L1, L2, L3, e3, e2, e1, e0, e⟩, -, -⟩ := h
  refine diag10 i arg3 arg4 arg10 q dl g l X3 X4 F10 L0 L1 L2 L3 L8 e0 e1 e2 e3 f0 ?_ r d
  rw [e, show Scf.trips (k0_t1_loop i).lb (k0_t1_loop i).ub (k0_t1_loop i).st = (i 1).val from trips_eq i]
  exact loop10 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) q dl g l m0 w1 w2 w3 w4 w5 X3 X4 G10 G13 G14 (S (i 1).val (arg3.view.read (Elt Ideal) X3) (arg4.view.read (Elt Ideal) X4) q dl g l) (fun r j h => S_lt _ _ _ _ _ _ _ _ _ h) f0 hf _ le_rfl

/-- The values' gradient at the end of the point. -/
theorem Pieces.values (f0 : Fin 8192 → Fin 128 → EReal) (hf : ∀ r d, arg13.view.read (Elt Ideal) G13 (ix2 r d) = f0 r d) (r : Fin 8192) (d : Fin 128) :
    arg13.view.read (Elt Ideal) (arg13.view.writes (Elt Ideal) F13 L13) (ix2 r d) = f0 r d + ∑ j, W (i 1).val (arg3.view.read (Elt Ideal) X3) q l r j * g (ix2 j d) := by
  obtain ⟨m0, w1, w2, w3, w4, w5, G14, -, ⟨L0, L1, L2, L3, e3, e2, e1, e0, e⟩, -⟩ := h
  refine diag13 i arg3 arg13 q g l X3 F13 L0 L1 L2 L3 L13 e0 e1 e2 e3 f0 ?_ r d
  rw [e, show Scf.trips (k0_t1_loop i).lb (k0_t1_loop i).ub (k0_t1_loop i).st = (i 1).val from trips_eq i]
  exact loop13 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) q dl g l m0 w1 w2 w3 w4 w5 X3 X4 G10 G13 G14 (W (i 1).val (arg3.view.read (Elt Ideal) X3) q l) (fun r j h => W_lt _ _ _ _ _ _ h) f0 hf _ le_rfl

/-- The transposed gradient of the block's queries. -/
theorem Pieces.queries (d : Fin 256) (j : Fin 1024) :
    w7 (ix2 d j) = ∑ r : Fin 8192, row (R := 8192) (C := 256) (arg3.view.read (Elt Ideal) X3) r d * S (i 1).val (arg3.view.read (Elt Ideal) X3) (arg4.view.read (Elt Ideal) X4) q dl g l r j := by
  obtain ⟨m0, w1, w2, w3, w4, w5, G14, -, -, ⟨L0, L1, L2, L3, L4, e4, e3, e2, e1, e0, e, hz⟩⟩ := h
  rw [e4]
  refine diag14 i arg3 arg4 arg14 q dl g l X3 X4 L0 L1 L2 L3 L4 e0 e1 e2 e3 ?_ d j
  rw [e, show Scf.trips (k0_t1_loop i).lb (k0_t1_loop i).ub (k0_t1_loop i).st = (i 1).val from trips_eq i]
  exact loop14 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) q dl g l m0 w1 w2 w3 w4 w5 X3 X4 G10 G13 G14 (S (i 1).val (arg3.view.read (Elt Ideal) X3) (arg4.view.read (Elt Ideal) X4) q dl g l) (fun r j h => S_lt _ _ _ _ _ _ _ _ _ h) hz _ le_rfl

end

/-- The first query block of a head: the accumulators start at zero. -/
theorem piecesA (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8x1024 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .bf16) (harg11 : arg11.IsWhole) (arg12 : Memref sig .tc .vmem S1024x128 .bf16) (harg12 : arg12.IsWhole) (arg13 : Memref sig .tc .vmem S8192x128 .f32) (harg13 : arg13.IsWhole) (arg14 : Memref sig .tc .vmem S256x1024 .f32) (harg14 : arg14.IsWhole)  (hc0 : cond0_0 i) (hc1 : ¬cond0_1 i) (x0 : Vec Ideal S1024x256 .bf16) (x1 : Vec Ideal S8192x256 .bf16) (x2 : Vec Ideal S8192x128 .bf16) (x3 : Vec Ideal S1024x128 .f32) (x4 : Vec Ideal S1024x128 .f32) (x5 : Vec Ideal S1024x128 .f32) (x6 : Vec Ideal S8x1024 .f32) :
    ∃ w7 : FVec Ideal S256x1024 .f32, (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1 = [⟨(Rect.unit (s := S1024x256) ![0, 0] ![1024, 256] inb_S1024x256_S1024x256_0_0), k0_pay3 (F := Ideal) w7⟩]
      ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1 = [⟨(Rect.unit (s := S1024x128) ![0, 0] ![1024, 128] inb_S1024x128_S1024x128_0_0), k0_pay58 (F := Ideal) (arg6.view.readAt (Elt Ideal) (Rect.unit (s := S1024x128) ![0, 0] ![1024, 128] inb_S1024x128_S1024x128_0_0).toLoadRect (harg6.unread x4)) (arg5.view.readAt (Elt Ideal) (Rect.unit (s := S1024x128) ![0, 0] ![1024, 128] inb_S1024x128_S1024x128_0_0).toLoadRect (harg5.unread x3)) (arg7.view.readAt (Elt Ideal) (Rect.unit (s := S1024x128) ![0, 0] ![1024, 128] inb_S1024x128_S1024x128_0_0).toLoadRect (harg7.unread x5))⟩]
      ∧ Pieces c i arg2 harg2 arg3 harg3 arg4 harg4 arg5 harg5 arg6 harg6 arg7 harg7 arg8 harg8 arg9 harg9 arg10 harg10 arg11 harg11 arg12 harg12 arg13 harg13 arg14 harg14 (k0_pay55 (arg2.view.readAt (Elt Ideal) (Rect.unit (s := S1024x256) ![0, 0] ![1024, 256] inb_S1024x256_S1024x256_0_0).toLoadRect (harg2.unread x0))) (k0_pay60 (arg6.view.readAt (Elt Ideal) (Rect.unit (s := S1024x128) ![0, 0] ![1024, 128] inb_S1024x128_S1024x128_0_0).toLoadRect (harg6.unread x4)) (arg5.view.readAt (Elt Ideal) (Rect.unit (s := S1024x128) ![0, 0] ![1024, 128] inb_S1024x128_S1024x128_0_0).toLoadRect (harg5.unread x3)) (arg7.view.readAt (Elt Ideal) (Rect.unit (s := S1024x128) ![0, 0] ![1024, 128] inb_S1024x128_S1024x128_0_0).toLoadRect (harg7.unread x5))) (k0_pay61 (arg6.view.readAt (Elt Ideal) (Rect.unit (s := S1024x128) ![0, 0] ![1024, 128] inb_S1024x128_S1024x128_0_0).toLoadRect (harg6.unread x4)) (arg5.view.readAt (Elt Ideal) (Rect.unit (s := S1024x128) ![0, 0] ![1024, 128] inb_S1024x128_S1024x128_0_0).toLoadRect (harg5.unread x3))) (k0_pay62 (arg8.view.readAt (Elt Ideal) (Rect.unit (s := S8x1024) ![0, 0] ![1, 1024] inb_S8x1024_S1x1024_0_0).toLoadRect (harg8.unread x6))) (harg3.unread x1) (harg4.unread x2) arg10.view.junk (arg10.view.writes (Elt Ideal) arg10.view.junk [⟨Rect.unit (s := S8192x256) ![0, 0] ![8192, 256] inb_S8192x256_S8192x256_0_0, k0_pay53 (F := Ideal)⟩]) arg13.view.junk (arg13.view.writes (Elt Ideal) arg13.view.junk [⟨Rect.unit (s := S8192x128) ![0, 0] ![8192, 128] inb_S8192x128_S8192x128_0_0, k0_pay54 (F := Ideal)⟩])
        (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1 (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.1 w7 := by
  refine ⟨_, rfl, rfl, ?_⟩
  refine ⟨(k0_pay68 (k0_pay66 k0_pay63 (64#32) k0_pay65) (k0_pay67 k0_pay64)), kernelRun0_A.sl.v253 i, 4#32, kernelRun0_A.sl.v254 i, kernelRun0_A.sl.v259 i, 1#32,
    arg14.view.writes (Elt Ideal) arg14.view.junk [⟨(Rect.unit (s := S256x1024) ![0, 0] ![256, 1024] inb_S256x1024_S256x1024_0_0), k0_pay87 (F := Ideal)⟩], ⟨_, _, _, _, rfl, rfl, rfl, rfl, ?_⟩, ⟨_, _, _, _, rfl, rfl, rfl, rfl, ?_⟩, ⟨_, _, _, _, _, rfl, rfl, rfl, rfl, rfl, ?_, ?_⟩⟩
  rotate_left 2
  · exact (congrArg (arg14.view.writes (Elt Ideal) arg14.view.junk) (tail14 ..)).trans (View.writes_append _ _ _ _)
  · intro d j
    exact (read_store_whole arg14.view arg14.view.junk [] inb_S256x1024_S256x1024_0_0 _ d j).trans (pay87 d j)
  · exact (congrArg (arg10.view.writes (Elt Ideal) arg10.view.junk) (tail10 ..)).trans (View.writes_append _ _ _ _)
  · exact (congrArg (arg13.view.writes (Elt Ideal) arg13.view.junk) (tail13 ..)).trans (View.writes_append _ _ _ _)

/-- A middle query block. -/
theorem piecesB (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8x1024 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .bf16) (harg11 : arg11.IsWhole) (arg12 : Memref sig .tc .vmem S1024x128 .bf16) (harg12 : arg12.IsWhole) (arg13 : Memref sig .tc .vmem S8192x128 .f32) (harg13 : arg13.IsWhole) (arg14 : Memref sig .tc .vmem S256x1024 .f32) (harg14 : arg14.IsWhole)  (hc0 : ¬cond0_0 i) (hc1 : ¬cond0_1 i) (x0 : Vec Ideal S1024x256 .bf16) (x1 : Vec Ideal S8192x256 .bf16) (x2 : Vec Ideal S8192x128 .bf16) (x3 : Vec Ideal S1024x128 .f32) (x4 : Vec Ideal S1024x128 .f32) (x5 : Vec Ideal S1024x128 .f32) (x6 : Vec Ideal S8x1024 .f32) (xo8 : Vec Ideal S8192x256 .f32) (xs0 : Vec Ideal S8192x128 .f32) :
    ∃ w7 : FVec Ideal S256x1024 .f32, (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0).1 = [⟨(Rect.unit (s := S1024x256) ![0, 0] ![1024, 256] inb_S1024x256_S1024x256_0_0), k0_pay3 (F := Ideal) w7⟩]
      ∧ (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0).2.2.2.1 = [⟨(Rect.unit (s := S1024x128) ![0, 0] ![1024, 128] inb_S1024x128_S1024x128_0_0), k0_pay58 (F := Ideal) (arg6.view.readAt (Elt Ideal) (Rect.unit (s := S1024x128) ![0, 0] ![1024, 128] inb_S1024x128_S1024x128_0_0).toLoadRect (harg6.unread x4)) (arg5.view.readAt (Elt Ideal) (Rect.unit (s := S1024x128) ![0, 0] ![1024, 128] inb_S1024x128_S1024x128_0_0).toLoadRect (harg5.unread x3)) (arg7.view.readAt (Elt Ideal) (Rect.unit (s := S1024x128) ![0, 0] ![1024, 128] inb_S1024x128_S1024x128_0_0).toLoadRect (harg7.unread x5))⟩]
      ∧ Pieces c i arg2 harg2 arg3 harg3 arg4 harg4 arg5 harg5 arg6 harg6 arg7 harg7 arg8 harg8 arg9 harg9 arg10 harg10 arg11 harg11 arg12 harg12 arg13 harg13 arg14 harg14 (k0_pay55 (arg2.view.readAt (Elt Ideal) (Rect.unit (s := S1024x256) ![0, 0] ![1024, 256] inb_S1024x256_S1024x256_0_0).toLoadRect (harg2.unread x0))) (k0_pay60 (arg6.view.readAt (Elt Ideal) (Rect.unit (s := S1024x128) ![0, 0] ![1024, 128] inb_S1024x128_S1024x128_0_0).toLoadRect (harg6.unread x4)) (arg5.view.readAt (Elt Ideal) (Rect.unit (s := S1024x128) ![0, 0] ![1024, 128] inb_S1024x128_S1024x128_0_0).toLoadRect (harg5.unread x3)) (arg7.view.readAt (Elt Ideal) (Rect.unit (s := S1024x128) ![0, 0] ![1024, 128] inb_S1024x128_S1024x128_0_0).toLoadRect (harg7.unread x5))) (k0_pay61 (arg6.view.readAt (Elt Ideal) (Rect.unit (s := S1024x128) ![0, 0] ![1024, 128] inb_S1024x128_S1024x128_0_0).toLoadRect (harg6.unread x4)) (arg5.view.readAt (Elt Ideal) (Rect.unit (s := S1024x128) ![0, 0] ![1024, 128] inb_S1024x128_S1024x128_0_0).toLoadRect (harg5.unread x3))) (k0_pay62 (arg8.view.readAt (Elt Ideal) (Rect.unit (s := S8x1024) ![0, 0] ![1, 1024] inb_S8x1024_S1x1024_0_0).toLoadRect (harg8.unread x6))) (harg3.unread x1) (harg4.unread x2) (harg10.unread xo8) (harg10.unread xo8) (harg13.unread xs0) (harg13.unread xs0)
        (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0).2.1 (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0).2.2.2.2.1 w7 := by
  refine ⟨_, rfl, rfl, ?_⟩
  refine ⟨(k0_pay68 (k0_pay66 k0_pay63 (64#32) k0_pay65) (k0_pay67 k0_pay64)), kernelRun0_B.sl.v253 i, 4#32, kernelRun0_B.sl.v254 i, kernelRun0_B.sl.v259 i, 1#32,
    arg14.view.writes (Elt Ideal) arg14.view.junk [⟨(Rect.unit (s := S256x1024) ![0, 0] ![256, 1024] inb_S256x1024_S256x1024_0_0), k0_pay87 (F := Ideal)⟩], ⟨_, _, _, _, rfl, rfl, rfl, rfl, ?_⟩, ⟨_, _, _, _, rfl, rfl, rfl, rfl, ?_⟩, ⟨_, _, _, _, _, rfl, rfl, rfl, rfl, rfl, ?_, ?_⟩⟩
  rotate_left 2
  · exact (congrArg (arg14.view.writes (Elt Ideal) arg14.view.junk) (tail14 ..)).trans (View.writes_append _ _ _ _)
  · intro d j
    exact (read_store_whole arg14.view arg14.view.junk [] inb_S256x1024_S256x1024_0_0 _ d j).trans (pay87 d j)
  · exact (congrArg (arg10.view.writes (Elt Ideal) (harg10.unread xo8)) (tail10 ..))
  · exact (congrArg (arg13.view.writes (Elt Ideal) (harg13.unread xs0)) (tail13 ..))

/-- The last query block of a head. -/
theorem piecesC (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8x1024 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .bf16) (harg11 : arg11.IsWhole) (arg12 : Memref sig .tc .vmem S1024x128 .bf16) (harg12 : arg12.IsWhole) (arg13 : Memref sig .tc .vmem S8192x128 .f32) (harg13 : arg13.IsWhole) (arg14 : Memref sig .tc .vmem S256x1024 .f32) (harg14 : arg14.IsWhole)  (hc0 : ¬cond0_0 i) (hc1 : cond0_1 i) (x0 : Vec Ideal S1024x256 .bf16) (x1 : Vec Ideal S8192x256 .bf16) (x2 : Vec Ideal S8192x128 .bf16) (x3 : Vec Ideal S1024x128 .f32) (x4 : Vec Ideal S1024x128 .f32) (x5 : Vec Ideal S1024x128 .f32) (x6 : Vec Ideal S8x1024 .f32) (xo8 : Vec Ideal S8192x256 .f32) (xs0 : Vec Ideal S8192x128 .f32) :
    ∃ w7 : FVec Ideal S256x1024 .f32, (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0).1 = [⟨(Rect.unit (s := S1024x256) ![0, 0] ![1024, 256] inb_S1024x256_S1024x256_0_0), k0_pay3 (F := Ideal) w7⟩]
      ∧ (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0).2.2.2.1 = [⟨(Rect.unit (s := S1024x128) ![0, 0] ![1024, 128] inb_S1024x128_S1024x128_0_0), k0_pay58 (F := Ideal) (arg6.view.readAt (Elt Ideal) (Rect.unit (s := S1024x128) ![0, 0] ![1024, 128] inb_S1024x128_S1024x128_0_0).toLoadRect (harg6.unread x4)) (arg5.view.readAt (Elt Ideal) (Rect.unit (s := S1024x128) ![0, 0] ![1024, 128] inb_S1024x128_S1024x128_0_0).toLoadRect (harg5.unread x3)) (arg7.view.readAt (Elt Ideal) (Rect.unit (s := S1024x128) ![0, 0] ![1024, 128] inb_S1024x128_S1024x128_0_0).toLoadRect (harg7.unread x5))⟩]
      ∧ (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0).2.2.1 = [⟨(Rect.unit (s := S8192x128) ![0, 0] ![8192, 128] inb_S8192x128_S8192x128_0_0), k0_pay4 (F := Ideal) (arg13.view.readAt (Elt Ideal) (Rect.unit (s := S8192x128) ![0, 0] ![8192, 128] inb_S8192x128_S8192x128_0_0).toLoadRect (arg13.view.writes (Elt Ideal) (harg13.unread xs0) (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0).2.2.2.2.1))⟩]
      ∧ Pieces c i arg2 harg2 arg3 harg3 arg4 harg4 arg5 harg5 arg6 harg6 arg7 harg7 arg8 harg8 arg9 harg9 arg10 harg10 arg11 harg11 arg12 harg12 arg13 harg13 arg14 harg14 (k0_pay55 (arg2.view.readAt (Elt Ideal) (Rect.unit (s := S1024x256) ![0, 0] ![1024, 256] inb_S1024x256_S1024x256_0_0).toLoadRect (harg2.unread x0))) (k0_pay60 (arg6.view.readAt (Elt Ideal) (Rect.unit (s := S1024x128) ![0, 0] ![1024, 128] inb_S1024x128_S1024x128_0_0).toLoadRect (harg6.unread x4)) (arg5.view.readAt (Elt Ideal) (Rect.unit (s := S1024x128) ![0, 0] ![1024, 128] inb_S1024x128_S1024x128_0_0).toLoadRect (harg5.unread x3)) (arg7.view.readAt (Elt Ideal) (Rect.unit (s := S1024x128) ![0, 0] ![1024, 128] inb_S1024x128_S1024x128_0_0).toLoadRect (harg7.unread x5))) (k0_pay61 (arg6.view.readAt (Elt Ideal) (Rect.unit (s := S1024x128) ![0, 0] ![1024, 128] inb_S1024x128_S1024x128_0_0).toLoadRect (harg6.unread x4)) (arg5.view.readAt (Elt Ideal) (Rect.unit (s := S1024x128) ![0, 0] ![1024, 128] inb_S1024x128_S1024x128_0_0).toLoadRect (harg5.unread x3))) (k0_pay62 (arg8.view.readAt (Elt Ideal) (Rect.unit (s := S8x1024) ![0, 0] ![1, 1024] inb_S8x1024_S1x1024_0_0).toLoadRect (harg8.unread x6))) (harg3.unread x1) (harg4.unread x2) (harg10.unread xo8) (harg10.unread xo8) (harg13.unread xs0) (harg13.unread xs0)
        (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0).2.1 (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0).2.2.2.2.1 w7 := by
  refine ⟨_, rfl, rfl, rfl, ?_⟩
  refine ⟨(k0_pay68 (k0_pay66 k0_pay63 (64#32) k0_pay65) (k0_pay67 k0_pay64)), kernelRun0_C.sl.v253 i, 4#32, kernelRun0_C.sl.v254 i, kernelRun0_C.sl.v259 i, 1#32,
    arg14.view.writes (Elt Ideal) arg14.view.junk [⟨(Rect.unit (s := S256x1024) ![0, 0] ![256, 1024] inb_S256x1024_S256x1024_0_0), k0_pay87 (F := Ideal)⟩], ⟨_, _, _, _, rfl, rfl, rfl, rfl, ?_⟩, ⟨_, _, _, _, rfl, rfl, rfl, rfl, ?_⟩, ⟨_, _, _, _, _, rfl, rfl, rfl, rfl, rfl, ?_, ?_⟩⟩
  rotate_left 2
  · exact (congrArg (arg14.view.writes (Elt Ideal) arg14.view.junk) (tail14 ..)).trans (View.writes_append _ _ _ _)
  · intro d j
    exact (read_store_whole arg14.view arg14.view.junk [] inb_S256x1024_S256x1024_0_0 _ d j).trans (pay87 d j)
  · exact (congrArg (arg10.view.writes (Elt Ideal) (harg10.unread xo8)) (tail10 ..))
  · exact (congrArg (arg13.view.writes (Elt Ideal) (harg13.unread xs0)) (tail13 ..))

end Cert.Point

end
-- ==== Proof.Leaves.lean ====
/- What one grid point leaves, read at an index: the gradients it stores and the accumulators it adds to. -/
module

public import proofs.«01_k».proof.Proof.Cases
public import proofs.«01_k».proof.Proof.Gen.KernelIdeal.Value

@[expose] public section

set_option maxRecDepth 16384

namespace Cert.Point

open Idealize.ShloMosaic Idealize.ShloMosaic.TcCoe Idealize.SL.Sem
open Cert.KernelIdeal Cert.KernelIdeal.Gen Cert.Rows Cert.Tile Cert.Trip

/-- The gradient of the attention's output in a block: the gate's silu times the gradient of the gated heads. -/
noncomputable def outGrad (x3 x4 : FVec Ideal S1024x128 .f32) : FVec Ideal S1024x128 .bf16 :=
  fun a => x3 a * (x4 a * Ideal.logistic (x4 a))

/-- Per query the product of the output and its gradient. -/
noncomputable def outDot (x3 x4 x5 : FVec Ideal S1024x128 .f32) : FVec Ideal S1x1024 .f32 :=
  fun a => ∑ x : Fin 128, x3 (ix2 (⟨(a 1).val, (a 1).isLt⟩ : Fin 1024) x) * (x4 (ix2 (⟨(a 1).val, (a 1).isLt⟩ : Fin 1024) x) * Ideal.logistic (x4 (ix2 (⟨(a 1).val, (a 1).isLt⟩ : Fin 1024) x))) * x5 (ix2 (⟨(a 1).val, (a 1).isLt⟩ : Fin 1024) x)

/-- The first of the eight equal rows of the logarithms. -/
noncomputable def firstRow (x6 : FVec Ideal S8x1024 .f32) : FVec Ideal S1x1024 .f32 :=
  fun a => x6 (ix2 (0 : Fin 8) (⟨(a 1).val, (a 1).isLt⟩ : Fin 1024))

/-- What a point of query block `i` leaves, over what the accumulators held (`b8`, `b13`). -/
def Leaves (i : ℕ) (x0 : Vec Ideal S1024x256 .bf16) (x1 : Vec Ideal S8192x256 .bf16) (x2 : Vec Ideal S8192x128 .bf16) (x3 : Vec Ideal S1024x128 .f32) (x4 : Vec Ideal S1024x128 .f32) (x5 : Vec Ideal S1024x128 .f32) (x6 : Vec Ideal S8x1024 .f32) (b8 : Fin 8192 → Fin 256 → EReal) (b13 : Fin 8192 → Fin 128 → EReal)
    (st : Vec Ideal S1024x256 .f32 × Vec Ideal S8192x256 .f32 × Vec Ideal S8192x128 .bf16 × Vec Ideal S1024x128 .bf16 × Vec Ideal S8192x128 .f32) : Prop :=
  (∀ (j : Fin 1024) (d : Fin 256), st.1 (ix2 j d) = ∑ r : Fin 8192, x1 (ix2 r d) * S i x1 x2 x0 (outDot x3 x4 x5) (outGrad x3 x4) (firstRow x6) r j)
  ∧ (∀ (r : Fin 8192) (d : Fin 256), st.2.1 (ix2 r d) = b8 r d + ∑ j : Fin 1024, S i x1 x2 x0 (outDot x3 x4 x5) (outGrad x3 x4) (firstRow x6) r j * x0 (ix2 j d))
  ∧ (∀ (j : Fin 1024) (d : Fin 128), st.2.2.2.1 (ix2 j d) = x3 (ix2 j d) * x5 (ix2 j d) * (Ideal.logistic (x4 (ix2 j d)) * (1 + x4 (ix2 j d) * (1 - Ideal.logistic (x4 (ix2 j d))))))
  ∧ (∀ (r : Fin 8192) (d : Fin 128), st.2.2.2.2 (ix2 r d) = b13 r d + ∑ j : Fin 1024, W i x1 x0 (firstRow x6) r j * outGrad x3 x4 (ix2 j d))
  ∧ (i = 7 → ∀ (r : Fin 8192) (d : Fin 128), st.2.2.1 (ix2 r d) = st.2.2.2.2 (ix2 r d))

section
variable (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8x1024 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .bf16) (harg11 : arg11.IsWhole) (arg12 : Memref sig .tc .vmem S1024x128 .bf16) (harg12 : arg12.IsWhole) (arg13 : Memref sig .tc .vmem S8192x128 .f32) (harg13 : arg13.IsWhole) (arg14 : Memref sig .tc .vmem S256x1024 .f32) (harg14 : arg14.IsWhole)  (x0 : Vec Ideal S1024x256 .bf16) (x1 : Vec Ideal S8192x256 .bf16) (x2 : Vec Ideal S8192x128 .bf16) (x3 : Vec Ideal S1024x128 .f32) (x4 : Vec Ideal S1024x128 .f32) (x5 : Vec Ideal S1024x128 .f32) (x6 : Vec Ideal S8x1024 .f32)

/-- The block of queries as read. -/
theorem read_q : (k0_pay55 (arg2.view.readAt (Elt Ideal) (Rect.unit (s := S1024x256) ![0, 0] ![1024, 256] inb_S1024x256_S1024x256_0_0).toLoadRect (harg2.unread x0))) = x0 := by
  funext a
  obtain ⟨j, d, rfl⟩ : ∃ (j : Fin 1024) (d : Fin 256), a = ix2 j d := ⟨_, _, eq_ix2 a⟩
  refine (pay55 _ _ _).trans ((load_whole arg2.view _ _ _ _).trans ?_)
  rw [harg2.read_unread]

theorem read_5 (j : Fin 1024) (d : Fin 128) : (arg5.view.readAt (Elt Ideal) (Rect.unit (s := S1024x128) ![0, 0] ![1024, 128] inb_S1024x128_S1024x128_0_0).toLoadRect (harg5.unread x3)) (ix2 j d) = x3 (ix2 j d) := by
  refine (load_whole arg5.view _ _ _ _).trans ?_
  rw [harg5.read_unread]

theorem read_6 (j : Fin 1024) (d : Fin 128) : (arg6.view.readAt (Elt Ideal) (Rect.unit (s := S1024x128) ![0, 0] ![1024, 128] inb_S1024x128_S1024x128_0_0).toLoadRect (harg6.unread x4)) (ix2 j d) = x4 (ix2 j d) := by
  refine (load_whole arg6.view _ _ _ _).trans ?_
  rw [harg6.read_unread]

theorem read_7 (j : Fin 1024) (d : Fin 128) : (arg7.view.readAt (Elt Ideal) (Rect.unit (s := S1024x128) ![0, 0] ![1024, 128] inb_S1024x128_S1024x128_0_0).toLoadRect (harg7.unread x5)) (ix2 j d) = x5 (ix2 j d) := by
  refine (load_whole arg7.view _ _ _ _).trans ?_
  rw [harg7.read_unread]

theorem read_dl : (k0_pay60 (arg6.view.readAt (Elt Ideal) (Rect.unit (s := S1024x128) ![0, 0] ![1024, 128] inb_S1024x128_S1024x128_0_0).toLoadRect (harg6.unread x4)) (arg5.view.readAt (Elt Ideal) (Rect.unit (s := S1024x128) ![0, 0] ![1024, 128] inb_S1024x128_S1024x128_0_0).toLoadRect (harg5.unread x3)) (arg7.view.readAt (Elt Ideal) (Rect.unit (s := S1024x128) ![0, 0] ![1024, 128] inb_S1024x128_S1024x128_0_0).toLoadRect (harg7.unread x5))) = outDot x3 x4 x5 := by
  funext a
  obtain ⟨z, j, rfl⟩ : ∃ (z : Fin 1) (j : Fin 1024), a = ix2 z j := ⟨_, _, eq_ix2 a⟩
  obtain rfl : z = 0 := Subsingleton.elim _ _
  refine (pay60 _ _ _ _).trans (Finset.sum_congr rfl fun x _ => ?_)
  rw [read_5, read_6, read_7]
  rfl

theorem read_g : (k0_pay61 (arg6.view.readAt (Elt Ideal) (Rect.unit (s := S1024x128) ![0, 0] ![1024, 128] inb_S1024x128_S1024x128_0_0).toLoadRect (harg6.unread x4)) (arg5.view.readAt (Elt Ideal) (Rect.unit (s := S1024x128) ![0, 0] ![1024, 128] inb_S1024x128_S1024x128_0_0).toLoadRect (harg5.unread x3))) = outGrad x3 x4 := by
  funext a
  obtain ⟨j, d, rfl⟩ : ∃ (j : Fin 1024) (d : Fin 128), a = ix2 j d := ⟨_, _, eq_ix2 a⟩
  refine (pay61 _ _ _ _).trans ?_
  rw [read_5, read_6]
  rfl

theorem read_l : (k0_pay62 (arg8.view.readAt (Elt Ideal) (Rect.unit (s := S8x1024) ![0, 0] ![1, 1024] inb_S8x1024_S1x1024_0_0).toLoadRect (harg8.unread x6))) = firstRow x6 := by
  funext a
  obtain ⟨z, j, rfl⟩ : ∃ (z : Fin 1) (j : Fin 1024), a = ix2 z j := ⟨_, _, eq_ix2 a⟩
  obtain rfl : z = 0 := Subsingleton.elim _ _
  refine (pay62 _ _).trans ?_
  refine (load_rows arg8.view _ _ rfl _ _ (by decide)).trans ?_
  rw [harg8.read_unread]
  rfl

end

theorem leavesA (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8x1024 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .bf16) (harg11 : arg11.IsWhole) (arg12 : Memref sig .tc .vmem S1024x128 .bf16) (harg12 : arg12.IsWhole) (arg13 : Memref sig .tc .vmem S8192x128 .f32) (harg13 : arg13.IsWhole) (arg14 : Memref sig .tc .vmem S256x1024 .f32) (harg14 : arg14.IsWhole)  (hc0 : cond0_0 i) (hc1 : ¬cond0_1 i) (x0 : Vec Ideal S1024x256 .bf16) (x1 : Vec Ideal S8192x256 .bf16) (x2 : Vec Ideal S8192x128 .bf16) (x3 : Vec Ideal S1024x128 .f32) (x4 : Vec Ideal S1024x128 .f32) (x5 : Vec Ideal S1024x128 .f32) (x6 : Vec Ideal S8x1024 .f32) (hi : (i 1).val ≠ 7) :
    Leaves (i 1).val x0 x1 x2 x3 x4 x5 x6 (fun _ _ => 0) (fun _ _ => 0)
      (out0_A_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6, out0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6, out0_A_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6, out0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6, sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6) := by
  obtain ⟨w7, e7, e10, hp⟩ := piecesA c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6
  have k := fun r d => Pieces.keys _ _ _ _ _ _ _ _ _ _ _ _ _ _ _ _ _ _ _ _ _ _ _ _ _ _ _ _ _ _ _ _ _ _ _ _ _ _ _ _ _ hp (fun _ _ => 0) (fun r d => (read_store_whole arg10.view _ [] inb_S8192x256_S8192x256_0_0 _ r d).trans (pay53 r d)) r d
  have v := fun r d => Pieces.values _ _ _ _ _ _ _ _ _ _ _ _ _ _ _ _ _ _ _ _ _ _ _ _ _ _ _ _ _ _ _ _ _ _ _ _ _ _ _ _ _ hp (fun _ _ => 0) (fun r d => (read_store_whole arg13.view _ [] inb_S8192x128_S8192x128_0_0 _ r d).trans (pay54 r d)) r d
  have w := fun d j => Pieces.queries _ _ _ _ _ _ _ _ _ _ _ _ _ _ _ _ _ _ _ _ _ _ _ _ _ _ _ _ _ _ _ _ _ _ _ _ _ _ _ _ _ hp d j
  have o7 : out0_A_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = VO0_7.read (Elt Ideal) (VO0_7.writes (Elt Ideal) VO0_7.junk [⟨(Rect.unit (s := S1024x256) ![0, 0] ![1024, 256] inb_S1024x256_S1024x256_0_0), k0_pay3 (F := Ideal) w7⟩]) := by
    unfold out0_A_7; rw [e7]
  have o10 : out0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = VO0_10.read (Elt Ideal) (VO0_10.writes (Elt Ideal) VO0_10.junk [⟨(Rect.unit (s := S1024x128) ![0, 0] ![1024, 128] inb_S1024x128_S1024x128_0_0), k0_pay58 (F := Ideal) (arg6.view.readAt (Elt Ideal) (Rect.unit (s := S1024x128) ![0, 0] ![1024, 128] inb_S1024x128_S1024x128_0_0).toLoadRect (harg6.unread x4)) (arg5.view.readAt (Elt Ideal) (Rect.unit (s := S1024x128) ![0, 0] ![1024, 128] inb_S1024x128_S1024x128_0_0).toLoadRect (harg5.unread x3)) (arg7.view.readAt (Elt Ideal) (Rect.unit (s := S1024x128) ![0, 0] ![1024, 128] inb_S1024x128_S1024x128_0_0).toLoadRect (harg7.unread x5))⟩]) := by
    unfold out0_A_10; rw [e10]
  have o8 : out0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = arg10.view.read (Elt Ideal) (arg10.view.writes (Elt Ideal) arg10.view.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1) := View.read_writes_of_cover _ _ _ _ _ (cover0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)
  have o13 : sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = arg13.view.read (Elt Ideal) (arg13.view.writes (Elt Ideal) arg13.view.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.1) := View.read_writes_of_cover _ _ _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)
  clear e7 e10
  simp only [harg3.read_unread, harg4.read_unread, read_q, read_dl, read_g, read_l] at k v w
  rw [← o8] at k
  rw [← o13] at v
  have l7 : ∀ j d, out0_A_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 (ix2 j d) = w7 (ix2 d j) := fun j d => by
    rw [o7]
    exact (read_store_whole VO0_7 _ [] inb_S1024x256_S1024x256_0_0 _ j d).trans (pay3 w7 j d)
  have l10 : ∀ j d, out0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 (ix2 j d) = x3 (ix2 j d) * x5 (ix2 j d) * (Ideal.logistic (x4 (ix2 j d)) * (1 + x4 (ix2 j d) * (1 - Ideal.logistic (x4 (ix2 j d))))) := fun j d => by
    rw [o10]
    refine (read_store_whole VO0_10 _ [] inb_S1024x128_S1024x128_0_0 _ j d).trans ((pay58 _ _ _ j d).trans ?_)
    rw [read_5, read_6, read_7]
  clear o7 o8 o10 o13 hp
  generalize out0_A_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = a7 at *
  generalize out0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = a8 at *
  generalize out0_A_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = a9 at *
  generalize out0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = a10 at *
  generalize sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = a13 at *
  exact ⟨fun j d => (l7 j d).trans (w d j), k, l10, v, fun h => absurd h hi⟩

theorem leavesB (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8x1024 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .bf16) (harg11 : arg11.IsWhole) (arg12 : Memref sig .tc .vmem S1024x128 .bf16) (harg12 : arg12.IsWhole) (arg13 : Memref sig .tc .vmem S8192x128 .f32) (harg13 : arg13.IsWhole) (arg14 : Memref sig .tc .vmem S256x1024 .f32) (harg14 : arg14.IsWhole)  (hc0 : ¬cond0_0 i) (hc1 : ¬cond0_1 i) (x0 : Vec Ideal S1024x256 .bf16) (x1 : Vec Ideal S8192x256 .bf16) (x2 : Vec Ideal S8192x128 .bf16) (x3 : Vec Ideal S1024x128 .f32) (x4 : Vec Ideal S1024x128 .f32) (x5 : Vec Ideal S1024x128 .f32) (x6 : Vec Ideal S8x1024 .f32) (xo8 : Vec Ideal S8192x256 .f32) (xs0 : Vec Ideal S8192x128 .f32) (hi : (i 1).val ≠ 7) :
    Leaves (i 1).val x0 x1 x2 x3 x4 x5 x6 (fun r d => xo8 (ix2 r d)) (fun r d => xs0 (ix2 r d))
      (out0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0, out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0, out0_B_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0, out0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0, sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0) := by
  obtain ⟨w7, e7, e10, hp⟩ := piecesB c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0
  have k := fun r d => Pieces.keys _ _ _ _ _ _ _ _ _ _ _ _ _ _ _ _ _ _ _ _ _ _ _ _ _ _ _ _ _ _ _ _ _ _ _ _ _ _ _ _ _ hp (fun r d => xo8 (ix2 r d)) (fun r d => congrFun (harg10.read_unread _) _) r d
  have v := fun r d => Pieces.values _ _ _ _ _ _ _ _ _ _ _ _ _ _ _ _ _ _ _ _ _ _ _ _ _ _ _ _ _ _ _ _ _ _ _ _ _ _ _ _ _ hp (fun r d => xs0 (ix2 r d)) (fun r d => congrFun (harg13.read_unread _) _) r d
  have w := fun d j => Pieces.queries _ _ _ _ _ _ _ _ _ _ _ _ _ _ _ _ _ _ _ _ _ _ _ _ _ _ _ _ _ _ _ _ _ _ _ _ _ _ _ _ _ hp d j
  have o7 : out0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = VO0_7.read (Elt Ideal) (VO0_7.writes (Elt Ideal) VO0_7.junk [⟨(Rect.unit (s := S1024x256) ![0, 0] ![1024, 256] inb_S1024x256_S1024x256_0_0), k0_pay3 (F := Ideal) w7⟩]) := by
    unfold out0_B_7; rw [e7]
  have o10 : out0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = VO0_10.read (Elt Ideal) (VO0_10.writes (Elt Ideal) VO0_10.junk [⟨(Rect.unit (s := S1024x128) ![0, 0] ![1024, 128] inb_S1024x128_S1024x128_0_0), k0_pay58 (F := Ideal) (arg6.view.readAt (Elt Ideal) (Rect.unit (s := S1024x128) ![0, 0] ![1024, 128] inb_S1024x128_S1024x128_0_0).toLoadRect (harg6.unread x4)) (arg5.view.readAt (Elt Ideal) (Rect.unit (s := S1024x128) ![0, 0] ![1024, 128] inb_S1024x128_S1024x128_0_0).toLoadRect (harg5.unread x3)) (arg7.view.readAt (Elt Ideal) (Rect.unit (s := S1024x128) ![0, 0] ![1024, 128] inb_S1024x128_S1024x128_0_0).toLoadRect (harg7.unread x5))⟩]) := by
    unfold out0_B_10; rw [e10]
  have o8 : out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = arg10.view.read (Elt Ideal) (arg10.view.writes (Elt Ideal) (harg10.unread xo8) (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0).2.1) := rfl
  have o13 : sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = arg13.view.read (Elt Ideal) (arg13.view.writes (Elt Ideal) (harg13.unread xs0) (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0).2.2.2.2.1) := rfl
  clear e7 e10
  simp only [harg3.read_unread, harg4.read_unread, read_q, read_dl, read_g, read_l] at k v w
  rw [← o8] at k
  rw [← o13] at v
  have l7 : ∀ j d, out0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 (ix2 j d) = w7 (ix2 d j) := fun j d => by
    rw [o7]
    exact (read_store_whole VO0_7 _ [] inb_S1024x256_S1024x256_0_0 _ j d).trans (pay3 w7 j d)
  have l10 : ∀ j d, out0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 (ix2 j d) = x3 (ix2 j d) * x5 (ix2 j d) * (Ideal.logistic (x4 (ix2 j d)) * (1 + x4 (ix2 j d) * (1 - Ideal.logistic (x4 (ix2 j d))))) := fun j d => by
    rw [o10]
    refine (read_store_whole VO0_10 _ [] inb_S1024x128_S1024x128_0_0 _ j d).trans ((pay58 _ _ _ j d).trans ?_)
    rw [read_5, read_6, read_7]
  clear o7 o8 o10 o13 hp
  generalize out0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = a7 at *
  generalize out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = a8 at *
  generalize out0_B_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = a9 at *
  generalize out0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = a10 at *
  generalize sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = a13 at *
  exact ⟨fun j d => (l7 j d).trans (w d j), k, l10, v, fun h => absurd h hi⟩

set_option maxHeartbeats 1000000 in
theorem leavesC (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8x1024 .f32) (harg8 : arg8.IsWhole) (arg9 : Memref sig .tc .vmem S1024x256 .f32) (harg9 : arg9.IsWhole) (arg10 : Memref sig .tc .vmem S8192x256 .f32) (harg10 : arg10.IsWhole) (arg11 : Memref sig .tc .vmem S8192x128 .bf16) (harg11 : arg11.IsWhole) (arg12 : Memref sig .tc .vmem S1024x128 .bf16) (harg12 : arg12.IsWhole) (arg13 : Memref sig .tc .vmem S8192x128 .f32) (harg13 : arg13.IsWhole) (arg14 : Memref sig .tc .vmem S256x1024 .f32) (harg14 : arg14.IsWhole)  (hc0 : ¬cond0_0 i) (hc1 : cond0_1 i) (x0 : Vec Ideal S1024x256 .bf16) (x1 : Vec Ideal S8192x256 .bf16) (x2 : Vec Ideal S8192x128 .bf16) (x3 : Vec Ideal S1024x128 .f32) (x4 : Vec Ideal S1024x128 .f32) (x5 : Vec Ideal S1024x128 .f32) (x6 : Vec Ideal S8x1024 .f32) (xo8 : Vec Ideal S8192x256 .f32) (xs0 : Vec Ideal S8192x128 .f32) (hi : (i 1).val = 7) :
    Leaves (i 1).val x0 x1 x2 x3 x4 x5 x6 (fun r d => xo8 (ix2 r d)) (fun r d => xs0 (ix2 r d))
      (out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0, out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0, out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0, out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0, sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0) := by
  obtain ⟨w7, e7, e10, e9, hp⟩ := piecesC c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0
  have k := fun r d => Pieces.keys _ _ _ _ _ _ _ _ _ _ _ _ _ _ _ _ _ _ _ _ _ _ _ _ _ _ _ _ _ _ _ _ _ _ _ _ _ _ _ _ _ hp (fun r d => xo8 (ix2 r d)) (fun r d => congrFun (harg10.read_unread _) _) r d
  have v := fun r d => Pieces.values _ _ _ _ _ _ _ _ _ _ _ _ _ _ _ _ _ _ _ _ _ _ _ _ _ _ _ _ _ _ _ _ _ _ _ _ _ _ _ _ _ hp (fun r d => xs0 (ix2 r d)) (fun r d => congrFun (harg13.read_unread _) _) r d
  have w := fun d j => Pieces.queries _ _ _ _ _ _ _ _ _ _ _ _ _ _ _ _ _ _ _ _ _ _ _ _ _ _ _ _ _ _ _ _ _ _ _ _ _ _ _ _ _ hp d j
  have o7 : out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = VO0_7.read (Elt Ideal) (VO0_7.writes (Elt Ideal) VO0_7.junk [⟨(Rect.unit (s := S1024x256) ![0, 0] ![1024, 256] inb_S1024x256_S1024x256_0_0), k0_pay3 (F := Ideal) w7⟩]) := by
    unfold out0_C_7; rw [e7]
  have o10 : out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = VO0_10.read (Elt Ideal) (VO0_10.writes (Elt Ideal) VO0_10.junk [⟨(Rect.unit (s := S1024x128) ![0, 0] ![1024, 128] inb_S1024x128_S1024x128_0_0), k0_pay58 (F := Ideal) (arg6.view.readAt (Elt Ideal) (Rect.unit (s := S1024x128) ![0, 0] ![1024, 128] inb_S1024x128_S1024x128_0_0).toLoadRect (harg6.unread x4)) (arg5.view.readAt (Elt Ideal) (Rect.unit (s := S1024x128) ![0, 0] ![1024, 128] inb_S1024x128_S1024x128_0_0).toLoadRect (harg5.unread x3)) (arg7.view.readAt (Elt Ideal) (Rect.unit (s := S1024x128) ![0, 0] ![1024, 128] inb_S1024x128_S1024x128_0_0).toLoadRect (harg7.unread x5))⟩]) := by
    unfold out0_C_10; rw [e10]
  have o8 : out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = arg10.view.read (Elt Ideal) (arg10.view.writes (Elt Ideal) (harg10.unread xo8) (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0).2.1) := rfl
  have o13 : sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = arg13.view.read (Elt Ideal) (arg13.view.writes (Elt Ideal) (harg13.unread xs0) (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0).2.2.2.2.1) := rfl
  clear e7 e10
  simp only [harg3.read_unread, harg4.read_unread, read_q, read_dl, read_g, read_l] at k v w
  rw [← o8] at k
  rw [← o13] at v
  have o9 : out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = VO0_9.read (Elt Ideal) (VO0_9.writes (Elt Ideal) VO0_9.junk [⟨(Rect.unit (s := S8192x128) ![0, 0] ![8192, 128] inb_S8192x128_S8192x128_0_0), k0_pay4 (F := Ideal) (arg13.view.readAt (Elt Ideal) (Rect.unit (s := S8192x128) ![0, 0] ![8192, 128] inb_S8192x128_S8192x128_0_0).toLoadRect (arg13.view.writes (Elt Ideal) (harg13.unread xs0) (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0).2.2.2.2.1))⟩]) := by
    unfold out0_C_9
    exact congrArg (fun L => VO0_9.read (Elt Ideal) (VO0_9.writes (Elt Ideal) VO0_9.junk L)) e9
  have l9 : ∀ r d, out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 (ix2 r d) = sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 (ix2 r d) := fun r d => by
    rw [o9, o13]
    generalize arg13.view.writes (Elt Ideal) (harg13.unread xs0) (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0).2.2.2.2.1 = Z
    exact (read_store_whole VO0_9 _ [] inb_S8192x128_S8192x128_0_0 _ r d).trans ((pay4 _ r d).trans (load_whole arg13.view _ _ r d))
  clear e9 o9
  have l7 : ∀ j d, out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 (ix2 j d) = w7 (ix2 d j) := fun j d => by
    rw [o7]
    exact (read_store_whole VO0_7 _ [] inb_S1024x256_S1024x256_0_0 _ j d).trans (pay3 w7 j d)
  have l10 : ∀ j d, out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 (ix2 j d) = x3 (ix2 j d) * x5 (ix2 j d) * (Ideal.logistic (x4 (ix2 j d)) * (1 + x4 (ix2 j d) * (1 - Ideal.logistic (x4 (ix2 j d))))) := fun j d => by
    rw [o10]
    refine (read_store_whole VO0_10 _ [] inb_S1024x128_S1024x128_0_0 _ j d).trans ((pay58 _ _ _ j d).trans ?_)
    rw [read_5, read_6, read_7]
  clear o7 o8 o10 o13 hp
  generalize out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = a7 at *
  generalize out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = a8 at *
  generalize out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = a9 at *
  generalize out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = a10 at *
  generalize sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo8 xs0 = a13 at *
  exact ⟨fun j d => (l7 j d).trans (w d j), k, l10, v, fun h => l9⟩

end Cert.Point

end
-- ==== Proof.Fold.lean ====
/- The grid's fold: what the four result arrays hold at the end, in the arrays the call takes. -/
module

public import proofs.«01_k».proof.Proof.Leaves
public import Idealize.ShloMosaic.Lib.Pipeline.ValueKit

@[expose] public section

set_option maxRecDepth 16384

namespace Cert.Fold

open Idealize.ShloMosaic Idealize.ShloMosaic.TcCoe Idealize.SL.Sem
open Cert.KernelIdeal Cert.KernelIdeal.Gen Cert.Rows Cert.Tile Cert.Point

/-- Column `d` of head `h` where heads are 256 wide. -/
def wide (h : Fin 8) (d : Fin 256) : Fin 2048 := ⟨256 * h.val + d.val, by omega⟩
/-- Column `d` of head `h` where heads are 128 wide. -/
def narrow (h : Fin 8) (d : Fin 128) : Fin 1024 := ⟨128 * h.val + d.val, by omega⟩
/-- Column `d` of head `h` in the projection. -/
def inProj (h : Fin 8) (d : Fin 128) : Fin 3072 := ⟨1024 + 128 * h.val + d.val, by omega⟩
/-- Column `d` of head `h` in the gradient of the gated heads. -/
def inGrad (h : Fin 8) (d : Fin 128) : Fin 2048 := ⟨1024 + 128 * h.val + d.val, by omega⟩
/-- The first of the rows of head `h` in the logarithms. -/
def rowOf (h : Fin 8) : Fin 64 := ⟨8 * h.val, by omega⟩
/-- Position `j` of query block `i`. -/
def pos (i : ℕ) (hi : i < 8) (j : Fin 1024) : Fin 8192 := ⟨1024 * i + j.val, by omega⟩

section
variable (QM : FVec Ideal S8192x2048 .bf16) (KM : FVec Ideal S8192x2048 .bf16) (VM : FVec Ideal S8192x1024 .bf16)
  (D : FVec Ideal S8192x2048 .f32) (Z : FVec Ideal S8192x3072 .f32) (O : FVec Ideal S8192x1024 .f32) (L : FVec Ideal S64x8192 .f32)

/-- The gradient of the attention's output. -/
noncomputable def grad (h : Fin 8) (a : Fin 8192) (x : Fin 128) : EReal :=
  D (ix2 a (inGrad h x)) * (Z (ix2 a (inProj h x)) * Ideal.logistic (Z (ix2 a (inProj h x))))

/-- The weight of key `r` for query `a`, zero where the query does not read the key. -/
noncomputable def wt (h : Fin 8) (r a : Fin 8192) : EReal :=
  if r.val / 64 ≤ a.val / 64 then weight (fun x : Fin 256 => KM (ix2 r (wide h x))) (fun x => QM (ix2 a (wide h x))) (L (ix2 (rowOf h) a)) else 0

/-- The derivative by the unscaled score of key `r` and query `a`. -/
noncomputable def sl (h : Fin 8) (r a : Fin 8192) : EReal :=
  if r.val / 64 ≤ a.val / 64 then slope (fun x : Fin 256 => KM (ix2 r (wide h x))) (fun x => QM (ix2 a (wide h x))) (L (ix2 (rowOf h) a))
    (fun x : Fin 128 => VM (ix2 r (narrow h x))) (fun x => grad D Z h a x) (∑ x, grad D Z h a x * O (ix2 a (narrow h x))) else 0
end

variable (m : (ℓ : Loc nD τ sig) → Buf (Elt Ideal) ℓ) (c : Dev nD)

/-- The padded queries, heads side by side. -/
noncomputable abbrev aQ : FVec Ideal S8192x2048 .bf16 := V m c main_v30
/-- The padded keys, heads side by side. -/
noncomputable abbrev aK : FVec Ideal S8192x2048 .bf16 := V m c main_v33
/-- The values, heads side by side. -/
noncomputable abbrev aV : FVec Ideal S8192x1024 .bf16 := V m c main_v35
/-- The gradient of the gated heads. -/
noncomputable abbrev aD : FVec Ideal S8192x2048 .f32 := V m c main_arg4
/-- The projection. -/
noncomputable abbrev aZ : FVec Ideal S8192x3072 .f32 := V m c main_arg3
/-- The attention's output, heads side by side. -/
noncomputable abbrev aO : FVec Ideal S8192x1024 .f32 := V m c main_v37
/-- The logarithms of the sums, eight equal rows per head. -/
noncomputable abbrev aL : FVec Ideal S64x8192 .f32 := V m c main_v27

theorem coord1 : ∀ t : Fin cfg0.N, (grid0.coords t 1).val = t.val % 8 := (by decide +kernel : ∀ t : Fin grid0.N, _)

theorem _root_.Cert.Point.Leaves.cast {i i' : ℕ} (e : i = i') {x0 x1 x2 x3 x4 x5 x6 b8 b13 st} (h : Leaves i x0 x1 x2 x3 x4 x5 x6 b8 b13 st) :
    Leaves i' x0 x1 x2 x3 x4 x5 x6 b8 b13 st := e ▸ h

theorem at_first (t : Fin cfg0.N) (h0 : t.val % 8 = 0) (acc) :
    Leaves (t.val % 8) (iblk m c 0 t) (iblk m c 1 t) (iblk m c 2 t) (iblk m c 3 t) (iblk m c 4 t) (iblk m c 5 t) (iblk m c 6 t)
      (fun _ _ => 0) (fun _ _ => 0) (Value.stAt0 m c t.val t.isLt acc) := by
  have h1 : ¬ t.val % 8 = 7 := by omega
  rw [Value.stAt0_A m c t acc h0 h1]
  refine Leaves.cast (coord1 t) ?_
  exact leavesA _ _ _ _ _ _ _ _ _ _ _ _ _ _ _ _ _ _ _ _ _ _ _ _ _ _ _ _ _ _ _ _ _ _ _ _ _ (by rw [coord1 t]; exact h1)

theorem at_later (t : Fin cfg0.N) (h0 : ¬ t.val % 8 = 0) (acc) :
    Leaves (t.val % 8) (iblk m c 0 t) (iblk m c 1 t) (iblk m c 2 t) (iblk m c 3 t) (iblk m c 4 t) (iblk m c 5 t) (iblk m c 6 t)
      (fun r d => acc.2.1 (ix2 r d)) (fun r d => acc.2.2.2.2 (ix2 r d)) (Value.stAt0 m c t.val t.isLt acc) := by
  by_cases h1 : t.val % 8 = 7
  · rw [Value.stAt0_C m c t acc h0 h1]
    refine Leaves.cast (coord1 t) ?_
    exact leavesC _ _ _ _ _ _ _ _ _ _ _ _ _ _ _ _ _ _ _ _ _ _ _ _ _ _ _ _ _ _ _ _ _ _ _ _ _ _ _ (by rw [coord1 t]; exact h1)
  · rw [Value.stAt0_B m c t acc h0 h1]
    refine Leaves.cast (coord1 t) ?_
    exact leavesB _ _ _ _ _ _ _ _ _ _ _ _ _ _ _ _ _ _ _ _ _ _ _ _ _ _ _ _ _ _ _ _ _ _ _ _ _ _ _ (by rw [coord1 t]; exact h1)

/-- The windows' block indices. -/
theorem idx : ∀ t : Fin cfg0.N, win0_0.index t = ![t.val % 8, t.val / 8] ∧ win0_1.index t = ![0, t.val / 8] ∧ win0_2.index t = ![0, t.val / 8]
    ∧ win0_3.index t = ![t.val % 8, 8 + t.val / 8] ∧ win0_4.index t = ![t.val % 8, 8 + t.val / 8] ∧ win0_5.index t = ![t.val % 8, t.val / 8]
    ∧ win0_6.index t = ![t.val / 8, t.val % 8] :=
  (by decide +kernel : ∀ t : Fin grid0.N, _)

/-- The point of head `h` and query block `i`. -/
def pt (h : Fin 8) (i : ℕ) (hi : i < 8) : Fin cfg0.N := ⟨8 * h.val + i, lt_of_lt_of_eq (by omega : 8 * h.val + i < 64) N_0.symm⟩

section
variable (h : Fin 8) (i : ℕ) (hi : i < 8)

theorem pt_mod : (pt h i hi).val % 8 = i := by show (8 * h.val + i) % 8 = i; omega
theorem pt_div : (pt h i hi).val / 8 = h.val := by show (8 * h.val + i) / 8 = h.val; omega

theorem blk0 (a : Fin 1024) (b : Fin 256) : iblk m c 0 (pt h i hi) (ix2 a b) = aQ m c (ix2 (pos i hi a) (wide h b)) := by
  have e1 := pt_mod h i hi
  have e2 := pt_div h i hi
  generalize pt h i hi = t at *
  subst e1
  have hh : h.val = t.val / 8 := e2.symm
  blk_ext [iblk, aQ, aK, aV, aD, aZ, aO, aL, idx t, pos, wide, narrow, inProj, inGrad, rowOf, hh]

theorem blk1 (a : Fin 8192) (b : Fin 256) : iblk m c 1 (pt h i hi) (ix2 a b) = aK m c (ix2 (a) (wide h b)) := by
  have e1 := pt_mod h i hi
  have e2 := pt_div h i hi
  generalize pt h i hi = t at *
  subst e1
  have hh : h.val = t.val / 8 := e2.symm
  blk_ext [iblk, aQ, aK, aV, aD, aZ, aO, aL, idx t, pos, wide, narrow, inProj, inGrad, rowOf, hh]

theorem blk2 (a : Fin 8192) (b : Fin 128) : iblk m c 2 (pt h i hi) (ix2 a b) = aV m c (ix2 (a) (narrow h b)) := by
  have e1 := pt_mod h i hi
  have e2 := pt_div h i hi
  generalize pt h i hi = t at *
  subst e1
  have hh : h.val = t.val / 8 := e2.symm
  blk_ext [iblk, aQ, aK, aV, aD, aZ, aO, aL, idx t, pos, wide, narrow, inProj, inGrad, rowOf, hh]

theorem blk3 (a : Fin 1024) (b : Fin 128) : iblk m c 3 (pt h i hi) (ix2 a b) = aD m c (ix2 (pos i hi a) (inGrad h b)) := by
  have e1 := pt_mod h i hi
  have e2 := pt_div h i hi
  generalize pt h i hi = t at *
  subst e1
  have hh : h.val = t.val / 8 := e2.symm
  blk_ext [iblk, aQ, aK, aV, aD, aZ, aO, aL, idx t, pos, wide, narrow, inProj, inGrad, rowOf, hh]

theorem blk4 (a : Fin 1024) (b : Fin 128) : iblk m c 4 (pt h i hi) (ix2 a b) = aZ m c (ix2 (pos i hi a) (inProj h b)) := by
  have e1 := pt_mod h i hi
  have e2 := pt_div h i hi
  generalize pt h i hi = t at *
  subst e1
  have hh : h.val = t.val / 8 := e2.symm
  blk_ext [iblk, aQ, aK, aV, aD, aZ, aO, aL, idx t, pos, wide, narrow, inProj, inGrad, rowOf, hh]

theorem blk5 (a : Fin 1024) (b : Fin 128) : iblk m c 5 (pt h i hi) (ix2 a b) = aO m c (ix2 (pos i hi a) (narrow h b)) := by
  have e1 := pt_mod h i hi
  have e2 := pt_div h i hi
  generalize pt h i hi = t at *
  subst e1
  have hh : h.val = t.val / 8 := e2.symm
  blk_ext [iblk, aQ, aK, aV, aD, aZ, aO, aL, idx t, pos, wide, narrow, inProj, inGrad, rowOf, hh]

theorem blk6' (b : Fin 8) (j : Fin 1024) : iblk m c 6 (pt h i hi) (ix2 b j) = aL m c (ix2 (⟨8 * h.val + b.val, by omega⟩ : Fin 64) (pos i hi j)) := by
  have e1 := pt_mod h i hi
  have e2 := pt_div h i hi
  generalize pt h i hi = t at *
  subst e1
  have hh : h.val = t.val / 8 := e2.symm
  unfold iblk
  rw [View.read_apply, cast_eq]
  refine congrArg (aL m c) ?_
  funext a
  apply Fin.ext
  fin_cases a
  · blk_simp [idx t, pos, hh]
    show t.val / 8 * 8 + b.val = 8 * (t.val / 8) + b.val
    omega
  · blk_simp [idx t, pos, hh]
    show t.val % 8 * 1024 + j.val = 1024 * (t.val % 8) + j.val
    omega

theorem blk6 (j : Fin 1024) : iblk m c 6 (pt h i hi) (ix2 (0 : Fin 8) j) = aL m c (ix2 (rowOf h) (pos i hi j)) :=
  blk6' m c h i hi 0 j

/-- The derivatives by the scores that the point computes. -/
theorem slope_at (r : Fin 8192) (j : Fin 1024) :
    S i (iblk m c 1 (pt h i hi)) (iblk m c 2 (pt h i hi)) (iblk m c 0 (pt h i hi)) (outDot (iblk m c 3 (pt h i hi)) (iblk m c 4 (pt h i hi)) (iblk m c 5 (pt h i hi)))
      (outGrad (iblk m c 3 (pt h i hi)) (iblk m c 4 (pt h i hi))) (firstRow (iblk m c 6 (pt h i hi))) r j
      = sl (aQ m c) (aK m c) (aV m c) (aD m c) (aZ m c) (aO m c) (aL m c) h r (pos i hi j) := by
  have e1 : row (R := 8192) (C := 256) (iblk m c 1 (pt h i hi)) r = fun x => aK m c (ix2 r (wide h x)) := funext fun x => blk1 m c h i hi r x
  have e0 : row (R := 1024) (C := 256) (iblk m c 0 (pt h i hi)) j = fun x => aQ m c (ix2 (pos i hi j) (wide h x)) := funext fun x => blk0 m c h i hi j x
  have e2 : row (R := 8192) (C := 128) (iblk m c 2 (pt h i hi)) r = fun x => aV m c (ix2 r (narrow h x)) := funext fun x => blk2 m c h i hi r x
  have eg : ∀ x : Fin 128, outGrad (iblk m c 3 (pt h i hi)) (iblk m c 4 (pt h i hi)) (ix2 j x) = grad (aD m c) (aZ m c) h (pos i hi j) x := fun x => by
    exact congrArg₂ (fun p w : EReal => p * (w * Ideal.logistic w)) (blk3 m c h i hi j x) (blk4 m c h i hi j x)
  have e3 : row (R := 1024) (C := 128) (outGrad (iblk m c 3 (pt h i hi)) (iblk m c 4 (pt h i hi))) j = fun x => grad (aD m c) (aZ m c) h (pos i hi j) x := funext eg
  have ed : outDot (iblk m c 3 (pt h i hi)) (iblk m c 4 (pt h i hi)) (iblk m c 5 (pt h i hi)) (ix2 (0 : Fin 1) j)
      = ∑ x, grad (aD m c) (aZ m c) h (pos i hi j) x * aO m c (ix2 (pos i hi j) (narrow h x)) :=
    Finset.sum_congr rfl fun x _ => (congrArg₂ (· * ·) (eg x) (blk5 m c h i hi j x))
  have el : firstRow (iblk m c 6 (pt h i hi)) (ix2 (0 : Fin 1) j) = aL m c (ix2 (rowOf h) (pos i hi j)) := blk6 m c h i hi j
  unfold S sl
  rw [e1, e0, e2, e3, ed, el]
  rfl

/-- The weights that the point computes. -/
theorem weight_at (r : Fin 8192) (j : Fin 1024) :
    W i (iblk m c 1 (pt h i hi)) (iblk m c 0 (pt h i hi)) (firstRow (iblk m c 6 (pt h i hi))) r j
      = wt (aQ m c) (aK m c) (aL m c) h r (pos i hi j) := by
  have e1 : row (R := 8192) (C := 256) (iblk m c 1 (pt h i hi)) r = fun x => aK m c (ix2 r (wide h x)) := funext fun x => blk1 m c h i hi r x
  have e0 : row (R := 1024) (C := 256) (iblk m c 0 (pt h i hi)) j = fun x => aQ m c (ix2 (pos i hi j) (wide h x)) := funext fun x => blk0 m c h i hi j x
  have el : firstRow (iblk m c 6 (pt h i hi)) (ix2 (0 : Fin 1) j) = aL m c (ix2 (rowOf h) (pos i hi j)) := blk6 m c h i hi j
  unfold W wt
  rw [e1, e0, el]
  rfl

theorem grad_at (j : Fin 1024) (x : Fin 128) :
    outGrad (iblk m c 3 (pt h i hi)) (iblk m c 4 (pt h i hi)) (ix2 j x) = grad (aD m c) (aZ m c) h (pos i hi j) x := by
  exact congrArg₂ (fun p w : EReal => p * (w * Ideal.logistic w)) (blk3 m c h i hi j x) (blk4 m c h i hi j x)

end

/-- The derivatives by the scores, over the arrays that the call takes. -/
noncomputable abbrev slV (h : Fin 8) (r a : Fin 8192) : EReal :=
  sl (aQ m c) (aK m c) (aV m c) (aD m c) (aZ m c) (aO m c) (aL m c) h r a
/-- The weights, over the arrays that the call takes. -/
noncomputable abbrev wtV (h : Fin 8) (r a : Fin 8192) : EReal := wt (aQ m c) (aK m c) (aL m c) h r a
/-- The output's gradient, over the arrays that the call takes. -/
noncomputable abbrev gradV (h : Fin 8) (a : Fin 8192) (x : Fin 128) : EReal := grad (aD m c) (aZ m c) h a x

/-- What the results and the accumulators hold after the point of head `h` and query block `i`. -/
structure After (h : Fin 8) (i : ℕ) (hi : i < 8) : Prop where
  queries : ∀ (j : Fin 1024) (d : Fin 256), (outsAt0 m c (pt h i hi).val (pt h i hi).isLt).1 (ix2 j d) = ∑ r : Fin 8192, aK m c (ix2 r (wide h d)) * slV m c h r (pos i hi j)
  keys : ∀ (r : Fin 8192) (d : Fin 256), (outsAt0 m c (pt h i hi).val (pt h i hi).isLt).2.1 (ix2 r d) = upto (1024 * i + 1024) (fun a : Fin 8192 => slV m c h r a * aQ m c (ix2 a (wide h d)))
  gates : ∀ (j : Fin 1024) (d : Fin 128), (outsAt0 m c (pt h i hi).val (pt h i hi).isLt).2.2.2.1 (ix2 j d)
    = aD m c (ix2 (pos i hi j) (inGrad h d)) * aO m c (ix2 (pos i hi j) (narrow h d)) * (Ideal.logistic (aZ m c (ix2 (pos i hi j) (inProj h d))) * (1 + aZ m c (ix2 (pos i hi j) (inProj h d)) * (1 - Ideal.logistic (aZ m c (ix2 (pos i hi j) (inProj h d))))))
  values : ∀ (r : Fin 8192) (d : Fin 128), (outsAt0 m c (pt h i hi).val (pt h i hi).isLt).2.2.2.2 (ix2 r d) = upto (1024 * i + 1024) (fun a : Fin 8192 => wtV m c h r a * gradV m c h a d)
  last : i = 7 → ∀ (r : Fin 8192) (d : Fin 128), (outsAt0 m c (pt h i hi).val (pt h i hi).isLt).2.2.1 (ix2 r d) = (outsAt0 m c (pt h i hi).val (pt h i hi).isLt).2.2.2.2 (ix2 r d)

/-- A point's step, given what the accumulators held before it. -/
theorem after_of (h : Fin 8) (i : ℕ) (hi : i < 8) {b8 : Fin 8192 → Fin 256 → EReal} {b13 : Fin 8192 → Fin 128 → EReal}
    (h8 : ∀ r d, b8 r d = upto (1024 * i) (fun a : Fin 8192 => slV m c h r a * aQ m c (ix2 a (wide h d))))
    (h13 : ∀ r d, b13 r d = upto (1024 * i) (fun a : Fin 8192 => wtV m c h r a * gradV m c h a d))
    (hl : Leaves i (iblk m c 0 (pt h i hi)) (iblk m c 1 (pt h i hi)) (iblk m c 2 (pt h i hi)) (iblk m c 3 (pt h i hi)) (iblk m c 4 (pt h i hi)) (iblk m c 5 (pt h i hi)) (iblk m c 6 (pt h i hi))
      b8 b13 (outsAt0 m c (pt h i hi).val (pt h i hi).isLt)) : After m c h i hi := by
  obtain ⟨l7, l8, l10, l13, l9⟩ := hl
  refine ⟨fun j d => ?_, fun r d => ?_, fun j d => ?_, fun r d => ?_, l9⟩
  · rw [l7 j d]
    exact Finset.sum_congr rfl fun r _ => congrArg₂ (· * ·) (blk1 m c h i hi r d) (slope_at m c h i hi r j)
  · rw [l8 r d, h8 r d, ← upto_add (R := 8192) (W := 1024) (1024 * i) (by omega)]
    exact congrArg (_ + ·) (Finset.sum_congr rfl fun j _ => congrArg₂ (· * ·) (slope_at m c h i hi r j) (blk0 m c h i hi j d))
  · rw [l10 j d, blk3, blk4, blk5]
  · rw [l13 r d, h13 r d, ← upto_add (R := 8192) (W := 1024) (1024 * i) (by omega)]
    exact congrArg (_ + ·) (Finset.sum_congr rfl fun j _ => congrArg₂ (· * ·) (weight_at m c h i hi r j) (grad_at m c h i hi j d))

theorem outs_step (n : ℕ) (hn : n < cfg0.N) : ∃ acc, outsAt0 m c n hn = Value.stAt0 m c n hn acc ∧ (∀ (k : ℕ) (hk : n = k + 1), acc = outsAt0 m c k (by omega)) := by
  cases n with
  | zero => exact ⟨Value.junk0, Value.outsAt0_zero m c hn, fun k hk => absurd hk (by omega)⟩
  | succ k => exact ⟨outsAt0 m c k (by omega), Value.outsAt0_succ m c k hn, fun k' hk => by
    obtain rfl : k = k' := by omega
    rfl⟩

theorem after (h : Fin 8) : ∀ (i : ℕ) (hi : i < 8), After m c h i hi
  | 0, hi => by
    obtain ⟨acc, e, -⟩ := outs_step m c (pt h 0 hi).val (pt h 0 hi).isLt
    refine after_of m c h 0 hi (fun r d => (upto_zero _).symm) (fun r d => (upto_zero _).symm) ?_
    rw [e]
    exact Leaves.cast (pt_mod h 0 hi) (at_first m c (pt h 0 hi) (pt_mod h 0 hi) acc)
  | i + 1, hi => by
    obtain ⟨acc, e, hacc⟩ := outs_step m c (pt h (i + 1) hi).val (pt h (i + 1) hi).isLt
    have ih := after h i (by omega)
    have ea : acc = outsAt0 m c (pt h i (by omega)).val (pt h i (by omega)).isLt := hacc _ rfl
    refine after_of m c h (i + 1) hi (b8 := fun r d => acc.2.1 (ix2 r d)) (b13 := fun r d => acc.2.2.2.2 (ix2 r d)) (fun r d => ?_) (fun r d => ?_) ?_
    · rw [ea]; exact ih.keys r d
    · rw [ea]; exact ih.values r d
    · rw [e]
      exact Leaves.cast (pt_mod h (i + 1) hi) (at_later m c (pt h (i + 1) hi) (by rw [pt_mod]; omega) acc)

end Cert.Fold

end
-- ==== Proof.Scores.lean ====
/- What the reference computes on finite arguments, as real numbers. -/
module

public import proofs.«01_k».proof.Proof.Gen.ReferenceIdeal.Read
public import proofs.«01_k».proof.Proof.Attn
public import proofs.«01_k».proof.Proof.Fold
public import Idealize.ShloMosaic.Lib.Routing.Words
public import Idealize.ShloMosaic.Lib.WordArith

@[expose] public section

set_option maxRecDepth 16384

namespace Cert.Scores

open Idealize.ShloMosaic Idealize.ShloMosaic.TcCoe Idealize.SL.Sem
open Cert.ReferenceIdeal Cert.ReferenceIdeal.Gen Cert.ReferenceIdeal.Read Cert.Fold Cert.Attn

/-- Minus infinity. -/
theorem bot_bits : Ideal.ofBits .f32 0xFF800000#32 = ⊥ := by simp [Ideal.ofBits, Ideal.ieee]
/-- The scale is a real. -/
theorem scale_real : ∃ s : ℝ, Ideal.ofBits .f32 0x3D93CD3A#32 = (s : EReal) := by
  simp [Ideal.ofBits, Ideal.ieee, -EReal.coe_mul]

/-- The word zero as a float. -/
theorem zero_word : (FloatOps.sitofp (F := Ideal) .f32 0#32 : EReal) = 0 := by
  show (((0#32 : BitVec 32).toInt : ℝ) : EReal) = 0
  simp

/-- A chunk's number by the floor division. -/
theorem chunk_word (n : ℕ) (h : n < 8192) (x : BitVec 32) (hx : x = BitVec.ofNat 32 n) (one : BitVec 32) :
    Scalar.select
      (IntOp.andi
        (IntOp.cmpi CmpIPredicate.ne (if x = 0 then (0 : BitVec 32) else if x.msb = true then -1 else 1)
          (if (64#32 : BitVec 32) = 0 then (0 : BitVec 32) else if BitVec.msb (64#32 : BitVec 32) = true then -1 else 1))
        (IntOp.cmpi CmpIPredicate.ne (IntOp.remsi ArithUnit.host x 64#32) 0#32))
      (IntOp.subi (IntOp.divsi ArithUnit.host x 64#32) one)
      (IntOp.divsi ArithUnit.host x 64#32) = BitVec.ofNat 32 (n / 64) := by
  have hd : IntOp.divsi ArithUnit.host x 64#32 = BitVec.ofNat 32 (n / 64) := by
    rw [hx]; exact Routing.divsi_word .host (by omega) (by decide) (by decide)
  rw [hd]
  have h64 : (if (64#32 : BitVec 32) = 0 then (0 : BitVec 32) else if BitVec.msb (64#32 : BitVec 32) = true then -1 else 1) = 1 := by decide
  rw [h64]
  suffices e : IntOp.andi (IntOp.cmpi CmpIPredicate.ne (if x = 0 then (0 : BitVec 32) else if x.msb = true then -1 else 1) 1)
      (IntOp.cmpi CmpIPredicate.ne (IntOp.remsi ArithUnit.host x 64#32) 0#32) = 0#1 by
    rw [e]; rfl
  by_cases h0 : n = 0
  · subst h0
    rw [hx]
    decide
  · have hne : x ≠ 0 := by
      intro e
      have := congrArg BitVec.toNat (hx.symm.trans e)
      simp at this
      omega
    have hm : x.msb = false := by
      rw [BitVec.msb_eq_false_iff_two_mul_lt, hx]
      simp
      omega
    rw [if_neg hne, hm, if_neg (by decide)]
    generalize IntOp.cmpi CmpIPredicate.ne (IntOp.remsi ArithUnit.host x 64#32) 0#32 = y
    have : IntOp.cmpi CmpIPredicate.ne (1 : BitVec 32) 1 = 0#1 := by decide
    rw [this]
    exact BitVec.zero_and

theorem chunk_at (a : Fin 8192) : val_main_v9 (F := Ideal) (ix1 a) = BitVec.ofNat 32 (a.val / 64) := by
  unfold val_main_v9
  pointwise [val_main_call0_v11, val_main_call0_v13, val_main_call0_v2, val_main_v8, val_main_call0_v6, val_main_call0_v10, val_main_call0_v1,
    val_main_call0_v0, val_main_c, val_main_call0_v3, val_main_call0_v4, val_main_call0_v5, val_main_call0_v7, val_main_call0_v8, val_main_call0_c, val_main_call0_v9]
  exact chunk_word a.val a.isLt _ rfl _

/-- The mask's bit. -/
theorem mask_at (h : Fin 8) (a r : Fin 8192) :
    val_main_v15_1 (F := Ideal) (ix3 h a r) = IntOp.cmpi .sle (BitVec.ofNat 32 (r.val / 64)) (BitVec.ofNat 32 (a.val / 64)) := by
  pointwise [val_main_v15_1, val_main_v14, val_main_v13, val_main_v12, val_main_v11, val_main_v10, chunk_at]

theorem select_mask {α : Type} (a r : Fin 8192) (x y : α) :
    Scalar.select (IntOp.cmpi .sle (BitVec.ofNat 32 (r.val / 64)) (BitVec.ofNat 32 (a.val / 64))) x y = if vis r a then x else y := by
  have hr : (BitVec.ofNat 32 (r.val / 64)).toInt = ((r.val / 64 : ℕ) : ℤ) := WordArith.toInt_ofNat_small _ (by omega)
  have ha : (BitVec.ofNat 32 (a.val / 64)).toInt = ((a.val / 64 : ℕ) : ℤ) := WordArith.toInt_ofNat_small _ (by omega)
  have e : IntOp.cmpi .sle (BitVec.ofNat 32 (r.val / 64)) (BitVec.ofNat 32 (a.val / 64)) = BitVec.ofBool (decide (vis r a)) := by
    refine congrArg BitVec.ofBool ?_
    show decide (_ ≤ _) = _
    rw [hr, ha]
    exact decide_eq_decide.2 Int.ofNat_le
  rw [e]
  by_cases p : vis r a
  · rw [if_pos p, decide_eq_true p]; rfl
  · rw [if_neg p, decide_eq_false p]; rfl

variable (x0 x1 : FVec Ideal S8x8192x192 .bf16) (x2 : FVec Ideal S8x8192x128 .bf16) (x3 : FVec Ideal S8192x3072 .f32) (x4 : FVec Ideal S8192x2048 .f32)
  (q k : Fin 8 → Fin 8192 → Fin 192 → ℝ) (v z d : Fin 8 → Fin 8192 → Fin 128 → ℝ) (s : ℝ) (M : Fin 8 → Fin 8192 → ℝ)

/-- The arguments are reals: queries, keys, values, gate and gradient of each head, and the scale. -/
structure Reals : Prop where
  q : ∀ h a x, x0 (ix3 h a x) = ((q h a x : ℝ) : EReal)
  k : ∀ h a x, x1 (ix3 h a x) = ((k h a x : ℝ) : EReal)
  v : ∀ h a x, x2 (ix3 h a x) = ((v h a x : ℝ) : EReal)
  z : ∀ h a x, x3 (ix2 a (inProj h x)) = ((z h a x : ℝ) : EReal)
  d : ∀ h a x, x4 (ix2 a (inGrad h x)) = ((d h a x : ℝ) : EReal)
  s : Ideal.ofBits .f32 0x3D93CD3A#32 = ((s : ℝ) : EReal)

/-- The masked score. -/
theorem score_at (R : Reals x0 x1 x2 x3 x4 q k v z d s) (h : Fin 8) (a r : Fin 8192) :
    (val_main_v15_0 (F := Ideal) x0 x1 : FVec Ideal S8x8192x8192 .f32) (ix3 h a r)
      = if vis r a then ((score (q h) (k h) s a r : ℝ) : EReal) else ⊥ := by
  pointwise [val_main_v15_0, mask_at, val_main_v7, val_main_v5, val_main_call1_v2, val_main_call1_v0, val_main_cst_0, val_main_v6, val_main_cst, val_main_v0, val_main_v1]
  rw [select_mask]
  refine if_congr Iff.rfl ?_ bot_bits
  simp only [R.q, R.k, R.s, ← EReal.coe_mul, coe_sum]
  rfl

/-- The row maximum as a fold. -/
theorem max_at (h : Fin 8) (a : Fin 8192) :
    (val_main_v16 (F := Ideal) x0 x1 : FVec Ideal S8x8192 .f32) (ix2 h a)
      = Finset.fold max ⊥ (fun r => (val_main_v15_0 (F := Ideal) x0 x1 : FVec Ideal S8x8192x8192 .f32) (ix3 h a r)) Finset.univ := by
  unfold val_main_v16
  generalize val_main_v15_0 (F := Ideal) x0 x1 = y
  pointwise [val_main_cst_1]
  rw [bot_bits]

/-- The row maximum is a real. -/
theorem max_real (R : Reals x0 x1 x2 x3 x4 q k v z d s) : ∃ M : Fin 8 → Fin 8192 → ℝ, ∀ h a,
    (val_main_v16 (F := Ideal) x0 x1 : FVec Ideal S8x8192 .f32) (ix2 h a) = ((M h a : ℝ) : EReal) := by
  suffices ∀ h a, ∃ r : ℝ, (val_main_v16 (F := Ideal) x0 x1 : FVec Ideal S8x8192 .f32) (ix2 h a) = (r : EReal) by
    choose M hM using this
    exact ⟨M, hM⟩
  intro h a
  rw [max_at]
  have lt : Finset.fold max ⊥ (fun r => (val_main_v15_0 (F := Ideal) x0 x1 : FVec Ideal S8x8192x8192 .f32) (ix3 h a r)) Finset.univ < (⊤ : EReal) := by
    rw [Finset.fold_max_lt]
    refine ⟨bot_lt_top, fun r _ => ?_⟩
    rw [score_at x0 x1 x2 x3 x4 q k v z d s R]
    split
    · exact EReal.coe_lt_top _
    · exact bot_lt_top
  have gt : (⊥ : EReal) < Finset.fold max ⊥ (fun r => (val_main_v15_0 (F := Ideal) x0 x1 : FVec Ideal S8x8192x8192 .f32) (ix3 h a r)) Finset.univ := by
    refine lt_of_lt_of_le (EReal.bot_lt_coe (score (q h) (k h) s a a)) ?_
    rw [Finset.le_fold_max]
    refine Or.inr ⟨a, Finset.mem_univ a, ?_⟩
    rw [score_at x0 x1 x2 x3 x4 q k v z d s R, if_pos (show vis a a from le_refl _)]
  exact ⟨_, (EReal.coe_toReal lt.ne gt.ne').symm⟩

/-- The exponential of a masked score less a real. -/
theorem exp_mask (h : Fin 8) (a r : Fin 8192) :
    Ideal.exp ((if vis r a then ((score (q h) (k h) s a r : ℝ) : EReal) else ⊥) - ((M h a : ℝ) : EReal)) = ((ex (q h) (k h) s (M h) a r : ℝ) : EReal) := by
  unfold ex
  split
  · rw [← EReal.coe_sub, Ideal.exp_coe]
  · rw [EReal.bot_sub, Ideal.exp_bot, EReal.coe_zero]

/-- The gate's and the gradient's product in the gradient of the attention's output. -/
noncomputable def gr (h : Fin 8) (a : Fin 8192) (x : Fin 128) : ℝ := d h a x * (z h a x * sig (z h a x))

variable (hM : ∀ h a, (val_main_v16 (F := Ideal) x0 x1 : FVec Ideal S8x8192 .f32) (ix2 h a) = ((M h a : ℝ) : EReal))
include hM

theorem ex_at (R : Reals x0 x1 x2 x3 x4 q k v z d s) (h : Fin 8) (a r : Fin 8192) :
    (val_main_v36 (F := Ideal) x0 x1 : FVec Ideal S8x8192x8192 .f32) (ix3 h a r) = ((ex (q h) (k h) s (M h) a r : ℝ) : EReal) := by
  have i1 : idx_main_v33 (idx_main_v34 (ix3 h a r)) = ix2 h a := by
    funext t
    match t with
    | ⟨0, _⟩ => rfl
    | ⟨1, _⟩ => rfl
  rw [val_main_v36_apply, val_main_v35_apply, val_main_v34_apply, val_main_v33_apply, val_main_v23_apply, val_main_v22_apply, val_main_cst_3_apply, i1, hM h a,
    score_at x0 x1 x2 x3 x4 q k v z d s R h a r]
  have b : max (FloatOps.ofBits (F := Ideal) .f32 0xFF800000#32 : EReal) ((M h a : ℝ) : EReal) = ((M h a : ℝ) : EReal) := by
    rw [show (FloatOps.ofBits (F := Ideal) .f32 0xFF800000#32 : EReal) = ⊥ from bot_bits]
    exact max_eq_right bot_le
  refine (congrArg (fun t : EReal => Ideal.exp ((if vis r a then ((score (q h) (k h) s a r : ℝ) : EReal) else ⊥) - t)) b).trans ?_
  exact exp_mask q k s M h a r

theorem den_at (R : Reals x0 x1 x2 x3 x4 q k v z d s) (h : Fin 8) (a : Fin 8192) :
    (val_main_v37 (F := Ideal) x0 x1 : FVec Ideal S8x8192 .f32) (ix2 h a) = ((den (q h) (k h) s (M h) a : ℝ) : EReal) := by
  pointwise [val_main_v37, val_main_cst_9]
  simp only [ex_at x0 x1 x2 x3 x4 q k v z d s M hM R, coe_sum]
  rfl

theorem pr_at (R : Reals x0 x1 x2 x3 x4 q k v z d s) (h : Fin 8) (a r : Fin 8192) :
    (val_main_v40 (F := Ideal) x0 x1 : FVec Ideal S8x8192x8192 .f32) (ix3 h a r) = ((pr (q h) (k h) s (M h) a r : ℝ) : EReal) := by
  pointwise [val_main_v40, val_main_v39, val_main_v38]
  rw [ex_at x0 x1 x2 x3 x4 q k v z d s M hM R, den_at x0 x1 x2 x3 x4 q k v z d s M hM R, Ideal.div_coe (den_pos _ _ _ _ _).ne', ← EReal.coe_mul, mul_one_div]
  rfl

theorem out_at (R : Reals x0 x1 x2 x3 x4 q k v z d s) (h : Fin 8) (a : Fin 8192) (x : Fin 128) :
    (val_main_v44 (F := Ideal) x0 x1 x2 : FVec Ideal S8x8192x128 .f32) (ix3 h a x) = ((out (q h) (k h) (v h) s (M h) a x : ℝ) : EReal) := by
  pointwise [val_main_v44, val_main_v2]
  simp only [pr_at x0 x1 x2 x3 x4 q k v z d s M hM R, R.v, ← EReal.coe_mul, coe_sum]
  rfl

omit hM in
theorem logistic_real (t : ℝ) : Ideal.logistic (t : EReal) = ((sig t : ℝ) : EReal) := Ideal.logistic_coe t

omit hM in
theorem gr_at (R : Reals x0 x1 x2 x3 x4 q k v z d s) (h : Fin 8) (a : Fin 8192) (x : Fin 128) :
    (val_main_v53 (F := Ideal) x3 x4 : FVec Ideal S8x8192x128 .f32) (ix3 h a x) = ((gr z d h a x : ℝ) : EReal) := by
  have e3 : ∀ p, x3 (ix2 a ⟨1024 + (h.val * 128 + x.val), p⟩) = ((z h a x : ℝ) : EReal) := fun p => by
    rw [← R.z]; exact congrArg (fun c => x3 (ix2 a c)) (Fin.ext (by simp only [inProj]; omega))
  have e4 : ∀ p, x4 (ix2 a ⟨1024 + (h.val * 128 + x.val), p⟩) = ((d h a x : ℝ) : EReal) := fun p => by
    rw [← R.d]; exact congrArg (fun c => x4 (ix2 a c)) (Fin.ext (by simp only [inGrad]; omega))
  pointwise [val_main_v53, val_main_v52, val_main_v50, val_main_v4, val_main_v47_0, val_main_v47_2, val_main_call2_v4, val_main_call2_v3, val_main_call2_v2,
    val_main_call2_v1, val_main_call2_v0, val_main_call2_cst, val_main_call2_cst_0, val_main_v3]
  rw [e3, e4]
  change _ * (_ * Ideal.logistic _) = _
  rw [logistic_real, ← EReal.coe_mul, ← EReal.coe_mul]
  rfl

theorem dgate_at (R : Reals x0 x1 x2 x3 x4 q k v z d s) (h : Fin 8) (a : Fin 8192) (x : Fin 128) :
    (val_main_v83 (F := Ideal) x0 x1 x2 x3 x4 : FVec Ideal S8192x1024 .bf16) (ix2 a (narrow h x))
      = ((d h a x * out (q h) (k h) (v h) s (M h) a x * (sig (z h a x) * (1 + z h a x * (1 - sig (z h a x)))) : ℝ) : EReal) := by
  have e3 : ∀ p, x3 (ix2 a ⟨1024 + (128 * h.val + x.val), p⟩) = ((z h a x : ℝ) : EReal) := fun p => by
    rw [← R.z]; exact congrArg (fun c => x3 (ix2 a c)) (Fin.ext (by simp only [inProj]; omega))
  have e4 : ∀ p, x4 (ix2 a ⟨1024 + (128 * h.val + x.val), p⟩) = ((d h a x : ℝ) : EReal) := fun p => by
    rw [← R.d]; exact congrArg (fun c => x4 (ix2 a c)) (Fin.ext (by simp only [inGrad]; omega))
  pointwise [val_main_v83, val_main_v51, val_main_call3_v1, val_main_call3_v0, val_main_call3_v2, val_main_v49, val_main_v46, val_main_v45, val_main_v4, val_main_v3, val_main_v47_1, val_main_v47_2,
    val_main_call2_v4, val_main_call2_v3, val_main_call2_v2, val_main_call2_v6, val_main_call2_v7, val_main_call2_cst_1,
    val_main_call2_v1, val_main_call2_v0, val_main_call2_cst, val_main_call2_cst_0, narrow]
  rw [e3, e4, out_at x0 x1 x2 x3 x4 q k v z d s M hM R]
  change _ * _ * Ideal.logistic _ + _ * (_ * _) * (Ideal.logistic _ * (1 - Ideal.logistic _)) = _
  rw [logistic_real, ← EReal.coe_one, ← EReal.coe_sub]
  simp only [← EReal.coe_mul, ← EReal.coe_add]
  refine congrArg _ ?_
  ring

omit hM in
theorem dpr_at (R : Reals x0 x1 x2 x3 x4 q k v z d s) (h : Fin 8) (a r : Fin 8192) :
    (val_main_v56 (F := Ideal) x2 x3 x4 : FVec Ideal S8x8192x8192 .f32) (ix3 h a r) = ((dpr (v h) (gr z d h) a r : ℝ) : EReal) := by
  pointwise [val_main_v56, val_main_v2]
  simp only [gr_at x0 x1 x2 x3 x4 q k v z d s R, R.v, ← EReal.coe_mul, coe_sum]
  rfl

theorem row_at (R : Reals x0 x1 x2 x3 x4 q k v z d s) (h : Fin 8) (a : Fin 8192) :
    (val_main_v60 (F := Ideal) x0 x1 x2 x3 x4 : FVec Ideal S8x8192 .f32) (ix2 h a)
      = ((∑ t, dpr (v h) (gr z d h) a t * (1 / (den (q h) (k h) s (M h) a * den (q h) (k h) s (M h) a)) * ex (q h) (k h) s (M h) a t : ℝ) : EReal) := by
  pointwise [val_main_v60, val_main_v59, val_main_v58, val_main_v57, val_main_v43, val_main_v41, val_main_v42, val_main_v38, val_main_cst_10, val_main_cst_11]
  have hd := den_pos (q h) (k h) s (M h) a
  simp only [dpr_at x0 x1 x2 x3 x4 q k v z d s R, ex_at x0 x1 x2 x3 x4 q k v z d s M hM R, den_at x0 x1 x2 x3 x4 q k v z d s M hM R, ← EReal.coe_mul,
    Ideal.div_coe (mul_pos hd hd).ne', one_mul, coe_sum]

theorem dsc_at (R : Reals x0 x1 x2 x3 x4 q k v z d s) (h : Fin 8) (a r : Fin 8192) :
    (val_main_v71 (F := Ideal) x0 x1 x2 x3 x4 : FVec Ideal S8x8192x8192 .f32) (ix3 h a r) = ((dsc (q h) (k h) (v h) (gr z d h) s (M h) a r : ℝ) : EReal) := by
  pointwise [val_main_v71, val_main_v69, val_main_v70, val_main_cst_13, val_main_v68, val_main_v67, val_main_v66, val_main_v65, val_main_v64, val_main_v63,
    val_main_v62, val_main_v61, val_main_v38, val_main_cst_12, val_main_call4_v0, val_main_call4_cst, mask_at]
  rw [select_mask, ← dsc_quot]
  have hd := den_pos (q h) (k h) s (M h) a
  simp only [dpr_at x0 x1 x2 x3 x4 q k v z d s R, ex_at x0 x1 x2 x3 x4 q k v z d s M hM R, den_at x0 x1 x2 x3 x4 q k v z d s M hM R,
    row_at x0 x1 x2 x3 x4 q k v z d s M hM R, Ideal.div_coe hd.ne', R.s]
  split
  · rw [Fin.sum_univ_one]
    simp only [← EReal.coe_mul, ← EReal.coe_neg, ← EReal.coe_add]
  · simp

theorem dq_at (R : Reals x0 x1 x2 x3 x4 q k v z d s) (h : Fin 8) (a : Fin 8192) (x : Fin 256) :
    (val_main_v76 (F := Ideal) x0 x1 x2 x3 x4 : FVec Ideal S8192x2048 .f32) (ix2 a (wide h x))
      = if p : x.val < 192 then ((∑ r, dsc (q h) (k h) (v h) (gr z d h) s (M h) a r * k h r ⟨x.val, p⟩ : ℝ) : EReal) else 0 := by
  pointwise [val_main_v76, val_main_v75, val_main_v74, val_main_v73, val_main_v1, wide, val_main_call5_v0, val_main_c_14]
  split
  · simp only [dsc_at x0 x1 x2 x3 x4 q k v z d s M hM R, R.k, ← EReal.coe_mul, coe_sum]
  · exact zero_word

theorem dk_at (R : Reals x0 x1 x2 x3 x4 q k v z d s) (h : Fin 8) (r : Fin 8192) (x : Fin 256) :
    (val_main_v79 (F := Ideal) x0 x1 x2 x3 x4 : FVec Ideal S8192x2048 .f32) (ix2 r (wide h x))
      = if p : x.val < 192 then ((∑ a, dsc (q h) (k h) (v h) (gr z d h) s (M h) a r * q h a ⟨x.val, p⟩ : ℝ) : EReal) else 0 := by
  pointwise [val_main_v79, val_main_v78, val_main_v77, val_main_v72, val_main_v0, wide, val_main_call6_v0, val_main_c_15]
  split
  · simp only [dsc_at x0 x1 x2 x3 x4 q k v z d s M hM R, R.q, ← EReal.coe_mul, coe_sum]
  · exact zero_word

theorem dv_at (R : Reals x0 x1 x2 x3 x4 q k v z d s) (h : Fin 8) (r : Fin 8192) (x : Fin 128) :
    (val_main_v82 (F := Ideal) x0 x1 x3 x4 : FVec Ideal S8192x1024 .bf16) (ix2 r (narrow h x))
      = ((∑ a, pr (q h) (k h) s (M h) a r * gr z d h a x : ℝ) : EReal) := by
  pointwise [val_main_v82, val_main_v81, val_main_v80, val_main_v55, val_main_v54, narrow]
  simp only [pr_at x0 x1 x2 x3 x4 q k v z d s M hM R, gr_at x0 x1 x2 x3 x4 q k v z d s R, ← EReal.coe_mul, coe_sum]
  exact congrArg _ (Finset.sum_congr rfl fun _ _ => mul_comm _ _)

end Cert.Scores

end
-- ==== Proof.Host.lean ====
/- What the host hands the kernel on finite arguments, as real numbers. -/
module

public import proofs.«01_k».proof.Proof.Scores
public import Idealize.ShloMosaic.Lib.StableHlo.RunRead
public import Idealize.ShloMosaic.Lib.StableHlo.ReadAt

@[expose] public section

set_option maxRecDepth 16384

namespace Cert.Host

open Idealize.ShloMosaic Idealize.ShloMosaic.TcCoe Idealize.SL.Sem
open Cert.KernelIdeal Cert.KernelIdeal.Gen Cert.Fold Cert.Attn Cert.Scores

variable (m : (ℓ : Loc nD τ sig) → Buf (Elt Ideal) ℓ) (c : Dev nD)

/-- The queries. -/
noncomputable abbrev y0 : FVec Ideal S8x8192x192 .bf16 := m ((c : Thread nD τ).loc main_arg0)
/-- The keys. -/
noncomputable abbrev y1 : FVec Ideal S8x8192x192 .bf16 := m ((c : Thread nD τ).loc main_arg1)
/-- The values. -/
noncomputable abbrev y2 : FVec Ideal S8x8192x128 .bf16 := m ((c : Thread nD τ).loc main_arg2)
/-- The projection. -/
noncomputable abbrev y3 : FVec Ideal S8192x3072 .f32 := m ((c : Thread nD τ).loc main_arg3)
/-- The gradient. -/
noncomputable abbrev y4 : FVec Ideal S8192x2048 .f32 := m ((c : Thread nD τ).loc main_arg4)

/-- The masked scores. -/
noncomputable abbrev hZ : FVec Ideal S8x8192x8192 .f32 := V m c main_v10
/-- The row maxima. -/
noncomputable abbrev hM : FVec Ideal S8x8192 .f32 := V m c main_v11
/-- The exponentials. -/
noncomputable abbrev hE : FVec Ideal S8x8192x8192 .f32 := V m c main_v15
/-- The row sums. -/
noncomputable abbrev hL : FVec Ideal S8x8192 .f32 := V m c main_v16
/-- The weights. -/
noncomputable abbrev hP : FVec Ideal S8x8192x8192 .bf16 := V m c main_v20
/-- The output. -/
noncomputable abbrev hO : FVec Ideal S8x8192x128 .f32 := V m c main_v21
/-- The logarithms. -/
noncomputable abbrev hG : FVec Ideal S8x8192x1 .f32 := V m c main_v23

/-- A column of a row vector's copies. -/
theorem column (w : FVec Ideal S8x8192 .f32) (h : Fin 8) (a : Fin 8192) :
    broadcastInDim S8x8192x1 ![0, 1] bcast_S8x8192_S8x8192x1_0_1 w (ix3 h a 0) = w (ix2 h a) :=
  broadcastInDim_apply _ bcast_S8x8192_S8x8192x1_0_1 w (ix3 h a 0) (ix2 h a) (fun t => match t with
    | ⟨0, _⟩ => by show h.val = if (8 : Nat) = 1 then 0 else h.val; rw [if_neg (by decide)]
    | ⟨1, _⟩ => by show a.val = if (8192 : Nat) = 1 then 0 else a.val; rw [if_neg (by decide)])

theorem log_column (u w : FVec Ideal S8x8192x1 .f32) (i : S8x8192x1.Idx) : addf u (Host.log w) i = u i + Ideal.log (w i) := rfl

/-- The word zero as a half float. -/
theorem zero_half : (FloatOps.sitofp (F := Ideal) .bf16 0#32 : EReal) = 0 := by
  show (((0#32 : BitVec 32).toInt : ℝ) : EReal) = 0
  simp

/-- The masked scores are the reference's. -/
theorem z_eq : hZ m c = Cert.ReferenceIdeal.Read.val_main_v15_0 (F := Ideal) (y0 m c) (y1 m c) := by
  unfold hZ V
  after_reads_simp
  rfl

/-- The row maximum as a fold. -/
theorem max_eq (h : Fin 8) (a : Fin 8192) : hM m c (ix2 h a) = Finset.fold max ⊥ (fun r => hZ m c (ix3 h a r)) Finset.univ := by
  have e : hM m c = Host.reduce FloatOps.maximumf (hZ m c) (constant S_ .f32 0xFF800000#32) reducesTo_S8x8192x8192_S8x8192_d2 h_S_ := by
    unfold hM hZ V
    after_reads_simp
  rw [e]
  generalize hZ m c = w0
  pointwise []
  rw [bot_bits]

/-- The exponential. -/
theorem e_eq (h : Fin 8) (a r : Fin 8192) : hE m c (ix3 h a r) = Ideal.exp (hZ m c (ix3 h a r) - hM m c (ix2 h a)) := by
  have e : hE m c = Host.exp (subf (hZ m c) (broadcastInDim S8x8192x8192 ![0, 1, 2] bcast_S8x8192x1_S8x8192x8192_0_1_2 (broadcastInDim S8x8192x1 ![0, 1] bcast_S8x8192_S8x8192x1_0_1 (hM m c)))) := by
    unfold hM hZ hE V
    after_reads_simp
  rw [e]
  generalize hZ m c = w0
  generalize hM m c = w1
  pointwise []

/-- The row sum. -/
theorem l_eq (h : Fin 8) (a : Fin 8192) : hL m c (ix2 h a) = ∑ r, hE m c (ix3 h a r) := by
  have e : hL m c = Host.reduceAdd (hE m c) (constant S_ .f32 0x00000000#32) reducesTo_S8x8192x8192_S8x8192_d2 h_S_ := by
    unfold hL hE V
    after_reads_simp
  rw [e]
  generalize hE m c = w0
  pointwise []

/-- The weight. -/
theorem p_eq (h : Fin 8) (a r : Fin 8192) : hP m c (ix3 h a r) = Ideal.div (hE m c (ix3 h a r)) (hL m c (ix2 h a)) := by
  have e : hP m c = truncf .bf16 (Host.divf (hE m c) (broadcastInDim S8x8192x8192 ![0, 1, 2] bcast_S8x8192x1_S8x8192x8192_0_1_2 (broadcastInDim S8x8192x1 ![0, 1] bcast_S8x8192_S8x8192x1_0_1 (hL m c)))) bitsLt_bf16_f32 := by
    unfold hP hE hL V
    after_reads_simp
  rw [e]
  generalize hE m c = w0
  generalize hL m c = w1
  pointwise []

/-- The output. -/
theorem o_eq (h : Fin 8) (a : Fin 8192) (x : Fin 128) : hO m c (ix3 h a x) = ∑ r, hP m c (ix3 h a r) * y2 m c (ix3 h r x) := by
  have e : hO m c = Host.dotGeneral dot_S8x8192x8192_S8x8192x128_S8x8192x128_2_1_1_2_0_0 none (hP m c) (y2 m c) := by
    unfold hO hP V
    after_reads_simp
  rw [e]
  generalize hP m c = w0
  generalize y2 m c = w1
  pointwise []

/-- The logarithm of the row sum, the maximum added. -/
theorem g_eq (h : Fin 8) (a : Fin 8192) : hG m c (ix3 h a 0) = hM m c (ix2 h a) + Ideal.log (hL m c (ix2 h a)) := by
  have e : hG m c = addf (broadcastInDim S8x8192x1 ![0, 1] bcast_S8x8192_S8x8192x1_0_1 (hM m c)) (Host.log (broadcastInDim S8x8192x1 ![0, 1] bcast_S8x8192_S8x8192x1_0_1 (hL m c))) := by
    unfold hG hM hL V
    after_reads_simp
  rw [e]
  generalize hM m c = w0
  generalize hL m c = w1
  rw [log_column, column, column]

/-- The padded array at an index. -/
theorem q_eq (h : Fin 8) (a : Fin 8192) (x : Fin 256) : aQ m c (ix2 a (wide h x)) = if p : x.val < 192 then y0 m c (ix3 h a ⟨x.val, p⟩) else 0 := by
  have e : aQ m c = shapeCast _ (transpose S8192x8x256 [1, 0, 2] (pad S8x8192x256 ![0, 0, 0] ![0, 0, 64] ![0, 0, 0] (y0 m c) (sitofp .bf16 (constantI S_ 32 0#32)) pads_S8x8192x192_S8x8192x256_000_000_0640 h_S_) transposes_S8x8192x256_S8192x8x256_1_0_2) shapeCasts_S8192x8x256_S8192x2048 := by
    unfold aQ V
    after_reads_simp
    rfl
  rw [e]
  generalize y0 m c = w0
  pointwise [wide]
  exact dite_congr rfl (fun _ => rfl) fun _ => zero_half

/-- The padded array at an index. -/
theorem k_eq (h : Fin 8) (a : Fin 8192) (x : Fin 256) : aK m c (ix2 a (wide h x)) = if p : x.val < 192 then y1 m c (ix3 h a ⟨x.val, p⟩) else 0 := by
  have e : aK m c = shapeCast _ (transpose S8192x8x256 [1, 0, 2] (pad S8x8192x256 ![0, 0, 0] ![0, 0, 64] ![0, 0, 0] (y1 m c) (sitofp .bf16 (constantI S_ 32 0#32)) pads_S8x8192x192_S8x8192x256_000_000_0640 h_S_) transposes_S8x8192x256_S8192x8x256_1_0_2) shapeCasts_S8192x8x256_S8192x2048 := by
    unfold aK V
    after_reads_simp
    rfl
  rw [e]
  generalize y1 m c = w0
  pointwise [wide]
  exact dite_congr rfl (fun _ => rfl) fun _ => zero_half

/-- The values, heads side by side, at an index. -/
theorem v_eq (h : Fin 8) (a : Fin 8192) (x : Fin 128) : aV m c (ix2 a (narrow h x)) = y2 m c (ix3 h a x) := by
  have e : aV m c = shapeCast _ (transpose S8192x8x128 [1, 0, 2] (y2 m c) transposes_S8x8192x128_S8192x8x128_1_0_2) shapeCasts_S8192x8x128_S8192x1024 := by
    unfold aV V
    after_reads_simp
    rfl
  rw [e]
  generalize y2 m c = w0
  pointwise [narrow]

/-- The output, heads side by side, at an index. -/
theorem os_eq (h : Fin 8) (a : Fin 8192) (x : Fin 128) : aO m c (ix2 a (narrow h x)) = hO m c (ix3 h a x) := by
  have e : aO m c = shapeCast _ (transpose S8192x8x128 [1, 0, 2] (hO m c) transposes_S8x8192x128_S8192x8x128_1_0_2) shapeCasts_S8192x8x128_S8192x1024 := by
    unfold aO hO V
    after_reads_simp
    rfl
  rw [e]
  generalize hO m c = w0
  pointwise [narrow]

/-- The logarithm's row of a head at an index. -/
theorem ls_eq (h : Fin 8) (a : Fin 8192) : aL m c (ix2 (rowOf h) a) = hG m c (ix3 h a 0) := by
  have e : aL m c = shapeCast _ (broadcastInDim S8x8x8192 ![0, 1, 2] bcast_S8x1x8192_S8x8x8192_0_1_2 (broadcastInDim S8x1x8192 ![0, 2] bcast_S8x8192_S8x1x8192_0_2 (shapeCast _ (hG m c) shapeCasts_S8x8192x1_S8x8192))) shapeCasts_S8x8x8192_S64x8192 := by
    unfold aL hG V
    after_reads_simp
    rfl
  rw [e]
  generalize hG m c = w0
  pointwise [rowOf]

theorem d_eq : aD m c = y4 m c := V_main_arg4 m c
theorem zp_eq : aZ m c = y3 m c := V_main_arg3 m c

end Cert.Host

end
-- ==== Proof.Results.lean ====
/- The four result arrays at an index, in the arrays that the call takes. -/
module

public import proofs.«01_k».proof.Proof.Fold

@[expose] public section

set_option maxRecDepth 16384

namespace Cert.Fold

open Idealize.ShloMosaic Idealize.ShloMosaic.TcCoe Idealize.SL.Sem
open Cert.KernelIdeal Cert.KernelIdeal.Gen Cert.Rows Cert.Tile Cert.Point

variable (m : (ℓ : Loc nD τ sig) → Buf (Elt Ideal) ℓ) (c : Dev nD)

/-- The carried state of the fold up to a point is the recursion's. -/
theorem fold_at (t : Fin cfg0.N) (n : ℕ) (hn : 0 + n < cfg0.N) (e : n = t.val) :
    Pipeline.accAt (fun n h => Value.stAt0 m c n h Value.junk0) (Value.stAt0 m c) 0 n hn = outsAt0 m c t.val t.isLt := by
  subst e
  rw [Value.outsAt0_sweep]

/-- The query block of a position. -/
theorem blockOf (a : Fin 8192) : a.val / 1024 < 8 := by omega
/-- A position's place in its query block. -/
def place (a : Fin 8192) : Fin 1024 := ⟨a.val % 1024, Nat.mod_lt _ (by decide)⟩
theorem pos_place (a : Fin 8192) : pos (a.val / 1024) (blockOf a) (place a) = a := Fin.ext (by show 1024 * (a.val / 1024) + a.val % 1024 = a.val; omega)

/-- The queries' gradient. -/
theorem queries_at (h : Fin 8) (a : Fin 8192) (d : Fin 256) :
    (Value.G7 m c : FVec Ideal S8192x2048 .f32) (ix2 a (wide h d)) = ∑ r : Fin 8192, aK m c (ix2 r (wide h d)) * slV m c h r a := by
  have hp : Value.pt7Of (ix2 a (wide h d)) = (pt h (a.val / 1024) (blockOf a)).val := by
    show 1 * (a.val / 1024 - 0) + 8 * ((256 * h.val + d.val) / 256 - 0) = 8 * h.val + a.val / 1024
    omega
  have hl : Value.loc7Of (ix2 a (wide h d)) = ix2 (place a) d := by
    funext x; apply Fin.ext
    match x with
    | ⟨0, _⟩ => rfl
    | ⟨1, _⟩ => show (256 * h.val + d.val) % 256 = d.val; omega
  show (if h : _ then _ else _) = _
  rw [dif_pos (by rw [hp]; exact (pt h _ _).isLt), hl, fold_at m c (pt h (a.val / 1024) (blockOf a)) _ _ hp, (after m c h _ _).queries, pos_place]

/-- The keys' gradient. -/
theorem keys_at (h : Fin 8) (r : Fin 8192) (d : Fin 256) :
    (Value.G8 m c : FVec Ideal S8192x2048 .f32) (ix2 r (wide h d)) = ∑ a : Fin 8192, slV m c h r a * aQ m c (ix2 a (wide h d)) := by
  have hp : Value.pt8Of (ix2 r (wide h d)) = (pt h 7 (by decide)).val := by
    show 8 * (8 * (r.val / 8192 - 0) + 1 * ((256 * h.val + d.val) / 256 - 0)) + 7 = 8 * h.val + 7
    omega
  have hl : Value.loc8Of (ix2 r (wide h d)) = ix2 r d := by
    funext x; apply Fin.ext
    match x with
    | ⟨0, _⟩ => show r.val % 8192 = r.val; omega
    | ⟨1, _⟩ => show (256 * h.val + d.val) % 256 = d.val; omega
  show (if h : _ then _ else _) = _
  rw [dif_pos (by rw [hp]; exact (pt h _ _).isLt), hl, fold_at m c (pt h 7 (by decide)) _ _ hp, (after m c h _ _).keys, upto_all (by decide)]

/-- The values' gradient. -/
theorem values_at (h : Fin 8) (r : Fin 8192) (d : Fin 128) :
    (Value.G9 m c : FVec Ideal S8192x1024 .bf16) (ix2 r (narrow h d)) = ∑ a : Fin 8192, wtV m c h r a * gradV m c h a d := by
  have hp : Value.pt9Of (ix2 r (narrow h d)) = (pt h 7 (by decide)).val := by
    show 8 * (8 * (r.val / 8192 - 0) + 1 * ((128 * h.val + d.val) / 128 - 0)) + 7 = 8 * h.val + 7
    omega
  have hl : Value.loc9Of (ix2 r (narrow h d)) = ix2 r d := by
    funext x; apply Fin.ext
    match x with
    | ⟨0, _⟩ => show r.val % 8192 = r.val; omega
    | ⟨1, _⟩ => show (128 * h.val + d.val) % 128 = d.val; omega
  show (if h : _ then _ else _) = _
  rw [dif_pos (by rw [hp]; exact (pt h _ _).isLt), hl, fold_at m c (pt h 7 (by decide)) _ _ hp, (after m c h _ _).last rfl, (after m c h _ _).values, upto_all (by decide)]

/-- The gate's gradient. -/
theorem gates_at (h : Fin 8) (a : Fin 8192) (d : Fin 128) :
    (Value.G10 m c : FVec Ideal S8192x1024 .bf16) (ix2 a (narrow h d)) = aD m c (ix2 a (inGrad h d)) * aO m c (ix2 a (narrow h d))
      * (Ideal.logistic (aZ m c (ix2 a (inProj h d))) * (1 + aZ m c (ix2 a (inProj h d)) * (1 - Ideal.logistic (aZ m c (ix2 a (inProj h d)))))) := by
  have hp : Value.pt10Of (ix2 a (narrow h d)) = (pt h (a.val / 1024) (blockOf a)).val := by
    show 1 * (a.val / 1024 - 0) + 8 * ((128 * h.val + d.val) / 128 - 0) = 8 * h.val + a.val / 1024
    omega
  have hl : Value.loc10Of (ix2 a (narrow h d)) = ix2 (place a) d := by
    funext x; apply Fin.ext
    match x with
    | ⟨0, _⟩ => rfl
    | ⟨1, _⟩ => show (128 * h.val + d.val) % 128 = d.val; omega
  show (if h : _ then _ else _) = _
  rw [dif_pos (by rw [hp]; exact (pt h _ _).isLt), hl, fold_at m c (pt h (a.val / 1024) (blockOf a)) _ _ hp, (after m c h _ _).gates, pos_place]

end Cert.Fold

end
-- ==== Proof.Grads.lean ====
/- The kernel's four results on finite arguments, as real numbers, and their agreement with the reference's. -/
module

public import proofs.«01_k».proof.Proof.Host
public import proofs.«01_k».proof.Proof.Results

@[expose] public section

set_option maxRecDepth 16384

namespace Cert.Host

open Idealize.ShloMosaic Idealize.ShloMosaic.TcCoe Idealize.SL.Sem
open Cert.KernelIdeal Cert.KernelIdeal.Gen Cert.Fold Cert.Attn Cert.Scores Cert.Tile

variable (m : (ℓ : Loc nD τ sig) → Buf (Elt Ideal) ℓ) (c : Dev nD)
  (q k : Fin 8 → Fin 8192 → Fin 192 → ℝ) (v z d : Fin 8 → Fin 8192 → Fin 128 → ℝ) (s : ℝ) (M : Fin 8 → Fin 8192 → ℝ)

/-- A sum over padded columns is the sum over the columns. -/
theorem sum_pad (f : Fin 192 → ℝ) : ∑ x : Fin 256, (if p : x.val < 192 then f ⟨x.val, p⟩ else 0) = ∑ x, f x := by
  have e := Fin.sum_univ_add (a := 192) (b := 64) fun x : Fin (192 + 64) => if p : x.val < 192 then f ⟨x.val, p⟩ else 0
  refine e.trans ?_
  have z0 : ∑ i : Fin 64, (if p : (Fin.natAdd 192 i).val < 192 then f ⟨(Fin.natAdd 192 i).val, p⟩ else 0) = 0 :=
    Finset.sum_eq_zero fun i _ => dif_neg (by simp [Fin.natAdd])
  rw [z0, add_zero]
  refine Finset.sum_congr rfl fun i _ => ?_
  exact dif_pos i.isLt

variable (R : Reals (y0 m c) (y1 m c) (y2 m c) (y3 m c) (y4 m c) q k v z d s) (hm : ∀ h a, hM m c (ix2 h a) = ((M h a : ℝ) : EReal))
include R

theorem q_real (h : Fin 8) (a : Fin 8192) (x : Fin 256) : aQ m c (ix2 a (wide h x)) = ((if p : x.val < 192 then q h a ⟨x.val, p⟩ else 0 : ℝ) : EReal) := by
  rw [q_eq]
  split
  · exact R.q _ _ _
  · exact EReal.coe_zero.symm
theorem k_real (h : Fin 8) (a : Fin 8192) (x : Fin 256) : aK m c (ix2 a (wide h x)) = ((if p : x.val < 192 then k h a ⟨x.val, p⟩ else 0 : ℝ) : EReal) := by
  rw [k_eq]
  split
  · exact R.k _ _ _
  · exact EReal.coe_zero.symm

/-- The kernel's score over padded columns. -/
theorem score_real (h : Fin 8) (r a : Fin 8192) :
    (∑ x : Fin 256, aK m c (ix2 r (wide h x)) * aQ m c (ix2 a (wide h x))) * sc = ((score (q h) (k h) s a r : ℝ) : EReal) := by
  have e : ∀ x : Fin 256, aK m c (ix2 r (wide h x)) * aQ m c (ix2 a (wide h x))
      = ((if p : x.val < 192 then (fun y : Fin 192 => q h a y * k h r y) ⟨x.val, p⟩ else 0 : ℝ) : EReal) := fun x => by
    rw [q_real m c q k v z d s R, k_real m c q k v z d s R, ← EReal.coe_mul]
    refine congrArg _ ?_
    split
    · exact mul_comm _ _
    · exact mul_zero _
  rw [Finset.sum_congr rfl fun x _ => e x, coe_sum, sum_pad (fun y : Fin 192 => q h a y * k h r y), show sc = ((s : ℝ) : EReal) from R.s, ← EReal.coe_mul]
  rfl

include hm

theorem e_real (h : Fin 8) (a r : Fin 8192) : hE m c (ix3 h a r) = ((ex (q h) (k h) s (M h) a r : ℝ) : EReal) := by
  rw [e_eq, hm, z_eq, score_at _ _ _ _ _ q k v z d s R]
  exact exp_mask q k s M h a r
theorem l_real (h : Fin 8) (a : Fin 8192) : hL m c (ix2 h a) = ((den (q h) (k h) s (M h) a : ℝ) : EReal) := by
  rw [l_eq]
  simp only [e_real m c q k v z d s M R hm, coe_sum]
  rfl
theorem p_real (h : Fin 8) (a r : Fin 8192) : hP m c (ix3 h a r) = ((pr (q h) (k h) s (M h) a r : ℝ) : EReal) := by
  rw [p_eq, e_real m c q k v z d s M R hm, l_real m c q k v z d s M R hm, Ideal.div_coe (den_pos _ _ _ _ _).ne', ← EReal.coe_mul, mul_one_div]
  rfl
theorem o_real (h : Fin 8) (a : Fin 8192) (x : Fin 128) : aO m c (ix2 a (narrow h x)) = ((out (q h) (k h) (v h) s (M h) a x : ℝ) : EReal) := by
  rw [os_eq, o_eq]
  simp only [p_real m c q k v z d s M R hm, R.v, ← EReal.coe_mul, coe_sum]
  rfl
theorem lse_real (h : Fin 8) (a : Fin 8192) : aL m c (ix2 (rowOf h) a) = ((M h a + Real.log (den (q h) (k h) s (M h) a) : ℝ) : EReal) := by
  rw [ls_eq, g_eq, hm, l_real m c q k v z d s M R hm, Ideal.log_coe, if_neg (not_le.2 (den_pos _ _ _ _ _)), ← EReal.coe_add]

/-- The kernel's weight is the softmax weight. -/
theorem wt_real (h : Fin 8) (r a : Fin 8192) : wtV m c h r a = ((pr (q h) (k h) s (M h) a r : ℝ) : EReal) := by
  show (if _ then weight _ _ _ else _) = _
  split
  · rename_i p
    show Ideal.exp ((∑ x : Fin 256, aK m c (ix2 r (wide h x)) * aQ m c (ix2 a (wide h x))) * sc - aL m c (ix2 (rowOf h) a)) = _
    rw [score_real m c q k v z d s R, lse_real m c q k v z d s M R hm, ← EReal.coe_sub, Ideal.exp_coe, pr_log _ _ _ _ _ _ p]
  · rename_i p
    rw [pr, ex, if_neg (show ¬ vis r a from p), zero_div, EReal.coe_zero]

omit hm in
theorem grad_real (h : Fin 8) (a : Fin 8192) (x : Fin 128) : gradV m c h a x = ((gr z d h a x : ℝ) : EReal) := by
  show aD m c (ix2 a (inGrad h x)) * (aZ m c (ix2 a (inProj h x)) * Ideal.logistic (aZ m c (ix2 a (inProj h x)))) = _
  rw [d_eq, zp_eq, R.d, R.z, logistic_real, ← EReal.coe_mul, ← EReal.coe_mul]
  rfl

/-- The kernel's derivative by a score is the reference's. -/
theorem sl_real (h : Fin 8) (r a : Fin 8192) : slV m c h r a = ((dsc (q h) (k h) (v h) (gr z d h) s (M h) a r : ℝ) : EReal) := by
  show (if _ then slope _ _ _ _ _ _ else _) = _
  split
  · rename_i p
    show Ideal.exp ((∑ x : Fin 256, aK m c (ix2 r (wide h x)) * aQ m c (ix2 a (wide h x))) * sc - aL m c (ix2 (rowOf h) a))
      * ((∑ x : Fin 128, aV m c (ix2 r (narrow h x)) * gradV m c h a x) - ∑ x : Fin 128, gradV m c h a x * aO m c (ix2 a (narrow h x))) * sc = _
    rw [score_real m c q k v z d s R, lse_real m c q k v z d s M R hm, ← EReal.coe_sub, Ideal.exp_coe, pr_log _ _ _ _ _ _ p]
    have ev : ∀ x : Fin 128, aV m c (ix2 r (narrow h x)) = ((v h r x : ℝ) : EReal) := fun x => by rw [v_eq]; exact R.v _ _ _
    have e1 : (∑ x : Fin 128, aV m c (ix2 r (narrow h x)) * gradV m c h a x) = ((dpr (v h) (gr z d h) a r : ℝ) : EReal) := by
      rw [Finset.sum_congr rfl fun x _ => congrArg₂ (fun p w : EReal => p * w) (ev x) (grad_real m c q k v z d s R h a x)]
      simp only [← EReal.coe_mul, coe_sum]
      exact congrArg _ (Finset.sum_congr rfl fun _ _ => mul_comm _ _)
    have e2 : (∑ x : Fin 128, gradV m c h a x * aO m c (ix2 a (narrow h x))) = ((∑ x, gr z d h a x * out (q h) (k h) (v h) s (M h) a x : ℝ) : EReal) := by
      rw [Finset.sum_congr rfl fun x _ => congrArg₂ (fun p w : EReal => p * w) (grad_real m c q k v z d s R h a x) (o_real m c q k v z d s M R hm h a x)]
      simp only [← EReal.coe_mul, coe_sum]
    rw [e1, e2, show sc = ((s : ℝ) : EReal) from R.s, ← EReal.coe_sub, ← EReal.coe_mul, ← EReal.coe_mul, dsc, if_pos (show vis r a from p)]
  · rename_i p
    rw [dsc, if_neg (show ¬ vis r a from p), EReal.coe_zero]

/-- The queries' gradient. -/
theorem dq_real (h : Fin 8) (a : Fin 8192) (x : Fin 256) :
    (Value.G7 m c : FVec Ideal S8192x2048 .f32) (ix2 a (wide h x))
      = if p : x.val < 192 then ((∑ r, dsc (q h) (k h) (v h) (gr z d h) s (M h) a r * k h r ⟨x.val, p⟩ : ℝ) : EReal) else 0 := by
  rw [queries_at]
  simp only [sl_real m c q k v z d s M R hm, k_real m c q k v z d s R]
  split
  · simp only [← EReal.coe_mul, coe_sum]
    exact congrArg _ (Finset.sum_congr rfl fun _ _ => mul_comm _ _)
  · simp

/-- The keys' gradient. -/
theorem dk_real (h : Fin 8) (r : Fin 8192) (x : Fin 256) :
    (Value.G8 m c : FVec Ideal S8192x2048 .f32) (ix2 r (wide h x))
      = if p : x.val < 192 then ((∑ a, dsc (q h) (k h) (v h) (gr z d h) s (M h) a r * q h a ⟨x.val, p⟩ : ℝ) : EReal) else 0 := by
  rw [keys_at]
  simp only [sl_real m c q k v z d s M R hm, q_real m c q k v z d s R]
  split
  · simp only [← EReal.coe_mul, coe_sum]
  · simp

/-- The values' gradient. -/
theorem dv_real (h : Fin 8) (r : Fin 8192) (x : Fin 128) :
    (Value.G9 m c : FVec Ideal S8192x1024 .bf16) (ix2 r (narrow h x)) = ((∑ a, pr (q h) (k h) s (M h) a r * gr z d h a x : ℝ) : EReal) := by
  rw [values_at]
  simp only [wt_real m c q k v z d s M R hm, grad_real m c q k v z d s R, ← EReal.coe_mul, coe_sum]

/-- The gate's gradient. -/
theorem dgate_real (h : Fin 8) (a : Fin 8192) (x : Fin 128) :
    (Value.G10 m c : FVec Ideal S8192x1024 .bf16) (ix2 a (narrow h x))
      = ((d h a x * out (q h) (k h) (v h) s (M h) a x * (sig (z h a x) * (1 + z h a x * (1 - sig (z h a x)))) : ℝ) : EReal) := by
  rw [gates_at, o_real m c q k v z d s M R hm, d_eq, zp_eq, R.d, R.z, logistic_real, ← EReal.coe_one]
  simp only [← EReal.coe_mul, ← EReal.coe_sub, ← EReal.coe_add]

end Cert.Host

end
-- ==== Proof.Final.lean ====
/- The kernel's four results are the reference's, whenever the arguments are finite. -/
module

public import proofs.«01_k».proof.Proof.Grads
public import proofs.«01_k».proof.Defs
public import proofs.«01_k».proof.Proof.Gen.Pre_finite

@[expose] public section

set_option maxRecDepth 16384

namespace Cert.Final

open Idealize.ShloMosaic Idealize.ShloMosaic.TcCoe Idealize.SL.Sem
open Cert.KernelIdeal Cert.KernelIdeal.Gen Cert.Fold Cert.Attn Cert.Scores Cert.Tile Cert.Host
open Cert.ReferenceIdeal.Read

/-- An extended real whose magnitude compares below infinity is its own real part. -/
theorem real_of_lt (φ : FTy) (x : EReal) (h : FloatOps.cmpf (F := Ideal) (φ := φ) .olt (FloatOps.absf (F := Ideal) (φ := φ) x) (⊤ : EReal) = 1#1) :
    x = ((x.toReal : ℝ) : EReal) := by
  induction x using EReal.rec with
  | bot => simp [Ideal.cmpf_def, Ideal.absf_def, Ideal.cmp] at h
  | coe r => rfl
  | top => simp [Ideal.cmpf_def, Ideal.absf_def, Ideal.cmp] at h

theorem top_half : Ideal.ofBits .bf16 0x7F80#16 = (⊤ : EReal) := by simp [Ideal.ofBits, Ideal.ieee]
theorem top_word : Ideal.ofBits .f32 0x7F800000#32 = (⊤ : EReal) := by simp [Ideal.ofBits, Ideal.ieee]

section
attribute [local instance] Cert.Pre_finite.Gen.facts
variable (m : (ℓ : Loc nD τ sig) → Buf (Elt Ideal) ℓ) (c : Dev nD)

/-- The precondition gives the real numbers both sides compute with. -/
theorem reals (h : Cert.Pre_KernelIdeal_finite m) : ∃ q k v z d s, Reals (y0 m c) (y1 m c) (y2 m c) (y3 m c) (y4 m c) q k v z d s := by
  obtain ⟨s, hs⟩ := scale_real
  obtain ⟨h0, h1, h2, h3, h4⟩ := h c
  exact ⟨fun h a x => (y0 m c (ix3 h a x)).toReal, fun h a x => (y1 m c (ix3 h a x)).toReal, fun h a x => (y2 m c (ix3 h a x)).toReal,
    fun h a x => (y3 m c (ix2 a (inProj h x))).toReal, fun h a x => (y4 m c (ix2 a (inGrad h x))).toReal, s,
    { q := fun h a x => real_of_lt .bf16 _ (by rw [← top_half]; exact congrFun h0 (ix3 h a x))
      k := fun h a x => real_of_lt .bf16 _ (by rw [← top_half]; exact congrFun h1 (ix3 h a x))
      v := fun h a x => real_of_lt .bf16 _ (by rw [← top_half]; exact congrFun h2 (ix3 h a x))
      z := fun h a x => real_of_lt .f32 _ (by rw [← top_word]; exact congrFun h3 (ix2 a (inProj h x)))
      d := fun h a x => real_of_lt .f32 _ (by rw [← top_word]; exact congrFun h4 (ix2 a (inGrad h x)))
      s := hs }⟩

/-- The two sides subtract the same maximum. -/
theorem same_max (h : Fin 8) (a : Fin 8192) :
    hM m c (ix2 h a) = (val_main_v16 (F := Ideal) (y0 m c) (y1 m c) : FVec Ideal S8x8192 .f32) (ix2 h a) := by
  rw [max_eq, max_at, z_eq]

/-- Every column of the padded queries is a column of some head. -/
theorem wide_all (e : Fin 2048) : ∃ h d, e = wide h d :=
  ⟨⟨e.val / 256, by omega⟩, ⟨e.val % 256, by omega⟩, Fin.ext (by simp only [wide]; omega)⟩
/-- Every column of the values is a column of some head. -/
theorem narrow_all (e : Fin 1024) : ∃ h d, e = narrow h d :=
  ⟨⟨e.val / 128, by omega⟩, ⟨e.val % 128, by omega⟩, Fin.ext (by simp only [narrow]; omega)⟩

/-- The four results agree. -/
theorem results (h : Cert.Pre_KernelIdeal_finite m) :
    (Value.G7 m c : FVec Ideal S8192x2048 .f32) = val_main_v76 (F := Ideal) (y0 m c) (y1 m c) (y2 m c) (y3 m c) (y4 m c)
    ∧ (Value.G8 m c : FVec Ideal S8192x2048 .f32) = val_main_v79 (F := Ideal) (y0 m c) (y1 m c) (y2 m c) (y3 m c) (y4 m c)
    ∧ (Value.G9 m c : FVec Ideal S8192x1024 .bf16) = val_main_v82 (F := Ideal) (y0 m c) (y1 m c) (y3 m c) (y4 m c)
    ∧ (Value.G10 m c : FVec Ideal S8192x1024 .bf16) = val_main_v83 (F := Ideal) (y0 m c) (y1 m c) (y2 m c) (y3 m c) (y4 m c) := by
  obtain ⟨q, k, v, z, d, s, R⟩ := reals m c h
  obtain ⟨M, hM⟩ := max_real _ _ _ _ _ _ _ _ _ _ _ R
  have hm : ∀ h a, Cert.Host.hM m c (ix2 h a) = ((M h a : ℝ) : EReal) := fun h a => (same_max m c h a).trans (hM h a)
  refine ⟨funext fun i => ?_, funext fun i => ?_, funext fun i => ?_, funext fun i => ?_⟩
  · obtain ⟨a, e, rfl⟩ : ∃ (a : Fin 8192) (e : Fin 2048), i = ix2 a e := ⟨_, _, ValueIdx.eq_ix2 i⟩
    obtain ⟨h, x, rfl⟩ := wide_all e
    exact (dq_real m c q k v z d s M R hm h a x).trans (dq_at _ _ _ _ _ q k v z d s M hM R h a x).symm
  · obtain ⟨a, e, rfl⟩ : ∃ (a : Fin 8192) (e : Fin 2048), i = ix2 a e := ⟨_, _, ValueIdx.eq_ix2 i⟩
    obtain ⟨h, x, rfl⟩ := wide_all e
    exact (dk_real m c q k v z d s M R hm h a x).trans (dk_at _ _ _ _ _ q k v z d s M hM R h a x).symm
  · obtain ⟨a, e, rfl⟩ : ∃ (a : Fin 8192) (e : Fin 1024), i = ix2 a e := ⟨_, _, ValueIdx.eq_ix2 i⟩
    obtain ⟨h, x, rfl⟩ := narrow_all e
    exact (dv_real m c q k v z d s M R hm h a x).trans (dv_at _ _ _ _ _ q k v z d s M hM R h a x).symm
  · obtain ⟨a, e, rfl⟩ : ∃ (a : Fin 8192) (e : Fin 1024), i = ix2 a e := ⟨_, _, ValueIdx.eq_ix2 i⟩
    obtain ⟨h, x, rfl⟩ := narrow_all e
    exact (dgate_real m c q k v z d s M R hm h a x).trans (dgate_at _ _ _ _ _ q k v z d s M hM R h a x).symm

end

end Cert.Final

end
-- ==== Proof.Same.lean ====
/- The kernel's two printed programs, the one read at the bit patterns and the one read at the extended reals, are the same text:
   `bodies`, `calls` and `host` say so piece by piece, so that one run gives both frames. -/
module

public import proofs.«01_k».proof.Defs
public import proofs.«01_k».proof.Proof.Gen.Kernel
public import proofs.«01_k».proof.Proof.Gen.KernelIdeal
public import proofs.«01_k».proof.Proof.Gen.KernelIdeal.Frame

@[expose] public section

set_option maxHeartbeats 20000000

noncomputable section

namespace Cert.Same

open Idealize.ShloMosaic Idealize.SL.Sem

attribute [local instance] Cert.Kernel.Gen.facts Cert.KernelIdeal.Gen.facts

/-- The two texts of the kernel's body. -/
theorem body : @Cert.Kernel.cc0_mla_bwd Bits _ _ = @Cert.KernelIdeal.cc0_mla_bwd Bits _ _ := rfl

/-- The two tables of kernel bodies. -/
theorem bodies : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨l, hl⟩ := l
  match l, hl, a with
  | 0, _, (t, s) =>
    show Cert.Kernel.cc0_mla_bwd _ _ _ _ _ _ _ _ _ _ _ _ _ _ _ _ _ _ _ _ _ _ _ _ _ _ _ = _
    rw [body]
    rfl
  | n + 1, h, _ => exact absurd h (Nat.not_lt.2 (Nat.le_add_left _ _))

/-- The two tables of bodies and pipelines. -/
theorem calls : Cert.Kernel.defs (F := Bits) = Cert.KernelIdeal.defs (F := Bits) :=
  congrArg (Pipeline.defs Cert.KernelIdeal.pcfgs) bodies

/-- The two texts of the lines around the kernel. -/
theorem host : Cert.Kernel.main (F := Bits) = Cert.KernelIdeal.main (F := Bits) := rfl

/-- The kernel's run at the bit patterns leaves its arguments as they were and every counter at zero. -/
theorem frame_p : Cert.quiescent_Kernel := fun m g _ => by
  rw [calls, host]
  exact Cert.KernelIdeal.Gen.frame (F := Bits) m g

end Cert.Same

end

end
-- ==== Proof.FwdTile.lean ====
/- The values of the forward kernel's arithmetic: one tile of 1024 keys against a block of 1024 queries, in exact arithmetic.

   A tile has scores `z x j` (key `x`, query `j`). From a running maximum `m`, a running sum `l` and a running product `a` it makes the next ones:
   `nextM`, `nextL`, `nextA`. Each lemma reads one of the kernel's expressions at an index. -/
module

public import proofs.«01_k».proof.Proof.Gen.MlaFwdIdeal.Skeleton
public import proofs.«01_k».proof.Proof.Diag

@[expose] public section

set_option maxRecDepth 16384

namespace Cert.FwdTile

open Idealize.ShloMosaic Idealize.ShloMosaic.TcCoe Idealize.SL.Sem
open Cert.MlaFwdIdeal Cert.MlaFwdIdeal.Gen Cert.Tile

/-- The scores of a tile of keys `k` against queries `q`. -/
noncomputable def scores (k q : FVec Ideal S1024x256 .bf16) (x j : Fin 1024) : EReal := (∑ t : Fin 256, (k (ix2 x t) : EReal) * q (ix2 j t)) * sc

/-- The running maximum after a tile. -/
noncomputable def nextM (z : Fin 1024 → Fin 1024 → EReal) (m : FVec Ideal S1x1024 .f32) (j : Fin 1024) : EReal :=
  max (m (ix2 0 j)) (Finset.fold max ⊥ (fun x => z x j) Finset.univ)

/-- The running sum of exponentials after a tile. -/
noncomputable def nextL (z : Fin 1024 → Fin 1024 → EReal) (m l : FVec Ideal S1x1024 .f32) (j : Fin 1024) : EReal :=
  Ideal.exp (m (ix2 0 j) - nextM z m j) * l (ix2 0 j) + ∑ x, Ideal.exp (z x j - nextM z m j)

/-- The running product with the values after a tile. -/
noncomputable def nextA (z : Fin 1024 → Fin 1024 → EReal) (m : FVec Ideal S1x1024 .f32) (a : FVec Ideal S128x1024 .f32) (v : FVec Ideal S1024x128 .bf16)
    (d : Fin 128) (j : Fin 1024) : EReal :=
  Ideal.exp (m (ix2 0 j) - nextM z m j) * a (ix2 d j) + ∑ x : Fin 1024, (v (ix2 x d) : EReal) * Ideal.exp (z x j - nextM z m j)

theorem pay7 (q k : FVec Ideal S1024x256 .bf16) (x j : Fin 1024) : k0_pay7 (F := Ideal) q k (ix2 x j) = scores k q x j := by
  pointwise [k0_pay7]
  rfl

theorem pay8 (q k : FVec Ideal S1024x256 .bf16) (m : FVec Ideal S1x1024 .f32) (j : Fin 1024) :
    k0_pay8 (F := Ideal) q k m (ix2 0 j) = nextM (scores k q) m j := by
  pointwise [k0_pay8, k0_pay7]
  rfl

theorem pay11 (q k : FVec Ideal S1024x256 .bf16) (m l : FVec Ideal S1x1024 .f32) (j : Fin 1024) :
    k0_pay11 (F := Ideal) q k m l (ix2 0 j) = nextL (scores k q) m l j := by
  unfold nextL
  simp only [← pay8, ← pay7]
  pointwise [k0_pay11, k0_pay10, k0_pay9]

theorem pay12 (q k : FVec Ideal S1024x256 .bf16) (m : FVec Ideal S1x1024 .f32) (a : FVec Ideal S128x1024 .f32) (v : FVec Ideal S1024x128 .bf16) (d : Fin 128) (j : Fin 1024) :
    k0_pay12 (F := Ideal) q k m a v (ix2 d j) = nextA (scores k q) m a v d j := by
  unfold nextA
  simp only [← pay8, ← pay7]
  pointwise [k0_pay12, k0_pay10, k0_pay9]

/-- The named mask is minus infinity. -/
theorem mask_bot : Named.named (F := Ideal) Cert.MlaFwdIdeal.κ "mask" (φ := .f32) 0xF149F2CA#32 = (⊥ : EReal) :=
  IdealRules.named_const.ideal_named_scalar _ _ _ _ rfl

theorem pay24 (d : Fin 128) (j : Fin 1024) : k0_pay24 (F := Ideal) (ix2 d j) = (0 : EReal) := by
  pointwise [k0_pay24]

theorem pay25 (j : Fin 1024) : k0_pay25 (F := Ideal) (ix2 0 j) = (⊥ : EReal) := by
  pointwise [k0_pay25]
  exact mask_bot

theorem pay26 (j : Fin 1024) : k0_pay26 (F := Ideal) (ix2 0 j) = (0 : EReal) := by
  pointwise [k0_pay26]

/-- The kernel's mask of a diagonal tile: a query sees the keys of its own chunk of 64 and of the chunks before. -/
theorem mask (x j : Fin 1024) :
    IntOp.cmpi .sle (chunk (IntOp.addi (BitVec.ofNat 32 x.val) 0#32)) (chunk (IntOp.addi (BitVec.ofNat 32 j.val) 0#32)) = if x.val / 64 ≤ j.val / 64 then 1#1 else 0#1 := by
  rw [chunk_eq _ 0 (by omega), chunk_eq _ 0 (by omega)]
  have e := chunk_le (0 + x.val) (0 + j.val) (by omega) (by omega)
  rw [Nat.zero_add, Nat.zero_add] at e
  rw [Nat.zero_add, Nat.zero_add]
  exact e

/-- The masked scores of a diagonal tile. -/
theorem pay27 (q k : FVec Ideal S1024x256 .bf16) (x j : Fin 1024) :
    k0_pay27 (F := Ideal) q k0_pay20 k0_pay21 64#32 k0_pay22 k0_pay23 1#32 k (ix2 x j)
      = if x.val / 64 ≤ j.val / 64 then scores k q x j else ⊥ := by
  have e : k0_pay27 (F := Ideal) q k0_pay20 k0_pay21 64#32 k0_pay22 k0_pay23 1#32 k (ix2 x j)
      = Scalar.select (IntOp.cmpi .sle (chunk (IntOp.addi (BitVec.ofNat 32 x.val) 0#32)) (chunk (IntOp.addi (BitVec.ofNat 32 j.val) 0#32)))
          (scores k q x j) (Named.named (F := Ideal) Cert.MlaFwdIdeal.κ "mask" (φ := .f32) 0xF149F2CA#32) := by
    pointwise [k0_pay27, k0_pay23, k0_pay22, k0_pay21, k0_pay20]
    rfl
  rw [e, mask, mask_bot, select_ite]

theorem pay28 (z : FVec Ideal S1024x1024 .f32) (m : FVec Ideal S1x1024 .f32) (j : Fin 1024) :
    k0_pay28 (F := Ideal) z m (ix2 0 j) = nextM (fun x j => z (ix2 x j)) m j := by
  pointwise [k0_pay28]
  rfl

theorem pay33 (z : FVec Ideal S1024x1024 .f32) (m : FVec Ideal S1x1024 .f32) (j : Fin 1024) :
    k0_pay33 (F := Ideal) z m (ix2 0 j) = nextM (fun x j => z (ix2 x j)) m j := by
  simp only [← pay28]
  pointwise [k0_pay33]

theorem pay31 (z : FVec Ideal S1024x1024 .f32) (m l : FVec Ideal S1x1024 .f32) (j : Fin 1024) :
    k0_pay31 (F := Ideal) z m l (ix2 0 j) = nextL (fun x j => z (ix2 x j)) m l j := by
  unfold nextL
  simp only [← pay28]
  pointwise [k0_pay31, k0_pay30, k0_pay29]

theorem pay32 (z : FVec Ideal S1024x1024 .f32) (m : FVec Ideal S1x1024 .f32) (a : FVec Ideal S128x1024 .f32) (v : FVec Ideal S1024x128 .bf16) (d : Fin 128) (j : Fin 1024) :
    k0_pay32 (F := Ideal) z m a v (ix2 d j) = nextA (fun x j => z (ix2 x j)) m a v d j := by
  unfold nextA
  simp only [← pay28]
  pointwise [k0_pay32, k0_pay30, k0_pay29]

theorem pay3 (a : FVec Ideal S128x1024 .f32) (d : Fin 128) (j : Fin 1024) : k0_pay3 (F := Ideal) a (ix2 d j) = a (ix2 d j) := by
  pointwise [k0_pay3]

theorem pay1 (a : FVec Ideal S128x1024 .f32) (d : Fin 128) (j : Fin 1024) : k0_pay1 (F := Ideal) a (ix2 d j) = a (ix2 d j) := by
  pointwise [k0_pay1]

theorem pay4 (m : FVec Ideal S1x1024 .f32) (j : Fin 1024) : k0_pay4 (F := Ideal) m (ix2 0 j) = m (ix2 0 j) := by
  pointwise [k0_pay4]

theorem pay2 (m : FVec Ideal S1x1024 .f32) (j : Fin 1024) : k0_pay2 (F := Ideal) m (ix2 0 j) = m (ix2 0 j) := by
  pointwise [k0_pay2]

/-- The block of the attention's output. -/
theorem pay5 (a : FVec Ideal S128x1024 .f32) (l : FVec Ideal S1x1024 .f32) (j : Fin 1024) (d : Fin 128) :
    k0_pay5 (F := Ideal) a l (ix2 j d) = Ideal.div (a (ix2 d j)) (l (ix2 0 j)) := by
  pointwise [k0_pay5]

/-- The block of the logarithms of the rows' sums. -/
theorem pay6 (m l : FVec Ideal S1x1024 .f32) (e : Fin 8) (j : Fin 1024) :
    k0_pay6 (F := Ideal) m l (ix2 e j) = m (ix2 0 j) + Ideal.log (l (ix2 0 j)) := by
  pointwise [k0_pay6]

end Cert.FwdTile

end
-- ==== Proof.FwdCol.lean ====
/- The running softmax of one query, in real numbers: a maximum, a sum of exponentials less it and the values weighted by them, taken over a growing set of keys. -/
module

public import proofs.«01_k».proof.Proof.FwdTile
public import proofs.«01_k».proof.Proof.Attn

@[expose] public section

set_option maxRecDepth 16384

namespace Cert.FwdCol

open Idealize.ShloMosaic Idealize.ShloMosaic.TcCoe Idealize.SL.Sem
open Cert.Attn

/-- The state of a query after the keys of `S`: relative to some real `M`, the sum of the exponentials of the scores `s` and the values `w` weighted by them. -/
def State (S : Finset (Fin 8192)) (s : Fin 8192 → ℝ) (w : Fin 8192 → Fin 128 → ℝ) (m l : EReal) (a : Fin 128 → EReal) : Prop :=
  ∃ M : ℝ, m = (M : EReal) ∧ l = ((∑ r ∈ S, Real.exp (s r - M) : ℝ) : EReal) ∧ ∀ d, a d = ((∑ r ∈ S, w r d * Real.exp (s r - M) : ℝ) : EReal)

/-- What a tile of keys adds to a set: the keys `row x` of those `x` with `p x`. -/
def Adds (S S' : Finset (Fin 8192)) (row : Fin 1024 → Fin 8192) (p : Fin 1024 → Prop) [DecidablePred p] : Prop :=
  ∀ g : Fin 8192 → ℝ, ∑ r ∈ S', g r = ∑ r ∈ S, g r + ∑ x, if p x then g (row x) else 0

variable (s : Fin 8192 → ℝ) (w : Fin 8192 → Fin 128 → ℝ) (row : Fin 1024 → Fin 8192) (p : Fin 1024 → Prop) [DecidablePred p]

/-- A tile's maximum is below plus infinity. -/
theorem fold_lt (z : Fin 1024 → EReal) (hz : ∀ x, z x = if p x then ((s (row x) : ℝ) : EReal) else ⊥) :
    Finset.fold max ⊥ z Finset.univ < (⊤ : EReal) := by
  rw [Finset.fold_max_lt]
  refine ⟨bot_lt_top, fun x _ => ?_⟩
  rw [hz]
  split
  · exact EReal.coe_lt_top _
  · exact bot_lt_top

/-- The exponential of a masked score less a real. -/
theorem exp_mask (z : Fin 1024 → EReal) (hz : ∀ x, z x = if p x then ((s (row x) : ℝ) : EReal) else ⊥) (M : ℝ) (x : Fin 1024) :
    Ideal.exp (z x - (M : EReal)) = ((if p x then Real.exp (s (row x) - M) else 0 : ℝ) : EReal) := by
  rw [hz]
  split
  · rw [← EReal.coe_sub, Ideal.exp_coe]
  · rw [EReal.bot_sub, Ideal.exp_bot, EReal.coe_zero]

theorem sum_tile (z : Fin 1024 → EReal) (hz : ∀ x, z x = if p x then ((s (row x) : ℝ) : EReal) else ⊥) (M : ℝ) :
    ∑ x, Ideal.exp (z x - (M : EReal)) = ((∑ x, (if p x then Real.exp (s (row x) - M) else 0) : ℝ) : EReal) := by
  rw [← coe_sum]
  exact Finset.sum_congr rfl fun x _ => exp_mask s row p z hz M x

theorem prod_tile (z : Fin 1024 → EReal) (hz : ∀ x, z x = if p x then ((s (row x) : ℝ) : EReal) else ⊥) (v : Fin 1024 → EReal) (d : Fin 128)
    (hv : ∀ x, v x = ((w (row x) d : ℝ) : EReal)) (M : ℝ) :
    ∑ x, v x * Ideal.exp (z x - (M : EReal)) = ((∑ x, (if p x then w (row x) d * Real.exp (s (row x) - M) else 0) : ℝ) : EReal) := by
  rw [← coe_sum]
  refine Finset.sum_congr rfl fun x _ => ?_
  rw [exp_mask s row p z hz M x, hv, ← EReal.coe_mul, mul_ite, mul_zero]

variable {s w row p}

/-- The first tile, from a running maximum of minus infinity. -/
theorem start {S' : Finset (Fin 8192)} (hS : Adds ∅ S' row p) {z : Fin 1024 → EReal} (hz : ∀ x, z x = if p x then ((s (row x) : ℝ) : EReal) else ⊥)
    {v : Fin 1024 → Fin 128 → EReal} (hv : ∀ x d, v x d = ((w (row x) d : ℝ) : EReal)) (hp : ∃ x, p x) {m l m' l' : EReal} {a a' : Fin 128 → EReal}
    (hm : m = ⊥) (hl : l = 0) (ha : ∀ d, a d = 0) (em : m' = max m (Finset.fold max ⊥ z Finset.univ))
    (el : l' = Ideal.exp (m - m') * l + ∑ x, Ideal.exp (z x - m')) (ea : ∀ d, a' d = Ideal.exp (m - m') * a d + ∑ x, v x d * Ideal.exp (z x - m')) :
    State S' s w m' l' a' := by
  obtain ⟨x₀, hx₀⟩ := hp
  have gt : (⊥ : EReal) < Finset.fold max ⊥ z Finset.univ := by
    refine lt_of_lt_of_le (EReal.bot_lt_coe (s (row x₀))) ?_
    rw [Finset.le_fold_max]
    exact Or.inr ⟨x₀, Finset.mem_univ _, by rw [hz, if_pos hx₀]⟩
  have lt := fold_lt s row p z hz
  obtain ⟨M, hM⟩ : ∃ M : ℝ, m' = (M : EReal) := by
    rw [em, hm, max_eq_right gt.le]
    exact ⟨_, (EReal.coe_toReal lt.ne gt.ne').symm⟩
  refine ⟨M, hM, ?_, fun d => ?_⟩
  · rw [el, hM, hl, mul_zero, zero_add, sum_tile s row p z hz M, hS, Finset.sum_empty, zero_add]
  · rw [ea, hM, ha, mul_zero, zero_add, prod_tile s w row p z hz _ d (fun x => hv x d) M, hS, Finset.sum_empty, zero_add]

/-- A further tile. -/
theorem step {S S' : Finset (Fin 8192)} (hS : Adds S S' row p) {z : Fin 1024 → EReal} (hz : ∀ x, z x = if p x then ((s (row x) : ℝ) : EReal) else ⊥)
    {v : Fin 1024 → Fin 128 → EReal} (hv : ∀ x d, v x d = ((w (row x) d : ℝ) : EReal)) {m l m' l' : EReal} {a a' : Fin 128 → EReal}
    (h : State S s w m l a) (em : m' = max m (Finset.fold max ⊥ z Finset.univ))
    (el : l' = Ideal.exp (m - m') * l + ∑ x, Ideal.exp (z x - m')) (ea : ∀ d, a' d = Ideal.exp (m - m') * a d + ∑ x, v x d * Ideal.exp (z x - m')) :
    State S' s w m' l' a' := by
  obtain ⟨M, hm, hl, ha⟩ := h
  have lt := fold_lt s row p z hz
  obtain ⟨M', hM⟩ : ∃ M' : ℝ, m' = (M' : EReal) := by
    have g : (⊥ : EReal) < max m (Finset.fold max ⊥ z Finset.univ) := lt_of_lt_of_le (EReal.bot_lt_coe M) (hm ▸ le_max_left _ _)
    have t : max m (Finset.fold max ⊥ z Finset.univ) < ⊤ := max_lt (hm ▸ EReal.coe_lt_top M) lt
    rw [em]
    exact ⟨_, (EReal.coe_toReal t.ne g.ne').symm⟩
  have e : Ideal.exp (m - m') = ((Real.exp (M - M') : ℝ) : EReal) := by rw [hm, hM, ← EReal.coe_sub, Ideal.exp_coe]
  have k : ∀ r, Real.exp (M - M') * Real.exp (s r - M) = Real.exp (s r - M') := fun r => by
    rw [← Real.exp_add]; congr 1; ring
  refine ⟨M', hM, ?_, fun d => ?_⟩
  · rw [el, e, hM, hl, sum_tile s row p z hz M', ← EReal.coe_mul, ← EReal.coe_add, hS, Finset.mul_sum]
    simp only [k]
  · have k' : ∀ r, Real.exp (M - M') * (w r d * Real.exp (s r - M)) = w r d * Real.exp (s r - M') := fun r => by rw [← k r]; ring
    rw [ea, e, hM, ha, prod_tile s w row p z hz _ d (fun x => hv x d) M', ← EReal.coe_mul, ← EReal.coe_add, hS, Finset.mul_sum]
    simp only [k']

/-- The attention's output of a query: independent of the real subtracted. -/
theorem State.quotient {S : Finset (Fin 8192)} {m l : EReal} {a : Fin 128 → EReal} (h : State S s w m l a) (hS : S.Nonempty) (d : Fin 128) :
    Ideal.div (a d) l = (((∑ r ∈ S, w r d * Real.exp (s r)) / ∑ r ∈ S, Real.exp (s r) : ℝ) : EReal) := by
  obtain ⟨M, -, hl, ha⟩ := h
  have p : 0 < ∑ r ∈ S, Real.exp (s r) := Finset.sum_pos (fun r _ => Real.exp_pos _) hS
  have e : ∀ r, Real.exp (s r - M) = Real.exp (s r) * Real.exp (-M) := fun r => by rw [← Real.exp_add]; congr 1
  have q : ∑ r ∈ S, Real.exp (s r - M) = (∑ r ∈ S, Real.exp (s r)) * Real.exp (-M) := by rw [Finset.sum_mul]; simp only [e]
  have q' : ∑ r ∈ S, w r d * Real.exp (s r - M) = (∑ r ∈ S, w r d * Real.exp (s r)) * Real.exp (-M) := by
    rw [Finset.sum_mul]; simp only [e, mul_assoc]
  rw [ha, hl, Ideal.div_coe (by rw [q]; exact (mul_pos p (Real.exp_pos _)).ne'), ← EReal.coe_mul, q, q']
  congr 1
  have := (Real.exp_pos (-M)).ne'
  have := p.ne'
  field_simp

/-- The logarithm of a query's sum of exponentials: independent of the real subtracted. -/
theorem State.logsum {S : Finset (Fin 8192)} {m l : EReal} {a : Fin 128 → EReal} (h : State S s w m l a) (hS : S.Nonempty) :
    m + Ideal.log l = ((Real.log (∑ r ∈ S, Real.exp (s r)) : ℝ) : EReal) := by
  obtain ⟨M, hm, hl, -⟩ := h
  have p : 0 < ∑ r ∈ S, Real.exp (s r) := Finset.sum_pos (fun r _ => Real.exp_pos _) hS
  have e : ∀ r, Real.exp (s r - M) = Real.exp (s r) * Real.exp (-M) := fun r => by rw [← Real.exp_add]; congr 1
  have q : ∑ r ∈ S, Real.exp (s r - M) = (∑ r ∈ S, Real.exp (s r)) * Real.exp (-M) := by rw [Finset.sum_mul]; simp only [e]
  rw [hm, hl, q, Ideal.log_coe, if_neg (not_le.mpr (mul_pos p (Real.exp_pos _))), ← EReal.coe_add, Real.log_mul p.ne' (Real.exp_pos _).ne', Real.log_exp]
  congr 1
  ring

end Cert.FwdCol

end
-- ==== Proof.FwdRef.lean ====
/- What the forward pass's reference computes on finite arguments, as real numbers. -/
module

public import proofs.«01_k».proof.Proof.Gen.MlaFwdRefIdeal.Read
public import proofs.«01_k».proof.Proof.Scores
public import proofs.«01_k».proof.Proof.FwdCol

@[expose] public section

set_option maxRecDepth 16384

namespace Cert.FwdRef

open Idealize.ShloMosaic Idealize.ShloMosaic.TcCoe Idealize.SL.Sem
open Cert.MlaFwdRefIdeal Cert.MlaFwdRefIdeal.Gen Cert.MlaFwdRefIdeal.Read Cert.Fold Cert.Attn Cert.FwdCol
open Cert.Scores (bot_bits select_mask chunk_word)

/-- The keys a query sees. -/
def seen (a : Fin 8192) : Finset (Fin 8192) := Finset.univ.filter fun r => r.val / 64 ≤ a.val / 64

theorem seen_nonempty (a : Fin 8192) : (seen a).Nonempty := ⟨a, Finset.mem_filter.mpr ⟨Finset.mem_univ _, le_rfl⟩⟩

theorem chunk_at (a : Fin 8192) : val_main_v7 (F := Ideal) (ix1 a) = BitVec.ofNat 32 (a.val / 64) := by
  unfold val_main_v7
  pointwise [val_main_call0_v11, val_main_call0_v13, val_main_call0_v2, val_main_v6, val_main_call0_v6, val_main_call0_v10, val_main_call0_v1,
    val_main_call0_v0, val_main_c, val_main_call0_v3, val_main_call0_v4, val_main_call0_v5, val_main_call0_v7, val_main_call0_v8, val_main_call0_c, val_main_call0_v9]
  exact chunk_word a.val a.isLt _ rfl _

variable (x0 x1 : FVec Ideal S8x8192x192 .bf16) (x2 : FVec Ideal S8x8192x128 .bf16)
  (q k : Fin 8 → Fin 8192 → Fin 192 → ℝ) (v : Fin 8 → Fin 8192 → Fin 128 → ℝ) (s : ℝ)

/-- The arguments are reals: queries, keys and values of each head, and the scale. -/
structure Reals : Prop where
  q : ∀ h a x, x0 (ix3 h a x) = ((q h a x : ℝ) : EReal)
  k : ∀ h a x, x1 (ix3 h a x) = ((k h a x : ℝ) : EReal)
  v : ∀ h a x, x2 (ix3 h a x) = ((v h a x : ℝ) : EReal)
  s : Ideal.ofBits .f32 0x3D93CD3A#32 = ((s : ℝ) : EReal)

/-- The attention's output of a query. -/
noncomputable def outReal (h : Fin 8) (a : Fin 8192) (d : Fin 128) : ℝ :=
  (∑ r ∈ seen a, v h r d * Real.exp (score (q h) (k h) s a r)) / ∑ r ∈ seen a, Real.exp (score (q h) (k h) s a r)

/-- The logarithm of a query's sum of exponentials. -/
noncomputable def logReal (h : Fin 8) (a : Fin 8192) : ℝ := Real.log (∑ r ∈ seen a, Real.exp (score (q h) (k h) s a r))

/-- The masked score. -/
theorem score_at (R : Reals x0 x1 x2 q k v s) (h : Fin 8) (a r : Fin 8192) :
    (val_main_v13 (F := Ideal) x0 x1 : FVec Ideal S8x8192x8192 .f32) (ix3 h a r)
      = if vis r a then ((score (q h) (k h) s a r : ℝ) : EReal) else ⊥ := by
  pointwise [val_main_v13, val_main_call1_v1, val_main_v12, val_main_v11, val_main_v10, val_main_v9, val_main_v8, chunk_at, val_main_v5, val_main_v3, val_main_call1_v2, val_main_call1_v0, val_main_cst_0, val_main_v4, val_main_cst, val_main_v0, val_main_v1]
  rw [select_mask]
  refine if_congr Iff.rfl ?_ bot_bits
  simp only [R.q, R.k, R.s, ← EReal.coe_mul, coe_sum]
  rfl

/-- The row maximum as a fold. -/
theorem max_at (h : Fin 8) (a : Fin 8192) :
    (val_main_v14 (F := Ideal) x0 x1 : FVec Ideal S8x8192 .f32) (ix2 h a)
      = Finset.fold max ⊥ (fun r => (val_main_v13 (F := Ideal) x0 x1 : FVec Ideal S8x8192x8192 .f32) (ix3 h a r)) Finset.univ := by
  unfold val_main_v14
  generalize val_main_v13 (F := Ideal) x0 x1 = y
  pointwise [val_main_cst_1]
  rw [bot_bits]

/-- The row maximum is a real. -/
theorem max_real (R : Reals x0 x1 x2 q k v s) (h : Fin 8) (a : Fin 8192) :
    ∃ M : ℝ, (val_main_v14 (F := Ideal) x0 x1 : FVec Ideal S8x8192 .f32) (ix2 h a) = ((M : ℝ) : EReal) := by
  rw [max_at]
  have lt : Finset.fold max ⊥ (fun r => (val_main_v13 (F := Ideal) x0 x1 : FVec Ideal S8x8192x8192 .f32) (ix3 h a r)) Finset.univ < (⊤ : EReal) := by
    rw [Finset.fold_max_lt]
    refine ⟨bot_lt_top, fun r _ => ?_⟩
    rw [score_at x0 x1 x2 q k v s R]
    split
    · exact EReal.coe_lt_top _
    · exact bot_lt_top
  have gt : (⊥ : EReal) < Finset.fold max ⊥ (fun r => (val_main_v13 (F := Ideal) x0 x1 : FVec Ideal S8x8192x8192 .f32) (ix3 h a r)) Finset.univ := by
    refine lt_of_lt_of_le (EReal.bot_lt_coe (score (q h) (k h) s a a)) ?_
    rw [Finset.le_fold_max]
    refine Or.inr ⟨a, Finset.mem_univ a, ?_⟩
    rw [score_at x0 x1 x2 q k v s R, if_pos (show vis a a from le_refl _)]
  exact ⟨_, (EReal.coe_toReal lt.ne gt.ne').symm⟩

section
variable {x0 x1 x2 q k v s} (R : Reals x0 x1 x2 q k v s) (h : Fin 8) (a : Fin 8192) (M : ℝ)
  (hM : (val_main_v14 (F := Ideal) x0 x1 : FVec Ideal S8x8192 .f32) (ix2 h a) = ((M : ℝ) : EReal))
include R hM

theorem ex_at (r : Fin 8192) :
    (val_main_v18 (F := Ideal) x0 x1 : FVec Ideal S8x8192x8192 .f32) (ix3 h a r)
      = ((if vis r a then Real.exp (score (q h) (k h) s a r - M) else 0 : ℝ) : EReal) := by
  pointwise [val_main_v18, val_main_v17, val_main_v16, val_main_v15]
  rw [hM, score_at x0 x1 x2 q k v s R]
  split
  · rw [← EReal.coe_sub, Ideal.exp_coe]
  · rw [EReal.bot_sub, Ideal.exp_bot, EReal.coe_zero]

theorem den_at :
    (val_main_v19 (F := Ideal) x0 x1 : FVec Ideal S8x8192 .f32) (ix2 h a)
      = ((∑ r ∈ seen a, Real.exp (score (q h) (k h) s a r - M) : ℝ) : EReal) := by
  unfold val_main_v19
  have e := ex_at R h a M hM
  revert e
  generalize val_main_v18 (F := Ideal) x0 x1 = y
  intro e
  pointwise [val_main_cst_2]
  simp only [e, coe_sum]
  rw [seen, Finset.sum_filter]
  rfl

/-- The reference's row as the running softmax of all the keys the query sees. -/
theorem state : State (seen a) (score (q h) (k h) s a) (v h)
    ((val_main_v14 (F := Ideal) x0 x1 : FVec Ideal S8x8192 .f32) (ix2 h a)) ((val_main_v19 (F := Ideal) x0 x1 : FVec Ideal S8x8192 .f32) (ix2 h a))
    (fun d => ((∑ r ∈ seen a, v h r d * Real.exp (score (q h) (k h) s a r - M) : ℝ) : EReal)) :=
  ⟨M, hM, den_at R h a M hM, fun _ => rfl⟩

end

/-- The reference's output. -/
theorem out_at (R : Reals x0 x1 x2 q k v s) (h : Fin 8) (a : Fin 8192) (d : Fin 128) :
    (val_main_v23 (F := Ideal) x0 x1 x2 : FVec Ideal S8x8192x128 .f32) (ix3 h a d) = ((outReal q k v s h a d : ℝ) : EReal) := by
  obtain ⟨M, hM⟩ := max_real x0 x1 x2 q k v s R h a
  have ht := (state R h a M hM).quotient (seen_nonempty a) d
  have pos : 0 < ∑ r ∈ seen a, Real.exp (score (q h) (k h) s a r - M) := Finset.sum_pos (fun r _ => Real.exp_pos _) (seen_nonempty a)
  rw [den_at R h a M hM, Ideal.div_coe pos.ne', ← EReal.coe_mul] at ht
  unfold outReal
  rw [← ht]
  unfold val_main_v23
  have e : ∀ r, (val_main_v22 (F := Ideal) x0 x1 : FVec Ideal S8x8192x8192 .f32) (ix3 h a r)
      = ((if vis r a then Real.exp (score (q h) (k h) s a r - M) else 0 : ℝ) : EReal) * (((1 / ∑ r ∈ seen a, Real.exp (score (q h) (k h) s a r - M)) : ℝ) : EReal) := by
    intro r
    pointwise [val_main_v22, val_main_v21, val_main_v20]
    rw [ex_at R h a M hM, den_at R h a M hM, Ideal.div_coe pos.ne']
  revert e
  generalize val_main_v22 (F := Ideal) x0 x1 = y
  intro e
  pointwise [val_main_v2]
  simp only [e, R.v, ← EReal.coe_mul, coe_sum]
  refine congrArg Real.toEReal ?_
  generalize (1 / ∑ r ∈ seen a, Real.exp (score (q h) (k h) s a r - M)) = t
  rw [seen, Finset.sum_filter, Finset.sum_mul]
  refine Finset.sum_congr rfl fun r _ => ?_
  show (if r.val / 64 ≤ a.val / 64 then _ else _) * _ * _ = _
  split
  · ring
  · ring

/-- The reference's logarithm. -/
theorem log_at (R : Reals x0 x1 x2 q k v s) (h : Fin 8) (a : Fin 8192) :
    (val_main_v25 (F := Ideal) x0 x1 : FVec Ideal S8x8192x1 .f32) (ix3 h a 0) = ((logReal q k s h a : ℝ) : EReal) := by
  obtain ⟨M, hM⟩ := max_real x0 x1 x2 q k v s R h a
  unfold logReal
  rw [← (state R h a M hM).logsum (seen_nonempty a)]
  rw [val_main_v25_apply, val_main_v24_apply, val_main_v20_apply, val_main_v15_apply]
  have e1 : idx_main_v20 (ix3 h a 0) = ix2 h a := by funext p; fin_cases p <;> rfl
  have e2 : idx_main_v15 (ix3 h a 0) = ix2 h a := by funext p; fin_cases p <;> rfl
  rw [e1, e2]
  rfl

/-- The reference's first result: the heads side by side. -/
theorem result0 (R : Reals x0 x1 x2 q k v s) (h : Fin 8) (a : Fin 8192) (d : Fin 128) :
    (val_main_v28 (F := Ideal) x0 x1 x2 : FVec Ideal S8192x1024 .f32) (ix2 a (narrow h d)) = ((outReal q k v s h a d : ℝ) : EReal) := by
  rw [← out_at x0 x1 x2 q k v s R h a d, val_main_v28_apply, val_main_v27_apply]
  have e : idx_main_v27 (idx_main_v28 (ix2 a (narrow h d))) = ix3 h a d := by
    have hh := h.isLt; have hd := d.isLt
    funext p
    fin_cases p
    · exact Fin.ext (show (a.val * 1024 + (128 * h.val + d.val)) / 128 % 8 = h.val by omega)
    · exact Fin.ext (show (a.val * 1024 + (128 * h.val + d.val)) / 1024 = a.val by omega)
    · exact Fin.ext (show (a.val * 1024 + (128 * h.val + d.val)) % 128 = d.val by omega)
  rw [e]

/-- The reference's second result: each head's logarithms on eight rows. -/
theorem result1 (R : Reals x0 x1 x2 q k v s) (h b : Fin 8) (a : Fin 8192) :
    (val_main_v31 (F := Ideal) x0 x1 : FVec Ideal S64x8192 .f32) (ix2 (⟨8 * h.val + b.val, by omega⟩ : Fin 64) a) = ((logReal q k s h a : ℝ) : EReal) := by
  rw [← log_at x0 x1 x2 q k v s R h a, val_main_v31_apply, val_main_v30_apply, val_main_v29_apply, val_main_v26_apply]
  have hh := h.isLt; have hb := b.isLt; have ha := a.isLt
  have e : idx_main_v29 (idx_main_v30 (idx_main_v31 (ix2 (⟨8 * h.val + b.val, by omega⟩ : Fin 64) a))) = ix2 h a := by
    funext p
    fin_cases p
    · exact Fin.ext (show ((8 * h.val + b.val) * 8192 + a.val) / 65536 = h.val by omega)
    · exact Fin.ext (show ((8 * h.val + b.val) * 8192 + a.val) % 8192 = a.val by omega)
  rw [e]
  have e' : idx_main_v26 (ix2 h a) = ix3 h a 0 := by
    funext p
    fin_cases p
    · exact Fin.ext (show (h.val * 8192 + a.val) / 8192 = h.val by omega)
    · exact Fin.ext (show (h.val * 8192 + a.val) / 1 % 8192 = a.val by omega)
    · rfl
  rw [e']

end Cert.FwdRef

end
-- ==== Proof.FwdLoop.lean ====
/- One trip of the forward kernel's loop over the keys below the diagonal, and the whole loop.

   A trip takes 1024 keys, all visible to every query of the block, and adds them to the running softmax of each query. -/
module

public import proofs.«01_k».proof.Proof.Gen.MlaFwdIdeal.Loops
public import proofs.«01_k».proof.Proof.Rows
public import proofs.«01_k».proof.Proof.FwdCol

@[expose] public section

set_option maxRecDepth 16384

namespace Cert.FwdLoop

open Idealize.ShloMosaic Idealize.ShloMosaic.TcCoe Idealize.SL.Sem
open Cert.MlaFwdIdeal Cert.MlaFwdIdeal.Gen Cert.Rows Cert.FwdTile Cert.FwdCol

/-- The loop of query block `i` makes `i` trips. -/
theorem trips_eq (i : grid0.Coords) : (k0_t1_loop i).trips = (i 1).val := by
  have h : ∀ a : Fin 8, ∀ i : grid0.Coords, (i 1).val = a.val → (k0_t1_loop i).trips = a.val := by
    intro a i hi
    unfold k0_t1_loop
    rw [hi]
    clear hi
    revert a; decide +kernel
  exact h ⟨(i 1).val, (i 1).isLt⟩ i rfl

/-- The tail loop makes none. -/
theorem trips2_eq (i : grid0.Coords) : (k0_t2_loop i).trips = 0 := by
  have h : ∀ a : Fin 8, ∀ i : grid0.Coords, (i 1).val = a.val → (k0_t2_loop i).trips = 0 := by
    intro a i hi
    unfold k0_t2_loop
    rw [hi]
    clear hi
    revert a; decide +kernel
  exact h ⟨(i 1).val, (i 1).isLt⟩ i rfl

theorem trip_lt (i : grid0.Coords) (k : Fin (k0_t1_loop i).trips) : k.val < (i 1).val := by
  have := trips_eq i; have := k.isLt; omega

/-- The keys of trip `k` start at row `1024 k`. -/
theorem off3_eq (i : grid0.Coords) (k : Fin (k0_t1_loop i).trips) : k0_off3 i k = ![1024 * k.val, 0] := by
  have hk := trip_lt i k
  have h8 : (i 1).val < 8 := (i 1).isLt
  have all : ∀ a : Fin 8, (Scalar.indexCast (Scalar.muli (Scalar.addi (Scalar.muli (Scf.iv (0#32) (1#32) a.val) 1#32) 0#32) 1024#32)).toNat = 1024 * a.val := by decide +kernel
  unfold k0_off3
  exact congrArg (fun n => ![n, 0]) (all ⟨k.val, by omega⟩)

theorem off4_eq (i : grid0.Coords) (k : Fin (k0_t1_loop i).trips) : k0_off4 i k = ![1024 * k.val, 0] := off3_eq i k

/-- The keys of the diagonal tile of block `i` start at row `1024 i`. -/
theorem off1_eq (i : grid0.Coords) : k0_off1 i = ![1024 * (i 1).val, 0] := by
  have all : ∀ a : Fin 8, (Scalar.indexCast (Scalar.muli (Scalar.addi (Scalar.muli (BitVec.ofNat 32 a.val) 1#32) 0#32) 1024#32)).toNat = 1024 * a.val := by decide +kernel
  unfold k0_off1
  exact congrArg (fun n => ![n, 0]) (all ⟨(i 1).val, (i 1).isLt⟩)

theorem off2_eq (i : grid0.Coords) : k0_off2 i = ![1024 * (i 1).val, 0] := off1_eq i

/-- Row `x` of the tile `n` of keys. -/
def tileRow (n : ℕ) (hn : n < 8) (x : Fin 1024) : Fin 8192 := ⟨1024 * n + x.val, by omega⟩

/-- The keys query `j` of block `i` has met: those of the first `n` tiles and, of its own tile, those of its own chunk and of the chunks before. -/
def met (i n : ℕ) (j : Fin 1024) : Finset (Fin 8192) :=
  Finset.univ.filter fun r => r.val < 1024 * n ∨ (1024 * i ≤ r.val ∧ r.val / 64 ≤ (1024 * i + j.val) / 64)

theorem tile_sum (n : ℕ) (hn : n < 8) (g : Fin 8192 → ℝ) :
    ∑ x, g (tileRow n hn x) = ∑ r, if 1024 * n ≤ r.val ∧ r.val < 1024 * (n + 1) then g r else 0 := by
  rw [← Finset.sum_filter]
  refine Finset.sum_bij (fun x _ => tileRow n hn x) ?_ ?_ ?_ ?_
  · intro x _
    refine Finset.mem_filter.mpr ⟨Finset.mem_univ _, ?_, ?_⟩
    · show 1024 * n ≤ 1024 * n + x.val; omega
    · show 1024 * n + x.val < _; omega
  · intro x _ y _ h
    have h' : 1024 * n + x.val = 1024 * n + y.val := congrArg Fin.val h
    exact Fin.ext (by omega)
  · intro r hr
    obtain ⟨-, h1, h2⟩ := Finset.mem_filter.mp hr
    exact ⟨⟨r.val - 1024 * n, by omega⟩, Finset.mem_univ _, Fin.ext (by show 1024 * n + (r.val - 1024 * n) = r.val; omega)⟩
  · intro x _; rfl

/-- A trip adds its tile. -/
theorem met_succ (i n : ℕ) (hi : i < 8) (hn : n < i) (j : Fin 1024) :
    Adds (met i n j) (met i (n + 1) j) (tileRow n (by omega)) (fun _ => True) := by
  intro g
  simp only [if_true]
  rw [tile_sum, met, met, Finset.sum_filter, Finset.sum_filter, ← Finset.sum_add_distrib]
  refine Finset.sum_congr rfl fun r _ => ?_
  by_cases a : r.val < 1024 * n
  · rw [if_pos (Or.inl (by omega)), if_pos (Or.inl a), if_neg (by omega), add_zero]
  · by_cases b : r.val < 1024 * (n + 1)
    · rw [if_pos (Or.inl b), if_neg (by omega), if_pos (by omega), zero_add]
    · rw [if_neg (c := 1024 * n ≤ r.val ∧ r.val < 1024 * (n + 1)) (by omega), add_zero]
      exact if_congr (by omega) rfl rfl

/-- The diagonal tile starts. -/
theorem met_zero (i : ℕ) (hi : i < 8) (j : Fin 1024) :
    Adds ∅ (met i 0 j) (tileRow i hi) (fun x => x.val / 64 ≤ j.val / 64) := by
  intro g
  have e := tile_sum i hi (fun r => if r.val / 64 ≤ (1024 * i + j.val) / 64 then g r else 0)
  have e' : ∀ x : Fin 1024, (if x.val / 64 ≤ j.val / 64 then g (tileRow i hi x) else 0)
      = if (tileRow i hi x).val / 64 ≤ (1024 * i + j.val) / 64 then g (tileRow i hi x) else 0 := fun x =>
    if_congr (by show _ ↔ (1024 * i + x.val) / 64 ≤ _; omega) rfl rfl
  rw [Finset.sum_empty, zero_add, Finset.sum_congr rfl fun x _ => e' x, e, met, Finset.sum_filter]
  refine Finset.sum_congr rfl fun r _ => ?_
  by_cases a : r.val / 64 ≤ (1024 * i + j.val) / 64
  · rw [if_pos a]; exact if_congr (by omega) rfl rfl
  · rw [if_neg a, ite_self, if_neg (by omega)]

/-- After all trips a query has met the keys of its own chunk and of the chunks before. -/
theorem met_all (i : ℕ) (j : Fin 1024) : met i i j = Finset.univ.filter fun r => r.val / 64 ≤ (1024 * i + j.val) / 64 := by
  ext r
  simp only [met, Finset.mem_filter, Finset.mem_univ, true_and]
  omega

section

variable (𝒱 : Variants) (c : Dev nD) (bd : Option 𝒱.V) (i : grid0.Coords) (arg2 : Memref sig .tc .vmem S1024x256 .bf16) (harg2 : arg2.IsWhole)
  (arg3 : Memref sig .tc .vmem S8192x256 .bf16) (harg3 : arg3.IsWhole) (arg4 : Memref sig .tc .vmem S8192x128 .bf16) (harg4 : arg4.IsWhole)
  (arg5 : Memref sig .tc .vmem S1024x128 .f32) (harg5 : arg5.IsWhole) (arg6 : Memref sig .tc .vmem S8x1024 .f32) (harg6 : arg6.IsWhole)
  (arg7 : Memref sig .tc .vmem S128x1024 .f32) (harg7 : arg7.IsWhole) (arg8 : Memref sig .tc .vmem S1x1024 .f32) (harg8 : arg8.IsWhole)
  (arg9 : Memref sig .tc .vmem S1x1024 .f32) (harg9 : arg9.IsWhole) (v1 : FVec Ideal S1024x256 .bf16)
  (X3 : BufTy.Contents (Elt Ideal) arg3.view.ty) (X4 : BufTy.Contents (Elt Ideal) arg4.view.ty)

/-- The running softmax of the block's queries as three buffers hold it. -/
def Holds (S : Fin 1024 → Finset (Fin 8192)) (s : Fin 1024 → Fin 8192 → ℝ) (w : Fin 8192 → Fin 128 → ℝ) (f7 : BufTy.Contents (Elt Ideal) arg7.view.ty)
    (f8 : BufTy.Contents (Elt Ideal) arg8.view.ty) (f9 : BufTy.Contents (Elt Ideal) arg9.view.ty) : Prop :=
  ∀ j, State (S j) (s j) w (arg8.view.read (Elt Ideal) f8 (ix2 0 j)) (arg9.view.read (Elt Ideal) f9 (ix2 0 j)) (fun d => arg7.view.read (Elt Ideal) f7 (ix2 d j))

variable (k : Fin (k0_t1_loop i).trips) (f7 : BufTy.Contents (Elt Ideal) arg7.view.ty) (f8 : BufTy.Contents (Elt Ideal) arg8.view.ty) (f9 : BufTy.Contents (Elt Ideal) arg9.view.ty)

/-- The keys a trip loads. -/
noncomputable def keys : FVec Ideal S1024x256 .bf16 :=
  arg3.view.readAt (Elt Ideal) (Rect.unit (s := S8192x256) (k0_off3 i k) S1024x256.size (k0_off3_inb i k)).toLoadRect X3

/-- The values a trip loads. -/
noncomputable def vals : FVec Ideal S1024x128 .bf16 :=
  arg4.view.readAt (Elt Ideal) (Rect.unit (s := S8192x128) (k0_off4 i k) S1024x128.size (k0_off4_inb i k)).toLoadRect X4

/-- The running product a trip loads. -/
noncomputable def acc : FVec Ideal S128x1024 .f32 :=
  arg7.view.readAt (Elt Ideal) (Rect.unit (s := S128x1024) ![0, 0] S128x1024.size inb_S128x1024_S128x1024_0_0).toLoadRect f7

/-- The running maximum a trip loads. -/
noncomputable def mx : FVec Ideal S1x1024 .f32 :=
  arg8.view.readAt (Elt Ideal) (Rect.unit (s := S1x1024) ![0, 0] S1x1024.size inb_S1x1024_S1x1024_0_0).toLoadRect f8

/-- The running sum a trip loads. -/
noncomputable def sm : FVec Ideal S1x1024 .f32 :=
  arg9.view.readAt (Elt Ideal) (Rect.unit (s := S1x1024) ![0, 0] S1x1024.size inb_S1x1024_S1x1024_0_0).toLoadRect f9

theorem pieces7 : (tripL_k0_t1 (F := Ideal) 𝒱 c bd i arg2 harg2 arg3 harg3 arg4 harg4 arg5 harg5 arg6 harg6 arg7 harg7 arg8 harg8 arg9 harg9 v1 X3 X4 k f7 f8 f9).1
    = [⟨Rect.unit (s := S128x1024) ![0, 0] S128x1024.size inb_S128x1024_S128x1024_0_0, k0_pay1 (k0_pay12 v1 (keys i arg3 X3 k) (mx arg8 f8) (acc arg7 f7) (vals i arg4 X4 k))⟩] := by
  unfold tripL_k0_t1 trip_k0_t1
  rfl

theorem pieces8 : (tripL_k0_t1 (F := Ideal) 𝒱 c bd i arg2 harg2 arg3 harg3 arg4 harg4 arg5 harg5 arg6 harg6 arg7 harg7 arg8 harg8 arg9 harg9 v1 X3 X4 k f7 f8 f9).2.1
    = [⟨Rect.unit (s := S1x1024) ![0, 0] S1x1024.size inb_S1x1024_S1x1024_0_0, k0_pay2 (k0_pay8 v1 (keys i arg3 X3 k) (mx arg8 f8))⟩] := by
  unfold tripL_k0_t1 trip_k0_t1
  rfl

theorem pieces9 : (tripL_k0_t1 (F := Ideal) 𝒱 c bd i arg2 harg2 arg3 harg3 arg4 harg4 arg5 harg5 arg6 harg6 arg7 harg7 arg8 harg8 arg9 harg9 v1 X3 X4 k f7 f8 f9).2.2
    = [⟨Rect.unit (s := S1x1024) ![0, 0] S1x1024.size inb_S1x1024_S1x1024_0_0, k0_pay11 v1 (keys i arg3 X3 k) (mx arg8 f8) (sm arg9 f9)⟩] := by
  unfold tripL_k0_t1 trip_k0_t1
  rfl

variable {s : Fin 1024 → Fin 8192 → ℝ} {w : Fin 8192 → Fin 128 → ℝ}
  (hs : ∀ (r : Fin 8192) (j : Fin 1024), ((∑ t : Fin 256, (arg3.view.read (Elt Ideal) X3 (ix2 r t) : EReal) * v1 (ix2 j t)) * Cert.Tile.sc : EReal) = ((s j r : ℝ) : EReal))
  (hw : ∀ (r : Fin 8192) (d : Fin 128), (arg4.view.read (Elt Ideal) X4 (ix2 r d) : EReal) = ((w r d : ℝ) : EReal))
include hs hw

/-- A trip adds its tile to the running softmax. -/
theorem trip (h : Holds arg7 arg8 arg9 (met (i 1).val k.val) s w f7 f8 f9) :
    Holds arg7 arg8 arg9 (met (i 1).val (k.val + 1)) s w
      (arg7.view.writes (Elt Ideal) f7 (tripL_k0_t1 (F := Ideal) 𝒱 c bd i arg2 harg2 arg3 harg3 arg4 harg4 arg5 harg5 arg6 harg6 arg7 harg7 arg8 harg8 arg9 harg9 v1 X3 X4 k f7 f8 f9).1)
      (arg8.view.writes (Elt Ideal) f8 (tripL_k0_t1 (F := Ideal) 𝒱 c bd i arg2 harg2 arg3 harg3 arg4 harg4 arg5 harg5 arg6 harg6 arg7 harg7 arg8 harg8 arg9 harg9 v1 X3 X4 k f7 f8 f9).2.1)
      (arg9.view.writes (Elt Ideal) f9 (tripL_k0_t1 (F := Ideal) 𝒱 c bd i arg2 harg2 arg3 harg3 arg4 harg4 arg5 harg5 arg6 harg6 arg7 harg7 arg8 harg8 arg9 harg9 v1 X3 X4 k f7 f8 f9).2.2) := by
  have hk := trip_lt i k
  have h8 : (i 1).val < 8 := (i 1).isLt
  intro j
  rw [pieces7, pieces8, pieces9]
  have em : mx arg8 f8 (ix2 0 j) = arg8.view.read (Elt Ideal) f8 (ix2 0 j) := load_whole arg8.view f8 inb_S1x1024_S1x1024_0_0 0 j
  have el : sm arg9 f9 (ix2 0 j) = arg9.view.read (Elt Ideal) f9 (ix2 0 j) := load_whole arg9.view f9 inb_S1x1024_S1x1024_0_0 0 j
  have ea : ∀ d, acc arg7 f7 (ix2 d j) = arg7.view.read (Elt Ideal) f7 (ix2 d j) := fun d => load_whole arg7.view f7 inb_S128x1024_S128x1024_0_0 d j
  refine step (met_succ (i 1).val k.val h8 hk j) (z := fun x => scores (keys i arg3 X3 k) v1 x j) (v := fun x d => vals i arg4 X4 k (ix2 x d)) ?_ ?_ (h j) ?_ ?_ ?_
  · intro x
    rw [if_pos trivial, ← hs]
    unfold scores
    congr 1
    refine Finset.sum_congr rfl fun t _ => ?_
    congr 1
    exact load_rows arg3.view X3 (k0_off3_inb i k) (off3_eq i k) x t (tileRow k.val (by omega) x).isLt
  · intro x d
    rw [← hw]
    exact load_rows arg4.view X4 (k0_off4_inb i k) (off4_eq i k) x d (tileRow k.val (by omega) x).isLt
  · refine (read_store_whole arg8.view f8 [] inb_S1x1024_S1x1024_0_0 _ 0 j).trans ((pay2 _ j).trans ((pay8 _ _ _ j).trans ?_))
    unfold nextM
    rw [em]
  · refine (read_store_whole arg9.view f9 [] inb_S1x1024_S1x1024_0_0 _ 0 j).trans ((pay11 _ _ _ _ j).trans ?_)
    have e := (read_store_whole arg8.view f8 [] inb_S1x1024_S1x1024_0_0 (k0_pay2 (k0_pay8 v1 (keys i arg3 X3 k) (mx arg8 f8))) 0 j).trans ((pay2 _ j).trans (pay8 _ _ _ j))
    unfold nextL
    rw [← e, em, el]
  · intro d
    refine (read_store_whole arg7.view f7 [] inb_S128x1024_S128x1024_0_0 _ d j).trans ((pay1 _ d j).trans ((pay12 _ _ _ _ _ d j).trans ?_))
    have e := (read_store_whole arg8.view f8 [] inb_S1x1024_S1x1024_0_0 (k0_pay2 (k0_pay8 v1 (keys i arg3 X3 k) (mx arg8 f8))) 0 j).trans ((pay2 _ j).trans (pay8 _ _ _ j))
    unfold nextA
    rw [← e, em, ea]

/-- The running softmax after `n` trips. -/
theorem loop (h : Holds arg7 arg8 arg9 (met (i 1).val 0) s w f7 f8 f9) (n : ℕ) (hn : n ≤ (i 1).val) :
    Holds arg7 arg8 arg9 (met (i 1).val n) s w
      (arg7.view.writes (Elt Ideal) f7 (pb_k0_t1 (F := Ideal) 𝒱 c bd i arg2 harg2 arg3 harg3 arg4 harg4 arg5 harg5 arg6 harg6 arg7 harg7 arg8 harg8 arg9 harg9 v1 X3 X4 f7 f8 f9 n).1)
      (arg8.view.writes (Elt Ideal) f8 (pb_k0_t1 (F := Ideal) 𝒱 c bd i arg2 harg2 arg3 harg3 arg4 harg4 arg5 harg5 arg6 harg6 arg7 harg7 arg8 harg8 arg9 harg9 v1 X3 X4 f7 f8 f9 n).2.1)
      (arg9.view.writes (Elt Ideal) f9 (pb_k0_t1 (F := Ideal) 𝒱 c bd i arg2 harg2 arg3 harg3 arg4 harg4 arg5 harg5 arg6 harg6 arg7 harg7 arg8 harg8 arg9 harg9 v1 X3 X4 f7 f8 f9 n).2.2) := by
  induction n with
  | zero => rw [pb_k0_t1.eq_1]; exact h
  | succ n ih =>
    rw [pb_k0_t1_succ 𝒱 c bd i arg2 harg2 arg3 harg3 arg4 harg4 arg5 harg5 arg6 harg6 arg7 harg7 arg8 harg8 arg9 harg9 v1 X3 X4 f7 f8 f9 ⟨n, by rw [trips_eq]; omega⟩]
    dsimp only
    rw [View.writes_append, View.writes_append, View.writes_append]
    exact trip 𝒱 c bd i arg2 harg2 arg3 harg3 arg4 harg4 arg5 harg5 arg6 harg6 arg7 harg7 arg8 harg8 arg9 harg9 v1 X3 X4 ⟨n, by rw [trips_eq]; omega⟩ _ _ _ hs hw (ih (by omega))

end

end Cert.FwdLoop

end
-- ==== Proof.FwdPoint.lean ====
/- What one grid point of the forward kernel stores: the attention's output of a block of queries and the logarithms of the rows' sums. -/
module

public import proofs.«01_k».proof.Proof.Gen.MlaFwdIdeal.Value
public import proofs.«01_k».proof.Proof.FwdLoop

@[expose] public section

set_option maxRecDepth 16384

namespace Cert.FwdPoint

open Idealize.ShloMosaic Idealize.ShloMosaic.TcCoe Idealize.SL.Sem
open Cert.MlaFwdIdeal Cert.MlaFwdIdeal.Gen Cert.Rows Cert.FwdTile Cert.FwdCol Cert.FwdLoop

section

variable (c : Dev nD) (i : grid0.Coords) (arg2 : Memref sig .tc .vmem S1024x256 .bf16) (harg2 : arg2.IsWhole)
  (arg3 : Memref sig .tc .vmem S8192x256 .bf16) (harg3 : arg3.IsWhole) (arg4 : Memref sig .tc .vmem S8192x128 .bf16) (harg4 : arg4.IsWhole)
  (arg5 : Memref sig .tc .vmem S1024x128 .f32) (harg5 : arg5.IsWhole) (arg6 : Memref sig .tc .vmem S8x1024 .f32) (harg6 : arg6.IsWhole)
  (arg7 : Memref sig .tc .vmem S128x1024 .f32) (harg7 : arg7.IsWhole) (arg8 : Memref sig .tc .vmem S1x1024 .f32) (harg8 : arg8.IsWhole)
  (arg9 : Memref sig .tc .vmem S1x1024 .f32) (harg9 : arg9.IsWhole)
  (x0 : Vec Ideal S1024x256 .bf16) (x1 : Vec Ideal S8192x256 .bf16) (x2 : Vec Ideal S8192x128 .bf16)

/-- The block's queries. -/
noncomputable def queries : FVec Ideal S1024x256 .bf16 :=
  k0_pay19 (arg2.view.readAt (Elt Ideal) (Rect.unit (s := S1024x256) ![0, 0] S1024x256.size inb_S1024x256_S1024x256_0_0).toLoadRect (harg2.unread x0))

/-- The keys of the diagonal tile. -/
noncomputable def diagKeys : FVec Ideal S1024x256 .bf16 :=
  arg3.view.readAt (Elt Ideal) (Rect.unit (s := S8192x256) (k0_off1 i) S1024x256.size (k0_off1_inb i)).toLoadRect (harg3.unread x1)

/-- The values of the diagonal tile. -/
noncomputable def diagVals : FVec Ideal S1024x128 .bf16 :=
  arg4.view.readAt (Elt Ideal) (Rect.unit (s := S8192x128) (k0_off2 i) S1024x128.size (k0_off2_inb i)).toLoadRect (harg4.unread x2)

/-- The masked scores of the diagonal tile. -/
noncomputable def diag : FVec Ideal S1024x1024 .f32 :=
  k0_pay27 (queries arg2 harg2 x0) k0_pay20 k0_pay21 64#32 k0_pay22 k0_pay23 1#32 (diagKeys i arg3 harg3 x1)

/-- The maximum before any key. -/
noncomputable def m0 : FVec Ideal S1x1024 .f32 := arg8.view.readCov (Val := Elt Ideal) [⟨(Rect.unit (s := S1x1024) ![0, 0] S1x1024.size inb_S1x1024_S1x1024_0_0), k0_pay25 (F := Ideal)⟩] (Rect.unit (s := S1x1024) ![0, 0] S1x1024.size inb_S1x1024_S1x1024_0_0).toLoadRect

/-- The sum before any key. -/
noncomputable def l0 : FVec Ideal S1x1024 .f32 := arg9.view.readCov (Val := Elt Ideal) [⟨(Rect.unit (s := S1x1024) ![0, 0] S1x1024.size inb_S1x1024_S1x1024_0_0), k0_pay26 (F := Ideal)⟩] (Rect.unit (s := S1x1024) ![0, 0] S1x1024.size inb_S1x1024_S1x1024_0_0).toLoadRect

/-- The product before any key. -/
noncomputable def a0 : FVec Ideal S128x1024 .f32 := arg7.view.readCov (Val := Elt Ideal) [⟨(Rect.unit (s := S128x1024) ![0, 0] S128x1024.size inb_S128x1024_S128x1024_0_0), k0_pay24 (F := Ideal)⟩] (Rect.unit (s := S128x1024) ![0, 0] S128x1024.size inb_S128x1024_S128x1024_0_0).toLoadRect

/-- The product's stores up to the diagonal tile's. -/
noncomputable def D7 : List (View.Piece (Elt Ideal) S128x1024 .f32) :=
  [⟨(Rect.unit (s := S128x1024) ![0, 0] S128x1024.size inb_S128x1024_S128x1024_0_0), k0_pay32 (F := Ideal) (diag i arg2 harg2 arg3 harg3 x0 x1) (m0 arg8) (a0 arg7) (diagVals i arg4 harg4 x2)⟩, ⟨(Rect.unit (s := S128x1024) ![0, 0] S128x1024.size inb_S128x1024_S128x1024_0_0), k0_pay24 (F := Ideal)⟩]

/-- The maximum's stores up to the diagonal tile's. -/
noncomputable def D8 : List (View.Piece (Elt Ideal) S1x1024 .f32) :=
  [⟨(Rect.unit (s := S1x1024) ![0, 0] S1x1024.size inb_S1x1024_S1x1024_0_0), k0_pay33 (F := Ideal) (diag i arg2 harg2 arg3 harg3 x0 x1) (m0 arg8)⟩, ⟨(Rect.unit (s := S1x1024) ![0, 0] S1x1024.size inb_S1x1024_S1x1024_0_0), k0_pay25 (F := Ideal)⟩]

/-- The sum's stores up to the diagonal tile's. -/
noncomputable def D9 : List (View.Piece (Elt Ideal) S1x1024 .f32) :=
  [⟨(Rect.unit (s := S1x1024) ![0, 0] S1x1024.size inb_S1x1024_S1x1024_0_0), k0_pay31 (F := Ideal) (diag i arg2 harg2 arg3 harg3 x0 x1) (m0 arg8) (l0 arg9)⟩, ⟨(Rect.unit (s := S1x1024) ![0, 0] S1x1024.size inb_S1x1024_S1x1024_0_0), k0_pay26 (F := Ideal)⟩]

theorem pieces3 : ∃ v g7 g8 g9, (kernelRun0_A (F := Ideal) c i arg2 harg2 arg3 harg3 arg4 harg4 arg5 harg5 arg6 harg6 arg7 harg7 arg8 harg8 arg9 harg9 x0 x1 x2).1
    = [⟨Rect.unit (s := S1024x128) ![0, 0] S1024x128.size inb_S1024x128_S1024x128_0_0, k0_pay5 (F := Ideal) (arg7.view.readCov (Val := Elt Ideal) ((pb_k0_t2 (F := Ideal) Variants.none c none i arg2 harg2 arg3 harg3 arg4 harg4 arg5 harg5 arg6 harg6 arg7 harg7 arg8 harg8 arg9 harg9 (queries arg2 harg2 x0) v (harg3.unread x1) (harg4.unread x2) g7 g8 g9 (Scf.trips (k0_t2_loop i).lb (k0_t2_loop i).ub (k0_t2_loop i).st)).1 ++ ((pb_k0_t1 (F := Ideal) Variants.none c none i arg2 harg2 arg3 harg3 arg4 harg4 arg5 harg5 arg6 harg6 arg7 harg7 arg8 harg8 arg9 harg9 (queries arg2 harg2 x0) (harg3.unread x1) (harg4.unread x2) (arg7.view.writes (Elt Ideal) arg7.view.junk (D7 i arg2 harg2 arg3 harg3 arg4 harg4 arg7 arg8 x0 x1 x2)) (arg8.view.writes (Elt Ideal) arg8.view.junk (D8 i arg2 harg2 arg3 harg3 arg8 x0 x1)) (arg9.view.writes (Elt Ideal) arg9.view.junk (D9 i arg2 harg2 arg3 harg3 arg8 arg9 x0 x1)) (Scf.trips (k0_t1_loop i).lb (k0_t1_loop i).ub (k0_t1_loop i).st)).1 ++ D7 i arg2 harg2 arg3 harg3 arg4 harg4 arg7 arg8 x0 x1 x2)) (Rect.unit (s := S128x1024) ![0, 0] S128x1024.size inb_S128x1024_S128x1024_0_0).toLoadRect) (arg9.view.readCov (Val := Elt Ideal) ((pb_k0_t2 (F := Ideal) Variants.none c none i arg2 harg2 arg3 harg3 arg4 harg4 arg5 harg5 arg6 harg6 arg7 harg7 arg8 harg8 arg9 harg9 (queries arg2 harg2 x0) v (harg3.unread x1) (harg4.unread x2) g7 g8 g9 (Scf.trips (k0_t2_loop i).lb (k0_t2_loop i).ub (k0_t2_loop i).st)).2.2 ++ ((pb_k0_t1 (F := Ideal) Variants.none c none i arg2 harg2 arg3 harg3 arg4 harg4 arg5 harg5 arg6 harg6 arg7 harg7 arg8 harg8 arg9 harg9 (queries arg2 harg2 x0) (harg3.unread x1) (harg4.unread x2) (arg7.view.writes (Elt Ideal) arg7.view.junk (D7 i arg2 harg2 arg3 harg3 arg4 harg4 arg7 arg8 x0 x1 x2)) (arg8.view.writes (Elt Ideal) arg8.view.junk (D8 i arg2 harg2 arg3 harg3 arg8 x0 x1)) (arg9.view.writes (Elt Ideal) arg9.view.junk (D9 i arg2 harg2 arg3 harg3 arg8 arg9 x0 x1)) (Scf.trips (k0_t1_loop i).lb (k0_t1_loop i).ub (k0_t1_loop i).st)).2.2 ++ D9 i arg2 harg2 arg3 harg3 arg8 arg9 x0 x1)) (Rect.unit (s := S1x1024) ![0, 0] S1x1024.size inb_S1x1024_S1x1024_0_0).toLoadRect)⟩] := by
  unfold kernelRun0_A
  dsimp only
  sl_unfold_words
  exact ⟨_, _, _, _, rfl⟩

theorem pieces4 : ∃ v g7 g8 g9, (kernelRun0_A (F := Ideal) c i arg2 harg2 arg3 harg3 arg4 harg4 arg5 harg5 arg6 harg6 arg7 harg7 arg8 harg8 arg9 harg9 x0 x1 x2).2.1
    = [⟨Rect.unit (s := S8x1024) ![0, 0] S8x1024.size inb_S8x1024_S8x1024_0_0, k0_pay6 (F := Ideal) (arg8.view.readCov (Val := Elt Ideal) ((pb_k0_t2 (F := Ideal) Variants.none c none i arg2 harg2 arg3 harg3 arg4 harg4 arg5 harg5 arg6 harg6 arg7 harg7 arg8 harg8 arg9 harg9 (queries arg2 harg2 x0) v (harg3.unread x1) (harg4.unread x2) g7 g8 g9 (Scf.trips (k0_t2_loop i).lb (k0_t2_loop i).ub (k0_t2_loop i).st)).2.1 ++ ((pb_k0_t1 (F := Ideal) Variants.none c none i arg2 harg2 arg3 harg3 arg4 harg4 arg5 harg5 arg6 harg6 arg7 harg7 arg8 harg8 arg9 harg9 (queries arg2 harg2 x0) (harg3.unread x1) (harg4.unread x2) (arg7.view.writes (Elt Ideal) arg7.view.junk (D7 i arg2 harg2 arg3 harg3 arg4 harg4 arg7 arg8 x0 x1 x2)) (arg8.view.writes (Elt Ideal) arg8.view.junk (D8 i arg2 harg2 arg3 harg3 arg8 x0 x1)) (arg9.view.writes (Elt Ideal) arg9.view.junk (D9 i arg2 harg2 arg3 harg3 arg8 arg9 x0 x1)) (Scf.trips (k0_t1_loop i).lb (k0_t1_loop i).ub (k0_t1_loop i).st)).2.1 ++ D8 i arg2 harg2 arg3 harg3 arg8 x0 x1)) (Rect.unit (s := S1x1024) ![0, 0] S1x1024.size inb_S1x1024_S1x1024_0_0).toLoadRect) (arg9.view.readCov (Val := Elt Ideal) ((pb_k0_t2 (F := Ideal) Variants.none c none i arg2 harg2 arg3 harg3 arg4 harg4 arg5 harg5 arg6 harg6 arg7 harg7 arg8 harg8 arg9 harg9 (queries arg2 harg2 x0) v (harg3.unread x1) (harg4.unread x2) g7 g8 g9 (Scf.trips (k0_t2_loop i).lb (k0_t2_loop i).ub (k0_t2_loop i).st)).2.2 ++ ((pb_k0_t1 (F := Ideal) Variants.none c none i arg2 harg2 arg3 harg3 arg4 harg4 arg5 harg5 arg6 harg6 arg7 harg7 arg8 harg8 arg9 harg9 (queries arg2 harg2 x0) (harg3.unread x1) (harg4.unread x2) (arg7.view.writes (Elt Ideal) arg7.view.junk (D7 i arg2 harg2 arg3 harg3 arg4 harg4 arg7 arg8 x0 x1 x2)) (arg8.view.writes (Elt Ideal) arg8.view.junk (D8 i arg2 harg2 arg3 harg3 arg8 x0 x1)) (arg9.view.writes (Elt Ideal) arg9.view.junk (D9 i arg2 harg2 arg3 harg3 arg8 arg9 x0 x1)) (Scf.trips (k0_t1_loop i).lb (k0_t1_loop i).ub (k0_t1_loop i).st)).2.2 ++ D9 i arg2 harg2 arg3 harg3 arg8 arg9 x0 x1)) (Rect.unit (s := S1x1024) ![0, 0] S1x1024.size inb_S1x1024_S1x1024_0_0).toLoadRect)⟩] := by
  unfold kernelRun0_A
  dsimp only
  sl_unfold_words
  exact ⟨_, _, _, _, rfl⟩

/-- The tail loop stores nothing. -/
theorem tail (v : BitVec 32) (v1 : FVec Ideal S1024x256 .bf16) (X3 : BufTy.Contents (Elt Ideal) arg3.view.ty) (X4 : BufTy.Contents (Elt Ideal) arg4.view.ty) (g7 : BufTy.Contents (Elt Ideal) arg7.view.ty)
    (g8 : BufTy.Contents (Elt Ideal) arg8.view.ty) (g9 : BufTy.Contents (Elt Ideal) arg9.view.ty) :
    (pb_k0_t2 (F := Ideal) Variants.none c none i arg2 harg2 arg3 harg3 arg4 harg4 arg5 harg5 arg6 harg6 arg7 harg7 arg8 harg8 arg9 harg9 (v1) v (X3) (X4) g7 g8 g9 (Scf.trips (k0_t2_loop i).lb (k0_t2_loop i).ub (k0_t2_loop i).st)) = ([], [], []) := by
  rw [show (Scf.trips (k0_t2_loop i).lb (k0_t2_loop i).ub (k0_t2_loop i).st) = 0 from trips2_eq i]; rfl

theorem queries_apply (j : Fin 1024) (t : Fin 256) : queries arg2 harg2 x0 (ix2 j t) = x0 (ix2 j t) := by
  have e : ∀ y : FVec Ideal S1024x256 .bf16, k0_pay19 (F := Ideal) y (ix2 j t) = y (ix2 j t) := fun y => by pointwise [k0_pay19]
  refine (e _).trans ((load_whole arg2.view _ inb_S1024x256_S1024x256_0_0 j t).trans ?_)
  rw [harg2.read_unread]

variable {s : Fin 1024 → Fin 8192 → ℝ} {w : Fin 8192 → Fin 128 → ℝ}
  (hs : ∀ (r : Fin 8192) (j : Fin 1024), ((∑ t : Fin 256, (x1 (ix2 r t) : EReal) * x0 (ix2 j t)) * Cert.Tile.sc : EReal) = ((s j r : ℝ) : EReal))
  (hw : ∀ (r : Fin 8192) (d : Fin 128), (x2 (ix2 r d) : EReal) = ((w r d : ℝ) : EReal))
include hs hw

omit hw in
/-- The diagonal tile's masked scores. -/
theorem diag_apply (x j : Fin 1024) :
    (diag i arg2 harg2 arg3 harg3 x0 x1 (ix2 x j) : EReal)
      = if x.val / 64 ≤ j.val / 64 then ((s j (tileRow (i 1).val (i 1).isLt x) : ℝ) : EReal) else ⊥ := by
  refine (pay27 _ _ x j).trans (if_congr Iff.rfl ?_ rfl)
  rw [← hs]
  unfold scores
  refine congrArg₂ (· * ·) ?_ rfl
  refine Finset.sum_congr rfl fun t _ => ?_
  rw [queries_apply]
  refine congrArg₂ (· * ·) ?_ rfl
  refine (load_rows arg3.view _ (k0_off1_inb i) (off1_eq i) x t (tileRow (i 1).val (i 1).isLt x).isLt).trans ?_
  rw [harg3.read_unread]; rfl

omit hs in
/-- The diagonal tile's values. -/
theorem vals_apply (x : Fin 1024) (d : Fin 128) :
    (diagVals i arg4 harg4 x2 (ix2 x d) : EReal) = ((w (tileRow (i 1).val (i 1).isLt x) d : ℝ) : EReal) := by
  rw [← hw]
  refine (load_rows arg4.view _ (k0_off2_inb i) (off2_eq i) x d (tileRow (i 1).val (i 1).isLt x).isLt).trans ?_
  rw [harg4.read_unread]; rfl

omit hs hw in
/-- The maximum the diagonal tile leaves. -/
theorem first_max (j : Fin 1024) : arg8.view.read (Elt Ideal) (arg8.view.writes (Elt Ideal) arg8.view.junk (D8 i arg2 harg2 arg3 harg3 arg8 x0 x1)) (ix2 0 j)
    = nextM (fun x j => diag i arg2 harg2 arg3 harg3 x0 x1 (ix2 x j)) (m0 arg8) j :=
  (read_store_whole (Val := Elt Ideal) arg8.view arg8.view.junk [⟨(Rect.unit (s := S1x1024) ![0, 0] S1x1024.size inb_S1x1024_S1x1024_0_0), k0_pay25 (F := Ideal)⟩] inb_S1x1024_S1x1024_0_0
    (k0_pay33 (F := Ideal) (diag i arg2 harg2 arg3 harg3 x0 x1) (m0 arg8)) 0 j).trans (pay33 _ _ j)

omit hs hw in
/-- The sum the diagonal tile leaves. -/
theorem first_sum (j : Fin 1024) : arg9.view.read (Elt Ideal) (arg9.view.writes (Elt Ideal) arg9.view.junk (D9 i arg2 harg2 arg3 harg3 arg8 arg9 x0 x1)) (ix2 0 j)
    = nextL (fun x j => diag i arg2 harg2 arg3 harg3 x0 x1 (ix2 x j)) (m0 arg8) (l0 arg9) j :=
  (read_store_whole (Val := Elt Ideal) arg9.view arg9.view.junk [⟨(Rect.unit (s := S1x1024) ![0, 0] S1x1024.size inb_S1x1024_S1x1024_0_0), k0_pay26 (F := Ideal)⟩] inb_S1x1024_S1x1024_0_0
    (k0_pay31 (F := Ideal) (diag i arg2 harg2 arg3 harg3 x0 x1) (m0 arg8) (l0 arg9)) 0 j).trans (pay31 _ _ _ j)

omit hs hw in
/-- The weighted values the diagonal tile leaves. -/
theorem first_acc (d : Fin 128) (j : Fin 1024) : arg7.view.read (Elt Ideal) (arg7.view.writes (Elt Ideal) arg7.view.junk (D7 i arg2 harg2 arg3 harg3 arg4 harg4 arg7 arg8 x0 x1 x2)) (ix2 d j)
    = nextA (fun x j => diag i arg2 harg2 arg3 harg3 x0 x1 (ix2 x j)) (m0 arg8) (a0 arg7) (diagVals i arg4 harg4 x2) d j :=
  (read_store_whole (Val := Elt Ideal) arg7.view arg7.view.junk [⟨(Rect.unit (s := S128x1024) ![0, 0] S128x1024.size inb_S128x1024_S128x1024_0_0), k0_pay24 (F := Ideal)⟩] inb_S128x1024_S128x1024_0_0
    (k0_pay32 (F := Ideal) (diag i arg2 harg2 arg3 harg3 x0 x1) (m0 arg8) (a0 arg7) (diagVals i arg4 harg4 x2)) d j).trans (pay32 _ _ _ _ d j)

/-- The running softmax after the diagonal tile. -/
theorem first : Holds arg7 arg8 arg9 (met (i 1).val 0) s w (arg7.view.writes (Elt Ideal) arg7.view.junk (D7 i arg2 harg2 arg3 harg3 arg4 harg4 arg7 arg8 x0 x1 x2)) (arg8.view.writes (Elt Ideal) arg8.view.junk (D8 i arg2 harg2 arg3 harg3 arg8 x0 x1)) (arg9.view.writes (Elt Ideal) arg9.view.junk (D9 i arg2 harg2 arg3 harg3 arg8 arg9 x0 x1)) := by
  have h8 : (i 1).val < 8 := (i 1).isLt
  intro j
  have em : m0 arg8 (ix2 0 j) = ⊥ := (cov_whole arg8.view [] inb_S1x1024_S1x1024_0_0 _ 0 j).trans (pay25 j)
  have el : l0 arg9 (ix2 0 j) = 0 := (cov_whole arg9.view [] inb_S1x1024_S1x1024_0_0 _ 0 j).trans (pay26 j)
  have ea : ∀ d, a0 arg7 (ix2 d j) = 0 := fun d => (cov_whole arg7.view [] inb_S128x1024_S128x1024_0_0 _ d j).trans (pay24 d j)
  have e := first_max i arg2 harg2 arg3 harg3 arg8 x0 x1 j
  have e9 := first_sum i arg2 harg2 arg3 harg3 arg8 arg9 x0 x1 j
  have e7 := fun d => first_acc i arg2 harg2 arg3 harg3 arg4 harg4 arg7 arg8 x0 x1 x2 d j
  refine start (met_zero (i 1).val h8 j) (z := fun x => diag i arg2 harg2 arg3 harg3 x0 x1 (ix2 x j)) (v := fun x d => diagVals i arg4 harg4 x2 (ix2 x d))
    (fun x => diag_apply i arg2 harg2 arg3 harg3 x0 x1 hs x j) (fun x d => vals_apply i arg4 harg4 x2 hw x d)
    ⟨⟨0, by omega⟩, by show 0 / 64 ≤ _; omega⟩ em el ea e ?_ ?_
  · refine e9.trans ?_
    rw [e]; rfl
  · intro d
    refine (e7 d).trans ?_
    rw [e]; rfl

/-- The running softmax at the end. -/
theorem last : Holds arg7 arg8 arg9 (met (i 1).val (i 1).val) s w
    (arg7.view.writes (Elt Ideal) (arg7.view.writes (Elt Ideal) arg7.view.junk (D7 i arg2 harg2 arg3 harg3 arg4 harg4 arg7 arg8 x0 x1 x2)) (pb_k0_t1 (F := Ideal) Variants.none c none i arg2 harg2 arg3 harg3 arg4 harg4 arg5 harg5 arg6 harg6 arg7 harg7 arg8 harg8 arg9 harg9 (queries arg2 harg2 x0) (harg3.unread x1) (harg4.unread x2) (arg7.view.writes (Elt Ideal) arg7.view.junk (D7 i arg2 harg2 arg3 harg3 arg4 harg4 arg7 arg8 x0 x1 x2)) (arg8.view.writes (Elt Ideal) arg8.view.junk (D8 i arg2 harg2 arg3 harg3 arg8 x0 x1)) (arg9.view.writes (Elt Ideal) arg9.view.junk (D9 i arg2 harg2 arg3 harg3 arg8 arg9 x0 x1)) (Scf.trips (k0_t1_loop i).lb (k0_t1_loop i).ub (k0_t1_loop i).st)).1)
    (arg8.view.writes (Elt Ideal) (arg8.view.writes (Elt Ideal) arg8.view.junk (D8 i arg2 harg2 arg3 harg3 arg8 x0 x1)) (pb_k0_t1 (F := Ideal) Variants.none c none i arg2 harg2 arg3 harg3 arg4 harg4 arg5 harg5 arg6 harg6 arg7 harg7 arg8 harg8 arg9 harg9 (queries arg2 harg2 x0) (harg3.unread x1) (harg4.unread x2) (arg7.view.writes (Elt Ideal) arg7.view.junk (D7 i arg2 harg2 arg3 harg3 arg4 harg4 arg7 arg8 x0 x1 x2)) (arg8.view.writes (Elt Ideal) arg8.view.junk (D8 i arg2 harg2 arg3 harg3 arg8 x0 x1)) (arg9.view.writes (Elt Ideal) arg9.view.junk (D9 i arg2 harg2 arg3 harg3 arg8 arg9 x0 x1)) (Scf.trips (k0_t1_loop i).lb (k0_t1_loop i).ub (k0_t1_loop i).st)).2.1)
    (arg9.view.writes (Elt Ideal) (arg9.view.writes (Elt Ideal) arg9.view.junk (D9 i arg2 harg2 arg3 harg3 arg8 arg9 x0 x1)) (pb_k0_t1 (F := Ideal) Variants.none c none i arg2 harg2 arg3 harg3 arg4 harg4 arg5 harg5 arg6 harg6 arg7 harg7 arg8 harg8 arg9 harg9 (queries arg2 harg2 x0) (harg3.unread x1) (harg4.unread x2) (arg7.view.writes (Elt Ideal) arg7.view.junk (D7 i arg2 harg2 arg3 harg3 arg4 harg4 arg7 arg8 x0 x1 x2)) (arg8.view.writes (Elt Ideal) arg8.view.junk (D8 i arg2 harg2 arg3 harg3 arg8 x0 x1)) (arg9.view.writes (Elt Ideal) arg9.view.junk (D9 i arg2 harg2 arg3 harg3 arg8 arg9 x0 x1)) (Scf.trips (k0_t1_loop i).lb (k0_t1_loop i).ub (k0_t1_loop i).st)).2.2) := by
  rw [show (Scf.trips (k0_t1_loop i).lb (k0_t1_loop i).ub (k0_t1_loop i).st) = (i 1).val from trips_eq i]
  refine loop Variants.none c none i arg2 harg2 arg3 harg3 arg4 harg4 arg5 harg5 arg6 harg6 arg7 harg7 arg8 harg8 arg9 harg9 (queries arg2 harg2 x0) (harg3.unread x1) (harg4.unread x2) _ _ _ ?_ ?_ (first i arg2 harg2 arg3 harg3 arg4 harg4 arg7 arg8 arg9 x0 x1 x2 hs hw) _ le_rfl
  · intro r j
    rw [harg3.read_unread]
    simp only [queries_apply]
    exact hs r j
  · intro r d
    rw [harg4.read_unread]
    exact hw r d

/-- The attention's output a point stores: over the keys a query sees, the values weighted by the exponentials of the scores, over the exponentials' sum. -/
theorem out3 (j : Fin 1024) (d : Fin 128) : out0_A_3 (F := Ideal) c i arg2 harg2 arg3 harg3 arg4 harg4 arg5 harg5 arg6 harg6 arg7 harg7 arg8 harg8 arg9 harg9 x0 x1 x2 (ix2 j d)
    = (((∑ r ∈ met (i 1).val (i 1).val j, w r d * Real.exp (s j r)) / ∑ r ∈ met (i 1).val (i 1).val j, Real.exp (s j r) : ℝ) : EReal) := by
  obtain ⟨v, g7, g8, g9, e⟩ := pieces3 c i arg2 harg2 arg3 harg3 arg4 harg4 arg5 harg5 arg6 harg6 arg7 harg7 arg8 harg8 arg9 harg9 x0 x1 x2
  have h := last c i arg2 harg2 arg3 harg3 arg4 harg4 arg5 harg5 arg6 harg6 arg7 harg7 arg8 harg8 arg9 harg9 x0 x1 x2 hs hw j
  rw [tail] at e
  unfold out0_A_3
  rw [e]
  refine (read_store_whole VO0_3 _ [] inb_S1024x128_S1024x128_0_0 _ j d).trans ((pay5 _ _ j d).trans ?_)
  have n : (met (i 1).val (i 1).val j).Nonempty := ⟨⟨0, by omega⟩, by rw [met_all]; exact Finset.mem_filter.mpr ⟨Finset.mem_univ _, Nat.zero_le _⟩⟩
  refine Eq.trans ?_ (h.quotient n d)
  rw [← View.writes_append, ← View.writes_append]
  exact congrArg₂ Ideal.div (load_whole arg7.view _ inb_S128x1024_S128x1024_0_0 d j) (load_whole arg9.view _ inb_S1x1024_S1x1024_0_0 0 j)

/-- The logarithm of a query's sum of exponentials, which a point stores in eight rows. -/
theorem out4 (b : Fin 8) (j : Fin 1024) : out0_A_4 (F := Ideal) c i arg2 harg2 arg3 harg3 arg4 harg4 arg5 harg5 arg6 harg6 arg7 harg7 arg8 harg8 arg9 harg9 x0 x1 x2 (ix2 b j)
    = ((Real.log (∑ r ∈ met (i 1).val (i 1).val j, Real.exp (s j r)) : ℝ) : EReal) := by
  obtain ⟨v, g7, g8, g9, e⟩ := pieces4 c i arg2 harg2 arg3 harg3 arg4 harg4 arg5 harg5 arg6 harg6 arg7 harg7 arg8 harg8 arg9 harg9 x0 x1 x2
  have h := last c i arg2 harg2 arg3 harg3 arg4 harg4 arg5 harg5 arg6 harg6 arg7 harg7 arg8 harg8 arg9 harg9 x0 x1 x2 hs hw j
  rw [tail] at e
  unfold out0_A_4
  rw [e]
  refine (read_store_whole VO0_4 _ [] inb_S8x1024_S8x1024_0_0 _ b j).trans ((pay6 _ _ b j).trans ?_)
  have n : (met (i 1).val (i 1).val j).Nonempty := ⟨⟨0, by omega⟩, by rw [met_all]; exact Finset.mem_filter.mpr ⟨Finset.mem_univ _, Nat.zero_le _⟩⟩
  refine Eq.trans ?_ (h.logsum n)
  rw [← View.writes_append, ← View.writes_append]
  exact congrArg₂ (fun a b : EReal => a + Ideal.log b) (load_whole arg8.view _ inb_S1x1024_S1x1024_0_0 0 j) (load_whole arg9.view _ inb_S1x1024_S1x1024_0_0 0 j)

end

end Cert.FwdPoint

end
-- ==== Proof.FwdHost.lean ====
/- What the host hands the forward kernel, and the blocks the grid reads of it, on finite arguments. -/
module

public import proofs.«01_k».proof.Proof.FwdRef
public import proofs.«01_k».proof.Proof.FwdPoint
public import proofs.«01_k».proof.Proof.Grads

@[expose] public section

set_option maxRecDepth 16384

namespace Cert.FwdHost

open Idealize.ShloMosaic Idealize.ShloMosaic.TcCoe Idealize.SL.Sem
open Cert.MlaFwdIdeal Cert.MlaFwdIdeal.Gen Cert.Fold Cert.Attn Cert.FwdRef
open Cert.Host (zero_half sum_pad)

variable (m : (ℓ : Loc nD τ sig) → Buf (Elt Ideal) ℓ) (c : Dev nD)

/-- The queries. -/
noncomputable abbrev y0 : FVec Ideal S8x8192x192 .bf16 := m ((c : Thread nD τ).loc main_arg0)
/-- The keys. -/
noncomputable abbrev y1 : FVec Ideal S8x8192x192 .bf16 := m ((c : Thread nD τ).loc main_arg1)
/-- The values. -/
noncomputable abbrev y2 : FVec Ideal S8x8192x128 .bf16 := m ((c : Thread nD τ).loc main_arg2)
/-- The padded queries, heads side by side. -/
noncomputable abbrev aQ : FVec Ideal S8192x2048 .bf16 := V m c main_v2
/-- The padded keys, heads side by side. -/
noncomputable abbrev aK : FVec Ideal S8192x2048 .bf16 := V m c main_v5
/-- The values, heads side by side. -/
noncomputable abbrev aV : FVec Ideal S8192x1024 .bf16 := V m c main_v7

/-- The padded queries at an index. -/
theorem q_eq (h : Fin 8) (a : Fin 8192) (x : Fin 256) : aQ m c (ix2 a (wide h x)) = if p : x.val < 192 then y0 m c (ix3 h a ⟨x.val, p⟩) else 0 := by
  have e : aQ m c = shapeCast _ (transpose S8192x8x256 [1, 0, 2] (pad S8x8192x256 ![0, 0, 0] ![0, 0, 64] ![0, 0, 0] (y0 m c) (sitofp .bf16 (constantI S_ 32 0#32)) pads_S8x8192x192_S8x8192x256_000_000_0640 h_S_) transposes_S8x8192x256_S8192x8x256_1_0_2) shapeCasts_S8192x8x256_S8192x2048 := by
    unfold aQ V
    after_reads_simp
    rfl
  rw [e]
  generalize y0 m c = w0
  pointwise [wide]
  exact dite_congr rfl (fun _ => rfl) fun _ => zero_half

/-- The padded keys at an index. -/
theorem k_eq (h : Fin 8) (a : Fin 8192) (x : Fin 256) : aK m c (ix2 a (wide h x)) = if p : x.val < 192 then y1 m c (ix3 h a ⟨x.val, p⟩) else 0 := by
  have e : aK m c = shapeCast _ (transpose S8192x8x256 [1, 0, 2] (pad S8x8192x256 ![0, 0, 0] ![0, 0, 64] ![0, 0, 0] (y1 m c) (sitofp .bf16 (constantI S_ 32 0#32)) pads_S8x8192x192_S8x8192x256_000_000_0640 h_S_) transposes_S8x8192x256_S8192x8x256_1_0_2) shapeCasts_S8192x8x256_S8192x2048 := by
    unfold aK V
    after_reads_simp
    rfl
  rw [e]
  generalize y1 m c = w0
  pointwise [wide]
  exact dite_congr rfl (fun _ => rfl) fun _ => zero_half

/-- The values at an index. -/
theorem v_eq (h : Fin 8) (a : Fin 8192) (x : Fin 128) : aV m c (ix2 a (narrow h x)) = y2 m c (ix3 h a x) := by
  have e : aV m c = shapeCast _ (transpose S8192x8x128 [1, 0, 2] (y2 m c) transposes_S8x8192x128_S8192x8x128_1_0_2) shapeCasts_S8192x8x128_S8192x1024 := by
    unfold aV V
    after_reads_simp
    rfl
  rw [e]
  generalize y2 m c = w0
  pointwise [narrow]

/-- The grid's second coordinate, the query block. -/
theorem coord1 : ∀ t : Fin cfg0.N, (grid0.coords t 1).val = t.val % 8 := (by decide +kernel : ∀ t : Fin grid0.N, _)

/-- The windows' block indices. -/
theorem idx : ∀ t : Fin cfg0.N, win0_0.index t = ![t.val % 8, t.val / 8] ∧ win0_1.index t = ![0, t.val / 8] ∧ win0_2.index t = ![0, t.val / 8]
    ∧ win0_3.index t = ![t.val % 8, t.val / 8] ∧ win0_4.index t = ![t.val / 8, t.val % 8] :=
  (by decide +kernel : ∀ t : Fin grid0.N, _)

section
variable (t : Fin cfg0.N)

/-- The query block of a point. -/
theorem block_lt : t.val % 8 < 8 := Nat.mod_lt _ (by decide)
/-- The head of a point. -/
def headOf : Fin 8 := ⟨t.val / 8, by have := lt_of_lt_of_eq t.isLt N_0; omega⟩

/-- The queries a point reads. -/
noncomputable abbrev b0 : FVec Ideal S1024x256 .bf16 := iblk m c 0 t
/-- The keys a point reads. -/
noncomputable abbrev b1 : FVec Ideal S8192x256 .bf16 := iblk m c 1 t
/-- The values a point reads. -/
noncomputable abbrev b2 : FVec Ideal S8192x128 .bf16 := iblk m c 2 t

theorem blk0 (a : Fin 1024) (b : Fin 256) : iblk m c 0 t (ix2 a b) = aQ m c (ix2 (pos (t.val % 8) (block_lt t) a) (wide (headOf t) b)) := by
  blk_ext [iblk, aQ, aK, aV, idx t, pos, wide, narrow, headOf]

theorem blk1 (a : Fin 8192) (b : Fin 256) : iblk m c 1 t (ix2 a b) = aK m c (ix2 a (wide (headOf t) b)) := by
  blk_ext [iblk, aQ, aK, aV, idx t, pos, wide, narrow, headOf]

theorem blk2 (a : Fin 8192) (b : Fin 128) : iblk m c 2 t (ix2 a b) = aV m c (ix2 a (narrow (headOf t) b)) := by
  blk_ext [iblk, aQ, aK, aV, idx t, pos, wide, narrow, headOf]
end

variable {q k : Fin 8 → Fin 8192 → Fin 192 → ℝ} {v : Fin 8 → Fin 8192 → Fin 128 → ℝ} {s : ℝ}
  (R : Reals (y0 m c) (y1 m c) (y2 m c) q k v s) (t : Fin cfg0.N)
include R

/-- The scores a point computes. -/
theorem scores_at (r : Fin 8192) (j : Fin 1024) :
    ((∑ x : Fin 256, (b1 m c t (ix2 r x) : EReal) * (b0 m c t (ix2 j x) : EReal)) * Cert.Tile.sc : EReal)
      = ((score (q (headOf t)) (k (headOf t)) s (pos (t.val % 8) (block_lt t) j) r : ℝ) : EReal) := by
  generalize hp : pos (t.val % 8) (block_lt t) j = a
  have e : ∀ x : Fin 256, (b1 m c t (ix2 r x) : EReal) * (b0 m c t (ix2 j x) : EReal)
      = ((if p : x.val < 192 then q (headOf t) a ⟨x.val, p⟩ * k (headOf t) r ⟨x.val, p⟩ else 0 : ℝ) : EReal) := by
    intro x
    refine (congrArg₂ (fun u w : EReal => u * w) ((blk1 m c t r x).trans (k_eq m c _ _ _)) ((blk0 m c t j x).trans (q_eq m c _ _ _))).trans ?_
    rw [hp]
    by_cases p : x.val < 192
    · simp only [dif_pos p, R.q, R.k]
      rw [← EReal.coe_mul, mul_comm]
    · simp only [dif_neg p, mul_zero, EReal.coe_zero]
  rw [Finset.sum_congr rfl fun x _ => e x, coe_sum, sum_pad fun x => q (headOf t) a x * k (headOf t) r x]
  unfold Cert.Tile.sc
  refine (congrArg₂ (fun u w : EReal => u * w) rfl R.s).trans ?_
  rw [← EReal.coe_mul]
  rfl

/-- The values a point reads. -/
theorem values_at (r : Fin 8192) (d : Fin 128) : (b2 m c t (ix2 r d) : EReal) = ((v (headOf t) r d : ℝ) : EReal) :=
  ((blk2 m c t r d).trans (v_eq m c _ _ _)).trans (R.v _ _ _)

end Cert.FwdHost

end
-- ==== Proof.FwdFinal.lean ====
/- The forward kernel's two results are the reference's, whenever the arguments are finite. -/
module

public import proofs.«01_k».proof.Proof.FwdHost
public import proofs.«01_k».proof.Proof.Final
public import proofs.«01_k».proof.Defs
public import proofs.«01_k».proof.Proof.Gen.Pre_finite_fwd

@[expose] public section

set_option maxRecDepth 16384

namespace Cert.FwdFinal

open Idealize.ShloMosaic Idealize.ShloMosaic.TcCoe Idealize.SL.Sem
open Cert.MlaFwdIdeal Cert.MlaFwdIdeal.Gen Cert.Attn Cert.FwdRef Cert.FwdHost
open Cert.Fold (wide narrow pos)
open Cert.Final (real_of_lt top_half narrow_all)
open Cert.MlaFwdRefIdeal.Read (val_main_v28 val_main_v31)

variable (m : (ℓ : Loc nD τ sig) → Buf (Elt Ideal) ℓ) (c : Dev nD)

/-- The first result array. -/
noncomputable def out : Buf (Elt Ideal) ((c : Thread nD τ).loc main_v8_0) := val_main_v28 (F := Ideal) (y0 m c) (y1 m c) (y2 m c)
/-- The second result array. -/
noncomputable def lse : Buf (Elt Ideal) ((c : Thread nD τ).loc main_v8_1) := val_main_v31 (F := Ideal) (y0 m c) (y1 m c)

section
variable {q k : Fin 8 → Fin 8192 → Fin 192 → ℝ} {v : Fin 8 → Fin 8192 → Fin 128 → ℝ} {s : ℝ}
  (R : Reals (y0 m c) (y1 m c) (y2 m c) q k v s) (t : Fin cfg0.N)

/-- The keys a point's query has met are those it sees. -/
theorem met_seen (j : Fin 1024) : Cert.FwdLoop.met (grid0.coords t 1).val (grid0.coords t 1).val j = seen (pos (t.val % 8) (block_lt t) j) := by
  rw [coord1 t]
  exact Cert.FwdLoop.met_all _ _

include R

/-- What a point writes back of the first result. -/
theorem flushed3_eq (hf : (cfg0.win 3).flush t = true) :
    (Gen.dats m 0 c).flushed 3 t = ((cfg0.win 3).blk t).view.read (Elt Ideal) (out m c) := by
  rw [Value.flushed3_A]
  obtain ⟨-, -, -, e3, -⟩ := idx t
  have i0 : win0_3.index t (0 : Fin 2) = t.val % 8 := congrFun e3 0
  have i1 : win0_3.index t (1 : Fin 2) = t.val / 8 := congrFun e3 1
  funext y
  obtain ⟨j, d, rfl⟩ : ∃ (j : Fin 1024) (d : Fin 128), y = ix2 j d := ⟨_, _, eq_ix2 y⟩
  have e : ((cfg0.win 3).blk t).view.emb (ix2 j d) = ix2 (pos (t.val % 8) (block_lt t) j) (narrow (headOf t) d) := by
    funext a; apply Fin.ext
    match a with
    | ⟨0, _⟩ => show win0_3.index t 0 * 1024 + 1 * j.val = 1024 * (t.val % 8) + j.val; rw [i0]; omega
    | ⟨1, _⟩ => show win0_3.index t 1 * 128 + 1 * d.val = 128 * (t.val / 8) + d.val; rw [i1]; omega
  have l := Cert.FwdPoint.out3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
    (b0 m c t) (b1 m c t) (b2 m c t) (scores_at m c R t) (values_at m c R t) j d
  rw [met_seen] at l
  refine l.trans ?_
  show _ = out m c (((cfg0.win 3).blk t).view.emb (ix2 j d))
  rw [e]
  exact (result0 _ _ _ q k v s R (headOf t) _ d).symm

omit R in
/-- Where a point's block of the second result lies. -/
theorem emb4 (b : Fin 8) (j : Fin 1024) (p) :
    ((cfg0.win 4).blk t).view.emb (ix2 b j) = ix2 (⟨8 * (headOf t).val + b.val, p⟩ : Fin 64) (pos (t.val % 8) (block_lt t) j) := by
  obtain ⟨-, -, -, -, e4⟩ := idx t
  have i0 : win0_4.index t (0 : Fin 2) = t.val / 8 := congrFun e4 0
  have i1 : win0_4.index t (1 : Fin 2) = t.val % 8 := congrFun e4 1
  funext a; apply Fin.ext
  match a with
  | ⟨0, _⟩ => show win0_4.index t 0 * 8 + 1 * b.val = 8 * (t.val / 8) + b.val; rw [i0]; omega
  | ⟨1, _⟩ => show win0_4.index t 1 * 1024 + 1 * j.val = 1024 * (t.val % 8) + j.val; rw [i1]; omega

/-- What a point computes of the second result. -/
theorem point4 (b : Fin 8) (j : Fin 1024) :
    out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (b0 m c t) (b1 m c t) (b2 m c t) (ix2 b j) = ((logReal q k s (headOf t) (pos (t.val % 8) (block_lt t) j) : ℝ) : EReal) := by
  have l := Cert.FwdPoint.out4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
    (b0 m c t) (b1 m c t) (b2 m c t) (scores_at m c R t) (values_at m c R t) b j
  rw [met_seen] at l
  exact l

/-- The second result array at an index, head by head. -/
theorem lse_at (h b : Fin 8) (a : Fin 8192) (p) : lse m c (ix2 (⟨8 * h.val + b.val, p⟩ : Fin 64) a) = ((logReal q k s h a : ℝ) : EReal) :=
  result1 _ _ _ q k v s R h b a

omit R in
/-- A whole block is written back as it stands. -/
theorem cut4 (x : FVec Ideal S8x1024 .f32) (b : Fin 8) (j : Fin 1024) : (cfg0.win 4).cut (grid0.coords t) x (ix2 b j) = x (ix2 b j) := rfl

omit R in
/-- A block of the second result at an index. -/
theorem read4 (g : Buf (Elt Ideal) ((c : Thread nD τ).loc main_v8_1)) (b : Fin 8) (j : Fin 1024) :
    ((cfg0.win 4).blk t).view.read (Elt Ideal) g (ix2 b j) = g (((cfg0.win 4).blk t).view.emb (ix2 b j)) := rfl

/-- What a point writes back of the second result. -/
theorem flushed4_eq (hf : (cfg0.win 4).flush t = true) :
    (Gen.dats m 0 c).flushed 4 t = ((cfg0.win 4).blk t).view.read (Elt Ideal) (lse m c) := by
  have hh := (headOf t).isLt
  refine (Value.flushed4_A m c t).trans (funext fun y => ?_)
  obtain ⟨b, j, rfl⟩ : ∃ (b : Fin 8) (j : Fin 1024), y = ix2 b j := ⟨_, _, eq_ix2 y⟩
  have e := (congrArg (lse m c) (emb4 t b j (by omega))).trans (lse_at m c R (headOf t) b _ _)
  exact (cut4 t _ b j).trans ((point4 m c R t b j).trans (e.symm.trans (read4 c t (lse m c) b j).symm))

omit R in
/-- An index lies in a point's block of the first result when each coordinate does. -/
theorem mem_blk3 (i : S8192x1024.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v8_0).slice (win0_3.rect t)).set ↔ _
  rw [View.set_slice_whole, Rect.mem_set_unit]
  exact Iff.rfl

omit R in
/-- An index lies in a point's block of the second result when each coordinate does. -/
theorem mem_blk4 (i : S64x8192.Idx) :
    i ∈ ((cfg0.win 4).blk t).view.set ↔ ∀ a : Fin 2, win0_4.index t a * S8x1024.size a ≤ (i a).val ∧ (i a).val < win0_4.index t a * S8x1024.size a + S8x1024.size a := by
  show i ∈ ((View.whole main_v8_1).slice (win0_4.rect t)).set ↔ _
  rw [View.set_slice_whole, Rect.mem_set_unit]
  exact Iff.rfl

omit t

/-- The first result array after the run. -/
theorem final3 : (Gen.dats m 0 c).arrAt 3 cfg0.N = out m c :=
  (Gen.dats m 0 c).arrAt_eq_of_cover 3 _ (fun t hf => flushed3_eq m c R t hf) fun i => by
    have h0 : (i 0).val < 8192 := (i 0).isLt
    have h1 : (i 1).val < 1024 := (i 1).isLt
    have hN : 8 * ((i 1).val / 128) + (i 0).val / 1024 < cfg0.N := by show _ < 64; omega
    obtain ⟨-, -, -, e3, -⟩ := idx ⟨_, hN⟩
    have i0 : win0_3.index ⟨_, hN⟩ (0 : Fin 2) = (8 * ((i 1).val / 128) + (i 0).val / 1024) % 8 := congrFun e3 0
    have i1 : win0_3.index ⟨_, hN⟩ (1 : Fin 2) = (8 * ((i 1).val / 128) + (i 0).val / 1024) / 8 := congrFun e3 1
    refine ⟨⟨_, hN⟩, flush0_3 _, ?_⟩
    rw [mem_blk3]
    intro a
    match a with
    | ⟨0, _⟩ => show win0_3.index ⟨_, hN⟩ (0 : Fin 2) * 1024 ≤ (i 0).val ∧ (i 0).val < win0_3.index ⟨_, hN⟩ (0 : Fin 2) * 1024 + 1024; rw [i0]; omega
    | ⟨1, _⟩ => show win0_3.index ⟨_, hN⟩ (1 : Fin 2) * 128 ≤ (i 1).val ∧ (i 1).val < win0_3.index ⟨_, hN⟩ (1 : Fin 2) * 128 + 128; rw [i1]; omega

/-- The second result array after the run. -/
theorem final4 : (Gen.dats m 0 c).arrAt 4 cfg0.N = lse m c :=
  (Gen.dats m 0 c).arrAt_eq_of_cover 4 _ (fun t hf => flushed4_eq m c R t hf) fun i => by
    have h0 : (i 0).val < 64 := (i 0).isLt
    have h1 : (i 1).val < 8192 := (i 1).isLt
    have hN : 8 * ((i 0).val / 8) + (i 1).val / 1024 < cfg0.N := by show _ < 64; omega
    obtain ⟨-, -, -, -, e4⟩ := idx ⟨_, hN⟩
    have i0 : win0_4.index ⟨_, hN⟩ (0 : Fin 2) = (8 * ((i 0).val / 8) + (i 1).val / 1024) / 8 := congrFun e4 0
    have i1 : win0_4.index ⟨_, hN⟩ (1 : Fin 2) = (8 * ((i 0).val / 8) + (i 1).val / 1024) % 8 := congrFun e4 1
    refine ⟨⟨_, hN⟩, flush0_4 _, ?_⟩
    rw [mem_blk4]
    intro a
    match a with
    | ⟨0, _⟩ => show win0_4.index ⟨_, hN⟩ (0 : Fin 2) * 8 ≤ (i 0).val ∧ (i 0).val < win0_4.index ⟨_, hN⟩ (0 : Fin 2) * 8 + 8; rw [i0]; omega
    | ⟨1, _⟩ => show win0_4.index ⟨_, hN⟩ (1 : Fin 2) * 1024 ≤ (i 1).val ∧ (i 1).val < win0_4.index ⟨_, hN⟩ (1 : Fin 2) * 1024 + 1024; rw [i1]; omega
end

section
attribute [local instance] Cert.Pre_finite_fwd.Gen.facts

/-- The precondition gives the real numbers both sides compute with. -/
theorem reals (h : Cert.Pre_MlaFwdIdeal_finite_fwd m) : ∃ q k v s, Reals (y0 m c) (y1 m c) (y2 m c) q k v s := by
  obtain ⟨s, hs⟩ := Cert.Scores.scale_real
  obtain ⟨h0, h1, h2⟩ := h c
  exact ⟨fun h a x => (y0 m c (ix3 h a x)).toReal, fun h a x => (y1 m c (ix3 h a x)).toReal, fun h a x => (y2 m c (ix3 h a x)).toReal, s,
    { q := fun h a x => real_of_lt .bf16 _ (by rw [← top_half]; exact congrFun h0 (ix3 h a x))
      k := fun h a x => real_of_lt .bf16 _ (by rw [← top_half]; exact congrFun h1 (ix3 h a x))
      v := fun h a x => real_of_lt .bf16 _ (by rw [← top_half]; exact congrFun h2 (ix3 h a x))
      s := hs }⟩

/-- The kernel leaves the reference's two results, its arguments unchanged. -/
theorem run (ρ : Dev nD → PrngReg) (h : Cert.Pre_MlaFwdIdeal_finite_fwd m) : θ_run defs (onTc (τ := τ) (main (F := Ideal))) ⟨m, fun _ => 0, ρ⟩ fun r => ∀ c : Dev nD,
      r.2.mem ((c : Thread nD τ).loc main_v8_0) = out m c
      ∧ r.2.mem ((c : Thread nD τ).loc main_v8_1) = lse m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r hr c => by
    obtain ⟨q, k, v, s, R⟩ := reals m c h
    exact ⟨(hr c).1.trans (final3 m c R), (hr c).2.1.trans (final4 m c R), (hr c).2.2⟩) (Value.run_blocks m ρ)

end

end Cert.FwdFinal

end
-- ==== Proof.DwIn.lean ====
/- The gradient of the input weight, one shard of its columns after another: the product accumulated over four stretches
   of rows is the sum over all of them. -/
module

public import proofs.«01_k».proof.Proof.Rows
public import proofs.«01_k».proof.Proof.Gen.DwInIdeal.Value
public import proofs.«01_k».proof.Proof.Gen.DwInRefIdeal.Read
public import Idealize.ShloMosaic.Lib.Pipeline.ValueKit
public import Idealize.ShloMosaic.Lib.Pointwise
public import Idealize.ShloMosaic.Lib.StableHlo.RunRead
public import Idealize.ShloMosaic.Lib.StableHlo.ReadAt

@[expose] public section

set_option maxRecDepth 16384

namespace Cert.DwInValue

open Idealize.ShloMosaic Idealize.ShloMosaic.TcCoe Idealize.SL.Sem
open Cert.DwInIdeal Cert.DwInIdeal.Gen Cert.Rows

theorem hz : (![0, 0] : Fin 2 → ℕ) = fun _ => 0 := funext fun a => by fin_cases a <;> rfl

theorem hz3 : (![0, 0, 0] : Fin 3 → ℕ) = fun _ => 0 := funext fun a => by fin_cases a <;> rfl

/-- A stretch's product, read. -/
theorem pay2 (x : FVec Ideal S2048x1024 .bf16) (w : FVec Ideal S1x2048x1488 .bf16) (p : Fin 1024) (q : Fin 1488) :
    (k0_pay2 (F := Ideal) x w (ix2 p q) : EReal) = ∑ k : Fin 2048, (x (ix2 k p) : EReal) * w (ix3 0 k q) := by
  pointwise [k0_pay2, k0_pay1]

/-- A stretch's product, added. -/
theorem pay3 (x : FVec Ideal S2048x1024 .bf16) (w : FVec Ideal S1x2048x1488 .bf16) (a : FVec Ideal S1024x1488 .f32) (p : Fin 1024) (q : Fin 1488) :
    (k0_pay3 (F := Ideal) x w a (ix2 p q) : EReal) = a (ix2 p q) + ∑ k : Fin 2048, (x (ix2 k p) : EReal) * w (ix3 0 k q) := by
  pointwise [k0_pay3, k0_pay1]

/-- The accumulator as the result's block. -/
theorem pay4 (a : FVec Ideal S1024x1488 .f32) (z : Fin 1) (p : Fin 1024) (q : Fin 1488) :
    (k0_pay4 (F := Ideal) a (ix3 z p q) : EReal) = a (ix2 p q) := by
  pointwise [k0_pay4]

section
variable (c : Dev nD) (i : grid0.Coords) (a3 : Memref sig .tc .vmem S2048x1024 .bf16) (h3 : a3.IsWhole)
  (a4 : Memref sig .tc .vmem S1x2048x1488 .bf16) (h4 : a4.IsWhole) (a5 : Memref sig .tc .vmem S1x1024x1488 .f32) (h5 : a5.IsWhole)
  (a6 : Memref sig .tc .vmem S1024x1488 .f32) (h6 : a6.IsWhole) (x0 : Vec Ideal S2048x1024 .bf16) (x1 : Vec Ideal S1x2048x1488 .bf16)
  (xs : Vec Ideal S1024x1488 .f32)

/-- The first stretch leaves its product in the accumulator. -/
theorem acc_A (c0 : cond0_0 i) (c1 : ¬cond0_1 i) (c2 : ¬cond0_2 i) :
    sout0_A_0 c i a3 h3 a4 h4 a5 h5 a6 h6 c0 c1 c2 x0 x1 = k0_pay2 x0 x1 := by
  unfold sout0_A_0
  rw [View.read_writes_eq_canon _ _ _ (scover0_A_0 c i a3 h3 a4 h4 a5 h5 a6 h6 c0 c1 c2 x0 x1)]
  unfold kernelRun0_A
  dsimp only
  sl_unfold_words
  rw [View.canon_unit_zero hz]
  simp only [View.readAt_eq_ld, h3.read_unread, h4.read_unread, View.ld_unit_zero (S := S2048x1024) hz, View.ld_unit_zero (S := S1x2048x1488) hz3]

/-- A later stretch adds its product to the accumulator. -/
theorem acc_B (c0 : ¬cond0_0 i) (c1 : cond0_1 i) (c2 : ¬cond0_2 i) :
    sout0_B_0 c i a3 h3 a4 h4 a5 h5 a6 h6 c0 c1 c2 x0 x1 xs = k0_pay3 x0 x1 xs := by
  unfold sout0_B_0
  rw [View.read_writes_eq_canon _ _ _ (scover0_B_0 c i a3 h3 a4 h4 a5 h5 a6 h6 c0 c1 c2 x0 x1 xs)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S1x2048x1488) hz3, View.ld_unit_zero (S := S1024x1488) hz]

/-- The last stretch leaves the sum in the result. -/
theorem out_C (c0 : ¬cond0_0 i) (c1 : cond0_1 i) (c2 : cond0_2 i) :
    out0_C_2 c i a3 h3 a4 h4 a5 h5 a6 h6 c0 c1 c2 x0 x1 xs = k0_pay4 (k0_pay3 x0 x1 xs) := by
  unfold out0_C_2
  rw [View.read_writes_eq_canon _ _ _ (cover0_C_2 c i a3 h3 a4 h4 a5 h5 a6 h6 c0 c1 c2 x0 x1 xs)]
  unfold kernelRun0_C
  dsimp only
  sl_unfold_words
  rw [View.canon_unit_zero hz3, View.readCov_unit_zero (S := S1024x1488) _ hz]
  simp only [View.readAt_eq_ld, h3.read_unread, h4.read_unread, h6.read_unread, View.ld_unit_zero (S := S2048x1024) hz, View.ld_unit_zero (S := S1x2048x1488) hz3, View.ld_unit_zero (S := S1024x1488) hz]
end

/-- The block of each array at a point. -/
theorem idx : ∀ t : Fin cfg0.N, win0_0.index t = ![t.val % 4, t.val / 4 % 2] ∧ win0_1.index t = ![t.val / 8, t.val % 4, 0] :=
  (by decide +kernel : ∀ t : Fin grid0.N, _)

variable (m : (ℓ : Loc nD τ sig) → Buf (Elt Ideal) ℓ) (c : Dev nD)

/-- Column `q` of shard `s`. -/
def col (s : Fin 4) (q : Fin 1488) : Fin 5952 := ⟨1488 * s.val + q.val, by omega⟩

/-- One row's term of an element of the product. -/
noncomputable def term (x : FVec Ideal S8192x2048 .bf16) (w : FVec Ideal S8192x5952 .bf16) (p : Fin 2048) (s : Fin 4) (q : Fin 1488) (r : Fin 8192) : EReal :=
  (x (ix2 r p) : EReal) * w (ix2 r (col s q))

/-- The product of the two arrays over their rows, the columns in four shards. -/
noncomputable def G (x : FVec Ideal S8192x2048 .bf16) (w : FVec Ideal S8192x5952 .bf16) : FVec Ideal S4x2048x1488 .f32 := fun i =>
  ∑ r : Fin 8192, term x w (⟨(i 1).val, (i 1).isLt⟩ : Fin 2048) (⟨(i 0).val, (i 0).isLt⟩ : Fin 4) (⟨(i 2).val, (i 2).isLt⟩ : Fin 1488) r

/-- The rows' array. -/
noncomputable abbrev aX : FVec Ideal S8192x2048 .bf16 := m ((c : Thread nD τ).loc main_arg0)
/-- The gradients' array. -/
noncomputable abbrev aW : FVec Ideal S8192x5952 .bf16 := m ((c : Thread nD τ).loc main_arg1)
/-- The gradients' array in four shards, as the host stacks them. -/
noncomputable abbrev aS : FVec Ideal S4x8192x1488 .bf16 := V m c main_v8

/-- The same, for the memory's arrays. -/
noncomputable def R : Buf (Elt Ideal) ((c : Thread nD τ).loc main_v9) := G (aX m c) (aW m c)

/-- The stacked shards are the columns. -/
theorem stacked (s : Fin 4) (r : Fin 8192) (q : Fin 1488) : aS m c (ix3 s r q) = aW m c (ix2 r (col s q)) := by
  unfold aS V
  after_reads_simp
  fin_cases s <;> pointwise <;> after_reads_simp <;> pointwise <;>
    first | rfl | (congr 2; exact Fin.ext (by show q.val = 1488 * 0 + q.val; omega))

theorem blk0 (t : Fin cfg0.N) (k : Fin 2048) (p : Fin 1024) (hk : 2048 * (t.val % 4) + k.val < 8192) (hp : 1024 * (t.val / 4 % 2) + p.val < 2048) :
    iblk m c 0 t (ix2 k p) = aX m c (ix2 ⟨2048 * (t.val % 4) + k.val, hk⟩ ⟨1024 * (t.val / 4 % 2) + p.val, hp⟩) := by
  have e0 : win0_0.index t (0 : Fin 2) = t.val % 4 := congrFun (idx t).1 0
  have e1 : win0_0.index t (1 : Fin 2) = t.val / 4 % 2 := congrFun (idx t).1 1
  show V m c main_arg0 _ = m _ _
  rw [V_main_arg0]
  congr 1
  funext a; apply Fin.ext
  match a with
  | ⟨0, _⟩ => show win0_0.index t 0 * 2048 + 1 * k.val = 2048 * (t.val % 4) + k.val; rw [e0]; omega
  | ⟨1, _⟩ => show win0_0.index t 1 * 1024 + 1 * p.val = 1024 * (t.val / 4 % 2) + p.val; rw [e1]; omega

theorem blk1 (t : Fin cfg0.N) (z : Fin 1) (k : Fin 2048) (q : Fin 1488) (hs : t.val / 8 < 4) (hk : 2048 * (t.val % 4) + k.val < 8192) :
    iblk m c 1 t (ix3 z k q) = aW m c (ix2 ⟨2048 * (t.val % 4) + k.val, hk⟩ (col ⟨t.val / 8, hs⟩ q)) := by
  have e0 : win0_1.index t (0 : Fin 3) = t.val / 8 := congrFun (idx t).2 0
  have e1 : win0_1.index t (1 : Fin 3) = t.val % 4 := congrFun (idx t).2 1
  have e2 : win0_1.index t (2 : Fin 3) = 0 := congrFun (idx t).2 2
  rw [← stacked]
  show V m c main_v8 _ = V m c main_v8 _
  congr 1
  funext a; apply Fin.ext
  match a with
  | ⟨0, _⟩ => show win0_1.index t 0 * 1 + 1 * z.val = t.val / 8; rw [e0]; omega
  | ⟨1, _⟩ => show win0_1.index t 1 * 2048 + 1 * k.val = 2048 * (t.val % 4) + k.val; rw [e1]; omega
  | ⟨2, _⟩ => show win0_1.index t 2 * 1488 + 1 * q.val = q.val; rw [e2]; omega

theorem low (t : Fin cfg0.N) (p : Fin 1024) : 1024 * (t.val / 4 % 2) + p.val < 2048 := by omega
theorem shard (t : Fin cfg0.N) : t.val / 8 < 4 := by
  have : t.val < 32 := t.isLt
  omega

/-- A stretch's product, as its rows' part of the sum. -/
theorem stretch (t : Fin cfg0.N) (p : Fin 1024) (q : Fin 1488) (o : ℕ) (ho : o = 2048 * (t.val % 4)) (hb : o + 2048 ≤ 8192)
    (x : FVec Ideal S2048x1024 .bf16) (w : FVec Ideal S1x2048x1488 .bf16) (hx : x = iblk m c 0 t) (hw : w = iblk m c 1 t) :
    ∑ k : Fin 2048, (x (ix2 k p) : EReal) * w (ix3 (0 : Fin 1) k q)
      = ∑ k : Fin 2048, term (aX m c) (aW m c) ⟨_, low t p⟩ ⟨_, shard t⟩ q ⟨o + k.val, by omega⟩ := by
  subst ho hx hw
  refine Finset.sum_congr rfl fun k _ => ?_
  rw [blk0 m c t k p (by omega) (low t p), blk1 m c t 0 k q (shard t) (by omega)]
  rfl

/-- No rows, no sum. -/
theorem none {R o : ℕ} (h : o = 0) (g : Fin R → EReal) : upto o g = 0 := by
  rw [h, upto_zero]

/-- Up to the last stretch the accumulator holds the sum so far. -/
theorem sofar (p : Fin 1024) (q : Fin 1488) : ∀ (n : ℕ) (hn : n < cfg0.N), n % 4 ≠ 3 →
    ((outsAt0 m c n hn).2 (ix2 p q) : EReal)
      = upto (2048 * (n % 4) + 2048) (term (aX m c) (aW m c) ⟨_, low ⟨n, hn⟩ p⟩ ⟨_, shard ⟨n, hn⟩⟩ q)
  | n, hn, h3 => by
    by_cases h : n % 4 = 0
    · rw [outsAt0_A m c ⟨n, hn⟩ h (by show ¬ 1 ≤ n % 4; omega) h3]
      dsimp only
      rw [acc_A]
      refine (pay2 _ _ p q).trans ((stretch m c ⟨n, hn⟩ p q (2048 * (n % 4)) rfl (by omega) _ _ rfl rfl).trans ?_)
      rw [← upto_add (2048 * (n % 4)) (by omega : 2048 * (n % 4) + 2048 ≤ 8192)]
      rw [none (by omega : 2048 * (n % 4) = 0), zero_add]
    · rw [outsAt0_B m c ⟨n, hn⟩ h (by show 1 ≤ n % 4; omega) h3]
      dsimp only
      rw [acc_B]
      refine (pay3 _ _ _ p q).trans ?_
      have e := sofar p q (n - 1) (by omega) (by omega)
      rw [← upto_add (2048 * (n % 4)) (by omega : 2048 * (n % 4) + 2048 ≤ 8192), stretch m c ⟨n, hn⟩ p q (2048 * (n % 4)) rfl (by omega) _ _ rfl rfl]
      congr 1
      refine e.trans ?_
      congr 2
      · omega
      · exact Fin.ext (by show 1024 * ((n - 1) / 4 % 2) + p.val = 1024 * (n / 4 % 2) + p.val; omega)
      · exact Fin.ext (by show (n - 1) / 8 = n / 8; omega)
  termination_by n => n

/-- After the last stretch the result's block holds the whole sum. -/
theorem whole (t : Fin cfg0.N) (h : t.val % 4 = 3) (z : Fin 1) (p : Fin 1024) (q : Fin 1488) :
    ((outsAt0 m c t.val t.isLt).1 (ix3 z p q) : EReal) = ∑ r, term (aX m c) (aW m c) ⟨_, low t p⟩ ⟨_, shard t⟩ q r := by
  rw [outsAt0_C m c t (by omega) (by omega) h]
  dsimp only
  rw [out_C]
  refine (pay4 _ z p q).trans ((pay3 _ _ _ p q).trans ?_)
  have h8 : t.val < 32 := t.isLt
  have e := sofar m c p q (t.val - 1) (by omega) (by omega)
  rw [← upto_all (show 8192 ≤ 6144 + 2048 by decide), ← upto_add 6144 (by decide : 6144 + 2048 ≤ 8192), stretch m c t p q 6144 (by omega) (by decide) _ _ rfl rfl]
  congr 1
  refine e.trans ?_
  congr 2
  · omega
  · exact Fin.ext (by show 1024 * ((t.val - 1) / 4 % 2) + p.val = 1024 * (t.val / 4 % 2) + p.val; omega)
  · exact Fin.ext (by show (t.val - 1) / 8 = t.val / 8; omega)

/-- The carried state of the fold up to a point is the recursion's. -/
theorem fold_at (t : Fin cfg0.N) (n : ℕ) (hn : 0 + n < cfg0.N) (e : n = t.val) :
    Pipeline.accAt (fun n h => Value.stAt0 m c n h Value.junk0) (Value.stAt0 m c) 0 n hn = outsAt0 m c t.val t.isLt := by
  subst e
  rw [Value.outsAt0_sweep]

/-- The result array is the product. -/
theorem result : Value.G2 m c = R m c := by
  funext i
  obtain ⟨s, p, q, rfl⟩ : ∃ (s : Fin 4) (p : Fin 2048) (q : Fin 1488), i = ix3 s p q := ⟨_, _, _, eq_ix3 i⟩
  have hN : 4 * (2 * s.val + p.val / 1024) + 3 < cfg0.N := by show _ < 32; omega
  have hp : Value.pt2Of (ix3 s p q) = (⟨_, hN⟩ : Fin cfg0.N).val := by
    show 4 * (2 * (s.val / 1 - 0) + 1 * (p.val / 1024 - 0) + 1 * (q.val / 1488 - 0)) + 3 = 4 * (2 * s.val + p.val / 1024) + 3
    omega
  have hl : Value.loc2Of (ix3 s p q) = ix3 (0 : Fin 1) (⟨p.val % 1024, Nat.mod_lt _ (by decide)⟩ : Fin 1024) q := by
    funext a; apply Fin.ext
    match a with
    | ⟨0, _⟩ => show s.val % 1 = 0; omega
    | ⟨1, _⟩ => rfl
    | ⟨2, _⟩ => show q.val % 1488 = q.val; omega
  show (if h : _ then _ else _) = _
  rw [dif_pos (by rw [hp]; exact hN), hl, fold_at m c ⟨_, hN⟩ _ _ hp]
  refine (whole m c ⟨_, hN⟩ (by show (4 * (2 * s.val + p.val / 1024) + 3) % 4 = 3; omega) _ _ _).trans ?_
  unfold R G
  refine Finset.sum_congr rfl fun r _ => ?_
  congr 1
  · exact Fin.ext (by show 1024 * ((4 * (2 * s.val + p.val / 1024) + 3) / 4 % 2) + p.val % 1024 = p.val; omega)
  · exact Fin.ext (by show (4 * (2 * s.val + p.val / 1024) + 3) / 8 = s.val; omega)

/-- The kernel leaves the product, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v9) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (Value.run m ρ)

/-- The reference computes the same product. -/
theorem reference (x : FVec Ideal S8192x2048 .bf16) (w : FVec Ideal S8192x5952 .bf16) : DwInRefIdeal.Read.val_main_v14 (F := Ideal) x w = G x w := by
  funext i
  obtain ⟨s, p, q, rfl⟩ : ∃ (s : Fin 4) (p : Fin 2048) (q : Fin 1488), i = ix3 s p q := ⟨_, _, _, eq_ix3 i⟩
  have h5 : ∀ (p : Fin 2048) (q : Fin 5952), (DwInRefIdeal.Read.val_main_v5 (F := Ideal) x w (ix2 p q) : EReal) = ∑ r : Fin 8192, (w (ix2 r q) : EReal) * x (ix2 r p) := by
    intro p q
    pointwise [DwInRefIdeal.Read.val_main_v5, DwInRefIdeal.Read.val_main_v4, DwInRefIdeal.Read.val_main_v1, DwInRefIdeal.Read.val_main_v0]
  have h : (DwInRefIdeal.Read.val_main_v14 (F := Ideal) x w (ix3 s p q) : EReal) = DwInRefIdeal.Read.val_main_v5 (F := Ideal) x w (ix2 p (col s q)) := by
    unfold DwInRefIdeal.Read.val_main_v14 DwInRefIdeal.Read.val_main_v10 DwInRefIdeal.Read.val_main_v11 DwInRefIdeal.Read.val_main_v12 DwInRefIdeal.Read.val_main_v13 DwInRefIdeal.Read.val_main_v6 DwInRefIdeal.Read.val_main_v7 DwInRefIdeal.Read.val_main_v8 DwInRefIdeal.Read.val_main_v9
    generalize DwInRefIdeal.Read.val_main_v5 (F := Ideal) x w = y
    fin_cases s <;> pointwise <;>
      first | rfl | (congr 2; exact Fin.ext (by show q.val = 1488 * 0 + q.val; omega))
  rw [h, h5]
  exact Finset.sum_congr rfl fun r _ => mul_comm _ _

end Cert.DwInValue

end
-- ==== Proof.DwOut.lean ====
/- The gradient of the output weight: the product accumulated over two stretches of rows is the sum over all of them. -/
module

public import proofs.«01_k».proof.Proof.Rows
public import proofs.«01_k».proof.Proof.Gen.DwOutIdeal.Value
public import proofs.«01_k».proof.Proof.Gen.DwOutRefIdeal.Read
public import Idealize.ShloMosaic.Lib.Pipeline.ValueKit
public import Idealize.ShloMosaic.Lib.Pointwise

@[expose] public section

set_option maxRecDepth 16384

namespace Cert.DwOutValue

open Idealize.ShloMosaic Idealize.ShloMosaic.TcCoe Idealize.SL.Sem
open Cert.DwOutIdeal Cert.DwOutIdeal.Gen Cert.Rows

theorem hz : (![0, 0] : Fin 2 → ℕ) = fun _ => 0 := funext fun a => by fin_cases a <;> rfl

/-- A stretch's product, read. -/
theorem pay2 (x : FVec Ideal S4096x1024 .bf16) (w : FVec Ideal S4096x1024 .bf16) (p q : Fin 1024) :
    (k0_pay2 (F := Ideal) x w (ix2 p q) : EReal) = ∑ k : Fin 4096, (x (ix2 k p) : EReal) * w (ix2 k q) := by
  pointwise [k0_pay2, k0_pay1]

/-- A stretch's product, added. -/
theorem pay3 (x : FVec Ideal S4096x1024 .bf16) (w : FVec Ideal S4096x1024 .bf16) (a : FVec Ideal S1024x1024 .f32) (p q : Fin 1024) :
    (k0_pay3 (F := Ideal) x w a (ix2 p q) : EReal) = a (ix2 p q) + ∑ k : Fin 4096, (x (ix2 k p) : EReal) * w (ix2 k q) := by
  pointwise [k0_pay3, k0_pay1]

section
variable (c : Dev nD) (i : grid0.Coords) (a3 : Memref sig .tc .vmem S4096x1024 .bf16) (h3 : a3.IsWhole)
  (a4 : Memref sig .tc .vmem S4096x1024 .bf16) (h4 : a4.IsWhole) (a5 : Memref sig .tc .vmem S1024x1024 .f32) (h5 : a5.IsWhole)
  (a6 : Memref sig .tc .vmem S1024x1024 .f32) (h6 : a6.IsWhole) (x0 x1 : Vec Ideal S4096x1024 .bf16) (xs : Vec Ideal S1024x1024 .f32)

/-- The first stretch leaves its product in the accumulator. -/
theorem acc_A (c0 : cond0_0 i) (c1 : ¬cond0_1 i) (c2 : ¬cond0_2 i) :
    sout0_A_0 c i a3 h3 a4 h4 a5 h5 a6 h6 c0 c1 c2 x0 x1 = k0_pay2 x0 x1 := by
  unfold sout0_A_0
  rw [View.read_writes_eq_canon _ _ _ (scover0_A_0 c i a3 h3 a4 h4 a5 h5 a6 h6 c0 c1 c2 x0 x1)]
  unfold kernelRun0_A
  dsimp only
  sl_unfold_words
  rw [View.canon_unit_zero hz]
  simp only [View.readAt_eq_ld, h3.read_unread, h4.read_unread, View.ld_unit_zero (S := S4096x1024) hz]

/-- The second stretch leaves the sum in the result. -/
theorem out_B (c0 : ¬cond0_0 i) (c1 : cond0_1 i) (c2 : cond0_2 i) :
    out0_B_2 c i a3 h3 a4 h4 a5 h5 a6 h6 c0 c1 c2 x0 x1 xs = k0_pay3 x0 x1 xs := by
  unfold out0_B_2
  rw [View.read_writes_eq_canon _ _ _ (cover0_B_2 c i a3 h3 a4 h4 a5 h5 a6 h6 c0 c1 c2 x0 x1 xs)]
  unfold kernelRun0_B
  dsimp only
  sl_unfold_words
  rw [View.canon_unit_zero hz, View.readCov_unit_zero (S := S1024x1024) _ hz]
  simp only [View.readAt_eq_ld, h3.read_unread, h4.read_unread, h6.read_unread, View.ld_unit_zero (S := S4096x1024) hz, View.ld_unit_zero (S := S1024x1024) hz]
end

/-- The block of each array at a point. -/
theorem idx : ∀ t : Fin cfg0.N, win0_0.index t = ![t.val % 2, t.val / 2 % 2] ∧ win0_1.index t = ![t.val % 2, t.val / 4] :=
  (by decide +kernel : ∀ t : Fin grid0.N, _)

variable (m : (ℓ : Loc nD τ sig) → Buf (Elt Ideal) ℓ) (c : Dev nD)

/-- One row's term of an element of the product. -/
noncomputable def term (x w : FVec Ideal S8192x2048 .bf16) (p q : Fin 2048) (r : Fin 8192) : EReal :=
  (x (ix2 r p) : EReal) * w (ix2 r q)

/-- The product of the two arrays over their rows. -/
noncomputable def G (x w : FVec Ideal S8192x2048 .bf16) : FVec Ideal S2048x2048 .f32 := fun i =>
  ∑ r : Fin 8192, term x w (⟨(i 0).val, (i 0).isLt⟩ : Fin 2048) (⟨(i 1).val, (i 1).isLt⟩ : Fin 2048) r

/-- The rows' array. -/
noncomputable abbrev aX : FVec Ideal S8192x2048 .bf16 := m ((c : Thread nD τ).loc main_arg0)
/-- The gradients' array. -/
noncomputable abbrev aW : FVec Ideal S8192x2048 .bf16 := m ((c : Thread nD τ).loc main_arg1)

/-- The same, for the memory's arrays. -/
noncomputable def R : Buf (Elt Ideal) ((c : Thread nD τ).loc main_v0) := G (aX m c) (aW m c)

theorem blk0 (t : Fin cfg0.N) (k : Fin 4096) (p : Fin 1024) (hk : 4096 * (t.val % 2) + k.val < 8192) (hp : 1024 * (t.val / 2 % 2) + p.val < 2048) :
    iblk m c 0 t (ix2 k p) = aX m c (ix2 ⟨4096 * (t.val % 2) + k.val, hk⟩ ⟨1024 * (t.val / 2 % 2) + p.val, hp⟩) := by
  have e0 : win0_0.index t (0 : Fin 2) = t.val % 2 := congrFun (idx t).1 0
  have e1 : win0_0.index t (1 : Fin 2) = t.val / 2 % 2 := congrFun (idx t).1 1
  show m _ _ = m _ _
  congr 1
  funext a; apply Fin.ext
  match a with
  | ⟨0, _⟩ => show win0_0.index t 0 * 4096 + 1 * k.val = 4096 * (t.val % 2) + k.val; rw [e0]; omega
  | ⟨1, _⟩ => show win0_0.index t 1 * 1024 + 1 * p.val = 1024 * (t.val / 2 % 2) + p.val; rw [e1]; omega

theorem blk1 (t : Fin cfg0.N) (k : Fin 4096) (q : Fin 1024) (hk : 4096 * (t.val % 2) + k.val < 8192) (hq : 1024 * (t.val / 4) + q.val < 2048) :
    iblk m c 1 t (ix2 k q) = aW m c (ix2 ⟨4096 * (t.val % 2) + k.val, hk⟩ ⟨1024 * (t.val / 4) + q.val, hq⟩) := by
  have e0 : win0_1.index t (0 : Fin 2) = t.val % 2 := congrFun (idx t).2 0
  have e1 : win0_1.index t (1 : Fin 2) = t.val / 4 := congrFun (idx t).2 1
  show m _ _ = m _ _
  congr 1
  funext a; apply Fin.ext
  match a with
  | ⟨0, _⟩ => show win0_1.index t 0 * 4096 + 1 * k.val = 4096 * (t.val % 2) + k.val; rw [e0]; omega
  | ⟨1, _⟩ => show win0_1.index t 1 * 1024 + 1 * q.val = 1024 * (t.val / 4) + q.val; rw [e1]; omega

theorem low (t : Fin cfg0.N) (p : Fin 1024) : 1024 * (t.val / 2 % 2) + p.val < 2048 := by omega
theorem high (t : Fin cfg0.N) (q : Fin 1024) : 1024 * (t.val / 4) + q.val < 2048 := by
  have : t.val < 8 := t.isLt
  omega

/-- After the first stretch the accumulator holds its part of the sum. -/
theorem first (t : Fin cfg0.N) (h : t.val % 2 = 0) (p q : Fin 1024) :
    ((outsAt0 m c t.val t.isLt).2 (ix2 p q) : EReal) = upto 4096 (term (aX m c) (aW m c) ⟨_, low t p⟩ ⟨_, high t q⟩) := by
  rw [outsAt0_A m c t h (by omega) (by omega)]
  dsimp only
  rw [acc_A]
  refine (pay2 _ _ p q).trans ?_
  refine Eq.trans ?_ (upto_add 0 (by decide : 0 + 4096 ≤ 8192) (term (aX m c) (aW m c) ⟨_, low t p⟩ ⟨_, high t q⟩))
  rw [upto_zero, zero_add]
  refine Finset.sum_congr rfl fun k _ => ?_
  rw [blk0 m c t k p (by omega) (low t p), blk1 m c t k q (by omega) (high t q)]
  simp only [h]
  rfl

/-- After the second stretch the result's block holds the whole sum. -/
theorem second (t : Fin cfg0.N) (h : t.val % 2 = 1) (p q : Fin 1024) :
    ((outsAt0 m c t.val t.isLt).1 (ix2 p q) : EReal) = ∑ r, term (aX m c) (aW m c) ⟨_, low t p⟩ ⟨_, high t q⟩ r := by
  rw [outsAt0_B m c t (by omega) h h]
  dsimp only
  rw [out_B]
  refine (pay3 _ _ _ p q).trans ?_
  have h8 : t.val < 8 := t.isLt
  have e := first m c ⟨t.val - 1, by omega⟩ (by show (t.val - 1) % 2 = 0; omega) p q
  rw [← upto_all (show 8192 ≤ 4096 + 4096 by decide), ← upto_add 4096 (by decide : 4096 + 4096 ≤ 8192)]
  congr 1
  · refine e.trans ?_
    congr 2
    · exact Fin.ext (by show 1024 * ((t.val - 1) / 2 % 2) + p.val = 1024 * (t.val / 2 % 2) + p.val; omega)
    · exact Fin.ext (by show 1024 * ((t.val - 1) / 4) + q.val = 1024 * (t.val / 4) + q.val; omega)
  · refine Finset.sum_congr rfl fun k _ => ?_
    rw [blk0 m c t k p (by omega) (low t p), blk1 m c t k q (by omega) (high t q)]
    simp only [h]
    rfl

/-- The carried state of the fold up to a point is the recursion's. -/
theorem fold_at (t : Fin cfg0.N) (n : ℕ) (hn : 0 + n < cfg0.N) (e : n = t.val) :
    Pipeline.accAt (fun n h => Value.stAt0 m c n h Value.junk0) (Value.stAt0 m c) 0 n hn = outsAt0 m c t.val t.isLt := by
  subst e
  rw [Value.outsAt0_sweep]

/-- The result array is the product. -/
theorem result : Value.G2 m c = R m c := by
  funext i
  obtain ⟨p, q, rfl⟩ : ∃ (p q : Fin 2048), i = ix2 p q := ⟨_, _, eq_ix2 i⟩
  have hN : 2 * (p.val / 1024 + 2 * (q.val / 1024)) + 1 < cfg0.N := by show _ < 8; omega
  have hp : Value.pt2Of (ix2 p q) = (⟨_, hN⟩ : Fin cfg0.N).val := by
    show 2 * (1 * (p.val / 1024 - 0) + 2 * (q.val / 1024 - 0)) + 1 = 2 * (p.val / 1024 + 2 * (q.val / 1024)) + 1
    omega
  have hl : Value.loc2Of (ix2 p q) = ix2 (⟨p.val % 1024, Nat.mod_lt _ (by decide)⟩ : Fin 1024) (⟨q.val % 1024, Nat.mod_lt _ (by decide)⟩ : Fin 1024) := by
    funext a
    match a with
    | ⟨0, _⟩ => rfl
    | ⟨1, _⟩ => rfl
  show (if h : _ then _ else _) = _
  rw [dif_pos (by rw [hp]; exact hN), hl, fold_at m c ⟨_, hN⟩ _ _ hp]
  refine (second m c ⟨_, hN⟩ (by show (2 * (p.val / 1024 + 2 * (q.val / 1024)) + 1) % 2 = 1; omega) _ _).trans ?_
  unfold R G
  refine Finset.sum_congr rfl fun r _ => ?_
  congr 1
  · exact Fin.ext (by show 1024 * ((2 * (p.val / 1024 + 2 * (q.val / 1024)) + 1) / 2 % 2) + p.val % 1024 = p.val; omega)
  · exact Fin.ext (by show 1024 * ((2 * (p.val / 1024 + 2 * (q.val / 1024)) + 1) / 4) + q.val % 1024 = q.val; omega)

/-- The kernel leaves the product, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (Value.run m ρ)

/-- The reference computes the same product. -/
theorem reference (x w : FVec Ideal S8192x2048 .bf16) : DwOutRefIdeal.Read.val_main_v5 (F := Ideal) x w = G x w := by
  funext i
  obtain ⟨p, q, rfl⟩ : ∃ (p q : Fin 2048), i = ix2 p q := ⟨_, _, eq_ix2 i⟩
  have h : DwOutRefIdeal.Read.val_main_v5 (F := Ideal) x w (ix2 p q) = ∑ r : Fin 8192, (w (ix2 r q) : EReal) * x (ix2 r p) := by
    pointwise [DwOutRefIdeal.Read.val_main_v5, DwOutRefIdeal.Read.val_main_v4, DwOutRefIdeal.Read.val_main_v1, DwOutRefIdeal.Read.val_main_v0]
  rw [h]
  exact Finset.sum_congr rfl fun r _ => mul_comm _ _

end Cert.DwOutValue

end
-- ==== Proof.DMixed.lean ====
/- The product of the output gradient and the transposed output weight, block by block: its result array is the sum over the shared axis. -/
module

public import proofs.«01_k».proof.Proof.Rows
public import proofs.«01_k».proof.Proof.Gen.DMixedIdeal.Value
public import proofs.«01_k».proof.Proof.Gen.DMixedRefIdeal.Read
public import Idealize.ShloMosaic.Lib.Pipeline.ValueKit
public import Idealize.ShloMosaic.Lib.Pointwise

@[expose] public section

set_option maxRecDepth 16384

namespace Cert.DMixedValue

open Idealize.ShloMosaic Idealize.ShloMosaic.TcCoe Idealize.SL.Sem
open Cert.DMixedIdeal Cert.DMixedIdeal.Gen

theorem hz : (![0, 0] : Fin 2 → ℕ) = fun _ => 0 := funext fun a => by fin_cases a <;> rfl

/-- A block's product, read. -/
theorem pay1 (x : FVec Ideal S512x2048 .bf16) (w : FVec Ideal S1024x2048 .bf16) (p : Fin 512) (q : Fin 1024) :
    (k0_pay1 (F := Ideal) x w (ix2 p q) : EReal) = ∑ k : Fin 2048, (x (ix2 p k) : EReal) * w (ix2 q k) := by
  pointwise [k0_pay1]

/-- A point stores the product of its two blocks. -/
theorem out_A (c : Dev nD) (i : grid0.Coords) (a3 : Memref sig .tc .vmem S512x2048 .bf16) (h3 : a3.IsWhole)
    (a4 : Memref sig .tc .vmem S1024x2048 .bf16) (h4 : a4.IsWhole) (a5 : Memref sig .tc .vmem S512x1024 .f32) (h5 : a5.IsWhole)
    (a6 : Memref sig .tc .vmem S8x128 .f32) (h6 : a6.IsWhole) (x0 : Vec Ideal S512x2048 .bf16) (x1 : Vec Ideal S1024x2048 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S512x2048) hz, View.ld_unit_zero (S := S1024x2048) hz]

/-- The block of each array at a point. -/
theorem idx : ∀ t : Fin cfg0.N, win0_0.index t = ![t.val % 16, 0] ∧ win0_1.index t = ![t.val / 16, 0] ∧ win0_2.index t = ![t.val % 16, t.val / 16] :=
  (by decide +kernel : ∀ t : Fin grid0.N, _)

variable (m : (ℓ : Loc nD τ sig) → Buf (Elt Ideal) ℓ) (c : Dev nD)

/-- The product of the two arrays. -/
noncomputable def G (x : FVec Ideal S8192x2048 .bf16) (w : FVec Ideal S2048x2048 .bf16) : FVec Ideal S8192x2048 .f32 := fun i =>
  ∑ k : Fin 2048, (x (ix2 (⟨(i 0).val, (i 0).isLt⟩ : Fin 8192) k) : EReal) * w (ix2 (⟨(i 1).val, (i 1).isLt⟩ : Fin 2048) k)

/-- The same, for the memory's arrays. -/
noncomputable def R : Buf (Elt Ideal) ((c : Thread nD τ).loc main_v0) :=
  G (m ((c : Thread nD τ).loc main_arg0)) (m ((c : Thread nD τ).loc main_arg1))

/-- What a point writes back is its block of the product. -/
theorem flushed_eq (t : Fin cfg0.N) (hf : (cfg0.win 2).flush t = true) :
    (Gen.dats m 0 c).flushed 2 t = ((cfg0.win 2).blk t).view.read (Elt Ideal) (R m c) := by
  rw [Value.flushed2_A, out_A]
  obtain ⟨e0, e1, e2⟩ := idx t
  have hN : t.val < 32 := t.isLt
  have i00 : win0_0.index t (0 : Fin 2) = t.val % 16 := congrFun e0 0
  have i01 : win0_0.index t (1 : Fin 2) = 0 := congrFun e0 1
  have i10 : win0_1.index t (0 : Fin 2) = t.val / 16 := congrFun e1 0
  have i11 : win0_1.index t (1 : Fin 2) = 0 := congrFun e1 1
  have i20 : win0_2.index t (0 : Fin 2) = t.val % 16 := congrFun e2 0
  have i21 : win0_2.index t (1 : Fin 2) = t.val / 16 := congrFun e2 1
  funext y
  obtain ⟨p, q, rfl⟩ : ∃ (p : Fin 512) (q : Fin 1024), y = ix2 p q := ⟨_, _, eq_ix2 y⟩
  show k0_pay1 (iblk m c 0 t) (iblk m c 1 t) (ix2 p q) = R m c (((cfg0.win 2).blk t).view.emb (ix2 p q))
  rw [pay1]
  unfold R G
  refine Finset.sum_congr rfl fun k _ => ?_
  congr 1
  · show m _ _ = m _ _
    congr 1
    funext a; apply Fin.ext
    match a with
    | ⟨0, _⟩ => show win0_0.index t 0 * 512 + 1 * p.val = win0_2.index t 0 * 512 + 1 * p.val; rw [i00, i20]
    | ⟨1, _⟩ => show win0_0.index t 1 * 2048 + 1 * k.val = k.val; rw [i01]; omega
  · show m _ _ = m _ _
    congr 1
    funext a; apply Fin.ext
    match a with
    | ⟨0, _⟩ => show win0_1.index t 0 * 1024 + 1 * q.val = win0_2.index t 1 * 1024 + 1 * q.val; rw [i10, i21]
    | ⟨1, _⟩ => show win0_1.index t 1 * 2048 + 1 * k.val = k.val; rw [i11]; omega

/-- An index lies in a point's block when each coordinate does. -/
theorem mem_blk (t : Fin cfg0.N) (i : S8192x2048.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- The result array after the run. -/
theorem final : (Gen.dats m 0 c).arrAt 2 cfg0.N = R m c :=
  (Gen.dats m 0 c).arrAt_eq_of_cover 2 _ (fun t hf => flushed_eq m c t hf) fun i => by
    have h0 : (i 0).val < 8192 := (i 0).isLt
    have h1 : (i 1).val < 2048 := (i 1).isLt
    have hN : 16 * ((i 1).val / 1024) + (i 0).val / 512 < cfg0.N := by show _ < 32; omega
    obtain ⟨-, -, e2⟩ := idx ⟨_, hN⟩
    have i20 : win0_2.index ⟨_, hN⟩ (0 : Fin 2) = (16 * ((i 1).val / 1024) + (i 0).val / 512) % 16 := congrFun e2 0
    have i21 : win0_2.index ⟨_, hN⟩ (1 : Fin 2) = (16 * ((i 1).val / 1024) + (i 0).val / 512) / 16 := congrFun e2 1
    refine ⟨⟨_, hN⟩, flush0_2 _, ?_⟩
    rw [mem_blk]
    intro a
    match a with
    | ⟨0, _⟩ => show win0_2.index ⟨_, hN⟩ (0 : Fin 2) * 512 ≤ (i 0).val ∧ (i 0).val < win0_2.index ⟨_, hN⟩ (0 : Fin 2) * 512 + 512; rw [i20]; omega
    | ⟨1, _⟩ => show win0_2.index ⟨_, hN⟩ (1 : Fin 2) * 1024 ≤ (i 1).val ∧ (i 1).val < win0_2.index ⟨_, hN⟩ (1 : Fin 2) * 1024 + 1024; rw [i21]; omega

/-- The kernel leaves the product, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

/-- The reference computes the same product. -/
theorem reference (x : FVec Ideal S8192x2048 .bf16) (w : FVec Ideal S2048x2048 .bf16) :
    DMixedRefIdeal.Read.val_main_v4 (F := Ideal) x w = G x w := by
  funext i
  obtain ⟨p, q, rfl⟩ : ∃ (p : Fin 8192) (q : Fin 2048), i = ix2 p q := ⟨_, _, eq_ix2 i⟩
  pointwise [DMixedRefIdeal.Read.val_main_v4, DMixedRefIdeal.Read.val_main_v1, DMixedRefIdeal.Read.val_main_v0]
  rfl

end Cert.DMixedValue

end
-- ==== Proof.ProjB.lean ====
/- The product of the normed input and the first columns of the input weight, block by block: its result array is the sum over the shared axis. -/
module

public import proofs.«01_k».proof.Proof.Rows
public import proofs.«01_k».proof.Proof.Gen.ProjBIdeal.Value
public import proofs.«01_k».proof.Proof.Gen.ProjBRefIdeal.Read
public import Idealize.ShloMosaic.Lib.Pipeline.ValueKit
public import Idealize.ShloMosaic.Lib.Pointwise

@[expose] public section

set_option maxRecDepth 16384

namespace Cert.ProjBValue

open Idealize.ShloMosaic Idealize.ShloMosaic.TcCoe Idealize.SL.Sem
open Cert.ProjBIdeal Cert.ProjBIdeal.Gen

theorem hz : (![0, 0] : Fin 2 → ℕ) = fun _ => 0 := funext fun a => by fin_cases a <;> rfl

/-- A block's product, read. -/
theorem pay1 (x : FVec Ideal S512x2048 .bf16) (w : FVec Ideal S2048x1024 .bf16) (p : Fin 512) (q : Fin 1024) :
    (k0_pay1 (F := Ideal) x w (ix2 p q) : EReal) = ∑ k : Fin 2048, (x (ix2 p k) : EReal) * w (ix2 k q) := by
  pointwise [k0_pay1]

/-- A point stores the product of its two blocks. -/
theorem out_A (c : Dev nD) (i : grid0.Coords) (a3 : Memref sig .tc .vmem S512x2048 .bf16) (h3 : a3.IsWhole)
    (a4 : Memref sig .tc .vmem S2048x1024 .bf16) (h4 : a4.IsWhole) (a5 : Memref sig .tc .vmem S512x1024 .bf16) (h5 : a5.IsWhole)
    (a6 : Memref sig .tc .vmem S8x128 .f32) (h6 : a6.IsWhole) (x0 : Vec Ideal S512x2048 .bf16) (x1 : Vec Ideal S2048x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S512x2048) hz, View.ld_unit_zero (S := S2048x1024) hz]

/-- The block of each array at a point. -/
theorem idx : ∀ t : Fin cfg0.N, win0_0.index t = ![t.val % 16, 0] ∧ win0_1.index t = ![0, t.val / 16] ∧ win0_2.index t = ![t.val % 16, t.val / 16] :=
  (by decide +kernel : ∀ t : Fin grid0.N, _)

variable (m : (ℓ : Loc nD τ sig) → Buf (Elt Ideal) ℓ) (c : Dev nD)

/-- The product of the two arrays. -/
noncomputable def G (x : FVec Ideal S8192x2048 .bf16) (w : FVec Ideal S2048x6144 .bf16) : FVec Ideal S8192x3072 .bf16 := fun i =>
  ∑ k : Fin 2048, (x (ix2 (⟨(i 0).val, (i 0).isLt⟩ : Fin 8192) k) : EReal) * w (ix2 k (⟨(i 1).val, lt_trans (i 1).isLt (by decide)⟩ : Fin 6144))

/-- The same, for the memory's arrays. -/
noncomputable def R : Buf (Elt Ideal) ((c : Thread nD τ).loc main_v0) :=
  G (m ((c : Thread nD τ).loc main_arg0)) (m ((c : Thread nD τ).loc main_arg1))

/-- What a point writes back is its block of the product. -/
theorem flushed_eq (t : Fin cfg0.N) (hf : (cfg0.win 2).flush t = true) :
    (Gen.dats m 0 c).flushed 2 t = ((cfg0.win 2).blk t).view.read (Elt Ideal) (R m c) := by
  rw [Value.flushed2_A, out_A]
  obtain ⟨e0, e1, e2⟩ := idx t
  have hN : t.val < 48 := t.isLt
  have i00 : win0_0.index t (0 : Fin 2) = t.val % 16 := congrFun e0 0
  have i01 : win0_0.index t (1 : Fin 2) = 0 := congrFun e0 1
  have i10 : win0_1.index t (0 : Fin 2) = 0 := congrFun e1 0
  have i11 : win0_1.index t (1 : Fin 2) = t.val / 16 := congrFun e1 1
  have i20 : win0_2.index t (0 : Fin 2) = t.val % 16 := congrFun e2 0
  have i21 : win0_2.index t (1 : Fin 2) = t.val / 16 := congrFun e2 1
  funext y
  obtain ⟨p, q, rfl⟩ : ∃ (p : Fin 512) (q : Fin 1024), y = ix2 p q := ⟨_, _, eq_ix2 y⟩
  show k0_pay1 (iblk m c 0 t) (iblk m c 1 t) (ix2 p q) = R m c (((cfg0.win 2).blk t).view.emb (ix2 p q))
  rw [pay1]
  unfold R G
  refine Finset.sum_congr rfl fun k _ => ?_
  congr 1
  · show m _ _ = m _ _
    congr 1
    funext a; apply Fin.ext
    match a with
    | ⟨0, _⟩ => show win0_0.index t 0 * 512 + 1 * p.val = win0_2.index t 0 * 512 + 1 * p.val; rw [i00, i20]
    | ⟨1, _⟩ => show win0_0.index t 1 * 2048 + 1 * k.val = k.val; rw [i01]; omega
  · show m _ _ = m _ _
    congr 1
    funext a; apply Fin.ext
    match a with
    | ⟨0, _⟩ => show win0_1.index t 0 * 2048 + 1 * k.val = k.val; rw [i10]; omega
    | ⟨1, _⟩ => show win0_1.index t 1 * 1024 + 1 * q.val = win0_2.index t 1 * 1024 + 1 * q.val; rw [i11, i21]

/-- An index lies in a point's block when each coordinate does. -/
theorem mem_blk (t : Fin cfg0.N) (i : S8192x3072.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- The result array after the run. -/
theorem final : (Gen.dats m 0 c).arrAt 2 cfg0.N = R m c :=
  (Gen.dats m 0 c).arrAt_eq_of_cover 2 _ (fun t hf => flushed_eq m c t hf) fun i => by
    have h0 : (i 0).val < 8192 := (i 0).isLt
    have h1 : (i 1).val < 3072 := (i 1).isLt
    have hN : 16 * ((i 1).val / 1024) + (i 0).val / 512 < cfg0.N := by show _ < 48; omega
    obtain ⟨-, -, e2⟩ := idx ⟨_, hN⟩
    have i20 : win0_2.index ⟨_, hN⟩ (0 : Fin 2) = (16 * ((i 1).val / 1024) + (i 0).val / 512) % 16 := congrFun e2 0
    have i21 : win0_2.index ⟨_, hN⟩ (1 : Fin 2) = (16 * ((i 1).val / 1024) + (i 0).val / 512) / 16 := congrFun e2 1
    refine ⟨⟨_, hN⟩, flush0_2 _, ?_⟩
    rw [mem_blk]
    intro a
    match a with
    | ⟨0, _⟩ => show win0_2.index ⟨_, hN⟩ (0 : Fin 2) * 512 ≤ (i 0).val ∧ (i 0).val < win0_2.index ⟨_, hN⟩ (0 : Fin 2) * 512 + 512; rw [i20]; omega
    | ⟨1, _⟩ => show win0_2.index ⟨_, hN⟩ (1 : Fin 2) * 1024 ≤ (i 1).val ∧ (i 1).val < win0_2.index ⟨_, hN⟩ (1 : Fin 2) * 1024 + 1024; rw [i21]; omega

/-- The kernel leaves the product, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

/-- The reference computes the same product. -/
theorem reference (x : FVec Ideal S8192x2048 .bf16) (w : FVec Ideal S2048x6144 .bf16) :
    ProjBRefIdeal.Read.val_main_v4 (F := Ideal) x w = G x w := by
  funext i
  obtain ⟨p, q, rfl⟩ : ∃ (p : Fin 8192) (q : Fin 3072), i = ix2 p q := ⟨_, _, eq_ix2 i⟩
  pointwise [ProjBRefIdeal.Read.val_main_v4, ProjBRefIdeal.Read.val_main_v3, ProjBRefIdeal.Read.val_main_v2, ProjBRefIdeal.Read.val_main_v1, ProjBRefIdeal.Read.val_main_v0]
  rfl

end Cert.ProjBValue

end
-- ==== Proof.ProjF.lean ====
/- The product of the normed input and the later columns of the input weight, block by block: its result array is the sum over the shared axis. -/
module

public import proofs.«01_k».proof.Proof.Rows
public import proofs.«01_k».proof.Proof.Gen.ProjFIdeal.Value
public import proofs.«01_k».proof.Proof.Gen.ProjFRefIdeal.Read
public import Idealize.ShloMosaic.Lib.Pipeline.ValueKit
public import Idealize.ShloMosaic.Lib.Pointwise

@[expose] public section

set_option maxRecDepth 16384

namespace Cert.ProjFValue

open Idealize.ShloMosaic Idealize.ShloMosaic.TcCoe Idealize.SL.Sem
open Cert.ProjFIdeal Cert.ProjFIdeal.Gen

theorem hz : (![0, 0] : Fin 2 → ℕ) = fun _ => 0 := funext fun a => by fin_cases a <;> rfl

/-- A block's product, read. -/
theorem pay1 (x : FVec Ideal S512x2048 .bf16) (w : FVec Ideal S2048x1024 .bf16) (p : Fin 512) (q : Fin 1024) :
    (k0_pay1 (F := Ideal) x w (ix2 p q) : EReal) = ∑ k : Fin 2048, (x (ix2 p k) : EReal) * w (ix2 k q) := by
  pointwise [k0_pay1]

/-- A point stores the product of its two blocks. -/
theorem out_A (c : Dev nD) (i : grid0.Coords) (a3 : Memref sig .tc .vmem S512x2048 .bf16) (h3 : a3.IsWhole)
    (a4 : Memref sig .tc .vmem S2048x1024 .bf16) (h4 : a4.IsWhole) (a5 : Memref sig .tc .vmem S512x1024 .f32) (h5 : a5.IsWhole)
    (a6 : Memref sig .tc .vmem S8x128 .f32) (h6 : a6.IsWhole) (x0 : Vec Ideal S512x2048 .bf16) (x1 : Vec Ideal S2048x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S512x2048) hz, View.ld_unit_zero (S := S2048x1024) hz]

/-- The block of each array at a point. -/
theorem idx : ∀ t : Fin cfg0.N, win0_0.index t = ![t.val % 16, 0] ∧ win0_1.index t = ![0, t.val / 16 + 3] ∧ win0_2.index t = ![t.val % 16, t.val / 16] :=
  (by decide +kernel : ∀ t : Fin grid0.N, _)

variable (m : (ℓ : Loc nD τ sig) → Buf (Elt Ideal) ℓ) (c : Dev nD)

/-- The product of the two arrays. -/
noncomputable def G (x : FVec Ideal S8192x2048 .bf16) (w : FVec Ideal S2048x6144 .bf16) : FVec Ideal S8192x3072 .f32 := fun i =>
  ∑ k : Fin 2048, (x (ix2 (⟨(i 0).val, (i 0).isLt⟩ : Fin 8192) k) : EReal) * w (ix2 k (⟨3072 + (i 1).val, by have : (i 1).val < 3072 := (i 1).isLt; omega⟩ : Fin 6144))

/-- The same, for the memory's arrays. -/
noncomputable def R : Buf (Elt Ideal) ((c : Thread nD τ).loc main_v0) :=
  G (m ((c : Thread nD τ).loc main_arg0)) (m ((c : Thread nD τ).loc main_arg1))

/-- What a point writes back is its block of the product. -/
theorem flushed_eq (t : Fin cfg0.N) (hf : (cfg0.win 2).flush t = true) :
    (Gen.dats m 0 c).flushed 2 t = ((cfg0.win 2).blk t).view.read (Elt Ideal) (R m c) := by
  rw [Value.flushed2_A, out_A]
  obtain ⟨e0, e1, e2⟩ := idx t
  have hN : t.val < 48 := t.isLt
  have i00 : win0_0.index t (0 : Fin 2) = t.val % 16 := congrFun e0 0
  have i01 : win0_0.index t (1 : Fin 2) = 0 := congrFun e0 1
  have i10 : win0_1.index t (0 : Fin 2) = 0 := congrFun e1 0
  have i11 : win0_1.index t (1 : Fin 2) = t.val / 16 + 3 := congrFun e1 1
  have i20 : win0_2.index t (0 : Fin 2) = t.val % 16 := congrFun e2 0
  have i21 : win0_2.index t (1 : Fin 2) = t.val / 16 := congrFun e2 1
  funext y
  obtain ⟨p, q, rfl⟩ : ∃ (p : Fin 512) (q : Fin 1024), y = ix2 p q := ⟨_, _, eq_ix2 y⟩
  show k0_pay1 (iblk m c 0 t) (iblk m c 1 t) (ix2 p q) = R m c (((cfg0.win 2).blk t).view.emb (ix2 p q))
  rw [pay1]
  unfold R G
  refine Finset.sum_congr rfl fun k _ => ?_
  congr 1
  · show m _ _ = m _ _
    congr 1
    funext a; apply Fin.ext
    match a with
    | ⟨0, _⟩ => show win0_0.index t 0 * 512 + 1 * p.val = win0_2.index t 0 * 512 + 1 * p.val; rw [i00, i20]
    | ⟨1, _⟩ => show win0_0.index t 1 * 2048 + 1 * k.val = k.val; rw [i01]; omega
  · show m _ _ = m _ _
    congr 1
    funext a; apply Fin.ext
    match a with
    | ⟨0, _⟩ => show win0_1.index t 0 * 2048 + 1 * k.val = k.val; rw [i10]; omega
    | ⟨1, _⟩ => show win0_1.index t 1 * 1024 + 1 * q.val = 3072 + (win0_2.index t 1 * 1024 + 1 * q.val); rw [i11, i21]; omega

/-- An index lies in a point's block when each coordinate does. -/
theorem mem_blk (t : Fin cfg0.N) (i : S8192x3072.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- The result array after the run. -/
theorem final : (Gen.dats m 0 c).arrAt 2 cfg0.N = R m c :=
  (Gen.dats m 0 c).arrAt_eq_of_cover 2 _ (fun t hf => flushed_eq m c t hf) fun i => by
    have h0 : (i 0).val < 8192 := (i 0).isLt
    have h1 : (i 1).val < 3072 := (i 1).isLt
    have hN : 16 * ((i 1).val / 1024) + (i 0).val / 512 < cfg0.N := by show _ < 48; omega
    obtain ⟨-, -, e2⟩ := idx ⟨_, hN⟩
    have i20 : win0_2.index ⟨_, hN⟩ (0 : Fin 2) = (16 * ((i 1).val / 1024) + (i 0).val / 512) % 16 := congrFun e2 0
    have i21 : win0_2.index ⟨_, hN⟩ (1 : Fin 2) = (16 * ((i 1).val / 1024) + (i 0).val / 512) / 16 := congrFun e2 1
    refine ⟨⟨_, hN⟩, flush0_2 _, ?_⟩
    rw [mem_blk]
    intro a
    match a with
    | ⟨0, _⟩ => show win0_2.index ⟨_, hN⟩ (0 : Fin 2) * 512 ≤ (i 0).val ∧ (i 0).val < win0_2.index ⟨_, hN⟩ (0 : Fin 2) * 512 + 512; rw [i20]; omega
    | ⟨1, _⟩ => show win0_2.index ⟨_, hN⟩ (1 : Fin 2) * 1024 ≤ (i 1).val ∧ (i 1).val < win0_2.index ⟨_, hN⟩ (1 : Fin 2) * 1024 + 1024; rw [i21]; omega

/-- The kernel leaves the product, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

/-- The reference computes the same product. -/
theorem reference (x : FVec Ideal S8192x2048 .bf16) (w : FVec Ideal S2048x6144 .bf16) :
    ProjFRefIdeal.Read.val_main_v3 (F := Ideal) x w = G x w := by
  funext i
  obtain ⟨p, q, rfl⟩ : ∃ (p : Fin 8192) (q : Fin 3072), i = ix2 p q := ⟨_, _, eq_ix2 i⟩
  pointwise [ProjFRefIdeal.Read.val_main_v3, ProjFRefIdeal.Read.val_main_v2, ProjFRefIdeal.Read.val_main_v1, ProjFRefIdeal.Read.val_main_v0]
  rfl

end Cert.ProjFValue

end
-- ==== Proof.DwQ.lean ====
/- The gradient of the queries' up-projection: the product accumulated over two stretches of rows is the sum over all of them. -/
module

public import proofs.«01_k».proof.Proof.Rows
public import proofs.«01_k».proof.Proof.Gen.DwQIdeal.Value
public import proofs.«01_k».proof.Proof.Gen.DwQRefIdeal.Read
public import Idealize.ShloMosaic.Lib.Pipeline.ValueKit
public import Idealize.ShloMosaic.Lib.Pointwise

@[expose] public section

set_option maxRecDepth 16384

namespace Cert.DwQValue

open Idealize.ShloMosaic Idealize.ShloMosaic.TcCoe Idealize.SL.Sem
open Cert.DwQIdeal Cert.DwQIdeal.Gen Cert.Rows

theorem hz : (![0, 0] : Fin 2 → ℕ) = fun _ => 0 := funext fun a => by fin_cases a <;> rfl

/-- A stretch's product, read. -/
theorem pay2 (x : FVec Ideal S4096x512 .bf16) (w : FVec Ideal S4096x1024 .bf16) (p : Fin 512) (q : Fin 1024) :
    (k0_pay2 (F := Ideal) x w (ix2 p q) : EReal) = ∑ k : Fin 4096, (x (ix2 k p) : EReal) * w (ix2 k q) := by
  pointwise [k0_pay2, k0_pay1]

/-- A stretch's product, added. -/
theorem pay3 (x : FVec Ideal S4096x512 .bf16) (w : FVec Ideal S4096x1024 .bf16) (a : FVec Ideal S512x1024 .f32) (p : Fin 512) (q : Fin 1024) :
    (k0_pay3 (F := Ideal) x w a (ix2 p q) : EReal) = a (ix2 p q) + ∑ k : Fin 4096, (x (ix2 k p) : EReal) * w (ix2 k q) := by
  pointwise [k0_pay3, k0_pay1]

section
variable (c : Dev nD) (i : grid0.Coords) (a3 : Memref sig .tc .vmem S4096x512 .bf16) (h3 : a3.IsWhole)
  (a4 : Memref sig .tc .vmem S4096x1024 .bf16) (h4 : a4.IsWhole) (a5 : Memref sig .tc .vmem S512x1024 .f32) (h5 : a5.IsWhole)
  (a6 : Memref sig .tc .vmem S512x1024 .f32) (h6 : a6.IsWhole) (x0 : Vec Ideal S4096x512 .bf16) (x1 : Vec Ideal S4096x1024 .bf16) (xs : Vec Ideal S512x1024 .f32)

/-- The first stretch leaves its product in the accumulator. -/
theorem acc_A (c0 : cond0_0 i) (c1 : ¬cond0_1 i) (c2 : ¬cond0_2 i) :
    sout0_A_0 c i a3 h3 a4 h4 a5 h5 a6 h6 c0 c1 c2 x0 x1 = k0_pay2 x0 x1 := by
  unfold sout0_A_0
  rw [View.read_writes_eq_canon _ _ _ (scover0_A_0 c i a3 h3 a4 h4 a5 h5 a6 h6 c0 c1 c2 x0 x1)]
  unfold kernelRun0_A
  dsimp only
  sl_unfold_words
  rw [View.canon_unit_zero hz]
  simp only [View.readAt_eq_ld, h3.read_unread, h4.read_unread, View.ld_unit_zero (S := S4096x512) hz, View.ld_unit_zero (S := S4096x1024) hz]

/-- The second stretch leaves the sum in the result. -/
theorem out_B (c0 : ¬cond0_0 i) (c1 : cond0_1 i) (c2 : cond0_2 i) :
    out0_B_2 c i a3 h3 a4 h4 a5 h5 a6 h6 c0 c1 c2 x0 x1 xs = k0_pay3 x0 x1 xs := by
  unfold out0_B_2
  rw [View.read_writes_eq_canon _ _ _ (cover0_B_2 c i a3 h3 a4 h4 a5 h5 a6 h6 c0 c1 c2 x0 x1 xs)]
  unfold kernelRun0_B
  dsimp only
  sl_unfold_words
  rw [View.canon_unit_zero hz, View.readCov_unit_zero (S := S512x1024) _ hz]
  simp only [View.readAt_eq_ld, h3.read_unread, h4.read_unread, h6.read_unread, View.ld_unit_zero (S := S4096x512) hz, View.ld_unit_zero (S := S4096x1024) hz, View.ld_unit_zero (S := S512x1024) hz]
end

/-- The block of each array at a point. -/
theorem idx : ∀ t : Fin cfg0.N, win0_0.index t = ![t.val % 2, 0] ∧ win0_1.index t = ![t.val % 2, t.val / 2] :=
  (by decide +kernel : ∀ t : Fin grid0.N, _)

variable (m : (ℓ : Loc nD τ sig) → Buf (Elt Ideal) ℓ) (c : Dev nD)

/-- One row's term of an element of the product. -/
noncomputable def term (x : FVec Ideal S8192x512 .bf16) (w : FVec Ideal S8192x2048 .bf16) (p : Fin 512) (q : Fin 2048) (r : Fin 8192) : EReal :=
  (x (ix2 r p) : EReal) * w (ix2 r q)

/-- The product of the two arrays over their rows. -/
noncomputable def G (x : FVec Ideal S8192x512 .bf16) (w : FVec Ideal S8192x2048 .bf16) : FVec Ideal S512x2048 .f32 := fun i =>
  ∑ r : Fin 8192, term x w (⟨(i 0).val, (i 0).isLt⟩ : Fin 512) (⟨(i 1).val, (i 1).isLt⟩ : Fin 2048) r

/-- The rows' array. -/
noncomputable abbrev aX : FVec Ideal S8192x512 .bf16 := m ((c : Thread nD τ).loc main_arg0)
/-- The gradients' array. -/
noncomputable abbrev aW : FVec Ideal S8192x2048 .bf16 := m ((c : Thread nD τ).loc main_arg1)

/-- The same, for the memory's arrays. -/
noncomputable def R : Buf (Elt Ideal) ((c : Thread nD τ).loc main_v0) := G (aX m c) (aW m c)

theorem blk0 (t : Fin cfg0.N) (k : Fin 4096) (p : Fin 512) (hk : 4096 * (t.val % 2) + k.val < 8192) :
    iblk m c 0 t (ix2 k p) = aX m c (ix2 ⟨4096 * (t.val % 2) + k.val, hk⟩ p) := by
  have e0 : win0_0.index t (0 : Fin 2) = t.val % 2 := congrFun (idx t).1 0
  have e1 : win0_0.index t (1 : Fin 2) = 0 := congrFun (idx t).1 1
  show m _ _ = m _ _
  congr 1
  funext a; apply Fin.ext
  match a with
  | ⟨0, _⟩ => show win0_0.index t 0 * 4096 + 1 * k.val = 4096 * (t.val % 2) + k.val; rw [e0]; omega
  | ⟨1, _⟩ => show win0_0.index t 1 * 512 + 1 * p.val = p.val; rw [e1]; omega

theorem blk1 (t : Fin cfg0.N) (k : Fin 4096) (q : Fin 1024) (hk : 4096 * (t.val % 2) + k.val < 8192) (hq : 1024 * (t.val / 2) + q.val < 2048) :
    iblk m c 1 t (ix2 k q) = aW m c (ix2 ⟨4096 * (t.val % 2) + k.val, hk⟩ ⟨1024 * (t.val / 2) + q.val, hq⟩) := by
  have e0 : win0_1.index t (0 : Fin 2) = t.val % 2 := congrFun (idx t).2 0
  have e1 : win0_1.index t (1 : Fin 2) = t.val / 2 := congrFun (idx t).2 1
  show m _ _ = m _ _
  congr 1
  funext a; apply Fin.ext
  match a with
  | ⟨0, _⟩ => show win0_1.index t 0 * 4096 + 1 * k.val = 4096 * (t.val % 2) + k.val; rw [e0]; omega
  | ⟨1, _⟩ => show win0_1.index t 1 * 1024 + 1 * q.val = 1024 * (t.val / 2) + q.val; rw [e1]; omega

theorem high (t : Fin cfg0.N) (q : Fin 1024) : 1024 * (t.val / 2) + q.val < 2048 := by
  have : t.val < 4 := t.isLt
  omega

/-- After the first stretch the accumulator holds its part of the sum. -/
theorem first (t : Fin cfg0.N) (h : t.val % 2 = 0) (p : Fin 512) (q : Fin 1024) :
    ((outsAt0 m c t.val t.isLt).2 (ix2 p q) : EReal) = upto 4096 (term (aX m c) (aW m c) p ⟨_, high t q⟩) := by
  rw [outsAt0_A m c t h (by omega) (by omega)]
  dsimp only
  rw [acc_A]
  refine (pay2 _ _ p q).trans ?_
  refine Eq.trans ?_ (upto_add 0 (by decide : 0 + 4096 ≤ 8192) (term (aX m c) (aW m c) p ⟨_, high t q⟩))
  rw [upto_zero, zero_add]
  refine Finset.sum_congr rfl fun k _ => ?_
  rw [blk0 m c t k p (by omega), blk1 m c t k q (by omega) (high t q)]
  simp only [h]
  rfl

/-- After the second stretch the result's block holds the whole sum. -/
theorem second (t : Fin cfg0.N) (h : t.val % 2 = 1) (p : Fin 512) (q : Fin 1024) :
    ((outsAt0 m c t.val t.isLt).1 (ix2 p q) : EReal) = ∑ r, term (aX m c) (aW m c) p ⟨_, high t q⟩ r := by
  rw [outsAt0_B m c t (by omega) h h]
  dsimp only
  rw [out_B]
  refine (pay3 _ _ _ p q).trans ?_
  have h8 : t.val < 4 := t.isLt
  have e := first m c ⟨t.val - 1, by omega⟩ (by show (t.val - 1) % 2 = 0; omega) p q
  rw [← upto_all (show 8192 ≤ 4096 + 4096 by decide), ← upto_add 4096 (by decide : 4096 + 4096 ≤ 8192)]
  congr 1
  · refine e.trans ?_
    congr 2
    exact Fin.ext (by show 1024 * ((t.val - 1) / 2) + q.val = 1024 * (t.val / 2) + q.val; omega)
  · refine Finset.sum_congr rfl fun k _ => ?_
    rw [blk0 m c t k p (by omega), blk1 m c t k q (by omega) (high t q)]
    simp only [h]
    rfl

/-- The carried state of the fold up to a point is the recursion's. -/
theorem fold_at (t : Fin cfg0.N) (n : ℕ) (hn : 0 + n < cfg0.N) (e : n = t.val) :
    Pipeline.accAt (fun n h => Value.stAt0 m c n h Value.junk0) (Value.stAt0 m c) 0 n hn = outsAt0 m c t.val t.isLt := by
  subst e
  rw [Value.outsAt0_sweep]

/-- The result array is the product. -/
theorem result : Value.G2 m c = R m c := by
  funext i
  obtain ⟨p, q, rfl⟩ : ∃ (p : Fin 512) (q : Fin 2048), i = ix2 p q := ⟨_, _, eq_ix2 i⟩
  have hN : 2 * (q.val / 1024) + 1 < cfg0.N := by show _ < 4; omega
  have hp : Value.pt2Of (ix2 p q) = (⟨_, hN⟩ : Fin cfg0.N).val := by
    show 2 * (2 * (p.val / 512 - 0) + 1 * (q.val / 1024 - 0)) + 1 = 2 * (q.val / 1024) + 1
    omega
  have hl : Value.loc2Of (ix2 p q) = ix2 (⟨p.val % 512, Nat.mod_lt _ (by decide)⟩ : Fin 512) (⟨q.val % 1024, Nat.mod_lt _ (by decide)⟩ : Fin 1024) := by
    funext a
    match a with
    | ⟨0, _⟩ => rfl
    | ⟨1, _⟩ => rfl
  show (if h : _ then _ else _) = _
  rw [dif_pos (by rw [hp]; exact hN), hl, fold_at m c ⟨_, hN⟩ _ _ hp]
  refine (second m c ⟨_, hN⟩ (by show (2 * (q.val / 1024) + 1) % 2 = 1; omega) _ _).trans ?_
  unfold R G
  refine Finset.sum_congr rfl fun r _ => ?_
  congr 1
  · exact Fin.ext (by show p.val % 512 = p.val; omega)
  · exact Fin.ext (by show 1024 * ((2 * (q.val / 1024) + 1) / 2) + q.val % 1024 = q.val; omega)

/-- The kernel leaves the product, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (Value.run m ρ)

/-- The reference computes the same product. -/
theorem reference (x : FVec Ideal S8192x512 .bf16) (w : FVec Ideal S8192x2048 .bf16) : DwQRefIdeal.Read.val_main_v5 (F := Ideal) x w = G x w := by
  funext i
  obtain ⟨p, q, rfl⟩ : ∃ (p : Fin 512) (q : Fin 2048), i = ix2 p q := ⟨_, _, eq_ix2 i⟩
  have h : DwQRefIdeal.Read.val_main_v5 (F := Ideal) x w (ix2 p q) = ∑ r : Fin 8192, (w (ix2 r q) : EReal) * x (ix2 r p) := by
    pointwise [DwQRefIdeal.Read.val_main_v5, DwQRefIdeal.Read.val_main_v4, DwQRefIdeal.Read.val_main_v1, DwQRefIdeal.Read.val_main_v0]
  rw [h]
  exact Finset.sum_congr rfl fun r _ => mul_comm _ _

end Cert.DwQValue

end
-- ==== Proof.DwK.lean ====
/- The gradient of the keys' up-projection: the product accumulated over two stretches of rows is the sum over all of them. -/
module

public import proofs.«01_k».proof.Proof.Rows
public import proofs.«01_k».proof.Proof.Gen.DwKIdeal.Value
public import proofs.«01_k».proof.Proof.Gen.DwKRefIdeal.Read
public import Idealize.ShloMosaic.Lib.Pipeline.ValueKit
public import Idealize.ShloMosaic.Lib.Pointwise

@[expose] public section

set_option maxRecDepth 16384

namespace Cert.DwKValue

open Idealize.ShloMosaic Idealize.ShloMosaic.TcCoe Idealize.SL.Sem
open Cert.DwKIdeal Cert.DwKIdeal.Gen Cert.Rows

theorem hz : (![0, 0] : Fin 2 → ℕ) = fun _ => 0 := funext fun a => by fin_cases a <;> rfl

/-- A stretch's product, read. -/
theorem pay2 (x : FVec Ideal S4096x256 .bf16) (w : FVec Ideal S4096x1024 .bf16) (p : Fin 256) (q : Fin 1024) :
    (k0_pay2 (F := Ideal) x w (ix2 p q) : EReal) = ∑ k : Fin 4096, (x (ix2 k p) : EReal) * w (ix2 k q) := by
  pointwise [k0_pay2, k0_pay1]

/-- A stretch's product, added. -/
theorem pay3 (x : FVec Ideal S4096x256 .bf16) (w : FVec Ideal S4096x1024 .bf16) (a : FVec Ideal S256x1024 .f32) (p : Fin 256) (q : Fin 1024) :
    (k0_pay3 (F := Ideal) x w a (ix2 p q) : EReal) = a (ix2 p q) + ∑ k : Fin 4096, (x (ix2 k p) : EReal) * w (ix2 k q) := by
  pointwise [k0_pay3, k0_pay1]

section
variable (c : Dev nD) (i : grid0.Coords) (a3 : Memref sig .tc .vmem S4096x256 .bf16) (h3 : a3.IsWhole)
  (a4 : Memref sig .tc .vmem S4096x1024 .bf16) (h4 : a4.IsWhole) (a5 : Memref sig .tc .vmem S256x1024 .f32) (h5 : a5.IsWhole)
  (a6 : Memref sig .tc .vmem S256x1024 .f32) (h6 : a6.IsWhole) (x0 : Vec Ideal S4096x256 .bf16) (x1 : Vec Ideal S4096x1024 .bf16) (xs : Vec Ideal S256x1024 .f32)

/-- The first stretch leaves its product in the accumulator. -/
theorem acc_A (c0 : cond0_0 i) (c1 : ¬cond0_1 i) (c2 : ¬cond0_2 i) :
    sout0_A_0 c i a3 h3 a4 h4 a5 h5 a6 h6 c0 c1 c2 x0 x1 = k0_pay2 x0 x1 := by
  unfold sout0_A_0
  rw [View.read_writes_eq_canon _ _ _ (scover0_A_0 c i a3 h3 a4 h4 a5 h5 a6 h6 c0 c1 c2 x0 x1)]
  unfold kernelRun0_A
  dsimp only
  sl_unfold_words
  rw [View.canon_unit_zero hz]
  simp only [View.readAt_eq_ld, h3.read_unread, h4.read_unread, View.ld_unit_zero (S := S4096x256) hz, View.ld_unit_zero (S := S4096x1024) hz]

/-- The second stretch leaves the sum in the result. -/
theorem out_B (c0 : ¬cond0_0 i) (c1 : cond0_1 i) (c2 : cond0_2 i) :
    out0_B_2 c i a3 h3 a4 h4 a5 h5 a6 h6 c0 c1 c2 x0 x1 xs = k0_pay3 x0 x1 xs := by
  unfold out0_B_2
  rw [View.read_writes_eq_canon _ _ _ (cover0_B_2 c i a3 h3 a4 h4 a5 h5 a6 h6 c0 c1 c2 x0 x1 xs)]
  unfold kernelRun0_B
  dsimp only
  sl_unfold_words
  rw [View.canon_unit_zero hz, View.readCov_unit_zero (S := S256x1024) _ hz]
  simp only [View.readAt_eq_ld, h3.read_unread, h4.read_unread, h6.read_unread, View.ld_unit_zero (S := S4096x256) hz, View.ld_unit_zero (S := S4096x1024) hz, View.ld_unit_zero (S := S256x1024) hz]
end

/-- The block of each array at a point. -/
theorem idx : ∀ t : Fin cfg0.N, win0_0.index t = ![t.val % 2, 0] ∧ win0_1.index t = ![t.val % 2, t.val / 2] :=
  (by decide +kernel : ∀ t : Fin grid0.N, _)

variable (m : (ℓ : Loc nD τ sig) → Buf (Elt Ideal) ℓ) (c : Dev nD)

/-- One row's term of an element of the product. -/
noncomputable def term (x : FVec Ideal S8192x256 .bf16) (w : FVec Ideal S8192x1024 .bf16) (p : Fin 256) (q : Fin 1024) (r : Fin 8192) : EReal :=
  (x (ix2 r p) : EReal) * w (ix2 r q)

/-- The product of the two arrays over their rows. -/
noncomputable def G (x : FVec Ideal S8192x256 .bf16) (w : FVec Ideal S8192x1024 .bf16) : FVec Ideal S256x1024 .f32 := fun i =>
  ∑ r : Fin 8192, term x w (⟨(i 0).val, (i 0).isLt⟩ : Fin 256) (⟨(i 1).val, (i 1).isLt⟩ : Fin 1024) r

/-- The rows' array. -/
noncomputable abbrev aX : FVec Ideal S8192x256 .bf16 := m ((c : Thread nD τ).loc main_arg0)
/-- The gradients' array. -/
noncomputable abbrev aW : FVec Ideal S8192x1024 .bf16 := m ((c : Thread nD τ).loc main_arg1)

/-- The same, for the memory's arrays. -/
noncomputable def R : Buf (Elt Ideal) ((c : Thread nD τ).loc main_v0) := G (aX m c) (aW m c)

theorem blk0 (t : Fin cfg0.N) (k : Fin 4096) (p : Fin 256) (hk : 4096 * (t.val % 2) + k.val < 8192) :
    iblk m c 0 t (ix2 k p) = aX m c (ix2 ⟨4096 * (t.val % 2) + k.val, hk⟩ p) := by
  have e0 : win0_0.index t (0 : Fin 2) = t.val % 2 := congrFun (idx t).1 0
  have e1 : win0_0.index t (1 : Fin 2) = 0 := congrFun (idx t).1 1
  show m _ _ = m _ _
  congr 1
  funext a; apply Fin.ext
  match a with
  | ⟨0, _⟩ => show win0_0.index t 0 * 4096 + 1 * k.val = 4096 * (t.val % 2) + k.val; rw [e0]; omega
  | ⟨1, _⟩ => show win0_0.index t 1 * 256 + 1 * p.val = p.val; rw [e1]; omega

theorem blk1 (t : Fin cfg0.N) (k : Fin 4096) (q : Fin 1024) (hk : 4096 * (t.val % 2) + k.val < 8192) (hq : 1024 * (t.val / 2) + q.val < 1024) :
    iblk m c 1 t (ix2 k q) = aW m c (ix2 ⟨4096 * (t.val % 2) + k.val, hk⟩ ⟨1024 * (t.val / 2) + q.val, hq⟩) := by
  have e0 : win0_1.index t (0 : Fin 2) = t.val % 2 := congrFun (idx t).2 0
  have e1 : win0_1.index t (1 : Fin 2) = t.val / 2 := congrFun (idx t).2 1
  show m _ _ = m _ _
  congr 1
  funext a; apply Fin.ext
  match a with
  | ⟨0, _⟩ => show win0_1.index t 0 * 4096 + 1 * k.val = 4096 * (t.val % 2) + k.val; rw [e0]; omega
  | ⟨1, _⟩ => show win0_1.index t 1 * 1024 + 1 * q.val = 1024 * (t.val / 2) + q.val; rw [e1]; omega

theorem high (t : Fin cfg0.N) (q : Fin 1024) : 1024 * (t.val / 2) + q.val < 1024 := by
  have : t.val < 2 := t.isLt
  omega

/-- After the first stretch the accumulator holds its part of the sum. -/
theorem first (t : Fin cfg0.N) (h : t.val % 2 = 0) (p : Fin 256) (q : Fin 1024) :
    ((outsAt0 m c t.val t.isLt).2 (ix2 p q) : EReal) = upto 4096 (term (aX m c) (aW m c) p ⟨_, high t q⟩) := by
  rw [outsAt0_A m c t h (by omega) (by omega)]
  dsimp only
  rw [acc_A]
  refine (pay2 _ _ p q).trans ?_
  refine Eq.trans ?_ (upto_add 0 (by decide : 0 + 4096 ≤ 8192) (term (aX m c) (aW m c) p ⟨_, high t q⟩))
  rw [upto_zero, zero_add]
  refine Finset.sum_congr rfl fun k _ => ?_
  rw [blk0 m c t k p (by omega), blk1 m c t k q (by omega) (high t q)]
  simp only [h]
  rfl

/-- After the second stretch the result's block holds the whole sum. -/
theorem second (t : Fin cfg0.N) (h : t.val % 2 = 1) (p : Fin 256) (q : Fin 1024) :
    ((outsAt0 m c t.val t.isLt).1 (ix2 p q) : EReal) = ∑ r, term (aX m c) (aW m c) p ⟨_, high t q⟩ r := by
  rw [outsAt0_B m c t (by omega) h h]
  dsimp only
  rw [out_B]
  refine (pay3 _ _ _ p q).trans ?_
  have h8 : t.val < 2 := t.isLt
  have e := first m c ⟨t.val - 1, by omega⟩ (by show (t.val - 1) % 2 = 0; omega) p q
  rw [← upto_all (show 8192 ≤ 4096 + 4096 by decide), ← upto_add 4096 (by decide : 4096 + 4096 ≤ 8192)]
  congr 1
  · refine e.trans ?_
    congr 2
    exact Fin.ext (by show 1024 * ((t.val - 1) / 2) + q.val = 1024 * (t.val / 2) + q.val; omega)
  · refine Finset.sum_congr rfl fun k _ => ?_
    rw [blk0 m c t k p (by omega), blk1 m c t k q (by omega) (high t q)]
    simp only [h]
    rfl

/-- The carried state of the fold up to a point is the recursion's. -/
theorem fold_at (t : Fin cfg0.N) (n : ℕ) (hn : 0 + n < cfg0.N) (e : n = t.val) :
    Pipeline.accAt (fun n h => Value.stAt0 m c n h Value.junk0) (Value.stAt0 m c) 0 n hn = outsAt0 m c t.val t.isLt := by
  subst e
  rw [Value.outsAt0_sweep]

/-- The result array is the product. -/
theorem result : Value.G2 m c = R m c := by
  funext i
  obtain ⟨p, q, rfl⟩ : ∃ (p : Fin 256) (q : Fin 1024), i = ix2 p q := ⟨_, _, eq_ix2 i⟩
  have hN : 2 * (q.val / 1024) + 1 < cfg0.N := by show _ < 2; omega
  have hp : Value.pt2Of (ix2 p q) = (⟨_, hN⟩ : Fin cfg0.N).val := by
    show 2 * (1 * (p.val / 256 - 0) + 1 * (q.val / 1024 - 0)) + 1 = 2 * (q.val / 1024) + 1
    omega
  have hl : Value.loc2Of (ix2 p q) = ix2 (⟨p.val % 256, Nat.mod_lt _ (by decide)⟩ : Fin 256) (⟨q.val % 1024, Nat.mod_lt _ (by decide)⟩ : Fin 1024) := by
    funext a
    match a with
    | ⟨0, _⟩ => rfl
    | ⟨1, _⟩ => rfl
  show (if h : _ then _ else _) = _
  rw [dif_pos (by rw [hp]; exact hN), hl, fold_at m c ⟨_, hN⟩ _ _ hp]
  refine (second m c ⟨_, hN⟩ (by show (2 * (q.val / 1024) + 1) % 2 = 1; omega) _ _).trans ?_
  unfold R G
  refine Finset.sum_congr rfl fun r _ => ?_
  congr 1
  · exact Fin.ext (by show p.val % 256 = p.val; omega)
  · exact Fin.ext (by show 1024 * ((2 * (q.val / 1024) + 1) / 2) + q.val % 1024 = q.val; omega)

/-- The kernel leaves the product, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (Value.run m ρ)

/-- The reference computes the same product. -/
theorem reference (x : FVec Ideal S8192x256 .bf16) (w : FVec Ideal S8192x1024 .bf16) : DwKRefIdeal.Read.val_main_v5 (F := Ideal) x w = G x w := by
  funext i
  obtain ⟨p, q, rfl⟩ : ∃ (p : Fin 256) (q : Fin 1024), i = ix2 p q := ⟨_, _, eq_ix2 i⟩
  have h : DwKRefIdeal.Read.val_main_v5 (F := Ideal) x w (ix2 p q) = ∑ r : Fin 8192, (w (ix2 r q) : EReal) * x (ix2 r p) := by
    pointwise [DwKRefIdeal.Read.val_main_v5, DwKRefIdeal.Read.val_main_v4, DwKRefIdeal.Read.val_main_v1, DwKRefIdeal.Read.val_main_v0]
  rw [h]
  exact Finset.sum_congr rfl fun r _ => mul_comm _ _

end Cert.DwKValue

end
-- ==== Proof.DwV.lean ====
/- The gradient of the values' up-projection: the product accumulated over two stretches of rows is the sum over all of them. -/
module

public import proofs.«01_k».proof.Proof.Rows
public import proofs.«01_k».proof.Proof.Gen.DwVIdeal.Value
public import proofs.«01_k».proof.Proof.Gen.DwVRefIdeal.Read
public import Idealize.ShloMosaic.Lib.Pipeline.ValueKit
public import Idealize.ShloMosaic.Lib.Pointwise

@[expose] public section

set_option maxRecDepth 16384

namespace Cert.DwVValue

open Idealize.ShloMosaic Idealize.ShloMosaic.TcCoe Idealize.SL.Sem
open Cert.DwVIdeal Cert.DwVIdeal.Gen Cert.Rows

theorem hz : (![0, 0] : Fin 2 → ℕ) = fun _ => 0 := funext fun a => by fin_cases a <;> rfl

/-- A stretch's product, read. -/
theorem pay2 (x : FVec Ideal S4096x256 .bf16) (w : FVec Ideal S4096x1024 .bf16) (p : Fin 256) (q : Fin 1024) :
    (k0_pay2 (F := Ideal) x w (ix2 p q) : EReal) = ∑ k : Fin 4096, (x (ix2 k p) : EReal) * w (ix2 k q) := by
  pointwise [k0_pay2, k0_pay1]

/-- A stretch's product, added. -/
theorem pay3 (x : FVec Ideal S4096x256 .bf16) (w : FVec Ideal S4096x1024 .bf16) (a : FVec Ideal S256x1024 .f32) (p : Fin 256) (q : Fin 1024) :
    (k0_pay3 (F := Ideal) x w a (ix2 p q) : EReal) = a (ix2 p q) + ∑ k : Fin 4096, (x (ix2 k p) : EReal) * w (ix2 k q) := by
  pointwise [k0_pay3, k0_pay1]

section
variable (c : Dev nD) (i : grid0.Coords) (a3 : Memref sig .tc .vmem S4096x256 .bf16) (h3 : a3.IsWhole)
  (a4 : Memref sig .tc .vmem S4096x1024 .bf16) (h4 : a4.IsWhole) (a5 : Memref sig .tc .vmem S256x1024 .f32) (h5 : a5.IsWhole)
  (a6 : Memref sig .tc .vmem S256x1024 .f32) (h6 : a6.IsWhole) (x0 : Vec Ideal S4096x256 .bf16) (x1 : Vec Ideal S4096x1024 .bf16) (xs : Vec Ideal S256x1024 .f32)

/-- The first stretch leaves its product in the accumulator. -/
theorem acc_A (c0 : cond0_0 i) (c1 : ¬cond0_1 i) (c2 : ¬cond0_2 i) :
    sout0_A_0 c i a3 h3 a4 h4 a5 h5 a6 h6 c0 c1 c2 x0 x1 = k0_pay2 x0 x1 := by
  unfold sout0_A_0
  rw [View.read_writes_eq_canon _ _ _ (scover0_A_0 c i a3 h3 a4 h4 a5 h5 a6 h6 c0 c1 c2 x0 x1)]
  unfold kernelRun0_A
  dsimp only
  sl_unfold_words
  rw [View.canon_unit_zero hz]
  simp only [View.readAt_eq_ld, h3.read_unread, h4.read_unread, View.ld_unit_zero (S := S4096x256) hz, View.ld_unit_zero (S := S4096x1024) hz]

/-- The second stretch leaves the sum in the result. -/
theorem out_B (c0 : ¬cond0_0 i) (c1 : cond0_1 i) (c2 : cond0_2 i) :
    out0_B_2 c i a3 h3 a4 h4 a5 h5 a6 h6 c0 c1 c2 x0 x1 xs = k0_pay3 x0 x1 xs := by
  unfold out0_B_2
  rw [View.read_writes_eq_canon _ _ _ (cover0_B_2 c i a3 h3 a4 h4 a5 h5 a6 h6 c0 c1 c2 x0 x1 xs)]
  unfold kernelRun0_B
  dsimp only
  sl_unfold_words
  rw [View.canon_unit_zero hz, View.readCov_unit_zero (S := S256x1024) _ hz]
  simp only [View.readAt_eq_ld, h3.read_unread, h4.read_unread, h6.read_unread, View.ld_unit_zero (S := S4096x256) hz, View.ld_unit_zero (S := S4096x1024) hz, View.ld_unit_zero (S := S256x1024) hz]
end

/-- The block of each array at a point. -/
theorem idx : ∀ t : Fin cfg0.N, win0_0.index t = ![t.val % 2, 0] ∧ win0_1.index t = ![t.val % 2, t.val / 2] :=
  (by decide +kernel : ∀ t : Fin grid0.N, _)

variable (m : (ℓ : Loc nD τ sig) → Buf (Elt Ideal) ℓ) (c : Dev nD)

/-- One row's term of an element of the product. -/
noncomputable def term (x : FVec Ideal S8192x256 .bf16) (w : FVec Ideal S8192x1024 .bf16) (p : Fin 256) (q : Fin 1024) (r : Fin 8192) : EReal :=
  (x (ix2 r p) : EReal) * w (ix2 r q)

/-- The product of the two arrays over their rows. -/
noncomputable def G (x : FVec Ideal S8192x256 .bf16) (w : FVec Ideal S8192x1024 .bf16) : FVec Ideal S256x1024 .f32 := fun i =>
  ∑ r : Fin 8192, term x w (⟨(i 0).val, (i 0).isLt⟩ : Fin 256) (⟨(i 1).val, (i 1).isLt⟩ : Fin 1024) r

/-- The rows' array. -/
noncomputable abbrev aX : FVec Ideal S8192x256 .bf16 := m ((c : Thread nD τ).loc main_arg0)
/-- The gradients' array. -/
noncomputable abbrev aW : FVec Ideal S8192x1024 .bf16 := m ((c : Thread nD τ).loc main_arg1)

/-- The same, for the memory's arrays. -/
noncomputable def R : Buf (Elt Ideal) ((c : Thread nD τ).loc main_v0) := G (aX m c) (aW m c)

theorem blk0 (t : Fin cfg0.N) (k : Fin 4096) (p : Fin 256) (hk : 4096 * (t.val % 2) + k.val < 8192) :
    iblk m c 0 t (ix2 k p) = aX m c (ix2 ⟨4096 * (t.val % 2) + k.val, hk⟩ p) := by
  have e0 : win0_0.index t (0 : Fin 2) = t.val % 2 := congrFun (idx t).1 0
  have e1 : win0_0.index t (1 : Fin 2) = 0 := congrFun (idx t).1 1
  show m _ _ = m _ _
  congr 1
  funext a; apply Fin.ext
  match a with
  | ⟨0, _⟩ => show win0_0.index t 0 * 4096 + 1 * k.val = 4096 * (t.val % 2) + k.val; rw [e0]; omega
  | ⟨1, _⟩ => show win0_0.index t 1 * 256 + 1 * p.val = p.val; rw [e1]; omega

theorem blk1 (t : Fin cfg0.N) (k : Fin 4096) (q : Fin 1024) (hk : 4096 * (t.val % 2) + k.val < 8192) (hq : 1024 * (t.val / 2) + q.val < 1024) :
    iblk m c 1 t (ix2 k q) = aW m c (ix2 ⟨4096 * (t.val % 2) + k.val, hk⟩ ⟨1024 * (t.val / 2) + q.val, hq⟩) := by
  have e0 : win0_1.index t (0 : Fin 2) = t.val % 2 := congrFun (idx t).2 0
  have e1 : win0_1.index t (1 : Fin 2) = t.val / 2 := congrFun (idx t).2 1
  show m _ _ = m _ _
  congr 1
  funext a; apply Fin.ext
  match a with
  | ⟨0, _⟩ => show win0_1.index t 0 * 4096 + 1 * k.val = 4096 * (t.val % 2) + k.val; rw [e0]; omega
  | ⟨1, _⟩ => show win0_1.index t 1 * 1024 + 1 * q.val = 1024 * (t.val / 2) + q.val; rw [e1]; omega

theorem high (t : Fin cfg0.N) (q : Fin 1024) : 1024 * (t.val / 2) + q.val < 1024 := by
  have : t.val < 2 := t.isLt
  omega

/-- After the first stretch the accumulator holds its part of the sum. -/
theorem first (t : Fin cfg0.N) (h : t.val % 2 = 0) (p : Fin 256) (q : Fin 1024) :
    ((outsAt0 m c t.val t.isLt).2 (ix2 p q) : EReal) = upto 4096 (term (aX m c) (aW m c) p ⟨_, high t q⟩) := by
  rw [outsAt0_A m c t h (by omega) (by omega)]
  dsimp only
  rw [acc_A]
  refine (pay2 _ _ p q).trans ?_
  refine Eq.trans ?_ (upto_add 0 (by decide : 0 + 4096 ≤ 8192) (term (aX m c) (aW m c) p ⟨_, high t q⟩))
  rw [upto_zero, zero_add]
  refine Finset.sum_congr rfl fun k _ => ?_
  rw [blk0 m c t k p (by omega), blk1 m c t k q (by omega) (high t q)]
  simp only [h]
  rfl

/-- After the second stretch the result's block holds the whole sum. -/
theorem second (t : Fin cfg0.N) (h : t.val % 2 = 1) (p : Fin 256) (q : Fin 1024) :
    ((outsAt0 m c t.val t.isLt).1 (ix2 p q) : EReal) = ∑ r, term (aX m c) (aW m c) p ⟨_, high t q⟩ r := by
  rw [outsAt0_B m c t (by omega) h h]
  dsimp only
  rw [out_B]
  refine (pay3 _ _ _ p q).trans ?_
  have h8 : t.val < 2 := t.isLt
  have e := first m c ⟨t.val - 1, by omega⟩ (by show (t.val - 1) % 2 = 0; omega) p q
  rw [← upto_all (show 8192 ≤ 4096 + 4096 by decide), ← upto_add 4096 (by decide : 4096 + 4096 ≤ 8192)]
  congr 1
  · refine e.trans ?_
    congr 2
    exact Fin.ext (by show 1024 * ((t.val - 1) / 2) + q.val = 1024 * (t.val / 2) + q.val; omega)
  · refine Finset.sum_congr rfl fun k _ => ?_
    rw [blk0 m c t k p (by omega), blk1 m c t k q (by omega) (high t q)]
    simp only [h]
    rfl

/-- The carried state of the fold up to a point is the recursion's. -/
theorem fold_at (t : Fin cfg0.N) (n : ℕ) (hn : 0 + n < cfg0.N) (e : n = t.val) :
    Pipeline.accAt (fun n h => Value.stAt0 m c n h Value.junk0) (Value.stAt0 m c) 0 n hn = outsAt0 m c t.val t.isLt := by
  subst e
  rw [Value.outsAt0_sweep]

/-- The result array is the product. -/
theorem result : Value.G2 m c = R m c := by
  funext i
  obtain ⟨p, q, rfl⟩ : ∃ (p : Fin 256) (q : Fin 1024), i = ix2 p q := ⟨_, _, eq_ix2 i⟩
  have hN : 2 * (q.val / 1024) + 1 < cfg0.N := by show _ < 2; omega
  have hp : Value.pt2Of (ix2 p q) = (⟨_, hN⟩ : Fin cfg0.N).val := by
    show 2 * (1 * (p.val / 256 - 0) + 1 * (q.val / 1024 - 0)) + 1 = 2 * (q.val / 1024) + 1
    omega
  have hl : Value.loc2Of (ix2 p q) = ix2 (⟨p.val % 256, Nat.mod_lt _ (by decide)⟩ : Fin 256) (⟨q.val % 1024, Nat.mod_lt _ (by decide)⟩ : Fin 1024) := by
    funext a
    match a with
    | ⟨0, _⟩ => rfl
    | ⟨1, _⟩ => rfl
  show (if h : _ then _ else _) = _
  rw [dif_pos (by rw [hp]; exact hN), hl, fold_at m c ⟨_, hN⟩ _ _ hp]
  refine (second m c ⟨_, hN⟩ (by show (2 * (q.val / 1024) + 1) % 2 = 1; omega) _ _).trans ?_
  unfold R G
  refine Finset.sum_congr rfl fun r _ => ?_
  congr 1
  · exact Fin.ext (by show p.val % 256 = p.val; omega)
  · exact Fin.ext (by show 1024 * ((2 * (q.val / 1024) + 1) / 2) + q.val % 1024 = q.val; omega)

/-- The kernel leaves the product, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (Value.run m ρ)

/-- The reference computes the same product. -/
theorem reference (x : FVec Ideal S8192x256 .bf16) (w : FVec Ideal S8192x1024 .bf16) : DwVRefIdeal.Read.val_main_v5 (F := Ideal) x w = G x w := by
  funext i
  obtain ⟨p, q, rfl⟩ : ∃ (p : Fin 256) (q : Fin 1024), i = ix2 p q := ⟨_, _, eq_ix2 i⟩
  have h : DwVRefIdeal.Read.val_main_v5 (F := Ideal) x w (ix2 p q) = ∑ r : Fin 8192, (w (ix2 r q) : EReal) * x (ix2 r p) := by
    pointwise [DwVRefIdeal.Read.val_main_v5, DwVRefIdeal.Read.val_main_v4, DwVRefIdeal.Read.val_main_v1, DwVRefIdeal.Read.val_main_v0]
  rw [h]
  exact Finset.sum_congr rfl fun r _ => mul_comm _ _

end Cert.DwVValue

end
-- ==== Proof.Prenorm.lean ====
/- The norm before the input projection, block of rows by block of rows: its result array is the reference's. -/
module

public import proofs.«01_k».proof.Proof.Rows
public import proofs.«01_k».proof.Proof.Gen.PrenormIdeal.Value
public import proofs.«01_k».proof.Proof.Gen.PrenormRefIdeal.Read
public import Idealize.ShloMosaic.Lib.Pipeline.ValueKit
public import Idealize.ShloMosaic.Lib.Pointwise

@[expose] public section

set_option maxRecDepth 16384

namespace Cert.PrenormValue

open Idealize.ShloMosaic Idealize.ShloMosaic.TcCoe Idealize.SL.Sem
open Cert.PrenormIdeal Cert.PrenormIdeal.Gen

theorem hz : (![0, 0] : Fin 2 → ℕ) = fun _ => 0 := funext fun a => by fin_cases a <;> rfl

/-- A block's normed rows, read. -/
theorem pay1 (x : FVec Ideal S512x2048 .f32) (w : FVec Ideal S1x2048 .f32) (p : Fin 512) (q : Fin 2048) :
    (k0_pay1 (F := Ideal) x w (ix2 p q) : EReal) = x (ix2 p q) * Ideal.rsqrt (Ideal.div (∑ k : Fin 2048, (x (ix2 p k) : EReal) * x (ix2 p k))
      (Ideal.ofBits FTy.f32 0x45000000#32) + Ideal.ofBits FTy.f32 0x358637BD#32) * w (ix2 0 q) := by
  pointwise [k0_pay1]

/-- A point stores the normed rows of its block. -/
theorem out (x : Vec Ideal S512x2048 .f32) (w : Vec Ideal S1x2048 .f32) : out0_2 x w = k0_pay1 x w := by
  unfold out0_2
  rw [View.canon_unit_zero hz]
  simp only [View.ld_unit_zero (S := S512x2048) hz, View.ld_unit_zero (S := S1x2048) hz]

/-- The block of each array at a point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The normed array. -/
noncomputable def G (x : FVec Ideal S8192x2048 .f32) (w : FVec Ideal S1x2048 .f32) : FVec Ideal S8192x2048 .bf16 := fun i =>
  x (ix2 (⟨(i 0).val, (i 0).isLt⟩ : Fin 8192) (⟨(i 1).val, (i 1).isLt⟩ : Fin 2048)) * Ideal.rsqrt (Ideal.div (∑ k : Fin 2048, (x (ix2 (⟨(i 0).val, (i 0).isLt⟩ : Fin 8192) k) : EReal) * x (ix2 (⟨(i 0).val, (i 0).isLt⟩ : Fin 8192) k))
      (Ideal.ofBits FTy.f32 0x45000000#32) + Ideal.ofBits FTy.f32 0x358637BD#32) * w (ix2 0 (⟨(i 1).val, (i 1).isLt⟩ : Fin 2048))

/-- The same, for the memory's arrays. -/
noncomputable def R : Buf (Elt Ideal) ((c : Thread nD τ).loc main_v0) :=
  G (m ((c : Thread nD τ).loc main_arg0)) (m ((c : Thread nD τ).loc main_arg1))

/-- The rows a point reads. -/
theorem blk0 (t : Fin cfg0.N) (p : Fin 512) (q : Fin 2048) (hp : t.val * 512 + p.val < 8192) :
    iblk m c 0 t (ix2 p q) = m ((c : Thread nD τ).loc main_arg0) (ix2 (⟨t.val * 512 + p.val, hp⟩ : Fin 8192) q) := by
  have i00 : win0_0.index t (0 : Fin 2) = t.val := congrFun (idx t).1 0
  have i01 : win0_0.index t (1 : Fin 2) = 0 := congrFun (idx t).1 1
  show m _ _ = m _ _
  congr 1
  funext a; apply Fin.ext
  match a with
  | ⟨0, _⟩ => show win0_0.index t 0 * 512 + 1 * p.val = t.val * 512 + p.val; rw [i00]; omega
  | ⟨1, _⟩ => show win0_0.index t 1 * 2048 + 1 * q.val = q.val; rw [i01]; omega

/-- The weights a point reads. -/
theorem blk1 (t : Fin cfg0.N) (q : Fin 2048) :
    iblk m c 1 t (ix2 (0 : Fin 1) q) = m ((c : Thread nD τ).loc main_arg1) (ix2 (0 : Fin 1) q) := by
  have i10 : win0_1.index t (0 : Fin 2) = 0 := congrFun (idx t).2.1 0
  have i11 : win0_1.index t (1 : Fin 2) = 0 := congrFun (idx t).2.1 1
  show m _ _ = m _ _
  congr 1
  funext a; apply Fin.ext
  match a with
  | ⟨0, _⟩ => show win0_1.index t 0 * 1 + 1 * 0 = 0; rw [i10]
  | ⟨1, _⟩ => show win0_1.index t 1 * 2048 + 1 * q.val = q.val; rw [i11]; omega

/-- What a point writes back is its block of the normed array. -/
theorem flushed_eq (t : Fin cfg0.N) (hf : (cfg0.win 2).flush t = true) :
    (Gen.dats m 0 c).flushed 2 t = ((cfg0.win 2).blk t).view.read (Elt Ideal) (R m c) := by
  rw [Value.flushed2, out]
  have hN : t.val < 16 := t.isLt
  have i20 : win0_2.index t (0 : Fin 2) = t.val := congrFun (idx t).2.2 0
  have i21 : win0_2.index t (1 : Fin 2) = 0 := congrFun (idx t).2.2 1
  funext y
  obtain ⟨p, q, rfl⟩ : ∃ (p : Fin 512) (q : Fin 2048), y = ix2 p q := ⟨_, _, eq_ix2 y⟩
  have hp : t.val * 512 + p.val < 8192 := by have := p.isLt; omega
  have e : ((cfg0.win 2).blk t).view.emb (ix2 p q) = ix2 (⟨t.val * 512 + p.val, hp⟩ : Fin 8192) q := by
    funext a; apply Fin.ext
    match a with
    | ⟨0, _⟩ => show win0_2.index t 0 * 512 + 1 * p.val = t.val * 512 + p.val; rw [i20]; omega
    | ⟨1, _⟩ => show win0_2.index t 1 * 2048 + 1 * q.val = q.val; rw [i21]; omega
  show k0_pay1 (iblk m c 0 t) (iblk m c 1 t) (ix2 p q) = R m c (((cfg0.win 2).blk t).view.emb (ix2 p q))
  rw [pay1, e]
  simp only [blk0 m c t p _ hp, blk1]
  rfl

/-- An index lies in a point's block when each coordinate does. -/
theorem mem_blk (t : Fin cfg0.N) (i : S8192x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v0).slice (win0_2.rect t)).set ↔ _
  rw [View.set_slice_whole, Rect.mem_set_unit]
  exact Iff.rfl

/-- The result array after the run. -/
theorem final : (Gen.dats m 0 c).arrAt 2 cfg0.N = R m c :=
  (Gen.dats m 0 c).arrAt_eq_of_cover 2 _ (fun t hf => flushed_eq m c t hf) fun i => by
    have h0 : (i 0).val < 8192 := (i 0).isLt
    have h1 : (i 1).val < 2048 := (i 1).isLt
    have hN : (i 0).val / 512 < cfg0.N := by show _ < 16; omega
    obtain ⟨-, -, e2⟩ := idx ⟨_, hN⟩
    have i20 : win0_2.index ⟨_, hN⟩ (0 : Fin 2) = (i 0).val / 512 := congrFun e2 0
    have i21 : win0_2.index ⟨_, hN⟩ (1 : Fin 2) = 0 := congrFun e2 1
    refine ⟨⟨_, hN⟩, flush0_2 _, ?_⟩
    rw [mem_blk]
    intro a
    match a with
    | ⟨0, _⟩ => show win0_2.index ⟨_, hN⟩ (0 : Fin 2) * 512 ≤ (i 0).val ∧ (i 0).val < win0_2.index ⟨_, hN⟩ (0 : Fin 2) * 512 + 512; rw [i20]; omega
    | ⟨1, _⟩ => show win0_2.index ⟨_, hN⟩ (1 : Fin 2) * 2048 ≤ (i 1).val ∧ (i 1).val < win0_2.index ⟨_, hN⟩ (1 : Fin 2) * 2048 + 2048; rw [i21]; omega

/-- The kernel leaves the normed array, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

/-- The reference computes the same array. -/
theorem reference (x : FVec Ideal S8192x2048 .f32) (w : FVec Ideal S1x2048 .f32) :
    PrenormRefIdeal.Read.val_main_v12 (F := Ideal) x w = G x w := by
  funext i
  obtain ⟨p, q, rfl⟩ : ∃ (p : Fin 8192) (q : Fin 2048), i = ix2 p q := ⟨_, _, eq_ix2 i⟩
  pointwise [PrenormRefIdeal.Read.val_main_v12, PrenormRefIdeal.Read.val_main_v11, PrenormRefIdeal.Read.val_main_v10, PrenormRefIdeal.Read.val_main_v9, PrenormRefIdeal.Read.val_main_v8, PrenormRefIdeal.Read.val_main_v7, PrenormRefIdeal.Read.val_main_v6, PrenormRefIdeal.Read.val_main_v5, PrenormRefIdeal.Read.val_main_v4, PrenormRefIdeal.Read.val_main_v3, PrenormRefIdeal.Read.val_main_v2, PrenormRefIdeal.Read.val_main_v1, PrenormRefIdeal.Read.val_main_v0, PrenormRefIdeal.Read.val_main_cst, PrenormRefIdeal.Read.val_main_cst_0, PrenormRefIdeal.Read.val_main_cst_1]
  rfl

end Cert.PrenormValue

end
-- ==== Proof.MlaPrep.lean ====
/- What the latents' norms, the up-projections and the rotary step leave in a block of rows. -/
module

public import proofs.«01_k».proof.Proof.Rows
public import proofs.«01_k».proof.Proof.Gen.MlaPrepIdeal.Value
public import Idealize.ShloMosaic.Lib.Pipeline.ValueKit
public import Idealize.ShloMosaic.Lib.Pointwise
public import Idealize.ShloMosaic.Lib.KernelVsHost

@[expose] public section

set_option maxRecDepth 16384

namespace Cert.MlaPrepValue

open Idealize.ShloMosaic Idealize.ShloMosaic.TcCoe Idealize.SL.Sem
open Cert.MlaPrepIdeal Cert.MlaPrepIdeal.Gen

/-- A row over the root of its mean square, times the weights. -/
noncomputable def nrm {n : ℕ} (d : EReal) (x w : Fin n → EReal) (j : Fin n) : EReal :=
  x j * Ideal.rsqrt (Ideal.div (∑ k : Fin n, x k * x k) d + Ideal.ofBits FTy.f32 0x358637BD#32) * w j

/-- The turn of one row of 128 lanes by three tables. -/
noncomputable def rot (x c s1 s2 : Fin 128 → EReal) (j : Fin 128) : EReal :=
  x j * c j + x ⟨(j.val + 96) % 128, Nat.mod_lt _ (by decide)⟩ * s1 j + x ⟨(j.val + 32) % 128, Nat.mod_lt _ (by decide)⟩ * s2 j

/-- The normed query latents, read. -/
theorem pay9 (x : FVec Ideal S512x512 .f32) (w : FVec Ideal S1x512 .f32) (p : Fin 512) (q : Fin 512) :
    (k0_pay9 (F := Ideal) x w (ix2 p q) : EReal) = nrm (Ideal.ofBits FTy.f32 0x44000000#32) (fun k => x (ix2 p k)) (fun k => w (ix2 0 k)) q := by
  unfold nrm
  pointwise [k0_pay9]

/-- The normed key-value latents, read. -/
theorem pay12 (x : FVec Ideal S512x256 .f32) (w : FVec Ideal S1x256 .f32) (p : Fin 512) (q : Fin 256) :
    (k0_pay12 (F := Ideal) (k0_pay11 x) w (ix2 p q) : EReal) = nrm (Ideal.ofBits FTy.f32 0x43800000#32) (fun k => x (ix2 p k)) (fun k => w (ix2 0 k)) q := by
  unfold nrm
  pointwise [k0_pay12, k0_pay11]

/-- The queries before their turn. -/
theorem pay10 (x : FVec Ideal S512x512 .f32) (w : FVec Ideal S1x512 .f32) (u : FVec Ideal S512x2048 .bf16) (p : Fin 512) (q : Fin 2048) :
    (k0_pay10 (F := Ideal) x w u (ix2 p q) : EReal) = ∑ k : Fin 512, k0_pay9 (F := Ideal) x w (ix2 p k) * u (ix2 k q) := by
  pointwise [k0_pay10]

/-- The keys' unturned part. -/
theorem pay13 (x : FVec Ideal S512x256 .f32) (w : FVec Ideal S1x256 .f32) (u : FVec Ideal S256x1024 .bf16) (p : Fin 512) (q : Fin 1024) :
    (k0_pay13 (F := Ideal) x w u (ix2 p q) : EReal) = ∑ k : Fin 256, k0_pay12 (F := Ideal) x w (ix2 p k) * u (ix2 k q) := by
  pointwise [k0_pay13]

/-- The values. -/
theorem pay14 (x : FVec Ideal S512x256 .f32) (w : FVec Ideal S1x256 .f32) (u : FVec Ideal S256x1024 .bf16) (p : Fin 512) (q : Fin 1024) :
    (k0_pay14 (F := Ideal) x w u (ix2 p q) : EReal) = ∑ k : Fin 256, k0_pay12 (F := Ideal) x w (ix2 p k) * u (ix2 k q) := by
  pointwise [k0_pay14]

/-- A rotation along the lanes, read. -/
theorem turned (x : FVec Ideal S512x128 .f32) (n : ℕ) (hn : n < 128) (h : S512x128.Rotates 1 none) (p : Fin 512) (j : Fin 128) :
    (dynamicRotate 1 (BitVec.ofNat 32 n) none x h (ix2 p j) : EReal) = x (ix2 p ⟨(j.val + (128 - n)) % 128, Nat.mod_lt _ (by decide)⟩) := by
  refine dynamicRotate_apply (s := S512x128) (1 : Fin 2) _ _ h _ _ fun b => ?_
  match b with
  | ⟨0, _⟩ => rfl
  | ⟨1, _⟩ =>
    show (j.val + (128 - n)) % 128 = (j.val + 128 - (BitVec.ofNat 32 n).toNat % 128) % 128
    rw [BitVec.toNat_ofNat]
    omega

/-- The turn of one array of lanes, read. -/
theorem turn (x c s1 s2 : FVec Ideal S512x128 .f32) (p : Fin 512) (j : Fin 128) :
    (k0_pay15 (F := Ideal) c s1 s2 x (ix2 p j) : EReal) = rot (fun l => x (ix2 p l)) (fun l => c (ix2 p l)) (fun l => s1 (ix2 p l)) (fun l => s2 (ix2 p l)) j := by
  have a : _ = x (ix2 p ⟨(j.val + 96) % 128, _⟩) := turned x 32 (by decide) rotates_S512x128_d1 p j
  have b : _ = x (ix2 p ⟨(j.val + 32) % 128, _⟩) := turned x 96 (by decide) rotates_S512x128_d1 p j
  unfold rot
  dsimp only
  rw [← a, ← b]
  rfl

/-- The keys' shared turned lanes are stored as they are. -/
theorem turn36 (c s1 s2 : FVec Ideal S512x128 .f32) (v : FVec Ideal S512x2048 .f32) :
    k0_pay1 (F := Ideal) (k0_pay36 c s1 s2 v) = k0_pay15 c s1 s2 (extractStridedSlice S512x128 ![0, 1664] v slices_S512x2048_o0_1664_S512x128) := rfl

/-- The block of the queries: of each head, 128 lanes as they are and 128 turned. -/
noncomputable def Q (c s1 s2 : FVec Ideal S512x128 .f32) (v : FVec Ideal S512x2048 .f32) : FVec Ideal S512x2048 .bf16 := fun y =>
  if (y 1).val % 256 < 128 then v y
  else rot (fun l => v (ix2 (y 0) (⟨(y 1).val / 256 * 256 + 128 + l.val, by have := (y 1).isLt; have h : (y 1).val < 2048 := this; omega⟩ : Fin 2048)))
    (fun l => c (ix2 (y 0) l)) (fun l => s1 (ix2 (y 0) l)) (fun l => s2 (ix2 (y 0) l)) ⟨(y 1).val % 128, Nat.mod_lt _ (by decide)⟩

/-- The block of the keys: of each head, 128 lanes of its own and 128 shared by all. -/
noncomputable def K (r : FVec Ideal S512x128 .bf16) (v : FVec Ideal S512x1024 .f32) : FVec Ideal S512x2048 .bf16 := fun y =>
  if (y 1).val % 256 < 128 then v (ix2 (y 0) (⟨(y 1).val / 256 * 128 + (y 1).val % 128, by have := (y 1).isLt; have h : (y 1).val < 2048 := this; omega⟩ : Fin 1024))
  else r (ix2 (y 0) (⟨(y 1).val % 128, Nat.mod_lt _ (by decide)⟩ : Fin 128))

/-- Lanes cut at an offset, read. -/
theorem cut (v : FVec Ideal S512x2048 .f32) (o : ℕ) (h : S512x2048.Slices ![0, o] S512x128) (p : Fin 512) (j : Fin 128) (hj : o + j.val < 2048) :
    (extractStridedSlice S512x128 ![0, o] v h (ix2 p j) : EReal) = v (ix2 p ⟨o + j.val, hj⟩) := by
  refine extractStridedSlice_apply _ _ _ _ _ fun a => ?_
  match a with
  | ⟨0, _⟩ => show p.val = 0 + p.val; omega
  | ⟨1, _⟩ => rfl

/-- Lanes cut at an offset of the narrower array, read. -/
theorem cut' (v : FVec Ideal S512x1024 .f32) (o : ℕ) (h : S512x1024.Slices ![0, o] S512x128) (p : Fin 512) (j : Fin 128) (hj : o + j.val < 1024) :
    (extractStridedSlice S512x128 ![0, o] v h (ix2 p j) : EReal) = v (ix2 p ⟨o + j.val, hj⟩) := by
  refine extractStridedSlice_apply _ _ _ _ _ fun a => ?_
  match a with
  | ⟨0, _⟩ => show p.val = 0 + p.val; omega
  | ⟨1, _⟩ => rfl

/-- Where a stored piece's lane lies in the block. -/
theorem at_piece (o : ℕ) (hb : ∀ a : Fin 2, ![0, o] a + S512x128.size a ≤ S512x2048.size a) (p : Fin 512) (j : Fin 128) (hj : o + j.val < 2048) :
    (Rect.unit (s := S512x2048) ![0, o] S512x128.size hb).idx (ix2 p j) = ix2 p ⟨o + j.val, hj⟩ := by
  funext a; apply Fin.ext
  match a with
  | ⟨0, _⟩ => show 0 + 1 * p.val = p.val; omega
  | ⟨1, _⟩ => show o + 1 * j.val = o + j.val; omega

section
variable (c s1 s2 : FVec Ideal S512x128 .f32) (v : FVec Ideal S512x2048 .f32)

/-- A piece of a head's first lanes. -/
theorem q_first (o : ℕ) (ho : o % 256 = 0) (h8 : o + 128 ≤ 2048) (h : S512x2048.Slices ![0, o] S512x128)
    (hb : ∀ a : Fin 2, ![0, o] a + S512x128.size a ≤ S512x2048.size a) (x : S512x128.Idx) :
    (extractStridedSlice S512x128 ![0, o] v h x : EReal) = Q c s1 s2 v ((Rect.unit (s := S512x2048) ![0, o] S512x128.size hb).idx x) := by
  obtain ⟨p, j, rfl⟩ : ∃ (p : Fin 512) (j : Fin 128), x = ix2 p j := ⟨_, _, eq_ix2 x⟩
  have hj : o + j.val < 2048 := by have := j.isLt; omega
  rw [at_piece o hb p j hj, cut v o h p j hj]
  unfold Q
  rw [if_pos (by show (o + j.val) % 256 < 128; have := j.isLt; omega)]

/-- A piece of a head's turned lanes. -/
theorem q_second (o : ℕ) (ho : o % 256 = 128) (h8 : o + 128 ≤ 2048) (h : S512x2048.Slices ![0, o] S512x128)
    (hb : ∀ a : Fin 2, ![0, o] a + S512x128.size a ≤ S512x2048.size a) (x : S512x128.Idx) :
    (k0_pay15 (F := Ideal) c s1 s2 (extractStridedSlice S512x128 ![0, o] v h) x : EReal) = Q c s1 s2 v ((Rect.unit (s := S512x2048) ![0, o] S512x128.size hb).idx x) := by
  obtain ⟨p, j, rfl⟩ : ∃ (p : Fin 512) (j : Fin 128), x = ix2 p j := ⟨_, _, eq_ix2 x⟩
  have hj : o + j.val < 2048 := by have := j.isLt; omega
  rw [at_piece o hb p j hj, turn]
  unfold Q
  rw [if_neg (by show ¬(o + j.val) % 256 < 128; have := j.isLt; omega)]
  have e : (⟨(o + j.val) % 128, Nat.mod_lt _ (by decide)⟩ : Fin 128) = j := Fin.ext (by show (o + j.val) % 128 = j.val; have := j.isLt; omega)
  show rot _ _ _ _ j = rot _ _ _ _ (⟨(o + j.val) % 128, Nat.mod_lt _ (by decide)⟩ : Fin 128)
  rw [e]
  congr 1
  funext l
  rw [cut v o h p l (by have := l.isLt; omega)]
  congr 2
  exact Fin.ext (by show o + l.val = (o + j.val) / 256 * 256 + 128 + l.val; have := j.isLt; omega)
end

section
variable (r : FVec Ideal S512x128 .bf16) (v : FVec Ideal S512x1024 .f32)

/-- A piece of a head's own lanes of the keys. -/
theorem k_first (o : ℕ) (ho : o % 256 = 0) (h8 : o + 128 ≤ 2048) (h : S512x1024.Slices ![0, o / 2] S512x128)
    (hb : ∀ a : Fin 2, ![0, o] a + S512x128.size a ≤ S512x2048.size a) (x : S512x128.Idx) :
    (extractStridedSlice S512x128 ![0, o / 2] v h x : EReal) = K r v ((Rect.unit (s := S512x2048) ![0, o] S512x128.size hb).idx x) := by
  obtain ⟨p, j, rfl⟩ : ∃ (p : Fin 512) (j : Fin 128), x = ix2 p j := ⟨_, _, eq_ix2 x⟩
  have hj : o + j.val < 2048 := by have := j.isLt; omega
  rw [at_piece o hb p j hj, cut' v (o / 2) h p j (by have := j.isLt; omega)]
  unfold K
  rw [if_pos (by show (o + j.val) % 256 < 128; have := j.isLt; omega)]
  congr 2
  exact Fin.ext (by show o / 2 + j.val = (o + j.val) / 256 * 128 + (o + j.val) % 128; have := j.isLt; omega)

/-- A piece of the shared lanes of the keys. -/
theorem k_second (o : ℕ) (ho : o % 256 = 128) (h8 : o + 128 ≤ 2048)
    (hb : ∀ a : Fin 2, ![0, o] a + S512x128.size a ≤ S512x2048.size a) (x : S512x128.Idx) :
    (r x : EReal) = K r v ((Rect.unit (s := S512x2048) ![0, o] S512x128.size hb).idx x) := by
  obtain ⟨p, j, rfl⟩ : ∃ (p : Fin 512) (j : Fin 128), x = ix2 p j := ⟨_, _, eq_ix2 x⟩
  have hj : o + j.val < 2048 := by have := j.isLt; omega
  rw [at_piece o hb p j hj]
  unfold K
  rw [if_neg (by show ¬(o + j.val) % 256 < 128; have := j.isLt; omega)]
  congr 2
  exact Fin.ext (by show j.val = (o + j.val) % 128; have := j.isLt; omega)
end

theorem hz : (![0, 0] : Fin 2 → ℕ) = fun _ => 0 := funext fun a => by fin_cases a <;> rfl

section
variable (x0 : Vec Ideal S512x512 .f32) (x1 : Vec Ideal S512x256 .f32) (x2 : Vec Ideal S512x128 .f32) (x3 : Vec Ideal S1x512 .f32) (x4 : Vec Ideal S1x256 .f32)
  (x5 : Vec Ideal S512x2048 .bf16) (x6 x7 : Vec Ideal S256x1024 .bf16) (x8 x9 x10 : Vec Ideal S512x128 .f32)

/-- The first result's block: the normed query latents. -/
theorem out11 : out0_11 x0 x1 x2 x3 x4 x5 x6 x7 x8 x9 x10 = k0_pay9 x0 x3 := by
  unfold out0_11
  rw [View.canon_unit_zero hz]
  simp only [View.ld_unit_zero (S := S512x512) hz, View.ld_unit_zero (S := S1x512) hz]

/-- The second's: the normed key-value latents. -/
theorem out12 : out0_12 x0 x1 x2 x3 x4 x5 x6 x7 x8 x9 x10 = k0_pay12 (k0_pay11 x1) x4 := by
  unfold out0_12 k0_pay41
  rw [View.canon_unit_zero hz]
  simp only [View.ld_unit_zero (S := S512x256) hz, View.ld_unit_zero (S := S1x256) hz]

/-- The last's: the values. -/
theorem out15 : out0_15 x0 x1 x2 x3 x4 x5 x6 x7 x8 x9 x10 = k0_pay14 (k0_pay11 x1) x4 x7 := by
  unfold out0_15 k0_pay41
  rw [View.canon_unit_zero hz]
  simp only [View.ld_unit_zero (S := S512x256) hz, View.ld_unit_zero (S := S1x256) hz, View.ld_unit_zero (S := S256x1024) hz]

/-- A table's rows, cast to the same shape. -/
theorem same (x : Vec Ideal S512x128 .f32) : k0_pay6 x = x ∧ k0_pay7 x = x ∧ k0_pay8 x = x :=
  ⟨shapeCast_self _ _, shapeCast_self _ _, shapeCast_self _ _⟩

/-- The third's: the queries. -/
theorem out13 : out0_13 x0 x1 x2 x3 x4 x5 x6 x7 x8 x9 x10 = Q x8 x9 x10 (k0_pay10 x0 x3 x5) := by
  unfold out0_13 k0_pay37 k0_pay38 k0_pay39 k0_pay40
  simp only [View.ld_unit_zero (S := S512x128) hz, View.ld_unit_zero (S := S512x512) hz, View.ld_unit_zero (S := S1x512) hz, View.ld_unit_zero (S := S512x2048) hz,
    (same x8).1, (same x9).2.1, (same x10).2.2]
  generalize k0_pay10 x0 x3 x5 = v
  funext y
  refine View.canon_apply_of_pieces (Val := Elt Ideal) (Q x8 x9 x10 v) _ ?_ y (cover0_13 _ _ _ _ _ _ _ _ _ _ _ _ _ _ _ _ y)
  intro pc hpc
  rcases List.mem_cons.mp hpc with rfl | hpc
  · exact q_second x8 x9 x10 v 1920 rfl (by decide) slices_S512x2048_o0_1920_S512x128 inb_S512x2048_S512x128_0_1920
  rcases List.mem_cons.mp hpc with rfl | hpc
  · exact q_first x8 x9 x10 v 1792 rfl (by decide) slices_S512x2048_o0_1792_S512x128 inb_S512x2048_S512x128_0_1792
  rcases List.mem_cons.mp hpc with rfl | hpc
  · exact q_second x8 x9 x10 v 1664 rfl (by decide) slices_S512x2048_o0_1664_S512x128 inb_S512x2048_S512x128_0_1664
  rcases List.mem_cons.mp hpc with rfl | hpc
  · exact q_first x8 x9 x10 v 1536 rfl (by decide) slices_S512x2048_o0_1536_S512x128 inb_S512x2048_S512x128_0_1536
  rcases List.mem_cons.mp hpc with rfl | hpc
  · exact q_second x8 x9 x10 v 1408 rfl (by decide) slices_S512x2048_o0_1408_S512x128 inb_S512x2048_S512x128_0_1408
  rcases List.mem_cons.mp hpc with rfl | hpc
  · exact q_first x8 x9 x10 v 1280 rfl (by decide) slices_S512x2048_o0_1280_S512x128 inb_S512x2048_S512x128_0_1280
  rcases List.mem_cons.mp hpc with rfl | hpc
  · exact q_second x8 x9 x10 v 1152 rfl (by decide) slices_S512x2048_o0_1152_S512x128 inb_S512x2048_S512x128_0_1152
  rcases List.mem_cons.mp hpc with rfl | hpc
  · exact q_first x8 x9 x10 v 1024 rfl (by decide) slices_S512x2048_o0_1024_S512x128 inb_S512x2048_S512x128_0_1024
  rcases List.mem_cons.mp hpc with rfl | hpc
  · exact q_second x8 x9 x10 v 896 rfl (by decide) slices_S512x2048_o0_896_S512x128 inb_S512x2048_S512x128_0_896
  rcases List.mem_cons.mp hpc with rfl | hpc
  · exact q_first x8 x9 x10 v 768 rfl (by decide) slices_S512x2048_o0_768_S512x128 inb_S512x2048_S512x128_0_768
  rcases List.mem_cons.mp hpc with rfl | hpc
  · exact q_second x8 x9 x10 v 640 rfl (by decide) slices_S512x2048_o0_640_S512x128 inb_S512x2048_S512x128_0_640
  rcases List.mem_cons.mp hpc with rfl | hpc
  · exact q_first x8 x9 x10 v 512 rfl (by decide) slices_S512x2048_o0_512_S512x128 inb_S512x2048_S512x128_0_512
  rcases List.mem_cons.mp hpc with rfl | hpc
  · exact q_second x8 x9 x10 v 384 rfl (by decide) slices_S512x2048_o0_384_S512x128 inb_S512x2048_S512x128_0_384
  rcases List.mem_cons.mp hpc with rfl | hpc
  · exact q_first x8 x9 x10 v 256 rfl (by decide) slices_S512x2048_o0_256_S512x128 inb_S512x2048_S512x128_0_256
  rcases List.mem_cons.mp hpc with rfl | hpc
  · exact q_second x8 x9 x10 v 128 rfl (by decide) slices_S512x2048_o0_128_S512x128 inb_S512x2048_S512x128_0_128
  rcases List.mem_cons.mp hpc with rfl | hpc
  · exact q_first x8 x9 x10 v 0 rfl (by decide) slices_S512x2048_o0_0_S512x128 inb_S512x2048_S512x128_0_0
  nomatch hpc

/-- The fourth's: the keys. -/
theorem out14 : out0_14 x0 x1 x2 x3 x4 x5 x6 x7 x8 x9 x10 = K (k0_pay15 x8 x9 x10 x2) (k0_pay13 (k0_pay11 x1) x4 x6) := by
  unfold out0_14 k0_pay43 k0_pay42 k0_pay41 k0_pay37 k0_pay38 k0_pay39 k0_pay18
  simp only [View.ld_unit_zero (S := S512x128) hz, View.ld_unit_zero (S := S512x256) hz, View.ld_unit_zero (S := S1x256) hz, View.ld_unit_zero (S := S256x1024) hz,
    (same x8).1, (same x9).2.1, (same x10).2.2]
  generalize k0_pay13 (k0_pay11 x1) x4 x6 = v
  generalize k0_pay15 x8 x9 x10 x2 = r
  funext y
  refine View.canon_apply_of_pieces (Val := Elt Ideal) (K r v) _ ?_ y (cover0_14 _ _ _ _ _ _ _ _ _ _ _ _ _ _ _ _ y)
  intro pc hpc
  rcases List.mem_cons.mp hpc with rfl | hpc
  · exact k_second r v 1920 rfl (by decide) inb_S512x2048_S512x128_0_1920
  rcases List.mem_cons.mp hpc with rfl | hpc
  · exact k_first r v 1792 rfl (by decide) slices_S512x1024_o0_896_S512x128 inb_S512x2048_S512x128_0_1792
  rcases List.mem_cons.mp hpc with rfl | hpc
  · exact k_second r v 1664 rfl (by decide) inb_S512x2048_S512x128_0_1664
  rcases List.mem_cons.mp hpc with rfl | hpc
  · exact k_first r v 1536 rfl (by decide) slices_S512x1024_o0_768_S512x128 inb_S512x2048_S512x128_0_1536
  rcases List.mem_cons.mp hpc with rfl | hpc
  · exact k_second r v 1408 rfl (by decide) inb_S512x2048_S512x128_0_1408
  rcases List.mem_cons.mp hpc with rfl | hpc
  · exact k_first r v 1280 rfl (by decide) slices_S512x1024_o0_640_S512x128 inb_S512x2048_S512x128_0_1280
  rcases List.mem_cons.mp hpc with rfl | hpc
  · exact k_second r v 1152 rfl (by decide) inb_S512x2048_S512x128_0_1152
  rcases List.mem_cons.mp hpc with rfl | hpc
  · exact k_first r v 1024 rfl (by decide) slices_S512x1024_o0_512_S512x128 inb_S512x2048_S512x128_0_1024
  rcases List.mem_cons.mp hpc with rfl | hpc
  · exact k_second r v 896 rfl (by decide) inb_S512x2048_S512x128_0_896
  rcases List.mem_cons.mp hpc with rfl | hpc
  · exact k_first r v 768 rfl (by decide) slices_S512x1024_o0_384_S512x128 inb_S512x2048_S512x128_0_768
  rcases List.mem_cons.mp hpc with rfl | hpc
  · exact k_second r v 640 rfl (by decide) inb_S512x2048_S512x128_0_640
  rcases List.mem_cons.mp hpc with rfl | hpc
  · exact k_first r v 512 rfl (by decide) slices_S512x1024_o0_256_S512x128 inb_S512x2048_S512x128_0_512
  rcases List.mem_cons.mp hpc with rfl | hpc
  · exact k_second r v 384 rfl (by decide) inb_S512x2048_S512x128_0_384
  rcases List.mem_cons.mp hpc with rfl | hpc
  · exact k_first r v 256 rfl (by decide) slices_S512x1024_o0_128_S512x128 inb_S512x2048_S512x128_0_256
  rcases List.mem_cons.mp hpc with rfl | hpc
  · exact k_second r v 128 rfl (by decide) inb_S512x2048_S512x128_0_128
  rcases List.mem_cons.mp hpc with rfl | hpc
  · exact k_first r v 0 rfl (by decide) slices_S512x1024_o0_0_S512x128 inb_S512x2048_S512x128_0_0
  nomatch hpc
end

end Cert.MlaPrepValue

end
-- ==== Proof.MlaPrepRef.lean ====
/- The latents' norms, the up-projections and the rotary step on whole arrays, and the reference read as them. -/
module

public import proofs.«01_k».proof.Proof.MlaPrep
public import proofs.«01_k».proof.Proof.Fold
public import proofs.«01_k».proof.Proof.Gen.MlaPrepRefIdeal.Read

@[expose] public section

set_option maxRecDepth 16384

namespace Cert.MlaPrepValue

open Idealize.ShloMosaic Idealize.ShloMosaic.TcCoe Idealize.SL.Sem
open Cert.MlaPrepIdeal Cert.Fold
open Cert.MlaPrepRefIdeal.Read

/-- The rotary step on 128 lanes of which 64 are held: the first 32 turn against the next 32, the rest are zero. -/
noncomputable def rope (x : Fin 128 → EReal) (cos sin : Fin 32 → EReal) (j : Fin 128) : EReal :=
  if h : j.val < 32 then x j * cos ⟨j.val, h⟩ - x ⟨j.val + 32, by omega⟩ * sin ⟨j.val, h⟩
  else if h2 : j.val < 64 then x j * cos ⟨j.val - 32, by omega⟩ + x ⟨j.val - 32, by omega⟩ * sin ⟨j.val - 32, by omega⟩
  else 0

section
variable (x0 : FVec Ideal S8192x3072 .f32) (x1 : FVec Ideal S1x512 .f32) (x2 : FVec Ideal S1x256 .f32) (x3 : FVec Ideal S512x2048 .bf16) (x4 x5 : FVec Ideal S256x1024 .bf16)
  (x6 x7 : FVec Ideal S8192x32 .f32) (p : Fin 8192)

/-- The normed query latents of a row. -/
noncomputable def nq (j : Fin 512) : EReal :=
  nrm (Ideal.ofBits FTy.f32 0x44000000#32) (fun k : Fin 512 => x0 (ix2 p (⟨2048 + k.val, by omega⟩ : Fin 3072))) (fun k => x1 (ix2 0 k)) j
/-- The normed key-value latents of a row. -/
noncomputable def nkv (j : Fin 256) : EReal :=
  nrm (Ideal.ofBits FTy.f32 0x43800000#32) (fun k : Fin 256 => x0 (ix2 p (⟨2560 + k.val, by omega⟩ : Fin 3072))) (fun k => x2 (ix2 0 k)) j
/-- The row's queries before the rotary step. -/
noncomputable def uq (q : Fin 2048) : EReal := ∑ k : Fin 512, nq x0 x1 p k * x3 (ix2 k q)
/-- The row's product of the normed key-value latents with a weight. -/
noncomputable def ukv (w : FVec Ideal S256x1024 .bf16) (q : Fin 1024) : EReal := ∑ k : Fin 256, nkv x0 x2 p k * w (ix2 k q)
/-- The row's queries by head and lane. -/
noncomputable def qm (h : Fin 8) (x : Fin 256) : EReal :=
  if x.val < 128 then uq x0 x1 x3 p (wide h x)
  else rope (fun l => uq x0 x1 x3 p (wide h ⟨128 + l.val, by omega⟩)) (fun k => x6 (ix2 p k)) (fun k => x7 (ix2 p k)) ⟨x.val % 128, Nat.mod_lt _ (by decide)⟩
/-- The row's keys by head and lane. -/
noncomputable def km (h : Fin 8) (x : Fin 256) : EReal :=
  if x.val < 128 then ukv x0 x2 p x4 (narrow h ⟨x.val % 128, Nat.mod_lt _ (by decide)⟩)
  else rope (fun l : Fin 128 => x0 (ix2 p (⟨2816 + l.val, by omega⟩ : Fin 3072))) (fun k => x6 (ix2 p k)) (fun k => x7 (ix2 p k)) ⟨x.val % 128, Nat.mod_lt _ (by decide)⟩

/-- The reference's normed query latents. -/
theorem r12 (q : Fin 512) : (val_main_v12 (F := Ideal) x0 x1 (ix2 p q) : EReal) = nq x0 x1 p q := by
  unfold nq nrm
  pointwise [val_main_v12, val_main_v11, val_main_v10, val_main_v9, val_main_v8, val_main_v7, val_main_v6, val_main_v5, val_main_v4, val_main_v3, val_main_v2, val_main_v1, val_main_v0, val_main_cst, val_main_cst_0, val_main_cst_1]

/-- The reference's normed key-value latents. -/
theorem r25 (q : Fin 256) : (val_main_v25 (F := Ideal) x0 x2 (ix2 p q) : EReal) = nkv x0 x2 p q := by
  unfold nkv nrm
  pointwise [val_main_v25, val_main_v24, val_main_v23, val_main_v22, val_main_v21, val_main_v20, val_main_v19, val_main_v18, val_main_v17, val_main_v16, val_main_v15, val_main_v14, val_main_v13, val_main_cst_2, val_main_cst_3, val_main_cst_4]

theorem r27 (q : Fin 2048) : (val_main_v27 (F := Ideal) x0 x1 x3 (ix2 p q) : EReal) = uq x0 x1 x3 p q := by
  rw [val_main_v27_apply]
  unfold uq
  refine Finset.sum_congr rfl fun k _ => ?_
  have e : lidx_main_v27 (ix2 p q) k = ix2 p k := funext fun a => by fin_cases a <;> rfl
  have e' : ridx_main_v27 (ix2 p q) k = ix2 k q := funext fun a => by fin_cases a <;> rfl
  rw [e, e', r12, val_main_v26_apply]
  rfl

theorem r46 (q : Fin 1024) : (val_main_v46 (F := Ideal) x0 x2 x4 (ix2 p q) : EReal) = ukv x0 x2 p x4 q := by
  rw [val_main_v46_apply]
  unfold ukv
  refine Finset.sum_congr rfl fun k _ => ?_
  have e : lidx_main_v46 (ix2 p q) k = ix2 p k := funext fun a => by fin_cases a <;> rfl
  have e' : ridx_main_v46 (ix2 p q) k = ix2 k q := funext fun a => by fin_cases a <;> rfl
  rw [e, e', r25, val_main_v45_apply]
  rfl

theorem r61 (q : Fin 1024) : (val_main_v61 (F := Ideal) x0 x2 x5 (ix2 p q) : EReal) = ukv x0 x2 p x5 q := by
  rw [val_main_v61_apply]
  unfold ukv
  refine Finset.sum_congr rfl fun k _ => ?_
  have e : lidx_main_v61 (ix2 p q) k = ix2 p k := funext fun a => by fin_cases a <;> rfl
  have e' : ridx_main_v61 (ix2 p q) k = ix2 k q := funext fun a => by fin_cases a <;> rfl
  rw [e, e', r25, val_main_v60_apply]
  rfl

theorem r28 (h : Fin 8) (x : Fin 256) : (val_main_v28 (F := Ideal) x0 x1 x3 (ix3 p h x) : EReal) = uq x0 x1 x3 p (wide h x) := by
  rw [val_main_v28_apply, ← r27]
  congr 1
  funext a; apply Fin.ext
  match a with
  | ⟨0, _⟩ => show ((p.val * 8 + h.val) * 256 + x.val) / 2048 = p.val; omega
  | ⟨1, _⟩ => show ((p.val * 8 + h.val) * 256 + x.val) % 2048 = 256 * h.val + x.val; omega

theorem r47 (h : Fin 8) (x : Fin 128) : (val_main_v47 (F := Ideal) x0 x2 x4 (ix3 p h x) : EReal) = ukv x0 x2 p x4 (narrow h x) := by
  rw [val_main_v47_apply, ← r46]
  congr 1
  funext a; apply Fin.ext
  match a with
  | ⟨0, _⟩ => show ((p.val * 8 + h.val) * 128 + x.val) / 1024 = p.val; omega
  | ⟨1, _⟩ => show ((p.val * 8 + h.val) * 128 + x.val) % 1024 = 128 * h.val + x.val; omega
end

end Cert.MlaPrepValue

end
-- ==== Proof.MlaPrepRope.lean ====
/- The reference's queries and keys, its rotary step read lane by lane. -/
module

public import proofs.«01_k».proof.Proof.MlaPrepRef

@[expose] public section

set_option maxRecDepth 16384

namespace Cert.MlaPrepValue

open Idealize.ShloMosaic Idealize.ShloMosaic.TcCoe Idealize.SL.Sem
open Cert.MlaPrepRefIdeal Cert.Fold
open Cert.MlaPrepRefIdeal.Read

/-- Two arrays of 32 lanes side by side, read. -/
theorem cat64 (a b : FVec Ideal S8192x8x32 .f32) (hc : Shape.Concatenates [S8192x8x32, S8192x8x32] S8192x8x64 2) (p : Fin 8192) (h : Fin 8) (j : Fin 64) :
    (concatenate S8192x8x64 2 [⟨S8192x8x32, a⟩, ⟨S8192x8x32, b⟩] hc (ix3 p h j) : EReal)
      = if q : j.val < 32 then a (ix3 p h ⟨j.val, q⟩) else b (ix3 p h ⟨j.val - 32, by omega⟩) := by
  pointwise []

/-- The same of arrays without heads. -/
theorem cat64' (a b : FVec Ideal S8192x32 .f32) (hc : Shape.Concatenates [S8192x32, S8192x32] S8192x64 1) (p : Fin 8192) (j : Fin 64) :
    (concatenate S8192x64 1 [⟨S8192x32, a⟩, ⟨S8192x32, b⟩] hc (ix2 p j) : EReal)
      = if q : j.val < 32 then a (ix2 p ⟨j.val, q⟩) else b (ix2 p ⟨j.val - 32, by omega⟩) := by
  pointwise []

/-- A head's three parts side by side, read. -/
theorem cat256 (a : FVec Ideal S8192x8x128 .f32) (b d : FVec Ideal S8192x8x64 .f32) (hc : Shape.Concatenates [S8192x8x128, S8192x8x64, S8192x8x64] S8192x8x256 2)
    (p : Fin 8192) (h : Fin 8) (j : Fin 256) :
    (concatenate S8192x8x256 2 [⟨S8192x8x128, a⟩, ⟨S8192x8x64, b⟩, ⟨S8192x8x64, d⟩] hc (ix3 p h j) : EReal)
      = if q : j.val < 128 then a (ix3 p h ⟨j.val, q⟩) else if q' : j.val < 192 then b (ix3 p h ⟨j.val - 128, by omega⟩) else d (ix3 p h ⟨j.val - 192, by omega⟩) := by
  pointwise []
  split
  · rfl
  split <;> split
  · rfl
  · exfalso; omega
  · exfalso; omega
  · exact congrArg d (congrArg (ix3 p h) (Fin.ext (Nat.sub_sub _ _ _)))

section
variable (x0 : FVec Ideal S8192x3072 .f32) (x1 : FVec Ideal S1x512 .f32) (x2 : FVec Ideal S1x256 .f32) (x3 : FVec Ideal S512x2048 .bf16) (x4 x5 : FVec Ideal S256x1024 .bf16)
  (x6 x7 : FVec Ideal S8192x32 .f32) (p : Fin 8192)

theorem r62 (h : Fin 8) (j : Fin 64) : (val_main_v62 (F := Ideal) (ix3 p h j) : EReal) = 0 := by
  rw [val_main_v62_apply, val_main_cst_5_apply]
  exact Ideal.ofBits_zero _

theorem r32 (h : Fin 8) (i : Fin 32) : (val_main_v32 (F := Ideal) x0 x1 x3 (ix3 p h i) : EReal) = uq x0 x1 x3 p (wide h ⟨128 + i.val, by omega⟩) := by
  rw [val_main_v32_apply, val_main_v29_apply, ← r28]
  congr 1
  funext a; apply Fin.ext
  match a with
  | ⟨0, _⟩ => rfl
  | ⟨1, _⟩ => rfl
  | ⟨2, _⟩ => rfl

theorem r33 (h : Fin 8) (i : Fin 32) : (val_main_v33 (F := Ideal) x0 x1 x3 (ix3 p h i) : EReal) = uq x0 x1 x3 p (wide h ⟨160 + i.val, by omega⟩) := by
  rw [val_main_v33_apply, val_main_v29_apply, ← r28]
  congr 1
  funext a; apply Fin.ext
  match a with
  | ⟨0, _⟩ => rfl
  | ⟨1, _⟩ => rfl
  | ⟨2, _⟩ => show 128 + (32 + i.val) = 160 + i.val; omega

theorem r34 (h : Fin 8) (i : Fin 32) : (val_main_v34 (F := Ideal) x6 (ix3 p h i) : EReal) = x6 (ix2 p i) := by
  rw [val_main_v34_apply, val_main_v30_apply]
  congr 1
  funext a; fin_cases a <;> rfl

theorem r36 (h : Fin 8) (i : Fin 32) : (val_main_v36 (F := Ideal) x7 (ix3 p h i) : EReal) = x7 (ix2 p i) := by
  rw [val_main_v36_apply, val_main_v31_apply]
  congr 1
  funext a; fin_cases a <;> rfl

theorem r39 (h : Fin 8) (i : Fin 32) : (val_main_v39 (F := Ideal) x6 (ix3 p h i) : EReal) = x6 (ix2 p i) := by
  rw [val_main_v39_apply, val_main_v30_apply]
  congr 1
  funext a; fin_cases a <;> rfl

theorem r41 (h : Fin 8) (i : Fin 32) : (val_main_v41 (F := Ideal) x7 (ix3 p h i) : EReal) = x7 (ix2 p i) := by
  rw [val_main_v41_apply, val_main_v31_apply]
  congr 1
  funext a; fin_cases a <;> rfl

theorem r38 (h : Fin 8) (i : Fin 32) : (val_main_v38 (F := Ideal) x0 x1 x3 x6 x7 (ix3 p h i) : EReal)
    = uq x0 x1 x3 p (wide h ⟨128 + i.val, by omega⟩) * x6 (ix2 p i) - uq x0 x1 x3 p (wide h ⟨160 + i.val, by omega⟩) * x7 (ix2 p i) := by
  rw [val_main_v38_apply, val_main_v35_apply, val_main_v37_apply, r32, r33, r34, r36]
  rfl

theorem r43 (h : Fin 8) (i : Fin 32) : (val_main_v43 (F := Ideal) x0 x1 x3 x6 x7 (ix3 p h i) : EReal)
    = uq x0 x1 x3 p (wide h ⟨160 + i.val, by omega⟩) * x6 (ix2 p i) + uq x0 x1 x3 p (wide h ⟨128 + i.val, by omega⟩) * x7 (ix2 p i) := by
  rw [val_main_v43_apply, val_main_v40_apply, val_main_v42_apply, r32, r33, r39, r41]
  rfl

theorem r63 (h : Fin 8) (i : Fin 128) : (val_main_v63 (F := Ideal) x0 x1 x3 (ix3 p h i) : EReal) = uq x0 x1 x3 p (wide h ⟨i.val, by omega⟩) := by
  rw [val_main_v63_apply, ← r28]
  congr 1
  funext a; fin_cases a <;> rfl

theorem r49 (i : Fin 32) : (val_main_v49 (F := Ideal) x0 (ix2 p i) : EReal) = x0 (ix2 p (⟨2816 + i.val, by omega⟩ : Fin 3072)) := by
  rw [val_main_v49_apply, val_main_v48_apply]
  congr 1
  funext a; fin_cases a <;> rfl

theorem r50 (i : Fin 32) : (val_main_v50 (F := Ideal) x0 (ix2 p i) : EReal) = x0 (ix2 p (⟨2848 + i.val, by omega⟩ : Fin 3072)) := by
  rw [val_main_v50_apply, val_main_v48_apply]
  congr 1
  funext a; apply Fin.ext
  match a with
  | ⟨0, _⟩ => rfl
  | ⟨1, _⟩ => show 2816 + (32 + i.val) = 2848 + i.val; omega

theorem r53 (i : Fin 32) : (val_main_v53 (F := Ideal) x0 x6 x7 (ix2 p i) : EReal)
    = x0 (ix2 p (⟨2816 + i.val, by omega⟩ : Fin 3072)) * x6 (ix2 p i) - x0 (ix2 p (⟨2848 + i.val, by omega⟩ : Fin 3072)) * x7 (ix2 p i) := by
  rw [val_main_v53_apply, val_main_v51_apply, val_main_v52_apply, r49, r50]
  rfl

theorem r56 (i : Fin 32) : (val_main_v56 (F := Ideal) x0 x6 x7 (ix2 p i) : EReal)
    = x0 (ix2 p (⟨2848 + i.val, by omega⟩ : Fin 3072)) * x6 (ix2 p i) + x0 (ix2 p (⟨2816 + i.val, by omega⟩ : Fin 3072)) * x7 (ix2 p i) := by
  rw [val_main_v56_apply, val_main_v54_apply, val_main_v55_apply, r49, r50]
  rfl

theorem r59 (h : Fin 8) (j : Fin 64) : (val_main_v59 (F := Ideal) x0 x6 x7 (ix3 p h j) : EReal) = val_main_v57 (F := Ideal) x0 x6 x7 (ix2 p j) := by
  rw [val_main_v59_apply, val_main_v58_apply]
  congr 1
  funext a; fin_cases a <;> rfl

/-- The reference's queries. -/
theorem r70 (h : Fin 8) (x : Fin 256) : (val_main_v70 (F := Ideal) x0 x1 x3 x6 x7 (ix2 p (wide h x)) : EReal) = qm x0 x1 x3 x6 x7 p h x := by
  have e : idx_main_v65 (ix2 p (wide h x)) = ix3 p h x := by
    funext a; apply Fin.ext
    match a with
    | ⟨0, _⟩ => show (p.val * 2048 + (256 * h.val + x.val)) / 2048 = p.val; omega
    | ⟨1, _⟩ => show (p.val * 2048 + (256 * h.val + x.val)) / 256 % 8 = h.val; omega
    | ⟨2, _⟩ => show (p.val * 2048 + (256 * h.val + x.val)) % 256 = x.val; omega
  have e2 : (val_main_v70 (F := Ideal) x0 x1 x3 x6 x7 (ix2 p (wide h x)) : EReal) = val_main_v64 (F := Ideal) x0 x1 x3 x6 x7 (ix3 p h x) := by
    rw [val_main_v70_apply, val_main_v65_apply, e]
    rfl
  rw [e2]
  unfold val_main_v64
  rw [cat256]
  unfold qm rope
  by_cases hx : x.val < 128
  · rw [dif_pos hx, if_pos hx, r63]
  rw [dif_neg hx, if_neg hx]
  have hm : x.val % 128 = x.val - 128 := by have := x.isLt; omega
  by_cases h2 : x.val < 192
  · rw [dif_pos h2]
    unfold val_main_v44
    rw [cat64]
    by_cases h3 : x.val < 160
    · rw [dif_pos (show x.val - 128 < 32 by omega), dif_pos (show x.val % 128 < 32 by omega), r38]
      simp only [hm]
      congr! 5 <;> omega
    · rw [dif_neg (show ¬x.val - 128 < 32 by omega), dif_neg (show ¬x.val % 128 < 32 by omega), dif_pos (show x.val % 128 < 64 by omega), r43]
      simp only [hm]
      congr! 5 <;> omega
  · rw [dif_neg h2, dif_neg (show ¬x.val % 128 < 32 by omega), dif_neg (show ¬x.val % 128 < 64 by omega), r62]

/-- The reference's keys. -/
theorem r71 (h : Fin 8) (x : Fin 256) : (val_main_v71 (F := Ideal) x0 x2 x4 x6 x7 (ix2 p (wide h x)) : EReal) = km x0 x2 x4 x6 x7 p h x := by
  have e : idx_main_v67 (ix2 p (wide h x)) = ix3 p h x := by
    funext a; apply Fin.ext
    match a with
    | ⟨0, _⟩ => show (p.val * 2048 + (256 * h.val + x.val)) / 2048 = p.val; omega
    | ⟨1, _⟩ => show (p.val * 2048 + (256 * h.val + x.val)) / 256 % 8 = h.val; omega
    | ⟨2, _⟩ => show (p.val * 2048 + (256 * h.val + x.val)) % 256 = x.val; omega
  have e2 : (val_main_v71 (F := Ideal) x0 x2 x4 x6 x7 (ix2 p (wide h x)) : EReal) = val_main_v66 (F := Ideal) x0 x2 x4 x6 x7 (ix3 p h x) := by
    rw [val_main_v71_apply, val_main_v67_apply, e]
    rfl
  rw [e2]
  unfold val_main_v66
  rw [cat256]
  unfold km rope
  by_cases hx : x.val < 128
  · rw [dif_pos hx, if_pos hx, r47]
    congr 2
    exact Fin.ext (by show x.val = x.val % 128; omega)
  rw [dif_neg hx, if_neg hx]
  have hm : x.val % 128 = x.val - 128 := by have := x.isLt; omega
  by_cases h2 : x.val < 192
  · rw [dif_pos h2, r59]
    unfold val_main_v57
    rw [cat64']
    by_cases h3 : x.val < 160
    · rw [dif_pos (show x.val - 128 < 32 by omega), dif_pos (show x.val % 128 < 32 by omega), r53]
      simp only [hm]
      congr! 5 <;> omega
    · rw [dif_neg (show ¬x.val - 128 < 32 by omega), dif_neg (show ¬x.val % 128 < 32 by omega), dif_pos (show x.val % 128 < 64 by omega), r56]
      simp only [hm]
      congr! 5 <;> omega
  · rw [dif_neg h2, dif_neg (show ¬x.val % 128 < 32 by omega), dif_neg (show ¬x.val % 128 < 64 by omega), r62]
end

end Cert.MlaPrepValue

end
-- ==== Proof.MlaPrepBlocks.lean ====
/- The latents' norms, the up-projections and the rotary step, block of rows by block of rows: the result arrays are the reference's. -/
module

public import proofs.«01_k».proof.Proof.MlaPrepRope
public import Idealize.ShloMosaic.Lib.StableHlo.RunRead
public import Idealize.ShloMosaic.Lib.StableHlo.ReadAt

@[expose] public section

set_option maxRecDepth 16384

namespace Cert.MlaPrepValue

open Idealize.ShloMosaic Idealize.ShloMosaic.TcCoe Idealize.SL.Sem
open Cert.MlaPrepIdeal Cert.MlaPrepIdeal.Gen Cert.Fold

/-- Four arrays of 32 lanes side by side, read. -/
theorem cat4 (a b d e : FVec Ideal S8192x32 .f32) (hc : Shape.Concatenates [S8192x32, S8192x32, S8192x32, S8192x32] S8192x128 1) (p : Fin 8192) (j : Fin 128) :
    (concatenate S8192x128 1 [⟨S8192x32, a⟩, ⟨S8192x32, b⟩, ⟨S8192x32, d⟩, ⟨S8192x32, e⟩] hc (ix2 p j) : EReal)
      = if q : j.val < 32 then a (ix2 p ⟨j.val, q⟩) else if q' : j.val < 64 then b (ix2 p ⟨j.val - 32, by omega⟩)
        else if q'' : j.val < 96 then d (ix2 p ⟨j.val - 64, by omega⟩) else e (ix2 p ⟨j.val - 96, by omega⟩) := by
  pointwise []
  by_cases h1 : j.val < 32
  · rw [dif_pos h1, dif_pos h1]
  rw [dif_neg h1, dif_neg h1]
  by_cases h2 : j.val < 64
  · rw [dif_pos (show j.val - 32 < 32 by omega), dif_pos h2]
  rw [dif_neg (show ¬j.val - 32 < 32 by omega), dif_neg h2]
  by_cases h3 : j.val < 96
  · rw [dif_pos (show j.val - 32 - 32 < 32 by omega), dif_pos h3]
    exact congrArg d (congrArg (ix2 p) (Fin.ext (Nat.sub_sub _ _ _)))
  · rw [dif_neg (show ¬j.val - 32 - 32 < 32 by omega), dif_neg h3]
    exact congrArg e (congrArg (ix2 p) (Fin.ext (by show j.val - 32 - 32 - 32 = j.val - 96; omega)))

variable (m : (ℓ : Loc nD τ sig) → Buf (Elt Ideal) ℓ) (c : Dev nD)

/-- The cosines. -/
noncomputable abbrev cosA : FVec Ideal S8192x32 .f32 := m ((c : Thread nD τ).loc main_arg6)
/-- The sines. -/
noncomputable abbrev sinA : FVec Ideal S8192x32 .f32 := m ((c : Thread nD τ).loc main_arg7)
/-- An array of zeros. -/
noncomputable def zs : FVec Ideal S8192x32 .f32 := broadcastInDim S8192x32 ![] bcast_S_S8192x32 (constant S_ .f32 0x00000000#32)
/-- The table of cosines. -/
noncomputable abbrev tC : FVec Ideal S8192x128 .f32 := V m c main_v1
/-- The table of sines for the lanes below. -/
noncomputable abbrev tS : FVec Ideal S8192x128 .f32 := V m c main_v2
/-- The table of sines for the lanes above. -/
noncomputable abbrev tN : FVec Ideal S8192x128 .f32 := V m c main_v4

theorem zs_apply (p : Fin 8192) (j : Fin 32) : (zs (ix2 p j) : EReal) = 0 := by
  unfold zs
  pointwise []

theorem tC_eq : tC m c = concatenate S8192x128 1 [⟨S8192x32, cosA m c⟩, ⟨S8192x32, cosA m c⟩, ⟨S8192x32, zs⟩, ⟨S8192x32, zs⟩] concatenates_S8192x32_S8192x32_S8192x32_S8192x32_S8192x128_d1 := by
  unfold tC V
  after_reads_simp
  rfl

theorem tS_eq : tS m c = concatenate S8192x128 1 [⟨S8192x32, zs⟩, ⟨S8192x32, sinA m c⟩, ⟨S8192x32, zs⟩, ⟨S8192x32, zs⟩] concatenates_S8192x32_S8192x32_S8192x32_S8192x32_S8192x128_d1 := by
  unfold tS V
  after_reads_simp
  rfl

theorem tN_eq : tN m c = concatenate S8192x128 1 [⟨S8192x32, Host.negf (sinA m c)⟩, ⟨S8192x32, zs⟩, ⟨S8192x32, zs⟩, ⟨S8192x32, zs⟩] concatenates_S8192x32_S8192x32_S8192x32_S8192x32_S8192x128_d1 := by
  unfold tN V
  after_reads_simp
  rfl

/-- The turn by the host's tables is the rotary step. -/
theorem turn_rope (x : Fin 128 → EReal) (p : Fin 8192) (j : Fin 128) :
    rot x (fun l => tC m c (ix2 p l)) (fun l => tS m c (ix2 p l)) (fun l => tN m c (ix2 p l)) j = rope x (fun k => cosA m c (ix2 p k)) (fun k => sinA m c (ix2 p k)) j := by
  unfold rot rope
  rw [tC_eq, tS_eq, tN_eq]
  simp only [cat4, zs_apply]
  by_cases h : j.val < 32
  · have e : (⟨(j.val + 32) % 128, Nat.mod_lt _ (by decide)⟩ : Fin 128) = ⟨j.val + 32, by omega⟩ := Fin.ext (by show (j.val + 32) % 128 = j.val + 32; omega)
    have n : (Host.negf (sinA m c) (ix2 p ⟨j.val, h⟩) : EReal) = -(sinA m c (ix2 p ⟨j.val, h⟩) : EReal) := rfl
    rw [dif_pos h, dif_pos h, dif_pos h, dif_pos h, mul_zero, add_zero, e, n, mul_neg, sub_eq_add_neg]
  by_cases h2 : j.val < 64
  · have e : (⟨(j.val + 96) % 128, Nat.mod_lt _ (by decide)⟩ : Fin 128) = ⟨j.val - 32, by omega⟩ := Fin.ext (by show (j.val + 96) % 128 = j.val - 32; omega)
    rw [dif_neg h, dif_neg h, dif_neg h, dif_neg h, dif_pos h2, dif_pos h2, dif_pos h2, dif_pos h2, mul_zero, add_zero, e]
  · by_cases h3 : j.val < 96
    · simp only [dif_neg h, dif_neg h2, dif_pos h3, mul_zero, add_zero]
    · simp only [dif_neg h, dif_neg h2, dif_neg h3, mul_zero, add_zero]

/-- The block of each array at a point. -/
theorem idx : ∀ t : Fin cfg0.N, win0_0.index t = ![t.val, 4] ∧ win0_1.index t = ![t.val, 10] ∧ win0_2.index t = ![t.val, 22] ∧ win0_3.index t = ![0, 0] ∧ win0_4.index t = ![0, 0]
    ∧ win0_5.index t = ![0, 0] ∧ win0_6.index t = ![0, 0] ∧ win0_7.index t = ![0, 0] ∧ win0_8.index t = ![t.val, 0] ∧ win0_9.index t = ![t.val, 0] ∧ win0_10.index t = ![t.val, 0] :=
  (by decide +kernel : ∀ t : Fin grid0.N, _)

/-- The block each result is written to at a point. -/
theorem idx' : ∀ t : Fin cfg0.N, win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

/-- The row of a point's block. -/
def at_ (t : Fin cfg0.N) (p : Fin 512) : Fin 8192 := ⟨t.val * 512 + p.val, by have h : t.val < 16 := t.isLt; omega⟩

section
variable (t : Fin cfg0.N)

theorem blk0 (p : Fin 512) (q : Fin 512) : iblk m c 0 t (ix2 p q) = m ((c : Thread nD τ).loc main_arg0) (ix2 (at_ t p) (⟨2048 + q.val, by omega⟩ : Fin 3072)) := by
  have e0 : win0_0.index t (0 : Fin 2) = t.val := congrFun (idx t).1 0
  have e1 : win0_0.index t (1 : Fin 2) = 4 := congrFun (idx t).1 1
  rw [← V_main_arg0 m c]
  show V m c main_arg0 _ = V m c main_arg0 _
  congr 1
  funext a; apply Fin.ext
  match a with
  | ⟨0, _⟩ => show win0_0.index t 0 * 512 + 1 * p.val = t.val * 512 + p.val; rw [e0]; omega
  | ⟨1, _⟩ => show win0_0.index t 1 * 512 + 1 * q.val = 2048 + q.val; rw [e1]; omega

theorem blk1 (p : Fin 512) (q : Fin 256) : iblk m c 1 t (ix2 p q) = m ((c : Thread nD τ).loc main_arg0) (ix2 (at_ t p) (⟨2560 + q.val, by omega⟩ : Fin 3072)) := by
  have e0 : win0_1.index t (0 : Fin 2) = t.val := congrFun (idx t).2.1 0
  have e1 : win0_1.index t (1 : Fin 2) = 10 := congrFun (idx t).2.1 1
  rw [← V_main_arg0 m c]
  show V m c main_arg0 _ = V m c main_arg0 _
  congr 1
  funext a; apply Fin.ext
  match a with
  | ⟨0, _⟩ => show win0_1.index t 0 * 512 + 1 * p.val = t.val * 512 + p.val; rw [e0]; omega
  | ⟨1, _⟩ => show win0_1.index t 1 * 256 + 1 * q.val = 2560 + q.val; rw [e1]; omega

theorem blk2 (p : Fin 512) (q : Fin 128) : iblk m c 2 t (ix2 p q) = m ((c : Thread nD τ).loc main_arg0) (ix2 (at_ t p) (⟨2816 + q.val, by omega⟩ : Fin 3072)) := by
  have e0 : win0_2.index t (0 : Fin 2) = t.val := congrFun (idx t).2.2.1 0
  have e1 : win0_2.index t (1 : Fin 2) = 22 := congrFun (idx t).2.2.1 1
  rw [← V_main_arg0 m c]
  show V m c main_arg0 _ = V m c main_arg0 _
  congr 1
  funext a; apply Fin.ext
  match a with
  | ⟨0, _⟩ => show win0_2.index t 0 * 512 + 1 * p.val = t.val * 512 + p.val; rw [e0]; omega
  | ⟨1, _⟩ => show win0_2.index t 1 * 128 + 1 * q.val = 2816 + q.val; rw [e1]; omega

theorem blk8 (p : Fin 512) (q : Fin 128) : iblk m c 8 t (ix2 p q) = tC m c (ix2 (at_ t p) q) := by
  have e0 : win0_8.index t (0 : Fin 2) = t.val := congrFun (idx t).2.2.2.2.2.2.2.2.1 0
  have e1 : win0_8.index t (1 : Fin 2) = 0 := congrFun (idx t).2.2.2.2.2.2.2.2.1 1
  show V m c main_v1 _ = V m c main_v1 _
  congr 1
  funext a; apply Fin.ext
  match a with
  | ⟨0, _⟩ => show win0_8.index t 0 * 512 + 1 * p.val = t.val * 512 + p.val; rw [e0]; omega
  | ⟨1, _⟩ => show win0_8.index t 1 * 128 + 1 * q.val = q.val; rw [e1]; omega

theorem blk9 (p : Fin 512) (q : Fin 128) : iblk m c 9 t (ix2 p q) = tS m c (ix2 (at_ t p) q) := by
  have e0 : win0_9.index t (0 : Fin 2) = t.val := congrFun (idx t).2.2.2.2.2.2.2.2.2.1 0
  have e1 : win0_9.index t (1 : Fin 2) = 0 := congrFun (idx t).2.2.2.2.2.2.2.2.2.1 1
  show V m c main_v2 _ = V m c main_v2 _
  congr 1
  funext a; apply Fin.ext
  match a with
  | ⟨0, _⟩ => show win0_9.index t 0 * 512 + 1 * p.val = t.val * 512 + p.val; rw [e0]; omega
  | ⟨1, _⟩ => show win0_9.index t 1 * 128 + 1 * q.val = q.val; rw [e1]; omega

theorem blk10 (p : Fin 512) (q : Fin 128) : iblk m c 10 t (ix2 p q) = tN m c (ix2 (at_ t p) q) := by
  have e0 : win0_10.index t (0 : Fin 2) = t.val := congrFun (idx t).2.2.2.2.2.2.2.2.2.2 0
  have e1 : win0_10.index t (1 : Fin 2) = 0 := congrFun (idx t).2.2.2.2.2.2.2.2.2.2 1
  show V m c main_v4 _ = V m c main_v4 _
  congr 1
  funext a; apply Fin.ext
  match a with
  | ⟨0, _⟩ => show win0_10.index t 0 * 512 + 1 * p.val = t.val * 512 + p.val; rw [e0]; omega
  | ⟨1, _⟩ => show win0_10.index t 1 * 128 + 1 * q.val = q.val; rw [e1]; omega

theorem blk3 (p : Fin 1) (q : Fin 512) : iblk m c 3 t (ix2 p q) = m ((c : Thread nD τ).loc main_arg1) (ix2 p q) := by
  have e0 : win0_3.index t (0 : Fin 2) = 0 := congrFun (idx t).2.2.2.1 0
  have e1 : win0_3.index t (1 : Fin 2) = 0 := congrFun (idx t).2.2.2.1 1
  rw [← V_main_arg1 m c]
  show V m c main_arg1 _ = V m c main_arg1 _
  congr 1
  funext a; apply Fin.ext
  match a with
  | ⟨0, _⟩ => show win0_3.index t 0 * 1 + 1 * p.val = p.val; rw [e0]; omega
  | ⟨1, _⟩ => show win0_3.index t 1 * 512 + 1 * q.val = q.val; rw [e1]; omega

theorem blk4 (p : Fin 1) (q : Fin 256) : iblk m c 4 t (ix2 p q) = m ((c : Thread nD τ).loc main_arg2) (ix2 p q) := by
  have e0 : win0_4.index t (0 : Fin 2) = 0 := congrFun (idx t).2.2.2.2.1 0
  have e1 : win0_4.index t (1 : Fin 2) = 0 := congrFun (idx t).2.2.2.2.1 1
  rw [← V_main_arg2 m c]
  show V m c main_arg2 _ = V m c main_arg2 _
  congr 1
  funext a; apply Fin.ext
  match a with
  | ⟨0, _⟩ => show win0_4.index t 0 * 1 + 1 * p.val = p.val; rw [e0]; omega
  | ⟨1, _⟩ => show win0_4.index t 1 * 256 + 1 * q.val = q.val; rw [e1]; omega

theorem blk5 (p : Fin 512) (q : Fin 2048) : iblk m c 5 t (ix2 p q) = m ((c : Thread nD τ).loc main_arg3) (ix2 p q) := by
  have e0 : win0_5.index t (0 : Fin 2) = 0 := congrFun (idx t).2.2.2.2.2.1 0
  have e1 : win0_5.index t (1 : Fin 2) = 0 := congrFun (idx t).2.2.2.2.2.1 1
  rw [← V_main_arg3 m c]
  show V m c main_arg3 _ = V m c main_arg3 _
  congr 1
  funext a; apply Fin.ext
  match a with
  | ⟨0, _⟩ => show win0_5.index t 0 * 512 + 1 * p.val = p.val; rw [e0]; omega
  | ⟨1, _⟩ => show win0_5.index t 1 * 2048 + 1 * q.val = q.val; rw [e1]; omega

theorem blk6 (p : Fin 256) (q : Fin 1024) : iblk m c 6 t (ix2 p q) = m ((c : Thread nD τ).loc main_arg4) (ix2 p q) := by
  have e0 : win0_6.index t (0 : Fin 2) = 0 := congrFun (idx t).2.2.2.2.2.2.1 0
  have e1 : win0_6.index t (1 : Fin 2) = 0 := congrFun (idx t).2.2.2.2.2.2.1 1
  rw [← V_main_arg4 m c]
  show V m c main_arg4 _ = V m c main_arg4 _
  congr 1
  funext a; apply Fin.ext
  match a with
  | ⟨0, _⟩ => show win0_6.index t 0 * 256 + 1 * p.val = p.val; rw [e0]; omega
  | ⟨1, _⟩ => show win0_6.index t 1 * 1024 + 1 * q.val = q.val; rw [e1]; omega

theorem blk7 (p : Fin 256) (q : Fin 1024) : iblk m c 7 t (ix2 p q) = m ((c : Thread nD τ).loc main_arg5) (ix2 p q) := by
  have e0 : win0_7.index t (0 : Fin 2) = 0 := congrFun (idx t).2.2.2.2.2.2.2.1 0
  have e1 : win0_7.index t (1 : Fin 2) = 0 := congrFun (idx t).2.2.2.2.2.2.2.1 1
  rw [← V_main_arg5 m c]
  show V m c main_arg5 _ = V m c main_arg5 _
  congr 1
  funext a; apply Fin.ext
  match a with
  | ⟨0, _⟩ => show win0_7.index t 0 * 256 + 1 * p.val = p.val; rw [e0]; omega
  | ⟨1, _⟩ => show win0_7.index t 1 * 1024 + 1 * q.val = q.val; rw [e1]; omega
end

end Cert.MlaPrepValue

end
-- ==== Proof.MlaPrepFinal.lean ====
/- The latents' norms, the up-projections and the rotary step, block of rows by block of rows: the result arrays are the reference's. -/
module

public import proofs.«01_k».proof.Proof.MlaPrepBlocks

@[expose] public section

set_option maxRecDepth 16384

namespace Cert.MlaPrepValue

open Idealize.ShloMosaic Idealize.ShloMosaic.TcCoe Idealize.SL.Sem
open Cert.MlaPrepIdeal Cert.MlaPrepIdeal.Gen Cert.Fold
open Cert.MlaPrepRefIdeal.Read

section
variable (x0 : FVec Ideal S8192x3072 .f32) (x1 : FVec Ideal S1x512 .f32) (x2 : FVec Ideal S1x256 .f32) (x3 : FVec Ideal S512x2048 .bf16) (x4 x5 : FVec Ideal S256x1024 .bf16)
  (x6 x7 : FVec Ideal S8192x32 .f32)

/-- The normed query latents. -/
noncomputable def G11 : FVec Ideal S8192x512 .bf16 := fun i => nq x0 x1 (⟨(i 0).val, (i 0).isLt⟩ : Fin 8192) (⟨(i 1).val, (i 1).isLt⟩ : Fin 512)
/-- The normed key-value latents. -/
noncomputable def G12 : FVec Ideal S8192x256 .bf16 := fun i => nkv x0 x2 (⟨(i 0).val, (i 0).isLt⟩ : Fin 8192) (⟨(i 1).val, (i 1).isLt⟩ : Fin 256)
/-- The head of a column. -/
def headOf (q : Fin 2048) : Fin 8 := ⟨q.val / 256, by omega⟩
/-- The lane of a column. -/
def laneOf (q : Fin 2048) : Fin 256 := ⟨q.val % 256, by omega⟩
/-- The queries. -/
noncomputable def G13 : FVec Ideal S8192x2048 .bf16 := fun i => qm x0 x1 x3 x6 x7 (⟨(i 0).val, (i 0).isLt⟩ : Fin 8192) (headOf ⟨(i 1).val, (i 1).isLt⟩) (laneOf ⟨(i 1).val, (i 1).isLt⟩)
/-- The keys. -/
noncomputable def G14 : FVec Ideal S8192x2048 .bf16 := fun i => km x0 x2 x4 x6 x7 (⟨(i 0).val, (i 0).isLt⟩ : Fin 8192) (headOf ⟨(i 1).val, (i 1).isLt⟩) (laneOf ⟨(i 1).val, (i 1).isLt⟩)
/-- The values. -/
noncomputable def G15 : FVec Ideal S8192x1024 .bf16 := fun i => ukv x0 x2 (⟨(i 0).val, (i 0).isLt⟩ : Fin 8192) x5 (⟨(i 1).val, (i 1).isLt⟩ : Fin 1024)

theorem wide_self (q : Fin 2048) : wide (headOf q) (laneOf q) = q := Fin.ext (by show 256 * (q.val / 256) + q.val % 256 = q.val; omega)

/-- The reference's results are these arrays. -/
theorem reference11 : val_main_v68 (F := Ideal) x0 x1 = G11 x0 x1 := by
  funext i
  obtain ⟨p, q, rfl⟩ : ∃ (p : Fin 8192) (q : Fin 512), i = ix2 p q := ⟨_, _, eq_ix2 i⟩
  rw [val_main_v68_apply]
  exact r12 x0 x1 p q

theorem reference12 : val_main_v69 (F := Ideal) x0 x2 = G12 x0 x2 := by
  funext i
  obtain ⟨p, q, rfl⟩ : ∃ (p : Fin 8192) (q : Fin 256), i = ix2 p q := ⟨_, _, eq_ix2 i⟩
  rw [val_main_v69_apply]
  exact r25 x0 x2 p q

theorem reference13 : val_main_v70 (F := Ideal) x0 x1 x3 x6 x7 = G13 x0 x1 x3 x6 x7 := by
  funext i
  obtain ⟨p, q, rfl⟩ : ∃ (p : Fin 8192) (q : Fin 2048), i = ix2 p q := ⟨_, _, eq_ix2 i⟩
  have h := r70 x0 x1 x3 x6 x7 p (headOf q) (laneOf q)
  rw [wide_self] at h
  exact h

theorem reference14 : val_main_v71 (F := Ideal) x0 x2 x4 x6 x7 = G14 x0 x2 x4 x6 x7 := by
  funext i
  obtain ⟨p, q, rfl⟩ : ∃ (p : Fin 8192) (q : Fin 2048), i = ix2 p q := ⟨_, _, eq_ix2 i⟩
  have h := r71 x0 x2 x4 x6 x7 p (headOf q) (laneOf q)
  rw [wide_self] at h
  exact h

theorem reference15 : val_main_v72 (F := Ideal) x0 x2 x5 = G15 x0 x2 x5 := by
  funext i
  obtain ⟨p, q, rfl⟩ : ∃ (p : Fin 8192) (q : Fin 1024), i = ix2 p q := ⟨_, _, eq_ix2 i⟩
  rw [val_main_v72_apply]
  exact r61 x0 x2 x5 p q
end

variable (m : (ℓ : Loc nD τ sig) → Buf (Elt Ideal) ℓ) (c : Dev nD)

/-- The projection. -/
noncomputable abbrev a0 : FVec Ideal S8192x3072 .f32 := m ((c : Thread nD τ).loc main_arg0)
/-- The query latents' weights. -/
noncomputable abbrev a1 : FVec Ideal S1x512 .f32 := m ((c : Thread nD τ).loc main_arg1)
/-- The key-value latents' weights. -/
noncomputable abbrev a2 : FVec Ideal S1x256 .f32 := m ((c : Thread nD τ).loc main_arg2)
/-- The queries' up-projection. -/
noncomputable abbrev a3 : FVec Ideal S512x2048 .bf16 := m ((c : Thread nD τ).loc main_arg3)
/-- The keys' up-projection. -/
noncomputable abbrev a4 : FVec Ideal S256x1024 .bf16 := m ((c : Thread nD τ).loc main_arg4)
/-- The values' up-projection. -/
noncomputable abbrev a5 : FVec Ideal S256x1024 .bf16 := m ((c : Thread nD τ).loc main_arg5)

/-- The five results for the memory's arrays. -/
noncomputable def R11 : Buf (Elt Ideal) ((c : Thread nD τ).loc main_v5_0) := G11 (a0 m c) (a1 m c)
noncomputable def R12 : Buf (Elt Ideal) ((c : Thread nD τ).loc main_v5_1) := G12 (a0 m c) (a2 m c)
noncomputable def R13 : Buf (Elt Ideal) ((c : Thread nD τ).loc main_v5_2) := G13 (a0 m c) (a1 m c) (a3 m c) (cosA m c) (sinA m c)
noncomputable def R14 : Buf (Elt Ideal) ((c : Thread nD τ).loc main_v5_3) := G14 (a0 m c) (a2 m c) (a4 m c) (cosA m c) (sinA m c)
noncomputable def R15 : Buf (Elt Ideal) ((c : Thread nD τ).loc main_v5_4) := G15 (a0 m c) (a2 m c) (a5 m c)

section
variable (t : Fin cfg0.N) (p : Fin 512)

/-- A point's rows of each array. -/
theorem b9 (q : Fin 512) : (k0_pay9 (F := Ideal) (iblk m c 0 t) (iblk m c 3 t) (ix2 p q) : EReal) = nq (a0 m c) (a1 m c) (at_ t p) q := by
  rw [pay9]
  simp only [blk0, blk3]
  rfl

theorem b12 (q : Fin 256) : (k0_pay12 (F := Ideal) (k0_pay11 (iblk m c 1 t)) (iblk m c 4 t) (ix2 p q) : EReal) = nkv (a0 m c) (a2 m c) (at_ t p) q := by
  rw [pay12]
  simp only [blk1, blk4]
  rfl

theorem b10 (q : Fin 2048) : (k0_pay10 (F := Ideal) (iblk m c 0 t) (iblk m c 3 t) (iblk m c 5 t) (ix2 p q) : EReal) = uq (a0 m c) (a1 m c) (a3 m c) (at_ t p) q := by
  rw [pay10]
  simp only [b9, blk5]
  rfl

theorem b13 (q : Fin 1024) : (k0_pay13 (F := Ideal) (k0_pay11 (iblk m c 1 t)) (iblk m c 4 t) (iblk m c 6 t) (ix2 p q) : EReal) = ukv (a0 m c) (a2 m c) (at_ t p) (a4 m c) q := by
  rw [pay13]
  simp only [b12, blk6]
  rfl

theorem b14 (q : Fin 1024) : (k0_pay14 (F := Ideal) (k0_pay11 (iblk m c 1 t)) (iblk m c 4 t) (iblk m c 7 t) (ix2 p q) : EReal) = ukv (a0 m c) (a2 m c) (at_ t p) (a5 m c) q := by
  rw [pay14]
  simp only [b12, blk7]
  rfl

theorem bQ (q : Fin 2048) : (Q (iblk m c 8 t) (iblk m c 9 t) (iblk m c 10 t) (k0_pay10 (F := Ideal) (iblk m c 0 t) (iblk m c 3 t) (iblk m c 5 t)) (ix2 p q) : EReal)
    = qm (a0 m c) (a1 m c) (a3 m c) (cosA m c) (sinA m c) (at_ t p) (headOf q) (laneOf q) := by
  unfold Q qm
  by_cases h : q.val % 256 < 128
  · rw [if_pos (show (laneOf q).val < 128 from h), wide_self]
    exact (if_pos h).trans (b10 m c t p q)
  · rw [if_neg (show ¬(laneOf q).val < 128 from h)]
    refine (if_neg h).trans ?_
    have e : (fun l : Fin 128 => uq (a0 m c) (a1 m c) (a3 m c) (at_ t p) (wide (headOf q) ⟨128 + l.val, by omega⟩))
        = fun l : Fin 128 => (k0_pay10 (F := Ideal) (iblk m c 0 t) (iblk m c 3 t) (iblk m c 5 t) (ix2 p (⟨q.val / 256 * 256 + 128 + l.val, by omega⟩ : Fin 2048)) : EReal) := by
      funext l
      rw [b10]
      congr 1
      exact Fin.ext (by show 256 * (q.val / 256) + (128 + l.val) = q.val / 256 * 256 + 128 + l.val; omega)
    have e2 : (⟨(laneOf q).val % 128, Nat.mod_lt _ (by decide)⟩ : Fin 128) = ⟨q.val % 128, Nat.mod_lt _ (by decide)⟩ := Fin.ext (by show q.val % 256 % 128 = q.val % 128; omega)
    rw [e, e2, ← turn_rope m c]
    simp only [← blk8 m c t, ← blk9 m c t, ← blk10 m c t]
    rfl

theorem bK (q : Fin 2048) : (K (k0_pay15 (iblk m c 8 t) (iblk m c 9 t) (iblk m c 10 t) (iblk m c 2 t)) (k0_pay13 (F := Ideal) (k0_pay11 (iblk m c 1 t)) (iblk m c 4 t) (iblk m c 6 t)) (ix2 p q) : EReal)
    = km (a0 m c) (a2 m c) (a4 m c) (cosA m c) (sinA m c) (at_ t p) (headOf q) (laneOf q) := by
  unfold K km
  have e2 : (⟨(laneOf q).val % 128, Nat.mod_lt _ (by decide)⟩ : Fin 128) = ⟨q.val % 128, Nat.mod_lt _ (by decide)⟩ := Fin.ext (by show q.val % 256 % 128 = q.val % 128; omega)
  by_cases h : q.val % 256 < 128
  · rw [if_pos (show (laneOf q).val < 128 from h)]
    refine (if_pos h).trans ((b13 m c t p (⟨q.val / 256 * 128 + q.val % 128, by omega⟩ : Fin 1024)).trans ?_)
    congr 1
    exact Fin.ext (by show q.val / 256 * 128 + q.val % 128 = 128 * (q.val / 256) + q.val % 256 % 128; omega)
  · rw [if_neg (show ¬(laneOf q).val < 128 from h)]
    refine (if_neg h).trans ((turn (iblk m c 2 t) (iblk m c 8 t) (iblk m c 9 t) (iblk m c 10 t) p ⟨q.val % 128, Nat.mod_lt _ (by decide)⟩).trans ?_)
    rw [e2, ← turn_rope m c]
    simp only [blk2, blk8, blk9, blk10]
end

/-- What a point writes back to the array of result 0 is its block of the whole. -/
theorem flushed11_eq (t : Fin cfg0.N) (hf : (cfg0.win 11).flush t = true) :
    (Gen.dats m 0 c).flushed 11 t = ((cfg0.win 11).blk t).view.read (Elt Ideal) (R11 m c) := by
  rw [Value.flushed11, out11]
  have i0 : win0_11.index t (0 : Fin 2) = t.val := congrFun (idx' t).1 0
  have i1 : win0_11.index t (1 : Fin 2) = 0 := congrFun (idx' t).1 1
  funext y
  obtain ⟨p, q, rfl⟩ : ∃ (p : Fin 512) (q : Fin 512), y = ix2 p q := ⟨_, _, eq_ix2 y⟩
  have e : ((cfg0.win 11).blk t).view.emb (ix2 p q) = ix2 (at_ t p) q := by
    funext a; apply Fin.ext
    match a with
    | ⟨0, _⟩ => show win0_11.index t 0 * 512 + 1 * p.val = t.val * 512 + p.val; rw [i0]; omega
    | ⟨1, _⟩ => show win0_11.index t 1 * 512 + 1 * q.val = q.val; rw [i1]; omega
  show (k0_pay9 (iblk m c 0 t) (iblk m c 3 t)) (ix2 p q) = R11 m c (((cfg0.win 11).blk t).view.emb (ix2 p q))
  rw [e]
  exact b9 m c t p q

/-- An index lies in a point's block when each coordinate does. -/
theorem mem_blk11 (t : Fin cfg0.N) (i : S8192x512.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v5_0).slice (win0_11.rect t)).set ↔ _
  rw [View.set_slice_whole, Rect.mem_set_unit]
  exact Iff.rfl

/-- The array of result 0 after the run. -/
theorem final11 : (Gen.dats m 0 c).arrAt 11 cfg0.N = R11 m c :=
  (Gen.dats m 0 c).arrAt_eq_of_cover 11 _ (fun t hf => flushed11_eq m c t hf) fun i => by
    have h0 : (i 0).val < 8192 := (i 0).isLt
    have h1 : (i 1).val < 512 := (i 1).isLt
    have hN : (i 0).val / 512 < cfg0.N := by show _ < 16; omega
    have i0 : win0_11.index ⟨_, hN⟩ (0 : Fin 2) = (i 0).val / 512 := congrFun (idx' ⟨_, hN⟩).1 0
    have i1 : win0_11.index ⟨_, hN⟩ (1 : Fin 2) = 0 := congrFun (idx' ⟨_, hN⟩).1 1
    refine ⟨⟨_, hN⟩, flush0_11 _, ?_⟩
    rw [mem_blk11]
    intro a
    match a with
    | ⟨0, _⟩ => show win0_11.index ⟨_, hN⟩ (0 : Fin 2) * 512 ≤ (i 0).val ∧ (i 0).val < win0_11.index ⟨_, hN⟩ (0 : Fin 2) * 512 + 512; rw [i0]; omega
    | ⟨1, _⟩ => show win0_11.index ⟨_, hN⟩ (1 : Fin 2) * 512 ≤ (i 1).val ∧ (i 1).val < win0_11.index ⟨_, hN⟩ (1 : Fin 2) * 512 + 512; rw [i1]; omega

/-- What a point writes back to the array of result 1 is its block of the whole. -/
theorem flushed12_eq (t : Fin cfg0.N) (hf : (cfg0.win 12).flush t = true) :
    (Gen.dats m 0 c).flushed 12 t = ((cfg0.win 12).blk t).view.read (Elt Ideal) (R12 m c) := by
  rw [Value.flushed12, out12]
  have i0 : win0_12.index t (0 : Fin 2) = t.val := congrFun (idx' t).2.1 0
  have i1 : win0_12.index t (1 : Fin 2) = 0 := congrFun (idx' t).2.1 1
  funext y
  obtain ⟨p, q, rfl⟩ : ∃ (p : Fin 512) (q : Fin 256), y = ix2 p q := ⟨_, _, eq_ix2 y⟩
  have e : ((cfg0.win 12).blk t).view.emb (ix2 p q) = ix2 (at_ t p) q := by
    funext a; apply Fin.ext
    match a with
    | ⟨0, _⟩ => show win0_12.index t 0 * 512 + 1 * p.val = t.val * 512 + p.val; rw [i0]; omega
    | ⟨1, _⟩ => show win0_12.index t 1 * 256 + 1 * q.val = q.val; rw [i1]; omega
  show (k0_pay12 (k0_pay11 (iblk m c 1 t)) (iblk m c 4 t)) (ix2 p q) = R12 m c (((cfg0.win 12).blk t).view.emb (ix2 p q))
  rw [e]
  exact b12 m c t p q

/-- An index lies in a point's block when each coordinate does. -/
theorem mem_blk12 (t : Fin cfg0.N) (i : S8192x256.Idx) :
    i ∈ ((cfg0.win 12).blk t).view.set ↔ ∀ a : Fin 2, win0_12.index t a * S512x256.size a ≤ (i a).val ∧ (i a).val < win0_12.index t a * S512x256.size a + S512x256.size a := by
  show i ∈ ((View.whole main_v5_1).slice (win0_12.rect t)).set ↔ _
  rw [View.set_slice_whole, Rect.mem_set_unit]
  exact Iff.rfl

/-- The array of result 1 after the run. -/
theorem final12 : (Gen.dats m 0 c).arrAt 12 cfg0.N = R12 m c :=
  (Gen.dats m 0 c).arrAt_eq_of_cover 12 _ (fun t hf => flushed12_eq m c t hf) fun i => by
    have h0 : (i 0).val < 8192 := (i 0).isLt
    have h1 : (i 1).val < 256 := (i 1).isLt
    have hN : (i 0).val / 512 < cfg0.N := by show _ < 16; omega
    have i0 : win0_12.index ⟨_, hN⟩ (0 : Fin 2) = (i 0).val / 512 := congrFun (idx' ⟨_, hN⟩).2.1 0
    have i1 : win0_12.index ⟨_, hN⟩ (1 : Fin 2) = 0 := congrFun (idx' ⟨_, hN⟩).2.1 1
    refine ⟨⟨_, hN⟩, flush0_12 _, ?_⟩
    rw [mem_blk12]
    intro a
    match a with
    | ⟨0, _⟩ => show win0_12.index ⟨_, hN⟩ (0 : Fin 2) * 512 ≤ (i 0).val ∧ (i 0).val < win0_12.index ⟨_, hN⟩ (0 : Fin 2) * 512 + 512; rw [i0]; omega
    | ⟨1, _⟩ => show win0_12.index ⟨_, hN⟩ (1 : Fin 2) * 256 ≤ (i 1).val ∧ (i 1).val < win0_12.index ⟨_, hN⟩ (1 : Fin 2) * 256 + 256; rw [i1]; omega

/-- What a point writes back to the array of result 2 is its block of the whole. -/
theorem flushed13_eq (t : Fin cfg0.N) (hf : (cfg0.win 13).flush t = true) :
    (Gen.dats m 0 c).flushed 13 t = ((cfg0.win 13).blk t).view.read (Elt Ideal) (R13 m c) := by
  rw [Value.flushed13, out13]
  have i0 : win0_13.index t (0 : Fin 2) = t.val := congrFun (idx' t).2.2.1 0
  have i1 : win0_13.index t (1 : Fin 2) = 0 := congrFun (idx' t).2.2.1 1
  funext y
  obtain ⟨p, q, rfl⟩ : ∃ (p : Fin 512) (q : Fin 2048), y = ix2 p q := ⟨_, _, eq_ix2 y⟩
  have e : ((cfg0.win 13).blk t).view.emb (ix2 p q) = ix2 (at_ t p) q := by
    funext a; apply Fin.ext
    match a with
    | ⟨0, _⟩ => show win0_13.index t 0 * 512 + 1 * p.val = t.val * 512 + p.val; rw [i0]; omega
    | ⟨1, _⟩ => show win0_13.index t 1 * 2048 + 1 * q.val = q.val; rw [i1]; omega
  show (Q (iblk m c 8 t) (iblk m c 9 t) (iblk m c 10 t) (k0_pay10 (F := Ideal) (iblk m c 0 t) (iblk m c 3 t) (iblk m c 5 t))) (ix2 p q) = R13 m c (((cfg0.win 13).blk t).view.emb (ix2 p q))
  rw [e]
  exact bQ m c t p q

/-- An index lies in a point's block when each coordinate does. -/
theorem mem_blk13 (t : Fin cfg0.N) (i : S8192x2048.Idx) :
    i ∈ ((cfg0.win 13).blk t).view.set ↔ ∀ a : Fin 2, win0_13.index t a * S512x2048.size a ≤ (i a).val ∧ (i a).val < win0_13.index t a * S512x2048.size a + S512x2048.size a := by
  show i ∈ ((View.whole main_v5_2).slice (win0_13.rect t)).set ↔ _
  rw [View.set_slice_whole, Rect.mem_set_unit]
  exact Iff.rfl

/-- The array of result 2 after the run. -/
theorem final13 : (Gen.dats m 0 c).arrAt 13 cfg0.N = R13 m c :=
  (Gen.dats m 0 c).arrAt_eq_of_cover 13 _ (fun t hf => flushed13_eq m c t hf) fun i => by
    have h0 : (i 0).val < 8192 := (i 0).isLt
    have h1 : (i 1).val < 2048 := (i 1).isLt
    have hN : (i 0).val / 512 < cfg0.N := by show _ < 16; omega
    have i0 : win0_13.index ⟨_, hN⟩ (0 : Fin 2) = (i 0).val / 512 := congrFun (idx' ⟨_, hN⟩).2.2.1 0
    have i1 : win0_13.index ⟨_, hN⟩ (1 : Fin 2) = 0 := congrFun (idx' ⟨_, hN⟩).2.2.1 1
    refine ⟨⟨_, hN⟩, flush0_13 _, ?_⟩
    rw [mem_blk13]
    intro a
    match a with
    | ⟨0, _⟩ => show win0_13.index ⟨_, hN⟩ (0 : Fin 2) * 512 ≤ (i 0).val ∧ (i 0).val < win0_13.index ⟨_, hN⟩ (0 : Fin 2) * 512 + 512; rw [i0]; omega
    | ⟨1, _⟩ => show win0_13.index ⟨_, hN⟩ (1 : Fin 2) * 2048 ≤ (i 1).val ∧ (i 1).val < win0_13.index ⟨_, hN⟩ (1 : Fin 2) * 2048 + 2048; rw [i1]; omega

/-- What a point writes back to the array of result 3 is its block of the whole. -/
theorem flushed14_eq (t : Fin cfg0.N) (hf : (cfg0.win 14).flush t = true) :
    (Gen.dats m 0 c).flushed 14 t = ((cfg0.win 14).blk t).view.read (Elt Ideal) (R14 m c) := by
  rw [Value.flushed14, out14]
  have i0 : win0_14.index t (0 : Fin 2) = t.val := congrFun (idx' t).2.2.2.1 0
  have i1 : win0_14.index t (1 : Fin 2) = 0 := congrFun (idx' t).2.2.2.1 1
  funext y
  obtain ⟨p, q, rfl⟩ : ∃ (p : Fin 512) (q : Fin 2048), y = ix2 p q := ⟨_, _, eq_ix2 y⟩
  have e : ((cfg0.win 14).blk t).view.emb (ix2 p q) = ix2 (at_ t p) q := by
    funext a; apply Fin.ext
    match a with
    | ⟨0, _⟩ => show win0_14.index t 0 * 512 + 1 * p.val = t.val * 512 + p.val; rw [i0]; omega
    | ⟨1, _⟩ => show win0_14.index t 1 * 2048 + 1 * q.val = q.val; rw [i1]; omega
  show (K (k0_pay15 (iblk m c 8 t) (iblk m c 9 t) (iblk m c 10 t) (iblk m c 2 t)) (k0_pay13 (F := Ideal) (k0_pay11 (iblk m c 1 t)) (iblk m c 4 t) (iblk m c 6 t))) (ix2 p q) = R14 m c (((cfg0.win 14).blk t).view.emb (ix2 p q))
  rw [e]
  exact bK m c t p q

/-- An index lies in a point's block when each coordinate does. -/
theorem mem_blk14 (t : Fin cfg0.N) (i : S8192x2048.Idx) :
    i ∈ ((cfg0.win 14).blk t).view.set ↔ ∀ a : Fin 2, win0_14.index t a * S512x2048.size a ≤ (i a).val ∧ (i a).val < win0_14.index t a * S512x2048.size a + S512x2048.size a := by
  show i ∈ ((View.whole main_v5_3).slice (win0_14.rect t)).set ↔ _
  rw [View.set_slice_whole, Rect.mem_set_unit]
  exact Iff.rfl

/-- The array of result 3 after the run. -/
theorem final14 : (Gen.dats m 0 c).arrAt 14 cfg0.N = R14 m c :=
  (Gen.dats m 0 c).arrAt_eq_of_cover 14 _ (fun t hf => flushed14_eq m c t hf) fun i => by
    have h0 : (i 0).val < 8192 := (i 0).isLt
    have h1 : (i 1).val < 2048 := (i 1).isLt
    have hN : (i 0).val / 512 < cfg0.N := by show _ < 16; omega
    have i0 : win0_14.index ⟨_, hN⟩ (0 : Fin 2) = (i 0).val / 512 := congrFun (idx' ⟨_, hN⟩).2.2.2.1 0
    have i1 : win0_14.index ⟨_, hN⟩ (1 : Fin 2) = 0 := congrFun (idx' ⟨_, hN⟩).2.2.2.1 1
    refine ⟨⟨_, hN⟩, flush0_14 _, ?_⟩
    rw [mem_blk14]
    intro a
    match a with
    | ⟨0, _⟩ => show win0_14.index ⟨_, hN⟩ (0 : Fin 2) * 512 ≤ (i 0).val ∧ (i 0).val < win0_14.index ⟨_, hN⟩ (0 : Fin 2) * 512 + 512; rw [i0]; omega
    | ⟨1, _⟩ => show win0_14.index ⟨_, hN⟩ (1 : Fin 2) * 2048 ≤ (i 1).val ∧ (i 1).val < win0_14.index ⟨_, hN⟩ (1 : Fin 2) * 2048 + 2048; rw [i1]; omega

/-- What a point writes back to the array of result 4 is its block of the whole. -/
theorem flushed15_eq (t : Fin cfg0.N) (hf : (cfg0.win 15).flush t = true) :
    (Gen.dats m 0 c).flushed 15 t = ((cfg0.win 15).blk t).view.read (Elt Ideal) (R15 m c) := by
  rw [Value.flushed15, out15]
  have i0 : win0_15.index t (0 : Fin 2) = t.val := congrFun (idx' t).2.2.2.2 0
  have i1 : win0_15.index t (1 : Fin 2) = 0 := congrFun (idx' t).2.2.2.2 1
  funext y
  obtain ⟨p, q, rfl⟩ : ∃ (p : Fin 512) (q : Fin 1024), y = ix2 p q := ⟨_, _, eq_ix2 y⟩
  have e : ((cfg0.win 15).blk t).view.emb (ix2 p q) = ix2 (at_ t p) q := by
    funext a; apply Fin.ext
    match a with
    | ⟨0, _⟩ => show win0_15.index t 0 * 512 + 1 * p.val = t.val * 512 + p.val; rw [i0]; omega
    | ⟨1, _⟩ => show win0_15.index t 1 * 1024 + 1 * q.val = q.val; rw [i1]; omega
  show (k0_pay14 (k0_pay11 (iblk m c 1 t)) (iblk m c 4 t) (iblk m c 7 t)) (ix2 p q) = R15 m c (((cfg0.win 15).blk t).view.emb (ix2 p q))
  rw [e]
  exact b14 m c t p q

/-- An index lies in a point's block when each coordinate does. -/
theorem mem_blk15 (t : Fin cfg0.N) (i : S8192x1024.Idx) :
    i ∈ ((cfg0.win 15).blk t).view.set ↔ ∀ a : Fin 2, win0_15.index t a * S512x1024.size a ≤ (i a).val ∧ (i a).val < win0_15.index t a * S512x1024.size a + S512x1024.size a := by
  show i ∈ ((View.whole main_v5_4).slice (win0_15.rect t)).set ↔ _
  rw [View.set_slice_whole, Rect.mem_set_unit]
  exact Iff.rfl

/-- The array of result 4 after the run. -/
theorem final15 : (Gen.dats m 0 c).arrAt 15 cfg0.N = R15 m c :=
  (Gen.dats m 0 c).arrAt_eq_of_cover 15 _ (fun t hf => flushed15_eq m c t hf) fun i => by
    have h0 : (i 0).val < 8192 := (i 0).isLt
    have h1 : (i 1).val < 1024 := (i 1).isLt
    have hN : (i 0).val / 512 < cfg0.N := by show _ < 16; omega
    have i0 : win0_15.index ⟨_, hN⟩ (0 : Fin 2) = (i 0).val / 512 := congrFun (idx' ⟨_, hN⟩).2.2.2.2 0
    have i1 : win0_15.index ⟨_, hN⟩ (1 : Fin 2) = 0 := congrFun (idx' ⟨_, hN⟩).2.2.2.2 1
    refine ⟨⟨_, hN⟩, flush0_15 _, ?_⟩
    rw [mem_blk15]
    intro a
    match a with
    | ⟨0, _⟩ => show win0_15.index ⟨_, hN⟩ (0 : Fin 2) * 512 ≤ (i 0).val ∧ (i 0).val < win0_15.index ⟨_, hN⟩ (0 : Fin 2) * 512 + 512; rw [i0]; omega
    | ⟨1, _⟩ => show win0_15.index ⟨_, hN⟩ (1 : Fin 2) * 1024 ≤ (i 1).val ∧ (i 1).val < win0_15.index ⟨_, hN⟩ (1 : Fin 2) * 1024 + 1024; rw [i1]; omega

/-- The kernel leaves the five arrays, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v5_0) = R11 m c
      ∧ r.2.mem ((c : Thread nD τ).loc main_v5_1) = R12 m c
      ∧ r.2.mem ((c : Thread nD τ).loc main_v5_2) = R13 m c
      ∧ r.2.mem ((c : Thread nD τ).loc main_v5_3) = R14 m c
      ∧ r.2.mem ((c : Thread nD τ).loc main_v5_4) = R15 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final11 m c), (h c).2.1.trans (final12 m c), (h c).2.2.1.trans (final13 m c), (h c).2.2.2.1.trans (final14 m c),
    (h c).2.2.2.2.1.trans (final15 m c), (h c).2.2.2.2.2⟩) (Value.run_blocks m ρ)

end Cert.MlaPrepValue

end
-- ==== Proof.OutPost.lean ====
/- The gated heads, the output product, its norm, the residual and the error, a row at a time. -/
module

public import proofs.«01_k».proof.Proof.Rows
public import proofs.«01_k».proof.Proof.Gen.OutPostIdeal.Skeleton
public import Idealize.ShloMosaic.Lib.Pipeline.ValueKit
public import Idealize.ShloMosaic.Lib.Pointwise

@[expose] public section

set_option maxRecDepth 16384

namespace Cert.OutPostValue

open Idealize.ShloMosaic Idealize.ShloMosaic.TcCoe Idealize.SL.Sem
open Cert.OutPostIdeal Cert.OutPostIdeal.Gen

theorem hz : (![0, 0] : Fin 2 → ℕ) = fun _ => 0 := funext fun a => by fin_cases a <;> rfl

/-- An element of a gated head. -/
noncomputable def gated (o g : EReal) : EReal := o * (g * Ideal.logistic g)

/-- A row of gated heads: o0 and o1 are the two halves of the heads, g the projection that holds the gates. -/
noncomputable def mixRow (o0 o1 : FVec Ideal S8192x1024 .f32) (g : FVec Ideal S8192x3072 .f32) (p : Fin 8192) (k : Fin 2048) : EReal :=
  if h : k.val < 1024 then gated (o0 (ix2 p ⟨k.val, h⟩)) (g (ix2 p (⟨k.val, by omega⟩ : Fin 3072)))
  else gated (o1 (ix2 p ⟨k.val - 1024, by omega⟩)) (g (ix2 p (⟨k.val, by omega⟩ : Fin 3072)))

section
variable (mx : Fin 2048 → EReal) (w : FVec Ideal S2048x2048 .bf16)

/-- A row of gated heads times a column of the output weight. -/
noncomputable def prod (q : Fin 2048) : EReal := ∑ k : Fin 2048, mx k * w (ix2 k q)

/-- The root a row is divided by, inverted. -/
noncomputable def inv : EReal :=
  Ideal.rsqrt (Ideal.div (∑ q : Fin 2048, prod mx w q * prod mx w q) (Ideal.ofBits FTy.f32 0x45000000#32) + Ideal.ofBits FTy.f32 0x358637BD#32)

/-- The normed row. -/
noncomputable def hat (q : Fin 2048) : EReal := prod mx w q * inv mx w

/-- The error at an element of the row: x is the residual's element, t the target's, v the norm's weight. -/
noncomputable def err (x t v : EReal) (q : Fin 2048) : EReal := x + hat mx w q * v - t

/-- The gradient of the layer's output there. -/
noncomputable def grad (x t v : EReal) (q : Fin 2048) : EReal := err mx w x t v q * Ideal.ofBits FTy.f32 0x3A000000#32
end

/-- The left half of a block of gated heads, read. -/
theorem pay1 (g o : FVec Ideal S256x1024 .f32) (p : Fin 256) (q : Fin 1024) :
    (k0_pay1 (F := Ideal) g o (ix2 p q) : EReal) = gated (o (ix2 p q)) (g (ix2 p q)) := by
  unfold gated
  pointwise [k0_pay1]

/-- The right half. -/
theorem pay2 (g o : FVec Ideal S256x1024 .f32) (p : Fin 256) (q : Fin 1024) :
    (k0_pay2 (F := Ideal) g o (ix2 p q) : EReal) = gated (o (ix2 p q)) (g (ix2 p q)) := by
  unfold gated
  pointwise [k0_pay2]

section
variable (M : FVec Ideal S256x2048 .bf16) (w : FVec Ideal S2048x2048 .bf16) (v : FVec Ideal S1x2048 .f32) (x y : FVec Ideal S256x2048 .f32)
  (a : FVec Ideal S1x2048 .f32) (p : Fin 256) (q : Fin 2048)

/-- A block's product, read. -/
theorem pay3 : (k0_pay3 (F := Ideal) M w (ix2 p q) : EReal) = prod (fun k => M (ix2 p k)) w q := by
  unfold prod
  pointwise [k0_pay3]

/-- A block's inverted roots, read. -/
theorem pay4 : (k0_pay4 (F := Ideal) M w (ix2 p 0) : EReal) = inv (fun k => M (ix2 p k)) w := by
  have h : (k0_pay4 (F := Ideal) M w (ix2 p 0) : EReal) = Ideal.rsqrt (Ideal.div (∑ q : Fin 2048, (k0_pay3 (F := Ideal) M w (ix2 p q) : EReal) * k0_pay3 (F := Ideal) M w (ix2 p q))
      (Ideal.ofBits FTy.f32 0x45000000#32) + Ideal.ofBits FTy.f32 0x358637BD#32) := by
    unfold k0_pay4
    generalize k0_pay3 (F := Ideal) M w = z
    pointwise []
  rw [h]
  unfold inv
  simp only [pay3]

/-- A block's normed rows, read. -/
theorem pay5 : (k0_pay5 (F := Ideal) M w (ix2 p q) : EReal) = hat (fun k => M (ix2 p k)) w q := by
  have h : (k0_pay5 (F := Ideal) M w (ix2 p q) : EReal) = k0_pay3 (F := Ideal) M w (ix2 p q) * k0_pay4 (F := Ideal) M w (ix2 p 0) := by
    unfold k0_pay5
    generalize k0_pay3 (F := Ideal) M w = z
    generalize k0_pay4 (F := Ideal) M w = u
    pointwise []
  rw [h, pay3, pay4]
  rfl

/-- A block's output, read. -/
theorem pay6 : (k0_pay6 (F := Ideal) M w v x (ix2 p q) : EReal) = x (ix2 p q) + hat (fun k => M (ix2 p k)) w q * v (ix2 0 q) := by
  rw [← pay5]
  unfold k0_pay6
  generalize k0_pay5 (F := Ideal) M w = z
  pointwise []

/-- A block's gradient, read. -/
theorem pay8 : (k0_pay8 (F := Ideal) x y (ix2 p q) : EReal) = (x (ix2 p q) - y (ix2 p q)) * Ideal.ofBits FTy.f32 0x3A000000#32 := by
  pointwise [k0_pay8, k0_pay7]

/-- The squared errors of a block's column, added. -/
theorem pay12 : (k0_pay12 (F := Ideal) x y a (ix2 0 q) : EReal) = a (ix2 0 q) + ∑ p : Fin 256, (x (ix2 p q) - y (ix2 p q)) * (x (ix2 p q) - y (ix2 p q)) := by
  pointwise [k0_pay12, k0_pay7]

/-- The weight's gradient of a block's column, added. -/
theorem pay13 (z : FVec Ideal S256x2048 .f32) : (k0_pay13 (F := Ideal) z x y a (ix2 0 q) : EReal)
    = a (ix2 0 q) + ∑ p : Fin 256, (x (ix2 p q) - y (ix2 p q)) * Ideal.ofBits FTy.f32 0x3A000000#32 * z (ix2 p q) := by
  pointwise [k0_pay13, k0_pay8, k0_pay7]

theorem pay10 : (k0_pay10 (F := Ideal) (ix2 0 q) : EReal) = 0 := by
  pointwise [k0_pay10]

theorem pay11 : (k0_pay11 (F := Ideal) (ix2 0 q) : EReal) = 0 := by
  pointwise [k0_pay11]
end

end Cert.OutPostValue

end
-- ==== Proof.OutPostRef.lean ====
/- The gated heads, the output product, its norm, the residual and the error: the plain program's arrays, read. -/
module

public import proofs.«01_k».proof.Proof.OutPost
public import proofs.«01_k».proof.Proof.Gen.OutPostRefIdeal.Read

@[expose] public section

set_option maxRecDepth 16384

namespace Cert.OutPostValue

open Idealize.ShloMosaic Idealize.ShloMosaic.TcCoe Idealize.SL.Sem
open Cert.OutPostIdeal
open Cert.OutPostRefIdeal.Read

/-- The word of the width is a real's. -/
theorem width_word : Ideal.ofBits FTy.f32 0x45000000#32 = ((2048 : ℝ) : EReal) := by
  simp [Ideal.ofBits, Ideal.ieee, -EReal.coe_mul]; norm_num

/-- The word the kernel multiplies by is the width's inverse. -/
theorem inverse_word : Ideal.ofBits FTy.f32 0x3A000000#32 = ((1 / 2048 : ℝ) : EReal) := by
  simp [Ideal.ofBits, Ideal.ieee, -EReal.coe_mul]; norm_num

/-- Divided by the width is multiplied by its inverse. -/
theorem by_width (x : EReal) : Ideal.div x (Ideal.ofBits FTy.f32 0x45000000#32) = x * Ideal.ofBits FTy.f32 0x3A000000#32 := by
  rw [width_word, inverse_word, Ideal.div_coe (by norm_num)]

/-- Two arrays of 1024 columns side by side, read. -/
theorem cat2 (a b : FVec Ideal S8192x1024 .f32) (hc : Shape.Concatenates [S8192x1024, S8192x1024] S8192x2048 1) (p : Fin 8192) (j : Fin 2048) :
    (concatenate S8192x2048 1 [⟨S8192x1024, a⟩, ⟨S8192x1024, b⟩] hc (ix2 p j) : EReal)
      = if q : j.val < 1024 then a (ix2 p ⟨j.val, q⟩) else b (ix2 p ⟨j.val - 1024, by omega⟩) := by
  pointwise []

section
variable (o0 o1 : FVec Ideal S8192x1024 .f32) (g : FVec Ideal S8192x3072 .f32) (w : FVec Ideal S2048x2048 .bf16) (x y : FVec Ideal S8192x2048 .f32) (v : FVec Ideal S1x2048 .f32)
  (p : Fin 8192) (q : Fin 2048)

theorem r1 (k : Fin 1024) : (val_main_v1 (F := Ideal) g (ix2 p k) : EReal) = g (ix2 p (⟨k.val, by omega⟩ : Fin 3072)) * Ideal.logistic (g (ix2 p (⟨k.val, by omega⟩ : Fin 3072))) := by
  have h0 : (val_main_v0 (F := Ideal) g (ix2 p k) : EReal) = g (ix2 p (⟨k.val, by omega⟩ : Fin 3072)) := by
    pointwise [val_main_v0]
  rw [← h0]
  unfold val_main_v1 val_main_call0_v5 val_main_call0_v4 val_main_call0_v3 val_main_call0_v2 val_main_call0_v1 val_main_call0_v0 val_main_call0_cst val_main_call0_cst_0
  generalize val_main_v0 (F := Ideal) g = z
  pointwise []
  rfl

theorem r4 (k : Fin 1024) : (val_main_v4 (F := Ideal) g (ix2 p k) : EReal) = g (ix2 p (⟨1024 + k.val, by omega⟩ : Fin 3072)) * Ideal.logistic (g (ix2 p (⟨1024 + k.val, by omega⟩ : Fin 3072))) := by
  have h0 : (val_main_v3 (F := Ideal) g (ix2 p k) : EReal) = g (ix2 p (⟨1024 + k.val, by omega⟩ : Fin 3072)) := by
    pointwise [val_main_v3]
  rw [← h0]
  unfold val_main_v4 val_main_call1_v5 val_main_call1_v4 val_main_call1_v3 val_main_call1_v2 val_main_call1_v1 val_main_call1_v0 val_main_call1_cst val_main_call1_cst_0
  generalize val_main_v3 (F := Ideal) g = z
  pointwise []
  rfl

theorem r6 : (val_main_v6 (F := Ideal) o0 o1 g (ix2 p q) : EReal) = mixRow o0 o1 g p q := by
  unfold val_main_v6 mixRow gated
  rw [cat2]
  by_cases h : q.val < 1024
  · rw [dif_pos h, dif_pos h, val_main_v2_apply, ← r1 g p ⟨q.val, h⟩]
    rfl
  · rw [dif_neg h, dif_neg h, val_main_v5_apply]
    have e := r4 g p ⟨q.val - 1024, by omega⟩
    have e2 : (⟨1024 + (q.val - 1024), by omega⟩ : Fin 3072) = ⟨q.val, by omega⟩ := Fin.ext (by show 1024 + (q.val - 1024) = q.val; omega)
    rw [e2] at e
    rw [← e]
    rfl

theorem r25 : (val_main_v25 (F := Ideal) o0 o1 g (ix2 p q) : EReal) = mixRow o0 o1 g p q := by
  rw [← r6]
  unfold val_main_v25
  generalize val_main_v6 (F := Ideal) o0 o1 g = z
  pointwise []

theorem r8 : (val_main_v8 (F := Ideal) o0 o1 g w (ix2 p q) : EReal) = prod (mixRow o0 o1 g p) w q := by
  unfold prod
  simp only [← r6]
  unfold val_main_v8
  generalize val_main_v6 (F := Ideal) o0 o1 g = z
  pointwise [val_main_v7]

theorem r16 : (val_main_v16 (F := Ideal) o0 o1 g w (ix2 p (0 : Fin 1)) : EReal) = inv (mixRow o0 o1 g p) w := by
  unfold inv
  simp only [← r8]
  unfold val_main_v16 val_main_v15 val_main_v14 val_main_v13 val_main_v12 val_main_v11 val_main_v10 val_main_v9 val_main_cst val_main_cst_0 val_main_cst_1
  generalize val_main_v8 (F := Ideal) o0 o1 g w = z
  pointwise []

theorem r18 : (val_main_v18 (F := Ideal) o0 o1 g w (ix2 p q) : EReal) = hat (mixRow o0 o1 g p) w q := by
  unfold hat
  rw [← r8, ← r16]
  unfold val_main_v18 val_main_v17
  generalize val_main_v8 (F := Ideal) o0 o1 g w = z
  generalize val_main_v16 (F := Ideal) o0 o1 g w = u
  pointwise []

theorem r22 : (val_main_v22 (F := Ideal) o0 o1 g w x y v (ix2 p q) : EReal) = err (mixRow o0 o1 g p) w (x (ix2 p q)) (y (ix2 p q)) (v (ix2 0 q)) q := by
  unfold err
  rw [← r18]
  unfold val_main_v22 val_main_v21 val_main_v20 val_main_v19
  generalize val_main_v18 (F := Ideal) o0 o1 g w = z
  pointwise []

theorem r24 : (val_main_v24 (F := Ideal) o0 o1 g w x y v (ix2 p q) : EReal) = grad (mixRow o0 o1 g p) w (x (ix2 p q)) (y (ix2 p q)) (v (ix2 0 q)) q := by
  unfold grad
  rw [← r22, ← by_width]
  unfold val_main_v24 val_main_v23 val_main_cst_2
  generalize val_main_v22 (F := Ideal) o0 o1 g w x y v = z
  pointwise []

/-- A row's squared error. -/
noncomputable def sq (q : Fin 2048) (p : Fin 8192) : EReal :=
  err (mixRow o0 o1 g p) w (x (ix2 p q)) (y (ix2 p q)) (v (ix2 0 q)) q * err (mixRow o0 o1 g p) w (x (ix2 p q)) (y (ix2 p q)) (v (ix2 0 q)) q

/-- A row's term of the norm weight's gradient. -/
noncomputable def dw (q : Fin 2048) (p : Fin 8192) : EReal :=
  grad (mixRow o0 o1 g p) w (x (ix2 p q)) (y (ix2 p q)) (v (ix2 0 q)) q * hat (mixRow o0 o1 g p) w q

theorem r28 : (val_main_v28 (F := Ideal) o0 o1 g w x y v (ix2 (0 : Fin 1) q) : EReal) = ∑ p, sq o0 o1 g w x y v q p := by
  unfold sq
  simp only [← r22]
  unfold val_main_v28 val_main_v27 val_main_v26 val_main_cst_3
  generalize val_main_v22 (F := Ideal) o0 o1 g w x y v = z
  pointwise []

theorem r31 : (val_main_v31 (F := Ideal) o0 o1 g w x y v (ix2 (0 : Fin 1) q) : EReal) = ∑ p, dw o0 o1 g w x y v q p := by
  unfold dw
  simp only [← r24, ← r18]
  unfold val_main_v31 val_main_v30 val_main_v29 val_main_cst_4
  generalize val_main_v24 (F := Ideal) o0 o1 g w x y v = z
  generalize val_main_v18 (F := Ideal) o0 o1 g w = u
  simp only [mul_comm (z _ : EReal)]
  pointwise []
end

end Cert.OutPostValue

end
-- ==== Proof.OutPostBlocks.lean ====
/- What a point leaves in each result's block. -/
module

public import proofs.«01_k».proof.Proof.OutPost
public import proofs.«01_k».proof.Proof.Gen.OutPostIdeal.Value

@[expose] public section

set_option maxRecDepth 16384

namespace Cert.OutPostValue

open Idealize.ShloMosaic Idealize.ShloMosaic.TcCoe Idealize.SL.Sem
open Cert.OutPostIdeal Cert.OutPostIdeal.Gen

section
variable (x0 x1 x2 x3 : Vec Ideal S256x1024 .f32) (x4 : Vec Ideal S2048x2048 .bf16) (x5 x6 : Vec Ideal S256x2048 .f32) (x7 xo11 xo12 : Vec Ideal S1x2048 .f32)

/-- A block of gated heads: its two halves stored side by side. -/
noncomputable def M : Vec Ideal S256x2048 .bf16 :=
  View.canon [(⟨Rect.unit (s := S256x2048) ![0, 1024] S256x1024.size inb_S256x2048_S256x1024_0_1024, k0_pay2 x3 x1⟩ : View.Piece (Elt Ideal) S256x2048 .bf16),
    ⟨Rect.unit (s := S256x2048) ![0, 0] S256x1024.size inb_S256x2048_S256x1024_0_0, k0_pay1 x2 x0⟩]

/-- A row of it. -/
theorem M_apply (p : Fin 256) (q : Fin 2048) : (M x0 x1 x2 x3 (ix2 p q) : EReal)
    = if h : q.val < 1024 then gated (x0 (ix2 p ⟨q.val, h⟩)) (x2 (ix2 p ⟨q.val, h⟩)) else gated (x1 (ix2 p ⟨q.val - 1024, by omega⟩)) (x3 (ix2 p ⟨q.val - 1024, by omega⟩)) := by
  unfold M
  by_cases h : q.val < 1024
  · rw [dif_pos h, View.canon_cons_of_not_mem]
    · have e : (ix2 p q : S256x2048.Idx) = (Rect.unit (s := S256x2048) ![0, 0] S256x1024.size inb_S256x2048_S256x1024_0_0).emb (ix2 p (⟨q.val, h⟩ : Fin 1024)) := by
        funext a; apply Fin.ext
        match a with
        | ⟨0, _⟩ => show p.val = 0 + 1 * p.val; omega
        | ⟨1, _⟩ => show q.val = 0 + 1 * q.val; omega
      rw [e, View.canon_cons_emb]
      exact pay1 x2 x0 p ⟨q.val, h⟩
    · rw [Rect.mem_set_unit]
      intro hm
      have h1 : 1024 ≤ q.val := (hm 1).1
      omega
  · rw [dif_neg h]
    have e : (ix2 p q : S256x2048.Idx) = (Rect.unit (s := S256x2048) ![0, 1024] S256x1024.size inb_S256x2048_S256x1024_0_1024).emb (ix2 p (⟨q.val - 1024, by omega⟩ : Fin 1024)) := by
      funext a; apply Fin.ext
      match a with
      | ⟨0, _⟩ => show p.val = 0 + 1 * p.val; omega
      | ⟨1, _⟩ => show q.val = 1024 + 1 * (q.val - 1024); omega
    rw [e, View.canon_cons_emb]
    exact pay2 x3 x1 p ⟨q.val - 1024, by omega⟩

/-- A load of a whole buffer that was stored to reads what the stores left. -/
theorem cov {κ : Kind} {sp : Space} {S : Shape} {e : EltTy} (v : View sig κ sp S e) (L : List (View.Piece (Elt Ideal) S e)) {off : Fin S.rank → ℕ} (h : off = fun _ => 0)
    (inb : ∀ a, off a + S.size a ≤ S.size a) : v.readCov L (Rect.unit off S.size inb).toLoadRect = View.canon L := by
  subst h
  rw [View.readCov_eq_canon']
  funext j
  congr 1
  funext a; apply Fin.ext
  show 0 + 1 * (j a).val = (j a).val
  omega

variable (c : Dev nD) (i : grid0.Coords) (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S2048x2048 .bf16) (harg5 : arg5.IsWhole)
  (arg6 : Memref sig .tc .vmem S256x2048 .f32) (harg6 : arg6.IsWhole)
  (arg7 : Memref sig .tc .vmem S256x2048 .f32) (harg7 : arg7.IsWhole)
  (arg8 : Memref sig .tc .vmem S1x2048 .f32) (harg8 : arg8.IsWhole)
  (arg9 : Memref sig .tc .vmem S256x2048 .bf16) (harg9 : arg9.IsWhole)
  (arg10 : Memref sig .tc .vmem S256x2048 .bf16) (harg10 : arg10.IsWhole)
  (arg11 : Memref sig .tc .vmem S256x2048 .f32) (harg11 : arg11.IsWhole)
  (arg12 : Memref sig .tc .vmem S1x2048 .f32) (harg12 : arg12.IsWhole)
  (arg13 : Memref sig .tc .vmem S1x2048 .f32) (harg13 : arg13.IsWhole)

/-- The gated heads at the first point. -/
theorem outA_8 (c0 : cond0_0 i) :
    out0_A_8 c i arg1 harg1 arg2 harg2 arg3 harg3 arg4 harg4 arg5 harg5 arg6 harg6 arg7 harg7 arg8 harg8 arg9 harg9 arg10 harg10 arg11 harg11 arg12 harg12 arg13 harg13 c0 x0 x1 x2 x3 x4 x5 x6 x7 = M x0 x1 x2 x3 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 c0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S256x1024) hz, View.ld_unit_zero (S := S2048x2048) hz, View.ld_unit_zero (S := S256x2048) hz, View.ld_unit_zero (S := S1x2048) hz]
  rfl

/-- The gradient of the output at the first point. -/
theorem outA_10 (c0 : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 c0 x0 x1 x2 x3 x4 x5 x6 x7 = k0_pay8 (k0_pay6 (M x0 x1 x2 x3) x4 x7 x5) x6 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 c0 x0 x1 x2 x3 x4 x5 x6 x7)]
  unfold kernelRun0_A
  dsimp only
  sl_unfold_words
  rw [View.canon_unit_zero hz]
  simp only [cov (S := S256x2048) _ _ hz, cov (S := S1x2048) _ _ hz, View.canon_unit_zero (S := S1x2048) hz, View.readAt_eq_ld, harg1.read_unread, harg2.read_unread, harg3.read_unread, harg4.read_unread, harg5.read_unread, harg6.read_unread, harg7.read_unread, harg8.read_unread, View.ld_unit_zero (S := S256x1024) hz, View.ld_unit_zero (S := S2048x2048) hz, View.ld_unit_zero (S := S256x2048) hz, View.ld_unit_zero (S := S1x2048) hz]
  rfl

/-- The squared errors at the first point. -/
theorem outA_11 (c0 : cond0_0 i) :
    out0_A_11 c i arg1 harg1 arg2 harg2 arg3 harg3 arg4 harg4 arg5 harg5 arg6 harg6 arg7 harg7 arg8 harg8 arg9 harg9 arg10 harg10 arg11 harg11 arg12 harg12 arg13 harg13 c0 x0 x1 x2 x3 x4 x5 x6 x7 = k0_pay12 (k0_pay6 (M x0 x1 x2 x3) x4 x7 x5) x6 (k0_pay10 (F := Ideal)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 c0 x0 x1 x2 x3 x4 x5 x6 x7)]
  unfold kernelRun0_A
  dsimp only
  sl_unfold_words
  rw [View.canon_cons_unit_zero hz]
  simp only [cov (S := S256x2048) _ _ hz, cov (S := S1x2048) _ _ hz, View.canon_unit_zero (S := S1x2048) hz, View.readAt_eq_ld, harg1.read_unread, harg2.read_unread, harg3.read_unread, harg4.read_unread, harg5.read_unread, harg6.read_unread, harg7.read_unread, harg8.read_unread, View.ld_unit_zero (S := S256x1024) hz, View.ld_unit_zero (S := S2048x2048) hz, View.ld_unit_zero (S := S256x2048) hz, View.ld_unit_zero (S := S1x2048) hz]
  rfl

/-- The norm weight's gradient at the first point. -/
theorem outA_12 (c0 : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 c0 x0 x1 x2 x3 x4 x5 x6 x7 = k0_pay13 (k0_pay5 (M x0 x1 x2 x3) x4) (k0_pay6 (M x0 x1 x2 x3) x4 x7 x5) x6 (k0_pay11 (F := Ideal)) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 c0 x0 x1 x2 x3 x4 x5 x6 x7)]
  unfold kernelRun0_A
  dsimp only
  sl_unfold_words
  rw [View.canon_cons_unit_zero hz]
  simp only [cov (S := S256x2048) _ _ hz, cov (S := S1x2048) _ _ hz, View.canon_unit_zero (S := S1x2048) hz, View.readAt_eq_ld, harg1.read_unread, harg2.read_unread, harg3.read_unread, harg4.read_unread, harg5.read_unread, harg6.read_unread, harg7.read_unread, harg8.read_unread, View.ld_unit_zero (S := S256x1024) hz, View.ld_unit_zero (S := S2048x2048) hz, View.ld_unit_zero (S := S256x2048) hz, View.ld_unit_zero (S := S1x2048) hz]
  rfl

/-- The gated heads at a later point. -/
theorem outB_8 (c0 : ¬cond0_0 i) :
    out0_B_8 c i arg1 harg1 arg2 harg2 arg3 harg3 arg4 harg4 arg5 harg5 arg6 harg6 arg7 harg7 arg8 harg8 arg9 harg9 arg10 harg10 arg11 harg11 arg12 harg12 arg13 harg13 c0 x0 x1 x2 x3 x4 x5 x6 x7 xo11 xo12 = M x0 x1 x2 x3 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 c0 x0 x1 x2 x3 x4 x5 x6 x7 xo11 xo12)]
  unfold kernelRun0_B
  dsimp only
  sl_unfold_words
  simp only [View.readAt_eq_ld, harg1.read_unread, harg2.read_unread, harg3.read_unread, harg4.read_unread, harg5.read_unread, harg6.read_unread, harg7.read_unread, harg8.read_unread, harg12.read_unread, harg13.read_unread, View.ld_unit_zero (S := S256x1024) hz, View.ld_unit_zero (S := S2048x2048) hz, View.ld_unit_zero (S := S256x2048) hz, View.ld_unit_zero (S := S1x2048) hz]
  rfl

/-- The gradient of the output at a later point. -/
theorem outB_10 (c0 : ¬cond0_0 i) :
    out0_B_10 c i arg1 harg1 arg2 harg2 arg3 harg3 arg4 harg4 arg5 harg5 arg6 harg6 arg7 harg7 arg8 harg8 arg9 harg9 arg10 harg10 arg11 harg11 arg12 harg12 arg13 harg13 c0 x0 x1 x2 x3 x4 x5 x6 x7 xo11 xo12 = k0_pay8 (k0_pay6 (M x0 x1 x2 x3) x4 x7 x5) x6 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 c0 x0 x1 x2 x3 x4 x5 x6 x7 xo11 xo12)]
  unfold kernelRun0_B
  dsimp only
  sl_unfold_words
  rw [View.canon_unit_zero hz]
  simp only [cov (S := S256x2048) _ _ hz, cov (S := S1x2048) _ _ hz, View.canon_unit_zero (S := S1x2048) hz, View.readAt_eq_ld, harg1.read_unread, harg2.read_unread, harg3.read_unread, harg4.read_unread, harg5.read_unread, harg6.read_unread, harg7.read_unread, harg8.read_unread, harg12.read_unread, harg13.read_unread, View.ld_unit_zero (S := S256x1024) hz, View.ld_unit_zero (S := S2048x2048) hz, View.ld_unit_zero (S := S256x2048) hz, View.ld_unit_zero (S := S1x2048) hz]
  rfl

/-- The squared errors at a later point. -/
theorem outB_11 (c0 : ¬cond0_0 i) :
    out0_B_11 c i arg1 harg1 arg2 harg2 arg3 harg3 arg4 harg4 arg5 harg5 arg6 harg6 arg7 harg7 arg8 harg8 arg9 harg9 arg10 harg10 arg11 harg11 arg12 harg12 arg13 harg13 c0 x0 x1 x2 x3 x4 x5 x6 x7 xo11 xo12 = k0_pay12 (k0_pay6 (M x0 x1 x2 x3) x4 x7 x5) x6 xo11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 c0 x0 x1 x2 x3 x4 x5 x6 x7 xo11 xo12)]
  unfold kernelRun0_B
  dsimp only
  sl_unfold_words
  rw [View.canon_unit_zero hz]
  simp only [cov (S := S256x2048) _ _ hz, cov (S := S1x2048) _ _ hz, View.canon_unit_zero (S := S1x2048) hz, View.readAt_eq_ld, harg1.read_unread, harg2.read_unread, harg3.read_unread, harg4.read_unread, harg5.read_unread, harg6.read_unread, harg7.read_unread, harg8.read_unread, harg12.read_unread, harg13.read_unread, View.ld_unit_zero (S := S256x1024) hz, View.ld_unit_zero (S := S2048x2048) hz, View.ld_unit_zero (S := S256x2048) hz, View.ld_unit_zero (S := S1x2048) hz]
  rfl

/-- The norm weight's gradient at a later point. -/
theorem outB_12 (c0 : ¬cond0_0 i) :
    out0_B_12 c i arg1 harg1 arg2 harg2 arg3 harg3 arg4 harg4 arg5 harg5 arg6 harg6 arg7 harg7 arg8 harg8 arg9 harg9 arg10 harg10 arg11 harg11 arg12 harg12 arg13 harg13 c0 x0 x1 x2 x3 x4 x5 x6 x7 xo11 xo12 = k0_pay13 (k0_pay5 (M x0 x1 x2 x3) x4) (k0_pay6 (M x0 x1 x2 x3) x4 x7 x5) x6 xo12 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 c0 x0 x1 x2 x3 x4 x5 x6 x7 xo11 xo12)]
  unfold kernelRun0_B
  dsimp only
  sl_unfold_words
  rw [View.canon_unit_zero hz]
  simp only [cov (S := S256x2048) _ _ hz, cov (S := S1x2048) _ _ hz, View.canon_unit_zero (S := S1x2048) hz, View.readAt_eq_ld, harg1.read_unread, harg2.read_unread, harg3.read_unread, harg4.read_unread, harg5.read_unread, harg6.read_unread, harg7.read_unread, harg8.read_unread, harg12.read_unread, harg13.read_unread, View.ld_unit_zero (S := S256x1024) hz, View.ld_unit_zero (S := S2048x2048) hz, View.ld_unit_zero (S := S256x2048) hz, View.ld_unit_zero (S := S1x2048) hz]
  rfl

end

end Cert.OutPostValue

end
-- ==== Proof.OutPostFinal.lean ====
/- The gated heads, the output product, its norm, the residual and the error, block of rows by block of rows: the result arrays are the plain program's. -/
module

public import proofs.«01_k».proof.Proof.OutPostRef
public import proofs.«01_k».proof.Proof.OutPostBlocks

@[expose] public section

set_option maxRecDepth 16384

namespace Cert.OutPostValue

open Idealize.ShloMosaic Idealize.ShloMosaic.TcCoe Idealize.SL.Sem
open Cert.OutPostIdeal Cert.OutPostIdeal.Gen Cert.Rows
open Cert.OutPostRefIdeal.Read

section
variable (o0 o1 : FVec Ideal S8192x1024 .f32) (g : FVec Ideal S8192x3072 .f32) (w : FVec Ideal S2048x2048 .bf16) (x y : FVec Ideal S8192x2048 .f32) (v : FVec Ideal S1x2048 .f32)

/-- The gated heads. -/
noncomputable def G8 : FVec Ideal S8192x2048 .bf16 := fun i => mixRow o0 o1 g (⟨(i 0).val, (i 0).isLt⟩ : Fin 8192) (⟨(i 1).val, (i 1).isLt⟩ : Fin 2048)

/-- An element of the gradient of the output. -/
noncomputable def gradAt (p : Fin 8192) (q : Fin 2048) : EReal := grad (mixRow o0 o1 g p) w (x (ix2 p q)) (y (ix2 p q)) (v (ix2 0 q)) q

/-- The gradient of the output. -/
noncomputable def G10 : FVec Ideal S8192x2048 .f32 := fun i => gradAt o0 o1 g w x y v (⟨(i 0).val, (i 0).isLt⟩ : Fin 8192) (⟨(i 1).val, (i 1).isLt⟩ : Fin 2048)

/-- The squared errors' sums. -/
noncomputable def G11 : FVec Ideal S1x2048 .f32 := fun i => ∑ p, sq o0 o1 g w x y v (⟨(i 1).val, (i 1).isLt⟩ : Fin 2048) p

/-- The norm weight's gradient. -/
noncomputable def G12 : FVec Ideal S1x2048 .f32 := fun i => ∑ p, dw o0 o1 g w x y v (⟨(i 1).val, (i 1).isLt⟩ : Fin 2048) p

/-- The plain program's results are these arrays. -/
theorem reference8 : val_main_v25 (F := Ideal) o0 o1 g = G8 o0 o1 g := by
  funext i
  obtain ⟨p, q, rfl⟩ : ∃ (p : Fin 8192) (q : Fin 2048), i = ix2 p q := ⟨_, _, eq_ix2 i⟩
  exact r25 o0 o1 g p q

theorem reference10 : val_main_v24 (F := Ideal) o0 o1 g w x y v = G10 o0 o1 g w x y v := by
  funext i
  obtain ⟨p, q, rfl⟩ : ∃ (p : Fin 8192) (q : Fin 2048), i = ix2 p q := ⟨_, _, eq_ix2 i⟩
  exact r24 o0 o1 g w x y v p q

theorem reference11 : val_main_v28 (F := Ideal) o0 o1 g w x y v = G11 o0 o1 g w x y v := by
  funext i
  obtain ⟨p, q, rfl⟩ : ∃ (p : Fin 1) (q : Fin 2048), i = ix2 p q := ⟨_, _, eq_ix2 i⟩
  obtain rfl : p = 0 := Subsingleton.elim _ _
  exact r28 o0 o1 g w x y v q

theorem reference12 : val_main_v31 (F := Ideal) o0 o1 g w x y v = G12 o0 o1 g w x y v := by
  funext i
  obtain ⟨p, q, rfl⟩ : ∃ (p : Fin 1) (q : Fin 2048), i = ix2 p q := ⟨_, _, eq_ix2 i⟩
  obtain rfl : p = 0 := Subsingleton.elim _ _
  exact r31 o0 o1 g w x y v q
end

variable (m : (ℓ : Loc nD τ sig) → Buf (Elt Ideal) ℓ) (c : Dev nD)

/-- The first half of the heads. -/
noncomputable abbrev a0 : FVec Ideal S8192x1024 .f32 := m ((c : Thread nD τ).loc main_arg0)
/-- The second half. -/
noncomputable abbrev a1 : FVec Ideal S8192x1024 .f32 := m ((c : Thread nD τ).loc main_arg1)
/-- The projection that holds the gates. -/
noncomputable abbrev a2 : FVec Ideal S8192x3072 .f32 := m ((c : Thread nD τ).loc main_arg2)
/-- The output weight. -/
noncomputable abbrev a3 : FVec Ideal S2048x2048 .bf16 := m ((c : Thread nD τ).loc main_arg3)
/-- The layer's input. -/
noncomputable abbrev a4 : FVec Ideal S8192x2048 .f32 := m ((c : Thread nD τ).loc main_arg4)
/-- The target. -/
noncomputable abbrev a5 : FVec Ideal S8192x2048 .f32 := m ((c : Thread nD τ).loc main_arg5)
/-- The norm's weight. -/
noncomputable abbrev a6 : FVec Ideal S1x2048 .f32 := m ((c : Thread nD τ).loc main_arg6)

/-- The four results for the memory's arrays. -/
noncomputable def R8 : Buf (Elt Ideal) ((c : Thread nD τ).loc main_v0_0) := G8 (a0 m c) (a1 m c) (a2 m c)
noncomputable def R10 : Buf (Elt Ideal) ((c : Thread nD τ).loc main_v0_2) := G10 (a0 m c) (a1 m c) (a2 m c) (a3 m c) (a4 m c) (a5 m c) (a6 m c)
noncomputable def R11 : Buf (Elt Ideal) ((c : Thread nD τ).loc main_v0_3) := G11 (a0 m c) (a1 m c) (a2 m c) (a3 m c) (a4 m c) (a5 m c) (a6 m c)
noncomputable def R12 : Buf (Elt Ideal) ((c : Thread nD τ).loc main_v0_4) := G12 (a0 m c) (a1 m c) (a2 m c) (a3 m c) (a4 m c) (a5 m c) (a6 m c)

/-- The block of each array at a point. -/
theorem idx : ∀ t : Fin cfg0.N, win0_0.index t = ![t.val, 0] ∧ win0_1.index t = ![t.val, 0] ∧ win0_2.index t = ![t.val, 0] ∧ win0_3.index t = ![t.val, 1] ∧ win0_4.index t = ![0, 0]
    ∧ win0_5.index t = ![t.val, 0] ∧ win0_6.index t = ![t.val, 0] ∧ win0_7.index t = ![0, 0] :=
  (by decide +kernel : ∀ t : Fin grid0.N, _)

/-- The block each result is written to at a point. -/
theorem idx' : ∀ t : Fin cfg0.N, win0_8.index t = ![t.val, 0] ∧ win0_10.index t = ![t.val, 0] ∧ win0_11.index t = ![0, 0] ∧ win0_12.index t = ![0, 0] :=
  (by decide +kernel : ∀ t : Fin grid0.N, _)

/-- The row of a point's block. -/
def at_ (t : Fin cfg0.N) (p : Fin 256) : Fin 8192 := ⟨t.val * 256 + p.val, by have h : t.val < 32 := t.isLt; omega⟩

section
variable (t : Fin cfg0.N)

theorem blk0 (p : Fin 256) (q : Fin 1024) : iblk m c 0 t (ix2 p q) = a0 m c (ix2 (at_ t p) q) := by
  have e0 : win0_0.index t (0 : Fin 2) = t.val := congrFun (idx t).1 0
  have e1 : win0_0.index t (1 : Fin 2) = 0 := congrFun (idx t).1 1
  show m _ _ = m _ _
  congr 1
  funext a; apply Fin.ext
  match a with
  | ⟨0, _⟩ => show win0_0.index t 0 * 256 + 1 * p.val = t.val * 256 + p.val; rw [e0]; omega
  | ⟨1, _⟩ => show win0_0.index t 1 * 1024 + 1 * q.val = q.val; rw [e1]; omega

theorem blk1 (p : Fin 256) (q : Fin 1024) : iblk m c 1 t (ix2 p q) = a1 m c (ix2 (at_ t p) q) := by
  have e0 : win0_1.index t (0 : Fin 2) = t.val := congrFun (idx t).2.1 0
  have e1 : win0_1.index t (1 : Fin 2) = 0 := congrFun (idx t).2.1 1
  show m _ _ = m _ _
  congr 1
  funext a; apply Fin.ext
  match a with
  | ⟨0, _⟩ => show win0_1.index t 0 * 256 + 1 * p.val = t.val * 256 + p.val; rw [e0]; omega
  | ⟨1, _⟩ => show win0_1.index t 1 * 1024 + 1 * q.val = q.val; rw [e1]; omega

theorem blk2 (p : Fin 256) (q : Fin 1024) : iblk m c 2 t (ix2 p q) = a2 m c (ix2 (at_ t p) (⟨q.val, by omega⟩ : Fin 3072)) := by
  have e0 : win0_2.index t (0 : Fin 2) = t.val := congrFun (idx t).2.2.1 0
  have e1 : win0_2.index t (1 : Fin 2) = 0 := congrFun (idx t).2.2.1 1
  show m _ _ = m _ _
  congr 1
  funext a; apply Fin.ext
  match a with
  | ⟨0, _⟩ => show win0_2.index t 0 * 256 + 1 * p.val = t.val * 256 + p.val; rw [e0]; omega
  | ⟨1, _⟩ => show win0_2.index t 1 * 1024 + 1 * q.val = q.val; rw [e1]; omega

theorem blk3 (p : Fin 256) (q : Fin 1024) : iblk m c 3 t (ix2 p q) = a2 m c (ix2 (at_ t p) (⟨1024 + q.val, by omega⟩ : Fin 3072)) := by
  have e0 : win0_3.index t (0 : Fin 2) = t.val := congrFun (idx t).2.2.2.1 0
  have e1 : win0_3.index t (1 : Fin 2) = 1 := congrFun (idx t).2.2.2.1 1
  show m _ _ = m _ _
  congr 1
  funext a; apply Fin.ext
  match a with
  | ⟨0, _⟩ => show win0_3.index t 0 * 256 + 1 * p.val = t.val * 256 + p.val; rw [e0]; omega
  | ⟨1, _⟩ => show win0_3.index t 1 * 1024 + 1 * q.val = 1024 + q.val; rw [e1]; omega

theorem blk4 (p : Fin 2048) (q : Fin 2048) : iblk m c 4 t (ix2 p q) = a3 m c (ix2 p q) := by
  have e0 : win0_4.index t (0 : Fin 2) = 0 := congrFun (idx t).2.2.2.2.1 0
  have e1 : win0_4.index t (1 : Fin 2) = 0 := congrFun (idx t).2.2.2.2.1 1
  show m _ _ = m _ _
  congr 1
  funext a; apply Fin.ext
  match a with
  | ⟨0, _⟩ => show win0_4.index t 0 * 2048 + 1 * p.val = p.val; rw [e0]; omega
  | ⟨1, _⟩ => show win0_4.index t 1 * 2048 + 1 * q.val = q.val; rw [e1]; omega

theorem blk5 (p : Fin 256) (q : Fin 2048) : iblk m c 5 t (ix2 p q) = a4 m c (ix2 (at_ t p) q) := by
  have e0 : win0_5.index t (0 : Fin 2) = t.val := congrFun (idx t).2.2.2.2.2.1 0
  have e1 : win0_5.index t (1 : Fin 2) = 0 := congrFun (idx t).2.2.2.2.2.1 1
  show m _ _ = m _ _
  congr 1
  funext a; apply Fin.ext
  match a with
  | ⟨0, _⟩ => show win0_5.index t 0 * 256 + 1 * p.val = t.val * 256 + p.val; rw [e0]; omega
  | ⟨1, _⟩ => show win0_5.index t 1 * 2048 + 1 * q.val = q.val; rw [e1]; omega

theorem blk6 (p : Fin 256) (q : Fin 2048) : iblk m c 6 t (ix2 p q) = a5 m c (ix2 (at_ t p) q) := by
  have e0 : win0_6.index t (0 : Fin 2) = t.val := congrFun (idx t).2.2.2.2.2.2.1 0
  have e1 : win0_6.index t (1 : Fin 2) = 0 := congrFun (idx t).2.2.2.2.2.2.1 1
  show m _ _ = m _ _
  congr 1
  funext a; apply Fin.ext
  match a with
  | ⟨0, _⟩ => show win0_6.index t 0 * 256 + 1 * p.val = t.val * 256 + p.val; rw [e0]; omega
  | ⟨1, _⟩ => show win0_6.index t 1 * 2048 + 1 * q.val = q.val; rw [e1]; omega

theorem blk7 (q : Fin 2048) : iblk m c 7 t (ix2 (0 : Fin 1) q) = a6 m c (ix2 (0 : Fin 1) q) := by
  have e0 : win0_7.index t (0 : Fin 2) = 0 := congrFun (idx t).2.2.2.2.2.2.2 0
  have e1 : win0_7.index t (1 : Fin 2) = 0 := congrFun (idx t).2.2.2.2.2.2.2 1
  show m _ _ = m _ _
  congr 1
  funext a; apply Fin.ext
  match a with
  | ⟨0, _⟩ => show win0_7.index t 0 * 1 + 1 * 0 = 0; rw [e0]
  | ⟨1, _⟩ => show win0_7.index t 1 * 2048 + 1 * q.val = q.val; rw [e1]; omega

/-- A point's gated heads. -/
noncomputable def MB : Vec Ideal S256x2048 .bf16 := M (iblk m c 0 t) (iblk m c 1 t) (iblk m c 2 t) (iblk m c 3 t)
/-- A point's output. -/
noncomputable def OB : FVec Ideal S256x2048 .f32 := k0_pay6 (F := Ideal) (MB m c t) (iblk m c 4 t) (iblk m c 7 t) (iblk m c 5 t)
/-- A point's normed rows. -/
noncomputable def HB : FVec Ideal S256x2048 .f32 := k0_pay5 (F := Ideal) (MB m c t) (iblk m c 4 t)

section
variable (p : Fin 256) (q : Fin 2048)

theorem mb : (MB m c t (ix2 p q) : EReal) = mixRow (a0 m c) (a1 m c) (a2 m c) (at_ t p) q := by
  refine (M_apply _ _ _ _ p q).trans ?_
  unfold mixRow
  by_cases h : q.val < 1024
  · rw [dif_pos h, dif_pos h, blk0, blk2]
  · rw [dif_neg h, dif_neg h, blk1, blk3]
    congr 3
    exact Fin.ext (by show 1024 + (q.val - 1024) = q.val; omega)

theorem wb : (iblk m c 4 t : FVec Ideal S2048x2048 .bf16) = a3 m c := by
  funext i
  obtain ⟨p, q, rfl⟩ : ∃ (p q : Fin 2048), i = ix2 p q := ⟨_, _, eq_ix2 i⟩
  exact blk4 m c t p q

theorem hb : (HB m c t (ix2 p q) : EReal) = hat (mixRow (a0 m c) (a1 m c) (a2 m c) (at_ t p)) (a3 m c) q := by
  refine (pay5 _ _ p q).trans ?_
  rw [show (fun k => (MB m c t (ix2 p k) : EReal)) = mixRow (a0 m c) (a1 m c) (a2 m c) (at_ t p) from funext fun k => mb m c t p k, wb]

theorem ob : (OB m c t (ix2 p q) : EReal) = a4 m c (ix2 (at_ t p) q) + hat (mixRow (a0 m c) (a1 m c) (a2 m c) (at_ t p)) (a3 m c) q * a6 m c (ix2 0 q) := by
  refine (pay6 (MB m c t) (iblk m c 4 t) (iblk m c 7 t) (iblk m c 5 t) p q).trans ?_
  rw [show (fun k => (MB m c t (ix2 p k) : EReal)) = mixRow (a0 m c) (a1 m c) (a2 m c) (at_ t p) from funext fun k => mb m c t p k, wb, blk5, blk7]

/-- A point's error. -/
theorem eb : ((OB m c t (ix2 p q) : EReal) - iblk m c 6 t (ix2 p q))
    = err (mixRow (a0 m c) (a1 m c) (a2 m c) (at_ t p)) (a3 m c) (a4 m c (ix2 (at_ t p) q)) (a5 m c (ix2 (at_ t p) q)) (a6 m c (ix2 0 q)) q := by
  rw [ob, blk6]
  rfl

theorem gb : (k0_pay8 (F := Ideal) (OB m c t) (iblk m c 6 t) (ix2 p q) : EReal) = gradAt (a0 m c) (a1 m c) (a2 m c) (a3 m c) (a4 m c) (a5 m c) (a6 m c) (at_ t p) q := by
  refine (pay8 _ _ p q).trans ?_
  rw [eb]
  rfl

theorem sb (a : FVec Ideal S1x2048 .f32) : (k0_pay12 (F := Ideal) (OB m c t) (iblk m c 6 t) a (ix2 0 q) : EReal)
    = a (ix2 0 q) + ∑ p : Fin 256, sq (a0 m c) (a1 m c) (a2 m c) (a3 m c) (a4 m c) (a5 m c) (a6 m c) q (at_ t p) := by
  refine (pay12 _ _ a q).trans ?_
  congr 1
  refine Finset.sum_congr rfl fun p _ => ?_
  rw [eb]
  rfl

theorem db (a : FVec Ideal S1x2048 .f32) : (k0_pay13 (F := Ideal) (HB m c t) (OB m c t) (iblk m c 6 t) a (ix2 0 q) : EReal)
    = a (ix2 0 q) + ∑ p : Fin 256, dw (a0 m c) (a1 m c) (a2 m c) (a3 m c) (a4 m c) (a5 m c) (a6 m c) q (at_ t p) := by
  refine (pay13 (OB m c t) (iblk m c 6 t) a q (HB m c t)).trans ?_
  refine congrArg (fun z : EReal => (a (ix2 0 q) : EReal) + z) (Finset.sum_congr rfl fun p _ => ?_)
  rw [eb, hb]
  rfl
end

/-- The block of gated heads after a point. -/
theorem o8 : (outsAt0 m c t.val t.isLt).1 = MB m c t := by
  by_cases h : t.val % 32 = 0
  · rw [outsAt0_A m c t h]; dsimp only; rw [outA_8]; rfl
  · rw [outsAt0_B m c t h]; dsimp only; rw [outB_8]; rfl

/-- The block of the gradient. -/
theorem o10 : (outsAt0 m c t.val t.isLt).2.2.1 = k0_pay8 (F := Ideal) (OB m c t) (iblk m c 6 t) := by
  by_cases h : t.val % 32 = 0
  · rw [outsAt0_A m c t h]; dsimp only; rw [outA_10]; rfl
  · rw [outsAt0_B m c t h]; dsimp only; rw [outB_10]; rfl
end

/-- After a point the block of the squared errors holds the sum over the rows so far. -/
theorem o11 (q : Fin 2048) : ∀ (n : ℕ) (hn : n < cfg0.N), ((outsAt0 m c n hn).2.2.2.1 (ix2 (0 : Fin 1) q) : EReal) = upto (n * 256 + 256) (sq (a0 m c) (a1 m c) (a2 m c) (a3 m c) (a4 m c) (a5 m c) (a6 m c) q)
  | 0, hn => by
    rw [outsAt0_A m c ⟨0, hn⟩ rfl]
    dsimp only
    rw [outA_11]
    refine (sb m c ⟨0, hn⟩ q _).trans ?_
    rw [pay10, ← upto_zero (sq (a0 m c) (a1 m c) (a2 m c) (a3 m c) (a4 m c) (a5 m c) (a6 m c) q)]
    refine Eq.trans ?_ (upto_add (W := 256) 0 (by decide) (sq (a0 m c) (a1 m c) (a2 m c) (a3 m c) (a4 m c) (a5 m c) (a6 m c) q))
    congr 1
  | n + 1, hn => by
    have h32 : n + 1 < 32 := hn
    rw [outsAt0_B m c ⟨n + 1, hn⟩ (by show ¬(n + 1) % 32 = 0; omega)]
    dsimp only
    rw [outB_11]
    refine (sb m c ⟨n + 1, hn⟩ q _).trans ?_
    have e := o11 q n (by omega)
    refine (congrArg (· + _) e).trans ?_
    refine Eq.trans ?_ ((upto_add (W := 256) (n * 256 + 256) (by omega) (sq (a0 m c) (a1 m c) (a2 m c) (a3 m c) (a4 m c) (a5 m c) (a6 m c) q)).trans (by congr 1; omega))
    congr 1
    refine Finset.sum_congr rfl fun p _ => ?_
    congr 1
    exact Fin.ext (by show (n + 1) * 256 + p.val = n * 256 + 256 + p.val; omega)

/-- After a point the block of the norm weight's gradient holds the sum over the rows so far. -/
theorem o12 (q : Fin 2048) : ∀ (n : ℕ) (hn : n < cfg0.N), ((outsAt0 m c n hn).2.2.2.2 (ix2 (0 : Fin 1) q) : EReal) = upto (n * 256 + 256) (dw (a0 m c) (a1 m c) (a2 m c) (a3 m c) (a4 m c) (a5 m c) (a6 m c) q)
  | 0, hn => by
    rw [outsAt0_A m c ⟨0, hn⟩ rfl]
    dsimp only
    rw [outA_12]
    refine (db m c ⟨0, hn⟩ q _).trans ?_
    rw [pay11, ← upto_zero (dw (a0 m c) (a1 m c) (a2 m c) (a3 m c) (a4 m c) (a5 m c) (a6 m c) q)]
    refine Eq.trans ?_ (upto_add (W := 256) 0 (by decide) (dw (a0 m c) (a1 m c) (a2 m c) (a3 m c) (a4 m c) (a5 m c) (a6 m c) q))
    congr 1
  | n + 1, hn => by
    have h32 : n + 1 < 32 := hn
    rw [outsAt0_B m c ⟨n + 1, hn⟩ (by show ¬(n + 1) % 32 = 0; omega)]
    dsimp only
    rw [outB_12]
    refine (db m c ⟨n + 1, hn⟩ q _).trans ?_
    have e := o12 q n (by omega)
    refine (congrArg (· + _) e).trans ?_
    refine Eq.trans ?_ ((upto_add (W := 256) (n * 256 + 256) (by omega) (dw (a0 m c) (a1 m c) (a2 m c) (a3 m c) (a4 m c) (a5 m c) (a6 m c) q)).trans (by congr 1; omega))
    congr 1
    refine Finset.sum_congr rfl fun p _ => ?_
    congr 1
    exact Fin.ext (by show (n + 1) * 256 + p.val = n * 256 + 256 + p.val; omega)

/-- What a point writes back to this array is its block of the whole. -/
theorem flushed8_eq (t : Fin cfg0.N) (hf : (cfg0.win 8).flush t = true) :
    (Gen.dats m 0 c).flushed 8 t = ((cfg0.win 8).blk t).view.read (Elt Ideal) (R8 m c) := by
  rw [Value.flushed8, o8]
  have i0 : win0_8.index t (0 : Fin 2) = t.val := congrFun (idx' t).1 0
  have i1 : win0_8.index t (1 : Fin 2) = 0 := congrFun (idx' t).1 1
  funext y
  obtain ⟨p, q, rfl⟩ : ∃ (p : Fin 256) (q : Fin 2048), y = ix2 p q := ⟨_, _, eq_ix2 y⟩
  have e : ((cfg0.win 8).blk t).view.emb (ix2 p q) = ix2 (at_ t p) q := by
    funext a; apply Fin.ext
    match a with
    | ⟨0, _⟩ => show win0_8.index t 0 * 256 + 1 * p.val = t.val * 256 + p.val; rw [i0]; omega
    | ⟨1, _⟩ => show win0_8.index t 1 * 2048 + 1 * q.val = q.val; rw [i1]; omega
  show MB m c t (ix2 p q) = R8 m c (((cfg0.win 8).blk t).view.emb (ix2 p q))
  rw [e]
  exact mb m c t p q

/-- An index lies in a point's block when each coordinate does. -/
theorem mem_blk8 (t : Fin cfg0.N) (i : S8192x2048.Idx) :
    i ∈ ((cfg0.win 8).blk t).view.set ↔ ∀ a : Fin 2, win0_8.index t a * S256x2048.size a ≤ (i a).val ∧ (i a).val < win0_8.index t a * S256x2048.size a + S256x2048.size a := by
  show i ∈ ((View.whole main_v0_0).slice (win0_8.rect t)).set ↔ _
  rw [View.set_slice_whole, Rect.mem_set_unit]
  exact Iff.rfl

/-- The array after the run. -/
theorem final8 : (Gen.dats m 0 c).arrAt 8 cfg0.N = R8 m c :=
  (Gen.dats m 0 c).arrAt_eq_of_cover 8 _ (fun t hf => flushed8_eq m c t hf) fun i => by
    have h0 : (i 0).val < 8192 := (i 0).isLt
    have h1 : (i 1).val < 2048 := (i 1).isLt
    have hN : (i 0).val / 256 < cfg0.N := by show _ < 32; omega
    have i0 : win0_8.index ⟨_, hN⟩ (0 : Fin 2) = (i 0).val / 256 := congrFun (idx' ⟨_, hN⟩).1 0
    have i1 : win0_8.index ⟨_, hN⟩ (1 : Fin 2) = 0 := congrFun (idx' ⟨_, hN⟩).1 1
    refine ⟨⟨_, hN⟩, flush0_8 _, ?_⟩
    rw [mem_blk8]
    intro a
    match a with
    | ⟨0, _⟩ => show win0_8.index ⟨_, hN⟩ (0 : Fin 2) * 256 ≤ (i 0).val ∧ (i 0).val < win0_8.index ⟨_, hN⟩ (0 : Fin 2) * 256 + 256; rw [i0]; omega
    | ⟨1, _⟩ => show win0_8.index ⟨_, hN⟩ (1 : Fin 2) * 2048 ≤ (i 1).val ∧ (i 1).val < win0_8.index ⟨_, hN⟩ (1 : Fin 2) * 2048 + 2048; rw [i1]; omega

/-- What a point writes back to this array is its block of the whole. -/
theorem flushed10_eq (t : Fin cfg0.N) (hf : (cfg0.win 10).flush t = true) :
    (Gen.dats m 0 c).flushed 10 t = ((cfg0.win 10).blk t).view.read (Elt Ideal) (R10 m c) := by
  rw [Value.flushed10, o10]
  have i0 : win0_10.index t (0 : Fin 2) = t.val := congrFun (idx' t).2.1 0
  have i1 : win0_10.index t (1 : Fin 2) = 0 := congrFun (idx' t).2.1 1
  funext y
  obtain ⟨p, q, rfl⟩ : ∃ (p : Fin 256) (q : Fin 2048), y = ix2 p q := ⟨_, _, eq_ix2 y⟩
  have e : ((cfg0.win 10).blk t).view.emb (ix2 p q) = ix2 (at_ t p) q := by
    funext a; apply Fin.ext
    match a with
    | ⟨0, _⟩ => show win0_10.index t 0 * 256 + 1 * p.val = t.val * 256 + p.val; rw [i0]; omega
    | ⟨1, _⟩ => show win0_10.index t 1 * 2048 + 1 * q.val = q.val; rw [i1]; omega
  show k0_pay8 (F := Ideal) (OB m c t) (iblk m c 6 t) (ix2 p q) = R10 m c (((cfg0.win 10).blk t).view.emb (ix2 p q))
  rw [e]
  exact gb m c t p q

/-- An index lies in a point's block when each coordinate does. -/
theorem mem_blk10 (t : Fin cfg0.N) (i : S8192x2048.Idx) :
    i ∈ ((cfg0.win 10).blk t).view.set ↔ ∀ a : Fin 2, win0_10.index t a * S256x2048.size a ≤ (i a).val ∧ (i a).val < win0_10.index t a * S256x2048.size a + S256x2048.size a := by
  show i ∈ ((View.whole main_v0_2).slice (win0_10.rect t)).set ↔ _
  rw [View.set_slice_whole, Rect.mem_set_unit]
  exact Iff.rfl

/-- The array after the run. -/
theorem final10 : (Gen.dats m 0 c).arrAt 10 cfg0.N = R10 m c :=
  (Gen.dats m 0 c).arrAt_eq_of_cover 10 _ (fun t hf => flushed10_eq m c t hf) fun i => by
    have h0 : (i 0).val < 8192 := (i 0).isLt
    have h1 : (i 1).val < 2048 := (i 1).isLt
    have hN : (i 0).val / 256 < cfg0.N := by show _ < 32; omega
    have i0 : win0_10.index ⟨_, hN⟩ (0 : Fin 2) = (i 0).val / 256 := congrFun (idx' ⟨_, hN⟩).2.1 0
    have i1 : win0_10.index ⟨_, hN⟩ (1 : Fin 2) = 0 := congrFun (idx' ⟨_, hN⟩).2.1 1
    refine ⟨⟨_, hN⟩, flush0_10 _, ?_⟩
    rw [mem_blk10]
    intro a
    match a with
    | ⟨0, _⟩ => show win0_10.index ⟨_, hN⟩ (0 : Fin 2) * 256 ≤ (i 0).val ∧ (i 0).val < win0_10.index ⟨_, hN⟩ (0 : Fin 2) * 256 + 256; rw [i0]; omega
    | ⟨1, _⟩ => show win0_10.index ⟨_, hN⟩ (1 : Fin 2) * 2048 ≤ (i 1).val ∧ (i 1).val < win0_10.index ⟨_, hN⟩ (1 : Fin 2) * 2048 + 2048; rw [i1]; omega

/-- What the last point writes back to this array is the whole of it. -/
theorem flushed11_eq (t : Fin cfg0.N) (hf : (cfg0.win 11).flush t = true) :
    (Gen.dats m 0 c).flushed 11 t = ((cfg0.win 11).blk t).view.read (Elt Ideal) (R11 m c) := by
  have hl : t.val % 32 = 31 := (flush0_11 t).mp hf
  have hN : t.val < 32 := t.isLt
  rw [Value.flushed11]
  have i0 : win0_11.index t (0 : Fin 2) = 0 := congrFun (idx' t).2.2.1 0
  have i1 : win0_11.index t (1 : Fin 2) = 0 := congrFun (idx' t).2.2.1 1
  funext y
  obtain ⟨p, q, rfl⟩ : ∃ (p : Fin 1) (q : Fin 2048), y = ix2 p q := ⟨_, _, eq_ix2 y⟩
  obtain rfl : p = 0 := Subsingleton.elim _ _
  have e : ((cfg0.win 11).blk t).view.emb (ix2 (0 : Fin 1) q) = ix2 (0 : Fin 1) q := by
    funext a; apply Fin.ext
    match a with
    | ⟨0, _⟩ => show win0_11.index t 0 * 1 + 1 * 0 = 0; rw [i0]
    | ⟨1, _⟩ => show win0_11.index t 1 * 2048 + 1 * q.val = q.val; rw [i1]; omega
  show (outsAt0 m c t.val t.isLt).2.2.2.1 (ix2 (0 : Fin 1) q) = R11 m c (((cfg0.win 11).blk t).view.emb (ix2 (0 : Fin 1) q))
  rw [e]
  exact (o11 m c q t.val t.isLt).trans (upto_all (by omega) _)

/-- An index lies in a point's block when each coordinate does. -/
theorem mem_blk11 (t : Fin cfg0.N) (i : S1x2048.Idx) :
    i ∈ ((cfg0.win 11).blk t).view.set ↔ ∀ a : Fin 2, win0_11.index t a * S1x2048.size a ≤ (i a).val ∧ (i a).val < win0_11.index t a * S1x2048.size a + S1x2048.size a := by
  show i ∈ ((View.whole main_v0_3).slice (win0_11.rect t)).set ↔ _
  rw [View.set_slice_whole, Rect.mem_set_unit]
  exact Iff.rfl

/-- The array after the run. -/
theorem final11 : (Gen.dats m 0 c).arrAt 11 cfg0.N = R11 m c :=
  (Gen.dats m 0 c).arrAt_eq_of_cover 11 _ (fun t hf => flushed11_eq m c t hf) fun i => by
    have h0 : (i 0).val < 1 := (i 0).isLt
    have h1 : (i 1).val < 2048 := (i 1).isLt
    have hN : 31 < cfg0.N := by show _ < 32; omega
    have i0 : win0_11.index ⟨_, hN⟩ (0 : Fin 2) = 0 := congrFun (idx' ⟨_, hN⟩).2.2.1 0
    have i1 : win0_11.index ⟨_, hN⟩ (1 : Fin 2) = 0 := congrFun (idx' ⟨_, hN⟩).2.2.1 1
    refine ⟨⟨_, hN⟩, (flush0_11 _).mpr rfl, ?_⟩
    rw [mem_blk11]
    intro a
    match a with
    | ⟨0, _⟩ => show win0_11.index ⟨_, hN⟩ (0 : Fin 2) * 1 ≤ (i 0).val ∧ (i 0).val < win0_11.index ⟨_, hN⟩ (0 : Fin 2) * 1 + 1; rw [i0]; omega
    | ⟨1, _⟩ => show win0_11.index ⟨_, hN⟩ (1 : Fin 2) * 2048 ≤ (i 1).val ∧ (i 1).val < win0_11.index ⟨_, hN⟩ (1 : Fin 2) * 2048 + 2048; rw [i1]; omega

/-- What the last point writes back to this array is the whole of it. -/
theorem flushed12_eq (t : Fin cfg0.N) (hf : (cfg0.win 12).flush t = true) :
    (Gen.dats m 0 c).flushed 12 t = ((cfg0.win 12).blk t).view.read (Elt Ideal) (R12 m c) := by
  have hl : t.val % 32 = 31 := (flush0_12 t).mp hf
  have hN : t.val < 32 := t.isLt
  rw [Value.flushed12]
  have i0 : win0_12.index t (0 : Fin 2) = 0 := congrFun (idx' t).2.2.2 0
  have i1 : win0_12.index t (1 : Fin 2) = 0 := congrFun (idx' t).2.2.2 1
  funext y
  obtain ⟨p, q, rfl⟩ : ∃ (p : Fin 1) (q : Fin 2048), y = ix2 p q := ⟨_, _, eq_ix2 y⟩
  obtain rfl : p = 0 := Subsingleton.elim _ _
  have e : ((cfg0.win 12).blk t).view.emb (ix2 (0 : Fin 1) q) = ix2 (0 : Fin 1) q := by
    funext a; apply Fin.ext
    match a with
    | ⟨0, _⟩ => show win0_12.index t 0 * 1 + 1 * 0 = 0; rw [i0]
    | ⟨1, _⟩ => show win0_12.index t 1 * 2048 + 1 * q.val = q.val; rw [i1]; omega
  show (outsAt0 m c t.val t.isLt).2.2.2.2 (ix2 (0 : Fin 1) q) = R12 m c (((cfg0.win 12).blk t).view.emb (ix2 (0 : Fin 1) q))
  rw [e]
  exact (o12 m c q t.val t.isLt).trans (upto_all (by omega) _)

/-- An index lies in a point's block when each coordinate does. -/
theorem mem_blk12 (t : Fin cfg0.N) (i : S1x2048.Idx) :
    i ∈ ((cfg0.win 12).blk t).view.set ↔ ∀ a : Fin 2, win0_12.index t a * S1x2048.size a ≤ (i a).val ∧ (i a).val < win0_12.index t a * S1x2048.size a + S1x2048.size a := by
  show i ∈ ((View.whole main_v0_4).slice (win0_12.rect t)).set ↔ _
  rw [View.set_slice_whole, Rect.mem_set_unit]
  exact Iff.rfl

/-- The array after the run. -/
theorem final12 : (Gen.dats m 0 c).arrAt 12 cfg0.N = R12 m c :=
  (Gen.dats m 0 c).arrAt_eq_of_cover 12 _ (fun t hf => flushed12_eq m c t hf) fun i => by
    have h0 : (i 0).val < 1 := (i 0).isLt
    have h1 : (i 1).val < 2048 := (i 1).isLt
    have hN : 31 < cfg0.N := by show _ < 32; omega
    have i0 : win0_12.index ⟨_, hN⟩ (0 : Fin 2) = 0 := congrFun (idx' ⟨_, hN⟩).2.2.2 0
    have i1 : win0_12.index ⟨_, hN⟩ (1 : Fin 2) = 0 := congrFun (idx' ⟨_, hN⟩).2.2.2 1
    refine ⟨⟨_, hN⟩, (flush0_12 _).mpr rfl, ?_⟩
    rw [mem_blk12]
    intro a
    match a with
    | ⟨0, _⟩ => show win0_12.index ⟨_, hN⟩ (0 : Fin 2) * 1 ≤ (i 0).val ∧ (i 0).val < win0_12.index ⟨_, hN⟩ (0 : Fin 2) * 1 + 1; rw [i0]; omega
    | ⟨1, _⟩ => show win0_12.index ⟨_, hN⟩ (1 : Fin 2) * 2048 ≤ (i 1).val ∧ (i 1).val < win0_12.index ⟨_, hN⟩ (1 : Fin 2) * 2048 + 2048; rw [i1]; omega

/-- The kernel leaves the four results, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = R8 m c
      ∧ r.2.mem ((c : Thread nD τ).loc main_v0_2) = R10 m c
      ∧ r.2.mem ((c : Thread nD τ).loc main_v0_3) = R11 m c
      ∧ r.2.mem ((c : Thread nD τ).loc main_v0_4) = R12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final8 m c), (h c).2.2.1.trans (final10 m c), (h c).2.2.2.1.trans (final11 m c), (h c).2.2.2.2.1.trans (final12 m c),
    (h c).2.2.2.2.2⟩) (Value.run_blocks m ρ)

end Cert.OutPostValue

end
-- ==== Proof.Adam.lean ====
/- One element's step of the optimizer: its first and second moments and the step they give. -/
module

public import proofs.«01_k».proof.Proof.Rows

@[expose] public section

namespace Cert.Adam

open Idealize.ShloMosaic

/-- The first moment after a gradient. -/
noncomputable def mean (g m : EReal) : EReal :=
  Ideal.ofBits FTy.f32 0x3F666666#32 * m + Ideal.ofBits FTy.f32 0x3DCCCCCD#32 * g

/-- The second moment after a gradient. -/
noncomputable def square (g v : EReal) : EReal :=
  Ideal.ofBits FTy.f32 0x3F7FBE77#32 * v + Ideal.ofBits FTy.f32 0x3A83126F#32 * (g * g)

/-- The step of a weight. -/
noncomputable def step (g w m v : EReal) : EReal :=
  Ideal.ofBits FTy.f32 0xBA83126F#32 * (Ideal.div (Ideal.div (mean g m) (Ideal.ofBits FTy.f32 0x3F26BD02#32))
      (Ideal.sqrt (Ideal.div (square g v) (Ideal.ofBits FTy.f32 0x3C231ACC#32)) + Ideal.ofBits FTy.f32 0x322BCC77#32)
    + Ideal.ofBits FTy.f32 0x3C23D70A#32 * w)

end Cert.Adam

end
-- ==== Proof.AdamOut.lean ====
/- The optimizer's step on a device's part of the output weight, block of rows by block of rows: the step and the two moments are the reference's. -/
module

public import proofs.«01_k».proof.Proof.Adam
public import proofs.«01_k».proof.Proof.Gen.AdamOutIdeal.Value
public import proofs.«01_k».proof.Proof.Gen.AdamOutRefIdeal.Read
public import Idealize.ShloMosaic.Lib.Pipeline.ValueKit
public import Idealize.ShloMosaic.Lib.Pointwise

@[expose] public section

set_option maxRecDepth 16384

namespace Cert.AdamOutValue

open Idealize.ShloMosaic Idealize.ShloMosaic.TcCoe Idealize.SL.Sem
open Cert.AdamOutIdeal Cert.AdamOutIdeal.Gen Cert.Adam

theorem hz : (![0, 0] : Fin 2 → ℕ) = fun _ => 0 := funext fun a => by fin_cases a <;> rfl

/-- A block's first moments, read. -/
theorem pay6 (g m : FVec Ideal S128x2048 .f32) (p : Fin 128) (q : Fin 2048) :
    (k0_pay1 (F := Ideal) g m (ix2 p q) : EReal) = mean (g (ix2 p q)) (m (ix2 p q)) := by
  unfold mean
  pointwise [k0_pay1]

/-- A block's second moments, read. -/
theorem pay7 (g v : FVec Ideal S128x2048 .f32) (p : Fin 128) (q : Fin 2048) :
    (k0_pay2 (F := Ideal) g v (ix2 p q) : EReal) = square (g (ix2 p q)) (v (ix2 p q)) := by
  unfold square
  pointwise [k0_pay2]

/-- A block's steps, read. -/
theorem pay5 (g w m v : FVec Ideal S128x2048 .f32) (p : Fin 128) (q : Fin 2048) :
    (k0_pay3 (F := Ideal) g w m v (ix2 p q) : EReal) = step (g (ix2 p q)) (w (ix2 p q)) (m (ix2 p q)) (v (ix2 p q)) := by
  unfold step mean square
  pointwise [k0_pay3, k0_pay1, k0_pay2]

section
variable (g w m v : Vec Ideal S128x2048 .f32)

/-- A point stores its block's steps. -/
theorem out5 : out0_5 g w m v = k0_pay3 g w m v := by
  unfold out0_5
  rw [View.canon_unit_zero hz]
  simp only [View.ld_unit_zero (S := S128x2048) hz]

/-- A point stores its block's first moments. -/
theorem out6 : out0_6 g w m v = k0_pay1 g m := by
  unfold out0_6
  rw [View.canon_unit_zero hz]
  simp only [View.ld_unit_zero (S := S128x2048) hz]

/-- A point stores its block's second moments. -/
theorem out7 : out0_7 g w m v = k0_pay2 g v := by
  unfold out0_7
  rw [View.canon_unit_zero hz]
  simp only [View.ld_unit_zero (S := S128x2048) hz]
end

/-- The block of each array at a point. -/
theorem idx : ∀ t : Fin cfg0.N, win0_0.index t = ![t.val, 0] ∧ win0_1.index t = ![t.val, 0] ∧ win0_2.index t = ![t.val, 0] ∧ win0_3.index t = ![t.val, 0]
    ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The steps of every element. -/
noncomputable def G5 (g w m v : FVec Ideal S512x2048 .f32) : FVec Ideal S512x2048 .f32 := fun i => step (g i) (w i) (m i) (v i)
/-- The first moments of every element. -/
noncomputable def G6 (g m : FVec Ideal S512x2048 .f32) : FVec Ideal S512x2048 .f32 := fun i => mean (g i) (m i)
/-- The second moments of every element. -/
noncomputable def G7 (g v : FVec Ideal S512x2048 .f32) : FVec Ideal S512x2048 .f32 := fun i => square (g i) (v i)

/-! The same, for the memory's arrays. -/

noncomputable def R5 : Buf (Elt Ideal) ((c : Thread nD τ).loc main_v0_1) :=
  G5 (m ((c : Thread nD τ).loc main_arg0)) (m ((c : Thread nD τ).loc main_arg1)) (m ((c : Thread nD τ).loc main_arg2)) (m ((c : Thread nD τ).loc main_arg3))
noncomputable def R6 : Buf (Elt Ideal) ((c : Thread nD τ).loc main_v0_2) :=
  G6 (m ((c : Thread nD τ).loc main_arg0)) (m ((c : Thread nD τ).loc main_arg2))
noncomputable def R7 : Buf (Elt Ideal) ((c : Thread nD τ).loc main_v0_3) :=
  G7 (m ((c : Thread nD τ).loc main_arg0)) (m ((c : Thread nD τ).loc main_arg3))

/-! The block of each argument at a point. -/

theorem blk0 (t : Fin cfg0.N) (p : Fin 128) (q : Fin 2048) (hp : t.val * 128 + p.val < 512) :
    iblk m c 0 t (ix2 p q) = m ((c : Thread nD τ).loc main_arg0) (ix2 (⟨t.val * 128 + p.val, hp⟩ : Fin 512) q) := by
  have i0 : win0_0.index t (0 : Fin 2) = t.val := congrFun (idx t).1 0
  have i1 : win0_0.index t (1 : Fin 2) = 0 := congrFun (idx t).1 1
  show m _ _ = m _ _
  congr 1
  funext a; apply Fin.ext
  match a with
  | ⟨0, _⟩ => show win0_0.index t 0 * 128 + 1 * p.val = t.val * 128 + p.val; rw [i0]; omega
  | ⟨1, _⟩ => show win0_0.index t 1 * 2048 + 1 * q.val = q.val; rw [i1]; omega

theorem blk1 (t : Fin cfg0.N) (p : Fin 128) (q : Fin 2048) (hp : t.val * 128 + p.val < 512) :
    iblk m c 1 t (ix2 p q) = m ((c : Thread nD τ).loc main_arg1) (ix2 (⟨t.val * 128 + p.val, hp⟩ : Fin 512) q) := by
  have i0 : win0_1.index t (0 : Fin 2) = t.val := congrFun (idx t).2.1 0
  have i1 : win0_1.index t (1 : Fin 2) = 0 := congrFun (idx t).2.1 1
  show m _ _ = m _ _
  congr 1
  funext a; apply Fin.ext
  match a with
  | ⟨0, _⟩ => show win0_1.index t 0 * 128 + 1 * p.val = t.val * 128 + p.val; rw [i0]; omega
  | ⟨1, _⟩ => show win0_1.index t 1 * 2048 + 1 * q.val = q.val; rw [i1]; omega

theorem blk2 (t : Fin cfg0.N) (p : Fin 128) (q : Fin 2048) (hp : t.val * 128 + p.val < 512) :
    iblk m c 2 t (ix2 p q) = m ((c : Thread nD τ).loc main_arg2) (ix2 (⟨t.val * 128 + p.val, hp⟩ : Fin 512) q) := by
  have i0 : win0_2.index t (0 : Fin 2) = t.val := congrFun (idx t).2.2.1 0
  have i1 : win0_2.index t (1 : Fin 2) = 0 := congrFun (idx t).2.2.1 1
  show m _ _ = m _ _
  congr 1
  funext a; apply Fin.ext
  match a with
  | ⟨0, _⟩ => show win0_2.index t 0 * 128 + 1 * p.val = t.val * 128 + p.val; rw [i0]; omega
  | ⟨1, _⟩ => show win0_2.index t 1 * 2048 + 1 * q.val = q.val; rw [i1]; omega

theorem blk3 (t : Fin cfg0.N) (p : Fin 128) (q : Fin 2048) (hp : t.val * 128 + p.val < 512) :
    iblk m c 3 t (ix2 p q) = m ((c : Thread nD τ).loc main_arg3) (ix2 (⟨t.val * 128 + p.val, hp⟩ : Fin 512) q) := by
  have i0 : win0_3.index t (0 : Fin 2) = t.val := congrFun (idx t).2.2.2.1 0
  have i1 : win0_3.index t (1 : Fin 2) = 0 := congrFun (idx t).2.2.2.1 1
  show m _ _ = m _ _
  congr 1
  funext a; apply Fin.ext
  match a with
  | ⟨0, _⟩ => show win0_3.index t 0 * 128 + 1 * p.val = t.val * 128 + p.val; rw [i0]; omega
  | ⟨1, _⟩ => show win0_3.index t 1 * 2048 + 1 * q.val = q.val; rw [i1]; omega

/-- What a point writes back is its block of the result. -/
theorem flushed_eq5 (t : Fin cfg0.N) (hf : (cfg0.win 5).flush t = true) :
    (Gen.dats m 0 c).flushed 5 t = ((cfg0.win 5).blk t).view.read (Elt Ideal) (R5 m c) := by
  rw [Value.flushed5, out5]
  have hN : t.val < 4 := t.isLt
  have i0 : win0_5.index t (0 : Fin 2) = t.val := congrFun (idx t).2.2.2.2.1 0
  have i1 : win0_5.index t (1 : Fin 2) = 0 := congrFun (idx t).2.2.2.2.1 1
  funext y
  obtain ⟨p, q, rfl⟩ : ∃ (p : Fin 128) (q : Fin 2048), y = ix2 p q := ⟨_, _, eq_ix2 y⟩
  have hp : t.val * 128 + p.val < 512 := by have := p.isLt; omega
  have e : ((cfg0.win 5).blk t).view.emb (ix2 p q) = ix2 (⟨t.val * 128 + p.val, hp⟩ : Fin 512) q := by
    funext a; apply Fin.ext
    match a with
    | ⟨0, _⟩ => show win0_5.index t 0 * 128 + 1 * p.val = t.val * 128 + p.val; rw [i0]; omega
    | ⟨1, _⟩ => show win0_5.index t 1 * 2048 + 1 * q.val = q.val; rw [i1]; omega
  show k0_pay3 (iblk m c 0 t) (iblk m c 1 t) (iblk m c 2 t) (iblk m c 3 t) (ix2 p q) = R5 m c (((cfg0.win 5).blk t).view.emb (ix2 p q))
  rw [pay5, e, blk0 m c t p q hp, blk1 m c t p q hp, blk2 m c t p q hp, blk3 m c t p q hp]
  rfl

/-- An index lies in a point's block when each coordinate does. -/
theorem mem_blk5 (t : Fin cfg0.N) (i : S512x2048.Idx) :
    i ∈ ((cfg0.win 5).blk t).view.set ↔ ∀ a : Fin 2, win0_5.index t a * S128x2048.size a ≤ (i a).val ∧ (i a).val < win0_5.index t a * S128x2048.size a + S128x2048.size a := by
  show i ∈ ((View.whole main_v0_1).slice (win0_5.rect t)).set ↔ _
  rw [View.set_slice_whole, Rect.mem_set_unit]
  exact Iff.rfl

/-- The result array after the run. -/
theorem final5 : (Gen.dats m 0 c).arrAt 5 cfg0.N = R5 m c :=
  (Gen.dats m 0 c).arrAt_eq_of_cover 5 _ (fun t hf => flushed_eq5 m c t hf) fun i => by
    have h0 : (i 0).val < 512 := (i 0).isLt
    have h1 : (i 1).val < 2048 := (i 1).isLt
    have hN : (i 0).val / 128 < cfg0.N := by show _ < 4; omega
    have i0 : win0_5.index ⟨_, hN⟩ (0 : Fin 2) = (i 0).val / 128 := congrFun (idx ⟨_, hN⟩).2.2.2.2.1 0
    have i1 : win0_5.index ⟨_, hN⟩ (1 : Fin 2) = 0 := congrFun (idx ⟨_, hN⟩).2.2.2.2.1 1
    refine ⟨⟨_, hN⟩, flush0_5 _, ?_⟩
    rw [mem_blk5]
    intro a
    match a with
    | ⟨0, _⟩ => show win0_5.index ⟨_, hN⟩ (0 : Fin 2) * 128 ≤ (i 0).val ∧ (i 0).val < win0_5.index ⟨_, hN⟩ (0 : Fin 2) * 128 + 128; rw [i0]; omega
    | ⟨1, _⟩ => show win0_5.index ⟨_, hN⟩ (1 : Fin 2) * 2048 ≤ (i 1).val ∧ (i 1).val < win0_5.index ⟨_, hN⟩ (1 : Fin 2) * 2048 + 2048; rw [i1]; omega

/-- What a point writes back is its block of the result. -/
theorem flushed_eq6 (t : Fin cfg0.N) (hf : (cfg0.win 6).flush t = true) :
    (Gen.dats m 0 c).flushed 6 t = ((cfg0.win 6).blk t).view.read (Elt Ideal) (R6 m c) := by
  rw [Value.flushed6, out6]
  have hN : t.val < 4 := t.isLt
  have i0 : win0_6.index t (0 : Fin 2) = t.val := congrFun (idx t).2.2.2.2.2.1 0
  have i1 : win0_6.index t (1 : Fin 2) = 0 := congrFun (idx t).2.2.2.2.2.1 1
  funext y
  obtain ⟨p, q, rfl⟩ : ∃ (p : Fin 128) (q : Fin 2048), y = ix2 p q := ⟨_, _, eq_ix2 y⟩
  have hp : t.val * 128 + p.val < 512 := by have := p.isLt; omega
  have e : ((cfg0.win 6).blk t).view.emb (ix2 p q) = ix2 (⟨t.val * 128 + p.val, hp⟩ : Fin 512) q := by
    funext a; apply Fin.ext
    match a with
    | ⟨0, _⟩ => show win0_6.index t 0 * 128 + 1 * p.val = t.val * 128 + p.val; rw [i0]; omega
    | ⟨1, _⟩ => show win0_6.index t 1 * 2048 + 1 * q.val = q.val; rw [i1]; omega
  show k0_pay1 (iblk m c 0 t) (iblk m c 2 t) (ix2 p q) = R6 m c (((cfg0.win 6).blk t).view.emb (ix2 p q))
  rw [pay6, e, blk0 m c t p q hp, blk2 m c t p q hp]
  rfl

/-- An index lies in a point's block when each coordinate does. -/
theorem mem_blk6 (t : Fin cfg0.N) (i : S512x2048.Idx) :
    i ∈ ((cfg0.win 6).blk t).view.set ↔ ∀ a : Fin 2, win0_6.index t a * S128x2048.size a ≤ (i a).val ∧ (i a).val < win0_6.index t a * S128x2048.size a + S128x2048.size a := by
  show i ∈ ((View.whole main_v0_2).slice (win0_6.rect t)).set ↔ _
  rw [View.set_slice_whole, Rect.mem_set_unit]
  exact Iff.rfl

/-- The result array after the run. -/
theorem final6 : (Gen.dats m 0 c).arrAt 6 cfg0.N = R6 m c :=
  (Gen.dats m 0 c).arrAt_eq_of_cover 6 _ (fun t hf => flushed_eq6 m c t hf) fun i => by
    have h0 : (i 0).val < 512 := (i 0).isLt
    have h1 : (i 1).val < 2048 := (i 1).isLt
    have hN : (i 0).val / 128 < cfg0.N := by show _ < 4; omega
    have i0 : win0_6.index ⟨_, hN⟩ (0 : Fin 2) = (i 0).val / 128 := congrFun (idx ⟨_, hN⟩).2.2.2.2.2.1 0
    have i1 : win0_6.index ⟨_, hN⟩ (1 : Fin 2) = 0 := congrFun (idx ⟨_, hN⟩).2.2.2.2.2.1 1
    refine ⟨⟨_, hN⟩, flush0_6 _, ?_⟩
    rw [mem_blk6]
    intro a
    match a with
    | ⟨0, _⟩ => show win0_6.index ⟨_, hN⟩ (0 : Fin 2) * 128 ≤ (i 0).val ∧ (i 0).val < win0_6.index ⟨_, hN⟩ (0 : Fin 2) * 128 + 128; rw [i0]; omega
    | ⟨1, _⟩ => show win0_6.index ⟨_, hN⟩ (1 : Fin 2) * 2048 ≤ (i 1).val ∧ (i 1).val < win0_6.index ⟨_, hN⟩ (1 : Fin 2) * 2048 + 2048; rw [i1]; omega

/-- What a point writes back is its block of the result. -/
theorem flushed_eq7 (t : Fin cfg0.N) (hf : (cfg0.win 7).flush t = true) :
    (Gen.dats m 0 c).flushed 7 t = ((cfg0.win 7).blk t).view.read (Elt Ideal) (R7 m c) := by
  rw [Value.flushed7, out7]
  have hN : t.val < 4 := t.isLt
  have i0 : win0_7.index t (0 : Fin 2) = t.val := congrFun (idx t).2.2.2.2.2.2 0
  have i1 : win0_7.index t (1 : Fin 2) = 0 := congrFun (idx t).2.2.2.2.2.2 1
  funext y
  obtain ⟨p, q, rfl⟩ : ∃ (p : Fin 128) (q : Fin 2048), y = ix2 p q := ⟨_, _, eq_ix2 y⟩
  have hp : t.val * 128 + p.val < 512 := by have := p.isLt; omega
  have e : ((cfg0.win 7).blk t).view.emb (ix2 p q) = ix2 (⟨t.val * 128 + p.val, hp⟩ : Fin 512) q := by
    funext a; apply Fin.ext
    match a with
    | ⟨0, _⟩ => show win0_7.index t 0 * 128 + 1 * p.val = t.val * 128 + p.val; rw [i0]; omega
    | ⟨1, _⟩ => show win0_7.index t 1 * 2048 + 1 * q.val = q.val; rw [i1]; omega
  show k0_pay2 (iblk m c 0 t) (iblk m c 3 t) (ix2 p q) = R7 m c (((cfg0.win 7).blk t).view.emb (ix2 p q))
  rw [pay7, e, blk0 m c t p q hp, blk3 m c t p q hp]
  rfl

/-- An index lies in a point's block when each coordinate does. -/
theorem mem_blk7 (t : Fin cfg0.N) (i : S512x2048.Idx) :
    i ∈ ((cfg0.win 7).blk t).view.set ↔ ∀ a : Fin 2, win0_7.index t a * S128x2048.size a ≤ (i a).val ∧ (i a).val < win0_7.index t a * S128x2048.size a + S128x2048.size a := by
  show i ∈ ((View.whole main_v0_3).slice (win0_7.rect t)).set ↔ _
  rw [View.set_slice_whole, Rect.mem_set_unit]
  exact Iff.rfl

/-- The result array after the run. -/
theorem final7 : (Gen.dats m 0 c).arrAt 7 cfg0.N = R7 m c :=
  (Gen.dats m 0 c).arrAt_eq_of_cover 7 _ (fun t hf => flushed_eq7 m c t hf) fun i => by
    have h0 : (i 0).val < 512 := (i 0).isLt
    have h1 : (i 1).val < 2048 := (i 1).isLt
    have hN : (i 0).val / 128 < cfg0.N := by show _ < 4; omega
    have i0 : win0_7.index ⟨_, hN⟩ (0 : Fin 2) = (i 0).val / 128 := congrFun (idx ⟨_, hN⟩).2.2.2.2.2.2 0
    have i1 : win0_7.index ⟨_, hN⟩ (1 : Fin 2) = 0 := congrFun (idx ⟨_, hN⟩).2.2.2.2.2.2 1
    refine ⟨⟨_, hN⟩, flush0_7 _, ?_⟩
    rw [mem_blk7]
    intro a
    match a with
    | ⟨0, _⟩ => show win0_7.index ⟨_, hN⟩ (0 : Fin 2) * 128 ≤ (i 0).val ∧ (i 0).val < win0_7.index ⟨_, hN⟩ (0 : Fin 2) * 128 + 128; rw [i0]; omega
    | ⟨1, _⟩ => show win0_7.index ⟨_, hN⟩ (1 : Fin 2) * 2048 ≤ (i 1).val ∧ (i 1).val < win0_7.index ⟨_, hN⟩ (1 : Fin 2) * 2048 + 2048; rw [i1]; omega

/-- The kernel leaves the steps and the two moments, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_1) = R5 m c
      ∧ r.2.mem ((c : Thread nD τ).loc main_v0_2) = R6 m c
      ∧ r.2.mem ((c : Thread nD τ).loc main_v0_3) = R7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).2.1.trans (final5 m c), (h c).2.2.1.trans (final6 m c), (h c).2.2.2.1.trans (final7 m c), (h c).2.2.2.2⟩)
    (Value.run_blocks m ρ)

/-- The reference's first moments. -/
theorem reference6 (g m : FVec Ideal S512x2048 .f32) : AdamOutRefIdeal.Read.val_main_v4 (F := Ideal) g m = G6 g m := by
  funext i
  unfold G6 mean
  simp only [AdamOutRefIdeal.Read.val_main_v4_apply, AdamOutRefIdeal.Read.val_main_v3_apply, AdamOutRefIdeal.Read.val_main_v2_apply, AdamOutRefIdeal.Read.val_main_v1_apply, AdamOutRefIdeal.Read.val_main_v0_apply]
  rfl

/-- The reference's second moments. -/
theorem reference7 (g v : FVec Ideal S512x2048 .f32) : AdamOutRefIdeal.Read.val_main_v10 (F := Ideal) g v = G7 g v := by
  funext i
  unfold G7 square
  simp only [AdamOutRefIdeal.Read.val_main_v10_apply, AdamOutRefIdeal.Read.val_main_v9_apply, AdamOutRefIdeal.Read.val_main_v8_apply, AdamOutRefIdeal.Read.val_main_v7_apply, AdamOutRefIdeal.Read.val_main_v6_apply,
    AdamOutRefIdeal.Read.val_main_v5_apply]
  rfl

/-- The reference's steps. -/
theorem reference5 (g w m v : FVec Ideal S512x2048 .f32) : AdamOutRefIdeal.Read.val_main_v23 (F := Ideal) g w m v = G5 g w m v := by
  have h6 := congrFun (reference6 g m)
  have h7 := congrFun (reference7 g v)
  funext i
  unfold G5 step
  rw [show mean (g i) (m i) = _ from (h6 i).symm, show square (g i) (v i) = _ from (h7 i).symm]
  simp only [AdamOutRefIdeal.Read.val_main_v23_apply, AdamOutRefIdeal.Read.val_main_v22_apply, AdamOutRefIdeal.Read.val_main_v21_apply, AdamOutRefIdeal.Read.val_main_v20_apply, AdamOutRefIdeal.Read.val_main_v19_apply, AdamOutRefIdeal.Read.val_main_v18_apply, AdamOutRefIdeal.Read.val_main_v17_apply, AdamOutRefIdeal.Read.val_main_v16_apply, AdamOutRefIdeal.Read.val_main_v15_apply, AdamOutRefIdeal.Read.val_main_v14_apply, AdamOutRefIdeal.Read.val_main_v13_apply, AdamOutRefIdeal.Read.val_main_v12_apply, AdamOutRefIdeal.Read.val_main_v11_apply]
  rfl

end Cert.AdamOutValue

end
-- ==== Proof.AdamIn.lean ====
/- The optimizer's step on a device's part of the input weight, block of rows by block of rows: the step and the two moments are the reference's. -/
module

public import proofs.«01_k».proof.Proof.Adam
public import proofs.«01_k».proof.Proof.Gen.AdamInIdeal.Value
public import proofs.«01_k».proof.Proof.Gen.AdamInRefIdeal.Read
public import Idealize.ShloMosaic.Lib.Pipeline.ValueKit
public import Idealize.ShloMosaic.Lib.Pointwise

@[expose] public section

set_option maxRecDepth 16384

namespace Cert.AdamInValue

open Idealize.ShloMosaic Idealize.ShloMosaic.TcCoe Idealize.SL.Sem
open Cert.AdamInIdeal Cert.AdamInIdeal.Gen Cert.Adam

theorem hz : (![0, 0] : Fin 2 → ℕ) = fun _ => 0 := funext fun a => by fin_cases a <;> rfl

/-- A block's first moments, read. -/
theorem pay6 (g m : FVec Ideal S128x1488 .f32) (p : Fin 128) (q : Fin 1488) :
    (k0_pay1 (F := Ideal) g m (ix2 p q) : EReal) = mean (g (ix2 p q)) (m (ix2 p q)) := by
  unfold mean
  pointwise [k0_pay1]

/-- A block's second moments, read. -/
theorem pay7 (g v : FVec Ideal S128x1488 .f32) (p : Fin 128) (q : Fin 1488) :
    (k0_pay2 (F := Ideal) g v (ix2 p q) : EReal) = square (g (ix2 p q)) (v (ix2 p q)) := by
  unfold square
  pointwise [k0_pay2]

/-- A block's steps, read. -/
theorem pay5 (g w m v : FVec Ideal S128x1488 .f32) (p : Fin 128) (q : Fin 1488) :
    (k0_pay3 (F := Ideal) g w m v (ix2 p q) : EReal) = step (g (ix2 p q)) (w (ix2 p q)) (m (ix2 p q)) (v (ix2 p q)) := by
  unfold step mean square
  pointwise [k0_pay3, k0_pay1, k0_pay2]

section
variable (g w m v : Vec Ideal S128x1488 .f32)

/-- A point stores its block's steps. -/
theorem out5 : out0_5 g w m v = k0_pay3 g w m v := by
  unfold out0_5
  rw [View.canon_unit_zero hz]
  simp only [View.ld_unit_zero (S := S128x1488) hz]

/-- A point stores its block's first moments. -/
theorem out6 : out0_6 g w m v = k0_pay1 g m := by
  unfold out0_6
  rw [View.canon_unit_zero hz]
  simp only [View.ld_unit_zero (S := S128x1488) hz]

/-- A point stores its block's second moments. -/
theorem out7 : out0_7 g w m v = k0_pay2 g v := by
  unfold out0_7
  rw [View.canon_unit_zero hz]
  simp only [View.ld_unit_zero (S := S128x1488) hz]
end

/-- The block of each array at a point. -/
theorem idx : ∀ t : Fin cfg0.N, win0_0.index t = ![t.val, 0] ∧ win0_1.index t = ![t.val, 0] ∧ win0_2.index t = ![t.val, 0] ∧ win0_3.index t = ![t.val, 0]
    ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The steps of every element. -/
noncomputable def G5 (g w m v : FVec Ideal S2048x1488 .f32) : FVec Ideal S2048x1488 .f32 := fun i => step (g i) (w i) (m i) (v i)
/-- The first moments of every element. -/
noncomputable def G6 (g m : FVec Ideal S2048x1488 .f32) : FVec Ideal S2048x1488 .f32 := fun i => mean (g i) (m i)
/-- The second moments of every element. -/
noncomputable def G7 (g v : FVec Ideal S2048x1488 .f32) : FVec Ideal S2048x1488 .f32 := fun i => square (g i) (v i)

/-! The same, for the memory's arrays. -/

noncomputable def R5 : Buf (Elt Ideal) ((c : Thread nD τ).loc main_v0_1) :=
  G5 (m ((c : Thread nD τ).loc main_arg0)) (m ((c : Thread nD τ).loc main_arg1)) (m ((c : Thread nD τ).loc main_arg2)) (m ((c : Thread nD τ).loc main_arg3))
noncomputable def R6 : Buf (Elt Ideal) ((c : Thread nD τ).loc main_v0_2) :=
  G6 (m ((c : Thread nD τ).loc main_arg0)) (m ((c : Thread nD τ).loc main_arg2))
noncomputable def R7 : Buf (Elt Ideal) ((c : Thread nD τ).loc main_v0_3) :=
  G7 (m ((c : Thread nD τ).loc main_arg0)) (m ((c : Thread nD τ).loc main_arg3))

/-! The block of each argument at a point. -/

theorem blk0 (t : Fin cfg0.N) (p : Fin 128) (q : Fin 1488) (hp : t.val * 128 + p.val < 2048) :
    iblk m c 0 t (ix2 p q) = m ((c : Thread nD τ).loc main_arg0) (ix2 (⟨t.val * 128 + p.val, hp⟩ : Fin 2048) q) := by
  have i0 : win0_0.index t (0 : Fin 2) = t.val := congrFun (idx t).1 0
  have i1 : win0_0.index t (1 : Fin 2) = 0 := congrFun (idx t).1 1
  show m _ _ = m _ _
  congr 1
  funext a; apply Fin.ext
  match a with
  | ⟨0, _⟩ => show win0_0.index t 0 * 128 + 1 * p.val = t.val * 128 + p.val; rw [i0]; omega
  | ⟨1, _⟩ => show win0_0.index t 1 * 1488 + 1 * q.val = q.val; rw [i1]; omega

theorem blk1 (t : Fin cfg0.N) (p : Fin 128) (q : Fin 1488) (hp : t.val * 128 + p.val < 2048) :
    iblk m c 1 t (ix2 p q) = m ((c : Thread nD τ).loc main_arg1) (ix2 (⟨t.val * 128 + p.val, hp⟩ : Fin 2048) q) := by
  have i0 : win0_1.index t (0 : Fin 2) = t.val := congrFun (idx t).2.1 0
  have i1 : win0_1.index t (1 : Fin 2) = 0 := congrFun (idx t).2.1 1
  show m _ _ = m _ _
  congr 1
  funext a; apply Fin.ext
  match a with
  | ⟨0, _⟩ => show win0_1.index t 0 * 128 + 1 * p.val = t.val * 128 + p.val; rw [i0]; omega
  | ⟨1, _⟩ => show win0_1.index t 1 * 1488 + 1 * q.val = q.val; rw [i1]; omega

theorem blk2 (t : Fin cfg0.N) (p : Fin 128) (q : Fin 1488) (hp : t.val * 128 + p.val < 2048) :
    iblk m c 2 t (ix2 p q) = m ((c : Thread nD τ).loc main_arg2) (ix2 (⟨t.val * 128 + p.val, hp⟩ : Fin 2048) q) := by
  have i0 : win0_2.index t (0 : Fin 2) = t.val := congrFun (idx t).2.2.1 0
  have i1 : win0_2.index t (1 : Fin 2) = 0 := congrFun (idx t).2.2.1 1
  show m _ _ = m _ _
  congr 1
  funext a; apply Fin.ext
  match a with
  | ⟨0, _⟩ => show win0_2.index t 0 * 128 + 1 * p.val = t.val * 128 + p.val; rw [i0]; omega
  | ⟨1, _⟩ => show win0_2.index t 1 * 1488 + 1 * q.val = q.val; rw [i1]; omega

theorem blk3 (t : Fin cfg0.N) (p : Fin 128) (q : Fin 1488) (hp : t.val * 128 + p.val < 2048) :
    iblk m c 3 t (ix2 p q) = m ((c : Thread nD τ).loc main_arg3) (ix2 (⟨t.val * 128 + p.val, hp⟩ : Fin 2048) q) := by
  have i0 : win0_3.index t (0 : Fin 2) = t.val := congrFun (idx t).2.2.2.1 0
  have i1 : win0_3.index t (1 : Fin 2) = 0 := congrFun (idx t).2.2.2.1 1
  show m _ _ = m _ _
  congr 1
  funext a; apply Fin.ext
  match a with
  | ⟨0, _⟩ => show win0_3.index t 0 * 128 + 1 * p.val = t.val * 128 + p.val; rw [i0]; omega
  | ⟨1, _⟩ => show win0_3.index t 1 * 1488 + 1 * q.val = q.val; rw [i1]; omega

/-- What a point writes back is its block of the result. -/
theorem flushed_eq5 (t : Fin cfg0.N) (hf : (cfg0.win 5).flush t = true) :
    (Gen.dats m 0 c).flushed 5 t = ((cfg0.win 5).blk t).view.read (Elt Ideal) (R5 m c) := by
  rw [Value.flushed5, out5]
  have hN : t.val < 16 := t.isLt
  have i0 : win0_5.index t (0 : Fin 2) = t.val := congrFun (idx t).2.2.2.2.1 0
  have i1 : win0_5.index t (1 : Fin 2) = 0 := congrFun (idx t).2.2.2.2.1 1
  funext y
  obtain ⟨p, q, rfl⟩ : ∃ (p : Fin 128) (q : Fin 1488), y = ix2 p q := ⟨_, _, eq_ix2 y⟩
  have hp : t.val * 128 + p.val < 2048 := by have := p.isLt; omega
  have e : ((cfg0.win 5).blk t).view.emb (ix2 p q) = ix2 (⟨t.val * 128 + p.val, hp⟩ : Fin 2048) q := by
    funext a; apply Fin.ext
    match a with
    | ⟨0, _⟩ => show win0_5.index t 0 * 128 + 1 * p.val = t.val * 128 + p.val; rw [i0]; omega
    | ⟨1, _⟩ => show win0_5.index t 1 * 1488 + 1 * q.val = q.val; rw [i1]; omega
  show k0_pay3 (iblk m c 0 t) (iblk m c 1 t) (iblk m c 2 t) (iblk m c 3 t) (ix2 p q) = R5 m c (((cfg0.win 5).blk t).view.emb (ix2 p q))
  rw [pay5, e, blk0 m c t p q hp, blk1 m c t p q hp, blk2 m c t p q hp, blk3 m c t p q hp]
  rfl

/-- An index lies in a point's block when each coordinate does. -/
theorem mem_blk5 (t : Fin cfg0.N) (i : S2048x1488.Idx) :
    i ∈ ((cfg0.win 5).blk t).view.set ↔ ∀ a : Fin 2, win0_5.index t a * S128x1488.size a ≤ (i a).val ∧ (i a).val < win0_5.index t a * S128x1488.size a + S128x1488.size a := by
  show i ∈ ((View.whole main_v0_1).slice (win0_5.rect t)).set ↔ _
  rw [View.set_slice_whole, Rect.mem_set_unit]
  exact Iff.rfl

/-- The result array after the run. -/
theorem final5 : (Gen.dats m 0 c).arrAt 5 cfg0.N = R5 m c :=
  (Gen.dats m 0 c).arrAt_eq_of_cover 5 _ (fun t hf => flushed_eq5 m c t hf) fun i => by
    have h0 : (i 0).val < 2048 := (i 0).isLt
    have h1 : (i 1).val < 1488 := (i 1).isLt
    have hN : (i 0).val / 128 < cfg0.N := by show _ < 16; omega
    have i0 : win0_5.index ⟨_, hN⟩ (0 : Fin 2) = (i 0).val / 128 := congrFun (idx ⟨_, hN⟩).2.2.2.2.1 0
    have i1 : win0_5.index ⟨_, hN⟩ (1 : Fin 2) = 0 := congrFun (idx ⟨_, hN⟩).2.2.2.2.1 1
    refine ⟨⟨_, hN⟩, flush0_5 _, ?_⟩
    rw [mem_blk5]
    intro a
    match a with
    | ⟨0, _⟩ => show win0_5.index ⟨_, hN⟩ (0 : Fin 2) * 128 ≤ (i 0).val ∧ (i 0).val < win0_5.index ⟨_, hN⟩ (0 : Fin 2) * 128 + 128; rw [i0]; omega
    | ⟨1, _⟩ => show win0_5.index ⟨_, hN⟩ (1 : Fin 2) * 1488 ≤ (i 1).val ∧ (i 1).val < win0_5.index ⟨_, hN⟩ (1 : Fin 2) * 1488 + 1488; rw [i1]; omega

/-- What a point writes back is its block of the result. -/
theorem flushed_eq6 (t : Fin cfg0.N) (hf : (cfg0.win 6).flush t = true) :
    (Gen.dats m 0 c).flushed 6 t = ((cfg0.win 6).blk t).view.read (Elt Ideal) (R6 m c) := by
  rw [Value.flushed6, out6]
  have hN : t.val < 16 := t.isLt
  have i0 : win0_6.index t (0 : Fin 2) = t.val := congrFun (idx t).2.2.2.2.2.1 0
  have i1 : win0_6.index t (1 : Fin 2) = 0 := congrFun (idx t).2.2.2.2.2.1 1
  funext y
  obtain ⟨p, q, rfl⟩ : ∃ (p : Fin 128) (q : Fin 1488), y = ix2 p q := ⟨_, _, eq_ix2 y⟩
  have hp : t.val * 128 + p.val < 2048 := by have := p.isLt; omega
  have e : ((cfg0.win 6).blk t).view.emb (ix2 p q) = ix2 (⟨t.val * 128 + p.val, hp⟩ : Fin 2048) q := by
    funext a; apply Fin.ext
    match a with
    | ⟨0, _⟩ => show win0_6.index t 0 * 128 + 1 * p.val = t.val * 128 + p.val; rw [i0]; omega
    | ⟨1, _⟩ => show win0_6.index t 1 * 1488 + 1 * q.val = q.val; rw [i1]; omega
  show k0_pay1 (iblk m c 0 t) (iblk m c 2 t) (ix2 p q) = R6 m c (((cfg0.win 6).blk t).view.emb (ix2 p q))
  rw [pay6, e, blk0 m c t p q hp, blk2 m c t p q hp]
  rfl

/-- An index lies in a point's block when each coordinate does. -/
theorem mem_blk6 (t : Fin cfg0.N) (i : S2048x1488.Idx) :
    i ∈ ((cfg0.win 6).blk t).view.set ↔ ∀ a : Fin 2, win0_6.index t a * S128x1488.size a ≤ (i a).val ∧ (i a).val < win0_6.index t a * S128x1488.size a + S128x1488.size a := by
  show i ∈ ((View.whole main_v0_2).slice (win0_6.rect t)).set ↔ _
  rw [View.set_slice_whole, Rect.mem_set_unit]
  exact Iff.rfl

/-- The result array after the run. -/
theorem final6 : (Gen.dats m 0 c).arrAt 6 cfg0.N = R6 m c :=
  (Gen.dats m 0 c).arrAt_eq_of_cover 6 _ (fun t hf => flushed_eq6 m c t hf) fun i => by
    have h0 : (i 0).val < 2048 := (i 0).isLt
    have h1 : (i 1).val < 1488 := (i 1).isLt
    have hN : (i 0).val / 128 < cfg0.N := by show _ < 16; omega
    have i0 : win0_6.index ⟨_, hN⟩ (0 : Fin 2) = (i 0).val / 128 := congrFun (idx ⟨_, hN⟩).2.2.2.2.2.1 0
    have i1 : win0_6.index ⟨_, hN⟩ (1 : Fin 2) = 0 := congrFun (idx ⟨_, hN⟩).2.2.2.2.2.1 1
    refine ⟨⟨_, hN⟩, flush0_6 _, ?_⟩
    rw [mem_blk6]
    intro a
    match a with
    | ⟨0, _⟩ => show win0_6.index ⟨_, hN⟩ (0 : Fin 2) * 128 ≤ (i 0).val ∧ (i 0).val < win0_6.index ⟨_, hN⟩ (0 : Fin 2) * 128 + 128; rw [i0]; omega
    | ⟨1, _⟩ => show win0_6.index ⟨_, hN⟩ (1 : Fin 2) * 1488 ≤ (i 1).val ∧ (i 1).val < win0_6.index ⟨_, hN⟩ (1 : Fin 2) * 1488 + 1488; rw [i1]; omega

/-- What a point writes back is its block of the result. -/
theorem flushed_eq7 (t : Fin cfg0.N) (hf : (cfg0.win 7).flush t = true) :
    (Gen.dats m 0 c).flushed 7 t = ((cfg0.win 7).blk t).view.read (Elt Ideal) (R7 m c) := by
  rw [Value.flushed7, out7]
  have hN : t.val < 16 := t.isLt
  have i0 : win0_7.index t (0 : Fin 2) = t.val := congrFun (idx t).2.2.2.2.2.2 0
  have i1 : win0_7.index t (1 : Fin 2) = 0 := congrFun (idx t).2.2.2.2.2.2 1
  funext y
  obtain ⟨p, q, rfl⟩ : ∃ (p : Fin 128) (q : Fin 1488), y = ix2 p q := ⟨_, _, eq_ix2 y⟩
  have hp : t.val * 128 + p.val < 2048 := by have := p.isLt; omega
  have e : ((cfg0.win 7).blk t).view.emb (ix2 p q) = ix2 (⟨t.val * 128 + p.val, hp⟩ : Fin 2048) q := by
    funext a; apply Fin.ext
    match a with
    | ⟨0, _⟩ => show win0_7.index t 0 * 128 + 1 * p.val = t.val * 128 + p.val; rw [i0]; omega
    | ⟨1, _⟩ => show win0_7.index t 1 * 1488 + 1 * q.val = q.val; rw [i1]; omega
  show k0_pay2 (iblk m c 0 t) (iblk m c 3 t) (ix2 p q) = R7 m c (((cfg0.win 7).blk t).view.emb (ix2 p q))
  rw [pay7, e, blk0 m c t p q hp, blk3 m c t p q hp]
  rfl

/-- An index lies in a point's block when each coordinate does. -/
theorem mem_blk7 (t : Fin cfg0.N) (i : S2048x1488.Idx) :
    i ∈ ((cfg0.win 7).blk t).view.set ↔ ∀ a : Fin 2, win0_7.index t a * S128x1488.size a ≤ (i a).val ∧ (i a).val < win0_7.index t a * S128x1488.size a + S128x1488.size a := by
  show i ∈ ((View.whole main_v0_3).slice (win0_7.rect t)).set ↔ _
  rw [View.set_slice_whole, Rect.mem_set_unit]
  exact Iff.rfl

/-- The result array after the run. -/
theorem final7 : (Gen.dats m 0 c).arrAt 7 cfg0.N = R7 m c :=
  (Gen.dats m 0 c).arrAt_eq_of_cover 7 _ (fun t hf => flushed_eq7 m c t hf) fun i => by
    have h0 : (i 0).val < 2048 := (i 0).isLt
    have h1 : (i 1).val < 1488 := (i 1).isLt
    have hN : (i 0).val / 128 < cfg0.N := by show _ < 16; omega
    have i0 : win0_7.index ⟨_, hN⟩ (0 : Fin 2) = (i 0).val / 128 := congrFun (idx ⟨_, hN⟩).2.2.2.2.2.2 0
    have i1 : win0_7.index ⟨_, hN⟩ (1 : Fin 2) = 0 := congrFun (idx ⟨_, hN⟩).2.2.2.2.2.2 1
    refine ⟨⟨_, hN⟩, flush0_7 _, ?_⟩
    rw [mem_blk7]
    intro a
    match a with
    | ⟨0, _⟩ => show win0_7.index ⟨_, hN⟩ (0 : Fin 2) * 128 ≤ (i 0).val ∧ (i 0).val < win0_7.index ⟨_, hN⟩ (0 : Fin 2) * 128 + 128; rw [i0]; omega
    | ⟨1, _⟩ => show win0_7.index ⟨_, hN⟩ (1 : Fin 2) * 1488 ≤ (i 1).val ∧ (i 1).val < win0_7.index ⟨_, hN⟩ (1 : Fin 2) * 1488 + 1488; rw [i1]; omega

/-- The kernel leaves the steps and the two moments, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_1) = R5 m c
      ∧ r.2.mem ((c : Thread nD τ).loc main_v0_2) = R6 m c
      ∧ r.2.mem ((c : Thread nD τ).loc main_v0_3) = R7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).2.1.trans (final5 m c), (h c).2.2.1.trans (final6 m c), (h c).2.2.2.1.trans (final7 m c), (h c).2.2.2.2⟩)
    (Value.run_blocks m ρ)

/-- The reference's first moments. -/
theorem reference6 (g m : FVec Ideal S2048x1488 .f32) : AdamInRefIdeal.Read.val_main_v4 (F := Ideal) g m = G6 g m := by
  funext i
  unfold G6 mean
  simp only [AdamInRefIdeal.Read.val_main_v4_apply, AdamInRefIdeal.Read.val_main_v3_apply, AdamInRefIdeal.Read.val_main_v2_apply, AdamInRefIdeal.Read.val_main_v1_apply, AdamInRefIdeal.Read.val_main_v0_apply]
  rfl

/-- The reference's second moments. -/
theorem reference7 (g v : FVec Ideal S2048x1488 .f32) : AdamInRefIdeal.Read.val_main_v10 (F := Ideal) g v = G7 g v := by
  funext i
  unfold G7 square
  simp only [AdamInRefIdeal.Read.val_main_v10_apply, AdamInRefIdeal.Read.val_main_v9_apply, AdamInRefIdeal.Read.val_main_v8_apply, AdamInRefIdeal.Read.val_main_v7_apply, AdamInRefIdeal.Read.val_main_v6_apply,
    AdamInRefIdeal.Read.val_main_v5_apply]
  rfl

/-- The reference's steps. -/
theorem reference5 (g w m v : FVec Ideal S2048x1488 .f32) : AdamInRefIdeal.Read.val_main_v23 (F := Ideal) g w m v = G5 g w m v := by
  have h6 := congrFun (reference6 g m)
  have h7 := congrFun (reference7 g v)
  funext i
  unfold G5 step
  rw [show mean (g i) (m i) = _ from (h6 i).symm, show square (g i) (v i) = _ from (h7 i).symm]
  simp only [AdamInRefIdeal.Read.val_main_v23_apply, AdamInRefIdeal.Read.val_main_v22_apply, AdamInRefIdeal.Read.val_main_v21_apply, AdamInRefIdeal.Read.val_main_v20_apply, AdamInRefIdeal.Read.val_main_v19_apply, AdamInRefIdeal.Read.val_main_v18_apply, AdamInRefIdeal.Read.val_main_v17_apply, AdamInRefIdeal.Read.val_main_v16_apply, AdamInRefIdeal.Read.val_main_v15_apply, AdamInRefIdeal.Read.val_main_v14_apply, AdamInRefIdeal.Read.val_main_v13_apply, AdamInRefIdeal.Read.val_main_v12_apply, AdamInRefIdeal.Read.val_main_v11_apply]
  rfl

end Cert.AdamInValue

end
-- ==== Proof.AdamQ.lean ====
/- The optimizer's step on a device's part of the queries' weight, block of rows by block of rows: the step and the two moments are the reference's. -/
module

public import proofs.«01_k».proof.Proof.Adam
public import proofs.«01_k».proof.Proof.Gen.AdamQIdeal.Value
public import proofs.«01_k».proof.Proof.Gen.AdamQRefIdeal.Read
public import Idealize.ShloMosaic.Lib.Pipeline.ValueKit
public import Idealize.ShloMosaic.Lib.Pointwise

@[expose] public section

set_option maxRecDepth 16384

namespace Cert.AdamQValue

open Idealize.ShloMosaic Idealize.ShloMosaic.TcCoe Idealize.SL.Sem
open Cert.AdamQIdeal Cert.AdamQIdeal.Gen Cert.Adam

theorem hz : (![0, 0] : Fin 2 → ℕ) = fun _ => 0 := funext fun a => by fin_cases a <;> rfl

/-- A block's first moments, read. -/
theorem pay6 (g m : FVec Ideal S128x384 .f32) (p : Fin 128) (q : Fin 384) :
    (k0_pay1 (F := Ideal) g m (ix2 p q) : EReal) = mean (g (ix2 p q)) (m (ix2 p q)) := by
  unfold mean
  pointwise [k0_pay1]

/-- A block's second moments, read. -/
theorem pay7 (g v : FVec Ideal S128x384 .f32) (p : Fin 128) (q : Fin 384) :
    (k0_pay2 (F := Ideal) g v (ix2 p q) : EReal) = square (g (ix2 p q)) (v (ix2 p q)) := by
  unfold square
  pointwise [k0_pay2]

/-- A block's steps, read. -/
theorem pay5 (g w m v : FVec Ideal S128x384 .f32) (p : Fin 128) (q : Fin 384) :
    (k0_pay3 (F := Ideal) g w m v (ix2 p q) : EReal) = step (g (ix2 p q)) (w (ix2 p q)) (m (ix2 p q)) (v (ix2 p q)) := by
  unfold step mean square
  pointwise [k0_pay3, k0_pay1, k0_pay2]

section
variable (g w m v : Vec Ideal S128x384 .f32)

/-- A point stores its block's steps. -/
theorem out5 : out0_5 g w m v = k0_pay3 g w m v := by
  unfold out0_5
  rw [View.canon_unit_zero hz]
  simp only [View.ld_unit_zero (S := S128x384) hz]

/-- A point stores its block's first moments. -/
theorem out6 : out0_6 g w m v = k0_pay1 g m := by
  unfold out0_6
  rw [View.canon_unit_zero hz]
  simp only [View.ld_unit_zero (S := S128x384) hz]

/-- A point stores its block's second moments. -/
theorem out7 : out0_7 g w m v = k0_pay2 g v := by
  unfold out0_7
  rw [View.canon_unit_zero hz]
  simp only [View.ld_unit_zero (S := S128x384) hz]
end

/-- The block of each array at a point. -/
theorem idx : ∀ t : Fin cfg0.N, win0_0.index t = ![t.val, 0] ∧ win0_1.index t = ![t.val, 0] ∧ win0_2.index t = ![t.val, 0] ∧ win0_3.index t = ![t.val, 0]
    ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The steps of every element. -/
noncomputable def G5 (g w m v : FVec Ideal S512x384 .f32) : FVec Ideal S512x384 .f32 := fun i => step (g i) (w i) (m i) (v i)
/-- The first moments of every element. -/
noncomputable def G6 (g m : FVec Ideal S512x384 .f32) : FVec Ideal S512x384 .f32 := fun i => mean (g i) (m i)
/-- The second moments of every element. -/
noncomputable def G7 (g v : FVec Ideal S512x384 .f32) : FVec Ideal S512x384 .f32 := fun i => square (g i) (v i)

/-! The same, for the memory's arrays. -/

noncomputable def R5 : Buf (Elt Ideal) ((c : Thread nD τ).loc main_v0_1) :=
  G5 (m ((c : Thread nD τ).loc main_arg0)) (m ((c : Thread nD τ).loc main_arg1)) (m ((c : Thread nD τ).loc main_arg2)) (m ((c : Thread nD τ).loc main_arg3))
noncomputable def R6 : Buf (Elt Ideal) ((c : Thread nD τ).loc main_v0_2) :=
  G6 (m ((c : Thread nD τ).loc main_arg0)) (m ((c : Thread nD τ).loc main_arg2))
noncomputable def R7 : Buf (Elt Ideal) ((c : Thread nD τ).loc main_v0_3) :=
  G7 (m ((c : Thread nD τ).loc main_arg0)) (m ((c : Thread nD τ).loc main_arg3))

/-! The block of each argument at a point. -/

theorem blk0 (t : Fin cfg0.N) (p : Fin 128) (q : Fin 384) (hp : t.val * 128 + p.val < 512) :
    iblk m c 0 t (ix2 p q) = m ((c : Thread nD τ).loc main_arg0) (ix2 (⟨t.val * 128 + p.val, hp⟩ : Fin 512) q) := by
  have i0 : win0_0.index t (0 : Fin 2) = t.val := congrFun (idx t).1 0
  have i1 : win0_0.index t (1 : Fin 2) = 0 := congrFun (idx t).1 1
  show m _ _ = m _ _
  congr 1
  funext a; apply Fin.ext
  match a with
  | ⟨0, _⟩ => show win0_0.index t 0 * 128 + 1 * p.val = t.val * 128 + p.val; rw [i0]; omega
  | ⟨1, _⟩ => show win0_0.index t 1 * 384 + 1 * q.val = q.val; rw [i1]; omega

theorem blk1 (t : Fin cfg0.N) (p : Fin 128) (q : Fin 384) (hp : t.val * 128 + p.val < 512) :
    iblk m c 1 t (ix2 p q) = m ((c : Thread nD τ).loc main_arg1) (ix2 (⟨t.val * 128 + p.val, hp⟩ : Fin 512) q) := by
  have i0 : win0_1.index t (0 : Fin 2) = t.val := congrFun (idx t).2.1 0
  have i1 : win0_1.index t (1 : Fin 2) = 0 := congrFun (idx t).2.1 1
  show m _ _ = m _ _
  congr 1
  funext a; apply Fin.ext
  match a with
  | ⟨0, _⟩ => show win0_1.index t 0 * 128 + 1 * p.val = t.val * 128 + p.val; rw [i0]; omega
  | ⟨1, _⟩ => show win0_1.index t 1 * 384 + 1 * q.val = q.val; rw [i1]; omega

theorem blk2 (t : Fin cfg0.N) (p : Fin 128) (q : Fin 384) (hp : t.val * 128 + p.val < 512) :
    iblk m c 2 t (ix2 p q) = m ((c : Thread nD τ).loc main_arg2) (ix2 (⟨t.val * 128 + p.val, hp⟩ : Fin 512) q) := by
  have i0 : win0_2.index t (0 : Fin 2) = t.val := congrFun (idx t).2.2.1 0
  have i1 : win0_2.index t (1 : Fin 2) = 0 := congrFun (idx t).2.2.1 1
  show m _ _ = m _ _
  congr 1
  funext a; apply Fin.ext
  match a with
  | ⟨0, _⟩ => show win0_2.index t 0 * 128 + 1 * p.val = t.val * 128 + p.val; rw [i0]; omega
  | ⟨1, _⟩ => show win0_2.index t 1 * 384 + 1 * q.val = q.val; rw [i1]; omega

theorem blk3 (t : Fin cfg0.N) (p : Fin 128) (q : Fin 384) (hp : t.val * 128 + p.val < 512) :
    iblk m c 3 t (ix2 p q) = m ((c : Thread nD τ).loc main_arg3) (ix2 (⟨t.val * 128 + p.val, hp⟩ : Fin 512) q) := by
  have i0 : win0_3.index t (0 : Fin 2) = t.val := congrFun (idx t).2.2.2.1 0
  have i1 : win0_3.index t (1 : Fin 2) = 0 := congrFun (idx t).2.2.2.1 1
  show m _ _ = m _ _
  congr 1
  funext a; apply Fin.ext
  match a with
  | ⟨0, _⟩ => show win0_3.index t 0 * 128 + 1 * p.val = t.val * 128 + p.val; rw [i0]; omega
  | ⟨1, _⟩ => show win0_3.index t 1 * 384 + 1 * q.val = q.val; rw [i1]; omega

/-- What a point writes back is its block of the result. -/
theorem flushed_eq5 (t : Fin cfg0.N) (hf : (cfg0.win 5).flush t = true) :
    (Gen.dats m 0 c).flushed 5 t = ((cfg0.win 5).blk t).view.read (Elt Ideal) (R5 m c) := by
  rw [Value.flushed5, out5]
  have hN : t.val < 4 := t.isLt
  have i0 : win0_5.index t (0 : Fin 2) = t.val := congrFun (idx t).2.2.2.2.1 0
  have i1 : win0_5.index t (1 : Fin 2) = 0 := congrFun (idx t).2.2.2.2.1 1
  funext y
  obtain ⟨p, q, rfl⟩ : ∃ (p : Fin 128) (q : Fin 384), y = ix2 p q := ⟨_, _, eq_ix2 y⟩
  have hp : t.val * 128 + p.val < 512 := by have := p.isLt; omega
  have e : ((cfg0.win 5).blk t).view.emb (ix2 p q) = ix2 (⟨t.val * 128 + p.val, hp⟩ : Fin 512) q := by
    funext a; apply Fin.ext
    match a with
    | ⟨0, _⟩ => show win0_5.index t 0 * 128 + 1 * p.val = t.val * 128 + p.val; rw [i0]; omega
    | ⟨1, _⟩ => show win0_5.index t 1 * 384 + 1 * q.val = q.val; rw [i1]; omega
  show k0_pay3 (iblk m c 0 t) (iblk m c 1 t) (iblk m c 2 t) (iblk m c 3 t) (ix2 p q) = R5 m c (((cfg0.win 5).blk t).view.emb (ix2 p q))
  rw [pay5, e, blk0 m c t p q hp, blk1 m c t p q hp, blk2 m c t p q hp, blk3 m c t p q hp]
  rfl

/-- An index lies in a point's block when each coordinate does. -/
theorem mem_blk5 (t : Fin cfg0.N) (i : S512x384.Idx) :
    i ∈ ((cfg0.win 5).blk t).view.set ↔ ∀ a : Fin 2, win0_5.index t a * S128x384.size a ≤ (i a).val ∧ (i a).val < win0_5.index t a * S128x384.size a + S128x384.size a := by
  show i ∈ ((View.whole main_v0_1).slice (win0_5.rect t)).set ↔ _
  rw [View.set_slice_whole, Rect.mem_set_unit]
  exact Iff.rfl

/-- The result array after the run. -/
theorem final5 : (Gen.dats m 0 c).arrAt 5 cfg0.N = R5 m c :=
  (Gen.dats m 0 c).arrAt_eq_of_cover 5 _ (fun t hf => flushed_eq5 m c t hf) fun i => by
    have h0 : (i 0).val < 512 := (i 0).isLt
    have h1 : (i 1).val < 384 := (i 1).isLt
    have hN : (i 0).val / 128 < cfg0.N := by show _ < 4; omega
    have i0 : win0_5.index ⟨_, hN⟩ (0 : Fin 2) = (i 0).val / 128 := congrFun (idx ⟨_, hN⟩).2.2.2.2.1 0
    have i1 : win0_5.index ⟨_, hN⟩ (1 : Fin 2) = 0 := congrFun (idx ⟨_, hN⟩).2.2.2.2.1 1
    refine ⟨⟨_, hN⟩, flush0_5 _, ?_⟩
    rw [mem_blk5]
    intro a
    match a with
    | ⟨0, _⟩ => show win0_5.index ⟨_, hN⟩ (0 : Fin 2) * 128 ≤ (i 0).val ∧ (i 0).val < win0_5.index ⟨_, hN⟩ (0 : Fin 2) * 128 + 128; rw [i0]; omega
    | ⟨1, _⟩ => show win0_5.index ⟨_, hN⟩ (1 : Fin 2) * 384 ≤ (i 1).val ∧ (i 1).val < win0_5.index ⟨_, hN⟩ (1 : Fin 2) * 384 + 384; rw [i1]; omega

/-- What a point writes back is its block of the result. -/
theorem flushed_eq6 (t : Fin cfg0.N) (hf : (cfg0.win 6).flush t = true) :
    (Gen.dats m 0 c).flushed 6 t = ((cfg0.win 6).blk t).view.read (Elt Ideal) (R6 m c) := by
  rw [Value.flushed6, out6]
  have hN : t.val < 4 := t.isLt
  have i0 : win0_6.index t (0 : Fin 2) = t.val := congrFun (idx t).2.2.2.2.2.1 0
  have i1 : win0_6.index t (1 : Fin 2) = 0 := congrFun (idx t).2.2.2.2.2.1 1
  funext y
  obtain ⟨p, q, rfl⟩ : ∃ (p : Fin 128) (q : Fin 384), y = ix2 p q := ⟨_, _, eq_ix2 y⟩
  have hp : t.val * 128 + p.val < 512 := by have := p.isLt; omega
  have e : ((cfg0.win 6).blk t).view.emb (ix2 p q) = ix2 (⟨t.val * 128 + p.val, hp⟩ : Fin 512) q := by
    funext a; apply Fin.ext
    match a with
    | ⟨0, _⟩ => show win0_6.index t 0 * 128 + 1 * p.val = t.val * 128 + p.val; rw [i0]; omega
    | ⟨1, _⟩ => show win0_6.index t 1 * 384 + 1 * q.val = q.val; rw [i1]; omega
  show k0_pay1 (iblk m c 0 t) (iblk m c 2 t) (ix2 p q) = R6 m c (((cfg0.win 6).blk t).view.emb (ix2 p q))
  rw [pay6, e, blk0 m c t p q hp, blk2 m c t p q hp]
  rfl

/-- An index lies in a point's block when each coordinate does. -/
theorem mem_blk6 (t : Fin cfg0.N) (i : S512x384.Idx) :
    i ∈ ((cfg0.win 6).blk t).view.set ↔ ∀ a : Fin 2, win0_6.index t a * S128x384.size a ≤ (i a).val ∧ (i a).val < win0_6.index t a * S128x384.size a + S128x384.size a := by
  show i ∈ ((View.whole main_v0_2).slice (win0_6.rect t)).set ↔ _
  rw [View.set_slice_whole, Rect.mem_set_unit]
  exact Iff.rfl

/-- The result array after the run. -/
theorem final6 : (Gen.dats m 0 c).arrAt 6 cfg0.N = R6 m c :=
  (Gen.dats m 0 c).arrAt_eq_of_cover 6 _ (fun t hf => flushed_eq6 m c t hf) fun i => by
    have h0 : (i 0).val < 512 := (i 0).isLt
    have h1 : (i 1).val < 384 := (i 1).isLt
    have hN : (i 0).val / 128 < cfg0.N := by show _ < 4; omega
    have i0 : win0_6.index ⟨_, hN⟩ (0 : Fin 2) = (i 0).val / 128 := congrFun (idx ⟨_, hN⟩).2.2.2.2.2.1 0
    have i1 : win0_6.index ⟨_, hN⟩ (1 : Fin 2) = 0 := congrFun (idx ⟨_, hN⟩).2.2.2.2.2.1 1
    refine ⟨⟨_, hN⟩, flush0_6 _, ?_⟩
    rw [mem_blk6]
    intro a
    match a with
    | ⟨0, _⟩ => show win0_6.index ⟨_, hN⟩ (0 : Fin 2) * 128 ≤ (i 0).val ∧ (i 0).val < win0_6.index ⟨_, hN⟩ (0 : Fin 2) * 128 + 128; rw [i0]; omega
    | ⟨1, _⟩ => show win0_6.index ⟨_, hN⟩ (1 : Fin 2) * 384 ≤ (i 1).val ∧ (i 1).val < win0_6.index ⟨_, hN⟩ (1 : Fin 2) * 384 + 384; rw [i1]; omega

/-- What a point writes back is its block of the result. -/
theorem flushed_eq7 (t : Fin cfg0.N) (hf : (cfg0.win 7).flush t = true) :
    (Gen.dats m 0 c).flushed 7 t = ((cfg0.win 7).blk t).view.read (Elt Ideal) (R7 m c) := by
  rw [Value.flushed7, out7]
  have hN : t.val < 4 := t.isLt
  have i0 : win0_7.index t (0 : Fin 2) = t.val := congrFun (idx t).2.2.2.2.2.2 0
  have i1 : win0_7.index t (1 : Fin 2) = 0 := congrFun (idx t).2.2.2.2.2.2 1
  funext y
  obtain ⟨p, q, rfl⟩ : ∃ (p : Fin 128) (q : Fin 384), y = ix2 p q := ⟨_, _, eq_ix2 y⟩
  have hp : t.val * 128 + p.val < 512 := by have := p.isLt; omega
  have e : ((cfg0.win 7).blk t).view.emb (ix2 p q) = ix2 (⟨t.val * 128 + p.val, hp⟩ : Fin 512) q := by
    funext a; apply Fin.ext
    match a with
    | ⟨0, _⟩ => show win0_7.index t 0 * 128 + 1 * p.val = t.val * 128 + p.val; rw [i0]; omega
    | ⟨1, _⟩ => show win0_7.index t 1 * 384 + 1 * q.val = q.val; rw [i1]; omega
  show k0_pay2 (iblk m c 0 t) (iblk m c 3 t) (ix2 p q) = R7 m c (((cfg0.win 7).blk t).view.emb (ix2 p q))
  rw [pay7, e, blk0 m c t p q hp, blk3 m c t p q hp]
  rfl

/-- An index lies in a point's block when each coordinate does. -/
theorem mem_blk7 (t : Fin cfg0.N) (i : S512x384.Idx) :
    i ∈ ((cfg0.win 7).blk t).view.set ↔ ∀ a : Fin 2, win0_7.index t a * S128x384.size a ≤ (i a).val ∧ (i a).val < win0_7.index t a * S128x384.size a + S128x384.size a := by
  show i ∈ ((View.whole main_v0_3).slice (win0_7.rect t)).set ↔ _
  rw [View.set_slice_whole, Rect.mem_set_unit]
  exact Iff.rfl

/-- The result array after the run. -/
theorem final7 : (Gen.dats m 0 c).arrAt 7 cfg0.N = R7 m c :=
  (Gen.dats m 0 c).arrAt_eq_of_cover 7 _ (fun t hf => flushed_eq7 m c t hf) fun i => by
    have h0 : (i 0).val < 512 := (i 0).isLt
    have h1 : (i 1).val < 384 := (i 1).isLt
    have hN : (i 0).val / 128 < cfg0.N := by show _ < 4; omega
    have i0 : win0_7.index ⟨_, hN⟩ (0 : Fin 2) = (i 0).val / 128 := congrFun (idx ⟨_, hN⟩).2.2.2.2.2.2 0
    have i1 : win0_7.index ⟨_, hN⟩ (1 : Fin 2) = 0 := congrFun (idx ⟨_, hN⟩).2.2.2.2.2.2 1
    refine ⟨⟨_, hN⟩, flush0_7 _, ?_⟩
    rw [mem_blk7]
    intro a
    match a with
    | ⟨0, _⟩ => show win0_7.index ⟨_, hN⟩ (0 : Fin 2) * 128 ≤ (i 0).val ∧ (i 0).val < win0_7.index ⟨_, hN⟩ (0 : Fin 2) * 128 + 128; rw [i0]; omega
    | ⟨1, _⟩ => show win0_7.index ⟨_, hN⟩ (1 : Fin 2) * 384 ≤ (i 1).val ∧ (i 1).val < win0_7.index ⟨_, hN⟩ (1 : Fin 2) * 384 + 384; rw [i1]; omega

/-- The kernel leaves the steps and the two moments, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_1) = R5 m c
      ∧ r.2.mem ((c : Thread nD τ).loc main_v0_2) = R6 m c
      ∧ r.2.mem ((c : Thread nD τ).loc main_v0_3) = R7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).2.1.trans (final5 m c), (h c).2.2.1.trans (final6 m c), (h c).2.2.2.1.trans (final7 m c), (h c).2.2.2.2⟩)
    (Value.run_blocks m ρ)

/-- The reference's first moments. -/
theorem reference6 (g m : FVec Ideal S512x384 .f32) : AdamQRefIdeal.Read.val_main_v4 (F := Ideal) g m = G6 g m := by
  funext i
  unfold G6 mean
  simp only [AdamQRefIdeal.Read.val_main_v4_apply, AdamQRefIdeal.Read.val_main_v3_apply, AdamQRefIdeal.Read.val_main_v2_apply, AdamQRefIdeal.Read.val_main_v1_apply, AdamQRefIdeal.Read.val_main_v0_apply]
  rfl

/-- The reference's second moments. -/
theorem reference7 (g v : FVec Ideal S512x384 .f32) : AdamQRefIdeal.Read.val_main_v10 (F := Ideal) g v = G7 g v := by
  funext i
  unfold G7 square
  simp only [AdamQRefIdeal.Read.val_main_v10_apply, AdamQRefIdeal.Read.val_main_v9_apply, AdamQRefIdeal.Read.val_main_v8_apply, AdamQRefIdeal.Read.val_main_v7_apply, AdamQRefIdeal.Read.val_main_v6_apply,
    AdamQRefIdeal.Read.val_main_v5_apply]
  rfl

/-- The reference's steps. -/
theorem reference5 (g w m v : FVec Ideal S512x384 .f32) : AdamQRefIdeal.Read.val_main_v23 (F := Ideal) g w m v = G5 g w m v := by
  have h6 := congrFun (reference6 g m)
  have h7 := congrFun (reference7 g v)
  funext i
  unfold G5 step
  rw [show mean (g i) (m i) = _ from (h6 i).symm, show square (g i) (v i) = _ from (h7 i).symm]
  simp only [AdamQRefIdeal.Read.val_main_v23_apply, AdamQRefIdeal.Read.val_main_v22_apply, AdamQRefIdeal.Read.val_main_v21_apply, AdamQRefIdeal.Read.val_main_v20_apply, AdamQRefIdeal.Read.val_main_v19_apply, AdamQRefIdeal.Read.val_main_v18_apply, AdamQRefIdeal.Read.val_main_v17_apply, AdamQRefIdeal.Read.val_main_v16_apply, AdamQRefIdeal.Read.val_main_v15_apply, AdamQRefIdeal.Read.val_main_v14_apply, AdamQRefIdeal.Read.val_main_v13_apply, AdamQRefIdeal.Read.val_main_v12_apply, AdamQRefIdeal.Read.val_main_v11_apply]
  rfl

end Cert.AdamQValue

end
-- ==== Proof.AdamKv.lean ====
/- The optimizer's step on a device's part of the keys' and values' weight, block of rows by block of rows: the step and the two moments are the reference's. -/
module

public import proofs.«01_k».proof.Proof.Adam
public import proofs.«01_k».proof.Proof.Gen.AdamKvIdeal.Value
public import proofs.«01_k».proof.Proof.Gen.AdamKvRefIdeal.Read
public import Idealize.ShloMosaic.Lib.Pipeline.ValueKit
public import Idealize.ShloMosaic.Lib.Pointwise

@[expose] public section

set_option maxRecDepth 16384

namespace Cert.AdamKvValue

open Idealize.ShloMosaic Idealize.ShloMosaic.TcCoe Idealize.SL.Sem
open Cert.AdamKvIdeal Cert.AdamKvIdeal.Gen Cert.Adam

theorem hz : (![0, 0] : Fin 2 → ℕ) = fun _ => 0 := funext fun a => by fin_cases a <;> rfl

/-- A block's first moments, read. -/
theorem pay6 (g m : FVec Ideal S128x512 .f32) (p : Fin 128) (q : Fin 512) :
    (k0_pay1 (F := Ideal) g m (ix2 p q) : EReal) = mean (g (ix2 p q)) (m (ix2 p q)) := by
  unfold mean
  pointwise [k0_pay1]

/-- A block's second moments, read. -/
theorem pay7 (g v : FVec Ideal S128x512 .f32) (p : Fin 128) (q : Fin 512) :
    (k0_pay2 (F := Ideal) g v (ix2 p q) : EReal) = square (g (ix2 p q)) (v (ix2 p q)) := by
  unfold square
  pointwise [k0_pay2]

/-- A block's steps, read. -/
theorem pay5 (g w m v : FVec Ideal S128x512 .f32) (p : Fin 128) (q : Fin 512) :
    (k0_pay3 (F := Ideal) g w m v (ix2 p q) : EReal) = step (g (ix2 p q)) (w (ix2 p q)) (m (ix2 p q)) (v (ix2 p q)) := by
  unfold step mean square
  pointwise [k0_pay3, k0_pay1, k0_pay2]

section
variable (g w m v : Vec Ideal S128x512 .f32)

/-- A point stores its block's steps. -/
theorem out5 : out0_5 g w m v = k0_pay3 g w m v := by
  unfold out0_5
  rw [View.canon_unit_zero hz]
  simp only [View.ld_unit_zero (S := S128x512) hz]

/-- A point stores its block's first moments. -/
theorem out6 : out0_6 g w m v = k0_pay1 g m := by
  unfold out0_6
  rw [View.canon_unit_zero hz]
  simp only [View.ld_unit_zero (S := S128x512) hz]

/-- A point stores its block's second moments. -/
theorem out7 : out0_7 g w m v = k0_pay2 g v := by
  unfold out0_7
  rw [View.canon_unit_zero hz]
  simp only [View.ld_unit_zero (S := S128x512) hz]
end

/-- The block of each array at a point. -/
theorem idx : ∀ t : Fin cfg0.N, win0_0.index t = ![t.val, 0] ∧ win0_1.index t = ![t.val, 0] ∧ win0_2.index t = ![t.val, 0] ∧ win0_3.index t = ![t.val, 0]
    ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The steps of every element. -/
noncomputable def G5 (g w m v : FVec Ideal S256x512 .f32) : FVec Ideal S256x512 .f32 := fun i => step (g i) (w i) (m i) (v i)
/-- The first moments of every element. -/
noncomputable def G6 (g m : FVec Ideal S256x512 .f32) : FVec Ideal S256x512 .f32 := fun i => mean (g i) (m i)
/-- The second moments of every element. -/
noncomputable def G7 (g v : FVec Ideal S256x512 .f32) : FVec Ideal S256x512 .f32 := fun i => square (g i) (v i)

/-! The same, for the memory's arrays. -/

noncomputable def R5 : Buf (Elt Ideal) ((c : Thread nD τ).loc main_v0_1) :=
  G5 (m ((c : Thread nD τ).loc main_arg0)) (m ((c : Thread nD τ).loc main_arg1)) (m ((c : Thread nD τ).loc main_arg2)) (m ((c : Thread nD τ).loc main_arg3))
noncomputable def R6 : Buf (Elt Ideal) ((c : Thread nD τ).loc main_v0_2) :=
  G6 (m ((c : Thread nD τ).loc main_arg0)) (m ((c : Thread nD τ).loc main_arg2))
noncomputable def R7 : Buf (Elt Ideal) ((c : Thread nD τ).loc main_v0_3) :=
  G7 (m ((c : Thread nD τ).loc main_arg0)) (m ((c : Thread nD τ).loc main_arg3))

/-! The block of each argument at a point. -/

theorem blk0 (t : Fin cfg0.N) (p : Fin 128) (q : Fin 512) (hp : t.val * 128 + p.val < 256) :
    iblk m c 0 t (ix2 p q) = m ((c : Thread nD τ).loc main_arg0) (ix2 (⟨t.val * 128 + p.val, hp⟩ : Fin 256) q) := by
  have i0 : win0_0.index t (0 : Fin 2) = t.val := congrFun (idx t).1 0
  have i1 : win0_0.index t (1 : Fin 2) = 0 := congrFun (idx t).1 1
  show m _ _ = m _ _
  congr 1
  funext a; apply Fin.ext
  match a with
  | ⟨0, _⟩ => show win0_0.index t 0 * 128 + 1 * p.val = t.val * 128 + p.val; rw [i0]; omega
  | ⟨1, _⟩ => show win0_0.index t 1 * 512 + 1 * q.val = q.val; rw [i1]; omega

theorem blk1 (t : Fin cfg0.N) (p : Fin 128) (q : Fin 512) (hp : t.val * 128 + p.val < 256) :
    iblk m c 1 t (ix2 p q) = m ((c : Thread nD τ).loc main_arg1) (ix2 (⟨t.val * 128 + p.val, hp⟩ : Fin 256) q) := by
  have i0 : win0_1.index t (0 : Fin 2) = t.val := congrFun (idx t).2.1 0
  have i1 : win0_1.index t (1 : Fin 2) = 0 := congrFun (idx t).2.1 1
  show m _ _ = m _ _
  congr 1
  funext a; apply Fin.ext
  match a with
  | ⟨0, _⟩ => show win0_1.index t 0 * 128 + 1 * p.val = t.val * 128 + p.val; rw [i0]; omega
  | ⟨1, _⟩ => show win0_1.index t 1 * 512 + 1 * q.val = q.val; rw [i1]; omega

theorem blk2 (t : Fin cfg0.N) (p : Fin 128) (q : Fin 512) (hp : t.val * 128 + p.val < 256) :
    iblk m c 2 t (ix2 p q) = m ((c : Thread nD τ).loc main_arg2) (ix2 (⟨t.val * 128 + p.val, hp⟩ : Fin 256) q) := by
  have i0 : win0_2.index t (0 : Fin 2) = t.val := congrFun (idx t).2.2.1 0
  have i1 : win0_2.index t (1 : Fin 2) = 0 := congrFun (idx t).2.2.1 1
  show m _ _ = m _ _
  congr 1
  funext a; apply Fin.ext
  match a with
  | ⟨0, _⟩ => show win0_2.index t 0 * 128 + 1 * p.val = t.val * 128 + p.val; rw [i0]; omega
  | ⟨1, _⟩ => show win0_2.index t 1 * 512 + 1 * q.val = q.val; rw [i1]; omega

theorem blk3 (t : Fin cfg0.N) (p : Fin 128) (q : Fin 512) (hp : t.val * 128 + p.val < 256) :
    iblk m c 3 t (ix2 p q) = m ((c : Thread nD τ).loc main_arg3) (ix2 (⟨t.val * 128 + p.val, hp⟩ : Fin 256) q) := by
  have i0 : win0_3.index t (0 : Fin 2) = t.val := congrFun (idx t).2.2.2.1 0
  have i1 : win0_3.index t (1 : Fin 2) = 0 := congrFun (idx t).2.2.2.1 1
  show m _ _ = m _ _
  congr 1
  funext a; apply Fin.ext
  match a with
  | ⟨0, _⟩ => show win0_3.index t 0 * 128 + 1 * p.val = t.val * 128 + p.val; rw [i0]; omega
  | ⟨1, _⟩ => show win0_3.index t 1 * 512 + 1 * q.val = q.val; rw [i1]; omega

/-- What a point writes back is its block of the result. -/
theorem flushed_eq5 (t : Fin cfg0.N) (hf : (cfg0.win 5).flush t = true) :
    (Gen.dats m 0 c).flushed 5 t = ((cfg0.win 5).blk t).view.read (Elt Ideal) (R5 m c) := by
  rw [Value.flushed5, out5]
  have hN : t.val < 2 := t.isLt
  have i0 : win0_5.index t (0 : Fin 2) = t.val := congrFun (idx t).2.2.2.2.1 0
  have i1 : win0_5.index t (1 : Fin 2) = 0 := congrFun (idx t).2.2.2.2.1 1
  funext y
  obtain ⟨p, q, rfl⟩ : ∃ (p : Fin 128) (q : Fin 512), y = ix2 p q := ⟨_, _, eq_ix2 y⟩
  have hp : t.val * 128 + p.val < 256 := by have := p.isLt; omega
  have e : ((cfg0.win 5).blk t).view.emb (ix2 p q) = ix2 (⟨t.val * 128 + p.val, hp⟩ : Fin 256) q := by
    funext a; apply Fin.ext
    match a with
    | ⟨0, _⟩ => show win0_5.index t 0 * 128 + 1 * p.val = t.val * 128 + p.val; rw [i0]; omega
    | ⟨1, _⟩ => show win0_5.index t 1 * 512 + 1 * q.val = q.val; rw [i1]; omega
  show k0_pay3 (iblk m c 0 t) (iblk m c 1 t) (iblk m c 2 t) (iblk m c 3 t) (ix2 p q) = R5 m c (((cfg0.win 5).blk t).view.emb (ix2 p q))
  rw [pay5, e, blk0 m c t p q hp, blk1 m c t p q hp, blk2 m c t p q hp, blk3 m c t p q hp]
  rfl

/-- An index lies in a point's block when each coordinate does. -/
theorem mem_blk5 (t : Fin cfg0.N) (i : S256x512.Idx) :
    i ∈ ((cfg0.win 5).blk t).view.set ↔ ∀ a : Fin 2, win0_5.index t a * S128x512.size a ≤ (i a).val ∧ (i a).val < win0_5.index t a * S128x512.size a + S128x512.size a := by
  show i ∈ ((View.whole main_v0_1).slice (win0_5.rect t)).set ↔ _
  rw [View.set_slice_whole, Rect.mem_set_unit]
  exact Iff.rfl

/-- The result array after the run. -/
theorem final5 : (Gen.dats m 0 c).arrAt 5 cfg0.N = R5 m c :=
  (Gen.dats m 0 c).arrAt_eq_of_cover 5 _ (fun t hf => flushed_eq5 m c t hf) fun i => by
    have h0 : (i 0).val < 256 := (i 0).isLt
    have h1 : (i 1).val < 512 := (i 1).isLt
    have hN : (i 0).val / 128 < cfg0.N := by show _ < 2; omega
    have i0 : win0_5.index ⟨_, hN⟩ (0 : Fin 2) = (i 0).val / 128 := congrFun (idx ⟨_, hN⟩).2.2.2.2.1 0
    have i1 : win0_5.index ⟨_, hN⟩ (1 : Fin 2) = 0 := congrFun (idx ⟨_, hN⟩).2.2.2.2.1 1
    refine ⟨⟨_, hN⟩, flush0_5 _, ?_⟩
    rw [mem_blk5]
    intro a
    match a with
    | ⟨0, _⟩ => show win0_5.index ⟨_, hN⟩ (0 : Fin 2) * 128 ≤ (i 0).val ∧ (i 0).val < win0_5.index ⟨_, hN⟩ (0 : Fin 2) * 128 + 128; rw [i0]; omega
    | ⟨1, _⟩ => show win0_5.index ⟨_, hN⟩ (1 : Fin 2) * 512 ≤ (i 1).val ∧ (i 1).val < win0_5.index ⟨_, hN⟩ (1 : Fin 2) * 512 + 512; rw [i1]; omega

/-- What a point writes back is its block of the result. -/
theorem flushed_eq6 (t : Fin cfg0.N) (hf : (cfg0.win 6).flush t = true) :
    (Gen.dats m 0 c).flushed 6 t = ((cfg0.win 6).blk t).view.read (Elt Ideal) (R6 m c) := by
  rw [Value.flushed6, out6]
  have hN : t.val < 2 := t.isLt
  have i0 : win0_6.index t (0 : Fin 2) = t.val := congrFun (idx t).2.2.2.2.2.1 0
  have i1 : win0_6.index t (1 : Fin 2) = 0 := congrFun (idx t).2.2.2.2.2.1 1
  funext y
  obtain ⟨p, q, rfl⟩ : ∃ (p : Fin 128) (q : Fin 512), y = ix2 p q := ⟨_, _, eq_ix2 y⟩
  have hp : t.val * 128 + p.val < 256 := by have := p.isLt; omega
  have e : ((cfg0.win 6).blk t).view.emb (ix2 p q) = ix2 (⟨t.val * 128 + p.val, hp⟩ : Fin 256) q := by
    funext a; apply Fin.ext
    match a with
    | ⟨0, _⟩ => show win0_6.index t 0 * 128 + 1 * p.val = t.val * 128 + p.val; rw [i0]; omega
    | ⟨1, _⟩ => show win0_6.index t 1 * 512 + 1 * q.val = q.val; rw [i1]; omega
  show k0_pay1 (iblk m c 0 t) (iblk m c 2 t) (ix2 p q) = R6 m c (((cfg0.win 6).blk t).view.emb (ix2 p q))
  rw [pay6, e, blk0 m c t p q hp, blk2 m c t p q hp]
  rfl

/-- An index lies in a point's block when each coordinate does. -/
theorem mem_blk6 (t : Fin cfg0.N) (i : S256x512.Idx) :
    i ∈ ((cfg0.win 6).blk t).view.set ↔ ∀ a : Fin 2, win0_6.index t a * S128x512.size a ≤ (i a).val ∧ (i a).val < win0_6.index t a * S128x512.size a + S128x512.size a := by
  show i ∈ ((View.whole main_v0_2).slice (win0_6.rect t)).set ↔ _
  rw [View.set_slice_whole, Rect.mem_set_unit]
  exact Iff.rfl

/-- The result array after the run. -/
theorem final6 : (Gen.dats m 0 c).arrAt 6 cfg0.N = R6 m c :=
  (Gen.dats m 0 c).arrAt_eq_of_cover 6 _ (fun t hf => flushed_eq6 m c t hf) fun i => by
    have h0 : (i 0).val < 256 := (i 0).isLt
    have h1 : (i 1).val < 512 := (i 1).isLt
    have hN : (i 0).val / 128 < cfg0.N := by show _ < 2; omega
    have i0 : win0_6.index ⟨_, hN⟩ (0 : Fin 2) = (i 0).val / 128 := congrFun (idx ⟨_, hN⟩).2.2.2.2.2.1 0
    have i1 : win0_6.index ⟨_, hN⟩ (1 : Fin 2) = 0 := congrFun (idx ⟨_, hN⟩).2.2.2.2.2.1 1
    refine ⟨⟨_, hN⟩, flush0_6 _, ?_⟩
    rw [mem_blk6]
    intro a
    match a with
    | ⟨0, _⟩ => show win0_6.index ⟨_, hN⟩ (0 : Fin 2) * 128 ≤ (i 0).val ∧ (i 0).val < win0_6.index ⟨_, hN⟩ (0 : Fin 2) * 128 + 128; rw [i0]; omega
    | ⟨1, _⟩ => show win0_6.index ⟨_, hN⟩ (1 : Fin 2) * 512 ≤ (i 1).val ∧ (i 1).val < win0_6.index ⟨_, hN⟩ (1 : Fin 2) * 512 + 512; rw [i1]; omega

/-- What a point writes back is its block of the result. -/
theorem flushed_eq7 (t : Fin cfg0.N) (hf : (cfg0.win 7).flush t = true) :
    (Gen.dats m 0 c).flushed 7 t = ((cfg0.win 7).blk t).view.read (Elt Ideal) (R7 m c) := by
  rw [Value.flushed7, out7]
  have hN : t.val < 2 := t.isLt
  have i0 : win0_7.index t (0 : Fin 2) = t.val := congrFun (idx t).2.2.2.2.2.2 0
  have i1 : win0_7.index t (1 : Fin 2) = 0 := congrFun (idx t).2.2.2.2.2.2 1
  funext y
  obtain ⟨p, q, rfl⟩ : ∃ (p : Fin 128) (q : Fin 512), y = ix2 p q := ⟨_, _, eq_ix2 y⟩
  have hp : t.val * 128 + p.val < 256 := by have := p.isLt; omega
  have e : ((cfg0.win 7).blk t).view.emb (ix2 p q) = ix2 (⟨t.val * 128 + p.val, hp⟩ : Fin 256) q := by
    funext a; apply Fin.ext
    match a with
    | ⟨0, _⟩ => show win0_7.index t 0 * 128 + 1 * p.val = t.val * 128 + p.val; rw [i0]; omega
    | ⟨1, _⟩ => show win0_7.index t 1 * 512 + 1 * q.val = q.val; rw [i1]; omega
  show k0_pay2 (iblk m c 0 t) (iblk m c 3 t) (ix2 p q) = R7 m c (((cfg0.win 7).blk t).view.emb (ix2 p q))
  rw [pay7, e, blk0 m c t p q hp, blk3 m c t p q hp]
  rfl

/-- An index lies in a point's block when each coordinate does. -/
theorem mem_blk7 (t : Fin cfg0.N) (i : S256x512.Idx) :
    i ∈ ((cfg0.win 7).blk t).view.set ↔ ∀ a : Fin 2, win0_7.index t a * S128x512.size a ≤ (i a).val ∧ (i a).val < win0_7.index t a * S128x512.size a + S128x512.size a := by
  show i ∈ ((View.whole main_v0_3).slice (win0_7.rect t)).set ↔ _
  rw [View.set_slice_whole, Rect.mem_set_unit]
  exact Iff.rfl

/-- The result array after the run. -/
theorem final7 : (Gen.dats m 0 c).arrAt 7 cfg0.N = R7 m c :=
  (Gen.dats m 0 c).arrAt_eq_of_cover 7 _ (fun t hf => flushed_eq7 m c t hf) fun i => by
    have h0 : (i 0).val < 256 := (i 0).isLt
    have h1 : (i 1).val < 512 := (i 1).isLt
    have hN : (i 0).val / 128 < cfg0.N := by show _ < 2; omega
    have i0 : win0_7.index ⟨_, hN⟩ (0 : Fin 2) = (i 0).val / 128 := congrFun (idx ⟨_, hN⟩).2.2.2.2.2.2 0
    have i1 : win0_7.index ⟨_, hN⟩ (1 : Fin 2) = 0 := congrFun (idx ⟨_, hN⟩).2.2.2.2.2.2 1
    refine ⟨⟨_, hN⟩, flush0_7 _, ?_⟩
    rw [mem_blk7]
    intro a
    match a with
    | ⟨0, _⟩ => show win0_7.index ⟨_, hN⟩ (0 : Fin 2) * 128 ≤ (i 0).val ∧ (i 0).val < win0_7.index ⟨_, hN⟩ (0 : Fin 2) * 128 + 128; rw [i0]; omega
    | ⟨1, _⟩ => show win0_7.index ⟨_, hN⟩ (1 : Fin 2) * 512 ≤ (i 1).val ∧ (i 1).val < win0_7.index ⟨_, hN⟩ (1 : Fin 2) * 512 + 512; rw [i1]; omega

/-- The kernel leaves the steps and the two moments, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_1) = R5 m c
      ∧ r.2.mem ((c : Thread nD τ).loc main_v0_2) = R6 m c
      ∧ r.2.mem ((c : Thread nD τ).loc main_v0_3) = R7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).2.1.trans (final5 m c), (h c).2.2.1.trans (final6 m c), (h c).2.2.2.1.trans (final7 m c), (h c).2.2.2.2⟩)
    (Value.run_blocks m ρ)

/-- The reference's first moments. -/
theorem reference6 (g m : FVec Ideal S256x512 .f32) : AdamKvRefIdeal.Read.val_main_v4 (F := Ideal) g m = G6 g m := by
  funext i
  unfold G6 mean
  simp only [AdamKvRefIdeal.Read.val_main_v4_apply, AdamKvRefIdeal.Read.val_main_v3_apply, AdamKvRefIdeal.Read.val_main_v2_apply, AdamKvRefIdeal.Read.val_main_v1_apply, AdamKvRefIdeal.Read.val_main_v0_apply]
  rfl

/-- The reference's second moments. -/
theorem reference7 (g v : FVec Ideal S256x512 .f32) : AdamKvRefIdeal.Read.val_main_v10 (F := Ideal) g v = G7 g v := by
  funext i
  unfold G7 square
  simp only [AdamKvRefIdeal.Read.val_main_v10_apply, AdamKvRefIdeal.Read.val_main_v9_apply, AdamKvRefIdeal.Read.val_main_v8_apply, AdamKvRefIdeal.Read.val_main_v7_apply, AdamKvRefIdeal.Read.val_main_v6_apply,
    AdamKvRefIdeal.Read.val_main_v5_apply]
  rfl

/-- The reference's steps. -/
theorem reference5 (g w m v : FVec Ideal S256x512 .f32) : AdamKvRefIdeal.Read.val_main_v23 (F := Ideal) g w m v = G5 g w m v := by
  have h6 := congrFun (reference6 g m)
  have h7 := congrFun (reference7 g v)
  funext i
  unfold G5 step
  rw [show mean (g i) (m i) = _ from (h6 i).symm, show square (g i) (v i) = _ from (h7 i).symm]
  simp only [AdamKvRefIdeal.Read.val_main_v23_apply, AdamKvRefIdeal.Read.val_main_v22_apply, AdamKvRefIdeal.Read.val_main_v21_apply, AdamKvRefIdeal.Read.val_main_v20_apply, AdamKvRefIdeal.Read.val_main_v19_apply, AdamKvRefIdeal.Read.val_main_v18_apply, AdamKvRefIdeal.Read.val_main_v17_apply, AdamKvRefIdeal.Read.val_main_v16_apply, AdamKvRefIdeal.Read.val_main_v15_apply, AdamKvRefIdeal.Read.val_main_v14_apply, AdamKvRefIdeal.Read.val_main_v13_apply, AdamKvRefIdeal.Read.val_main_v12_apply, AdamKvRefIdeal.Read.val_main_v11_apply]
  rfl

end Cert.AdamKvValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite_fwd
public import proofs.«01_k».proof.Proof.Gen.KernelIdeal.Value
public import proofs.«01_k».proof.Proof.Gen.ReferenceIdeal.Run
public import proofs.«01_k».proof.Proof.Gen.ReferenceIdeal.Read
public import proofs.«01_k».proof.Proof.Final
public import proofs.«01_k».proof.Proof.Same
public import proofs.«01_k».proof.Proof.Gen.MlaFwd
public import proofs.«01_k».proof.Proof.Gen.MlaFwd.Skeleton
public import proofs.«01_k».proof.Proof.Gen.MlaFwd.Launch
public import proofs.«01_k».proof.Proof.Gen.MlaFwd.Points
public import proofs.«01_k».proof.Proof.Gen.MlaFwd.Frame
public import proofs.«01_k».proof.Proof.Gen.MlaFwdIdeal
public import proofs.«01_k».proof.Proof.Gen.MlaFwdIdeal.Skeleton
public import proofs.«01_k».proof.Proof.Gen.MlaFwdIdeal.Launch
public import proofs.«01_k».proof.Proof.Gen.MlaFwdIdeal.Points
public import proofs.«01_k».proof.Proof.Gen.MlaFwdIdeal.Frame
public import proofs.«01_k».proof.Proof.Gen.MlaFwdIdeal.Value
public import proofs.«01_k».proof.Proof.Gen.MlaFwdRefIdeal
public import proofs.«01_k».proof.Proof.Gen.MlaFwdRefIdeal.Run
public import proofs.«01_k».proof.Proof.Gen.MlaFwdRefIdeal.Read
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.DMixed
public import proofs.«01_k».proof.Proof.Gen.DMixed.Skeleton
public import proofs.«01_k».proof.Proof.Gen.DMixed.Launch
public import proofs.«01_k».proof.Proof.Gen.DMixed.Points
public import proofs.«01_k».proof.Proof.Gen.DMixed.Frame
public import proofs.«01_k».proof.Proof.Gen.DMixedIdeal
public import proofs.«01_k».proof.Proof.Gen.DMixedIdeal.Skeleton
public import proofs.«01_k».proof.Proof.Gen.DMixedIdeal.Launch
public import proofs.«01_k».proof.Proof.Gen.DMixedIdeal.Points
public import proofs.«01_k».proof.Proof.Gen.DMixedIdeal.Frame
public import proofs.«01_k».proof.Proof.Gen.DMixedRefIdeal
public import proofs.«01_k».proof.Proof.Gen.ProjB
public import proofs.«01_k».proof.Proof.Gen.ProjB.Skeleton
public import proofs.«01_k».proof.Proof.Gen.ProjB.Launch
public import proofs.«01_k».proof.Proof.Gen.ProjB.Points
public import proofs.«01_k».proof.Proof.Gen.ProjB.Frame
public import proofs.«01_k».proof.Proof.Gen.ProjBIdeal
public import proofs.«01_k».proof.Proof.Gen.ProjBIdeal.Skeleton
public import proofs.«01_k».proof.Proof.Gen.ProjBIdeal.Launch
public import proofs.«01_k».proof.Proof.Gen.ProjBIdeal.Points
public import proofs.«01_k».proof.Proof.Gen.ProjBIdeal.Frame
public import proofs.«01_k».proof.Proof.Gen.ProjBRefIdeal
public import proofs.«01_k».proof.Proof.Gen.ProjF
public import proofs.«01_k».proof.Proof.Gen.ProjF.Skeleton
public import proofs.«01_k».proof.Proof.Gen.ProjF.Launch
public import proofs.«01_k».proof.Proof.Gen.ProjF.Points
public import proofs.«01_k».proof.Proof.Gen.ProjF.Frame
public import proofs.«01_k».proof.Proof.Gen.ProjFIdeal
public import proofs.«01_k».proof.Proof.Gen.ProjFIdeal.Skeleton
public import proofs.«01_k».proof.Proof.Gen.ProjFIdeal.Launch
public import proofs.«01_k».proof.Proof.Gen.ProjFIdeal.Points
public import proofs.«01_k».proof.Proof.Gen.ProjFIdeal.Frame
public import proofs.«01_k».proof.Proof.Gen.ProjFRefIdeal
public import proofs.«01_k».proof.Proof.Gen.DwInIdeal.Value
public import proofs.«01_k».proof.Proof.Gen.DwInRefIdeal.Run
public import proofs.«01_k».proof.Proof.Gen.DwInRefIdeal.Read
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.DMixedIdeal.Value
public import proofs.«01_k».proof.Proof.Gen.DMixedRefIdeal.Run
public import proofs.«01_k».proof.Proof.Gen.DMixedRefIdeal.Read
public import proofs.«01_k».proof.Proof.Gen.ProjBIdeal.Value
public import proofs.«01_k».proof.Proof.Gen.ProjBRefIdeal.Run
public import proofs.«01_k».proof.Proof.Gen.ProjBRefIdeal.Read
public import proofs.«01_k».proof.Proof.Gen.ProjFIdeal.Value
public import proofs.«01_k».proof.Proof.Gen.ProjFRefIdeal.Run
public import proofs.«01_k».proof.Proof.Gen.ProjFRefIdeal.Read
public import proofs.«01_k».proof.Proof.FwdFinal
public import proofs.«01_k».proof.Proof.DwIn
public import proofs.«01_k».proof.Proof.DwOut
public import proofs.«01_k».proof.Proof.DMixed
public import proofs.«01_k».proof.Proof.ProjB
public import proofs.«01_k».proof.Proof.ProjF
public import proofs.«01_k».proof.Proof.DwQ
public import proofs.«01_k».proof.Proof.DwK
public import proofs.«01_k».proof.Proof.DwV
public import proofs.«01_k».proof.Proof.Prenorm
public import proofs.«01_k».proof.Proof.MlaPrepFinal
public import proofs.«01_k».proof.Proof.OutPostFinal
public import proofs.«01_k».proof.Proof.AdamOut
public import proofs.«01_k».proof.Proof.AdamIn
public import proofs.«01_k».proof.Proof.AdamQ
public import proofs.«01_k».proof.Proof.AdamKv
public import proofs.«01_k».proof.Proof.Gen.Prenorm
public import proofs.«01_k».proof.Proof.Gen.Prenorm.Skeleton
public import proofs.«01_k».proof.Proof.Gen.Prenorm.Launch
public import proofs.«01_k».proof.Proof.Gen.Prenorm.Points
public import proofs.«01_k».proof.Proof.Gen.Prenorm.Frame
public import proofs.«01_k».proof.Proof.Gen.PrenormIdeal
public import proofs.«01_k».proof.Proof.Gen.PrenormIdeal.Skeleton
public import proofs.«01_k».proof.Proof.Gen.PrenormIdeal.Launch
public import proofs.«01_k».proof.Proof.Gen.PrenormIdeal.Points
public import proofs.«01_k».proof.Proof.Gen.PrenormIdeal.Frame
public import proofs.«01_k».proof.Proof.Gen.PrenormRefIdeal
public import proofs.«01_k».proof.Proof.Gen.PrenormIdeal.Value
public import proofs.«01_k».proof.Proof.Gen.PrenormRefIdeal.Run
public import proofs.«01_k».proof.Proof.Gen.PrenormRefIdeal.Read
public import proofs.«01_k».proof.Proof.Gen.OutPost
public import proofs.«01_k».proof.Proof.Gen.OutPost.Skeleton
public import proofs.«01_k».proof.Proof.Gen.OutPost.Launch
public import proofs.«01_k».proof.Proof.Gen.OutPost.Points
public import proofs.«01_k».proof.Proof.Gen.OutPost.Frame
public import proofs.«01_k».proof.Proof.Gen.OutPostIdeal
public import proofs.«01_k».proof.Proof.Gen.OutPostIdeal.Skeleton
public import proofs.«01_k».proof.Proof.Gen.OutPostIdeal.Launch
public import proofs.«01_k».proof.Proof.Gen.OutPostIdeal.Points
public import proofs.«01_k».proof.Proof.Gen.OutPostIdeal.Frame
public import proofs.«01_k».proof.Proof.Gen.OutPostRefIdeal
public import proofs.«01_k».proof.Proof.Gen.OutPostIdeal.Value
public import proofs.«01_k».proof.Proof.Gen.OutPostRefIdeal.Run
public import proofs.«01_k».proof.Proof.Gen.OutPostRefIdeal.Read
public import proofs.«01_k».proof.Proof.Gen.MlaPrep
public import proofs.«01_k».proof.Proof.Gen.MlaPrep.Skeleton
public import proofs.«01_k».proof.Proof.Gen.MlaPrep.Launch
public import proofs.«01_k».proof.Proof.Gen.MlaPrep.Points
public import proofs.«01_k».proof.Proof.Gen.MlaPrep.Frame
public import proofs.«01_k».proof.Proof.Gen.MlaPrepIdeal
public import proofs.«01_k».proof.Proof.Gen.MlaPrepIdeal.Skeleton
public import proofs.«01_k».proof.Proof.Gen.MlaPrepIdeal.Launch
public import proofs.«01_k».proof.Proof.Gen.MlaPrepIdeal.Points
public import proofs.«01_k».proof.Proof.Gen.MlaPrepIdeal.Frame
public import proofs.«01_k».proof.Proof.Gen.MlaPrepRefIdeal
public import proofs.«01_k».proof.Proof.Gen.MlaPrepIdeal.Value
public import proofs.«01_k».proof.Proof.Gen.MlaPrepRefIdeal.Run
public import proofs.«01_k».proof.Proof.Gen.MlaPrepRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamQ
public import proofs.«01_k».proof.Proof.Gen.AdamQ.Skeleton
public import proofs.«01_k».proof.Proof.Gen.AdamQ.Launch
public import proofs.«01_k».proof.Proof.Gen.AdamQ.Points
public import proofs.«01_k».proof.Proof.Gen.AdamQ.Frame
public import proofs.«01_k».proof.Proof.Gen.AdamQIdeal
public import proofs.«01_k».proof.Proof.Gen.AdamQIdeal.Skeleton
public import proofs.«01_k».proof.Proof.Gen.AdamQIdeal.Launch
public import proofs.«01_k».proof.Proof.Gen.AdamQIdeal.Points
public import proofs.«01_k».proof.Proof.Gen.AdamQIdeal.Frame
public import proofs.«01_k».proof.Proof.Gen.AdamQRefIdeal
public import proofs.«01_k».proof.Proof.Gen.AdamQIdeal.Value
public import proofs.«01_k».proof.Proof.Gen.AdamQRefIdeal.Run
public import proofs.«01_k».proof.Proof.Gen.AdamQRefIdeal.Read
public import proofs.«01_k».proof.Proof.Gen.AdamKv
public import proofs.«01_k».proof.Proof.Gen.AdamKv.Skeleton
public import proofs.«01_k».proof.Proof.Gen.AdamKv.Launch
public import proofs.«01_k».proof.Proof.Gen.AdamKv.Points
public import proofs.«01_k».proof.Proof.Gen.AdamKv.Frame
public import proofs.«01_k».proof.Proof.Gen.AdamKvIdeal
public import proofs.«01_k».proof.Proof.Gen.AdamKvIdeal.Skeleton
public import proofs.«01_k».proof.Proof.Gen.AdamKvIdeal.Launch
public import proofs.«01_k».proof.Proof.Gen.AdamKvIdeal.Points
public import proofs.«01_k».proof.Proof.Gen.AdamKvIdeal.Frame
public import proofs.«01_k».proof.Proof.Gen.AdamKvRefIdeal
public import proofs.«01_k».proof.Proof.Gen.AdamKvIdeal.Value
public import proofs.«01_k».proof.Proof.Gen.AdamKvRefIdeal.Run
public import proofs.«01_k».proof.Proof.Gen.AdamKvRefIdeal.Read
public import proofs.«01_k».proof.Proof.Gen.DwQ
public import proofs.«01_k».proof.Proof.Gen.DwQ.Skeleton
public import proofs.«01_k».proof.Proof.Gen.DwQ.Launch
public import proofs.«01_k».proof.Proof.Gen.DwQ.Points
public import proofs.«01_k».proof.Proof.Gen.DwQ.Frame
public import proofs.«01_k».proof.Proof.Gen.DwQIdeal
public import proofs.«01_k».proof.Proof.Gen.DwQIdeal.Skeleton
public import proofs.«01_k».proof.Proof.Gen.DwQIdeal.Launch
public import proofs.«01_k».proof.Proof.Gen.DwQIdeal.Points
public import proofs.«01_k».proof.Proof.Gen.DwQIdeal.Frame
public import proofs.«01_k».proof.Proof.Gen.DwQRefIdeal
public import proofs.«01_k».proof.Proof.Gen.DwQIdeal.Value
public import proofs.«01_k».proof.Proof.Gen.DwQRefIdeal.Run
public import proofs.«01_k».proof.Proof.Gen.DwQRefIdeal.Read
public import proofs.«01_k».proof.Proof.Gen.DwK
public import proofs.«01_k».proof.Proof.Gen.DwK.Skeleton
public import proofs.«01_k».proof.Proof.Gen.DwK.Launch
public import proofs.«01_k».proof.Proof.Gen.DwK.Points
public import proofs.«01_k».proof.Proof.Gen.DwK.Frame
public import proofs.«01_k».proof.Proof.Gen.DwKIdeal
public import proofs.«01_k».proof.Proof.Gen.DwKIdeal.Skeleton
public import proofs.«01_k».proof.Proof.Gen.DwKIdeal.Launch
public import proofs.«01_k».proof.Proof.Gen.DwKIdeal.Points
public import proofs.«01_k».proof.Proof.Gen.DwKIdeal.Frame
public import proofs.«01_k».proof.Proof.Gen.DwKRefIdeal
public import proofs.«01_k».proof.Proof.Gen.DwKIdeal.Value
public import proofs.«01_k».proof.Proof.Gen.DwKRefIdeal.Run
public import proofs.«01_k».proof.Proof.Gen.DwKRefIdeal.Read
public import proofs.«01_k».proof.Proof.Gen.DwV
public import proofs.«01_k».proof.Proof.Gen.DwV.Skeleton
public import proofs.«01_k».proof.Proof.Gen.DwV.Launch
public import proofs.«01_k».proof.Proof.Gen.DwV.Points
public import proofs.«01_k».proof.Proof.Gen.DwV.Frame
public import proofs.«01_k».proof.Proof.Gen.DwVIdeal
public import proofs.«01_k».proof.Proof.Gen.DwVIdeal.Skeleton
public import proofs.«01_k».proof.Proof.Gen.DwVIdeal.Launch
public import proofs.«01_k».proof.Proof.Gen.DwVIdeal.Points
public import proofs.«01_k».proof.Proof.Gen.DwVIdeal.Frame
public import proofs.«01_k».proof.Proof.Gen.DwVRefIdeal
public import proofs.«01_k».proof.Proof.Gen.DwVIdeal.Value
public import proofs.«01_k».proof.Proof.Gen.DwVRefIdeal.Run
public import proofs.«01_k».proof.Proof.Gen.DwVRefIdeal.Read
public import Idealize.ShloMosaic.Adequacy
public import Idealize.ShloMosaic.Init
public import Idealize.ShloMosaic.Lib.Quiescent

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.MlaFwd.Gen.facts Cert.MlaFwdIdeal.Gen.facts Cert.MlaFwdRefIdeal.Gen.facts Cert.DwIn.Gen.facts Cert.DwInIdeal.Gen.facts Cert.DwInRefIdeal.Gen.facts Cert.DwOut.Gen.facts Cert.DwOutIdeal.Gen.facts Cert.DwOutRefIdeal.Gen.facts Cert.DMixed.Gen.facts Cert.DMixedIdeal.Gen.facts Cert.DMixedRefIdeal.Gen.facts Cert.ProjB.Gen.facts Cert.ProjBIdeal.Gen.facts Cert.ProjBRefIdeal.Gen.facts Cert.ProjF.Gen.facts Cert.ProjFIdeal.Gen.facts Cert.ProjFRefIdeal.Gen.facts Cert.DwQ.Gen.facts Cert.DwQIdeal.Gen.facts Cert.DwQRefIdeal.Gen.facts Cert.DwK.Gen.facts Cert.DwKIdeal.Gen.facts Cert.DwKRefIdeal.Gen.facts Cert.DwV.Gen.facts Cert.DwVIdeal.Gen.facts Cert.DwVRefIdeal.Gen.facts Cert.Prenorm.Gen.facts Cert.PrenormIdeal.Gen.facts Cert.PrenormRefIdeal.Gen.facts Cert.MlaPrep.Gen.facts Cert.MlaPrepIdeal.Gen.facts Cert.MlaPrepRefIdeal.Gen.facts Cert.OutPost.Gen.facts Cert.OutPostIdeal.Gen.facts Cert.OutPostRefIdeal.Gen.facts Cert.AdamOut.Gen.facts Cert.AdamOutIdeal.Gen.facts Cert.AdamOutRefIdeal.Gen.facts Cert.AdamIn.Gen.facts Cert.AdamInIdeal.Gen.facts Cert.AdamInRefIdeal.Gen.facts Cert.AdamQ.Gen.facts Cert.AdamQIdeal.Gen.facts Cert.AdamQRefIdeal.Gen.facts Cert.AdamKv.Gen.facts Cert.AdamKvIdeal.Gen.facts Cert.AdamKvRefIdeal.Gen.facts Cert.Pre_finite.Gen.facts Cert.Pre_finite_fwd.Gen.facts

/-- The kernel's run over the extended reals leaves its arguments as they were and every counter at zero. -/
theorem frame_pi : Cert.quiescent_KernelIdeal := fun m g _ => Cert.KernelIdeal.Gen.frame (F := Ideal) m g

/-- The reference leaves its arguments as they were, and has no semaphores. -/
theorem frame_ri : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run (F := Ideal) m g)

/-- The kernel's results are the reference's: each run ends with its composed arrays, and those are equal. -/
theorem algebraic : Cert.algebraic_KernelIdeal_ReferenceIdeal_pre_finite := by
  intro m g m' g' hpre hagree
  refine ⟨fun c => Cert.KernelIdeal.Value.G7 m c, fun c => Cert.KernelIdeal.Value.G8 m c, fun c => Cert.KernelIdeal.Value.G9 m c,
    fun c => Cert.KernelIdeal.Value.G10 m c, Cert.KernelIdeal.Value.run m g, ?_⟩
  refine (θ_run Cert.ReferenceIdeal.defs _ _).mono (fun r h c => ?_) (Cert.ReferenceIdeal.Value.run (F := Ideal) m' g')
  obtain ⟨e0, e1, e2, e3, e4⟩ := hagree c
  obtain ⟨r0, r1, r2, r3⟩ := Cert.Final.results m c hpre
  obtain ⟨h0, h1, h2, h3, h4⟩ := h c
  refine ⟨h0.trans ?_, h1.trans ?_, h2.trans ?_, h3.trans ?_, h4⟩
  · rw [Cert.ReferenceIdeal.Read.val_main_v76_eq, e0, e1, e2, e3, e4]; exact r0.symm
  · rw [Cert.ReferenceIdeal.Read.val_main_v79_eq, e0, e1, e2, e3, e4]; exact r1.symm
  · rw [Cert.ReferenceIdeal.Read.val_main_v82_eq, e0, e1, e3, e4]; exact r2.symm
  · rw [Cert.ReferenceIdeal.Read.val_main_v83_eq, e0, e1, e2, e3, e4]; exact r3.symm

/-- The reference of the attention's forward pass leaves its arguments as they were, and has no semaphores. -/
theorem frame_MlaFwd : Cert.quiescent_MlaFwdRefIdeal := fun m g _ =>
  (θ_run Cert.MlaFwdRefIdeal.defs _ _).mono (fun r h => ⟨fun c => (h c).2.2, sem_eq_zero_of_no_sems (by decide) r.2⟩)
    (Cert.MlaFwdRefIdeal.Value.run (F := Ideal) m g)

/-- The large negative number that hides a score stands for negative infinity. -/
theorem preserves_MlaFwd : Cert.preserves_MlaFwd_MlaFwdIdeal :=
  IdealRules.named_const.statement Cert.MlaFwdIdeal.κ "mask" .f32 0xF149F2CA#32 ⊥ rfl

/-- The forward pass's output and logarithms are the reference's. -/
theorem algebraic_MlaFwd : Cert.algebraic_MlaFwdIdeal_MlaFwdRefIdeal_pre_finite_fwd := by
  intro m g m' g' hpre hagree
  refine ⟨fun c => Cert.FwdFinal.out m c, fun c => Cert.FwdFinal.lse m c, Cert.FwdFinal.run m g hpre, ?_⟩
  refine (θ_run Cert.MlaFwdRefIdeal.defs _ _).mono (fun r h c => ?_) (Cert.MlaFwdRefIdeal.Value.run (F := Ideal) m' g')
  obtain ⟨e0, e1, e2⟩ := hagree c
  obtain ⟨h0, h1, h2⟩ := h c
  refine ⟨h0.trans ?_, h1.trans ?_, h2⟩
  · rw [Cert.MlaFwdRefIdeal.Read.val_main_v28_eq, e0, e1, e2]; rfl
  · rw [Cert.MlaFwdRefIdeal.Read.val_main_v31_eq, e0, e1]; rfl

/-- The reference of the gradient of the input weight leaves its arguments as they were, and has no semaphores. -/
theorem frame_DwIn : Cert.quiescent_DwInRefIdeal := fun m g _ =>
  (θ_run Cert.DwInRefIdeal.defs _ _).mono (fun r h => ⟨fun c => (h c).2, sem_eq_zero_of_no_sems (by decide) r.2⟩)
    (Cert.DwInRefIdeal.Value.run (F := Ideal) m g)

/-- The gradient of the input weight is the reference's. -/
theorem algebraic_DwIn : Cert.algebraic_DwInIdeal_DwInRefIdeal := by
  intro m g m' g' _ hagree
  refine ⟨fun c => Cert.DwInValue.R m c, Cert.DwInValue.run m g, ?_⟩
  refine (θ_run Cert.DwInRefIdeal.defs _ _).mono (fun r h c => ?_) (Cert.DwInRefIdeal.Value.run (F := Ideal) m' g')
  obtain ⟨e0, e1⟩ := hagree c
  obtain ⟨h0, h1⟩ := h c
  refine ⟨h0.trans ?_, h1⟩
  rw [Cert.DwInRefIdeal.Read.val_main_v14_eq, e0, e1]
  exact Cert.DwInValue.reference _ _

/-- The reference of the gradient of the output weight leaves its arguments as they were, and has no semaphores. -/
theorem frame_DwOut : Cert.quiescent_DwOutRefIdeal := fun m g _ =>
  (θ_run Cert.DwOutRefIdeal.defs _ _).mono (fun r h => ⟨fun c => (h c).2, sem_eq_zero_of_no_sems (by decide) r.2⟩)
    (Cert.DwOutRefIdeal.Value.run (F := Ideal) m g)

/-- The gradient of the output weight is the reference's. -/
theorem algebraic_DwOut : Cert.algebraic_DwOutIdeal_DwOutRefIdeal := by
  intro m g m' g' _ hagree
  refine ⟨fun c => Cert.DwOutValue.R m c, Cert.DwOutValue.run m g, ?_⟩
  refine (θ_run Cert.DwOutRefIdeal.defs _ _).mono (fun r h c => ?_) (Cert.DwOutRefIdeal.Value.run (F := Ideal) m' g')
  obtain ⟨e0, e1⟩ := hagree c
  obtain ⟨h0, h1⟩ := h c
  refine ⟨h0.trans ?_, h1⟩
  rw [Cert.DwOutRefIdeal.Read.val_main_v5_eq, e0, e1]
  exact Cert.DwOutValue.reference _ _

/-- The reference of the gradient of the mixed heads leaves its arguments as they were, and has no semaphores. -/
theorem frame_DMixed : Cert.quiescent_DMixedRefIdeal := fun m g _ =>
  (θ_run Cert.DMixedRefIdeal.defs _ _).mono (fun r h => ⟨fun c => (h c).2, sem_eq_zero_of_no_sems (by decide) r.2⟩)
    (Cert.DMixedRefIdeal.Value.run (F := Ideal) m g)

/-- The gradient of the mixed heads is the reference's. -/
theorem algebraic_DMixed : Cert.algebraic_DMixedIdeal_DMixedRefIdeal := by
  intro m g m' g' _ hagree
  refine ⟨fun c => Cert.DMixedValue.R m c, Cert.DMixedValue.run m g, ?_⟩
  refine (θ_run Cert.DMixedRefIdeal.defs _ _).mono (fun r h c => ?_) (Cert.DMixedRefIdeal.Value.run (F := Ideal) m' g')
  obtain ⟨e0, e1⟩ := hagree c
  obtain ⟨h0, h1⟩ := h c
  refine ⟨h0.trans ?_, h1⟩
  rw [Cert.DMixedRefIdeal.Read.val_main_v4_eq, e0, e1]
  exact Cert.DMixedValue.reference _ _

/-- The reference of the first columns of the projection leaves its arguments as they were, and has no semaphores. -/
theorem frame_ProjB : Cert.quiescent_ProjBRefIdeal := fun m g _ =>
  (θ_run Cert.ProjBRefIdeal.defs _ _).mono (fun r h => ⟨fun c => (h c).2, sem_eq_zero_of_no_sems (by decide) r.2⟩)
    (Cert.ProjBRefIdeal.Value.run (F := Ideal) m g)

/-- The first columns of the projection is the reference's. -/
theorem algebraic_ProjB : Cert.algebraic_ProjBIdeal_ProjBRefIdeal := by
  intro m g m' g' _ hagree
  refine ⟨fun c => Cert.ProjBValue.R m c, Cert.ProjBValue.run m g, ?_⟩
  refine (θ_run Cert.ProjBRefIdeal.defs _ _).mono (fun r h c => ?_) (Cert.ProjBRefIdeal.Value.run (F := Ideal) m' g')
  obtain ⟨e0, e1⟩ := hagree c
  obtain ⟨h0, h1⟩ := h c
  refine ⟨h0.trans ?_, h1⟩
  rw [Cert.ProjBRefIdeal.Read.val_main_v4_eq, e0, e1]
  exact Cert.ProjBValue.reference _ _

/-- The reference of the later columns of the projection leaves its arguments as they were, and has no semaphores. -/
theorem frame_ProjF : Cert.quiescent_ProjFRefIdeal := fun m g _ =>
  (θ_run Cert.ProjFRefIdeal.defs _ _).mono (fun r h => ⟨fun c => (h c).2, sem_eq_zero_of_no_sems (by decide) r.2⟩)
    (Cert.ProjFRefIdeal.Value.run (F := Ideal) m g)

/-- The later columns of the projection is the reference's. -/
theorem algebraic_ProjF : Cert.algebraic_ProjFIdeal_ProjFRefIdeal := by
  intro m g m' g' _ hagree
  refine ⟨fun c => Cert.ProjFValue.R m c, Cert.ProjFValue.run m g, ?_⟩
  refine (θ_run Cert.ProjFRefIdeal.defs _ _).mono (fun r h c => ?_) (Cert.ProjFRefIdeal.Value.run (F := Ideal) m' g')
  obtain ⟨e0, e1⟩ := hagree c
  obtain ⟨h0, h1⟩ := h c
  refine ⟨h0.trans ?_, h1⟩
  rw [Cert.ProjFRefIdeal.Read.val_main_v3_eq, e0, e1]
  exact Cert.ProjFValue.reference _ _

/-- The reference of the gradient of the queries' up-projection leaves its arguments as they were, and has no semaphores. -/
theorem frame_DwQ : Cert.quiescent_DwQRefIdeal := fun m g _ =>
  (θ_run Cert.DwQRefIdeal.defs _ _).mono (fun r h => ⟨fun c => (h c).2, sem_eq_zero_of_no_sems (by decide) r.2⟩)
    (Cert.DwQRefIdeal.Value.run (F := Ideal) m g)

/-- The gradient of the queries' up-projection is the reference's. -/
theorem algebraic_DwQ : Cert.algebraic_DwQIdeal_DwQRefIdeal := by
  intro m g m' g' _ hagree
  refine ⟨fun c => Cert.DwQValue.R m c, Cert.DwQValue.run m g, ?_⟩
  refine (θ_run Cert.DwQRefIdeal.defs _ _).mono (fun r h c => ?_) (Cert.DwQRefIdeal.Value.run (F := Ideal) m' g')
  obtain ⟨e0, e1⟩ := hagree c
  obtain ⟨h0, h1⟩ := h c
  refine ⟨h0.trans ?_, h1⟩
  rw [Cert.DwQRefIdeal.Read.val_main_v5_eq, e0, e1]
  exact Cert.DwQValue.reference _ _

/-- The reference of the gradient of the keys' up-projection leaves its arguments as they were, and has no semaphores. -/
theorem frame_DwK : Cert.quiescent_DwKRefIdeal := fun m g _ =>
  (θ_run Cert.DwKRefIdeal.defs _ _).mono (fun r h => ⟨fun c => (h c).2, sem_eq_zero_of_no_sems (by decide) r.2⟩)
    (Cert.DwKRefIdeal.Value.run (F := Ideal) m g)

/-- The gradient of the keys' up-projection is the reference's. -/
theorem algebraic_DwK : Cert.algebraic_DwKIdeal_DwKRefIdeal := by
  intro m g m' g' _ hagree
  refine ⟨fun c => Cert.DwKValue.R m c, Cert.DwKValue.run m g, ?_⟩
  refine (θ_run Cert.DwKRefIdeal.defs _ _).mono (fun r h c => ?_) (Cert.DwKRefIdeal.Value.run (F := Ideal) m' g')
  obtain ⟨e0, e1⟩ := hagree c
  obtain ⟨h0, h1⟩ := h c
  refine ⟨h0.trans ?_, h1⟩
  rw [Cert.DwKRefIdeal.Read.val_main_v5_eq, e0, e1]
  exact Cert.DwKValue.reference _ _

/-- The reference of the gradient of the values' up-projection leaves its arguments as they were, and has no semaphores. -/
theorem frame_DwV : Cert.quiescent_DwVRefIdeal := fun m g _ =>
  (θ_run Cert.DwVRefIdeal.defs _ _).mono (fun r h => ⟨fun c => (h c).2, sem_eq_zero_of_no_sems (by decide) r.2⟩)
    (Cert.DwVRefIdeal.Value.run (F := Ideal) m g)

/-- The gradient of the values' up-projection is the reference's. -/
theorem algebraic_DwV : Cert.algebraic_DwVIdeal_DwVRefIdeal := by
  intro m g m' g' _ hagree
  refine ⟨fun c => Cert.DwVValue.R m c, Cert.DwVValue.run m g, ?_⟩
  refine (θ_run Cert.DwVRefIdeal.defs _ _).mono (fun r h c => ?_) (Cert.DwVRefIdeal.Value.run (F := Ideal) m' g')
  obtain ⟨e0, e1⟩ := hagree c
  obtain ⟨h0, h1⟩ := h c
  refine ⟨h0.trans ?_, h1⟩
  rw [Cert.DwVRefIdeal.Read.val_main_v5_eq, e0, e1]
  exact Cert.DwVValue.reference _ _

/-- The reference of the norm before the input projection leaves its arguments as they were, and has no semaphores. -/
theorem frame_Prenorm : Cert.quiescent_PrenormRefIdeal := fun m g _ =>
  (θ_run Cert.PrenormRefIdeal.defs _ _).mono (fun r h => ⟨fun c => (h c).2, sem_eq_zero_of_no_sems (by decide) r.2⟩)
    (Cert.PrenormRefIdeal.Value.run (F := Ideal) m g)

/-- The normed rows are the reference's. -/
theorem algebraic_Prenorm : Cert.algebraic_PrenormIdeal_PrenormRefIdeal := by
  intro m g m' g' _ hagree
  refine ⟨fun c => Cert.PrenormValue.R m c, Cert.PrenormValue.run m g, ?_⟩
  refine (θ_run Cert.PrenormRefIdeal.defs _ _).mono (fun r h c => ?_) (Cert.PrenormRefIdeal.Value.run (F := Ideal) m' g')
  obtain ⟨e0, e1⟩ := hagree c
  obtain ⟨h0, h1⟩ := h c
  refine ⟨h0.trans ?_, h1⟩
  rw [Cert.PrenormRefIdeal.Read.val_main_v12_eq, e0, e1]
  exact Cert.PrenormValue.reference _ _

/-- The reference of the latents' norms, up-projections and rotary step leaves its arguments as they were, and has no semaphores. -/
theorem frame_MlaPrep : Cert.quiescent_MlaPrepRefIdeal := fun m g _ =>
  (θ_run Cert.MlaPrepRefIdeal.defs _ _).mono (fun r h => ⟨fun c => (h c).2.2.2.2.2, sem_eq_zero_of_no_sems (by decide) r.2⟩)
    (Cert.MlaPrepRefIdeal.Value.run (F := Ideal) m g)

/-- The five results of the latents' norms, up-projections and rotary step are the reference's. -/
theorem algebraic_MlaPrep : Cert.algebraic_MlaPrepIdeal_MlaPrepRefIdeal := by
  intro m g m' g' _ hagree
  refine ⟨fun c => Cert.MlaPrepValue.R11 m c, fun c => Cert.MlaPrepValue.R12 m c, fun c => Cert.MlaPrepValue.R13 m c, fun c => Cert.MlaPrepValue.R14 m c,
    fun c => Cert.MlaPrepValue.R15 m c, Cert.MlaPrepValue.run m g, ?_⟩
  refine (θ_run Cert.MlaPrepRefIdeal.defs _ _).mono (fun r h c => ?_) (Cert.MlaPrepRefIdeal.Value.run (F := Ideal) m' g')
  obtain ⟨e0, e1, e2, e3, e4, e5, e6, e7⟩ := hagree c
  obtain ⟨h0, h1, h2, h3, h4, h5⟩ := h c
  refine ⟨h0.trans ?_, h1.trans ?_, h2.trans ?_, h3.trans ?_, h4.trans ?_, h5⟩
  · rw [Cert.MlaPrepRefIdeal.Read.val_main_v68_eq, e0, e1]
    exact Cert.MlaPrepValue.reference11 _ _
  · rw [Cert.MlaPrepRefIdeal.Read.val_main_v69_eq, e0, e2]
    exact Cert.MlaPrepValue.reference12 _ _
  · rw [Cert.MlaPrepRefIdeal.Read.val_main_v70_eq, e0, e1, e3, e6, e7]
    exact Cert.MlaPrepValue.reference13 _ _ _ _ _
  · rw [Cert.MlaPrepRefIdeal.Read.val_main_v71_eq, e0, e2, e4, e6, e7]
    exact Cert.MlaPrepValue.reference14 _ _ _ _ _
  · rw [Cert.MlaPrepRefIdeal.Read.val_main_v72_eq, e0, e2, e5]
    exact Cert.MlaPrepValue.reference15 _ _ _

/-- The reference of the optimizer's step on the output weight leaves its arguments as they were, and has no semaphores. -/
theorem frame_AdamOut : Cert.quiescent_AdamOutRefIdeal := fun m g _ =>
  (θ_run Cert.AdamOutRefIdeal.defs _ _).mono (fun r h => ⟨fun c => (h c).2.2.2, sem_eq_zero_of_no_sems (by decide) r.2⟩)
    (Cert.AdamOutRefIdeal.Value.run (F := Ideal) m g)

/-- The step and the two moments of the output weight are the reference's. -/
theorem algebraic_AdamOut : Cert.algebraic_AdamOutIdeal_AdamOutRefIdeal := by
  intro m g m' g' _ hagree
  refine ⟨fun c => Cert.AdamOutValue.R5 m c, fun c => Cert.AdamOutValue.R6 m c, fun c => Cert.AdamOutValue.R7 m c, Cert.AdamOutValue.run m g, ?_⟩
  refine (θ_run Cert.AdamOutRefIdeal.defs _ _).mono (fun r h c => ?_) (Cert.AdamOutRefIdeal.Value.run (F := Ideal) m' g')
  obtain ⟨e0, e1, e2, e3⟩ := hagree c
  obtain ⟨h0, h1, h2, h3⟩ := h c
  refine ⟨h0.trans ?_, h1.trans ?_, h2.trans ?_, h3⟩
  · rw [Cert.AdamOutRefIdeal.Read.val_main_v23_eq, e0, e1, e2, e3]
    exact Cert.AdamOutValue.reference5 _ _ _ _
  · rw [Cert.AdamOutRefIdeal.Read.val_main_v4_eq, e0, e2]
    exact Cert.AdamOutValue.reference6 _ _
  · rw [Cert.AdamOutRefIdeal.Read.val_main_v10_eq, e0, e3]
    exact Cert.AdamOutValue.reference7 _ _

/-- The reference of the optimizer's step on the input weight leaves its arguments as they were, and has no semaphores. -/
theorem frame_AdamIn : Cert.quiescent_AdamInRefIdeal := fun m g _ =>
  (θ_run Cert.AdamInRefIdeal.defs _ _).mono (fun r h => ⟨fun c => (h c).2.2.2, sem_eq_zero_of_no_sems (by decide) r.2⟩)
    (Cert.AdamInRefIdeal.Value.run (F := Ideal) m g)

/-- The step and the two moments of the input weight are the reference's. -/
theorem algebraic_AdamIn : Cert.algebraic_AdamInIdeal_AdamInRefIdeal := by
  intro m g m' g' _ hagree
  refine ⟨fun c => Cert.AdamInValue.R5 m c, fun c => Cert.AdamInValue.R6 m c, fun c => Cert.AdamInValue.R7 m c, Cert.AdamInValue.run m g, ?_⟩
  refine (θ_run Cert.AdamInRefIdeal.defs _ _).mono (fun r h c => ?_) (Cert.AdamInRefIdeal.Value.run (F := Ideal) m' g')
  obtain ⟨e0, e1, e2, e3⟩ := hagree c
  obtain ⟨h0, h1, h2, h3⟩ := h c
  refine ⟨h0.trans ?_, h1.trans ?_, h2.trans ?_, h3⟩
  · rw [Cert.AdamInRefIdeal.Read.val_main_v23_eq, e0, e1, e2, e3]
    exact Cert.AdamInValue.reference5 _ _ _ _
  · rw [Cert.AdamInRefIdeal.Read.val_main_v4_eq, e0, e2]
    exact Cert.AdamInValue.reference6 _ _
  · rw [Cert.AdamInRefIdeal.Read.val_main_v10_eq, e0, e3]
    exact Cert.AdamInValue.reference7 _ _

/-- The reference of the optimizer's step on the queries' weight leaves its arguments as they were, and has no semaphores. -/
theorem frame_AdamQ : Cert.quiescent_AdamQRefIdeal := fun m g _ =>
  (θ_run Cert.AdamQRefIdeal.defs _ _).mono (fun r h => ⟨fun c => (h c).2.2.2, sem_eq_zero_of_no_sems (by decide) r.2⟩)
    (Cert.AdamQRefIdeal.Value.run (F := Ideal) m g)

/-- The step and the two moments of the queries' weight are the reference's. -/
theorem algebraic_AdamQ : Cert.algebraic_AdamQIdeal_AdamQRefIdeal := by
  intro m g m' g' _ hagree
  refine ⟨fun c => Cert.AdamQValue.R5 m c, fun c => Cert.AdamQValue.R6 m c, fun c => Cert.AdamQValue.R7 m c, Cert.AdamQValue.run m g, ?_⟩
  refine (θ_run Cert.AdamQRefIdeal.defs _ _).mono (fun r h c => ?_) (Cert.AdamQRefIdeal.Value.run (F := Ideal) m' g')
  obtain ⟨e0, e1, e2, e3⟩ := hagree c
  obtain ⟨h0, h1, h2, h3⟩ := h c
  refine ⟨h0.trans ?_, h1.trans ?_, h2.trans ?_, h3⟩
  · rw [Cert.AdamQRefIdeal.Read.val_main_v23_eq, e0, e1, e2, e3]
    exact Cert.AdamQValue.reference5 _ _ _ _
  · rw [Cert.AdamQRefIdeal.Read.val_main_v4_eq, e0, e2]
    exact Cert.AdamQValue.reference6 _ _
  · rw [Cert.AdamQRefIdeal.Read.val_main_v10_eq, e0, e3]
    exact Cert.AdamQValue.reference7 _ _

/-- The reference of the optimizer's step on the keys' and values' weight leaves its arguments as they were, and has no semaphores. -/
theorem frame_AdamKv : Cert.quiescent_AdamKvRefIdeal := fun m g _ =>
  (θ_run Cert.AdamKvRefIdeal.defs _ _).mono (fun r h => ⟨fun c => (h c).2.2.2, sem_eq_zero_of_no_sems (by decide) r.2⟩)
    (Cert.AdamKvRefIdeal.Value.run (F := Ideal) m g)

/-- The step and the two moments of the keys' and values' weight are the reference's. -/
theorem algebraic_AdamKv : Cert.algebraic_AdamKvIdeal_AdamKvRefIdeal := by
  intro m g m' g' _ hagree
  refine ⟨fun c => Cert.AdamKvValue.R5 m c, fun c => Cert.AdamKvValue.R6 m c, fun c => Cert.AdamKvValue.R7 m c, Cert.AdamKvValue.run m g, ?_⟩
  refine (θ_run Cert.AdamKvRefIdeal.defs _ _).mono (fun r h c => ?_) (Cert.AdamKvRefIdeal.Value.run (F := Ideal) m' g')
  obtain ⟨e0, e1, e2, e3⟩ := hagree c
  obtain ⟨h0, h1, h2, h3⟩ := h c
  refine ⟨h0.trans ?_, h1.trans ?_, h2.trans ?_, h3⟩
  · rw [Cert.AdamKvRefIdeal.Read.val_main_v23_eq, e0, e1, e2, e3]
    exact Cert.AdamKvValue.reference5 _ _ _ _
  · rw [Cert.AdamKvRefIdeal.Read.val_main_v4_eq, e0, e2]
    exact Cert.AdamKvValue.reference6 _ _
  · rw [Cert.AdamKvRefIdeal.Read.val_main_v10_eq, e0, e3]
    exact Cert.AdamKvValue.reference7 _ _

/-- The reference of the output product, its norm and the residual leaves its arguments as they were, and has no semaphores. -/
theorem frame_OutPost : Cert.quiescent_OutPostRefIdeal := fun m g _ =>
  (θ_run Cert.OutPostRefIdeal.defs _ _).mono (fun r h => ⟨fun c => (h c).2.2.2.2, sem_eq_zero_of_no_sems (by decide) r.2⟩)
    (Cert.OutPostRefIdeal.Value.run (F := Ideal) m g)

/-- The gated heads, the gradient of the layer's output, the squared errors' sums and the norm weight's gradient are the reference's. -/
theorem algebraic_OutPost : Cert.algebraic_OutPostIdeal_OutPostRefIdeal := by
  intro m g m' g' _ hagree
  refine ⟨fun c => Cert.OutPostValue.R8 m c, fun c => Cert.OutPostValue.R10 m c, fun c => Cert.OutPostValue.R11 m c, fun c => Cert.OutPostValue.R12 m c,
    Cert.OutPostValue.run m g, ?_⟩
  refine (θ_run Cert.OutPostRefIdeal.defs _ _).mono (fun r h c => ?_) (Cert.OutPostRefIdeal.Value.run (F := Ideal) m' g')
  obtain ⟨e0, e1, e2, e3, e4, e5, e6⟩ := hagree c
  obtain ⟨h0, h1, h2, h3, h4⟩ := h c
  refine ⟨h0.trans ?_, h1.trans ?_, h2.trans ?_, h3.trans ?_, h4⟩
  · rw [Cert.OutPostRefIdeal.Read.val_main_v25_eq, e0, e1, e2]
    exact Cert.OutPostValue.reference8 _ _ _
  · rw [Cert.OutPostRefIdeal.Read.val_main_v24_eq, e0, e1, e2, e3, e4, e5, e6]
    exact Cert.OutPostValue.reference10 _ _ _ _ _ _ _
  · rw [Cert.OutPostRefIdeal.Read.val_main_v28_eq, e0, e1, e2, e3, e4, e5, e6]
    exact Cert.OutPostValue.reference11 _ _ _ _ _ _ _
  · rw [Cert.OutPostRefIdeal.Read.val_main_v31_eq, e0, e1, e2, e3, e4, e5, e6]
    exact Cert.OutPostValue.reference12 _ _ _ _ _ _ _

theorem claim : Cert.Claim :=
  ⟨Cert.Kernel.Gen.facts,
    Cert.KernelIdeal.Gen.facts,
    Cert.ReferenceIdeal.Gen.facts,
    Cert.MlaFwd.Gen.facts,
    Cert.MlaFwdIdeal.Gen.facts,
    Cert.MlaFwdRefIdeal.Gen.facts,
    Cert.DwIn.Gen.facts,
    Cert.DwInIdeal.Gen.facts,
    Cert.DwInRefIdeal.Gen.facts,
    Cert.DwOut.Gen.facts,
    Cert.DwOutIdeal.Gen.facts,
    Cert.DwOutRefIdeal.Gen.facts,
    Cert.DMixed.Gen.facts,
    Cert.DMixedIdeal.Gen.facts,
    Cert.DMixedRefIdeal.Gen.facts,
    Cert.ProjB.Gen.facts,
    Cert.ProjBIdeal.Gen.facts,
    Cert.ProjBRefIdeal.Gen.facts,
    Cert.ProjF.Gen.facts,
    Cert.ProjFIdeal.Gen.facts,
    Cert.ProjFRefIdeal.Gen.facts,
    Cert.DwQ.Gen.facts,
    Cert.DwQIdeal.Gen.facts,
    Cert.DwQRefIdeal.Gen.facts,
    Cert.DwK.Gen.facts,
    Cert.DwKIdeal.Gen.facts,
    Cert.DwKRefIdeal.Gen.facts,
    Cert.DwV.Gen.facts,
    Cert.DwVIdeal.Gen.facts,
    Cert.DwVRefIdeal.Gen.facts,
    Cert.Prenorm.Gen.facts,
    Cert.PrenormIdeal.Gen.facts,
    Cert.PrenormRefIdeal.Gen.facts,
    Cert.MlaPrep.Gen.facts,
    Cert.MlaPrepIdeal.Gen.facts,
    Cert.MlaPrepRefIdeal.Gen.facts,
    Cert.OutPost.Gen.facts,
    Cert.OutPostIdeal.Gen.facts,
    Cert.OutPostRefIdeal.Gen.facts,
    Cert.AdamOut.Gen.facts,
    Cert.AdamOutIdeal.Gen.facts,
    Cert.AdamOutRefIdeal.Gen.facts,
    Cert.AdamIn.Gen.facts,
    Cert.AdamInIdeal.Gen.facts,
    Cert.AdamInRefIdeal.Gen.facts,
    Cert.AdamQ.Gen.facts,
    Cert.AdamQIdeal.Gen.facts,
    Cert.AdamQRefIdeal.Gen.facts,
    Cert.AdamKv.Gen.facts,
    Cert.AdamKvIdeal.Gen.facts,
    Cert.AdamKvRefIdeal.Gen.facts,
    Cert.Pre_finite.Gen.facts,
    Cert.Pre_finite_fwd.Gen.facts,
    Cert.Same.frame_p, frame_pi, fun m g _ => frame_pi m g trivial, frame_ri, fun m g _ => frame_ri m g trivial,
    fun m g _ => Cert.MlaFwd.Gen.frame (F := Bits) m g, fun m g _ => Cert.MlaFwdIdeal.Gen.frame (F := Ideal) m g,
    fun m g _ => Cert.MlaFwdIdeal.Gen.frame (F := Ideal) m g, frame_MlaFwd, fun m g _ => frame_MlaFwd m g trivial,
    fun m g _ => Cert.DwIn.Gen.frame (F := Bits) m g, fun m g _ => Cert.DwInIdeal.Gen.frame (F := Ideal) m g, frame_DwIn,
    fun m g _ => Cert.DwOut.Gen.frame (F := Bits) m g, fun m g _ => Cert.DwOutIdeal.Gen.frame (F := Ideal) m g, frame_DwOut,
    fun m g _ => Cert.DMixed.Gen.frame (F := Bits) m g, fun m g _ => Cert.DMixedIdeal.Gen.frame (F := Ideal) m g, frame_DMixed,
    fun m g _ => Cert.ProjB.Gen.frame (F := Bits) m g, fun m g _ => Cert.ProjBIdeal.Gen.frame (F := Ideal) m g, frame_ProjB,
    fun m g _ => Cert.ProjF.Gen.frame (F := Bits) m g, fun m g _ => Cert.ProjFIdeal.Gen.frame (F := Ideal) m g, frame_ProjF,
    fun m g _ => Cert.DwQ.Gen.frame (F := Bits) m g, fun m g _ => Cert.DwQIdeal.Gen.frame (F := Ideal) m g, frame_DwQ,
    fun m g _ => Cert.DwK.Gen.frame (F := Bits) m g, fun m g _ => Cert.DwKIdeal.Gen.frame (F := Ideal) m g, frame_DwK,
    fun m g _ => Cert.DwV.Gen.frame (F := Bits) m g, fun m g _ => Cert.DwVIdeal.Gen.frame (F := Ideal) m g, frame_DwV,
    fun m g _ => Cert.Prenorm.Gen.frame (F := Bits) m g, fun m g _ => Cert.PrenormIdeal.Gen.frame (F := Ideal) m g, frame_Prenorm,
    fun m g _ => Cert.MlaPrep.Gen.frame (F := Bits) m g, fun m g _ => Cert.MlaPrepIdeal.Gen.frame (F := Ideal) m g, frame_MlaPrep,
    fun m g _ => Cert.OutPost.Gen.frame (F := Bits) m g, fun m g _ => Cert.OutPostIdeal.Gen.frame (F := Ideal) m g, frame_OutPost,
    fun m g _ => Cert.AdamOut.Gen.frame (F := Bits) m g, fun m g _ => Cert.AdamOutIdeal.Gen.frame (F := Ideal) m g, frame_AdamOut,
    fun m g _ => Cert.AdamIn.Gen.frame (F := Bits) m g, fun m g _ => Cert.AdamInIdeal.Gen.frame (F := Ideal) m g, frame_AdamIn,
    fun m g _ => Cert.AdamQ.Gen.frame (F := Bits) m g, fun m g _ => Cert.AdamQIdeal.Gen.frame (F := Ideal) m g, frame_AdamQ,
    fun m g _ => Cert.AdamKv.Gen.frame (F := Bits) m g, fun m g _ => Cert.AdamKvIdeal.Gen.frame (F := Ideal) m g, frame_AdamKv,
    trivial, algebraic, preserves_MlaFwd, algebraic_MlaFwd, trivial, algebraic_DwIn, trivial, algebraic_DwOut, trivial, algebraic_DMixed, trivial, algebraic_ProjB, trivial, algebraic_ProjF,
    trivial, algebraic_DwQ, trivial, algebraic_DwK, trivial, algebraic_DwV, trivial, algebraic_Prenorm, trivial, algebraic_MlaPrep, trivial, algebraic_OutPost, trivial, algebraic_AdamOut, trivial, algebraic_AdamIn, trivial, algebraic_AdamQ, trivial, algebraic_AdamKv⟩

end Cert.Proof

end
